-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_conv [hPre_finite_conv : Cert.Pre_finite_conv.Facts] (m : (ℓ : Loc Cert.ConvIdeal.nD Cert.ConvIdeal.τ Cert.ConvIdeal.sig) → Buf (Elt Ideal) ℓ) : Prop :=
  ∀ c : Dev Cert.ConvIdeal.nD,
    (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite_ssd [hPre_finite_ssd : Cert.Pre_finite_ssd.Facts] (m : (ℓ : Loc Cert.SsdIdeal.nD Cert.SsdIdeal.τ Cert.SsdIdeal.sig) → Buf (Elt Ideal) ℓ) : Prop :=
  ∀ c : Dev Cert.SsdIdeal.nD,
    (Cert.Pre_finite_ssd.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite_ssd [hPre_finite_ssd : Cert.Pre_finite_ssd.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite_ssd.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvIdeal_pre_finite_conv [hConvIdeal : Cert.ConvIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_conv m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdIdeal_pre_finite_ssd [hSsdIdeal : Cert.SsdIdeal.Facts] [hPre_finite_ssd : Cert.Pre_finite_ssd.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite_ssd m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_SsdRefIdeal_pre_finite_ssd [hSsdRefIdeal : Cert.SsdRefIdeal.Facts] [hPre_finite_ssd : Cert.Pre_finite_ssd.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite_ssd m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_v19) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Conv_ConvIdeal : Prop :=
  True

def algebraic_ConvIdeal_ConvRefIdeal_pre_finite_conv [hConvIdeal : Cert.ConvIdeal.Facts] [hConvRefIdeal : Cert.ConvRefIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite_conv m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v41)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v41) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v38) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Attn_AttnIdeal : Prop :=
  IdealRules.named_const.Statement Cert.AttnIdeal.κ "score_scale" .f32 0x3E38AA3B#32 (((Real.log 2)⁻¹ * (1 / 8) : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v44)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v44) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v155) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Ssd_SsdIdeal : Prop :=
  IdealRules.named_const.Statement Cert.SsdIdeal.κ "minus_log2e" .f32 0xBFB8AA3B#32 (((Real.log 2)⁻¹ * (-1) : ℝ) : EReal)
  ∧ IdealRules.named_const.Statement Cert.SsdIdeal.κ "log2e" .f32 0x3FB8AA3B#32 (((Real.log 2)⁻¹ : ℝ) : EReal)

def algebraic_SsdIdeal_SsdRefIdeal_pre_finite_ssd [hSsdIdeal : Cert.SsdIdeal.Facts] [hSsdRefIdeal : Cert.SsdRefIdeal.Facts] [hPre_finite_ssd : Cert.Pre_finite_ssd.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_finite_ssd m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)) →
    ∃ (v0 : (c : Dev Cert.SsdIdeal.nD) → Buf (Elt Ideal) ((c.tc : Thread Cert.SsdIdeal.nD Cert.SsdIdeal.τ).loc Cert.SsdIdeal.main_v20)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v20) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v112) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hSsd : Cert.Ssd.Facts) (hSsdIdeal : Cert.SsdIdeal.Facts) (hSsdRefIdeal : Cert.SsdRefIdeal.Facts) (hPre_finite_conv : Cert.Pre_finite_conv.Facts) (hPre_finite_attn : Cert.Pre_finite_attn.Facts) (hPre_finite_ssd : Cert.Pre_finite_ssd.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Conv (hConv := hConv)
    ∧ quiescent_ConvIdeal (hConvIdeal := hConvIdeal)
    ∧ quiescent_ConvIdeal_pre_finite_conv (hConvIdeal := hConvIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Ssd (hSsd := hSsd)
    ∧ quiescent_SsdIdeal (hSsdIdeal := hSsdIdeal)
    ∧ quiescent_SsdIdeal_pre_finite_ssd (hSsdIdeal := hSsdIdeal) (hPre_finite_ssd := hPre_finite_ssd)
    ∧ quiescent_SsdRefIdeal (hSsdRefIdeal := hSsdRefIdeal)
    ∧ quiescent_SsdRefIdeal_pre_finite_ssd (hSsdRefIdeal := hSsdRefIdeal) (hPre_finite_ssd := hPre_finite_ssd)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Conv_ConvIdeal
    ∧ algebraic_ConvIdeal_ConvRefIdeal_pre_finite_conv (hConvIdeal := hConvIdeal) (hConvRefIdeal := hConvRefIdeal) (hPre_finite_conv := hPre_finite_conv)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Ssd_SsdIdeal
    ∧ algebraic_SsdIdeal_SsdRefIdeal_pre_finite_ssd (hSsdIdeal := hSsdIdeal) (hSsdRefIdeal := hSsdRefIdeal) (hPre_finite_ssd := hPre_finite_ssd)
-- ==== Pre_finite_attn.lean ====
abbrev S4x2048x20480 : Shape := ⟨3, ![4, 2048, 20480]⟩
abbrev S1x64 : Shape := ⟨2, ![1, 64]⟩
abbrev S1x128 : Shape := ⟨2, ![1, 128]⟩
abbrev S4x2048x6144 : Shape := ⟨3, ![4, 2048, 6144]⟩
abbrev S_ : Shape := ⟨0, ![]⟩

class Facts : Prop where
  slices_S4x2048x20480_S4x2048x6144_0_0_10240 : S4x2048x20480.Slices ![0, 0, 10240] S4x2048x6144
  bitsLt_bf16_f32 : FTy.bits .bf16 < FTy.bits .f32
  bcast_S_S4x2048x6144 : S_.BroadcastsInDim S4x2048x6144 (![] : Fin 0 → Fin S4x2048x6144.rank)
  reducesTo_S4x2048x6144_S_d0_1_2 : S4x2048x6144.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_v30 : IVec S_ 1) (main_v33 : IVec S1x64 1) (main_c_11 : IVec S_ 1) : IVec S_ 1 :=
  let main_v34 : IVec S_ 1 := (fun x v => Host.reduce IntOp.andi x v reducesTo_S1x64_S_d0_1 h_S_) main_v33 main_c_11
  let main_v35 : IVec S_ 1 := andi main_v30 main_v34
  main_v35

def fn_part1 {F : FTy → Type} [FloatOps F] (main_arg4 : FVec F S1x64 .f32) (main_arg5 : FVec F S1x64 .f32) (main_arg6 : FVec F S1x64 .f32) (main_v15 : IVec S_ 1) (main_v16 : FVec F S1x64 .f32) (main_cst_4 : FVec F S_ .f32) : IVec S_ 1 :=
  let main_v17 : FVec F S1x64 .f32 := broadcastInDim S1x64 ![] bcast_S_S1x64 main_cst_4
  let main_v18 : IVec S1x64 1 := cmpf .olt main_v16 main_v17
  let main_c_5 : IVec S_ 1 := constantI S_ 1 1#1
  let main_v19 : IVec S_ 1 := (fun x v => Host.reduce IntOp.andi x v reducesTo_S1x64_S_d0_1 h_S_) main_v18 main_c_5
  let main_v20 : IVec S_ 1 := andi main_v15 main_v19
  let main_v21 : FVec F S1x64 .f32 := Host.absf main_arg4
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  let main_c_7 : IVec S_ 1 := constantI S_ 1 1#1
  let main_v24 : IVec S_ 1 := (fun x v => Host.reduce IntOp.andi x v reducesTo_S1x64_S_d0_1 h_S_) main_v23 main_c_7
  let main_v25 : IVec S_ 1 := andi main_v20 main_v24
  let main_v26 : FVec F S1x64 .f32 := Host.absf main_arg5
  let main_cst_8 : FVec F S_ .f32 := constant S_ .f32 0x7F800000#32
  let main_v27 : FVec F S1x64 .f32 := broadcastInDim S1x64 ![] bcast_S_S1x64 main_cst_8
  let main_v28 : IVec S1x64 1 := cmpf .olt main_v26 main_v27
  let main_c_9 : IVec S_ 1 := constantI S_ 1 1#1
  let main_v29 : IVec S_ 1 := (fun x v => Host.reduce IntOp.andi x v reducesTo_S1x64_S_d0_1 h_S_) main_v28 main_c_9
  let main_v30 : IVec S_ 1 := andi main_v25 main_v29
  let main_v31 : FVec F S1x64 .f32 := Host.absf main_arg6
  let main_cst_10 : FVec F S_ .f32 := constant S_ .f32 0x7F800000#32
  let main_v32 : FVec F S1x64 .f32 := broadcastInDim S1x64 ![] bcast_S_S1x64 main_cst_10
  let main_v33 : IVec S1x64 1 := cmpf .olt main_v31 main_v32
  let main_c_11 : IVec S_ 1 := constantI S_ 1 1#1
  fn_part2 (F := F) main_v30 main_v33 main_c_11

def fn {F : FTy → Type} [FloatOps F] (main_arg0 : FVec F S4x2048x20480 .bf16) (main_arg1 : FVec F S1x64 .f32) (main_arg2 : FVec F S1x64 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S4x2048x6144 .bf16 := (extractStridedSlice S4x2048x6144 ![0, 0, 10240] · slices_S4x2048x20480_S4x2048x6144_0_0_10240) main_arg0
  let main_v1 : FVec F S4x2048x6144 .f32 := (extf .f32 · bitsLt_bf16_f32) main_v0
  let main_v2 : FVec F S4x2048x6144 .f32 := Host.absf main_v1
  let main_cst : FVec F S_ .f32 := constant S_ .f32 0x7F800000#32
  let main_v3 : FVec F S4x2048x6144 .f32 := broadcastInDim S4x2048x6144 ![] bcast_S_S4x2048x6144 main_cst
  let main_v4 : IVec S4x2048x6144 1 := cmpf .olt main_v2 main_v3
  let main_c : IVec S_ 1 := constantI S_ 1 1#1
  let main_v5 : IVec S_ 1 := (fun x v => Host.reduce IntOp.andi x v reducesTo_S4x2048x6144_S_d0_1_2 h_S_) main_v4 main_c
  let main_v6 : FVec F S1x64 .f32 := Host.absf main_arg1
  let main_cst_0 : FVec F S_ .f32 := constant S_ .f32 0x7F800000#32
  let main_v7 : FVec F S1x64 .f32 := broadcastInDim S1x64 ![] bcast_S_S1x64 main_cst_0
  let main_v8 : IVec S1x64 1 := cmpf .olt main_v6 main_v7
  let main_c_1 : IVec S_ 1 := constantI S_ 1 1#1
  let main_v9 : IVec S_ 1 := (fun x v => Host.reduce IntOp.andi x v reducesTo_S1x64_S_d0_1 h_S_) main_v8 main_c_1
  let main_v10 : IVec S_ 1 := andi main_v5 main_v9
  let main_v11 : FVec F S1x64 .f32 := Host.absf main_arg2
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_c_3 : IVec S_ 1 := constantI S_ 1 1#1
  let main_v14 : IVec S_ 1 := (fun x v => Host.reduce IntOp.andi x v reducesTo_S1x64_S_d0_1 h_S_) main_v13 main_c_3
  let main_v15 : IVec S_ 1 := andi main_v10 main_v14
  let main_v16 : FVec F S1x64 .f32 := Host.absf main_arg3
  let main_cst_4 : FVec F S_ .f32 := constant S_ .f32 0x7F800000#32
  fn_part1 (F := F) main_arg4 main_arg5 main_arg6 main_v15 main_v16 main_cst_4
-- ==== Pre_finite_conv.lean ====
abbrev S4x2048x20480 : Shape := ⟨3, ![4, 2048, 20480]⟩
abbrev S1x4x6144 : Shape := ⟨3, ![1, 4, 6144]⟩
abbrev S1x6144 : Shape := ⟨2, ![1, 6144]⟩
abbrev S_ : Shape := ⟨0, ![]⟩

class Facts : Prop where
  bitsLt_bf16_f32 : FTy.bits .bf16 < FTy.bits .f32
  bcast_S_S4x2048x20480 : S_.BroadcastsInDim S4x2048x20480 (![] : Fin 0 → Fin S4x2048x20480.rank)
  reducesTo_S4x2048x20480_S_d0_1_2 : S4x2048x20480.ReducesTo [0, 1, 2] S_
  h_S_ : 0 < S_.numel
  bcast_S_S1x4x6144 : S_.BroadcastsInDim S1x4x6144 (![] : Fin 0 → Fin S1x4x6144.rank)
  reducesTo_S1x4x6144_S_d0_1_2 : S1x4x6144.ReducesTo [0, 1, 2] S_
  bcast_S_S1x6144 : S_.BroadcastsInDim S1x6144 (![] : Fin 0 → Fin S1x6144.rank)
  reducesTo_S1x6144_S_d0_1 : S1x6144.ReducesTo [0, 1] S_

variable [Facts]

def fn {F : FTy → Type} [FloatOps F] (main_arg0 : FVec F S4x2048x20480 .bf16) (main_arg1 : FVec F S1x4x6144 .f32) (main_arg2 : FVec F S1x6144 .f32) : IVec S_ 1 :=
  let main_v0 : FVec F S4x2048x20480 .f32 := (extf .f32 · bitsLt_bf16_f32) main_arg0
  let main_v1 : FVec F S4x2048x20480 .f32 := Host.absf main_v0
  let main_cst : FVec F S_ .f32 := constant S_ .f32 0x7F800000#32
  let main_v2 : FVec F S4x2048x20480 .f32 := broadcastInDim S4x2048x20480 ![] bcast_S_S4x2048x20480 main_cst
  let main_v3 : IVec S4x2048x20480 1 := cmpf .olt main_v1 main_v2
  let main_c : IVec S_ 1 := constantI S_ 1 1#1
  let main_v4 : IVec S_ 1 := (fun x v => Host.reduce IntOp.andi x v reducesTo_S4x2048x20480_S_d0_1_2 h_S_) main_v3 main_c
  let main_v5 : FVec F S1x4x6144 .f32 := Host.absf main_arg1
  let main_cst_0 : FVec F S_ .f32 := constant S_ .f32 0x7F800000#32
  let main_v6 : FVec F S1x4x6144 .f32 := broadcastInDim S1x4x6144 ![] bcast_S_S1x4x6144 main_cst_0
  let main_v7 : IVec S1x4x6144 1 := cmpf .olt main_v5 main_v6
  let main_c_1 : IVec S_ 1 := constantI S_ 1 1#1
  let main_v8 : IVec S_ 1 := (fun x v => Host.reduce IntOp.andi x v reducesTo_S1x4x6144_S_d0_1_2 h_S_) main_v7 main_c_1
  let main_v9 : IVec S_ 1 := andi main_v4 main_v8
  let main_v10 : FVec F S1x6144 .f32 := Host.absf main_arg2
  let main_cst_2 : FVec F S_ .f32 := constant S_ .f32 0x7F800000#32
  let main_v11 : FVec F S1x6144 .f32 := broadcastInDim S1x6144 ![] bcast_S_S1x6144 main_cst_2
  let main_v12 : IVec S1x6144 1 := cmpf .olt main_v10 main_v11
  let main_c_3 : IVec S_ 1 := constantI S_ 1 1#1
  let main_v13 : IVec S_ 1 := (fun x v => Host.reduce IntOp.andi x v reducesTo_S1x6144_S_d0_1 h_S_) main_v12 main_c_3
  let main_v14 : IVec S_ 1 := andi main_v9 main_v13
  main_v14
-- ==== Pre_finite_ssd.lean ====
abbrev S4x2048x20480 : Shape := ⟨3, ![4, 2048, 20480]⟩
abbrev S4x2048x6144 : Shape := ⟨3, ![4, 2048, 6144]⟩
abbrev S4x2048x64 : Shape := ⟨3, ![4, 2048, 64]⟩
abbrev S1x64 : Shape := ⟨2, ![1, 64]⟩
abbrev S1x4096 : Shape := ⟨2, ![1, 4096]⟩
abbrev S4x2048x4096 : Shape := ⟨3, ![4, 2048, 4096]⟩
abbrev S_ : Shape := ⟨0, ![]⟩

class Facts : Prop where
  slices_S4x2048x20480_S4x2048x4096_0_0_0 : S4x2048x20480.Slices ![0, 0, 0] S4x2048x4096
  bitsLt_bf16_f32 : FTy.bits .bf16 < FTy.bits .f32
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x2048x6144 : S_.BroadcastsInDim S4x2048x6144 (![] : Fin 0 → Fin S4x2048x6144.rank)
  reducesTo_S4x2048x6144_S_d0_1_2 : S4x2048x6144.ReducesTo [0, 1, 2] S_
  bcast_S_S4x2048x64 : S_.BroadcastsInDim S4x2048x64 (![] : Fin 0 → Fin S4x2048x64.rank)
  reducesTo_S4x2048x64_S_d0_1_2 : S4x2048x64.ReducesTo [0, 1, 2] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_v16 : IVec S_ 1) (main_v17 : FVec F S1x64 .f32) : IVec S_ 1 :=
  let main_cst_4 : FVec F S_ .f32 := constant S_ .f32 0x7F800000#32
  let main_v18 : FVec F S1x64 .f32 := broadcastInDim S1x64 ![] bcast_S_S1x64 main_cst_4
  let main_v19 : IVec S1x64 1 := cmpf .olt main_v17 main_v18
  let main_c_5 : IVec S_ 1 := constantI S_ 1 1#1
  let main_v20 : IVec S_ 1 := (fun x v => Host.reduce IntOp.andi x v reducesTo_S1x64_S_d0_1 h_S_) main_v19 main_c_5
  let main_v21 : IVec S_ 1 := andi main_v16 main_v20
  let main_v22 : FVec F S1x64 .f32 := Host.absf main_arg4
  let main_cst_6 : FVec F S_ .f32 := constant S_ .f32 0x7F800000#32
  let main_v23 : FVec F S1x64 .f32 := broadcastInDim S1x64 ![] bcast_S_S1x64 main_cst_6
  let main_v24 : IVec S1x64 1 := cmpf .olt main_v22 main_v23
  let main_c_7 : IVec S_ 1 := constantI S_ 1 1#1
  let main_v25 : IVec S_ 1 := (fun x v => Host.reduce IntOp.andi x v reducesTo_S1x64_S_d0_1 h_S_) main_v24 main_c_7
  let main_v26 : IVec S_ 1 := andi main_v21 main_v25
  main_v26

def fn {F : FTy → Type} [FloatOps F] (main_arg0 : FVec F S4x2048x20480 .bf16) (main_arg1 : FVec F S4x2048x6144 .bf16) (main_arg2 : FVec F S4x2048x64 .f32) (main_arg3 : FVec F S1x64 .f32) (main_arg4 : FVec F S1x64 .f32) (main_arg5 : FVec F S1x64 .f32) (main_arg6 : FVec F S1x4096 .f32) : IVec S_ 1 :=
  let main_v0 : FVec F S4x2048x4096 .bf16 := (extractStridedSlice S4x2048x4096 ![0, 0, 0] · slices_S4x2048x20480_S4x2048x4096_0_0_0) main_arg0
  let main_v1 : FVec F S4x2048x4096 .f32 := (extf .f32 · bitsLt_bf16_f32) main_v0
  let main_v2 : FVec F S4x2048x4096 .f32 := Host.absf main_v1
  let main_cst : FVec F S_ .f32 := constant S_ .f32 0x7F800000#32
  let main_v3 : FVec F S4x2048x4096 .f32 := broadcastInDim S4x2048x4096 ![] bcast_S_S4x2048x4096 main_cst
  let main_v4 : IVec S4x2048x4096 1 := cmpf .olt main_v2 main_v3
  let main_c : IVec S_ 1 := constantI S_ 1 1#1
  let main_v5 : IVec S_ 1 := (fun x v => Host.reduce IntOp.andi x v reducesTo_S4x2048x4096_S_d0_1_2 h_S_) main_v4 main_c
  let main_v6 : FVec F S4x2048x6144 .f32 := (extf .f32 · bitsLt_bf16_f32) main_arg1
  let main_v7 : FVec F S4x2048x6144 .f32 := Host.absf main_v6
  let main_cst_0 : FVec F S_ .f32 := constant S_ .f32 0x7F800000#32
  let main_v8 : FVec F S4x2048x6144 .f32 := broadcastInDim S4x2048x6144 ![] bcast_S_S4x2048x6144 main_cst_0
  let main_v9 : IVec S4x2048x6144 1 := cmpf .olt main_v7 main_v8
  let main_c_1 : IVec S_ 1 := constantI S_ 1 1#1
  let main_v10 : IVec S_ 1 := (fun x v => Host.reduce IntOp.andi x v reducesTo_S4x2048x6144_S_d0_1_2 h_S_) main_v9 main_c_1
  let main_v11 : IVec S_ 1 := andi main_v5 main_v10
  let main_v12 : FVec F S4x2048x64 .f32 := Host.absf main_arg2
  let main_cst_2 : FVec F S_ .f32 := constant S_ .f32 0x7F800000#32
  let main_v13 : FVec F S4x2048x64 .f32 := broadcastInDim S4x2048x64 ![] bcast_S_S4x2048x64 main_cst_2
  let main_v14 : IVec S4x2048x64 1 := cmpf .olt main_v12 main_v13
  let main_c_3 : IVec S_ 1 := constantI S_ 1 1#1
  let main_v15 : IVec S_ 1 := (fun x v => Host.reduce IntOp.andi x v reducesTo_S4x2048x64_S_d0_1_2 h_S_) main_v14 main_c_3
  let main_v16 : IVec S_ 1 := andi main_v11 main_v15
  let main_v17 : FVec F S1x64 .f32 := Host.absf main_arg3
  fn_part1 (F := F) main_arg4 main_v16 main_v17
-- ==== Kernel.lean ====
abbrev S4x2048x2048 : Shape := ⟨3, ![4, 2048, 2048]⟩
abbrev S1x2048 : Shape := ⟨2, ![1, 2048]⟩
abbrev S1x2048x20544 : Shape := ⟨3, ![1, 2048, 20544]⟩
abbrev S8192x2048 : Shape := ⟨2, ![8192, 2048]⟩
abbrev S2048 : Shape := ⟨1, ![2048]⟩
abbrev S2048x20544 : Shape := ⟨2, ![2048, 20544]⟩
abbrev S20544x2048 : Shape := ⟨2, ![20544, 2048]⟩
abbrev S8192x20480 : Shape := ⟨2, ![8192, 20480]⟩
abbrev S8192x128 : Shape := ⟨2, ![8192, 128]⟩
abbrev S8x8192x8 : Shape := ⟨3, ![8, 8192, 8]⟩
abbrev S1024x2048 : Shape := ⟨2, ![1024, 2048]⟩
abbrev S128x2048 : Shape := ⟨2, ![128, 2048]⟩
abbrev S1024x1024 : Shape := ⟨2, ![1024, 1024]⟩
abbrev S1024x128 : Shape := ⟨2, ![1024, 128]⟩
abbrev S8x1024x8 : Shape := ⟨3, ![8, 1024, 8]⟩
abbrev S256x2048 : Shape := ⟨2, ![256, 2048]⟩
abbrev S256 : Shape := ⟨1, ![256]⟩
abbrev S256x1 : Shape := ⟨2, ![256, 1]⟩
abbrev S1024x8 : Shape := ⟨2, ![1024, 8]⟩
abbrev S1x1024x8 : Shape := ⟨3, ![1, 1024, 8]⟩

abbrev nBuf : Space → Nat
  | .hbm => 11
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x20544, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x20544, .f32⟩
  | .hbm, ⟨7, _⟩ => ⟨S20544x2048, .f32⟩
  | .hbm, ⟨8, _⟩ => ⟨S8192x20480, .bf16⟩
  | .hbm, ⟨9, _⟩ => ⟨S8192x128, .f32⟩
  | .hbm, ⟨10, _⟩ => ⟨S8x8192x8, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | .local _ .vmem, ⟨5, _⟩ => ⟨S128x2048, .f32⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S8x1024x8, .f32⟩
  | .local _ .vmem, ⟨11, _⟩ => ⟨S8x1024x8, .f32⟩
  | .local _ .vmem, ⟨12, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 20], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c10_i32 : BitVec 32 := 10#32
  let v1 : BitVec 1 := Scalar.cmpi .sge arg1 c10_i32
  let c64_i32 : BitVec 32 := 64#32
  let c0_i32 : BitVec 32 := 0#32
  let v2 : BitVec 32 := Scalar.select v1 c64_i32 c0_i32
  let v3 : BitVec 32 := Scalar.addi v0 v2
  v3
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c4_i32 : BitVec 32 := 4#32
  let v10 : BitVec 32 := Scalar.addi c0_i32_6 c4_i32
  let c1_i32 : BitVec 32 := 1#32
  ⟨c0_i32_6, v10, c1_i32⟩
def k0_mult2 (k0_t1 : Fin k0_t1_loop.trips) : BitVec 32 :=
  let c0_i32_6 : BitVec 32 := 0#32
  let c1_i32 : BitVec 32 := 1#32
  let arg10 : BitVec 32 := Scf.iv c0_i32_6 c1_i32 k0_t1
  let c256_i32 : BitVec 32 := 256#32
  let v49 : BitVec 32 := Scalar.muli arg10 c256_i32
  v49
def k0_off1 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let c256_i32 : BitVec 32 := 256#32
  let v49 : BitVec 32 := Scalar.muli arg10 c256_i32
  let v50 : BitVec 32 := v49
  let v51 : Index := Scalar.indexCast v50
  let c0_32 : Index := 0#32
  ![v51.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c10_i32 : BitVec 32 := 10#32
  let v1 : BitVec 1 := Scalar.cmpi .sge arg1 c10_i32
  let c64_i32 : BitVec 32 := 64#32
  let c0_i32 : BitVec 32 := 0#32
  let v2 : BitVec 32 := Scalar.select v1 c64_i32 c0_i32
  let v3 : BitVec 32 := Scalar.addi v0 v2
  let v4 : BitVec 32 := v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c10240_i32 : BitVec 32 := 10240#32
  let c0_i32 : BitVec 32 := 0#32
  let c0_i32_0 : BitVec 32 := 0#32
  ![c10240_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x1024x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x2048x2048 : Shape := ⟨3, ![4, 2048, 2048]⟩
abbrev S1x2048 : Shape := ⟨2, ![1, 2048]⟩
abbrev S1x2048x20544 : Shape := ⟨3, ![1, 2048, 20544]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x20544 : Shape := ⟨2, ![2048, 20544]⟩
abbrev S4x2048x20544 : Shape := ⟨3, ![4, 2048, 20544]⟩
abbrev S8192x20544 : Shape := ⟨2, ![8192, 20544]⟩
abbrev S8192x10240 : Shape := ⟨2, ![8192, 10240]⟩
abbrev S8192x64 : Shape := ⟨2, ![8192, 64]⟩
abbrev S8192x20480 : Shape := ⟨2, ![8192, 20480]⟩
abbrev S8192x128 : Shape := ⟨2, ![8192, 128]⟩
abbrev S8192x8x8 : Shape := ⟨3, ![8192, 8, 8]⟩
abbrev S8x8192x8 : Shape := ⟨3, ![8, 8192, 8]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x20544, .f32⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S2048x20544, .f32⟩
  | .hbm, ⟨21, _⟩ => ⟨S4x2048x20544, .f32⟩
  | .hbm, ⟨22, _⟩ => ⟨S8192x20544, .f32⟩
  | .hbm, ⟨23, _⟩ => ⟨S8192x10240, .f32⟩
  | .hbm, ⟨24, _⟩ => ⟨S8192x10240, .f32⟩
  | .hbm, ⟨25, _⟩ => ⟨S8192x64, .f32⟩
  | .hbm, ⟨26, _⟩ => ⟨S8192x20480, .f32⟩
  | .hbm, ⟨27, _⟩ => ⟨S8192x128, .f32⟩
  | .hbm, ⟨28, _⟩ => ⟨S8192x20480, .bf16⟩
  | .hbm, ⟨29, _⟩ => ⟨S8192x8x8, .f32⟩
  | .hbm, ⟨30, _⟩ => ⟨S8x8192x8, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Down.lean ====
abbrev S8192x5632 : Shape := ⟨2, ![8192, 5632]⟩
abbrev S1x5632x2048 : Shape := ⟨3, ![1, 5632, 2048]⟩
abbrev S8192x2048 : Shape := ⟨2, ![8192, 2048]⟩
abbrev S5632x2048 : Shape := ⟨2, ![5632, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S5632x2048, .f32⟩
  | .hbm, ⟨4, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .f32⟩
  | .local _ .vmem, ⟨3, _⟩ => ⟨S5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x5632 : Shape := ⟨2, ![8192, 5632]⟩
abbrev S1x5632x2048 : Shape := ⟨3, ![1, 5632, 2048]⟩
abbrev S8192x2048 : Shape := ⟨2, ![8192, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S8192x2048 : Shape := ⟨2, ![8192, 2048]⟩
abbrev S1x2048x5632 : Shape := ⟨3, ![1, 2048, 5632]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .f32⟩
  | .hbm, ⟨2, _⟩ => ⟨S1x2048x5632, .f32⟩
  | .hbm, ⟨3, _⟩ => ⟨S2048x5632, .f32⟩
  | .hbm, ⟨4, _⟩ => ⟨S2048x5632, .f32⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S8192x2048 : Shape := ⟨2, ![8192, 2048]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .f32⟩
  | .hbm, ⟨2, _⟩ => ⟨S1x2048x5632, .f32⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S2048x5632, .f32⟩
  | .hbm, ⟨16, _⟩ => ⟨S8192x5632, .f32⟩
  | .hbm, ⟨17, _⟩ => ⟨S8192x5632, .f32⟩
  | .hbm, ⟨18, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Merge.lean ====
abbrev S4x2048x4096 : Shape := ⟨3, ![4, 2048, 4096]⟩
abbrev S1x4096x2048 : Shape := ⟨3, ![1, 4096, 2048]⟩
abbrev S4x2048x2048 : Shape := ⟨3, ![4, 2048, 2048]⟩
abbrev S1x2048x2048 : Shape := ⟨3, ![1, 2048, 2048]⟩
abbrev S8192x20480 : Shape := ⟨2, ![8192, 20480]⟩
abbrev S8192x4096 : Shape := ⟨2, ![8192, 4096]⟩
abbrev S4096x2048 : Shape := ⟨2, ![4096, 2048]⟩
abbrev S8192x2048 : Shape := ⟨2, ![8192, 2048]⟩
abbrev S2048x2048 : Shape := ⟨2, ![2048, 2048]⟩
abbrev S512x4096 : Shape := ⟨2, ![512, 4096]⟩
abbrev S4096x512 : Shape := ⟨2, ![4096, 512]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x2048, .f32⟩
  | .hbm, ⟨2, _⟩ => ⟨S4x2048x2048, .bf16⟩
  | .hbm, ⟨3, _⟩ => ⟨S1x2048x2048, .f32⟩
  | .hbm, ⟨4, _⟩ => ⟨S8192x20480, .bf16⟩
  | .hbm, ⟨5, _⟩ => ⟨S8192x4096, .bf16⟩
  | .hbm, ⟨6, _⟩ => ⟨S4096x2048, .f32⟩
  | .hbm, ⟨7, _⟩ => ⟨S8192x2048, .bf16⟩
  | .hbm, ⟨8, _⟩ => ⟨S2048x2048, .f32⟩
  | .hbm, ⟨9, _⟩ => ⟨S8192x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S512x2048, .bf16⟩
  | .local _ .vmem, ⟨5, _⟩ => ⟨S512x2048, .bf16⟩
  | .local _ .vmem, ⟨6, _⟩ => ⟨S2048x512, .f32⟩
  | .local _ .vmem, ⟨7, _⟩ => ⟨S2048x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S4096x512, .bf16⟩
  | .local _ .vmem, ⟨15, _⟩ => ⟨S2048x512, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S4x2048x4096 : Shape := ⟨3, ![4, 2048, 4096]⟩
abbrev S1x4096x2048 : Shape := ⟨3, ![1, 4096, 2048]⟩
abbrev S4x2048x2048 : Shape := ⟨3, ![4, 2048, 2048]⟩
abbrev S1x2048x2048 : Shape := ⟨3, ![1, 2048, 2048]⟩
abbrev S8192x20480 : Shape := ⟨2, ![8192, 20480]⟩
abbrev S4096x2048 : Shape := ⟨2, ![4096, 2048]⟩
abbrev S8192x2048 : Shape := ⟨2, ![8192, 2048]⟩
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x2048, .f32⟩
  | .hbm, ⟨2, _⟩ => ⟨S4x2048x2048, .bf16⟩
  | .hbm, ⟨3, _⟩ => ⟨S1x2048x2048, .f32⟩
  | .hbm, ⟨4, _⟩ => ⟨S8192x20480, .bf16⟩
  | .hbm, ⟨5, _⟩ => ⟨S4x2048x4096, .f32⟩
  | .hbm, ⟨6, _⟩ => ⟨S4096x2048, .f32⟩
  | .hbm, ⟨7, _⟩ => ⟨S4x2048x2048, .f32⟩
  | .hbm, ⟨8, _⟩ => ⟨S8192x2048, .f32⟩
  | .hbm, ⟨9, _⟩ => ⟨S4x2048x2048, .f32⟩
  | .hbm, ⟨10, _⟩ => ⟨S2048x2048, .f32⟩
  | .hbm, ⟨11, _⟩ => ⟨S4x2048x2048, .f32⟩
  | .hbm, ⟨12, _⟩ => ⟨S8192x2048, .f32⟩
  | .hbm, ⟨13, _⟩ => ⟨S8192x2048, .bf16⟩
  | .hbm, ⟨14, _⟩ => ⟨S8192x2048, .f32⟩
  | .hbm, ⟨15, _⟩ => ⟨S8192x2048, .bf16⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Out.lean ====
abbrev S4x2048x2048 : Shape := ⟨3, ![4, 2048, 2048]⟩
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .bf16⟩
  | .hbm, ⟨2, _⟩ => ⟨S1x2048x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S4x2048x2048 : Shape := ⟨3, ![4, 2048, 2048]⟩
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .bf16⟩
  | .hbm, ⟨2, _⟩ => ⟨S1x2048x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Conv.lean ====
abbrev S4x2048x20480 : Shape := ⟨3, ![4, 2048, 20480]⟩
abbrev S1x4x6144 : Shape := ⟨3, ![1, 4, 6144]⟩
abbrev S1x6144 : Shape := ⟨2, ![1, 6144]⟩
abbrev S4x6144 : Shape := ⟨2, ![4, 6144]⟩
abbrev S6144 : Shape := ⟨1, ![6144]⟩
abbrev S256x256 : Shape := ⟨2, ![256, 256]⟩
abbrev S_ : Shape := ⟨0, ![]⟩
abbrev S768x256 : Shape := ⟨2, ![768, 256]⟩
abbrev S16x16 : Shape := ⟨2, ![16, 16]⟩
abbrev S48x16 : Shape := ⟨2, ![48, 16]⟩
abbrev S4x2048x6144 : Shape := ⟨3, ![4, 2048, 6144]⟩
abbrev S1x1024x2048 : Shape := ⟨3, ![1, 1024, 2048]⟩
abbrev S1x16x2048 : Shape := ⟨3, ![1, 16, 2048]⟩
abbrev S4x2048 : Shape := ⟨2, ![4, 2048]⟩
abbrev S1x2048 : Shape := ⟨2, ![1, 2048]⟩
abbrev S1x256x512 : Shape := ⟨3, ![1, 256, 512]⟩
abbrev S256x512 : Shape := ⟨2, ![256, 512]⟩
abbrev S1x16x512 : Shape := ⟨3, ![1, 16, 512]⟩
abbrev S16x512 : Shape := ⟨2, ![16, 512]⟩
abbrev S768x512 : Shape := ⟨2, ![768, 512]⟩
abbrev S48x512 : Shape := ⟨2, ![48, 512]⟩
abbrev S4x512 : Shape := ⟨2, ![4, 512]⟩
abbrev S1x512 : Shape := ⟨2, ![1, 512]⟩
abbrev S240x512 : Shape := ⟨2, ![240, 512]⟩

abbrev nBuf : Space → Nat
  | .hbm => 51
  | .vmem => 12
  | .smem => 0
  | _ => 0

abbrev bufTy : (tb : Table) → Fin (tcTables nBuf tb) → BufTy
  | .hbm, ⟨0, _⟩ => ⟨S4x2048x20480, .bf16⟩
  | .hbm, ⟨1, _⟩ => ⟨S1x4x6144, .f32⟩
  | .hbm, ⟨2, _⟩ => ⟨S1x6144, .f32⟩
  | .hbm, ⟨3, _⟩ => ⟨S4x6144, .f32⟩
  | .hbm, ⟨4, _⟩ => ⟨S6144, .f32⟩
  | .hbm, ⟨5, _⟩ => ⟨S1x6144, .f32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S256x256, .bf16⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S256x256, .bf16⟩
  | .hbm, ⟨20, _⟩ => ⟨S256x256, .i32⟩
  | .hbm, ⟨21, _⟩ => ⟨S256x256, .i32⟩
  | .hbm, ⟨22, _⟩ => ⟨S_, .i32⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S256x256, .bf16⟩
  | .hbm, ⟨27, _⟩ => ⟨S768x256, .bf16⟩
  | .hbm, ⟨28, _⟩ => ⟨S16x16, .i32⟩
  | .hbm, ⟨29, _⟩ => ⟨S16x16, .i32⟩
  | .hbm, ⟨30, _⟩ => ⟨S_, .i32⟩
  | .hbm, ⟨31, _⟩ => ⟨S16x16, .i32⟩
  | .hbm, ⟨32, _⟩ => ⟨S16x16, .i32⟩
  | .hbm, ⟨33, _⟩ => ⟨S16x16, .i1⟩
  | .hbm, ⟨34, _⟩ => ⟨S16x16, .bf16⟩
  | .hbm, ⟨35, _⟩ => ⟨S16x16, .i32⟩
  | .hbm, ⟨36, _⟩ => ⟨S16x16, .i32⟩
  | .hbm, ⟨37, _⟩ => ⟨S_, .i32⟩
  | .hbm, ⟨38, _⟩ => ⟨S16x16, .i32⟩
  | .hbm, ⟨39, _⟩ => ⟨S16x16, .i32⟩
  | .hbm, ⟨40, _⟩ => ⟨S16x16, .i1⟩
  | .hbm, ⟨41, _⟩ => ⟨S16x16, .bf16⟩
  | .hbm, ⟨42, _⟩ => ⟨S16x16, .i32⟩
  | .hbm, ⟨43, _⟩ => ⟨S16x16, .i32⟩
  | .hbm, ⟨44, _⟩ => ⟨S_, .i32⟩
  | .hbm, ⟨45, _⟩ => ⟨S16x16, .i32⟩
  | .hbm, ⟨46, _⟩ => ⟨S16x16, .i32⟩
  | .hbm, ⟨47, _⟩ => ⟨S16x16, .i1⟩
  | .hbm, ⟨48, _⟩ => ⟨S16x16, .bf16⟩
  | .hbm, ⟨49, _⟩ => ⟨S48x16, .bf16⟩
  | .hbm, ⟨50, _⟩ => ⟨S4x2048x6144, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S4x2048, .f32⟩
  | .local _ .vmem, ⟨5, _⟩ => ⟨S4x2048, .f32⟩
  | .local _ .vmem, ⟨6, _⟩ => ⟨S1x2048, .f32⟩
  | .local _ .vmem, ⟨7, _⟩ => ⟨S1x2048, .f32⟩
  | .local _ .vmem, ⟨8, _⟩ => ⟨S768x256, .bf16⟩
  | .local _ .vmem, ⟨9, _⟩ => ⟨S48x16, .bf16⟩
  | .local _ .vmem, ⟨10, _⟩ => ⟨S1x1024x2048, .bf16⟩
  | .local _ .vmem, ⟨11, _⟩ => ⟨S1x1024x2048, .bf16⟩
  | _, _ => ⟨S4x2048x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 2, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg2
  let c0_i32_0 : BitVec 32 := 0#32
  ![arg0.toNat, v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S768x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S48x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ConvRefIdeal.lean ====
abbrev S4x2048x20480 : Shape := ⟨3, ![4, 2048, 20480]⟩
abbrev S1x4x6144 : Shape := ⟨3, ![1, 4, 6144]⟩
abbrev S1x6144 : Shape := ⟨2, ![1, 6144]⟩
abbrev S4x2048x6144 : Shape := ⟨3, ![4, 2048, 6144]⟩
abbrev S4x6144 : Shape := ⟨2, ![4, 6144]⟩
abbrev S6144 : Shape := ⟨1, ![6144]⟩
abbrev S_ : Shape := ⟨0, ![]⟩
abbrev S4x2051x6144 : Shape := ⟨3, ![4, 2051, 6144]⟩
abbrev S1x1x6144 : Shape := ⟨3, ![1, 1, 6144]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x20480, .bf16⟩
  | .hbm, ⟨1, _⟩ => ⟨S1x4x6144, .f32⟩
  | .hbm, ⟨2, _⟩ => ⟨S1x6144, .f32⟩
  | .hbm, ⟨3, _⟩ => ⟨S4x2048x6144, .bf16⟩
  | .hbm, ⟨4, _⟩ => ⟨S4x2048x6144, .f32⟩
  | .hbm, ⟨5, _⟩ => ⟨S4x6144, .f32⟩
  | .hbm, ⟨6, _⟩ => ⟨S6144, .f32⟩
  | .hbm, ⟨7, _⟩ => ⟨S_, .i32⟩
  | .hbm, ⟨8, _⟩ => ⟨S_, .f32⟩
  | .hbm, ⟨9, _⟩ => ⟨S4x2051x6144, .f32⟩
  | .hbm, ⟨10, _⟩ => ⟨S4x2048x6144, .f32⟩
  | .hbm, ⟨11, _⟩ => ⟨S1x6144, .f32⟩
  | .hbm, ⟨12, _⟩ => ⟨S6144, .f32⟩
  | .hbm, ⟨13, _⟩ => ⟨S1x1x6144, .f32⟩
  | .hbm, ⟨14, _⟩ => ⟨S4x2048x6144, .f32⟩
  | .hbm, ⟨15, _⟩ => ⟨S4x2048x6144, .f32⟩
  | .hbm, ⟨16, _⟩ => ⟨S_, .f32⟩
  | .hbm, ⟨17, _⟩ => ⟨S4x2048x6144, .f32⟩
  | .hbm, ⟨18, _⟩ => ⟨S4x2048x6144, .f32⟩
  | .hbm, ⟨19, _⟩ => ⟨S4x2048x6144, .f32⟩
  | .hbm, ⟨20, _⟩ => ⟨S1x6144, .f32⟩
  | .hbm, ⟨21, _⟩ => ⟨S6144, .f32⟩
  | .hbm, ⟨22, _⟩ => ⟨S1x1x6144, .f32⟩
  | .hbm, ⟨23, _⟩ => ⟨S4x2048x6144, .f32⟩
  | .hbm, ⟨24, _⟩ => ⟨S4x2048x6144, .f32⟩
  | .hbm, ⟨25, _⟩ => ⟨S4x2048x6144, .f32⟩
  | .hbm, ⟨26, _⟩ => ⟨S4x2048x6144, .f32⟩
  | .hbm, ⟨27, _⟩ => ⟨S1x6144, .f32⟩
  | .hbm, ⟨28, _⟩ => ⟨S6144, .f32⟩
  | .hbm, ⟨29, _⟩ => ⟨S1x1x6144, .f32⟩
  | .hbm, ⟨30, _⟩ => ⟨S4x2048x6144, .f32⟩
  | .hbm, ⟨31, _⟩ => ⟨S4x2048x6144, .f32⟩
  | .hbm, ⟨32, _⟩ => ⟨S4x2048x6144, .f32⟩
  | .hbm, ⟨33, _⟩ => ⟨S4x2048x6144, .f32⟩
  | .hbm, ⟨34, _⟩ => ⟨S1x6144, .f32⟩
  | .hbm, ⟨35, _⟩ => ⟨S6144, .f32⟩
  | .hbm, ⟨36, _⟩ => ⟨S1x1x6144, .f32⟩
  | .hbm, ⟨37, _⟩ => ⟨S4x2048x6144, .f32⟩
  | .hbm, ⟨38, _⟩ => ⟨S4x2048x6144, .f32⟩
  | .hbm, ⟨39, _⟩ => ⟨S4x2048x6144, .f32⟩
  | .hbm, ⟨40, _⟩ => ⟨S1x1x6144, .f32⟩
  | .hbm, ⟨41, _⟩ => ⟨S4x2048x6144, .f32⟩
  | .hbm, ⟨42, _⟩ => ⟨S4x2048x6144, .f32⟩
  | .hbm, ⟨43, _⟩ => ⟨S4x2048x6144, .f32⟩
  | .hbm, ⟨44, _⟩ => ⟨S4x2048x6144, .f32⟩
  | .hbm, ⟨45, _⟩ => ⟨S_, .f32⟩
  | .hbm, ⟨46, _⟩ => ⟨S4x2048x6144, .f32⟩
  | .hbm, ⟨47, _⟩ => ⟨S4x2048x6144, .f32⟩
  | .hbm, ⟨48, _⟩ => ⟨S_, .f32⟩
  | .hbm, ⟨49, _⟩ => ⟨S4x2048x6144, .f32⟩
  | .hbm, ⟨50, _⟩ => ⟨S4x2048x6144, .f32⟩
  | .hbm, ⟨51, _⟩ => ⟨S4x2048x6144, .f32⟩
  | .hbm, ⟨52, _⟩ => ⟨S4x2048x6144, .bf16⟩
  | _, _ => ⟨S4x2048x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Attn.lean ====
abbrev S4x2048x20480 : Shape := ⟨3, ![4, 2048, 20480]⟩
abbrev S1x64 : Shape := ⟨2, ![1, 64]⟩
abbrev S1x128 : Shape := ⟨2, ![1, 128]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S64 : Shape := ⟨1, ![64]⟩
abbrev S2x64 : Shape := ⟨2, ![2, 64]⟩
abbrev S128 : Shape := ⟨1, ![128]⟩
abbrev S4x2048x2048 : Shape := ⟨3, ![4, 2048, 2048]⟩
abbrev S1x2048x128 : Shape := ⟨3, ![1, 2048, 128]⟩
abbrev S2x2048x128 : Shape := ⟨3, ![2, 2048, 128]⟩
abbrev S2x3x512x512 : Shape := ⟨4, ![2, 3, 512, 512]⟩
abbrev S2x512x512 : Shape := ⟨3, ![2, 512, 512]⟩
abbrev S4x512x128 : Shape := ⟨3, ![4, 512, 128]⟩
abbrev S2x512x128 : Shape := ⟨3, ![2, 512, 128]⟩
abbrev S128x128 : Shape := ⟨2, ![128, 128]⟩
abbrev S1024x128 : Shape := ⟨2, ![1024, 128]⟩
abbrev S1x1024x128 : Shape := ⟨3, ![1, 1024, 128]⟩
abbrev S1 : Shape := ⟨1, ![1]⟩
abbrev S1x1 : Shape := ⟨2, ![1, 1]⟩
abbrev S256x256 : Shape := ⟨2, ![256, 256]⟩
abbrev S256x512 : Shape := ⟨2, ![256, 512]⟩
abbrev S512x128 : Shape := ⟨2, ![512, 128]⟩
abbrev S1x512x128 : Shape := ⟨3, ![1, 512, 128]⟩
abbrev S256x128 : Shape := ⟨2, ![256, 128]⟩
abbrev S1x256x256 : Shape := ⟨3, ![1, 256, 256]⟩
abbrev S1x256x512 : Shape := ⟨3, ![1, 256, 512]⟩
abbrev S1x256x128 : Shape := ⟨3, ![1, 256, 128]⟩
abbrev S512 : Shape := ⟨1, ![512]⟩
abbrev S512x1 : Shape := ⟨2, ![512, 1]⟩
abbrev S512x512 : Shape := ⟨2, ![512, 512]⟩
abbrev S1x1x512x512 : Shape := ⟨4, ![1, 1, 512, 512]⟩

abbrev nBuf : Space → Nat
  | .hbm => 55
  | .vmem => 23
  | .smem => 0
  | _ => 0

abbrev bufTy : (tb : Table) → Fin (tcTables nBuf tb) → BufTy
  | .hbm, ⟨0, _⟩ => ⟨S4x2048x20480, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2048, .i32⟩
  | .hbm, ⟨17, _⟩ => ⟨S2048, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x64, .f32⟩
  | .hbm, ⟨26, _⟩ => ⟨S1x2048x1x64, .f32⟩
  | .hbm, ⟨27, _⟩ => ⟨S1x2048x2x64, .f32⟩
  | .hbm, ⟨28, _⟩ => ⟨S2048x128, .f32⟩
  | .hbm, ⟨29, _⟩ => ⟨S2048x32, .f32⟩
  | .hbm, ⟨30, _⟩ => ⟨S2048x64, .f32⟩
  | .hbm, ⟨31, _⟩ => ⟨S1x2048x1x64, .f32⟩
  | .hbm, ⟨32, _⟩ => ⟨S1x2048x2x64, .f32⟩
  | .hbm, ⟨33, _⟩ => ⟨S2048x128, .f32⟩
  | .hbm, ⟨34, _⟩ => ⟨S64, .f32⟩
  | .hbm, ⟨35, _⟩ => ⟨S1x64, .f32⟩
  | .hbm, ⟨36, _⟩ => ⟨S2x64, .f32⟩
  | .hbm, ⟨37, _⟩ => ⟨S128, .f32⟩
  | .hbm, ⟨38, _⟩ => ⟨S1x128, .f32⟩
  | .hbm, ⟨39, _⟩ => ⟨S64, .f32⟩
  | .hbm, ⟨40, _⟩ => ⟨S1x64, .f32⟩
  | .hbm, ⟨41, _⟩ => ⟨S2x64, .f32⟩
  | .hbm, ⟨42, _⟩ => ⟨S128, .f32⟩
  | .hbm, ⟨43, _⟩ => ⟨S1x128, .f32⟩
  | .hbm, ⟨44, _⟩ => ⟨S64, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S64, .f32⟩
  | .hbm, ⟨49, _⟩ => ⟨S1x64, .f32⟩
  | .hbm, ⟨50, _⟩ => ⟨S64, .f32⟩
  | .hbm, ⟨51, _⟩ => ⟨S1x64, .f32⟩
  | .hbm, ⟨52, _⟩ => ⟨S128, .f32⟩
  | .hbm, ⟨53, _⟩ => ⟨S1x128, .f32⟩
  | .hbm, ⟨54, _⟩ => ⟨S4x2048x2048, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .f32⟩
  | .local _ .vmem, ⟨7, _⟩ => ⟨S2048x128, .f32⟩
  | .local _ .vmem, ⟨8, _⟩ => ⟨S1x128, .f32⟩
  | .local _ .vmem, ⟨9, _⟩ => ⟨S1x128, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S1x2048x128, .bf16⟩
  | .local _ .vmem, ⟨16, _⟩ => ⟨S1x2048x128, .bf16⟩
  | .local _ .vmem, ⟨17, _⟩ => ⟨S2048x128, .bf16⟩
  | .local _ .vmem, ⟨18, _⟩ => ⟨S2x2048x128, .bf16⟩
  | .local _ .vmem, ⟨19, _⟩ => ⟨S2x3x512x512, .f32⟩
  | .local _ .vmem, ⟨20, _⟩ => ⟨S2x512x512, .f32⟩
  | .local _ .vmem, ⟨21, _⟩ => ⟨S4x512x128, .f32⟩
  | .local _ .vmem, ⟨22, _⟩ => ⟨S2x512x128, .f32⟩
  | _, _ => ⟨S4x2048x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![4, 16], ![false, false]⟩

def k0_mult1 : BitVec 32 :=
  let c0_i32_11 : BitVec 32 := 0#32
  let c1024_i32 : BitVec 32 := 1024#32
  let v55 : BitVec 32 := Scalar.muli c0_i32_11 c1024_i32
  v55
def k0_off1 (c0_i32_11 : BitVec 32) : Fin 2 → Nat :=
  let c1024_i32 : BitVec 32 := 1024#32
  let v55 : BitVec 32 := Scalar.muli c0_i32_11 c1024_i32
  let v56 : BitVec 32 := v55
  let v57 : Index := Scalar.indexCast v56
  let c0 : Index := 0#32
  ![v57.toNat, 0]
def k0_off2 (c0_i32_11 : BitVec 32) : Fin 3 → Nat :=
  let c0_13 : Index := 0#32
  let c1024_i32 : BitVec 32 := 1024#32
  let v55 : BitVec 32 := Scalar.muli c0_i32_11 c1024_i32
  let v56 : BitVec 32 := v55
  let v63 : Index := Scalar.indexCast v56
  let c0_14 : Index := 0#32
  ![0, v63.toNat, 0]
def k0_off3 (c0_i32_11 : BitVec 32) : Fin 3 → Nat :=
  let c0_46 : Index := 0#32
  let c1024_i32 : BitVec 32 := 1024#32
  let v55 : BitVec 32 := Scalar.muli c0_i32_11 c1024_i32
  let v56 : BitVec 32 := v55
  let v165 : Index := Scalar.indexCast v56
  let c0_47 : Index := 0#32
  ![0, v165.toNat, 0]
def k0_off4 (c0_i32_11 : BitVec 32) : Fin 3 → Nat :=
  let c1 : Index := 1#32
  let c1024_i32 : BitVec 32 := 1024#32
  let v55 : BitVec 32 := Scalar.muli c0_i32_11 c1024_i32
  let v56 : BitVec 32 := v55
  let v176 : Index := Scalar.indexCast v56
  let c0_50 : Index := 0#32
  ![1, v176.toNat, 0]
def k0_mult2 : BitVec 32 :=
  let c1_i32_51 : BitVec 32 := 1#32
  let c1024_i32_52 : BitVec 32 := 1024#32
  let v180 : BitVec 32 := Scalar.muli c1_i32_51 c1024_i32_52
  v180
def k0_mult3 : BitVec 32 :=
  let c0_i32_292 : BitVec 32 := 0#32
  let c512_i32 : BitVec 32 := 512#32
  let v647 : BitVec 32 := Scalar.muli c0_i32_292 c512_i32
  v647
def k0_off5 (c0_i32_292 : BitVec 32) : Fin 2 → Nat :=
  let c512_i32 : BitVec 32 := 512#32
  let v647 : BitVec 32 := Scalar.muli c0_i32_292 c512_i32
  let v648 : BitVec 32 := v647
  let v649 : Index := Scalar.indexCast v648
  let c0_293 : Index := 0#32
  ![v649.toNat, 0]
def k0_mult4 : BitVec 32 :=
  let c0_i32_408 : BitVec 32 := 0#32
  let c512_i32_409 : BitVec 32 := 512#32
  let v833 : BitVec 32 := Scalar.muli c0_i32_408 c512_i32_409
  v833
def k0_off6 (c0_i32_408 : BitVec 32) : Fin 3 → Nat :=
  let c0_410 : Index := 0#32
  let c512_i32_409 : BitVec 32 := 512#32
  let v833 : BitVec 32 := Scalar.muli c0_i32_408 c512_i32_409
  let v834 : BitVec 32 := v833
  let v835 : Index := Scalar.indexCast v834
  let c0_411 : Index := 0#32
  ![0, v835.toNat, 0]
def k0_mult5 : BitVec 32 :=
  let c0_i32_513 : BitVec 32 := 0#32
  let c512_i32_514 : BitVec 32 := 512#32
  let v1022 : BitVec 32 := Scalar.muli c0_i32_513 c512_i32_514
  v1022
def k0_mult6 : BitVec 32 :=
  let c1_i32_542 : BitVec 32 := 1#32
  let c512_i32_543 : BitVec 32 := 512#32
  let v1066 : BitVec 32 := Scalar.muli c1_i32_542 c512_i32_543
  v1066
def k0_mult7 : BitVec 32 :=
  let c0_i32_659 : BitVec 32 := 0#32
  let c512_i32_660 : BitVec 32 := 512#32
  let v1252 : BitVec 32 := Scalar.muli c0_i32_659 c512_i32_660
  v1252
def k0_mult8 : BitVec 32 :=
  let c1_i32_701 : BitVec 32 := 1#32
  let c512_i32_702 : BitVec 32 := 512#32
  let v1335 : BitVec 32 := Scalar.muli c1_i32_701 c512_i32_702
  v1335
def k0_mult9 : BitVec 32 :=
  let c0_i32_806 : BitVec 32 := 0#32
  let c512_i32_807 : BitVec 32 := 512#32
  let v1524 : BitVec 32 := Scalar.muli c0_i32_806 c512_i32_807
  v1524
def k0_mult10 : BitVec 32 :=
  let c1_i32_835 : BitVec 32 := 1#32
  let c512_i32_836 : BitVec 32 := 512#32
  let v1568 : BitVec 32 := Scalar.muli c1_i32_835 c512_i32_836
  v1568
def k0_mult11 : BitVec 32 :=
  let c2_i32_864 : BitVec 32 := 2#32
  let c512_i32_865 : BitVec 32 := 512#32
  let v1612 : BitVec 32 := Scalar.muli c2_i32_864 c512_i32_865
  v1612
def k0_mult12 : BitVec 32 :=
  let c0_i32_980 : BitVec 32 := 0#32
  let c512_i32_981 : BitVec 32 := 512#32
  let v1798 : BitVec 32 := Scalar.muli c0_i32_980 c512_i32_981
  v1798
def k0_mult13 : BitVec 32 :=
  let c1_i32_1022 : BitVec 32 := 1#32
  let c512_i32_1023 : BitVec 32 := 512#32
  let v1881 : BitVec 32 := Scalar.muli c1_i32_1022 c512_i32_1023
  v1881
def k0_mult14 : BitVec 32 :=
  let c2_i32_1064 : BitVec 32 := 2#32
  let c512_i32_1065 : BitVec 32 := 512#32
  let v1964 : BitVec 32 := Scalar.muli c2_i32_1064 c512_i32_1065
  v1964
def cc0_transform_0 (i : grid0.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c112_i32 : BitVec 32 := 112#32
  let v0 : BitVec 32 := Scalar.addi c112_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttnIdeal.lean ====
variable {F : FTy → Type} [FloatOps F] [Named F]
def κ : String → Option EReal := fun
  | "score_scale" => some (((Real.log 2)⁻¹ * (1 / 8) : ℝ) : EReal)
  | _ => none
-- ==== AttnRefIdeal.lean ====
abbrev S4x2048x20480 : Shape := ⟨3, ![4, 2048, 20480]⟩
abbrev S1x64 : Shape := ⟨2, ![1, 64]⟩
abbrev S1x128 : Shape := ⟨2, ![1, 128]⟩
abbrev S4x2048x2048 : Shape := ⟨3, ![4, 2048, 2048]⟩
abbrev S4x2048x32x64 : Shape := ⟨4, ![4, 2048, 32, 64]⟩
abbrev S4x2048x16x128 : Shape := ⟨4, ![4, 2048, 16, 128]⟩
abbrev S2048 : Shape := ⟨1, ![2048]⟩
abbrev S64 : Shape := ⟨1, ![64]⟩
abbrev S_ : Shape := ⟨0, ![]⟩
abbrev S4x2048x32 : Shape := ⟨3, ![4, 2048, 32]⟩
abbrev S4x2048x32x1 : Shape := ⟨4, ![4, 2048, 32, 1]⟩
abbrev S1x1x1x64 : Shape := ⟨4, ![1, 1, 1, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x32x32 : Shape := ⟨4, ![4, 2048, 32, 32]⟩
abbrev S4x32x2048x2048 : Shape := ⟨4, ![4, 32, 2048, 2048]⟩
abbrev S1x2048 : Shape := ⟨2, ![1, 2048]⟩
abbrev S2048x2048 : Shape := ⟨2, ![2048, 2048]⟩
abbrev S4x32x2048 : Shape := ⟨3, ![4, 32, 2048]⟩
abbrev S4x32x2048x1 : Shape := ⟨4, ![4, 32, 2048, 1]⟩
abbrev S4x16x2x2048x2048 : Shape := ⟨5, ![4, 16, 2, 2048, 2048]⟩
abbrev S4x16x1x2048x2048 : Shape := ⟨5, ![4, 16, 1, 2048, 2048]⟩
abbrev S4x16x2048x2048 : Shape := ⟨4, ![4, 16, 2048, 2048]⟩
abbrev S4x16x128x2048 : Shape := ⟨4, ![4, 16, 128, 2048]⟩
abbrev S128 : Shape := ⟨1, ![128]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩

abbrev nBuf : Space → Nat
  | .hbm => 189
  | .vmem => 0
  | .smem => 0
  | _ => 0

abbrev hbmTy0_0 (i : Nat) : BufTy := match i % 128 with
  | 0 => ⟨S4x2048x20480, .bf16⟩
  | 1 => ⟨S1x64, .f32⟩
  | 2 => ⟨S1x64, .f32⟩
  | 3 => ⟨S1x64, .f32⟩
  | 4 => ⟨S1x64, .f32⟩
  | 5 => ⟨S1x64, .f32⟩
  | 6 => ⟨S1x64, .f32⟩
  | 7 => ⟨S1x128, .f32⟩
  | 8 => ⟨S4x2048x2048, .bf16⟩
  | 9 => ⟨S4x2048x2048, .f32⟩
  | 10 => ⟨S4x2048x32x64, .f32⟩
  | 11 => ⟨S4x2048x2048, .bf16⟩
  | 12 => ⟨S4x2048x2048, .f32⟩
  | 13 => ⟨S4x2048x32x64, .f32⟩
  | 14 => ⟨S4x2048x2048, .bf16⟩
  | 15 => ⟨S4x2048x2048, .f32⟩
  | 16 => ⟨S4x2048x16x128, .f32⟩
  | 17 => ⟨S2048, .i32⟩
  | 18 => ⟨S64, .f32⟩
  | 19 => ⟨S4x2048x32x64, .f32⟩
  | 20 => ⟨S_, .f32⟩
  | 21 => ⟨S4x2048x32, .f32⟩
  | 22 => ⟨S4x2048x32x1, .f32⟩
  | 23 => ⟨S_, .f32⟩
  | 24 => ⟨S4x2048x32x1, .f32⟩
  | 25 => ⟨S4x2048x32x1, .f32⟩
  | 26 => ⟨S_, .f32⟩
  | 27 => ⟨S4x2048x32x1, .f32⟩
  | 28 => ⟨S4x2048x32x1, .f32⟩
  | 29 => ⟨S4x2048x32x1, .f32⟩
  | 30 => ⟨S4x2048x32x64, .f32⟩
  | 31 => ⟨S4x2048x32x64, .f32⟩
  | 32 => ⟨S1x1x1x64, .f32⟩
  | 33 => ⟨S4x2048x32x64, .f32⟩
  | 34 => ⟨S4x2048x32x64, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S2048, .f32⟩
  | 44 => ⟨S2048x1, .f32⟩
  | 45 => ⟨S1x32, .f32⟩
  | 46 => ⟨S2048x32, .f32⟩
  | 47 => ⟨S2048x32, .f32⟩
  | 48 => ⟨S2048x32, .f32⟩
  | 49 => ⟨S2048x32, .f32⟩
  | 50 => ⟨S1x2048x1x32, .f32⟩
  | 51 => ⟨S2048x32, .f32⟩
  | 52 => ⟨S1x2048x1x32, .f32⟩
  | 53 => ⟨S4x2048x32x32, .f32⟩
  | 54 => ⟨S4x2048x32x32, .f32⟩
  | 55 => ⟨S4x2048x32x32, .f32⟩
  | 56 => ⟨S4x2048x32x32, .f32⟩
  | 57 => ⟨S4x2048x32x32, .f32⟩
  | 58 => ⟨S4x2048x32x32, .f32⟩
  | 59 => ⟨S4x2048x32x32, .f32⟩
  | 60 => ⟨S4x2048x32x32, .f32⟩
  | 61 => ⟨S4x2048x32x32, .f32⟩
  | 62 => ⟨S4x2048x32x32, .f32⟩
  | 63 => ⟨S4x2048x32x32, .f32⟩
  | 64 => ⟨S4x2048x32x32, .f32⟩
  | 65 => ⟨S4x2048x32x64, .f32⟩
  | 66 => ⟨S64, .f32⟩
  | 67 => ⟨S4x2048x32x64, .f32⟩
  | 68 => ⟨S_, .f32⟩
  | 69 => ⟨S4x2048x32, .f32⟩
  | 70 => ⟨S4x2048x32x1, .f32⟩
  | 71 => ⟨S_, .f32⟩
  | 72 => ⟨S4x2048x32x1, .f32⟩
  | 73 => ⟨S4x2048x32x1, .f32⟩
  | 74 => ⟨S_, .f32⟩
  | 75 => ⟨S4x2048x32x1, .f32⟩
  | 76 => ⟨S4x2048x32x1, .f32⟩
  | 77 => ⟨S4x2048x32x1, .f32⟩
  | 78 => ⟨S4x2048x32x64, .f32⟩
  | 79 => ⟨S4x2048x32x64, .f32⟩
  | 80 => ⟨S1x1x1x64, .f32⟩
  | 81 => ⟨S4x2048x32x64, .f32⟩
  | 82 => ⟨S4x2048x32x64, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S2048, .f32⟩
  | 92 => ⟨S2048x1, .f32⟩
  | 93 => ⟨S1x32, .f32⟩
  | 94 => ⟨S2048x32, .f32⟩
  | 95 => ⟨S2048x32, .f32⟩
  | 96 => ⟨S2048x32, .f32⟩
  | 97 => ⟨S2048x32, .f32⟩
  | 98 => ⟨S1x2048x1x32, .f32⟩
  | 99 => ⟨S2048x32, .f32⟩
  | 100 => ⟨S1x2048x1x32, .f32⟩
  | 101 => ⟨S4x2048x32x32, .f32⟩
  | 102 => ⟨S4x2048x32x32, .f32⟩
  | 103 => ⟨S4x2048x32x32, .f32⟩
  | 104 => ⟨S4x2048x32x32, .f32⟩
  | 105 => ⟨S4x2048x32x32, .f32⟩
  | 106 => ⟨S4x2048x32x32, .f32⟩
  | 107 => ⟨S4x2048x32x32, .f32⟩
  | 108 => ⟨S4x2048x32x32, .f32⟩
  | 109 => ⟨S4x2048x32x32, .f32⟩
  | 110 => ⟨S4x2048x32x32, .f32⟩
  | 111 => ⟨S4x2048x32x32, .f32⟩
  | 112 => ⟨S4x2048x32x32, .f32⟩
  | 113 => ⟨S4x2048x32x64, .f32⟩
  | 114 => ⟨S64, .f32⟩
  | 115 => ⟨S64, .f32⟩
  | 116 => ⟨S64, .f32⟩
  | 117 => ⟨S_, .f32⟩
  | 118 => ⟨S_, .f32⟩
  | 119 => ⟨S_, .f32⟩
  | 120 => ⟨S64, .f32⟩
  | 121 => ⟨S64, .f32⟩
  | 122 => ⟨S64, .f32⟩
  | 123 => ⟨S_, .f32⟩
  | 124 => ⟨S_, .f32⟩
  | 125 => ⟨S_, .f32⟩
  | 126 => ⟨S_, .f32⟩
  | 127 => ⟨S_, .f32⟩
  | _ => ⟨S4x2048x20480, .bf16⟩

abbrev hbmTy0_1 (i : Nat) : BufTy := match i % 128 with
  | 0 => ⟨S_, .f32⟩
  | 1 => ⟨S4x32x2048x2048, .f32⟩
  | 2 => ⟨S_, .f32⟩
  | 3 => ⟨S4x32x2048x2048, .f32⟩
  | 4 => ⟨S4x32x2048x2048, .f32⟩
  | 5 => ⟨S1x2048, .i32⟩
  | 6 => ⟨S2048x1, .i32⟩
  | 7 => ⟨S2048x2048, .i32⟩
  | 8 => ⟨S2048x2048, .i32⟩
  | 9 => ⟨S2048x2048, .i1⟩
  | 10 => ⟨S_, .f32⟩
  | 11 => ⟨S_, .f32⟩
  | 12 => ⟨S4x32x2048x2048, .i1⟩
  | 13 => ⟨S4x32x2048x2048, .f32⟩
  | 14 => ⟨S4x32x2048x2048, .f32⟩
  | 15 => ⟨S_, .f32⟩
  | 16 => ⟨S4x32x2048, .f32⟩
  | 17 => ⟨S_, .f32⟩
  | 18 => ⟨S4x32x2048, .f32⟩
  | 19 => ⟨S4x32x2048, .f32⟩
  | 20 => ⟨S4x32x2048x1, .f32⟩
  | 21 => ⟨S4x32x2048x2048, .f32⟩
  | 22 => ⟨S4x32x2048x2048, .f32⟩
  | 23 => ⟨S4x32x2048x2048, .f32⟩
  | 24 => ⟨S_, .f32⟩
  | 25 => ⟨S4x32x2048, .f32⟩
  | 26 => ⟨S4x32x2048x1, .f32⟩
  | 27 => ⟨S4x32x2048x2048, .f32⟩
  | 28 => ⟨S4x32x2048x2048, .f32⟩
  | 29 => ⟨S4x16x2x2048x2048, .f32⟩
  | 30 => ⟨S4x16x1x2048x2048, .f32⟩
  | 31 => ⟨S4x16x2048x2048, .f32⟩
  | 32 => ⟨S4x16x1x2048x2048, .f32⟩
  | 33 => ⟨S4x16x2048x2048, .f32⟩
  | 34 => ⟨S4x16x2048x2048, .f32⟩
  | 35 => ⟨S4x16x2048x2048, .f32⟩
  | 36 => ⟨S4x16x2048x2048, .f32⟩
  | 37 => ⟨S4x16x128x2048, .f32⟩
  | 38 => ⟨S4x2048x16x128, .f32⟩
  | 39 => ⟨S128, .f32⟩
  | 40 => ⟨S4x2048x16x128, .f32⟩
  | 41 => ⟨S_, .f32⟩
  | 42 => ⟨S4x2048x16, .f32⟩
  | 43 => ⟨S4x2048x16x1, .f32⟩
  | 44 => ⟨S_, .f32⟩
  | 45 => ⟨S4x2048x16x1, .f32⟩
  | 46 => ⟨S4x2048x16x1, .f32⟩
  | 47 => ⟨S_, .f32⟩
  | 48 => ⟨S4x2048x16x1, .f32⟩
  | 49 => ⟨S4x2048x16x1, .f32⟩
  | 50 => ⟨S4x2048x16x1, .f32⟩
  | 51 => ⟨S4x2048x16x128, .f32⟩
  | 52 => ⟨S4x2048x16x128, .f32⟩
  | 53 => ⟨S1x1x1x128, .f32⟩
  | 54 => ⟨S4x2048x16x128, .f32⟩
  | 55 => ⟨S4x2048x16x128, .f32⟩
  | 56 => ⟨S_, .f32⟩
  | 57 => ⟨S4x2048x16x128, .f32⟩
  | 58 => ⟨S4x2048x16x128, .f32⟩
  | 59 => ⟨S4x2048x2048, .f32⟩
  | 60 => ⟨S4x2048x2048, .bf16⟩
  | _ => ⟨S4x2048x20480, .bf16⟩

abbrev hbmTy (i : Nat) : BufTy := match i / 128 with
  | 0 => hbmTy0_0 i
  | 1 => hbmTy0_1 i
  | _ => ⟨S4x2048x20480, .bf16⟩

abbrev bufTy : (tb : Table) → Fin (tcTables nBuf tb) → BufTy
  | .hbm, ⟨i, _⟩ => hbmTy i
  | _, _ => ⟨S4x2048x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_4 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_9 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_10 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_cst_11 : Ref sig .tc := ⟨.hbm, 127, rfl⟩
abbrev main_v107 : Ref sig .tc := ⟨.hbm, 128, rfl⟩
abbrev main_v108 : Ref sig .tc := ⟨.hbm, 129, rfl⟩
abbrev main_cst_12 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_13 : Ref sig .tc := ⟨.hbm, 138, rfl⟩
abbrev main_call0_v0 : Ref sig .tc := ⟨.hbm, 139, rfl⟩
abbrev main_call0_v1 : Ref sig .tc := ⟨.hbm, 140, rfl⟩
abbrev main_call0_v2 : Ref sig .tc := ⟨.hbm, 141, rfl⟩
abbrev main_v116 : Ref sig .tc := ⟨.hbm, 142, rfl⟩
abbrev main_cst_14 : Ref sig .tc := ⟨.hbm, 143, rfl⟩
abbrev main_v117 : Ref sig .tc := ⟨.hbm, 144, rfl⟩
abbrev main_cst_15 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_16 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_17 : Ref sig .tc := ⟨.hbm, 169, rfl⟩
abbrev main_v140 : Ref sig .tc := ⟨.hbm, 170, rfl⟩
abbrev main_v141 : Ref sig .tc := ⟨.hbm, 171, rfl⟩
abbrev main_cst_18 : Ref sig .tc := ⟨.hbm, 172, rfl⟩
abbrev main_v142 : Ref sig .tc := ⟨.hbm, 173, rfl⟩
abbrev main_v143 : Ref sig .tc := ⟨.hbm, 174, rfl⟩
abbrev main_cst_19 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_cst_20 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩

abbrev nD : Nat := 1
abbrev τ : Topo := Topo.v7x

variable {F : FTy → Type} [FloatOps F]
-- ==== Ssd.lean ====
abbrev S4x2048x20480 : Shape := ⟨3, ![4, 2048, 20480]⟩
abbrev S4x2048x6144 : Shape := ⟨3, ![4, 2048, 6144]⟩
abbrev S4x2048x64 : Shape := ⟨3, ![4, 2048, 64]⟩
abbrev S1x64 : Shape := ⟨2, ![1, 64]⟩
abbrev S1x4096 : Shape := ⟨2, ![1, 4096]⟩
abbrev S4x2048x8x8 : Shape := ⟨4, ![4, 2048, 8, 8]⟩
abbrev S8x4x2048x8 : Shape := ⟨4, ![8, 4, 2048, 8]⟩
abbrev S4x8x8x2048 : Shape := ⟨4, ![4, 8, 8, 2048]⟩
abbrev S64 : Shape := ⟨1, ![64]⟩
abbrev S64x64 : Shape := ⟨2, ![64, 64]⟩
abbrev S4096 : Shape := ⟨1, ![4096]⟩
abbrev S8x1x8 : Shape := ⟨3, ![8, 1, 8]⟩
abbrev S8x8x1 : Shape := ⟨3, ![8, 8, 1]⟩
abbrev S_ : Shape := ⟨0, ![]⟩
abbrev S256x256 : Shape := ⟨2, ![256, 256]⟩
abbrev S4x2048x4096 : Shape := ⟨3, ![4, 2048, 4096]⟩
abbrev S1x512x512 : Shape := ⟨3, ![1, 512, 512]⟩
abbrev S1x512x128 : Shape := ⟨3, ![1, 512, 128]⟩
abbrev S1x1x512x8 : Shape := ⟨4, ![1, 1, 512, 8]⟩
abbrev S1x1x8x512 : Shape := ⟨4, ![1, 1, 8, 512]⟩
abbrev S1x1x8 : Shape := ⟨3, ![1, 1, 8]⟩
abbrev S1x8x1 : Shape := ⟨3, ![1, 8, 1]⟩
abbrev S1x512 : Shape := ⟨2, ![1, 512]⟩
abbrev S128x512 : Shape := ⟨2, ![128, 512]⟩
abbrev S2x256x512 : Shape := ⟨3, ![2, 256, 512]⟩
abbrev S1x256x128 : Shape := ⟨3, ![1, 256, 128]⟩
abbrev S256x128 : Shape := ⟨2, ![256, 128]⟩
abbrev S128x256 : Shape := ⟨2, ![128, 256]⟩
abbrev S1x1x256x8 : Shape := ⟨4, ![1, 1, 256, 8]⟩
abbrev S256x8 : Shape := ⟨2, ![256, 8]⟩
abbrev S1x8 : Shape := ⟨2, ![1, 8]⟩
abbrev S1x1x8x256 : Shape := ⟨4, ![1, 1, 8, 256]⟩
abbrev S8x256 : Shape := ⟨2, ![8, 256]⟩
abbrev S8x1 : Shape := ⟨2, ![8, 1]⟩
abbrev S256x512 : Shape := ⟨2, ![256, 512]⟩
abbrev S128x128 : Shape := ⟨2, ![128, 128]⟩
abbrev S1x128 : Shape := ⟨2, ![1, 128]⟩
abbrev S256x1 : Shape := ⟨2, ![256, 1]⟩
abbrev S1x256x512 : Shape := ⟨3, ![1, 256, 512]⟩
abbrev S1x256 : Shape := ⟨2, ![1, 256]⟩
abbrev S1x1 : Shape := ⟨2, ![1, 1]⟩
abbrev S256 : Shape := ⟨1, ![256]⟩

abbrev nBuf : Space → Nat
  | .hbm => 37
  | .vmem => 31
  | .smem => 0
  | _ => 0

abbrev bufTy : (tb : Table) → Fin (tcTables nBuf tb) → BufTy
  | .hbm, ⟨0, _⟩ => ⟨S4x2048x20480, .bf16⟩
  | .hbm, ⟨1, _⟩ => ⟨S4x2048x6144, .bf16⟩
  | .hbm, ⟨2, _⟩ => ⟨S4x2048x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x4096, .f32⟩
  | .hbm, ⟨7, _⟩ => ⟨S4x2048x8x8, .f32⟩
  | .hbm, ⟨8, _⟩ => ⟨S8x4x2048x8, .f32⟩
  | .hbm, ⟨9, _⟩ => ⟨S4x8x8x2048, .f32⟩
  | .hbm, ⟨10, _⟩ => ⟨S64, .f32⟩
  | .hbm, ⟨11, _⟩ => ⟨S64x64, .f32⟩
  | .hbm, ⟨12, _⟩ => ⟨S4096, .f32⟩
  | .hbm, ⟨13, _⟩ => ⟨S1x4096, .f32⟩
  | .hbm, ⟨14, _⟩ => ⟨S64, .f32⟩
  | .hbm, ⟨15, _⟩ => ⟨S8x1x8, .f32⟩
  | .hbm, ⟨16, _⟩ => ⟨S64, .f32⟩
  | .hbm, ⟨17, _⟩ => ⟨S8x1x8, .f32⟩
  | .hbm, ⟨18, _⟩ => ⟨S64, .f32⟩
  | .hbm, ⟨19, _⟩ => ⟨S8x8x1, .f32⟩
  | .hbm, ⟨20, _⟩ => ⟨S64, .f32⟩
  | .hbm, ⟨21, _⟩ => ⟨S8x8x1, .f32⟩
  | .hbm, ⟨22, _⟩ => ⟨S4096, .f32⟩
  | .hbm, ⟨23, _⟩ => ⟨S1x4096, .f32⟩
  | .hbm, ⟨24, _⟩ => ⟨S_, .bf16⟩
  | .hbm, ⟨25, _⟩ => ⟨S256x256, .bf16⟩
  | .hbm, ⟨26, _⟩ => ⟨S256x256, .i32⟩
  | .hbm, ⟨27, _⟩ => ⟨S_, .i32⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S256x256, .i1⟩
  | .hbm, ⟨32, _⟩ => ⟨S_, .bf16⟩
  | .hbm, ⟨33, _⟩ => ⟨S256x256, .bf16⟩
  | .hbm, ⟨34, _⟩ => ⟨S256x256, .bf16⟩
  | .hbm, ⟨35, _⟩ => ⟨S256x256, .bf16⟩
  | .hbm, ⟨36, _⟩ => ⟨S4x2048x4096, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x512, .bf16⟩
  | .local _ .vmem, ⟨7, _⟩ => ⟨S1x512x512, .bf16⟩
  | .local _ .vmem, ⟨8, _⟩ => ⟨S1x1x512x8, .f32⟩
  | .local _ .vmem, ⟨9, _⟩ => ⟨S1x1x512x8, .f32⟩
  | .local _ .vmem, ⟨10, _⟩ => ⟨S1x1x8x512, .f32⟩
  | .local _ .vmem, ⟨11, _⟩ => ⟨S1x1x8x512, .f32⟩
  | .local _ .vmem, ⟨12, _⟩ => ⟨S1x1x8, .f32⟩
  | .local _ .vmem, ⟨13, _⟩ => ⟨S1x1x8, .f32⟩
  | .local _ .vmem, ⟨14, _⟩ => ⟨S1x1x8, .f32⟩
  | .local _ .vmem, ⟨15, _⟩ => ⟨S1x1x8, .f32⟩
  | .local _ .vmem, ⟨16, _⟩ => ⟨S1x8x1, .f32⟩
  | .local _ .vmem, ⟨17, _⟩ => ⟨S1x8x1, .f32⟩
  | .local _ .vmem, ⟨18, _⟩ => ⟨S1x8x1, .f32⟩
  | .local _ .vmem, ⟨19, _⟩ => ⟨S1x8x1, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S256x256, .bf16⟩
  | .local _ .vmem, ⟨25, _⟩ => ⟨S256x256, .bf16⟩
  | .local _ .vmem, ⟨26, _⟩ => ⟨S1x512x512, .bf16⟩
  | .local _ .vmem, ⟨27, _⟩ => ⟨S1x512x512, .bf16⟩
  | .local _ .vmem, ⟨28, _⟩ => ⟨S128x512, .f32⟩
  | .local _ .vmem, ⟨29, _⟩ => ⟨S2x256x512, .bf16⟩
  | .local _ .vmem, ⟨30, _⟩ => ⟨S2x256x512, .f32⟩
  | _, _ => ⟨S4x2048x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_cst : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x8x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x8x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== SsdIdeal.lean ====
variable {F : FTy → Type} [FloatOps F] [Named F]
def κ : String → Option EReal := fun
  | "log2e" => some (((Real.log 2)⁻¹ : ℝ) : EReal)
  | "minus_log2e" => some (((Real.log 2)⁻¹ * (-1) : ℝ) : EReal)
  | _ => none
-- ==== SsdRefIdeal.lean ====
abbrev S4x2048x20480 : Shape := ⟨3, ![4, 2048, 20480]⟩
abbrev S4x2048x6144 : Shape := ⟨3, ![4, 2048, 6144]⟩
abbrev S4x2048x64 : Shape := ⟨3, ![4, 2048, 64]⟩
abbrev S1x64 : Shape := ⟨2, ![1, 64]⟩
abbrev S1x4096 : Shape := ⟨2, ![1, 4096]⟩
abbrev S4x2048x4096 : Shape := ⟨3, ![4, 2048, 4096]⟩
abbrev S64 : Shape := ⟨1, ![64]⟩
abbrev S4096 : Shape := ⟨1, ![4096]⟩
abbrev S4x2048x1024 : Shape := ⟨3, ![4, 2048, 1024]⟩
abbrev S4x2048x8x8x64 : Shape := ⟨5, ![4, 2048, 8, 8, 64]⟩
abbrev S4x2048x8x128 : Shape := ⟨4, ![4, 2048, 8, 128]⟩
abbrev S1x1x64 : Shape := ⟨3, ![1, 1, 64]⟩
abbrev S_ : Shape := ⟨0, ![]⟩
abbrev S4x2048x8x8 : Shape := ⟨4, ![4, 2048, 8, 8]⟩
abbrev S8x8 : Shape := ⟨2, ![8, 8]⟩
abbrev S4x2048x8x8x1 : Shape := ⟨5, ![4, 2048, 8, 8, 1]⟩
abbrev S1x1x8x8 : Shape := ⟨4, ![1, 1, 8, 8]⟩
abbrev S4x8x256x8x8x64 : Shape := ⟨6, ![4, 8, 256, 8, 8, 64]⟩
abbrev S4x8x256x8x128 : Shape := ⟨5, ![4, 8, 256, 8, 128]⟩
abbrev S4x8x256x8x8 : Shape := ⟨5, ![4, 8, 256, 8, 8]⟩
abbrev S4x8x8x8x256 : Shape := ⟨5, ![4, 8, 8, 8, 256]⟩
abbrev S256x256 : Shape := ⟨2, ![256, 256]⟩
abbrev S4x8x8x8x256x1 : Shape := ⟨6, ![4, 8, 8, 8, 256, 1]⟩
abbrev S4x8x8x8x1x256 : Shape := ⟨6, ![4, 8, 8, 8, 1, 256]⟩
abbrev S4x8x8x8x256x256 : Shape := ⟨6, ![4, 8, 8, 8, 256, 256]⟩
abbrev S4x8x8x256x256 : Shape := ⟨5, ![4, 8, 8, 256, 256]⟩
abbrev S4x8x1x8x256x256 : Shape := ⟨6, ![4, 8, 1, 8, 256, 256]⟩
abbrev S4x8x8x8x64x256 : Shape := ⟨6, ![4, 8, 8, 8, 64, 256]⟩
abbrev S4x8x8x8x1 : Shape := ⟨5, ![4, 8, 8, 8, 1]⟩
abbrev S4x8x256x8x8x1 : Shape := ⟨6, ![4, 8, 256, 8, 8, 1]⟩
abbrev S4x8x8x8x64x128 : Shape := ⟨6, ![4, 8, 8, 8, 64, 128]⟩
abbrev S4x8x8x8 : Shape := ⟨4, ![4, 8, 8, 8]⟩
abbrev S4x8x8x9 : Shape := ⟨4, ![4, 8, 8, 9]⟩
abbrev S9x9 : Shape := ⟨2, ![9, 9]⟩
abbrev S4x8x8x9x1 : Shape := ⟨5, ![4, 8, 8, 9, 1]⟩
abbrev S4x8x8x1x9 : Shape := ⟨5, ![4, 8, 8, 1, 9]⟩
abbrev S4x8x8x9x9 : Shape := ⟨5, ![4, 8, 8, 9, 9]⟩
abbrev S4x1x8x8x64x128 : Shape := ⟨6, ![4, 1, 8, 8, 64, 128]⟩
abbrev S4x9x8x8x64x128 : Shape := ⟨6, ![4, 9, 8, 8, 64, 128]⟩
abbrev S4x8x8x64x128x9 : Shape := ⟨6, ![4, 8, 8, 64, 128, 9]⟩
abbrev S8x8x1 : Shape := ⟨3, ![8, 8, 1]⟩
abbrev S1x1x8x8x1 : Shape := ⟨5, ![1, 1, 8, 8, 1]⟩
abbrev S4x2048x8x512 : Shape := ⟨4, ![4, 2048, 8, 512]⟩
abbrev S4x2048x8 : Shape := ⟨3, ![4, 2048, 8]⟩
abbrev S4x2048x8x1 : Shape := ⟨4, ![4, 2048, 8, 1]⟩
abbrev S1x1x4096 : Shape := ⟨3, ![1, 1, 4096]⟩

abbrev nBuf : Space → Nat
  | .hbm => 177
  | .vmem => 0
  | .smem => 0
  | _ => 0

abbrev hbmTy0_0 (i : Nat) : BufTy := match i % 128 with
  | 0 => ⟨S4x2048x20480, .bf16⟩
  | 1 => ⟨S4x2048x6144, .bf16⟩
  | 2 => ⟨S4x2048x64, .f32⟩
  | 3 => ⟨S1x64, .f32⟩
  | 4 => ⟨S1x64, .f32⟩
  | 5 => ⟨S1x64, .f32⟩
  | 6 => ⟨S1x4096, .f32⟩
  | 7 => ⟨S4x2048x4096, .bf16⟩
  | 8 => ⟨S64, .f32⟩
  | 9 => ⟨S64, .f32⟩
  | 10 => ⟨S64, .f32⟩
  | 11 => ⟨S4096, .f32⟩
  | 12 => ⟨S4x2048x4096, .bf16⟩
  | 13 => ⟨S4x2048x1024, .bf16⟩
  | 14 => ⟨S4x2048x1024, .bf16⟩
  | 15 => ⟨S4x2048x8x8x64, .bf16⟩
  | 16 => ⟨S4x2048x8x128, .bf16⟩
  | 17 => ⟨S4x2048x8x128, .bf16⟩
  | 18 => ⟨S1x1x64, .f32⟩
  | 19 => ⟨S4x2048x64, .f32⟩
  | 20 => ⟨S4x2048x64, .f32⟩
  | 21 => ⟨S_, .f32⟩
  | 22 => ⟨S4x2048x64, .f32⟩
  | 23 => ⟨S4x2048x64, .f32⟩
  | 24 => ⟨S4x2048x64, .f32⟩
  | 25 => ⟨S4x2048x64, .f32⟩
  | 26 => ⟨S4x2048x64, .i1⟩
  | 27 => ⟨S4x2048x64, .f32⟩
  | 28 => ⟨S4x2048x64, .f32⟩
  | 29 => ⟨S4x2048x64, .f32⟩
  | 30 => ⟨S4x2048x64, .f32⟩
  | 31 => ⟨S4x2048x64, .f32⟩
  | 32 => ⟨S4x2048x64, .f32⟩
  | 33 => ⟨S4x2048x64, .f32⟩
  | 34 => ⟨S4x2048x64, .f32⟩
  | 35 => ⟨S4x2048x8x8, .f32⟩
  | 36 => ⟨S64, .f32⟩
  | 37 => ⟨S8x8, .f32⟩
  | 38 => ⟨S8x8, .f32⟩
  | 39 => ⟨S4x2048x8x8x64, .f32⟩
  | 40 => ⟨S4x2048x8x8x1, .f32⟩
  | 41 => ⟨S4x2048x8x8x64, .f32⟩
  | 42 => ⟨S4x2048x8x8x64, .f32⟩
  | 43 => ⟨S1x1x8x8, .f32⟩
  | 44 => ⟨S4x2048x8x8, .f32⟩
  | 45 => ⟨S4x2048x8x8, .f32⟩
  | 46 => ⟨S4x2048x8x128, .f32⟩
  | 47 => ⟨S4x2048x8x128, .f32⟩
  | 48 => ⟨S4x8x256x8x8x64, .f32⟩
  | 49 => ⟨S4x8x256x8x128, .f32⟩
  | 50 => ⟨S4x8x256x8x128, .f32⟩
  | 51 => ⟨S4x8x256x8x8, .f32⟩
  | 52 => ⟨S4x8x8x8x256, .f32⟩
  | 53 => ⟨S_, .f32⟩
  | 54 => ⟨S_, .f32⟩
  | 55 => ⟨S4x8x8x8x256, .f32⟩
  | 56 => ⟨S_, .i1⟩
  | 57 => ⟨S256x256, .i1⟩
  | 58 => ⟨S256x256, .i32⟩
  | 59 => ⟨S_, .i32⟩
  | 60 => ⟨S256x256, .i32⟩
  | 61 => ⟨S256x256, .i32⟩
  | 62 => ⟨S256x256, .i32⟩
  | 63 => ⟨S256x256, .i1⟩
  | 64 => ⟨S_, .i1⟩
  | 65 => ⟨S256x256, .i1⟩
  | 66 => ⟨S256x256, .i1⟩
  | 67 => ⟨S4x8x8x8x256x1, .f32⟩
  | 68 => ⟨S4x8x8x8x1x256, .f32⟩
  | 69 => ⟨S4x8x8x8x256x256, .f32⟩
  | 70 => ⟨S4x8x8x8x256x256, .f32⟩
  | 71 => ⟨S4x8x8x8x256x256, .f32⟩
  | 72 => ⟨S_, .f32⟩
  | 73 => ⟨S_, .f32⟩
  | 74 => ⟨S4x8x8x8x256x256, .i1⟩
  | 75 => ⟨S4x8x8x8x256x256, .f32⟩
  | 76 => ⟨S4x8x8x8x256x256, .f32⟩
  | 77 => ⟨S4x8x8x8x256x256, .f32⟩
  | 78 => ⟨S4x8x8x256x256, .f32⟩
  | 79 => ⟨S4x8x1x8x256x256, .f32⟩
  | 80 => ⟨S4x8x8x8x256x256, .f32⟩
  | 81 => ⟨S4x8x8x8x256x256, .f32⟩
  | 82 => ⟨S4x8x8x8x64x256, .f32⟩
  | 83 => ⟨S4x8x256x8x8x64, .f32⟩
  | 84 => ⟨S4x8x8x8x1, .f32⟩
  | 85 => ⟨S4x8x8x8x256, .f32⟩
  | 86 => ⟨S4x8x8x8x256, .f32⟩
  | 87 => ⟨S4x8x8x8x256, .f32⟩
  | 88 => ⟨S4x8x256x8x8, .f32⟩
  | 89 => ⟨S4x8x256x8x8x1, .f32⟩
  | 90 => ⟨S4x8x256x8x8x64, .f32⟩
  | 91 => ⟨S4x8x256x8x8x64, .f32⟩
  | 92 => ⟨S4x8x8x8x64x128, .f32⟩
  | 93 => ⟨S4x8x8x8x1, .f32⟩
  | 94 => ⟨S4x8x8x8, .f32⟩
  | 95 => ⟨S_, .i32⟩
  | 96 => ⟨S_, .f32⟩
  | 97 => ⟨S4x8x8x9, .f32⟩
  | 98 => ⟨S_, .f32⟩
  | 99 => ⟨S_, .f32⟩
  | 100 => ⟨S4x8x8x9, .f32⟩
  | 101 => ⟨S_, .i1⟩
  | 102 => ⟨S9x9, .i1⟩
  | 103 => ⟨S9x9, .i32⟩
  | 104 => ⟨S_, .i32⟩
  | 105 => ⟨S9x9, .i32⟩
  | 106 => ⟨S9x9, .i32⟩
  | 107 => ⟨S9x9, .i32⟩
  | 108 => ⟨S9x9, .i1⟩
  | 109 => ⟨S_, .i1⟩
  | 110 => ⟨S9x9, .i1⟩
  | 111 => ⟨S9x9, .i1⟩
  | 112 => ⟨S4x8x8x9x1, .f32⟩
  | 113 => ⟨S4x8x8x1x9, .f32⟩
  | 114 => ⟨S4x8x8x9x9, .f32⟩
  | 115 => ⟨S4x8x8x9x9, .f32⟩
  | 116 => ⟨S4x8x8x9x9, .f32⟩
  | 117 => ⟨S_, .f32⟩
  | 118 => ⟨S_, .f32⟩
  | 119 => ⟨S4x8x8x9x9, .i1⟩
  | 120 => ⟨S4x8x8x9x9, .f32⟩
  | 121 => ⟨S4x8x8x9x9, .f32⟩
  | 122 => ⟨S4x8x8x9x9, .f32⟩
  | 123 => ⟨S4x1x8x8x64x128, .f32⟩
  | 124 => ⟨S_, .f32⟩
  | 125 => ⟨S4x1x8x8x64x128, .f32⟩
  | 126 => ⟨S4x9x8x8x64x128, .f32⟩
  | 127 => ⟨S4x8x8x64x128x9, .f32⟩
  | _ => ⟨S4x2048x20480, .bf16⟩

abbrev hbmTy0_1 (i : Nat) : BufTy := match i % 128 with
  | 0 => ⟨S4x9x8x8x64x128, .f32⟩
  | 1 => ⟨S4x8x8x8x64x128, .f32⟩
  | 2 => ⟨S4x8x8x8x256, .f32⟩
  | 3 => ⟨S4x8x256x8x8, .f32⟩
  | 4 => ⟨S4x8x8x8x64x256, .f32⟩
  | 5 => ⟨S4x8x256x8x8x64, .f32⟩
  | 6 => ⟨S4x8x256x8x8x1, .f32⟩
  | 7 => ⟨S4x8x256x8x8x64, .f32⟩
  | 8 => ⟨S4x8x256x8x8x64, .f32⟩
  | 9 => ⟨S4x8x256x8x8x64, .f32⟩
  | 10 => ⟨S4x2048x8x8x64, .f32⟩
  | 11 => ⟨S8x8, .f32⟩
  | 12 => ⟨S8x8x1, .f32⟩
  | 13 => ⟨S4x2048x8x8x64, .f32⟩
  | 14 => ⟨S1x1x8x8x1, .f32⟩
  | 15 => ⟨S4x2048x8x8x64, .f32⟩
  | 16 => ⟨S4x2048x8x8x64, .f32⟩
  | 17 => ⟨S4x2048x8x8x64, .f32⟩
  | 18 => ⟨S4x2048x4096, .f32⟩
  | 19 => ⟨S4x2048x4096, .f32⟩
  | 20 => ⟨S4x2048x4096, .f32⟩
  | 21 => ⟨S4x2048x4096, .f32⟩
  | 22 => ⟨S_, .f32⟩
  | 23 => ⟨S4x2048x4096, .f32⟩
  | 24 => ⟨S4x2048x4096, .f32⟩
  | 25 => ⟨S_, .f32⟩
  | 26 => ⟨S4x2048x4096, .f32⟩
  | 27 => ⟨S4x2048x4096, .f32⟩
  | 28 => ⟨S4x2048x4096, .f32⟩
  | 29 => ⟨S4x2048x4096, .f32⟩
  | 30 => ⟨S4x2048x8x512, .f32⟩
  | 31 => ⟨S4x2048x8x512, .f32⟩
  | 32 => ⟨S_, .f32⟩
  | 33 => ⟨S4x2048x8, .f32⟩
  | 34 => ⟨S4x2048x8x1, .f32⟩
  | 35 => ⟨S_, .f32⟩
  | 36 => ⟨S4x2048x8x1, .f32⟩
  | 37 => ⟨S4x2048x8x1, .f32⟩
  | 38 => ⟨S_, .f32⟩
  | 39 => ⟨S4x2048x8x1, .f32⟩
  | 40 => ⟨S4x2048x8x1, .f32⟩
  | 41 => ⟨S4x2048x8x1, .f32⟩
  | 42 => ⟨S4x2048x8x512, .f32⟩
  | 43 => ⟨S4x2048x8x512, .f32⟩
  | 44 => ⟨S4x2048x4096, .f32⟩
  | 45 => ⟨S1x1x4096, .f32⟩
  | 46 => ⟨S4x2048x4096, .f32⟩
  | 47 => ⟨S4x2048x4096, .f32⟩
  | 48 => ⟨S4x2048x4096, .bf16⟩
  | _ => ⟨S4x2048x20480, .bf16⟩

abbrev hbmTy (i : Nat) : BufTy := match i / 128 with
  | 0 => hbmTy0_0 i
  | 1 => hbmTy0_1 i
  | _ => ⟨S4x2048x20480, .bf16⟩

abbrev bufTy : (tb : Table) → Fin (tcTables nBuf tb) → BufTy
  | .hbm, ⟨i, _⟩ => hbmTy i
  | _, _ => ⟨S4x2048x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_call0_cst : Ref sig .tc := ⟨.hbm, 53, rfl⟩
abbrev main_call1_call0_v0 : Ref sig .tc := ⟨.hbm, 54, rfl⟩
abbrev main_v33 : Ref sig .tc := ⟨.hbm, 55, rfl⟩
abbrev main_c : Ref sig .tc := ⟨.hbm, 56, rfl⟩
abbrev main_v34 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_0 : Ref sig .tc := ⟨.hbm, 64, rfl⟩
abbrev main_call2_v5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_0 : Ref sig .tc := ⟨.hbm, 95, rfl⟩
abbrev main_call4_v0 : Ref sig .tc := ⟨.hbm, 96, rfl⟩
abbrev main_v60 : Ref sig .tc := ⟨.hbm, 97, rfl⟩
abbrev main_call5_call0_cst : Ref sig .tc := ⟨.hbm, 98, rfl⟩
abbrev main_call5_call0_v0 : Ref sig .tc := ⟨.hbm, 99, rfl⟩
abbrev main_v61 : Ref sig .tc := ⟨.hbm, 100, rfl⟩
abbrev main_c_1 : Ref sig .tc := ⟨.hbm, 101, rfl⟩
abbrev main_v62 : Ref sig .tc := ⟨.hbm, 102, rfl⟩
abbrev main_call6_v0 : Ref sig .tc := ⟨.hbm, 103, rfl⟩
abbrev main_call6_c : Ref sig .tc := ⟨.hbm, 104, rfl⟩
abbrev main_call6_v1 : Ref sig .tc := ⟨.hbm, 105, rfl⟩
abbrev main_call6_v2 : Ref sig .tc := ⟨.hbm, 106, rfl⟩
abbrev main_call6_v3 : Ref sig .tc := ⟨.hbm, 107, rfl⟩
abbrev main_call6_v4 : Ref sig .tc := ⟨.hbm, 108, rfl⟩
abbrev main_call6_c_0 : Ref sig .tc := ⟨.hbm, 109, rfl⟩
abbrev main_call6_v5 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_2 : Ref sig .tc := ⟨.hbm, 117, rfl⟩
abbrev main_call7_v0 : Ref sig .tc := ⟨.hbm, 118, rfl⟩
abbrev main_call7_v1 : Ref sig .tc := ⟨.hbm, 119, rfl⟩
abbrev main_call7_v2 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_3 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_call8_v0 : Ref sig .tc := ⟨.hbm, 148, rfl⟩
abbrev main_call8_v1 : Ref sig .tc := ⟨.hbm, 149, rfl⟩
abbrev main_call8_cst : Ref sig .tc := ⟨.hbm, 150, rfl⟩
abbrev main_call8_v2 : Ref sig .tc := ⟨.hbm, 151, rfl⟩
abbrev main_call8_v3 : Ref sig .tc := ⟨.hbm, 152, rfl⟩
abbrev main_call8_cst_0 : Ref sig .tc := ⟨.hbm, 153, rfl⟩
abbrev main_call8_v4 : Ref sig .tc := ⟨.hbm, 154, rfl⟩
abbrev main_call8_v5 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_cst_4 : Ref sig .tc := ⟨.hbm, 160, rfl⟩
abbrev main_v99 : Ref sig .tc := ⟨.hbm, 161, rfl⟩
abbrev main_v100 : Ref sig .tc := ⟨.hbm, 162, rfl⟩
abbrev main_cst_5 : Ref sig .tc := ⟨.hbm, 163, rfl⟩
abbrev main_v101 : Ref sig .tc := ⟨.hbm, 164, rfl⟩
abbrev main_v102 : Ref sig .tc := ⟨.hbm, 165, rfl⟩
abbrev main_cst_6 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩

abbrev nD : Nat := 1
abbrev τ : Topo := Topo.v7x

variable {F : FTy → Type} [FloatOps F]
-- ==== Proof.Inproj.Run.lean ====
/-
  The body of the projection at a grid point, on any whole staging memrefs: what it leaves in every buffer, as a
  function of what it found. At a first point of a row block it normalises the rows into the scratch and writes the
  timestep columns; at every point it multiplies the scratch with the weight block.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Value
public import Idealize.ShloMosaic.Lib.WritesUnit
public import Idealize.ShloMosaic.Lib.VecWindow
public import Idealize.ShloMosaic.Lib.Pointwise
public import Idealize.ShloMosaic.Lib.Tactic

@[expose] public section

set_option maxRecDepth 16384

noncomputable section

namespace Cert.KernelIdeal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The two zero offsets of a whole load. -/
theorem zero_off : (![0, 0] : Fin 2 → Nat) = fun _ => 0 := funext fun a => by fin_cases a <;> rfl

/-- A block of 256 consecutive rows. -/
def rowsFrom (x : Vec F S1024x2048 .f32) (k : ℕ) (hk : k < 4) : Vec F S256x2048 .f32 :=
  fun j => x (ix2 (⟨k * 256 + (j 0).val, by have : (j 0).val < 256 := (j 0).isLt; omega⟩ : Fin 1024) (j 1))

/-- All rows normalised, 256 at a time. -/
def normed (x0 : Vec F S1024x2048 .f32) (x1 : Vec F S1x2048 .f32) : Vec F S1024x2048 .bf16 :=
  fun i => k0_pay5 (rowsFrom x0 ((i 0).val / 256) (by have : (i 0).val < 1024 := (i 0).isLt; omega)) x1
    (ix2 (⟨(i 0).val % 256, Nat.mod_lt _ (by decide)⟩ : Fin 256) (i 1))

/-- A normalised row is computed within its block of 256 rows. -/
theorem normed_at (x0 : Vec F S1024x2048 .f32) (x1 : Vec F S1x2048 .f32) (k : ℕ) (hk : k < 4) (r : ℕ) (hr : r < 256) (y : S1024x2048.Idx)
    (hq : (y 0).val / 256 = k) (hm : (y 0).val % 256 = r) :
    normed x0 x1 y = k0_pay5 (rowsFrom x0 k hk) x1 (ix2 (⟨r, hr⟩ : Fin 256) (y 1)) := by
  subst hq hm; rfl

/-- The timestep columns, eight heads to a group. -/
def grouped (x3 : Vec F S128x2048 .f32) (h : Vec F S1024x2048 .bf16) : Vec F S8x1024x8 .f32 :=
  fun i => k0_pay6 x3 h (ix2 (i 1) (⟨(i 0).val * 8 + (i 2).val, by
    have : (i 0).val < 8 := (i 0).isLt; have : (i 2).val < 8 := (i 2).isLt; omega⟩ : Fin 128))

/-! ## The rows the loop has written -/

section Loop

variable (c : Dev nD) (i : grid0.Coords) (a2 : Memref sig .tc .vmem S1024x2048 .f32) (h2 : a2.IsWhole) (a3 : Memref sig .tc .vmem S1x2048 .f32) (h3 : a3.IsWhole) (a4 : Memref sig .tc .vmem S1024x2048 .f32) (h4 : a4.IsWhole) (a5 : Memref sig .tc .vmem S128x2048 .f32) (h5 : a5.IsWhole) (a6 : Memref sig .tc .vmem S1024x1024 .bf16) (h6 : a6.IsWhole) (a7 : Memref sig .tc .vmem S1024x128 .f32) (h7 : a7.IsWhole) (a8 : Memref sig .tc .vmem S8x1024x8 .f32) (h8 : a8.IsWhole) (a9 : Memref sig .tc .vmem S1024x2048 .bf16) (h9 : a9.IsWhole) (hc0 : k0_cond1 i = 1#1)
  (x0 : Vec F S1024x2048 .f32) (x1 : Vec F S1x2048 .f32)

theorem trips_four : k0_t1_loop.trips = 4 := by decide

/-- A trip's rows begin at 256 times the trip. -/
theorem off_rows : ∀ k : Fin k0_t1_loop.trips, k0_off1 k = ![k.val * 256, 0] := by decide +kernel

/-- A trip stores its 256 rows, normalised. -/
theorem trip_piece (k : Fin k0_t1_loop.trips) :
    tripL_k0_t1 (F := F) Variants.none c none i a2 h2 a3 h3 a4 h4 a5 h5 a6 h6 a7 h7 a8 h8 a9 h9 hc0 (h2.unread x0) (h3.unread x1) k
      = [⟨Rect.unit (s := S1024x2048) (k0_off1 k) S256x2048.size (k0_off1_inb i k hc0),
          k0_pay5 (rowsFrom x0 k.val (lt_of_lt_of_eq k.isLt trips_four)) x1⟩] := by
  unfold tripL_k0_t1 trip_k0_t1
  dsimp only
  sl_unfold_words
  simp only [View.readAt_eq_ld, Memref.IsWhole.read_unread, View.ld_unit_zero (S := S1x2048) zero_off]
  congr 3
  funext j
  show x0 _ = x0 _
  congr 1
  have e0 : k0_off1 k 0 = k.val * 256 := by rw [off_rows]; rfl
  funext a; apply Fin.ext
  match a with
  | ⟨0, _⟩ => show k0_off1 k 0 + 1 * (j 0).val = k.val * 256 + (j 0).val; rw [e0]; omega
  | ⟨1, _⟩ => show 0 + 1 * (j 1).val = (j 1).val; omega

/-- After `k` trips the first `256 k` rows hold the normalised rows. -/
theorem rows_done (f : BufTy.Contents (Elt F) a9.view.ty) : ∀ (k : ℕ) (hk : k ≤ 4) (y : S1024x2048.Idx), (y 0).val < k * 256 →
    a9.view.read (Elt F) (a9.view.writes (Elt F) f
      (pb_k0_t1 (F := F) Variants.none c none i a2 h2 a3 h3 a4 h4 a5 h5 a6 h6 a7 h7 a8 h8 a9 h9 hc0 (h2.unread x0) (h3.unread x1) k)) y
      = normed x0 x1 y
  | 0, _, y, hy => absurd hy (by omega)
  | k + 1, hk, y, hy => by
    have hlt : k < k0_t1_loop.trips := by rw [trips_four]; omega
    have e := pb_k0_t1_succ (F := F) Variants.none c none i a2 h2 a3 h3 a4 h4 a5 h5 a6 h6 a7 h7 a8 h8 a9 h9 hc0 (h2.unread x0) (h3.unread x1) ⟨k, hlt⟩
    rw [trip_piece] at e
    refine (congrArg (fun L => a9.view.read (Elt F) (a9.view.writes (Elt F) f L) y) e).trans ?_
    by_cases h : k * 256 ≤ (y 0).val
    · refine (View.read_writes_cons_rows_of_mem _ _ _ _ _ y
        (ix2 (⟨(y 0).val - k * 256, by omega⟩ : Fin 256) (y 1)) (off_rows ⟨k, hlt⟩) ?_ rfl).trans ?_
      · show (y 0).val = k * 256 + ((y 0).val - k * 256); omega
      · have hq : (y 0).val / 256 = k := by omega
        have hr : (y 0).val % 256 = (y 0).val - k * 256 := by omega
        exact (normed_at x0 x1 k (by omega) _ _ y hq hr).symm
    · refine (View.read_writes_cons_rows_of_not_mem _ _ (W := 256) _ _ _ y (off_rows ⟨k, hlt⟩) rfl (.inl (by show (y 0).val < k * 256; omega))).trans ?_
      exact rows_done f k (by omega) y (by omega)

/-- After the loop the scratch holds the normalised rows. -/
theorem rows_all (f : BufTy.Contents (Elt F) a9.view.ty) :
    a9.view.read (Elt F) (a9.view.writes (Elt F) f
      (pb_k0_t1 (F := F) Variants.none c none i a2 h2 a3 h3 a4 h4 a5 h5 a6 h6 a7 h7 a8 h8 a9 h9 hc0 (h2.unread x0) (h3.unread x1)
        (Scf.trips (0#32) (Scalar.addi 0#32 4#32) 1#32)))
      = normed x0 x1 :=
  funext fun y => by
    have e : Scf.trips (0#32) (Scalar.addi 0#32 4#32) 1#32 = 4 := trips_four
    rw [e]
    exact rows_done c i a2 h2 a3 h3 a4 h4 a5 h5 a6 h6 a7 h7 a8 h8 a9 h9 hc0 x0 x1 f 4 le_rfl y
      (by have : (y 0).val < 1024 := (y 0).isLt; omega)

end Loop

/-- One group store's block, by its columns. -/
theorem group_cols (u : FVec F S1024x128 .f32) (o : ℕ) (ho : o + 8 ≤ 128) (hs : S1024x128.Slices ![0, o] S1024x8) (r : Fin 1024) (l : Fin 8) (z : Fin 1) :
    shapeCast S1x1024x8 (extractStridedSlice S1024x8 ![0, o] u hs) shapeCasts_S1024x8_S1x1024x8 (ix3 z r l)
      = u (ix2 r (⟨o + l.val, by omega⟩ : Fin 128)) := by
  pointwise

/-- The eight group stores leave the timestep columns, eight heads to a group. -/
theorem groups_all (v : View sig .tc .vmem S8x1024x8 .f32) (f : BufTy.Contents (Elt F) v.ty) (x3 : Vec F S128x2048 .f32) (h : Vec F S1024x2048 .bf16) :
    v.read (Elt F) (v.writes (Elt F) f
      [⟨Rect.unit ![7, 0, 0] ![1, 1024, 8] inb_S8x1024x8_S1x1024x8_7_0_0, k0_pay3 (k0_pay6 x3 h)⟩,
       ⟨Rect.unit ![6, 0, 0] ![1, 1024, 8] inb_S8x1024x8_S1x1024x8_6_0_0, k0_pay2 (k0_pay6 x3 h)⟩,
       ⟨Rect.unit ![5, 0, 0] ![1, 1024, 8] inb_S8x1024x8_S1x1024x8_5_0_0, k0_pay1 (k0_pay6 x3 h)⟩,
       ⟨Rect.unit ![4, 0, 0] S1x1024x8.size inb_S8x1024x8_S1x1024x8_4_0_0, k0_pay11 x3 h⟩,
       ⟨Rect.unit ![3, 0, 0] S1x1024x8.size inb_S8x1024x8_S1x1024x8_3_0_0, k0_pay10 x3 h⟩,
       ⟨Rect.unit ![2, 0, 0] S1x1024x8.size inb_S8x1024x8_S1x1024x8_2_0_0, k0_pay9 x3 h⟩,
       ⟨Rect.unit ![1, 0, 0] S1x1024x8.size inb_S8x1024x8_S1x1024x8_1_0_0, k0_pay8 x3 h⟩,
       ⟨Rect.unit ![0, 0, 0] S1x1024x8.size inb_S8x1024x8_S1x1024x8_0_0_0, k0_pay7 x3 h⟩]) = grouped x3 h := by
  have hit : ∀ (g : Fin 8) (inb) (u : FVec F S1024x128 .f32) (hu : u = k0_pay6 x3 h) (hs : S1024x128.Slices ![0, g.val * 8] S1024x8) (x : S1x1024x8.Idx),
      shapeCast S1x1024x8 (extractStridedSlice S1024x8 ![0, g.val * 8] u hs) shapeCasts_S1024x8_S1x1024x8 x
        = grouped x3 h ((Rect.unit (s := S8x1024x8) ![g.val, 0, 0] S1x1024x8.size inb).emb x) := by
    intro g inb u hu hs x
    subst hu
    obtain ⟨z, r, l, rfl⟩ : ∃ (z : Fin 1) (r : Fin 1024) (l : Fin 8), x = ix3 z r l := ⟨x 0, x 1, x 2, eq_ix3 x⟩
    rw [group_cols _ _ (by omega) hs r l z]
    unfold grouped
    congr 1
    funext a; apply Fin.ext
    match a with
    | ⟨0, _⟩ => show r.val = 0 + 1 * r.val; omega
    | ⟨1, _⟩ => show g.val * 8 + l.val = (g.val + 1 * z.val) * 8 + (0 + 1 * l.val); omega
  funext y
  obtain ⟨g, r, l, rfl⟩ : ∃ (g : Fin 8) (r : Fin 1024) (l : Fin 8), y = ix3 g r l := ⟨y 0, y 1, y 2, eq_ix3 y⟩
  refine View.read_writes_apply_of_pieces v f (grouped x3 h) _ ?_ _ ?_
  · intro p hp x
    simp only [List.mem_cons, List.not_mem_nil, _root_.or_false] at hp
    rcases hp with rfl | rfl | rfl | rfl | rfl | rfl | rfl | rfl
    · exact hit 7 inb_S8x1024x8_S1x1024x8_7_0_0 _ rfl slices_S1024x128_o0_56_S1024x8 x
    · exact hit 6 inb_S8x1024x8_S1x1024x8_6_0_0 _ rfl slices_S1024x128_o0_48_S1024x8 x
    · exact hit 5 inb_S8x1024x8_S1x1024x8_5_0_0 _ rfl slices_S1024x128_o0_40_S1024x8 x
    · exact hit 4 inb_S8x1024x8_S1x1024x8_4_0_0 _ rfl slices_S1024x128_o0_32_S1024x8 x
    · exact hit 3 inb_S8x1024x8_S1x1024x8_3_0_0 _ rfl slices_S1024x128_o0_24_S1024x8 x
    · exact hit 2 inb_S8x1024x8_S1x1024x8_2_0_0 _ rfl slices_S1024x128_o0_16_S1024x8 x
    · exact hit 1 inb_S8x1024x8_S1x1024x8_1_0_0 _ rfl slices_S1024x128_o0_8_S1024x8 x
    · exact hit 0 inb_S8x1024x8_S1x1024x8_0_0_0 _ rfl slices_S1024x128_o0_0_S1024x8 x
  · have at_ : ∀ (g : Fin 8) (inb), ix3 g r l ∈ (Rect.unit (s := S8x1024x8) ![g.val, 0, 0] S1x1024x8.size inb).set := by
      intro g inb
      refine Rect.mem_set_unit.2 fun a => ?_
      match a with
      | ⟨0, _⟩ => exact ⟨le_rfl, Nat.lt_succ_self _⟩
      | ⟨1, _⟩ => exact ⟨Nat.zero_le _, by show r.val < 0 + 1024; omega⟩
      | ⟨2, _⟩ => exact ⟨Nat.zero_le _, by show l.val < 0 + 8; omega⟩
    match g with
    | ⟨7, _⟩ => exact ⟨_, .head _, at_ 7 inb_S8x1024x8_S1x1024x8_7_0_0⟩
    | ⟨6, _⟩ => exact ⟨_, .tail _ (.head _), at_ 6 inb_S8x1024x8_S1x1024x8_6_0_0⟩
    | ⟨5, _⟩ => exact ⟨_, .tail _ (.tail _ (.head _)), at_ 5 inb_S8x1024x8_S1x1024x8_5_0_0⟩
    | ⟨4, _⟩ => exact ⟨_, .tail _ (.tail _ (.tail _ (.head _))), at_ 4 inb_S8x1024x8_S1x1024x8_4_0_0⟩
    | ⟨3, _⟩ => exact ⟨_, .tail _ (.tail _ (.tail _ (.tail _ (.head _)))), at_ 3 inb_S8x1024x8_S1x1024x8_3_0_0⟩
    | ⟨2, _⟩ => exact ⟨_, .tail _ (.tail _ (.tail _ (.tail _ (.tail _ (.head _))))), at_ 2 inb_S8x1024x8_S1x1024x8_2_0_0⟩
    | ⟨1, _⟩ => exact ⟨_, .tail _ (.tail _ (.tail _ (.tail _ (.tail _ (.tail _ (.head _)))))), at_ 1 inb_S8x1024x8_S1x1024x8_1_0_0⟩
    | ⟨0, _⟩ => exact ⟨_, .tail _ (.tail _ (.tail _ (.tail _ (.tail _ (.tail _ (.tail _ (.head _))))))), at_ 0 inb_S8x1024x8_S1x1024x8_0_0_0⟩

set_option maxHeartbeats 1000000 in
/-- The body at a first point of a row block. -/
theorem run_first (c : Dev nD) (i : grid0.Coords) (a2 : Memref sig .tc .vmem S1024x2048 .f32) (h2 : a2.IsWhole) (a3 : Memref sig .tc .vmem S1x2048 .f32) (h3 : a3.IsWhole) (a4 : Memref sig .tc .vmem S1024x2048 .f32) (h4 : a4.IsWhole) (a5 : Memref sig .tc .vmem S128x2048 .f32) (h5 : a5.IsWhole) (a6 : Memref sig .tc .vmem S1024x1024 .bf16) (h6 : a6.IsWhole) (a7 : Memref sig .tc .vmem S1024x128 .f32) (h7 : a7.IsWhole) (a8 : Memref sig .tc .vmem S8x1024x8 .f32) (h8 : a8.IsWhole) (a9 : Memref sig .tc .vmem S1024x2048 .bf16) (h9 : a9.IsWhole) (hc0 : k0_cond1 i = 1#1)
    (x0 : Vec F S1024x2048 .f32) (x1 : Vec F S1x2048 .f32) (x2 : Vec F S1024x2048 .f32) (x3 : Vec F S128x2048 .f32)
    (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d)
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (k0_pay4 x2 (normed x0 x1)) ∗ owns (c : Thread nD τ) a7 fullShare (k0_pay6 x3 (normed x0 x1))
            ∗ owns (c : Thread nD τ) a8 fullShare (grouped x3 (normed x0 x1)) ∗ owns (c : Thread nD τ) a9 fullShare (normed x0 x1)) -∗ K ⟨⟩))
      ⊢ wp frame (wpE (defs₀ (F := F)) Variants.none c none) E (cc0_inproj i a2 h2 a3 h3 a4 h4 a5 h5 a6 h6 a7 h7 a8 h8 a9 h9) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
  obtain rfl := h2.eq_unread hf0; obtain rfl := h3.eq_unread hf1; obtain rfl := h4.eq_unread hf2; obtain rfl := h5.eq_unread hf3
  sl_exec (disch := first | sl_exact hc0)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; swap; · iexact H4
    ipureintro
    sl_unfold_words
    simp only [View.readAt_eq_ld, Memref.IsWhole.read_unread, View.ld_unit_zero (S := S1024x2048) zero_off, View.ld_unit_zero (S := S128x2048) zero_off]
    exact (View.read_writes_full _ _ _ _ _).trans (congrArg (k0_pay4 x2) (rows_all c i a2 h2 a3 h3 a4 h4 a5 h5 a6 h6 a7 h7 a8 h8 a9 h9 hc0 x0 x1 fs0))
  isplitl [H5]
  · iexists _; isplitr; swap; · iexact H5
    ipureintro
    sl_unfold_words
    simp only [View.readAt_eq_ld, Memref.IsWhole.read_unread, View.ld_unit_zero (S := S1024x2048) zero_off, View.ld_unit_zero (S := S128x2048) zero_off]
    exact (View.read_writes_full _ _ _ _ _).trans (congrArg (k0_pay6 x3) (rows_all c i a2 h2 a3 h3 a4 h4 a5 h5 a6 h6 a7 h7 a8 h8 a9 h9 hc0 x0 x1 fs0))
  isplitl [H6]
  · iexists _; isplitr; swap; · iexact H6
    ipureintro
    sl_unfold_words
    simp only [View.readAt_eq_ld, Memref.IsWhole.read_unread, View.ld_unit_zero (S := S1024x2048) zero_off, View.ld_unit_zero (S := S128x2048) zero_off]
    exact (groups_all _ _ _ _).trans (congrArg (grouped x3) (rows_all c i a2 h2 a3 h3 a4 h4 a5 h5 a6 h6 a7 h7 a8 h8 a9 h9 hc0 x0 x1 fs0))
  iexists _; isplitr; swap; · iexact HS0
  ipureintro
  exact rows_all c i a2 h2 a3 h3 a4 h4 a5 h5 a6 h6 a7 h7 a8 h8 a9 h9 hc0 x0 x1 fs0

set_option maxHeartbeats 1000000 in
/-- The body at a later point of a row block: the scratch and the timestep columns stay as they are. -/
theorem run_later (c : Dev nD) (i : grid0.Coords) (a2 : Memref sig .tc .vmem S1024x2048 .f32) (h2 : a2.IsWhole) (a3 : Memref sig .tc .vmem S1x2048 .f32) (h3 : a3.IsWhole) (a4 : Memref sig .tc .vmem S1024x2048 .f32) (h4 : a4.IsWhole) (a5 : Memref sig .tc .vmem S128x2048 .f32) (h5 : a5.IsWhole) (a6 : Memref sig .tc .vmem S1024x1024 .bf16) (h6 : a6.IsWhole) (a7 : Memref sig .tc .vmem S1024x128 .f32) (h7 : a7.IsWhole) (a8 : Memref sig .tc .vmem S8x1024x8 .f32) (h8 : a8.IsWhole) (a9 : Memref sig .tc .vmem S1024x2048 .bf16) (h9 : a9.IsWhole) (hc0 : ¬ k0_cond1 i = 1#1)
    (x0 : Vec F S1024x2048 .f32) (x1 : Vec F S1x2048 .f32) (x2 : Vec F S1024x2048 .f32) (x3 : Vec F S128x2048 .f32)
    (y5 : Vec F S1024x128 .f32) (y6 : Vec F S8x1024x8 .f32) (h : Vec F S1024x2048 .bf16) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ (∃ d, owns (c : Thread nD τ) a6 fullShare d) ∗ owns (c : Thread nD τ) a7 fullShare y5 ∗ owns (c : Thread nD τ) a8 fullShare y6 ∗ owns (c : Thread nD τ) a9 fullShare h
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (k0_pay4 x2 h) ∗ owns (c : Thread nD τ) a7 fullShare y5
            ∗ owns (c : Thread nD τ) a8 fullShare y6 ∗ owns (c : Thread nD τ) a9 fullShare h) -∗ K ⟨⟩))
      ⊢ wp frame (wpE (defs₀ (F := F)) Variants.none c none) E (cc0_inproj i a2 h2 a3 h3 a4 h4 a5 h5 a6 h6 a7 h7 a8 h8 a9 h9) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs, HS0⟩, Hk⟩
  obtain rfl := h4.eq_unread hf2; obtain rfl := h9.eq_unread hfs
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact h4.read_unread _
    iexact H2
  isplitl [H3]
  · iexists _; isplitr; · ipureintro; exact hf3
    iexact H3
  isplitl [H4]
  · iexists _; isplitr; swap; · iexact H4
    ipureintro
    sl_unfold_words
    simp only [View.readAt_eq_ld, Memref.IsWhole.read_unread, View.ld_unit_zero (S := S1024x2048) zero_off]
    exact View.read_writes_full _ _ _ _ _
  isplitl [H5]
  · iexists _; isplitr; · ipureintro; exact hf5
    iexact H5
  isplitl [H6]
  · iexists _; isplitr; · ipureintro; exact hf6
    iexact H6
  iexists _; isplitr; · ipureintro; exact h9.read_unread _
  iexact HS0

end Cert.KernelIdeal.Inproj

end
-- ==== Proof.Inproj.Frame.lean ====
/-
  The projection as a pipeline: what every staging buffer and the scratch hold at every grid point, the body's triple
  at a generic point, the run, and the frame. A row block takes twenty points; its first point normalises the block's
  rows into the scratch and writes the timestep columns, which the later points leave alone.
-/
module

public import proofs.«01_k».proof.Proof.Inproj.Run
public import proofs.«01_k».proof.Proof.Gen.KernelIdeal.Launch
public import proofs.«01_k».proof.Proof.Gen.KernelIdeal.Points
public import Idealize.ShloMosaic.Lib.Pipeline.TableIdle
public import Idealize.ShloMosaic.Lib.WordCmp
public import Idealize.ShloMosaic.Lib.Claim

@[expose] public section

set_option maxRecDepth 16384

noncomputable section

namespace Cert.KernelIdeal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem points (t : Fin cfg0.N) : t.val < 160 := lt_of_lt_of_eq t.isLt (show cfg0.N = 160 from N_0)

/-- The normalising branch is taken at the first point of a row block. -/
theorem cond_iff (t : Fin cfg0.N) : k0_cond1 (grid0.coords t) = 1#1 ↔ t.val % 20 = 0 := by
  have ht := points t
  have e0 : (grid0.coords t 0).val = t.val / 20 % 8 := Pipeline.Grid.coords_val t 0 (by decide) rfl
  have e1 : (grid0.coords t 1).val = t.val / 1 % 20 := Pipeline.Grid.coords_val t 1 (by decide) rfl
  simp only [k0_cond1, e0, e1]
  word_cmp

/-- The first point of a point's row block. -/
def head (t : Fin cfg0.N) : Fin cfg0.N := ⟨t.val / 20 * 20, by have := t.isLt; omega⟩

theorem head_first (t : Fin cfg0.N) (h : t.val % 20 = 0) : head t = t := Fin.ext (by show t.val / 20 * 20 = t.val; omega)

theorem head_pred (t : Fin cfg0.N) (h : ¬ t.val % 20 = 0) : head ⟨t.val - 1, by omega⟩ = head t :=
  Fin.ext (by show (t.val - 1) / 20 * 20 = t.val / 20 * 20; omega)

/-- The timestep windows' points that store nothing are the later points of a row block. -/
theorem idle_iff (w : Fin cfg0.W) (hw : w = 5 ∨ w = 6) (t : Fin cfg0.N) : cfg0.idle w (cfg0.grid.coords t) = !(t.val % 20 == 0) := by
  have e : cfg0.idle w (cfg0.grid.coords t) = !(k0_cond1 (grid0.coords t) == 1#1) := by rcases hw with rfl | rfl <;> rfl
  rw [e]
  by_cases h : t.val % 20 = 0
  · rw [(cond_iff t).2 h, h]; rfl
  · have h' : ¬ k0_cond1 (grid0.coords t) = 1#1 := fun e => h ((cond_iff t).1 e)
    rw [beq_false_of_ne h', beq_false_of_ne h]

theorem flush_iff (w : Fin cfg0.W) (hw : w = 5 ∨ w = 6) (t : Fin cfg0.N) : (cfg0.win w).flush t = (t.val % 20 == 19) := by
  have e : (cfg0.win w).flush t = true ↔ t.val % 20 = 19 := by rcases hw with rfl | rfl; exacts [flush0_5 t, flush0_6 t]
  by_cases h : t.val % 20 = 19
  · rw [e.2 h, h]; rfl
  · rw [beq_false_of_ne h, Bool.eq_false_iff]; exact fun h' => h (e.1 h')

/-- Their buffers hold nothing yet exactly before the first point of a row block. -/
theorem fresh_iff (w : Fin cfg0.W) (hw : w = 5 ∨ w = 6) (n : ℕ) (hn : n ≤ cfg0.N) : cfg0.fresh w n = (n % 20 == 0) :=
  Pipeline.Cfg.fresh_tab cfg0 w (fun n => n % 20 == 0) rfl (fun t => by
    rw [idle_iff w hw t, flush_iff w hw t]
    by_cases h : t.val % 20 = 19
    · have : (t.val + 1) % 20 = 0 := by omega
      simp only [h, this]; rfl
    · have h1 : ¬ (t.val + 1) % 20 = 0 := by omega
      rw [beq_false_of_ne h1, beq_false_of_ne h]
      by_cases h0 : t.val % 20 = 0
      · simp only [h0]; rfl
      · rw [beq_false_of_ne h0]; rfl) n hn

/-! ## The staging memrefs and the scratch -/

abbrev stage0 (t : Fin cfg0.N) : Memref sig .tc .vmem S1024x2048 .f32 := win0_0.stage (cfg0.slots t 0)
abbrev stage1 (t : Fin cfg0.N) : Memref sig .tc .vmem S1x2048 .f32 := win0_1.stage (cfg0.slots t 1)
abbrev stage2 (t : Fin cfg0.N) : Memref sig .tc .vmem S1024x2048 .f32 := win0_2.stage (cfg0.slots t 2)
abbrev stage3 (t : Fin cfg0.N) : Memref sig .tc .vmem S128x2048 .f32 := win0_3.stage (cfg0.slots t 3)
abbrev stage4 (t : Fin cfg0.N) : Memref sig .tc .vmem S1024x1024 .bf16 := win0_4.stage (cfg0.slots t 4)
abbrev stage5 (t : Fin cfg0.N) : Memref sig .tc .vmem S1024x128 .f32 := win0_5.stage (cfg0.slots t 5)
abbrev stage6 (t : Fin cfg0.N) : Memref sig .tc .vmem S8x1024x8 .f32 := win0_6.stage (cfg0.slots t 6)
abbrev scratch : Memref sig .tc .vmem S1024x2048 .bf16 := Memref.whole cc0_scratch0

/-- What the launch hands the region: the scratch at anything and the generator register. -/
theorem entry_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-! ## What the buffers hold -/

/-- The normalised rows of a point's row block. -/
def rows (c : Dev nD) (t : Fin cfg0.N) : Vec F S1024x2048 .bf16 := normed (iblk m c 0 (head t)) (iblk m c 1 (head t))

/-- Before the first point the scratch holds anything, afterwards the rows of the row block of the point before. -/
def inv (c : Dev nD) : (n : ℕ) → n ≤ cfg0.N → sProp 𝕄
  | 0, _ => Pipeline.ΦA spec0 c
  | n + 1, hn => iprop(owns (c : Thread nD τ) scratch fullShare (rows m c ⟨n, hn⟩) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(owns (c : Thread nD τ) scratch fullShare (rows m c ⟨n, hn⟩) ∗ (∃ r, prngReg c r)) := rfl

theorem inv_pos (c : Dev nD) (n : ℕ) (h : n ≤ cfg0.N) (hz : n ≠ 0) :
    inv m c n h = iprop(owns (c : Thread nD τ) scratch fullShare (rows m c ⟨n - 1, by omega⟩) ∗ (∃ r, prngReg c r)) := by
  cases n with
  | zero => exact absurd rfl hz
  | succ n => rfl

/-- The pipeline's data: each input's buffer at its block, the first output's at the product with the point's weight
    block, the timestep outputs' at the row block's timestep columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (iblk m c 2 t) (rows m c t)
    | ⟨5, _⟩ => k0_pay6 (iblk m c 3 (head t)) (rows m c t)
    | ⟨6, _⟩ => grouped (iblk m c 3 (head t)) (rows m c t)
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (iblk m c 2 t) (rows m c t) := by dsimp only [dats]
theorem after5 (c : Dev nD) (t : Fin cfg0.N) : (dats m 0 c).after 5 t = k0_pay6 (iblk m c 3 (head t)) (rows m c t) := by dsimp only [dats]
theorem after6 (c : Dev nD) (t : Fin cfg0.N) : (dats m 0 c).after 6 t = grouped (iblk m c 3 (head t)) (rows m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem rows_pred (c : Dev nD) (t : Fin cfg0.N) (h : ¬ t.val % 20 = 0) : rows m c ⟨t.val - 1, by omega⟩ = rows m c t := by
  unfold rows; rw [head_pred t h]

theorem after_pred (c : Dev nD) (w : Fin cfg0.W) (hw : w = 5 ∨ w = 6) (t : Fin cfg0.N) (h : ¬ t.val % 20 = 0) :
    (dats m 0 c).after w ⟨t.val - 1, by omega⟩ = (dats m 0 c).after w t := by
  rcases hw with rfl | rfl
  · rw [after5, after5, rows_pred m c t h, head_pred t h]
  · rw [after6, after6, rows_pred m c t h, head_pred t h]

/-- At a later point of a row block the timestep buffers hold what the first point left. -/
theorem before_later (c : Dev nD) (w : Fin cfg0.W) (hw : w = 5 ∨ w = 6) (t : Fin cfg0.N) (h : ¬ t.val % 20 = 0) (d) :
    (dats m 0 c).before w t d = (dats m 0 c).after w t := by
  have ho : (cfg0.win w).isOut = true := by rcases hw with rfl | rfl <;> rfl
  have hc : ∀ (i : cfg0.grid.Coords) a, (cfg0.win w).clip i a = none := by rcases hw with rfl | rfl <;> exact fun _ _ => rfl
  rw [(dats m 0 c).before_out_traj w ho hc (fun t ht hi hf => (after_pred m c w hw t (by
    rw [fresh_iff w hw t.val (Nat.le_of_lt t.isLt)] at hf; exact ne_of_beq_false hf)).symm) t.val t rfl d,
    fresh_iff w hw t.val (Nat.le_of_lt t.isLt), beq_false_of_ne h, if_neg Bool.false_ne_true]
  exact after_pred m c w hw t h

/-! ## The body at a point -/

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d)))

/-- What it returns. -/
def post (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ (dats m 0 c).leavesExact 5 t ∗ (dats m 0 c).leavesExact 6 t)

/-- A timestep window's buffer at its stated contents is what the body must leave there, at every point. -/
theorem leaves_of_after (c : Dev nD) (w : Fin cfg0.W) (hw : w = 5 ∨ w = 6) (t : Fin cfg0.N) :
    owns (c : Thread nD τ) ((cfg0.win w).stage (cfg0.slots t w)) fullShare ((dats m 0 c).after w t) ⊢ (dats m 0 c).leavesExact w t := by
  by_cases h : t.val % 20 = 0
  · rw [show (dats m 0 c).leavesExact w t = owns (c : Thread nD τ) ((cfg0.win w).stage (cfg0.slots t w)) fullShare ((dats m 0 c).after w t) from by
      unfold Dat.leavesExact; rw [idle_iff w hw t, h]; rfl]
  · by_cases h' : t.val % 20 = 19
    · rw [show (dats m 0 c).leavesExact w t = owns (c : Thread nD τ) ((cfg0.win w).stage (cfg0.slots t w)) fullShare ((dats m 0 c).after w t) from by
        unfold Dat.leavesExact; rw [idle_iff w hw t, flush_iff w hw t, h']; rfl]
    · rw [(dats m 0 c).leavesExact_idle w t (by rw [idle_iff w hw t, beq_false_of_ne h]; rfl) (by rw [flush_iff w hw t, beq_false_of_ne h'])]
      iintro H
      iexists ((dats m 0 c).after w t)
      rw [before_later m c w hw t h]
      iexact H

set_option maxHeartbeats 1600000 in
/-- The body at any point takes the first contents to the second. -/
theorem body_at (c : Dev nD) (t : Fin cfg0.N) :
    pre m c t ⊢ wp frame (wpE (defs₀ (F := F)) Variants.none c none) Set.univ (bodyAt0 t) (fun _ => post m c t) := by
  unfold pre post bodyAt0
  simp only [before0, before1, before2, before3]
  rw [show (dats m 0 c).owesAt () t.succ = (dats m 0 c).owesAt () t.castSucc from rfl, after0, after1, after2, after3, after4]
  rw [show (dats m 0 c).Φ t.succ = inv m c (t.val + 1) t.isLt from rfl, inv_succ, inv_castSucc]
  by_cases h0 : t.val % 20 = 0
  · have he : inv m c t.val (Nat.le_of_lt t.isLt) ⊢ iprop((∃ d, owns (c : Thread nD τ) scratch fullShare d) ∗ (∃ r, prngReg c r)) := by
      by_cases hz : t.val = 0
      · rw [inv_zero m c _ _ hz, entry_eq]
      · rw [inv_pos m c _ _ hz]
        iintro ⟨HS, Hg⟩
        isplitl [HS]; · iexists _; iexact HS
        iexact Hg
    have hr : rows m c t = normed (iblk m c 0 t) (iblk m c 1 t) := by unfold rows; rw [head_first t h0]
    have h5 := leaves_of_after m c 5 (.inl rfl) t
    have h6 := leaves_of_after m c 6 (.inr rfl) t
    rw [after5, head_first t h0] at h5
    rw [after6, head_first t h0] at h6
    rw [hr] at h5 h6 ⊢
    iintro ⟨Hi, Ho, ⟨%d0, H0⟩, ⟨%d1, H1⟩, ⟨%d2, H2⟩, ⟨%d3, H3⟩, ⟨%d4, H4⟩, ⟨%d5, H5⟩, ⟨%d6, H6⟩⟩
    ihave Hi := he $$ Hi
    icases Hi with ⟨HS, Hg⟩
    iapply (run_first c (grid0.coords t) _ _ _ _ _ _ _ _ _ _ _ _ _ _ _ _ ((cond_iff t).2 h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply h5; iexact H5
    iapply h6; iexact H6
  · have hz : t.val ≠ 0 := by omega
    rw [inv_pos m c _ _ hz, rows_pred m c t h0]
    simp only [before_later m c 5 (.inl rfl) t h0, before_later m c 6 (.inr rfl) t h0]
    have h5 := leaves_of_after m c 5 (.inl rfl) t
    have h6 := leaves_of_after m c 6 (.inr rfl) t
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ (fun h => h0 ((cond_iff t).1 h)) (iblk m c 0 t) (iblk m c 1 t) (iblk m c 2 t) (iblk m c 3 t)
      ((dats m 0 c).after 5 t) ((dats m 0 c).after 6 t) (rows m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply h5; iexact H5
    iapply h6; iexact H6

/-- The body table's row at a point. -/
theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body_at m c t) rfl .rfl fun _ => .rfl

theorem enter (c : Dev nD) : Pipeline.ΦA spec0 c ⊢ (dats m 0 c).Φ 0 := by
  rw [show (dats m 0 c).Φ 0 = inv m c 0 (Nat.zero_le _) from rfl, inv_zero m c 0 _ rfl]

theorem leave (c : Dev nD) : (dats m 0 c).Φ (Fin.last cfg0.N) ⊢ Pipeline.ΦA spec0 c := by
  have hN : cfg0.N = 160 := N_0
  rw [show (dats m 0 c).Φ (Fin.last cfg0.N) = inv m c (Fin.last cfg0.N).val (Nat.le_of_lt_succ (Fin.last cfg0.N).isLt) from rfl,
    inv_pos m c _ _ (by rw [Fin.val_last]; omega), entry_eq]
  iintro ⟨HS, Hg⟩
  isplitl [HS]; · iexists _; iexact HS
  iexact Hg

/-! ## The run -/

set_option backward.isDefEq.respectTransparency.types false in
/-- Every run ends with the arrays at what the points wrote back and with every counter at zero. -/
theorem run_counted : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem run : θ_run defs (onTc (τ := τ) (main (F := F))) (s₀ m ρ) (Pipeline.FramePost cfgs (dats m) 0 (V m)) :=
  (θ_run defs _ _).mono (fun _ h => h.1) (run_counted m ρ)

/-- The frame: the arguments end unchanged and every counter is at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_counted m ρ))

end Cert.KernelIdeal.Inproj

end
-- ==== Proof.Inproj.KernelFrame.lean ====
/- The frame of `Kernel`: its program has the text of `KernelIdeal`, so the run of the ideal program, read over bit
   patterns, is its run. -/
module

public import proofs.«01_k».proof.Defs
public import proofs.«01_k».proof.Proof.Gen.Kernel.Launch
public import proofs.«01_k».proof.Proof.Inproj.Frame

@[expose] public section

set_option maxRecDepth 16384

noncomputable section

namespace Cert.Proof

open Idealize.ShloMosaic Idealize.SL.Sem

/-- The two programs' bodies are the same text. -/
theorem kernel_bodies : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

/-- Hence so are their definitions, the pipeline's among them. -/
theorem kernel_defs : Cert.Kernel.defs (F := Bits) = Cert.KernelIdeal.defs (F := Bits) :=
  congrArg (Pipeline.defs _) kernel_bodies

/-- The frame of `Kernel`. -/
theorem kernel_frame : Cert.quiescent_Kernel (hKernel := Cert.Kernel.Gen.facts) := by
  intro m ρ _
  rw [kernel_defs]
  exact Cert.KernelIdeal.Inproj.frame_run (F := Bits) m ρ

end Cert.Proof

end
-- ==== Proof.Inproj.Value.lean ====
/-
  What the projection computes, entry by entry: every row of the residual stream normalised, times a column of the
  projection weight. The main result leaves the 64 timestep columns out, the other two results hold the timestep
  columns, once as a matrix and once eight heads to a group.
-/
module

public import proofs.«01_k».proof.Proof.Inproj.Frame
public import proofs.«01_k».proof.Proof.Gen.ReferenceIdeal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.Inproj

open Cert.KernelIdeal Cert.KernelIdeal.Gen

variable {F : FTy → Type} [FloatOps F]
variable (m : (ℓ : Loc nD τ sig) → Buf (Elt F) ℓ)

/-! ## The windows' blocks -/

/-- The block indices at a point; the weight's windows are placed by element offsets. -/
theorem blocks_at : ∀ t : Fin cfg0.N,
    (win0_0.index t (0 : Fin 2) = t.val / 20 ∧ win0_0.index t (1 : Fin 2) = 0)
    ∧ (win0_1.index t (0 : Fin 2) = 0 ∧ win0_1.index t (1 : Fin 2) = 0)
    ∧ (win0_2.index t (0 : Fin 2) = t.val % 20 * 1024 + (if 10 ≤ t.val % 20 then 64 else 0) ∧ win0_2.index t (1 : Fin 2) = 0)
    ∧ (win0_3.index t (0 : Fin 2) = 10240 ∧ win0_3.index t (1 : Fin 2) = 0)
    ∧ (win0_4.index t (0 : Fin 2) = t.val / 20 ∧ win0_4.index t (1 : Fin 2) = t.val % 20)
    ∧ (win0_5.index t (0 : Fin 2) = t.val / 20 ∧ win0_5.index t (1 : Fin 2) = 0)
    ∧ (win0_6.index t (0 : Fin 3) = 0 ∧ win0_6.index t (1 : Fin 3) = t.val / 20 ∧ win0_6.index t (2 : Fin 3) = 0) :=
  (by decide +kernel : ∀ t : Fin grid0.N, _)

theorem x_arr (c : Dev nD) : V m c main_v0
    = shapeCast S8192x2048 (m ((c : Thread nD τ).loc main_arg0)) shapeCasts_S4x2048x2048_S8192x2048 := by
  dsimp only [V, hostOps0]; after_results; rfl

theorem scale_arr (c : Dev nD) : V m c main_v2
    = shapeCast S1x2048 (shapeCast S2048 (m ((c : Thread nD τ).loc main_arg1)) shapeCasts_S1x2048_S2048) shapeCasts_S2048_S1x2048 := by
  dsimp only [V, hostOps0]; after_results; rfl

theorem weight_arr (c : Dev nD) : V m c main_v4
    = transpose S20544x2048 [1, 0] (shapeCast S2048x20544 (m ((c : Thread nD τ).loc main_arg2)) shapeCasts_S1x2048x20544_S2048x20544)
        transposes_S2048x20544_S20544x2048_1_0 := by
  dsimp only [V, hostOps0]; after_results; rfl

theorem x_entry (x : Vec F S4x2048x2048 .f32) (r : Fin 8192) (d : Fin 2048) :
    shapeCast S8192x2048 x shapeCasts_S4x2048x2048_S8192x2048 (ix2 r d)
      = x (ix3 (⟨r.val / 2048, by omega⟩ : Fin 4) (⟨r.val % 2048, Nat.mod_lt _ (by decide)⟩ : Fin 2048) d) := by
  pointwise

theorem scale_entry (w : Vec F S1x2048 .f32) (z : Fin 1) (d : Fin 2048) :
    shapeCast S1x2048 (shapeCast S2048 w shapeCasts_S1x2048_S2048) shapeCasts_S2048_S1x2048 (ix2 z d) = w (ix2 (0 : Fin 1) d) := by
  obtain rfl : z = 0 := Subsingleton.elim _ _
  pointwise

theorem weight_entry (w : Vec F S1x2048x20544 .f32) (k : Fin 20544) (d : Fin 2048) :
    transpose S20544x2048 [1, 0] (shapeCast S2048x20544 w shapeCasts_S1x2048x20544_S2048x20544)
        transposes_S2048x20544_S20544x2048_1_0 (ix2 k d) = w (ix3 (0 : Fin 1) d k) := by
  pointwise

/-- The rows' block at a point. -/
theorem x_block (c : Dev nD) (t : Fin cfg0.N) (r : Fin 1024) (d : Fin 2048) :
    (iblk m c 0 t : Vec F S1024x2048 .f32) (ix2 r d)
      = m ((c : Thread nD τ).loc main_arg0)
          (ix3 (⟨(t.val / 20 * 1024 + r.val) / 2048, by have := points t; omega⟩ : Fin 4)
            (⟨(t.val / 20 * 1024 + r.val) % 2048, Nat.mod_lt _ (by decide)⟩ : Fin 2048) d : S4x2048x2048.Idx) := by
  obtain ⟨⟨e0, e1⟩, -⟩ := blocks_at t
  have ht := points t
  unfold iblk
  rw [View.read_apply]
  show V m c main_v0 _ = _
  rw [x_arr]
  have he : (((cfg0.win 0).blk t).view.emb (ix2 r d) : S8192x2048.Idx)
      = ix2 (⟨t.val / 20 * 1024 + r.val, by omega⟩ : Fin 8192) d := by
    funext a
    apply Fin.ext
    match a with
    | ⟨0, _⟩ => show win0_0.index t 0 * 1024 + 1 * r.val = t.val / 20 * 1024 + r.val; rw [e0]; omega
    | ⟨1, _⟩ => show win0_0.index t 1 * 2048 + 1 * d.val = d.val; rw [e1]; omega
  exact (congrArg _ he).trans (x_entry _ _ _)

/-- The scale's block. -/
theorem scale_block (c : Dev nD) (t : Fin cfg0.N) (z : Fin 1) (d : Fin 2048) :
    (iblk m c 1 t : Vec F S1x2048 .f32) (ix2 z d)
      = m ((c : Thread nD τ).loc main_arg1) (ix2 (0 : Fin 1) d : S1x2048.Idx) := by
  obtain ⟨-, ⟨e0, e1⟩, -⟩ := blocks_at t
  unfold iblk
  rw [View.read_apply]
  show V m c main_v2 _ = _
  rw [scale_arr]
  have he : (((cfg0.win 1).blk t).view.emb (ix2 z d) : S1x2048.Idx) = ix2 z d := by
    funext a
    apply Fin.ext
    match a with
    | ⟨0, _⟩ => show win0_1.index t 0 * 1 + 1 * z.val = z.val; rw [e0]; omega
    | ⟨1, _⟩ => show win0_1.index t 1 * 2048 + 1 * d.val = d.val; rw [e1]; omega
  exact (congrArg _ he).trans (scale_entry _ _ _)

/-- The weight column a column of the main result is computed from: the 64 timestep columns are passed over. -/
def mainCol (j : Fin 20480) : Fin 20544 := ⟨j.val + (if 10240 ≤ j.val then 64 else 0), by split <;> omega⟩

/-- The weight's block at a point. -/
theorem weight_block (c : Dev nD) (t : Fin cfg0.N) (l : Fin 1024) (d : Fin 2048) :
    (iblk m c 2 t : Vec F S1024x2048 .f32) (ix2 l d)
      = m ((c : Thread nD τ).loc main_arg2)
          (ix3 (0 : Fin 1) d (mainCol ⟨t.val % 20 * 1024 + l.val, by omega⟩) : S1x2048x20544.Idx) := by
  obtain ⟨-, -, ⟨e0, e1⟩, -⟩ := blocks_at t
  unfold iblk
  rw [View.read_apply]
  show V m c main_v4 _ = _
  rw [weight_arr]
  have he : (((cfg0.win 2).blk t).view.emb (ix2 l d) : S20544x2048.Idx)
      = ix2 (mainCol ⟨t.val % 20 * 1024 + l.val, by omega⟩) d := by
    funext a
    apply Fin.ext
    match a with
    | ⟨0, _⟩ =>
      show win0_2.index t 0 + 1 * l.val = t.val % 20 * 1024 + l.val + (if 10240 ≤ t.val % 20 * 1024 + l.val then 64 else 0)
      rw [e0]
      by_cases h : 10 ≤ t.val % 20
      · rw [if_pos h, if_pos (by omega)]; omega
      · rw [if_neg h, if_neg (by omega)]; omega
    | ⟨1, _⟩ => show win0_2.index t 1 + 1 * d.val = d.val; rw [e1]; omega
  exact (congrArg _ he).trans (weight_entry _ _ _)

/-- The timestep weight's block. -/
theorem step_block (c : Dev nD) (t : Fin cfg0.N) (l : Fin 128) (d : Fin 2048) :
    (iblk m c 3 t : Vec F S128x2048 .f32) (ix2 l d)
      = m ((c : Thread nD τ).loc main_arg2)
          (ix3 (0 : Fin 1) d (⟨10240 + l.val, by omega⟩ : Fin 20544) : S1x2048x20544.Idx) := by
  obtain ⟨-, -, -, ⟨e0, e1⟩, -⟩ := blocks_at t
  unfold iblk
  rw [View.read_apply]
  show V m c main_v4 _ = _
  rw [weight_arr]
  have he : (((cfg0.win 3).blk t).view.emb (ix2 l d) : S20544x2048.Idx)
      = ix2 (⟨10240 + l.val, by omega⟩ : Fin 20544) d := by
    funext a
    apply Fin.ext
    match a with
    | ⟨0, _⟩ => show win0_3.index t 0 + 1 * l.val = 10240 + l.val; rw [e0]; omega
    | ⟨1, _⟩ => show win0_3.index t 1 + 1 * d.val = d.val; rw [e1]; omega
  exact (congrArg _ he).trans (weight_entry _ _ _)

end Cert.KernelIdeal.Inproj

namespace Cert.KernelIdeal.InprojIdeal

open Cert.KernelIdeal Cert.KernelIdeal.Gen Cert.KernelIdeal.Inproj

/-! ## The function computed -/

/-- A normalised entry of the residual stream, its batch and position joined into one row index. -/
def normAt (x : FVec Ideal S4x2048x2048 .f32) (w : FVec Ideal S1x2048 .f32) (b : Fin 4) (s : Fin 2048) (d : Fin 2048) : EReal :=
  x (ix3 b s d) * Ideal.rsqrt (Ideal.div (∑ k : Fin 2048, x (ix3 b s k) * x (ix3 b s k)) (Ideal.ofBits FTy.f32 1157627904#32)
    + Ideal.ofBits FTy.f32 897988541#32) * w (ix2 (0 : Fin 1) d)

/-- A normalised row times a column of the projection weight. -/
def prodAt (x : FVec Ideal S4x2048x2048 .f32) (w : FVec Ideal S1x2048 .f32) (p : FVec Ideal S1x2048x20544 .f32)
    (r : Fin 8192) (k : Fin 20544) : EReal :=
  ∑ d : Fin 2048, normAt x w (⟨r.val / 2048, by omega⟩ : Fin 4) (⟨r.val % 2048, Nat.mod_lt _ (by decide)⟩ : Fin 2048) d * p (ix3 (0 : Fin 1) d k)

/-- The main result. -/
def mainAt (x : FVec Ideal S4x2048x2048 .f32) (w : FVec Ideal S1x2048 .f32) (p : FVec Ideal S1x2048x20544 .f32) :
    FVec Ideal S8192x20480 .bf16 := fun i => prodAt x w p (i 0) (mainCol (i 1))

/-- The timestep columns as a matrix. -/
def stepAt (x : FVec Ideal S4x2048x2048 .f32) (w : FVec Ideal S1x2048 .f32) (p : FVec Ideal S1x2048x20544 .f32) :
    FVec Ideal S8192x128 .f32 := fun i => prodAt x w p (i 0) (⟨10240 + (i 1).val, by have : (i 1).val < 128 := (i 1).isLt; omega⟩ : Fin 20544)

/-- The timestep columns, eight heads to a group. -/
def groupAt (x : FVec Ideal S4x2048x2048 .f32) (w : FVec Ideal S1x2048 .f32) (p : FVec Ideal S1x2048x20544 .f32) :
    FVec Ideal S8x8192x8 .f32 := fun i => prodAt x w p (i 1)
      (⟨10240 + ((i 0).val * 8 + (i 2).val), by have : (i 0).val < 8 := (i 0).isLt; have : (i 2).val < 8 := (i 2).isLt; omega⟩ : Fin 20544)

/-! ## The kernel's side -/

theorem norm_pay (x : FVec Ideal S256x2048 .f32) (w : FVec Ideal S1x2048 .f32) (r : Fin 256) (d : Fin 2048) :
    k0_pay5 (F := Ideal) x w (ix2 r d)
      = (x (ix2 r d) * Ideal.rsqrt (Ideal.div (∑ k : Fin 2048, x (ix2 r k) * x (ix2 r k)) (Ideal.ofBits FTy.f32 1157627904#32)
          + Ideal.ofBits FTy.f32 897988541#32) * w (ix2 (0 : Fin 1) d) : EReal) := by
  unfold_payloads
  pointwise

theorem main_pay (p : FVec Ideal S1024x2048 .f32) (h : FVec Ideal S1024x2048 .bf16) (r l : Fin 1024) :
    k0_pay4 (F := Ideal) p h (ix2 r l) = (∑ d : Fin 2048, h (ix2 r d) * p (ix2 l d) : EReal) := by
  unfold_payloads
  pointwise

theorem step_pay (p : FVec Ideal S128x2048 .f32) (h : FVec Ideal S1024x2048 .bf16) (r : Fin 1024) (l : Fin 128) :
    k0_pay6 (F := Ideal) p h (ix2 r l) = (∑ d : Fin 2048, h (ix2 r d) * p (ix2 l d) : EReal) := by
  unfold_payloads
  pointwise

variable (m : (ℓ : Loc nD τ sig) → Buf (Elt Ideal) ℓ) (ρ : Dev nD → PrngReg)

/-- The scratch's entries at a point. -/
theorem rows_entry (c : Dev nD) (t : Fin cfg0.N) (r : Fin 1024) (d : Fin 2048) :
    rows m c t (ix2 r d) = normAt (m ((c : Thread nD τ).loc main_arg0)) (m ((c : Thread nD τ).loc main_arg1))
      (⟨(t.val / 20 * 1024 + r.val) / 2048, by have := points t; omega⟩ : Fin 4)
      (⟨(t.val / 20 * 1024 + r.val) % 2048, Nat.mod_lt _ (by decide)⟩ : Fin 2048) d := by
  have hh : (head t).val / 20 = t.val / 20 := by show t.val / 20 * 20 / 20 = t.val / 20; omega
  have hx : ∀ d' : Fin 2048, rowsFrom (F := Ideal) (iblk m c 0 (head t)) (r.val / 256) (by omega) (ix2 (⟨r.val % 256, Nat.mod_lt _ (by decide)⟩ : Fin 256) d')
      = m ((c : Thread nD τ).loc main_arg0)
          (ix3 (⟨(t.val / 20 * 1024 + r.val) / 2048, by have := points t; omega⟩ : Fin 4)
            (⟨(t.val / 20 * 1024 + r.val) % 2048, Nat.mod_lt _ (by decide)⟩ : Fin 2048) d' : S4x2048x2048.Idx) := by
    intro d'
    have hr : r.val / 256 * 256 + r.val % 256 = r.val := by omega
    have e : (ix2 (⟨r.val / 256 * 256 + r.val % 256, by omega⟩ : Fin 1024) d' : S1024x2048.Idx) = ix2 r d' := by simp only [hr]
    show (iblk m c 0 (head t) : Vec Ideal S1024x2048 .f32) (ix2 (⟨r.val / 256 * 256 + r.val % 256, by omega⟩ : Fin 1024) d') = _
    rw [e]
    refine (x_block m c (head t) r d').trans ?_
    simp only [hh]
  unfold rows
  rw [normed_at _ _ (r.val / 256) (by omega) (r.val % 256) (Nat.mod_lt _ (by decide)) (ix2 r d) rfl rfl]
  refine (norm_pay _ _ (⟨r.val % 256, Nat.mod_lt _ (by decide)⟩ : Fin 256) d).trans ?_
  unfold normAt
  simp only [hx]
  exact congrArg (_ * ·) (scale_block m c (head t) 0 d)

/-- An entry of a row block's product with weight rows that hold a column of the weight. -/
theorem sum_entry (c : Dev nD) (t : Fin cfg0.N) (r : Fin 1024) (k : Fin 20544) (q : Fin 2048 → EReal)
    (hq : ∀ d, q d = m ((c : Thread nD τ).loc main_arg2) (ix3 (0 : Fin 1) d k : S1x2048x20544.Idx)) :
    (∑ d : Fin 2048, rows m c t (ix2 r d) * q d : EReal)
      = prodAt (m ((c : Thread nD τ).loc main_arg0)) (m ((c : Thread nD τ).loc main_arg1)) (m ((c : Thread nD τ).loc main_arg2))
          (⟨t.val / 20 * 1024 + r.val, by have := points t; omega⟩ : Fin 8192) k := by
  unfold prodAt
  refine Finset.sum_congr rfl fun d _ => ?_
  rw [hq, rows_entry]

theorem flushed_main (c : Dev nD) (t : Fin cfg0.N) :
    (dats m 0 c).flushed 4 t = ((cfg0.win 4).blk t).view.read (Elt Ideal)
      (mainAt (m ((c : Thread nD τ).loc main_arg0)) (m ((c : Thread nD τ).loc main_arg1)) (m ((c : Thread nD τ).loc main_arg2))
        : Buf (Elt Ideal) ((c : Thread nD τ).loc main_v5_0)) := by
  show (cfg0.win 4).cut (grid0.coords t) ((dats m 0 c).after 4 t) = _
  rw [after4]
  obtain ⟨-, -, -, -, ⟨e0, e1⟩, -⟩ := blocks_at t
  have ht := points t
  funext y
  obtain ⟨r, l, rfl⟩ : ∃ (r l : Fin 1024), y = ix2 r l := ⟨y 0, y 1, eq_ix2 y⟩
  rw [View.read_apply]
  have he : (((cfg0.win 4).blk t).view.emb (ix2 r l) : S8192x20480.Idx)
      = ix2 (⟨t.val / 20 * 1024 + r.val, by omega⟩ : Fin 8192) (⟨t.val % 20 * 1024 + l.val, by omega⟩ : Fin 20480) := by
    funext a
    apply Fin.ext
    match a with
    | ⟨0, _⟩ => show win0_4.index t 0 * 1024 + 1 * r.val = t.val / 20 * 1024 + r.val; rw [e0]; omega
    | ⟨1, _⟩ => show win0_4.index t 1 * 1024 + 1 * l.val = t.val % 20 * 1024 + l.val; rw [e1]; omega
  show k0_pay4 (F := Ideal) (iblk m c 2 t) (rows m c t) (ix2 r l) = mainAt _ _ _ _
  rw [he]
  refine (main_pay _ _ _ _).trans ?_
  exact sum_entry m c t r (mainCol ⟨t.val % 20 * 1024 + l.val, by omega⟩) _ fun d => weight_block m c t l d

theorem step_entry (c : Dev nD) (t : Fin cfg0.N) (r : Fin 1024) (l : Fin 128) :
    k0_pay6 (F := Ideal) (iblk m c 3 (head t)) (rows m c t) (ix2 r l)
      = prodAt (m ((c : Thread nD τ).loc main_arg0)) (m ((c : Thread nD τ).loc main_arg1)) (m ((c : Thread nD τ).loc main_arg2))
          (⟨t.val / 20 * 1024 + r.val, by have := points t; omega⟩ : Fin 8192) (⟨10240 + l.val, by omega⟩ : Fin 20544) :=
  (step_pay _ _ _ _).trans (sum_entry m c t r _ _ fun d => step_block m c (head t) l d)

theorem flushed_step (c : Dev nD) (t : Fin cfg0.N) :
    (dats m 0 c).flushed 5 t = ((cfg0.win 5).blk t).view.read (Elt Ideal)
      (stepAt (m ((c : Thread nD τ).loc main_arg0)) (m ((c : Thread nD τ).loc main_arg1)) (m ((c : Thread nD τ).loc main_arg2))
        : Buf (Elt Ideal) ((c : Thread nD τ).loc main_v5_1)) := by
  show (cfg0.win 5).cut (grid0.coords t) ((dats m 0 c).after 5 t) = _
  rw [after5]
  obtain ⟨-, -, -, -, -, ⟨e0, e1⟩, -⟩ := blocks_at t
  have ht := points t
  funext y
  obtain ⟨r, l, rfl⟩ : ∃ (r : Fin 1024) (l : Fin 128), y = ix2 r l := ⟨y 0, y 1, eq_ix2 y⟩
  rw [View.read_apply]
  have he : (((cfg0.win 5).blk t).view.emb (ix2 r l) : S8192x128.Idx)
      = ix2 (⟨t.val / 20 * 1024 + r.val, by omega⟩ : Fin 8192) l := by
    funext a
    apply Fin.ext
    match a with
    | ⟨0, _⟩ => show win0_5.index t 0 * 1024 + 1 * r.val = t.val / 20 * 1024 + r.val; rw [e0]; omega
    | ⟨1, _⟩ => show win0_5.index t 1 * 128 + 1 * l.val = l.val; rw [e1]; omega
  show k0_pay6 (F := Ideal) (iblk m c 3 (head t)) (rows m c t) (ix2 r l) = stepAt _ _ _ _
  rw [he]
  exact step_entry m c t r l

theorem flushed_group (c : Dev nD) (t : Fin cfg0.N) :
    (dats m 0 c).flushed 6 t = ((cfg0.win 6).blk t).view.read (Elt Ideal)
      (groupAt (m ((c : Thread nD τ).loc main_arg0)) (m ((c : Thread nD τ).loc main_arg1)) (m ((c : Thread nD τ).loc main_arg2))
        : Buf (Elt Ideal) ((c : Thread nD τ).loc main_v5_2)) := by
  show (cfg0.win 6).cut (grid0.coords t) ((dats m 0 c).after 6 t) = _
  rw [after6]
  obtain ⟨-, -, -, -, -, -, ⟨e0, e1, e2⟩⟩ := blocks_at t
  have ht := points t
  funext y
  obtain ⟨g, r, l, rfl⟩ : ∃ (g : Fin 8) (r : Fin 1024) (l : Fin 8), y = ix3 g r l := ⟨y 0, y 1, y 2, eq_ix3 y⟩
  rw [View.read_apply]
  have he : (((cfg0.win 6).blk t).view.emb (ix3 g r l) : S8x8192x8.Idx)
      = ix3 g (⟨t.val / 20 * 1024 + r.val, by omega⟩ : Fin 8192) l := by
    funext a
    apply Fin.ext
    match a with
    | ⟨0, _⟩ => show win0_6.index t 0 * 8 + 1 * g.val = g.val; rw [e0]; omega
    | ⟨1, _⟩ => show win0_6.index t 1 * 1024 + 1 * r.val = t.val / 20 * 1024 + r.val; rw [e1]; omega
    | ⟨2, _⟩ => show win0_6.index t 2 * 8 + 1 * l.val = l.val; rw [e2]; omega
  show grouped (F := Ideal) (iblk m c 3 (head t)) (rows m c t) (ix3 g r l) = groupAt _ _ _ _
  rw [he]
  exact step_entry m c t r (⟨g.val * 8 + l.val, by omega⟩ : Fin 128)

/-! ## The arrays after the run -/

theorem final_main (c : Dev nD) : (dats m 0 c).arrAt 4 cfg0.N
    = (mainAt (m ((c : Thread nD τ).loc main_arg0)) (m ((c : Thread nD τ).loc main_arg1)) (m ((c : Thread nD τ).loc main_arg2))
        : Buf (Elt Ideal) ((c : Thread nD τ).loc main_v5_0)) :=
  (dats m 0 c).arrAt_eq_of_cover 4 _ (fun t _ => flushed_main m c t) (fun i => by
    have h0 : (i 0).val < 8192 := (i 0).isLt
    have h1 : (i 1).val < 20480 := (i 1).isLt
    have hN : cfg0.N = 160 := N_0
    let t : Fin cfg0.N := ⟨(i 0).val / 1024 * 20 + (i 1).val / 1024, by omega⟩
    have tv : t.val = (i 0).val / 1024 * 20 + (i 1).val / 1024 := rfl
    obtain ⟨-, -, -, -, ⟨e0, e1⟩, -⟩ := blocks_at t
    refine ⟨t, flush0_4 t, ?_⟩
    show i ∈ ((View.whole main_v5_0).slice (win0_4.rect t)).set
    rw [View.set_slice_whole, Rect.mem_set_unit]
    intro a
    match a with
    | ⟨0, _⟩ => show win0_4.index t (0 : Fin 2) * 1024 ≤ (i 0).val ∧ (i 0).val < win0_4.index t (0 : Fin 2) * 1024 + 1024; omega
    | ⟨1, _⟩ => show win0_4.index t (1 : Fin 2) * 1024 ≤ (i 1).val ∧ (i 1).val < win0_4.index t (1 : Fin 2) * 1024 + 1024; omega)

theorem final_step (c : Dev nD) : (dats m 0 c).arrAt 5 cfg0.N
    = (stepAt (m ((c : Thread nD τ).loc main_arg0)) (m ((c : Thread nD τ).loc main_arg1)) (m ((c : Thread nD τ).loc main_arg2))
        : Buf (Elt Ideal) ((c : Thread nD τ).loc main_v5_1)) :=
  (dats m 0 c).arrAt_eq_of_cover 5 _ (fun t _ => flushed_step m c t) (fun i => by
    have h0 : (i 0).val < 8192 := (i 0).isLt
    have h1 : (i 1).val < 128 := (i 1).isLt
    have hN : cfg0.N = 160 := N_0
    let t : Fin cfg0.N := ⟨(i 0).val / 1024 * 20 + 19, by omega⟩
    have tv : t.val = (i 0).val / 1024 * 20 + 19 := rfl
    obtain ⟨-, -, -, -, -, ⟨e0, e1⟩, -⟩ := blocks_at t
    refine ⟨t, (flush0_5 t).2 (by omega), ?_⟩
    show i ∈ ((View.whole main_v5_1).slice (win0_5.rect t)).set
    rw [View.set_slice_whole, Rect.mem_set_unit]
    intro a
    match a with
    | ⟨0, _⟩ => show win0_5.index t (0 : Fin 2) * 1024 ≤ (i 0).val ∧ (i 0).val < win0_5.index t (0 : Fin 2) * 1024 + 1024; omega
    | ⟨1, _⟩ => show win0_5.index t (1 : Fin 2) * 128 ≤ (i 1).val ∧ (i 1).val < win0_5.index t (1 : Fin 2) * 128 + 128; omega)

theorem final_group (c : Dev nD) : (dats m 0 c).arrAt 6 cfg0.N
    = (groupAt (m ((c : Thread nD τ).loc main_arg0)) (m ((c : Thread nD τ).loc main_arg1)) (m ((c : Thread nD τ).loc main_arg2))
        : Buf (Elt Ideal) ((c : Thread nD τ).loc main_v5_2)) :=
  (dats m 0 c).arrAt_eq_of_cover 6 _ (fun t _ => flushed_group m c t) (fun i => by
    have h0 : (i 0).val < 8 := (i 0).isLt
    have h1 : (i 1).val < 8192 := (i 1).isLt
    have h2 : (i 2).val < 8 := (i 2).isLt
    have hN : cfg0.N = 160 := N_0
    let t : Fin cfg0.N := ⟨(i 1).val / 1024 * 20 + 19, by omega⟩
    have tv : t.val = (i 1).val / 1024 * 20 + 19 := rfl
    obtain ⟨-, -, -, -, -, -, ⟨e0, e1, e2⟩⟩ := blocks_at t
    refine ⟨t, (flush0_6 t).2 (by omega), ?_⟩
    show i ∈ ((View.whole main_v5_2).slice (win0_6.rect t)).set
    rw [View.set_slice_whole, Rect.mem_set_unit]
    intro a
    match a with
    | ⟨0, _⟩ => show win0_6.index t (0 : Fin 3) * 8 ≤ (i 0).val ∧ (i 0).val < win0_6.index t (0 : Fin 3) * 8 + 8; omega
    | ⟨1, _⟩ => show win0_6.index t (1 : Fin 3) * 1024 ≤ (i 1).val ∧ (i 1).val < win0_6.index t (1 : Fin 3) * 1024 + 1024; omega
    | ⟨2, _⟩ => show win0_6.index t (2 : Fin 3) * 8 ≤ (i 2).val ∧ (i 2).val < win0_6.index t (2 : Fin 3) * 8 + 8; omega)

/-- Every run of the kernel ends with the three results at these functions and the arguments unchanged. -/
theorem run_value : θ_run defs (onTc (τ := τ) (main (F := Ideal))) ⟨m, fun _ => 0, ρ⟩ fun r => ∀ c : Dev nD,
      r.2.mem ((c : Thread nD τ).loc main_v5_0) = mainAt (m ((c : Thread nD τ).loc main_arg0)) (m ((c : Thread nD τ).loc main_arg1)) (m ((c : Thread nD τ).loc main_arg2))
      ∧ r.2.mem ((c : Thread nD τ).loc main_v5_1) = stepAt (m ((c : Thread nD τ).loc main_arg0)) (m ((c : Thread nD τ).loc main_arg1)) (m ((c : Thread nD τ).loc main_arg2))
      ∧ r.2.mem ((c : Thread nD τ).loc main_v5_2) = groupAt (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 4).trans (final_main m c), ((h.1 c).1 5).trans (final_step m c), ((h.1 c).1 6).trans (final_group m c), h.2 c⟩)
    (θ_run_and (run m ρ) (frame_of m ρ (dats m) (A_eq m) (run m ρ)))

end Cert.KernelIdeal.InprojIdeal

end
-- ==== Proof.Inproj.Claim.lean ====
/-
  The plain reference of the projection computes the same three functions, and so the kernel and the reference agree.
-/
module

public import proofs.«01_k».proof.Proof.Inproj.Value
public import proofs.«01_k».proof.Defs

@[expose] public section

set_option maxRecDepth 16384

noncomputable section

open Idealize.ShloMosaic Idealize.ShloMosaic.TcCoe Idealize.SL.Sem

namespace Cert.ReferenceIdeal.Ideal

open Cert.ReferenceIdeal Cert.ReferenceIdeal.Gen
open Cert.KernelIdeal.Inproj (mainCol)
open Cert.KernelIdeal.InprojIdeal (normAt prodAt mainAt stepAt groupAt)

/-- The reference's normalised rows. -/
def refNorm (x : FVec Ideal S4x2048x2048 .f32) (w : FVec Ideal S1x2048 .f32) : FVec Ideal S4x2048x2048 .f32 :=
  mulf (mulf x (broadcastInDim S4x2048x2048 ![0, 1, 2] bcast_S4x2048x1_S4x2048x2048_0_1_2
      (Host.rsqrt (addf (Host.divf (broadcastInDim S4x2048x1 ![0, 1] bcast_S4x2048_S4x2048x1_0_1
          (Host.reduceAdd (mulf x x) (constant S_ .f32 0x00000000#32) reducesTo_S4x2048x2048_S4x2048_d2 h_S_))
        (broadcastInDim S4x2048x1 ![] bcast_S_S4x2048x1 (constant S_ .f32 0x45000000#32)))
        (broadcastInDim S4x2048x1 ![] bcast_S_S4x2048x1 (constant S_ .f32 0x358637BD#32))))))
    (broadcastInDim S4x2048x2048 ![0, 1, 2] bcast_S1x1x2048_S4x2048x2048_0_1_2
      (broadcastInDim S1x1x2048 ![2] bcast_S2048_S1x1x2048_2 (shapeCast _ w shapeCasts_S1x2048_S2048)))

/-- The reference's product, before any column is taken out of it. -/
def refProd (h : FVec Ideal S4x2048x2048 .f32) (p : FVec Ideal S1x2048x20544 .f32) : FVec Ideal S8192x20544 .f32 :=
  shapeCast _ (Host.dotGeneral dot_S4x2048x2048_S2048x20544_S4x2048x20544_2_0_01_1_n_n none h
    (shapeCast _ p shapeCasts_S1x2048x20544_S2048x20544)) shapeCasts_S4x2048x20544_S8192x20544

theorem norm_entry (x : FVec Ideal S4x2048x2048 .f32) (w : FVec Ideal S1x2048 .f32) (b : Fin 4) (s d : Fin 2048) :
    refNorm x w (ix3 b s d) = normAt x w b s d := by
  unfold refNorm normAt
  pointwise

theorem prod_entry (h : FVec Ideal S4x2048x2048 .f32) (p : FVec Ideal S1x2048x20544 .f32) (r : Fin 8192) (k : Fin 20544) :
    refProd h p (ix2 r k) = (∑ d : Fin 2048, h (ix3 (⟨r.val / 2048, by omega⟩ : Fin 4) (⟨r.val % 2048, Nat.mod_lt _ (by decide)⟩ : Fin 2048) d)
      * p (ix3 (0 : Fin 1) d k) : EReal) := by
  unfold refProd
  pointwise

theorem entry (x : FVec Ideal S4x2048x2048 .f32) (w : FVec Ideal S1x2048 .f32) (p : FVec Ideal S1x2048x20544 .f32)
    (r : Fin 8192) (k : Fin 20544) : refProd (refNorm x w) p (ix2 r k) = prodAt x w p r k := by
  refine (prod_entry _ _ _ _).trans ?_
  unfold prodAt
  exact Finset.sum_congr rfl fun d _ => congrArg (· * _) (norm_entry _ _ _ _ _)

theorem main_entry (q : FVec Ideal S8192x20544 .f32) (r : Fin 8192) (j : Fin 20480) :
    truncf .bf16 (concatenate S8192x20480 1 [⟨S8192x10240, (extractStridedSlice S8192x10240 ![0, 0] q slices_S8192x20544_S8192x10240_0_0)⟩,
        ⟨S8192x10240, (extractStridedSlice S8192x10240 ![0, 10304] q slices_S8192x20544_S8192x10240_0_10304)⟩]
        concatenates_S8192x10240_S8192x10240_S8192x20480_d1) bitsLt_bf16_f32 (ix2 r j)
      = q (ix2 r (mainCol j)) := by
  pointwise
  unfold mainCol
  by_cases h : j.val < 10240
  · rw [dif_pos h]
    exact congrArg (fun k => q (ix2 r k)) (Fin.ext (by show j.val = j.val + (if 10240 ≤ j.val then 64 else 0); rw [if_neg (by omega)]; rfl))
  · rw [dif_neg h]
    exact congrArg (fun k => q (ix2 r k))
      (Fin.ext (by show 10304 + (j.val - 10240) = j.val + (if 10240 ≤ j.val then 64 else 0); rw [if_pos (by omega)]; omega))

theorem step_entry (q : FVec Ideal S8192x20544 .f32) (r : Fin 8192) (j : Fin 128) :
    extractStridedSlice S8192x128 ![0, 10240] q slices_S8192x20544_S8192x128_0_10240 (ix2 r j)
      = q (ix2 r (⟨10240 + j.val, by omega⟩ : Fin 20544)) := by
  pointwise

theorem group_entry (q : FVec Ideal S8192x20544 .f32) (g : Fin 8) (r : Fin 8192) (l : Fin 8) :
    transpose S8x8192x8 [1, 0, 2] (shapeCast S8192x8x8 (extractStridedSlice S8192x64 ![0, 10240] q slices_S8192x20544_S8192x64_0_10240)
        shapeCasts_S8192x64_S8192x8x8) transposes_S8192x8x8_S8x8192x8_1_0_2 (ix3 g r l)
      = q (ix2 r (⟨10240 + (g.val * 8 + l.val), by omega⟩ : Fin 20544)) := by
  pointwise

variable (m : (ℓ : Loc nD τ sig) → Buf (Elt Ideal) ℓ) (ρ : Dev nD → PrngReg)

/-- Every run of the reference ends with the three results at the same functions and the arguments unchanged. -/
theorem run_value : θ_run defs (onTc (τ := τ) (main (F := Ideal))) ⟨m, fun _ => 0, ρ⟩ fun r => ∀ c : Dev nD,
      r.2.mem ((c : Thread nD τ).loc main_v22) = mainAt (m ((c : Thread nD τ).loc main_arg0)) (m ((c : Thread nD τ).loc main_arg1)) (m ((c : Thread nD τ).loc main_arg2))
      ∧ r.2.mem ((c : Thread nD τ).loc main_v21) = stepAt (m ((c : Thread nD τ).loc main_arg0)) (m ((c : Thread nD τ).loc main_arg1)) (m ((c : Thread nD τ).loc main_arg2))
      ∧ r.2.mem ((c : Thread nD τ).loc main_v24) = groupAt (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    refine ⟨(h c).1.trans ?_, (h c).2.1.trans ?_, (h c).2.2.1.trans ?_, (h c).2.2.2⟩
    · funext i
      obtain ⟨r, j, rfl⟩ : ∃ (r : Fin 8192) (j : Fin 20480), i = ix2 r j := ⟨i 0, i 1, eq_ix2 i⟩
      exact (main_entry (refProd (refNorm _ _) _) r j).trans (entry _ _ _ _ _)
    · funext i
      obtain ⟨r, j, rfl⟩ : ∃ (r : Fin 8192) (j : Fin 128), i = ix2 r j := ⟨i 0, i 1, eq_ix2 i⟩
      exact (step_entry (refProd (refNorm _ _) _) r j).trans (entry _ _ _ _ _)
    · funext i
      obtain ⟨g, r, l, rfl⟩ : ∃ (g : Fin 8) (r : Fin 8192) (l : Fin 8), i = ix3 g r l := ⟨i 0, i 1, i 2, eq_ix3 i⟩
      exact (group_entry (refProd (refNorm _ _) _) g r l).trans (entry _ _ _ _ _))
    (Cert.ReferenceIdeal.Value.run m ρ)

end Cert.ReferenceIdeal.Ideal

namespace Cert.Proof

/-- The projection and its reference leave the same three results. -/
theorem inproj_claim : Cert.algebraic_KernelIdeal_ReferenceIdeal (hKernelIdeal := Cert.KernelIdeal.Gen.facts)
    (hReferenceIdeal := Cert.ReferenceIdeal.Gen.facts) := by
  intro m g m' g' _ hm
  refine ⟨fun c => _, fun c => _, fun c => _, Cert.KernelIdeal.InprojIdeal.run_value m g, ?_⟩
  refine (θ_run _ _ _).mono (fun r h c => ?_) (Cert.ReferenceIdeal.Ideal.run_value m' g')
  obtain ⟨h0, h1, h2, h3⟩ := h c
  obtain ⟨e0, e1, e2⟩ := hm c
  rw [e0, e1, e2] at h0 h1 h2
  exact ⟨h0, h1, h2, h3⟩

end Cert.Proof

end
-- ==== Proof.DownValue.lean ====
/-
  What the last call computes: the residual plus the product of the activations with the second feed-forward weight.
  At every grid point the scratch holds the weight block of the point's column block, so the written block is the
  residual's block plus the product of the activations' row block with that weight block.
-/
module

public import proofs.«01_k».proof.Proof.Gen.DownIdeal.Value
public import proofs.«01_k».proof.Proof.Gen.DownRefIdeal.Run
public import proofs.«01_k».proof.Defs
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen

variable {F : FTy → Type} [FloatOps F]
variable (m : (ℓ : Loc nD τ sig) → Buf (Elt F) ℓ) (ρ : Dev nD → PrngReg)

/-- The two zero offsets of a whole load. -/
theorem zero_off : (![0, 0] : Fin 2 → Nat) = fun _ => 0 := funext fun a => by fin_cases a <;> rfl

/-- At a first point of a column block the body rounds the weight block into the scratch and writes the output block. -/
theorem fresh (c : Dev nD) (t : Fin cfg0.N) (h : t.val % 16 = 0) :
    outsAt0 m c t.val t.isLt
      = (k0_pay2 (iblk m c 2 t) (iblk m c 0 t) (k0_pay1 (iblk m c 1 t)), k0_pay1 (iblk m c 1 t)) := by
  rw [outsAt0_A m c t h]
  refine Prod.ext ?_ ?_
  · dsimp only
    unfold out0_A_3
    rw [View.read_writes_eq_canon _ _ _ (cover0_A_3 c _ _ _ _ _ _ _ _ _ _ _ _ _ _ _)]
    unfold kernelRun0_A
    dsimp only
    sl_unfold_words
    rw [View.canon_unit_zero zero_off, View.readCov_unit_zero (S := S5632x512) _ zero_off]
    simp only [View.readAt_eq_ld, Memref.IsWhole.read_unread, View.ld_unit_zero (S := S512x512) zero_off,
      View.ld_unit_zero (S := S512x5632) zero_off, View.ld_unit_zero (S := S5632x512) zero_off]
  · dsimp only
    unfold sout0_A_0
    rw [View.read_writes_eq_canon _ _ _ (scover0_A_0 c _ _ _ _ _ _ _ _ _ _ _ _ _ _ _)]
    unfold kernelRun0_A
    dsimp only
    sl_unfold_words
    rw [View.canon_unit_zero zero_off]
    simp only [View.readAt_eq_ld, Memref.IsWhole.read_unread, View.ld_unit_zero (S := S5632x512) zero_off]

/-- At a later point the body multiplies with the scratch as the point before left it. -/
theorem later (c : Dev nD) (t : Fin cfg0.N) (h : ¬t.val % 16 = 0) (s : Vec F S5632x512 .bf16)
    (hs : (outsAt0 m c (t.val - 1) (Nat.lt_of_le_of_lt (Nat.sub_le _ _) t.isLt)).2 = s) :
    outsAt0 m c t.val t.isLt = (k0_pay2 (iblk m c 2 t) (iblk m c 0 t) s, s) := by
  rw [outsAt0_B m c t h, hs]
  refine Prod.ext ?_ ?_
  · dsimp only
    unfold out0_B_3
    rw [View.read_writes_eq_canon _ _ _ (cover0_B_3 c _ _ _ _ _ _ _ _ _ _ _ _ _ _ _ _)]
    unfold kernelRun0_B
    dsimp only
    sl_unfold_words
    rw [View.canon_unit_zero zero_off]
    simp only [View.readAt_eq_ld, Memref.IsWhole.read_unread, View.ld_unit_zero (S := S512x512) zero_off,
      View.ld_unit_zero (S := S512x5632) zero_off, View.ld_unit_zero (S := S5632x512) zero_off]
    exact congrArg _ ((Memref.isWhole_whole cc0_scratch0).read_unread s)
  · rfl

/-- The block indices of the four windows at a point. -/
theorem blocks_at : ∀ t : Fin cfg0.N,
    (win0_0.index t (0 : Fin 2) = t.val % 16 ∧ win0_0.index t (1 : Fin 2) = 0)
    ∧ (win0_1.index t (0 : Fin 2) = 0 ∧ win0_1.index t (1 : Fin 2) = t.val / 16)
    ∧ (win0_2.index t (0 : Fin 2) = t.val % 16 ∧ win0_2.index t (1 : Fin 2) = t.val / 16)
    ∧ (win0_3.index t (0 : Fin 2) = t.val % 16 ∧ win0_3.index t (1 : Fin 2) = t.val / 16) :=
  (by decide +kernel : ∀ t : Fin grid0.N, _)

/-- The activations' block at a point. -/
theorem act_block (c : Dev nD) (t : Fin cfg0.N) (r : Fin 512) (k : Fin 5632) :
    (iblk m c 0 t : Vec F S512x5632 .bf16) (ix2 r k)
      = m ((c : Thread nD τ).loc main_arg0)
          (ix2 (⟨t.val % 16 * 512 + r.val, by have := r.isLt; omega⟩ : Fin 8192) k : S8192x5632.Idx) := by
  obtain ⟨⟨e0, e1⟩, -, -, -⟩ := blocks_at t
  unfold iblk
  rw [View.read_apply]
  show V m c main_arg0 _ = _
  rw [V_main_arg0]
  congr 1
  funext a
  apply Fin.ext
  match a with
  | ⟨0, _⟩ => show win0_0.index t 0 * 512 + 1 * r.val = t.val % 16 * 512 + r.val; rw [e0]; omega
  | ⟨1, _⟩ => show win0_0.index t 1 * 5632 + 1 * k.val = k.val; rw [e1]; omega

/-- The residual's block at a point. -/
theorem res_block (c : Dev nD) (t : Fin cfg0.N) (r : Fin 512) (l : Fin 512) :
    (iblk m c 2 t : Vec F S512x512 .f32) (ix2 r l)
      = m ((c : Thread nD τ).loc main_arg2)
          (ix2 (⟨t.val % 16 * 512 + r.val, by have := r.isLt; omega⟩ : Fin 8192)
            (⟨t.val / 16 * 512 + l.val, by have := l.isLt; have : t.val < 64 := lt_of_lt_of_eq t.isLt N_0; omega⟩ : Fin 2048)
            : S8192x2048.Idx) := by
  obtain ⟨-, -, ⟨e0, e1⟩, -⟩ := blocks_at t
  unfold iblk
  rw [View.read_apply]
  show V m c main_arg2 _ = _
  rw [V_main_arg2]
  congr 1
  funext a
  apply Fin.ext
  match a with
  | ⟨0, _⟩ => show win0_2.index t 0 * 512 + 1 * r.val = t.val % 16 * 512 + r.val; rw [e0]; omega
  | ⟨1, _⟩ => show win0_2.index t 1 * 512 + 1 * l.val = t.val / 16 * 512 + l.val; rw [e1]; omega

/-- An array with a leading unit axis, without it. -/
theorem drop_lead (w : Vec F S1x5632x2048 .f32) (k : Fin 5632) (l : Fin 2048) :
    shapeCast S5632x2048 w shapeCasts_S1x5632x2048_S5632x2048 (ix2 k l) = w (ix3 (0 : Fin 1) k l) := by
  pointwise

/-- The weight's array as the region finds it: the argument without its leading axis. -/
theorem weight_arr (c : Dev nD) : V m c main_v0
    = shapeCast S5632x2048 (m ((c : Thread nD τ).loc main_arg1)) shapeCasts_S1x5632x2048_S5632x2048 := by
  dsimp only [V, hostOps0]; after_results; rfl

/-- The weight's block at a point. -/
theorem weight_block (c : Dev nD) (t : Fin cfg0.N) (k : Fin 5632) (l : Fin 512) :
    (iblk m c 1 t : Vec F S5632x512 .f32) (ix2 k l)
      = m ((c : Thread nD τ).loc main_arg1)
          (ix3 (0 : Fin 1) k
            (⟨t.val / 16 * 512 + l.val, by have := l.isLt; have : t.val < 64 := lt_of_lt_of_eq t.isLt N_0; omega⟩ : Fin 2048)
            : S1x5632x2048.Idx) := by
  obtain ⟨-, ⟨e0, e1⟩, -, -⟩ := blocks_at t
  unfold iblk
  rw [View.read_apply]
  show V m c main_v0 _ = _
  rw [weight_arr]
  have he : (((cfg0.win 1).blk t).view.emb (ix2 k l) : S5632x2048.Idx)
      = ix2 k (⟨t.val / 16 * 512 + l.val, by have := l.isLt; have : t.val < 64 := lt_of_lt_of_eq t.isLt N_0; omega⟩ : Fin 2048) := by
    funext a
    apply Fin.ext
    match a with
    | ⟨0, _⟩ => show win0_1.index t 0 * 5632 + 1 * k.val = k.val; rw [e0]; omega
    | ⟨1, _⟩ => show win0_1.index t 1 * 512 + 1 * l.val = t.val / 16 * 512 + l.val; rw [e1]; omega
  exact (congrArg _ he).trans (drop_lead _ _ _)

/-- The weight block does not change inside a column block. -/
theorem weight_same (c : Dev nD) (t t' : Fin cfg0.N) (h : t.val / 16 = t'.val / 16) :
    (iblk m c 1 t : Vec F S5632x512 .f32) = iblk m c 1 t' := by
  funext j
  obtain ⟨k, l, rfl⟩ : ∃ (k : Fin 5632) (l : Fin 512), j = ix2 k l := ⟨j 0, j 1, eq_ix2 j⟩
  exact (weight_block m c t k l).trans (Eq.trans (by simp only [h]) (weight_block m c t' k l).symm)

/-- What every point leaves: the written block, and the rounded weight block in the scratch. -/
theorem leaves (c : Dev nD) : ∀ (n : ℕ) (hn : n < cfg0.N),
    outsAt0 m c n hn = (k0_pay2 (iblk m c 2 ⟨n, hn⟩) (iblk m c 0 ⟨n, hn⟩) (k0_pay1 (iblk m c 1 ⟨n, hn⟩)), k0_pay1 (iblk m c 1 ⟨n, hn⟩))
  | 0, hn => fresh m c ⟨0, hn⟩ rfl
  | n + 1, hn => by
    by_cases h : (n + 1) % 16 = 0
    · exact fresh m c ⟨n + 1, hn⟩ h
    · refine later m c ⟨n + 1, hn⟩ h _ ?_
      show (outsAt0 m c n _).2 = _
      rw [leaves c n (Nat.lt_of_succ_lt hn)]
      dsimp only
      rw [weight_same m c ⟨n, Nat.lt_of_succ_lt hn⟩ ⟨n + 1, hn⟩ (by show n / 16 = (n + 1) / 16; omega)]

end Cert.DownIdeal.Value

namespace Cert.DownIdeal.Ideal

open Cert.DownIdeal Cert.DownIdeal.Gen Cert.DownIdeal.Value

variable (m : (ℓ : Loc nD τ sig) → Buf (Elt Ideal) ℓ) (ρ : Dev nD → PrngReg)

/-- The residual plus the product, at an index. -/
def downAt (a : FVec Ideal S8192x5632 .bf16) (w : FVec Ideal S1x5632x2048 .f32) (x1 : FVec Ideal S8192x2048 .f32) :
    FVec Ideal S8192x2048 .f32 :=
  fun i => (x1 i + ∑ k : Fin 5632, a (ix2 (i 0) k) * w (ix3 (0 : Fin 1) k (i 1)) : EReal)

/-- A point writes back its block of that function. -/
theorem flushed_eq (c : Dev nD) (t : Fin cfg0.N) (hf : (cfg0.win 3).flush t = true) :
    (dats m 0 c).flushed 3 t = ((cfg0.win 3).blk t).view.read (Elt Ideal)
      (downAt (m ((c : Thread nD τ).loc main_arg0)) (m ((c : Thread nD τ).loc main_arg1)) (m ((c : Thread nD τ).loc main_arg2))
        : Buf (Elt Ideal) ((c : Thread nD τ).loc main_v1)) := by
  rw [flushed3, leaves]
  dsimp only
  obtain ⟨-, -, -, ⟨e0, e1⟩⟩ := blocks_at t
  funext y
  obtain ⟨r, l, rfl⟩ : ∃ (r : Fin 512) (l : Fin 512), y = ix2 r l := ⟨y 0, y 1, eq_ix2 y⟩
  rw [View.read_apply]
  have he : (((cfg0.win 3).blk t).view.emb (ix2 r l) : S8192x2048.Idx)
      = ix2 (⟨t.val % 16 * 512 + r.val, by have := r.isLt; omega⟩ : Fin 8192)
          (⟨t.val / 16 * 512 + l.val, by have := l.isLt; have : t.val < 64 := lt_of_lt_of_eq t.isLt N_0; omega⟩ : Fin 2048) := by
    funext a
    apply Fin.ext
    match a with
    | ⟨0, _⟩ => show win0_3.index t 0 * 512 + 1 * r.val = t.val % 16 * 512 + r.val; rw [e0]; omega
    | ⟨1, _⟩ => show win0_3.index t 1 * 512 + 1 * l.val = t.val / 16 * 512 + l.val; rw [e1]; omega
  show k0_pay2 (iblk m c 2 t) (iblk m c 0 t) (k0_pay1 (iblk m c 1 t)) (ix2 r l) = downAt _ _ _ _
  rw [he]
  unfold downAt
  unfold_payloads
  pointwise [res_block, act_block, weight_block]

/-- So the array ends as that function. -/
theorem final (c : Dev nD) : (dats m 0 c).arrAt 3 cfg0.N
    = (downAt (m ((c : Thread nD τ).loc main_arg0)) (m ((c : Thread nD τ).loc main_arg1)) (m ((c : Thread nD τ).loc main_arg2))
        : Buf (Elt Ideal) ((c : Thread nD τ).loc main_v1)) :=
  (dats m 0 c).arrAt_eq_of_cover 3 _ (fun t hf => flushed_eq m c t hf) (fun i => (covered_iff3 i).2 (by
    have h0 : (i 0).val < 8192 := (i 0).isLt; have h1 : (i 1).val < 2048 := (i 1).isLt; omega))

/-- The reference's term is that function. -/
theorem ref_eq (a : FVec Ideal S8192x5632 .bf16) (w : FVec Ideal S1x5632x2048 .f32) (x1 : FVec Ideal S8192x2048 .f32) :
    addf x1 (Host.dotGeneral Cert.DownRefIdeal.dot_S8192x5632_S5632x2048_S8192x2048_1_0_0_1_n_n none
      (extf .f32 a Cert.DownRefIdeal.Gen.bitsLt_bf16_f32)
      (shapeCast _ w Cert.DownRefIdeal.Gen.shapeCasts_S1x5632x2048_S5632x2048)) = downAt a w x1 := by
  funext i
  unfold downAt
  pointwise

end Cert.DownIdeal.Ideal

namespace Cert.Proof

/-- The call and its reference leave the same result. -/
theorem down_claim : Cert.algebraic_DownIdeal_DownRefIdeal (hDownIdeal := Cert.DownIdeal.Gen.facts)
    (hDownRefIdeal := Cert.DownRefIdeal.Gen.facts) := by
  intro m g m' g' _ hm
  refine ⟨fun c => _, (θ_run _ _ _).mono (fun r h c => ⟨(h c).1.trans (Cert.DownIdeal.Ideal.final m c), (h c).2⟩)
    (Cert.DownIdeal.Value.run_blocks m g), ?_⟩
  refine (θ_run _ _ _).mono (fun r h c => ⟨(h c).1.trans ?_, (h c).2⟩) (Cert.DownRefIdeal.Value.run m' g')
  obtain ⟨e0, e1, e2⟩ := hm c
  rw [e0, e1, e2]
  exact Cert.DownIdeal.Ideal.ref_eq _ _ _

end Cert.Proof

end
-- ==== Proof.UpValue.lean ====
/-
  What the feed-forward part's first call computes, entry by entry, and that its plain reference computes the same.
-/
module

public import proofs.«01_k».proof.Proof.Gen.UpIdeal.Value
public import proofs.«01_k».proof.Proof.Gen.UpRefIdeal.Run
public import proofs.«01_k».proof.Defs
public import Idealize.ShloMosaic.Lib.Pipeline.Value
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen

variable {F : FTy → Type} [FloatOps F]
variable (m : (ℓ : Loc nD τ sig) → Buf (Elt F) ℓ)

theorem zero_off : (![0, 0] : Fin 2 → Nat) = fun _ => 0 := funext fun a => by fin_cases a <;> rfl

/-- The written block is the body's expression of the three loaded blocks. -/
theorem out_eq (h : Vec F S1024x2048 .bf16) (g u : Vec F S2048x512 .f32) : out0_3 h g u = k0_pay1 h g u := by
  unfold out0_3
  rw [View.canon_unit_zero zero_off]
  simp only [View.ld_unit_zero (S := S1024x2048) zero_off, View.ld_unit_zero (S := S2048x512) zero_off]

theorem blocks_at : ∀ t : Fin cfg0.N,
    (win0_0.index t (0 : Fin 2) = t.val / 11 ∧ win0_0.index t (1 : Fin 2) = 0)
    ∧ (win0_1.index t (0 : Fin 2) = 0 ∧ win0_1.index t (1 : Fin 2) = t.val % 11)
    ∧ (win0_2.index t (0 : Fin 2) = 0 ∧ win0_2.index t (1 : Fin 2) = t.val % 11)
    ∧ (win0_3.index t (0 : Fin 2) = t.val / 11 ∧ win0_3.index t (1 : Fin 2) = t.val % 11) :=
  (by decide +kernel : ∀ t : Fin grid0.N, _)

theorem points (t : Fin cfg0.N) : t.val < 88 := lt_of_lt_of_eq t.isLt N_0

theorem gate_arr (c : Dev nD) : V m c main_v0
    = shapeCast S2048x5632 (m ((c : Thread nD τ).loc main_arg1)) shapeCasts_S1x2048x5632_S2048x5632 := by
  dsimp only [V, hostOps0]; after_results; rfl

theorem up_arr (c : Dev nD) : V m c main_v1
    = shapeCast S2048x5632 (m ((c : Thread nD τ).loc main_arg2)) shapeCasts_S1x2048x5632_S2048x5632 := by
  dsimp only [V, hostOps0]; after_results; rfl

theorem drop_lead (w : Vec F S1x2048x5632 .f32) (d : Fin 2048) (k : Fin 5632) :
    shapeCast S2048x5632 w shapeCasts_S1x2048x5632_S2048x5632 (ix2 d k) = w (ix3 (0 : Fin 1) d k) := by
  pointwise

theorem row_block (c : Dev nD) (t : Fin cfg0.N) (r : Fin 1024) (d : Fin 2048) :
    (iblk m c 0 t : Vec F S1024x2048 .bf16) (ix2 r d)
      = m ((c : Thread nD τ).loc main_arg0)
          (ix2 (⟨t.val / 11 * 1024 + r.val, by have := points t; omega⟩ : Fin 8192) d : S8192x2048.Idx) := by
  obtain ⟨⟨e0, e1⟩, -⟩ := blocks_at t
  unfold iblk
  rw [View.read_apply]
  show V m c main_arg0 _ = _
  rw [V_main_arg0]
  congr 1
  funext a
  apply Fin.ext
  match a with
  | ⟨0, _⟩ => show win0_0.index t 0 * 1024 + 1 * r.val = t.val / 11 * 1024 + r.val; rw [e0]; omega
  | ⟨1, _⟩ => show win0_0.index t 1 * 2048 + 1 * d.val = d.val; rw [e1]; omega

theorem gate_block (c : Dev nD) (t : Fin cfg0.N) (d : Fin 2048) (l : Fin 512) :
    (iblk m c 1 t : Vec F S2048x512 .f32) (ix2 d l)
      = m ((c : Thread nD τ).loc main_arg1)
          (ix3 (0 : Fin 1) d (⟨t.val % 11 * 512 + l.val, by omega⟩ : Fin 5632) : S1x2048x5632.Idx) := by
  obtain ⟨-, ⟨e0, e1⟩, -⟩ := blocks_at t
  unfold iblk
  rw [View.read_apply]
  show V m c main_v0 _ = _
  rw [gate_arr]
  have he : (((cfg0.win 1).blk t).view.emb (ix2 d l) : S2048x5632.Idx) = ix2 d (⟨t.val % 11 * 512 + l.val, by omega⟩ : Fin 5632) := by
    funext a
    apply Fin.ext
    match a with
    | ⟨0, _⟩ => show win0_1.index t 0 * 2048 + 1 * d.val = d.val; rw [e0]; omega
    | ⟨1, _⟩ => show win0_1.index t 1 * 512 + 1 * l.val = t.val % 11 * 512 + l.val; rw [e1]; omega
  exact (congrArg _ he).trans (drop_lead _ _ _)

theorem up_block (c : Dev nD) (t : Fin cfg0.N) (d : Fin 2048) (l : Fin 512) :
    (iblk m c 2 t : Vec F S2048x512 .f32) (ix2 d l)
      = m ((c : Thread nD τ).loc main_arg2)
          (ix3 (0 : Fin 1) d (⟨t.val % 11 * 512 + l.val, by omega⟩ : Fin 5632) : S1x2048x5632.Idx) := by
  obtain ⟨-, -, ⟨e0, e1⟩, -⟩ := blocks_at t
  unfold iblk
  rw [View.read_apply]
  show V m c main_v1 _ = _
  rw [up_arr]
  have he : (((cfg0.win 2).blk t).view.emb (ix2 d l) : S2048x5632.Idx) = ix2 d (⟨t.val % 11 * 512 + l.val, by omega⟩ : Fin 5632) := by
    funext a
    apply Fin.ext
    match a with
    | ⟨0, _⟩ => show win0_2.index t 0 * 2048 + 1 * d.val = d.val; rw [e0]; omega
    | ⟨1, _⟩ => show win0_2.index t 1 * 512 + 1 * l.val = t.val % 11 * 512 + l.val; rw [e1]; omega
  exact (congrArg _ he).trans (drop_lead _ _ _)

end Cert.UpIdeal.Value

namespace Cert.UpIdeal.Ideal

open Cert.UpIdeal Cert.UpIdeal.Gen Cert.UpIdeal.Value

variable (m : (ℓ : Loc nD τ sig) → Buf (Elt Ideal) ℓ) (ρ : Dev nD → PrngReg)

/-- A row times a weight column. -/
def dotAt (h : FVec Ideal S8192x2048 .bf16) (w : FVec Ideal S1x2048x5632 .f32) (r : Fin 8192) (k : Fin 5632) : EReal :=
  ∑ d : Fin 2048, h (ix2 r d) * w (ix3 (0 : Fin 1) d k)

/-- The gated product, at an index. -/
def upAt (h : FVec Ideal S8192x2048 .bf16) (g u : FVec Ideal S1x2048x5632 .f32) : FVec Ideal S8192x5632 .bf16 :=
  fun i => (dotAt h g (i 0) (i 1) * Ideal.logistic (dotAt h g (i 0) (i 1)) * dotAt h u (i 0) (i 1) : EReal)

theorem pay (h : FVec Ideal S1024x2048 .bf16) (g u : FVec Ideal S2048x512 .f32) (r : Fin 1024) (l : Fin 512) :
    k0_pay1 (F := Ideal) h g u (ix2 r l)
      = ((∑ d : Fin 2048, h (ix2 r d) * g (ix2 d l)) * Ideal.logistic (∑ d : Fin 2048, h (ix2 r d) * g (ix2 d l))
          * ∑ d : Fin 2048, h (ix2 r d) * u (ix2 d l) : EReal) := by
  unfold_payloads
  pointwise

theorem flushed_eq (c : Dev nD) (t : Fin cfg0.N) :
    (dats m 0 c).flushed 3 t = ((cfg0.win 3).blk t).view.read (Elt Ideal)
      (upAt (m ((c : Thread nD τ).loc main_arg0)) (m ((c : Thread nD τ).loc main_arg1)) (m ((c : Thread nD τ).loc main_arg2))
        : Buf (Elt Ideal) ((c : Thread nD τ).loc main_v2)) := by
  rw [flushed3, out_eq]
  obtain ⟨-, -, -, ⟨e0, e1⟩⟩ := blocks_at t
  have ht := points t
  funext y
  obtain ⟨r, l, rfl⟩ : ∃ (r : Fin 1024) (l : Fin 512), y = ix2 r l := ⟨y 0, y 1, eq_ix2 y⟩
  rw [View.read_apply]
  have he : (((cfg0.win 3).blk t).view.emb (ix2 r l) : S8192x5632.Idx)
      = ix2 (⟨t.val / 11 * 1024 + r.val, by omega⟩ : Fin 8192) (⟨t.val % 11 * 512 + l.val, by omega⟩ : Fin 5632) := by
    funext a
    apply Fin.ext
    match a with
    | ⟨0, _⟩ => show win0_3.index t 0 * 1024 + 1 * r.val = t.val / 11 * 1024 + r.val; rw [e0]; omega
    | ⟨1, _⟩ => show win0_3.index t 1 * 512 + 1 * l.val = t.val % 11 * 512 + l.val; rw [e1]; omega
  show k0_pay1 (F := Ideal) (iblk m c 0 t) (iblk m c 1 t) (iblk m c 2 t) (ix2 r l) = upAt _ _ _ _
  rw [he]
  refine (pay _ _ _ _ _).trans ?_
  unfold upAt dotAt
  simp only [row_block, gate_block, up_block]
  rfl

theorem final (c : Dev nD) : (dats m 0 c).arrAt 3 cfg0.N
    = (upAt (m ((c : Thread nD τ).loc main_arg0)) (m ((c : Thread nD τ).loc main_arg1)) (m ((c : Thread nD τ).loc main_arg2))
        : Buf (Elt Ideal) ((c : Thread nD τ).loc main_v2)) :=
  (dats m 0 c).arrAt_eq_of_cover 3 _ (fun t _ => flushed_eq m c t) (fun i => by
    have h0 : (i 0).val < 8192 := (i 0).isLt
    have h1 : (i 1).val < 5632 := (i 1).isLt
    have hN : cfg0.N = 88 := N_0
    let t : Fin cfg0.N := ⟨(i 0).val / 1024 * 11 + (i 1).val / 512, by omega⟩
    have tv : t.val = (i 0).val / 1024 * 11 + (i 1).val / 512 := rfl
    obtain ⟨-, -, -, ⟨e0, e1⟩⟩ := blocks_at t
    refine ⟨t, flush0_3 t, ?_⟩
    show i ∈ ((View.whole main_v2).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 512 ≤ (i 1).val ∧ (i 1).val < win0_3.index t (1 : Fin 2) * 512 + 512; omega)

/-! ## The reference -/

/-- The reference's product of the rows with a weight. -/
def refDot (h : FVec Ideal S8192x2048 .bf16) (w : FVec Ideal S1x2048x5632 .f32) : FVec Ideal S8192x5632 .f32 :=
  Host.dotGeneral Cert.UpRefIdeal.dot_S8192x2048_S2048x5632_S8192x5632_1_0_0_1_n_n none
    (extf .f32 h Cert.UpRefIdeal.Gen.bitsLt_bf16_f32)
    (shapeCast _ w Cert.UpRefIdeal.Gen.shapeCasts_S1x2048x5632_S2048x5632)

theorem refDot_entry (h : FVec Ideal S8192x2048 .bf16) (w : FVec Ideal S1x2048x5632 .f32) (r : Fin 8192) (k : Fin 5632) :
    refDot h w (ix2 r k) = dotAt h w r k := by
  unfold refDot dotAt
  pointwise

theorem gate_entry (g u : FVec Ideal S8192x5632 .f32) (r : Fin 8192) (k : Fin 5632) :
    truncf .bf16 (mulf (mulf g (Host.divf (broadcastInDim S8192x5632 ![] Cert.UpRefIdeal.Gen.bcast_S_S8192x5632 (constant Cert.UpRefIdeal.S_ .f32 0x3F800000#32))
        (addf (broadcastInDim S8192x5632 ![] Cert.UpRefIdeal.Gen.bcast_S_S8192x5632 (constant Cert.UpRefIdeal.S_ .f32 0x3F800000#32)) (Host.exp (Host.negf g))))) u)
        Cert.UpRefIdeal.Gen.bitsLt_bf16_f32 (ix2 r k)
      = (g (ix2 r k) * Ideal.logistic (g (ix2 r k)) * u (ix2 r k) : EReal) := by
  pointwise
  rfl

/-- The reference's term is the same function. -/
theorem ref_eq (h : FVec Ideal S8192x2048 .bf16) (g u : FVec Ideal S1x2048x5632 .f32) :
    truncf .bf16 (mulf (mulf (refDot h g) (Host.divf (broadcastInDim S8192x5632 ![] Cert.UpRefIdeal.Gen.bcast_S_S8192x5632 (constant Cert.UpRefIdeal.S_ .f32 0x3F800000#32))
        (addf (broadcastInDim S8192x5632 ![] Cert.UpRefIdeal.Gen.bcast_S_S8192x5632 (constant Cert.UpRefIdeal.S_ .f32 0x3F800000#32)) (Host.exp (Host.negf (refDot h g)))))) (refDot h u))
        Cert.UpRefIdeal.Gen.bitsLt_bf16_f32 = upAt h g u := by
  funext i
  obtain ⟨r, k, rfl⟩ : ∃ (r : Fin 8192) (k : Fin 5632), i = ix2 r k := ⟨i 0, i 1, eq_ix2 i⟩
  refine (gate_entry _ _ r k).trans ?_
  rw [refDot_entry, refDot_entry]
  rfl

end Cert.UpIdeal.Ideal

namespace Cert.Proof

/-- The call and its reference leave the same result. -/
theorem up_claim : Cert.algebraic_UpIdeal_UpRefIdeal (hUpIdeal := Cert.UpIdeal.Gen.facts)
    (hUpRefIdeal := Cert.UpRefIdeal.Gen.facts) := by
  intro m g m' g' _ hm
  refine ⟨fun c => _, (θ_run _ _ _).mono (fun r h c => ⟨(h c).1.trans (Cert.UpIdeal.Ideal.final m c), (h c).2⟩)
    (Cert.UpIdeal.Value.run_blocks m g), ?_⟩
  refine (θ_run _ _ _).mono (fun r h c => ⟨(h c).1.trans ?_, (h c).2⟩) (Cert.UpRefIdeal.Value.run m' g')
  obtain ⟨e0, e1, e2⟩ := hm c
  rw [e0, e1, e2]
  exact Cert.UpIdeal.Ideal.ref_eq _ _ _

end Cert.Proof

end
-- ==== Proof.MergeValue.lean ====
/-
  What the gated sum of the two mixers' output projections computes, entry by entry, and that its plain reference
  computes the same. At every grid point the two scratches hold the weight blocks of the point's column block.
-/
module

public import proofs.«01_k».proof.Proof.Gen.MergeIdeal.Value
public import proofs.«01_k».proof.Proof.Gen.MergeRefIdeal.Run
public import proofs.«01_k».proof.Defs
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable {F : FTy → Type} [FloatOps F]
variable (m : (ℓ : Loc nD τ sig) → Buf (Elt F) ℓ)

theorem zero_off : (![0, 0] : Fin 2 → Nat) = fun _ => 0 := funext fun a => by fin_cases a <;> rfl

/-- At a first point of a column block the body rounds both weight blocks into the scratches and writes the output block. -/
theorem fresh (c : Dev nD) (t : Fin cfg0.N) (h : t.val % 16 = 0) :
    outsAt0 m c t.val t.isLt
      = (k0_pay3 (iblk m c 0 t) (k0_pay1 (iblk m c 1 t)) (iblk m c 2 t) (k0_pay2 (iblk m c 3 t)) (iblk m c 4 t) (iblk m c 5 t),
          k0_pay1 (iblk m c 1 t), k0_pay2 (iblk m c 3 t)) := by
  rw [outsAt0_A m c t h]
  refine Prod.ext ?_ (Prod.ext ?_ ?_)
  · dsimp only
    unfold out0_A_6
    rw [View.read_writes_eq_canon _ _ _ (fun y => cover0_A_6 ..)]
    unfold kernelRun0_A
    dsimp only
    sl_unfold_words
    rw [View.canon_unit_zero zero_off, View.readCov_unit_zero (S := S4096x512) _ zero_off, View.readCov_unit_zero (S := S2048x512) _ zero_off]
    simp only [View.readAt_eq_ld, Memref.IsWhole.read_unread, View.ld_unit_zero (S := S512x512) zero_off,
      View.ld_unit_zero (S := S512x4096) zero_off, View.ld_unit_zero (S := S512x2048) zero_off,
      View.ld_unit_zero (S := S4096x512) zero_off, View.ld_unit_zero (S := S2048x512) zero_off]
  · dsimp only
    unfold sout0_A_0
    rw [View.read_writes_eq_canon _ _ _ (fun y => scover0_A_0 ..)]
    unfold kernelRun0_A
    dsimp only
    sl_unfold_words
    rw [View.canon_unit_zero zero_off]
    simp only [View.readAt_eq_ld, Memref.IsWhole.read_unread, View.ld_unit_zero (S := S4096x512) zero_off]
  · dsimp only
    unfold sout0_A_1
    rw [View.read_writes_eq_canon _ _ _ (fun y => scover0_A_1 ..)]
    unfold kernelRun0_A
    dsimp only
    sl_unfold_words
    rw [View.canon_unit_zero zero_off]
    simp only [View.readAt_eq_ld, Memref.IsWhole.read_unread, View.ld_unit_zero (S := S2048x512) zero_off]

/-- At a later point the body multiplies with the scratches as the point before left them. -/
theorem later (c : Dev nD) (t : Fin cfg0.N) (h : ¬t.val % 16 = 0) (s : Vec F S4096x512 .bf16 × Vec F S2048x512 .bf16)
    (hs : (outsAt0 m c (t.val - 1) (Nat.lt_of_le_of_lt (Nat.sub_le _ _) t.isLt)).2 = s) :
    outsAt0 m c t.val t.isLt = (k0_pay3 (iblk m c 0 t) s.1 (iblk m c 2 t) s.2 (iblk m c 4 t) (iblk m c 5 t), s) := by
  rw [outsAt0_B m c t h, hs]
  refine Prod.ext ?_ (Prod.ext ?_ ?_)
  · dsimp only
    unfold out0_B_6
    rw [View.read_writes_eq_canon _ _ _ (fun y => cover0_B_6 ..)]
    unfold kernelRun0_B
    dsimp only
    sl_unfold_words
    rw [View.canon_unit_zero zero_off]
    simp only [View.readAt_eq_ld, Memref.IsWhole.read_unread, View.ld_unit_zero (S := S512x512) zero_off,
      View.ld_unit_zero (S := S512x4096) zero_off, View.ld_unit_zero (S := S512x2048) zero_off,
      View.ld_unit_zero (S := S4096x512) zero_off, View.ld_unit_zero (S := S2048x512) zero_off]
    exact congrArg₂ (fun a b => k0_pay3 (iblk m c 0 t) a (iblk m c 2 t) b (iblk m c 4 t) (iblk m c 5 t))
      ((Memref.isWhole_whole cc0_scratch0).read_unread s.1) ((Memref.isWhole_whole cc0_scratch1).read_unread s.2)
  · rfl
  · rfl

theorem points (t : Fin cfg0.N) : t.val < 64 := lt_of_lt_of_eq t.isLt N_0

theorem blocks_at : ∀ t : Fin cfg0.N,
    (win0_0.index t (0 : Fin 2) = t.val % 16 ∧ win0_0.index t (1 : Fin 2) = 0)
    ∧ (win0_1.index t (0 : Fin 2) = 0 ∧ win0_1.index t (1 : Fin 2) = t.val / 16)
    ∧ (win0_2.index t (0 : Fin 2) = t.val % 16 ∧ win0_2.index t (1 : Fin 2) = 0)
    ∧ (win0_3.index t (0 : Fin 2) = 0 ∧ win0_3.index t (1 : Fin 2) = t.val / 16)
    ∧ (win0_4.index t (0 : Fin 2) = t.val % 16 ∧ win0_4.index t (1 : Fin 2) = 32 + t.val / 16)
    ∧ (win0_5.index t (0 : Fin 2) = t.val % 16 ∧ win0_5.index t (1 : Fin 2) = 36 + t.val / 16)
    ∧ (win0_6.index t (0 : Fin 2) = t.val % 16 ∧ win0_6.index t (1 : Fin 2) = t.val / 16) :=
  (by decide +kernel : ∀ t : Fin grid0.N, _)

theorem ssm_arr (c : Dev nD) : V m c main_v0
    = shapeCast S8192x4096 (m ((c : Thread nD τ).loc main_arg0)) shapeCasts_S4x2048x4096_S8192x4096 := by
  dsimp only [V, hostOps0]; after_results; rfl

theorem wssm_arr (c : Dev nD) : V m c main_v1
    = shapeCast S4096x2048 (m ((c : Thread nD τ).loc main_arg1)) shapeCasts_S1x4096x2048_S4096x2048 := by
  dsimp only [V, hostOps0]; after_results; rfl

theorem att_arr (c : Dev nD) : V m c main_v2
    = shapeCast S8192x2048 (m ((c : Thread nD τ).loc main_arg2)) shapeCasts_S4x2048x2048_S8192x2048 := by
  dsimp only [V, hostOps0]; after_results; rfl

theorem watt_arr (c : Dev nD) : V m c main_v3
    = shapeCast S2048x2048 (m ((c : Thread nD τ).loc main_arg3)) shapeCasts_S1x2048x2048_S2048x2048 := by
  dsimp only [V, hostOps0]; after_results; rfl

theorem ssm_entry (x : Vec F S4x2048x4096 .bf16) (r : Fin 8192) (k : Fin 4096) :
    shapeCast S8192x4096 x shapeCasts_S4x2048x4096_S8192x4096 (ix2 r k)
      = x (ix3 (⟨r.val / 2048, by omega⟩ : Fin 4) (⟨r.val % 2048, Nat.mod_lt _ (by decide)⟩ : Fin 2048) k) := by
  pointwise

theorem att_entry (x : Vec F S4x2048x2048 .bf16) (r : Fin 8192) (k : Fin 2048) :
    shapeCast S8192x2048 x shapeCasts_S4x2048x2048_S8192x2048 (ix2 r k)
      = x (ix3 (⟨r.val / 2048, by omega⟩ : Fin 4) (⟨r.val % 2048, Nat.mod_lt _ (by decide)⟩ : Fin 2048) k) := by
  pointwise

theorem wssm_entry (w : Vec F S1x4096x2048 .f32) (k : Fin 4096) (l : Fin 2048) :
    shapeCast S4096x2048 w shapeCasts_S1x4096x2048_S4096x2048 (ix2 k l) = w (ix3 (0 : Fin 1) k l) := by
  pointwise

theorem watt_entry (w : Vec F S1x2048x2048 .f32) (k : Fin 2048) (l : Fin 2048) :
    shapeCast S2048x2048 w shapeCasts_S1x2048x2048_S2048x2048 (ix2 k l) = w (ix3 (0 : Fin 1) k l) := by
  pointwise

/-- The state-space rows' block at a point. -/
theorem ssm_block (c : Dev nD) (t : Fin cfg0.N) (r : Fin 512) (k : Fin 4096) :
    (iblk m c 0 t : Vec F S512x4096 .bf16) (ix2 r k)
      = m ((c : Thread nD τ).loc main_arg0)
          (ix3 (⟨(t.val % 16 * 512 + r.val) / 2048, by omega⟩ : Fin 4)
            (⟨(t.val % 16 * 512 + r.val) % 2048, Nat.mod_lt _ (by decide)⟩ : Fin 2048) k : S4x2048x4096.Idx) := by
  obtain ⟨⟨e0, e1⟩, -⟩ := blocks_at t
  unfold iblk
  rw [View.read_apply]
  show V m c main_v0 _ = _
  rw [ssm_arr]
  have he : (((cfg0.win 0).blk t).view.emb (ix2 r k) : S8192x4096.Idx) = ix2 (⟨t.val % 16 * 512 + r.val, by omega⟩ : Fin 8192) k := by
    funext a
    apply Fin.ext
    match a with
    | ⟨0, _⟩ => show win0_0.index t 0 * 512 + 1 * r.val = t.val % 16 * 512 + r.val; rw [e0]; omega
    | ⟨1, _⟩ => show win0_0.index t 1 * 4096 + 1 * k.val = k.val; rw [e1]; omega
  exact (congrArg _ he).trans (ssm_entry _ _ _)

/-- The state-space weight's block at a point. -/
theorem wssm_block (c : Dev nD) (t : Fin cfg0.N) (k : Fin 4096) (l : Fin 512) :
    (iblk m c 1 t : Vec F S4096x512 .f32) (ix2 k l)
      = m ((c : Thread nD τ).loc main_arg1)
          (ix3 (0 : Fin 1) k (⟨t.val / 16 * 512 + l.val, by have := points t; omega⟩ : Fin 2048) : S1x4096x2048.Idx) := by
  obtain ⟨-, ⟨e0, e1⟩, -⟩ := blocks_at t
  have ht := points t
  unfold iblk
  rw [View.read_apply]
  show V m c main_v1 _ = _
  rw [wssm_arr]
  have he : (((cfg0.win 1).blk t).view.emb (ix2 k l) : S4096x2048.Idx) = ix2 k (⟨t.val / 16 * 512 + l.val, by omega⟩ : Fin 2048) := by
    funext a
    apply Fin.ext
    match a with
    | ⟨0, _⟩ => show win0_1.index t 0 * 4096 + 1 * k.val = k.val; rw [e0]; omega
    | ⟨1, _⟩ => show win0_1.index t 1 * 512 + 1 * l.val = t.val / 16 * 512 + l.val; rw [e1]; omega
  exact (congrArg _ he).trans (wssm_entry _ _ _)

/-- The attention rows' block at a point. -/
theorem att_block (c : Dev nD) (t : Fin cfg0.N) (r : Fin 512) (k : Fin 2048) :
    (iblk m c 2 t : Vec F S512x2048 .bf16) (ix2 r k)
      = m ((c : Thread nD τ).loc main_arg2)
          (ix3 (⟨(t.val % 16 * 512 + r.val) / 2048, by omega⟩ : Fin 4)
            (⟨(t.val % 16 * 512 + r.val) % 2048, Nat.mod_lt _ (by decide)⟩ : Fin 2048) k : S4x2048x2048.Idx) := by
  obtain ⟨-, -, ⟨e0, e1⟩, -⟩ := blocks_at t
  unfold iblk
  rw [View.read_apply]
  show V m c main_v2 _ = _
  rw [att_arr]
  have he : (((cfg0.win 2).blk t).view.emb (ix2 r k) : S8192x2048.Idx) = ix2 (⟨t.val % 16 * 512 + r.val, by omega⟩ : Fin 8192) k := by
    funext a
    apply Fin.ext
    match a with
    | ⟨0, _⟩ => show win0_2.index t 0 * 512 + 1 * r.val = t.val % 16 * 512 + r.val; rw [e0]; omega
    | ⟨1, _⟩ => show win0_2.index t 1 * 2048 + 1 * k.val = k.val; rw [e1]; omega
  exact (congrArg _ he).trans (att_entry _ _ _)

/-- The attention weight's block at a point. -/
theorem watt_block (c : Dev nD) (t : Fin cfg0.N) (k : Fin 2048) (l : Fin 512) :
    (iblk m c 3 t : Vec F S2048x512 .f32) (ix2 k l)
      = m ((c : Thread nD τ).loc main_arg3)
          (ix3 (0 : Fin 1) k (⟨t.val / 16 * 512 + l.val, by have := points t; omega⟩ : Fin 2048) : S1x2048x2048.Idx) := by
  obtain ⟨-, -, -, ⟨e0, e1⟩, -⟩ := blocks_at t
  have ht := points t
  unfold iblk
  rw [View.read_apply]
  show V m c main_v3 _ = _
  rw [watt_arr]
  have he : (((cfg0.win 3).blk t).view.emb (ix2 k l) : S2048x2048.Idx) = ix2 k (⟨t.val / 16 * 512 + l.val, by omega⟩ : Fin 2048) := by
    funext a
    apply Fin.ext
    match a with
    | ⟨0, _⟩ => show win0_3.index t 0 * 2048 + 1 * k.val = k.val; rw [e0]; omega
    | ⟨1, _⟩ => show win0_3.index t 1 * 512 + 1 * l.val = t.val / 16 * 512 + l.val; rw [e1]; omega
  exact (congrArg _ he).trans (watt_entry _ _ _)

/-- The two gates' blocks at a point: two column ranges of the same array. -/
theorem gate_blocks (c : Dev nD) (t : Fin cfg0.N) (r l : Fin 512) :
    (iblk m c 4 t : Vec F S512x512 .bf16) (ix2 r l)
      = m ((c : Thread nD τ).loc main_arg4)
          (ix2 (⟨t.val % 16 * 512 + r.val, by omega⟩ : Fin 8192)
            (⟨16384 + (t.val / 16 * 512 + l.val), by have := points t; omega⟩ : Fin 20480) : S8192x20480.Idx)
    ∧ (iblk m c 5 t : Vec F S512x512 .bf16) (ix2 r l)
      = m ((c : Thread nD τ).loc main_arg4)
          (ix2 (⟨t.val % 16 * 512 + r.val, by omega⟩ : Fin 8192)
            (⟨18432 + (t.val / 16 * 512 + l.val), by have := points t; omega⟩ : Fin 20480) : S8192x20480.Idx) := by
  obtain ⟨-, -, -, -, ⟨e0, e1⟩, ⟨e2, e3⟩, -⟩ := blocks_at t
  have ht := points t
  constructor
  all_goals
    unfold iblk
    rw [View.read_apply]
    show V m c main_arg4 _ = _
    rw [V_main_arg4]
    congr 1
    funext a
    apply Fin.ext
  · match a with
    | ⟨0, _⟩ => show win0_4.index t 0 * 512 + 1 * r.val = t.val % 16 * 512 + r.val; rw [e0]; omega
    | ⟨1, _⟩ => show win0_4.index t 1 * 512 + 1 * l.val = 16384 + (t.val / 16 * 512 + l.val); rw [e1]; omega
  · match a with
    | ⟨0, _⟩ => show win0_5.index t 0 * 512 + 1 * r.val = t.val % 16 * 512 + r.val; rw [e2]; omega
    | ⟨1, _⟩ => show win0_5.index t 1 * 512 + 1 * l.val = 18432 + (t.val / 16 * 512 + l.val); rw [e3]; omega

/-- The weight blocks do not change inside a column block. -/
theorem weights_same (c : Dev nD) (t t' : Fin cfg0.N) (h : t.val / 16 = t'.val / 16) :
    (iblk m c 1 t : Vec F S4096x512 .f32) = iblk m c 1 t' ∧ (iblk m c 3 t : Vec F S2048x512 .f32) = iblk m c 3 t' := by
  constructor
  · funext j
    obtain ⟨k, l, rfl⟩ : ∃ (k : Fin 4096) (l : Fin 512), j = ix2 k l := ⟨j 0, j 1, eq_ix2 j⟩
    exact (wssm_block m c t k l).trans (Eq.trans (by simp only [h]) (wssm_block m c t' k l).symm)
  · funext j
    obtain ⟨k, l, rfl⟩ : ∃ (k : Fin 2048) (l : Fin 512), j = ix2 k l := ⟨j 0, j 1, eq_ix2 j⟩
    exact (watt_block m c t k l).trans (Eq.trans (by simp only [h]) (watt_block m c t' k l).symm)

/-- What every point leaves: the written block, and the two rounded weight blocks in the scratches. -/
theorem leaves (c : Dev nD) : ∀ (n : ℕ) (hn : n < cfg0.N),
    outsAt0 m c n hn = (k0_pay3 (iblk m c 0 ⟨n, hn⟩) (k0_pay1 (iblk m c 1 ⟨n, hn⟩)) (iblk m c 2 ⟨n, hn⟩) (k0_pay2 (iblk m c 3 ⟨n, hn⟩))
        (iblk m c 4 ⟨n, hn⟩) (iblk m c 5 ⟨n, hn⟩), k0_pay1 (iblk m c 1 ⟨n, hn⟩), k0_pay2 (iblk m c 3 ⟨n, hn⟩))
  | 0, hn => fresh m c ⟨0, hn⟩ rfl
  | n + 1, hn => by
    by_cases h : (n + 1) % 16 = 0
    · exact fresh m c ⟨n + 1, hn⟩ h
    · refine later m c ⟨n + 1, hn⟩ h (k0_pay1 (iblk m c 1 ⟨n + 1, hn⟩), k0_pay2 (iblk m c 3 ⟨n + 1, hn⟩)) ?_
      show (outsAt0 m c n _).2 = _
      rw [leaves c n (Nat.lt_of_succ_lt hn)]
      obtain ⟨h1, h2⟩ := weights_same m c ⟨n, Nat.lt_of_succ_lt hn⟩ ⟨n + 1, hn⟩ (by show n / 16 = (n + 1) / 16; omega)
      dsimp only
      rw [h1, h2]

end Cert.MergeIdeal.Value

namespace Cert.MergeIdeal.Ideal

open Cert.MergeIdeal Cert.MergeIdeal.Gen Cert.MergeIdeal.Value

variable (m : (ℓ : Loc nD τ sig) → Buf (Elt Ideal) ℓ) (ρ : Dev nD → PrngReg)

/-- A state-space row times a weight column. -/
def ssmAt (y : FVec Ideal S4x2048x4096 .bf16) (w : FVec Ideal S1x4096x2048 .f32) (r : Fin 8192) (l : Fin 2048) : EReal :=
  ∑ k : Fin 4096, y (ix3 (⟨r.val / 2048, by omega⟩ : Fin 4) (⟨r.val % 2048, Nat.mod_lt _ (by decide)⟩ : Fin 2048) k) * w (ix3 (0 : Fin 1) k l)

/-- An attention row times a weight column. -/
def attAt (y : FVec Ideal S4x2048x2048 .bf16) (w : FVec Ideal S1x2048x2048 .f32) (r : Fin 8192) (l : Fin 2048) : EReal :=
  ∑ k : Fin 2048, y (ix3 (⟨r.val / 2048, by omega⟩ : Fin 4) (⟨r.val % 2048, Nat.mod_lt _ (by decide)⟩ : Fin 2048) k) * w (ix3 (0 : Fin 1) k l)

/-- The gated sum, at an index. -/
def mergeAt (ys : FVec Ideal S4x2048x4096 .bf16) (ws : FVec Ideal S1x4096x2048 .f32) (ya : FVec Ideal S4x2048x2048 .bf16)
    (wa : FVec Ideal S1x2048x2048 .f32) (p : FVec Ideal S8192x20480 .bf16) : FVec Ideal S8192x2048 .bf16 :=
  fun i => (Ideal.logistic (p (ix2 (i 0) (⟨16384 + (i 1).val, by have : (i 1).val < 2048 := (i 1).isLt; omega⟩ : Fin 20480))) * ssmAt ys ws (i 0) (i 1)
    + Ideal.logistic (p (ix2 (i 0) (⟨18432 + (i 1).val, by have : (i 1).val < 2048 := (i 1).isLt; omega⟩ : Fin 20480))) * attAt ya wa (i 0) (i 1) : EReal)

theorem pay (ys : FVec Ideal S512x4096 .bf16) (ws : FVec Ideal S4096x512 .f32) (ya : FVec Ideal S512x2048 .bf16)
    (wa : FVec Ideal S2048x512 .f32) (gs ga : FVec Ideal S512x512 .bf16) (r l : Fin 512) :
    k0_pay3 (F := Ideal) ys (k0_pay1 (F := Ideal) ws) ya (k0_pay2 (F := Ideal) wa) gs ga (ix2 r l)
      = (Ideal.logistic (gs (ix2 r l)) * (∑ k : Fin 4096, ys (ix2 r k) * ws (ix2 k l))
          + Ideal.logistic (ga (ix2 r l)) * (∑ k : Fin 2048, ya (ix2 r k) * wa (ix2 k l)) : EReal) := by
  unfold_payloads
  pointwise

/-- A point writes back its block of that function. -/
theorem flushed_eq (c : Dev nD) (t : Fin cfg0.N) :
    (dats m 0 c).flushed 6 t = ((cfg0.win 6).blk t).view.read (Elt Ideal)
      (mergeAt (m ((c : Thread nD τ).loc main_arg0)) (m ((c : Thread nD τ).loc main_arg1)) (m ((c : Thread nD τ).loc main_arg2))
          (m ((c : Thread nD τ).loc main_arg3)) (m ((c : Thread nD τ).loc main_arg4))
        : Buf (Elt Ideal) ((c : Thread nD τ).loc main_v4)) := by
  rw [flushed6, leaves]
  dsimp only
  obtain ⟨-, -, -, -, -, -, ⟨e0, e1⟩⟩ := blocks_at t
  have ht := points t
  funext y
  obtain ⟨r, l, rfl⟩ : ∃ (r l : Fin 512), y = ix2 r l := ⟨y 0, y 1, eq_ix2 y⟩
  rw [View.read_apply]
  have he : (((cfg0.win 6).blk t).view.emb (ix2 r l) : S8192x2048.Idx)
      = ix2 (⟨t.val % 16 * 512 + r.val, by omega⟩ : Fin 8192) (⟨t.val / 16 * 512 + l.val, by omega⟩ : Fin 2048) := by
    funext a
    apply Fin.ext
    match a with
    | ⟨0, _⟩ => show win0_6.index t 0 * 512 + 1 * r.val = t.val % 16 * 512 + r.val; rw [e0]; omega
    | ⟨1, _⟩ => show win0_6.index t 1 * 512 + 1 * l.val = t.val / 16 * 512 + l.val; rw [e1]; omega
  show k0_pay3 (F := Ideal) (iblk m c 0 t) (k0_pay1 (iblk m c 1 t)) (iblk m c 2 t) (k0_pay2 (iblk m c 3 t)) (iblk m c 4 t) (iblk m c 5 t) (ix2 r l)
    = mergeAt _ _ _ _ _ _
  rw [he]
  refine (pay _ _ _ _ _ _ _ _).trans ?_
  unfold mergeAt ssmAt attAt
  simp only [ssm_block, wssm_block, att_block, watt_block, (gate_blocks m c t r l).1, (gate_blocks m c t r l).2]
  rfl

theorem final (c : Dev nD) : (dats m 0 c).arrAt 6 cfg0.N
    = (mergeAt (m ((c : Thread nD τ).loc main_arg0)) (m ((c : Thread nD τ).loc main_arg1)) (m ((c : Thread nD τ).loc main_arg2))
          (m ((c : Thread nD τ).loc main_arg3)) (m ((c : Thread nD τ).loc main_arg4))
        : Buf (Elt Ideal) ((c : Thread nD τ).loc main_v4)) :=
  (dats m 0 c).arrAt_eq_of_cover 6 _ (fun t _ => flushed_eq m c t) (fun i => (covered_iff6 i).2 (by
    have h0 : (i 0).val < 8192 := (i 0).isLt; have h1 : (i 1).val < 2048 := (i 1).isLt; omega))

/-! ## The reference -/

/-- The reference's two products. -/
def refSsm (y : FVec Ideal S4x2048x4096 .bf16) (w : FVec Ideal S1x4096x2048 .f32) : FVec Ideal S8192x2048 .f32 :=
  shapeCast _ (Host.dotGeneral Cert.MergeRefIdeal.dot_S4x2048x4096_S4096x2048_S4x2048x2048_2_0_01_1_n_n none
    (extf .f32 y Cert.MergeRefIdeal.Gen.bitsLt_bf16_f32)
    (shapeCast _ w Cert.MergeRefIdeal.Gen.shapeCasts_S1x4096x2048_S4096x2048)) Cert.MergeRefIdeal.Gen.shapeCasts_S4x2048x2048_S8192x2048

def refAtt (y : FVec Ideal S4x2048x2048 .bf16) (w : FVec Ideal S1x2048x2048 .f32) : FVec Ideal S8192x2048 .f32 :=
  shapeCast _ (Host.dotGeneral Cert.MergeRefIdeal.dot_S4x2048x2048_S2048x2048_S4x2048x2048_2_0_01_1_n_n none
    (extf .f32 y Cert.MergeRefIdeal.Gen.bitsLt_bf16_f32)
    (shapeCast _ w Cert.MergeRefIdeal.Gen.shapeCasts_S1x2048x2048_S2048x2048)) Cert.MergeRefIdeal.Gen.shapeCasts_S4x2048x2048_S8192x2048

/-- The reference's sigmoid of 2048 columns of the projection, starting at one of the two offsets. -/
def refGate (g : FVec Ideal S8192x2048 .bf16) : FVec Ideal S8192x2048 .f32 :=
  Host.divf (broadcastInDim S8192x2048 ![] Cert.MergeRefIdeal.Gen.bcast_S_S8192x2048 (constant Cert.MergeRefIdeal.S_ .f32 0x3F800000#32))
    (addf (broadcastInDim S8192x2048 ![] Cert.MergeRefIdeal.Gen.bcast_S_S8192x2048 (constant Cert.MergeRefIdeal.S_ .f32 0x3F800000#32))
      (Host.exp (Host.negf (extf .f32 g Cert.MergeRefIdeal.Gen.bitsLt_bf16_f32))))

theorem refSsm_entry (y : FVec Ideal S4x2048x4096 .bf16) (w : FVec Ideal S1x4096x2048 .f32) (r : Fin 8192) (l : Fin 2048) :
    refSsm y w (ix2 r l) = ssmAt y w r l := by
  unfold refSsm ssmAt
  pointwise

theorem refAtt_entry (y : FVec Ideal S4x2048x2048 .bf16) (w : FVec Ideal S1x2048x2048 .f32) (r : Fin 8192) (l : Fin 2048) :
    refAtt y w (ix2 r l) = attAt y w r l := by
  unfold refAtt attAt
  pointwise

theorem refGate_entry (g : FVec Ideal S8192x2048 .bf16) (r : Fin 8192) (l : Fin 2048) :
    refGate g (ix2 r l) = Ideal.logistic (g (ix2 r l)) := by
  unfold refGate
  pointwise
  rfl

theorem gate_cols (p : FVec Ideal S8192x20480 .bf16) (r : Fin 8192) (l : Fin 2048) :
    extractStridedSlice S8192x2048 ![0, 16384] p Cert.MergeRefIdeal.Gen.slices_S8192x20480_S8192x2048_0_16384 (ix2 r l)
      = p (ix2 r (⟨16384 + l.val, by omega⟩ : Fin 20480))
    ∧ extractStridedSlice S8192x2048 ![0, 18432] p Cert.MergeRefIdeal.Gen.slices_S8192x20480_S8192x2048_0_18432 (ix2 r l)
      = p (ix2 r (⟨18432 + l.val, by omega⟩ : Fin 20480)) := by
  constructor <;> pointwise

theorem sum_entry (a b c d : FVec Ideal S8192x2048 .f32) (r : Fin 8192) (l : Fin 2048) :
    truncf .bf16 (addf (mulf a b) (mulf c d)) Cert.MergeRefIdeal.Gen.bitsLt_bf16_f32 (ix2 r l)
      = (a (ix2 r l) * b (ix2 r l) + c (ix2 r l) * d (ix2 r l) : EReal) := by
  pointwise

/-- The reference's term is the same function. -/
theorem ref_eq (ys : FVec Ideal S4x2048x4096 .bf16) (ws : FVec Ideal S1x4096x2048 .f32) (ya : FVec Ideal S4x2048x2048 .bf16)
    (wa : FVec Ideal S1x2048x2048 .f32) (p : FVec Ideal S8192x20480 .bf16) :
    truncf .bf16 (addf
        (mulf (refGate (extractStridedSlice S8192x2048 ![0, 16384] p Cert.MergeRefIdeal.Gen.slices_S8192x20480_S8192x2048_0_16384)) (refSsm ys ws))
        (mulf (refGate (extractStridedSlice S8192x2048 ![0, 18432] p Cert.MergeRefIdeal.Gen.slices_S8192x20480_S8192x2048_0_18432)) (refAtt ya wa)))
      Cert.MergeRefIdeal.Gen.bitsLt_bf16_f32 = mergeAt ys ws ya wa p := by
  funext i
  obtain ⟨r, l, rfl⟩ : ∃ (r : Fin 8192) (l : Fin 2048), i = ix2 r l := ⟨i 0, i 1, eq_ix2 i⟩
  refine (sum_entry _ _ _ _ r l).trans ?_
  rw [refGate_entry, refGate_entry, (gate_cols p r l).1, (gate_cols p r l).2, refSsm_entry, refAtt_entry]
  rfl

end Cert.MergeIdeal.Ideal

namespace Cert.Proof

/-- The call and its reference leave the same result. -/
theorem merge_claim : Cert.algebraic_MergeIdeal_MergeRefIdeal (hMergeIdeal := Cert.MergeIdeal.Gen.facts)
    (hMergeRefIdeal := Cert.MergeRefIdeal.Gen.facts) := by
  intro m g m' g' _ hm
  refine ⟨fun c => _, (θ_run _ _ _).mono (fun r h c => ⟨(h c).1.trans (Cert.MergeIdeal.Ideal.final m c), (h c).2⟩)
    (Cert.MergeIdeal.Value.run_blocks m g), ?_⟩
  refine (θ_run _ _ _).mono (fun r h c => ⟨(h c).1.trans ?_, (h c).2⟩) (Cert.MergeRefIdeal.Value.run m' g')
  obtain ⟨e0, e1, e2, e3, e4⟩ := hm c
  rw [e0, e1, e2, e3, e4]
  exact Cert.MergeIdeal.Ideal.ref_eq _ _ _ _ _

end Cert.Proof

end
-- ==== Proof.OutValue.lean ====
/-
  What the mixers' common output projection computes, entry by entry: the residual plus the product, and the rows of
  that sum normalised; and that its plain reference computes the same. From the first grid point on the scratch holds
  the rounded weight.
-/
module

public import proofs.«01_k».proof.Proof.Gen.OutIdeal.Value
public import proofs.«01_k».proof.Proof.Gen.OutRefIdeal.Run
public import proofs.«01_k».proof.Defs
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable {F : FTy → Type} [FloatOps F]
variable (m : (ℓ : Loc nD τ sig) → Buf (Elt F) ℓ)

theorem zero_off : (![0, 0] : Fin 2 → Nat) = fun _ => 0 := funext fun a => by fin_cases a <;> rfl

/-- At the first point the body rounds the weight into the scratch and writes both output blocks. -/
theorem fresh (c : Dev nD) (t : Fin cfg0.N) (h : t.val % 16 = 0) :
    outsAt0 m c t.val t.isLt
      = (k0_pay2 (iblk m c 0 t) (iblk m c 1 t) (k0_pay1 (iblk m c 2 t)),
          k0_pay3 (iblk m c 0 t) (iblk m c 1 t) (k0_pay1 (iblk m c 2 t)) (iblk m c 3 t), k0_pay1 (iblk m c 2 t)) := by
  rw [outsAt0_A m c t h]
  refine Prod.ext ?_ (Prod.ext ?_ ?_)
  · dsimp only
    unfold out0_A_4
    rw [View.read_writes_eq_canon _ _ _ (fun y => cover0_A_4 ..)]
    unfold kernelRun0_A
    dsimp only
    sl_unfold_words
    rw [View.canon_unit_zero zero_off, View.readCov_unit_zero (S := S2048x2048) _ zero_off]
    simp only [View.readAt_eq_ld, Memref.IsWhole.read_unread, View.ld_unit_zero (S := S512x2048) zero_off,
      View.ld_unit_zero (S := S2048x2048) zero_off]
  · dsimp only
    unfold out0_A_5
    rw [View.read_writes_eq_canon _ _ _ (fun y => cover0_A_5 ..)]
    unfold kernelRun0_A
    dsimp only
    sl_unfold_words
    rw [View.canon_unit_zero zero_off, View.readCov_unit_zero (S := S2048x2048) _ zero_off]
    simp only [View.readAt_eq_ld, Memref.IsWhole.read_unread, View.ld_unit_zero (S := S512x2048) zero_off,
      View.ld_unit_zero (S := S2048x2048) zero_off, View.ld_unit_zero (S := S1x2048) zero_off]
  · dsimp only
    unfold sout0_A_0
    rw [View.read_writes_eq_canon _ _ _ (fun y => scover0_A_0 ..)]
    unfold kernelRun0_A
    dsimp only
    sl_unfold_words
    rw [View.canon_unit_zero zero_off]
    simp only [View.readAt_eq_ld, Memref.IsWhole.read_unread, View.ld_unit_zero (S := S2048x2048) zero_off]

/-- At a later point the body multiplies with the scratch as the point before left it. -/
theorem later (c : Dev nD) (t : Fin cfg0.N) (h : ¬t.val % 16 = 0) (s : Vec F S2048x2048 .bf16)
    (hs : (outsAt0 m c (t.val - 1) (Nat.lt_of_le_of_lt (Nat.sub_le _ _) t.isLt)).2.2 = s) :
    outsAt0 m c t.val t.isLt
      = (k0_pay2 (iblk m c 0 t) (iblk m c 1 t) s, k0_pay3 (iblk m c 0 t) (iblk m c 1 t) s (iblk m c 3 t), s) := by
  rw [outsAt0_B m c t h, hs]
  refine Prod.ext ?_ (Prod.ext ?_ ?_)
  · dsimp only
    unfold out0_B_4
    rw [View.read_writes_eq_canon _ _ _ (fun y => cover0_B_4 ..)]
    unfold kernelRun0_B
    dsimp only
    sl_unfold_words
    rw [View.canon_unit_zero zero_off]
    simp only [View.readAt_eq_ld, Memref.IsWhole.read_unread, View.ld_unit_zero (S := S512x2048) zero_off,
      View.ld_unit_zero (S := S2048x2048) zero_off]
    exact congrArg _ ((Memref.isWhole_whole cc0_scratch0).read_unread s)
  · dsimp only
    unfold out0_B_5
    rw [View.read_writes_eq_canon _ _ _ (fun y => cover0_B_5 ..)]
    unfold kernelRun0_B
    dsimp only
    sl_unfold_words
    rw [View.canon_unit_zero zero_off]
    simp only [View.readAt_eq_ld, Memref.IsWhole.read_unread, View.ld_unit_zero (S := S512x2048) zero_off,
      View.ld_unit_zero (S := S2048x2048) zero_off, View.ld_unit_zero (S := S1x2048) zero_off]
    exact congrArg (fun a => k0_pay3 (iblk m c 0 t) (iblk m c 1 t) a (iblk m c 3 t)) ((Memref.isWhole_whole cc0_scratch0).read_unread s)
  · rfl

theorem points (t : Fin cfg0.N) : t.val < 16 := lt_of_lt_of_eq t.isLt N_0

theorem blocks_at : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem x_arr (c : Dev nD) : V m c main_v0
    = shapeCast S8192x2048 (m ((c : Thread nD τ).loc main_arg0)) shapeCasts_S4x2048x2048_S8192x2048 := by
  dsimp only [V, hostOps0]; after_results; rfl

theorem weight_arr (c : Dev nD) : V m c main_v1
    = shapeCast S2048x2048 (m ((c : Thread nD τ).loc main_arg2)) shapeCasts_S1x2048x2048_S2048x2048 := by
  dsimp only [V, hostOps0]; after_results; rfl

theorem scale_arr (c : Dev nD) : V m c main_v3
    = shapeCast S1x2048 (shapeCast S2048 (m ((c : Thread nD τ).loc main_arg3)) shapeCasts_S1x2048_S2048) shapeCasts_S2048_S1x2048 := by
  dsimp only [V, hostOps0]; after_results; rfl

theorem x_entry (x : Vec F S4x2048x2048 .f32) (r : Fin 8192) (k : Fin 2048) :
    shapeCast S8192x2048 x shapeCasts_S4x2048x2048_S8192x2048 (ix2 r k)
      = x (ix3 (⟨r.val / 2048, by omega⟩ : Fin 4) (⟨r.val % 2048, Nat.mod_lt _ (by decide)⟩ : Fin 2048) k) := by
  pointwise

theorem weight_entry (w : Vec F S1x2048x2048 .f32) (k : Fin 2048) (l : Fin 2048) :
    shapeCast S2048x2048 w shapeCasts_S1x2048x2048_S2048x2048 (ix2 k l) = w (ix3 (0 : Fin 1) k l) := by
  pointwise

theorem scale_entry (w : Vec F S1x2048 .f32) (z : Fin 1) (d : Fin 2048) :
    shapeCast S1x2048 (shapeCast S2048 w shapeCasts_S1x2048_S2048) shapeCasts_S2048_S1x2048 (ix2 z d) = w (ix2 (0 : Fin 1) d) := by
  obtain rfl : z = 0 := Subsingleton.elim _ _
  pointwise

/-- The residual's block at a point. -/
theorem x_block (c : Dev nD) (t : Fin cfg0.N) (r : Fin 512) (k : Fin 2048) :
    (iblk m c 0 t : Vec F S512x2048 .f32) (ix2 r k)
      = m ((c : Thread nD τ).loc main_arg0)
          (ix3 (⟨(t.val * 512 + r.val) / 2048, by have := points t; omega⟩ : Fin 4)
            (⟨(t.val * 512 + r.val) % 2048, Nat.mod_lt _ (by decide)⟩ : Fin 2048) k : S4x2048x2048.Idx) := by
  obtain ⟨⟨e0, e1⟩, -⟩ := blocks_at t
  have ht := points t
  unfold iblk
  rw [View.read_apply]
  show V m c main_v0 _ = _
  rw [x_arr]
  have he : (((cfg0.win 0).blk t).view.emb (ix2 r k) : S8192x2048.Idx) = ix2 (⟨t.val * 512 + r.val, by omega⟩ : Fin 8192) k := by
    funext a
    apply Fin.ext
    match a with
    | ⟨0, _⟩ => show win0_0.index t 0 * 512 + 1 * r.val = t.val * 512 + r.val; rw [e0]; omega
    | ⟨1, _⟩ => show win0_0.index t 1 * 2048 + 1 * k.val = k.val; rw [e1]; omega
  exact (congrArg _ he).trans (x_entry _ _ _)

/-- The merged rows' block at a point. -/
theorem row_block (c : Dev nD) (t : Fin cfg0.N) (r : Fin 512) (k : Fin 2048) :
    (iblk m c 1 t : Vec F S512x2048 .bf16) (ix2 r k)
      = m ((c : Thread nD τ).loc main_arg1)
          (ix2 (⟨t.val * 512 + r.val, by have := points t; omega⟩ : Fin 8192) k : S8192x2048.Idx) := by
  obtain ⟨-, ⟨e0, e1⟩, -⟩ := blocks_at t
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [e0]; omega
  | ⟨1, _⟩ => show win0_1.index t 1 * 2048 + 1 * k.val = k.val; rw [e1]; omega

/-- The weight's block: all of it. -/
theorem weight_block (c : Dev nD) (t : Fin cfg0.N) (k l : Fin 2048) :
    (iblk m c 2 t : Vec F S2048x2048 .f32) (ix2 k l)
      = m ((c : Thread nD τ).loc main_arg2) (ix3 (0 : Fin 1) k l : S1x2048x2048.Idx) := by
  obtain ⟨-, -, ⟨e0, e1⟩, -⟩ := blocks_at t
  unfold iblk
  rw [View.read_apply]
  show V m c main_v1 _ = _
  rw [weight_arr]
  have he : (((cfg0.win 2).blk t).view.emb (ix2 k l) : S2048x2048.Idx) = ix2 k l := by
    funext a
    apply Fin.ext
    match a with
    | ⟨0, _⟩ => show win0_2.index t 0 * 2048 + 1 * k.val = k.val; rw [e0]; omega
    | ⟨1, _⟩ => show win0_2.index t 1 * 2048 + 1 * l.val = l.val; rw [e1]; omega
  exact (congrArg _ he).trans (weight_entry _ _ _)

/-- The scale's block: all of it. -/
theorem scale_block (c : Dev nD) (t : Fin cfg0.N) (z : Fin 1) (d : Fin 2048) :
    (iblk m c 3 t : Vec F S1x2048 .f32) (ix2 z d)
      = m ((c : Thread nD τ).loc main_arg3) (ix2 (0 : Fin 1) d : S1x2048.Idx) := by
  obtain ⟨-, -, -, ⟨e0, e1⟩, -⟩ := blocks_at t
  unfold iblk
  rw [View.read_apply]
  show V m c main_v3 _ = _
  rw [scale_arr]
  have he : (((cfg0.win 3).blk t).view.emb (ix2 z d) : S1x2048.Idx) = ix2 z d := by
    funext a
    apply Fin.ext
    match a with
    | ⟨0, _⟩ => show win0_3.index t 0 * 1 + 1 * z.val = z.val; rw [e0]; omega
    | ⟨1, _⟩ => show win0_3.index t 1 * 2048 + 1 * d.val = d.val; rw [e1]; omega
  exact (congrArg _ he).trans (scale_entry _ _ _)

/-- The weight block is the same at every point. -/
theorem weight_same (c : Dev nD) (t t' : Fin cfg0.N) :
    (iblk m c 2 t : Vec F S2048x2048 .f32) = iblk m c 2 t' := by
  funext j
  obtain ⟨k, l, rfl⟩ : ∃ (k l : Fin 2048), j = ix2 k l := ⟨j 0, j 1, eq_ix2 j⟩
  exact (weight_block m c t k l).trans (weight_block m c t' k l).symm

/-- What every point leaves: the two written blocks, and the rounded weight in the scratch. -/
theorem leaves (c : Dev nD) : ∀ (n : ℕ) (hn : n < cfg0.N),
    outsAt0 m c n hn = (k0_pay2 (iblk m c 0 ⟨n, hn⟩) (iblk m c 1 ⟨n, hn⟩) (k0_pay1 (iblk m c 2 ⟨n, hn⟩)),
        k0_pay3 (iblk m c 0 ⟨n, hn⟩) (iblk m c 1 ⟨n, hn⟩) (k0_pay1 (iblk m c 2 ⟨n, hn⟩)) (iblk m c 3 ⟨n, hn⟩),
        k0_pay1 (iblk m c 2 ⟨n, hn⟩))
  | 0, hn => fresh m c ⟨0, hn⟩ rfl
  | n + 1, hn => by
    by_cases h : (n + 1) % 16 = 0
    · exact fresh m c ⟨n + 1, hn⟩ h
    · refine later m c ⟨n + 1, hn⟩ h (k0_pay1 (iblk m c 2 ⟨n + 1, hn⟩)) ?_
      show (outsAt0 m c n _).2.2 = _
      rw [leaves c n (Nat.lt_of_succ_lt hn)]
      dsimp only
      rw [weight_same m c ⟨n, Nat.lt_of_succ_lt hn⟩ ⟨n + 1, hn⟩]

end Cert.OutIdeal.Value

namespace Cert.OutIdeal.Ideal

open Cert.OutIdeal Cert.OutIdeal.Gen Cert.OutIdeal.Value

variable (m : (ℓ : Loc nD τ sig) → Buf (Elt Ideal) ℓ) (ρ : Dev nD → PrngReg)

/-- The residual plus the product, at a row and a column. -/
def sumAt (x : FVec Ideal S4x2048x2048 .f32) (y : FVec Ideal S8192x2048 .bf16) (w : FVec Ideal S1x2048x2048 .f32)
    (r : Fin 8192) (l : Fin 2048) : EReal :=
  x (ix3 (⟨r.val / 2048, by omega⟩ : Fin 4) (⟨r.val % 2048, Nat.mod_lt _ (by decide)⟩ : Fin 2048) l)
    + ∑ k : Fin 2048, y (ix2 r k) * w (ix3 (0 : Fin 1) k l)

/-- An entry of a row normalised by the row's mean square, times a scale. -/
def normOf (row : Fin 2048 → EReal) (s : EReal) (l : Fin 2048) : EReal :=
  row l * Ideal.rsqrt (Ideal.div (∑ k : Fin 2048, row k * row k) (Ideal.ofBits FTy.f32 1157627904#32)
    + Ideal.ofBits FTy.f32 897988541#32) * s

/-- The first result: the new residual. -/
def resAt (x : FVec Ideal S4x2048x2048 .f32) (y : FVec Ideal S8192x2048 .bf16) (w : FVec Ideal S1x2048x2048 .f32) :
    FVec Ideal S8192x2048 .f32 := fun i => sumAt x y w (i 0) (i 1)

/-- The second result: its rows normalised. -/
def hAt (x : FVec Ideal S4x2048x2048 .f32) (y : FVec Ideal S8192x2048 .bf16) (w : FVec Ideal S1x2048x2048 .f32)
    (nw : FVec Ideal S1x2048 .f32) : FVec Ideal S8192x2048 .bf16 :=
  fun i => normOf (sumAt x y w (i 0)) (nw (ix2 (0 : Fin 1) (i 1))) (i 1)

theorem sum_pay (x : FVec Ideal S512x2048 .f32) (y : FVec Ideal S512x2048 .bf16) (w : FVec Ideal S2048x2048 .f32)
    (r : Fin 512) (l : Fin 2048) :
    k0_pay2 (F := Ideal) x y (k0_pay1 (F := Ideal) w) (ix2 r l)
      = (x (ix2 r l) + ∑ k : Fin 2048, y (ix2 r k) * w (ix2 k l) : EReal) := by
  unfold_payloads
  pointwise

theorem norm_pay (x : FVec Ideal S512x2048 .f32) (y : FVec Ideal S512x2048 .bf16) (w : FVec Ideal S2048x2048 .bf16)
    (nw : FVec Ideal S1x2048 .f32) (r : Fin 512) (l : Fin 2048) :
    k0_pay3 (F := Ideal) x y w nw (ix2 r l)
      = normOf (fun k => k0_pay2 (F := Ideal) x y w (ix2 r k)) (nw (ix2 (0 : Fin 1) l)) l := by
  unfold k0_pay3
  generalize k0_pay2 (F := Ideal) x y w = q
  unfold normOf
  pointwise

/-- A written entry of the new residual. -/
theorem sum_at (c : Dev nD) (t : Fin cfg0.N) (r : Fin 512) (l : Fin 2048) :
    k0_pay2 (F := Ideal) (iblk m c 0 t) (iblk m c 1 t) (k0_pay1 (iblk m c 2 t)) (ix2 r l)
      = sumAt (m ((c : Thread nD τ).loc main_arg0)) (m ((c : Thread nD τ).loc main_arg1)) (m ((c : Thread nD τ).loc main_arg2))
          (⟨t.val * 512 + r.val, by have := points t; omega⟩ : Fin 8192) l := by
  refine (sum_pay _ _ _ _ _).trans ?_
  unfold sumAt
  simp only [x_block, row_block, weight_block]

theorem flushed_res (c : Dev nD) (t : Fin cfg0.N) :
    (dats m 0 c).flushed 4 t = ((cfg0.win 4).blk t).view.read (Elt Ideal)
      (resAt (m ((c : Thread nD τ).loc main_arg0)) (m ((c : Thread nD τ).loc main_arg1)) (m ((c : Thread nD τ).loc main_arg2))
        : Buf (Elt Ideal) ((c : Thread nD τ).loc main_v4_0)) := by
  rw [flushed4, leaves]
  dsimp only
  obtain ⟨-, -, -, -, ⟨e0, e1⟩, -⟩ := blocks_at t
  have ht := points t
  funext y
  obtain ⟨r, l, rfl⟩ : ∃ (r : Fin 512) (l : Fin 2048), y = ix2 r l := ⟨y 0, y 1, eq_ix2 y⟩
  rw [View.read_apply]
  have he : (((cfg0.win 4).blk t).view.emb (ix2 r l) : S8192x2048.Idx) = ix2 (⟨t.val * 512 + r.val, by omega⟩ : Fin 8192) l := by
    funext a
    apply Fin.ext
    match a with
    | ⟨0, _⟩ => show win0_4.index t 0 * 512 + 1 * r.val = t.val * 512 + r.val; rw [e0]; omega
    | ⟨1, _⟩ => show win0_4.index t 1 * 2048 + 1 * l.val = l.val; rw [e1]; omega
  show k0_pay2 (F := Ideal) (iblk m c 0 t) (iblk m c 1 t) (k0_pay1 (iblk m c 2 t)) (ix2 r l) = resAt _ _ _ _
  rw [he]
  exact sum_at m c t r l

theorem flushed_norm (c : Dev nD) (t : Fin cfg0.N) :
    (dats m 0 c).flushed 5 t = ((cfg0.win 5).blk t).view.read (Elt Ideal)
      (hAt (m ((c : Thread nD τ).loc main_arg0)) (m ((c : Thread nD τ).loc main_arg1)) (m ((c : Thread nD τ).loc main_arg2))
          (m ((c : Thread nD τ).loc main_arg3))
        : Buf (Elt Ideal) ((c : Thread nD τ).loc main_v4_1)) := by
  rw [flushed5, leaves]
  dsimp only
  obtain ⟨-, -, -, -, -, ⟨e0, e1⟩⟩ := blocks_at t
  have ht := points t
  funext y
  obtain ⟨r, l, rfl⟩ : ∃ (r : Fin 512) (l : Fin 2048), y = ix2 r l := ⟨y 0, y 1, eq_ix2 y⟩
  rw [View.read_apply]
  have he : (((cfg0.win 5).blk t).view.emb (ix2 r l) : S8192x2048.Idx) = ix2 (⟨t.val * 512 + r.val, by omega⟩ : Fin 8192) l := by
    funext a
    apply Fin.ext
    match a with
    | ⟨0, _⟩ => show win0_5.index t 0 * 512 + 1 * r.val = t.val * 512 + r.val; rw [e0]; omega
    | ⟨1, _⟩ => show win0_5.index t 1 * 2048 + 1 * l.val = l.val; rw [e1]; omega
  show k0_pay3 (F := Ideal) (iblk m c 0 t) (iblk m c 1 t) (k0_pay1 (iblk m c 2 t)) (iblk m c 3 t) (ix2 r l) = hAt _ _ _ _ _
  rw [he]
  refine (norm_pay _ _ _ _ _ _).trans ?_
  exact congrArg₂ (fun a b => normOf a b l) (funext fun k => sum_at m c t r k) (scale_block m c t 0 l)

theorem final_res (c : Dev nD) : (dats m 0 c).arrAt 4 cfg0.N
    = (resAt (m ((c : Thread nD τ).loc main_arg0)) (m ((c : Thread nD τ).loc main_arg1)) (m ((c : Thread nD τ).loc main_arg2))
        : Buf (Elt Ideal) ((c : Thread nD τ).loc main_v4_0)) :=
  (dats m 0 c).arrAt_eq_of_cover 4 _ (fun t _ => flushed_res m c t) (fun i => (covered_iff4 i).2 (by
    have h0 : (i 0).val < 8192 := (i 0).isLt; have h1 : (i 1).val < 2048 := (i 1).isLt; omega))

theorem final_norm (c : Dev nD) : (dats m 0 c).arrAt 5 cfg0.N
    = (hAt (m ((c : Thread nD τ).loc main_arg0)) (m ((c : Thread nD τ).loc main_arg1)) (m ((c : Thread nD τ).loc main_arg2))
          (m ((c : Thread nD τ).loc main_arg3))
        : Buf (Elt Ideal) ((c : Thread nD τ).loc main_v4_1)) :=
  (dats m 0 c).arrAt_eq_of_cover 5 _ (fun t _ => flushed_norm m c t) (fun i => (covered_iff5 i).2 (by
    have h0 : (i 0).val < 8192 := (i 0).isLt; have h1 : (i 1).val < 2048 := (i 1).isLt; omega))

/-! ## The reference -/

/-- The reference's first result. -/
def refSum (x : FVec Ideal S4x2048x2048 .f32) (y : FVec Ideal S8192x2048 .bf16) (w : FVec Ideal S1x2048x2048 .f32) :
    FVec Ideal S8192x2048 .f32 :=
  addf (shapeCast _ x Cert.OutRefIdeal.Gen.shapeCasts_S4x2048x2048_S8192x2048)
    (Host.dotGeneral Cert.OutRefIdeal.dot_S8192x2048_S2048x2048_S8192x2048_1_0_0_1_n_n none
      (extf .f32 y Cert.OutRefIdeal.Gen.bitsLt_bf16_f32) (shapeCast _ w Cert.OutRefIdeal.Gen.shapeCasts_S1x2048x2048_S2048x2048))

/-- The reference's second result, of the first. -/
def refNorm (q : FVec Ideal S8192x2048 .f32) (nw : FVec Ideal S1x2048 .f32) : FVec Ideal S8192x2048 .bf16 :=
  truncf .bf16 (mulf (mulf q (broadcastInDim S8192x2048 ![0, 1] Cert.OutRefIdeal.Gen.bcast_S8192x1_S8192x2048_0_1
      (Host.rsqrt (addf (Host.divf (broadcastInDim Cert.OutRefIdeal.S8192x1 ![0] Cert.OutRefIdeal.Gen.bcast_S8192_S8192x1_0
          (Host.reduceAdd (mulf q q) (constant Cert.OutRefIdeal.S_ .f32 0x00000000#32) Cert.OutRefIdeal.Gen.reducesTo_S8192x2048_S8192_d1
            Cert.OutRefIdeal.Gen.h_S_))
        (broadcastInDim Cert.OutRefIdeal.S8192x1 ![] Cert.OutRefIdeal.Gen.bcast_S_S8192x1 (constant Cert.OutRefIdeal.S_ .f32 0x45000000#32)))
        (broadcastInDim Cert.OutRefIdeal.S8192x1 ![] Cert.OutRefIdeal.Gen.bcast_S_S8192x1 (constant Cert.OutRefIdeal.S_ .f32 0x358637BD#32))))))
    (broadcastInDim S8192x2048 ![0, 1] Cert.OutRefIdeal.Gen.bcast_S1x2048_S8192x2048_0_1
      (broadcastInDim S1x2048 ![1] Cert.OutRefIdeal.Gen.bcast_S2048_S1x2048_1 (shapeCast _ nw Cert.OutRefIdeal.Gen.shapeCasts_S1x2048_S2048))))
    Cert.OutRefIdeal.Gen.bitsLt_bf16_f32

theorem refSum_entry (x : FVec Ideal S4x2048x2048 .f32) (y : FVec Ideal S8192x2048 .bf16) (w : FVec Ideal S1x2048x2048 .f32)
    (r : Fin 8192) (l : Fin 2048) : refSum x y w (ix2 r l) = sumAt x y w r l := by
  unfold refSum sumAt
  pointwise

theorem refNorm_entry (q : FVec Ideal S8192x2048 .f32) (nw : FVec Ideal S1x2048 .f32) (r : Fin 8192) (l : Fin 2048) :
    refNorm q nw (ix2 r l) = normOf (fun k => q (ix2 r k)) (nw (ix2 (0 : Fin 1) l)) l := by
  unfold refNorm normOf
  pointwise

/-- The reference's terms are the same functions. -/
theorem ref_eq (x : FVec Ideal S4x2048x2048 .f32) (y : FVec Ideal S8192x2048 .bf16) (w : FVec Ideal S1x2048x2048 .f32)
    (nw : FVec Ideal S1x2048 .f32) : refSum x y w = resAt x y w ∧ refNorm (refSum x y w) nw = hAt x y w nw := by
  constructor
  · funext i
    obtain ⟨r, l, rfl⟩ : ∃ (r : Fin 8192) (l : Fin 2048), i = ix2 r l := ⟨i 0, i 1, eq_ix2 i⟩
    exact refSum_entry x y w r l
  · funext i
    obtain ⟨r, l, rfl⟩ : ∃ (r : Fin 8192) (l : Fin 2048), i = ix2 r l := ⟨i 0, i 1, eq_ix2 i⟩
    exact (refNorm_entry _ nw r l).trans (congrArg (fun a => normOf a _ l) (funext fun k => refSum_entry x y w r k))

end Cert.OutIdeal.Ideal

namespace Cert.Proof

/-- The call and its reference leave the same two results. -/
theorem out_claim : Cert.algebraic_OutIdeal_OutRefIdeal (hOutIdeal := Cert.OutIdeal.Gen.facts)
    (hOutRefIdeal := Cert.OutRefIdeal.Gen.facts) := by
  intro m g m' g' _ hm
  refine ⟨fun c => _, fun c => _, (θ_run _ _ _).mono (fun r h c =>
    ⟨(h c).1.trans (Cert.OutIdeal.Ideal.final_res m c), (h c).2.1.trans (Cert.OutIdeal.Ideal.final_norm m c), (h c).2.2⟩)
    (Cert.OutIdeal.Value.run_blocks m g), ?_⟩
  refine (θ_run _ _ _).mono (fun r h c => ⟨(h c).1.trans ?_, (h c).2.1.trans ?_, (h c).2.2⟩) (Cert.OutRefIdeal.Value.run m' g')
  all_goals
    obtain ⟨e0, e1, e2, e3⟩ := hm c
    simp only [e0, e1, e2, e3]
  · exact (Cert.OutIdeal.Ideal.ref_eq _ _ _ (fun _ => (0 : EReal))).1
  · exact (Cert.OutIdeal.Ideal.ref_eq _ _ _ _).2

end Cert.Proof

end
-- ==== Proof.Conv.Host.lean ====
/-
  THE CONVOLUTION'S HOST VALUES: the two matrices of ones on shifted diagonals, the weights and the bias the region reads,
  and what the precondition says of the arguments.
-/
module

public import proofs.«01_k».proof.Proof.Gen.ConvIdeal.Value
public import proofs.«01_k».proof.Proof.Gen.Pre_finite_conv
public import proofs.«01_k».proof.Defs
public import Idealize.ShloMosaic.Lib.Pointwise
public import Idealize.ShloMosaic.Lib.ReduceAll
public import Idealize.ShloMosaic.Lib.IdealHost

@[expose] public section

set_option maxRecDepth 16384

noncomputable section

namespace Cert.ConvIdeal.Value

open Cert.ConvIdeal Cert.ConvIdeal.Gen Idealize.ShloMosaic Idealize.ShloMosaic.TcCoe

section
variable {F : FTy → Type} [FloatOps F]
variable (m : (ℓ : Loc nD τ sig) → Buf (Elt F) ℓ)

/-- The host's square of ones on a shifted diagonal. -/
def eyeAt (s : Shape) (h : S_.BroadcastsInDim s ![]) (a b : Fin s.rank) (k : BitVec 32) : FVec F s .bf16 :=
  uitofp .bf16 (cmpi .eq (addi (iotaInDim s 32 a) (broadcastInDim s ![] h (constantI S_ 32 k))) (iotaInDim s 32 b))

/-- Three equal pieces make equal concatenations. -/
theorem concat_congr {s : Shape} {T : Shape} {ax : Fin T.rank} {e : Type} {a a' b b' c c' : s.Idx → e}
    (h : Shape.Concatenates [s, s, s] T ax) (ha : a = a') (hb : b = b') (hc : c = c') :
    concatenate T ax [⟨s, a⟩, ⟨s, b⟩, ⟨s, c⟩] h = concatenate T ax [⟨s, a'⟩, ⟨s, b'⟩, ⟨s, c'⟩] h := by
  subst ha hb hc; rfl

/-- The three squares for the rows inside a slab. -/
def shifts : Vec F S768x256 .bf16 :=
  concatenate S768x256 0 [⟨S256x256, eyeAt S256x256 bcast_S_S256x256 0 1 4294967293#32⟩,
    ⟨S256x256, eyeAt S256x256 bcast_S_S256x256 0 1 4294967294#32⟩,
    ⟨S256x256, eyeAt S256x256 bcast_S_S256x256 0 1 4294967295#32⟩] concatenates_S256x256_S256x256_S256x256_S768x256_d0

/-- The three squares for the rows before a slab. -/
def tailShifts : Vec F S48x16 .bf16 :=
  concatenate S48x16 0 [⟨S16x16, eyeAt S16x16 bcast_S_S16x16 0 1 13#32⟩,
    ⟨S16x16, eyeAt S16x16 bcast_S_S16x16 0 1 14#32⟩,
    ⟨S16x16, eyeAt S16x16 bcast_S_S16x16 0 1 15#32⟩] concatenates_S16x16_S16x16_S16x16_S48x16_d0

theorem shifts_arr (c : Dev nD) : V m c main_v21 = (shifts : Vec F S768x256 .bf16) := by
  unfold shifts
  dsimp only [V, hostOps0]; after_results
  refine concat_congr _ ?_ ?_ ?_
  all_goals (dsimp only [Matrix.cons_val]; after_results_simp; rfl)

theorem tailShifts_arr (c : Dev nD) : V m c main_v40 = (tailShifts : Vec F S48x16 .bf16) := by
  unfold tailShifts
  dsimp only [V, hostOps0]; after_results
  refine concat_congr _ ?_ ?_ ?_
  all_goals (dsimp only [Matrix.cons_val]; after_results_simp; rfl)

end

theorem eye_entry (k : BitVec 32) (y x : Fin 256) : eyeAt (F := Ideal) S256x256 bcast_S_S256x256 0 1 k (ix2 y x)
    = if (BitVec.ofNat 32 ↑y) + k = (BitVec.ofNat 32 ↑x) then (1 : EReal) else 0 := by
  unfold eyeAt
  pointwise
  by_cases h : (BitVec.ofNat 32 ↑y) + k = (BitVec.ofNat 32 ↑x)
  · simp only [IntOp.cmpi, IntOp.addi, h, if_true]; simp [FloatOps.uitofp]
  · simp only [IntOp.cmpi, IntOp.addi, h, if_false]; simp [h, FloatOps.uitofp]

theorem tailEye_entry (k : BitVec 32) (y x : Fin 16) : eyeAt (F := Ideal) S16x16 bcast_S_S16x16 0 1 k (ix2 y x)
    = if (BitVec.ofNat 32 ↑y) + k = (BitVec.ofNat 32 ↑x) then (1 : EReal) else 0 := by
  unfold eyeAt
  pointwise
  by_cases h : (BitVec.ofNat 32 ↑y) + k = (BitVec.ofNat 32 ↑x)
  · simp only [IntOp.cmpi, IntOp.addi, h, if_true]; simp [FloatOps.uitofp]
  · simp only [IntOp.cmpi, IntOp.addi, h, if_false]; simp [h, FloatOps.uitofp]

theorem shifts_entry (y : Fin 768) (x : Fin 256) : (shifts : Vec Ideal S768x256 .bf16) (ix2 y x)
    = (if x.val + (3 - y.val / 256) = y.val % 256 then 1 else 0 : EReal) := by
  unfold shifts
  pointwise
  have hy := y.isLt
  have hx := x.isLt
  have sum (a k : ℕ) (ha : a < 256) (hk : k < 4294967296) :
      (BitVec.ofNat 32 a + BitVec.ofNat 32 k = BitVec.ofNat 32 x.val) ↔ (a + k) % 4294967296 = x.val := by
    rw [← BitVec.toNat_inj]; simp; omega
  by_cases h1 : y.val < 256 <;> by_cases h2 : y.val - 256 < 256 <;> simp only [h1, h2, dite_true, dite_false] <;> rw [eye_entry] <;> dsimp only <;> refine if_congr ?_ rfl rfl
  · rw [sum _ _ h1 (by norm_num)]; omega
  · omega
  · rw [sum _ _ h2 (by norm_num)]; omega
  · rw [sum _ _ (by omega) (by norm_num)]; omega

theorem tailShifts_entry (y : Fin 48) (x : Fin 16) : (tailShifts : Vec Ideal S48x16 .bf16) (ix2 y x)
    = (if x.val + (3 - y.val / 16) = 16 + y.val % 16 then 1 else 0 : EReal) := by
  unfold tailShifts
  pointwise
  have hy := y.isLt
  have hx := x.isLt
  have sum (a k : ℕ) (ha : a < 16) (hk : k < 16) :
      (BitVec.ofNat 32 a + BitVec.ofNat 32 k = BitVec.ofNat 32 x.val) ↔ a + k = x.val := by
    rw [← BitVec.toNat_inj]; simp; omega
  by_cases h1 : y.val < 16 <;> by_cases h2 : y.val - 16 < 16 <;> simp only [h1, h2, dite_true, dite_false] <;> rw [tailEye_entry] <;> dsimp only <;> refine if_congr ?_ rfl rfl
  · rw [sum _ _ h1 (by norm_num)]; omega
  · omega
  · rw [sum _ _ h2 (by norm_num)]; omega
  · rw [sum _ _ (by omega) (by norm_num)]; omega

/-- A value whose magnitude is below infinity is a real number. -/
theorem real_of_lt (a : EReal) (h : FloatOps.cmpf (F := Ideal) (φ := .f32) .olt (FloatOps.absf (F := Ideal) (φ := .f32) a)
    (FloatOps.ofBits (F := Ideal) .f32 2139095040#32) = 1#1) : a = ((a.toReal : ℝ) : EReal) := by
  have hi : (Ideal.ofBits FTy.f32 2139095040#32 : EReal) = ⊤ := by simp [Ideal.ofBits, Ideal.ieee]
  have hl : max a (-a) < Ideal.ofBits FTy.f32 2139095040#32 := by
    have : Ideal.cmp .olt (max a (-a)) (Ideal.ofBits FTy.f32 2139095040#32) = 1#1 := h
    by_contra hn
    simp [Ideal.cmp, hn] at this
  rw [hi] at hl
  refine (EReal.coe_toReal ?_ ?_).symm
  · rintro rfl; simp at hl
  · rintro rfl; simp at hl

end Cert.ConvIdeal.Value

namespace Cert.ConvIdeal.Value

open Cert.ConvIdeal Cert.ConvIdeal.Gen Idealize.ShloMosaic Idealize.ShloMosaic.TcCoe

attribute [local instance] Cert.Pre_finite_conv.Gen.facts

/-- Every entry of the three arguments is a real number. -/
theorem finite_args (m : (ℓ : Loc nD τ sig) → Buf (Elt Ideal) ℓ) (h : Pre_ConvIdeal_finite_conv m) (c : Dev nD) :
    (∀ i, (m ((c : Thread nD τ).loc main_arg0) : Vec Ideal S4x2048x20480 .bf16) i = ((((m ((c : Thread nD τ).loc main_arg0) : Vec Ideal S4x2048x20480 .bf16) i).toReal : ℝ) : EReal))
    ∧ (∀ i, (m ((c : Thread nD τ).loc main_arg1) : Vec Ideal S1x4x6144 .f32) i = ((((m ((c : Thread nD τ).loc main_arg1) : Vec Ideal S1x4x6144 .f32) i).toReal : ℝ) : EReal))
    ∧ (∀ i, (m ((c : Thread nD τ).loc main_arg2) : Vec Ideal S1x6144 .f32) i = ((((m ((c : Thread nD τ).loc main_arg2) : Vec Ideal S1x6144 .f32) i).toReal : ℝ) : EReal)) := by
  have := congrFun (h c) ix0
  simp only [Pre_finite_conv.fn] at this
  rw [show ∀ (a b : IVec Pre_finite_conv.S_ 1) i, andi a b i = IntOp.andi (a i) (b i) from fun _ _ _ => rfl, IntOp.andi_eq_one,
    show ∀ (a b : IVec Pre_finite_conv.S_ 1) i, andi a b i = IntOp.andi (a i) (b i) from fun _ _ _ => rfl, IntOp.andi_eq_one] at this
  obtain ⟨⟨a, b⟩, d⟩ := this
  exact ⟨fun i => real_of_lt _ (Host.reduce_andi_all _ _ _ _ _ a i), fun i => real_of_lt _ (Host.reduce_andi_all _ _ _ _ _ b i),
    fun i => real_of_lt _ (Host.reduce_andi_all _ _ _ _ _ d i)⟩

end Cert.ConvIdeal.Value

end
-- ==== Proof.Conv.Slab.lean ====
/-
  ONE SLAB OF THE CONVOLUTION. The body treats its block 256 rows by 512 columns at a time; each of the sixteen stores
  writes the same function of the rows, the sixteen rows before them, the two shift matrices, the weights and the bias.
-/
module

public import proofs.«01_k».proof.Proof.Gen.ConvIdeal.Value
public import Idealize.ShloMosaic.Lib.Pointwise

@[expose] public section

set_option maxRecDepth 16384

noncomputable section

namespace Cert.ConvIdeal.Slab

open Cert.ConvIdeal Cert.ConvIdeal.Gen Idealize.ShloMosaic

variable {F : FTy → Type} [FloatOps F]

/-- What a store writes: from the slab's rows, the sixteen rows before it, the shift matrices, the weights and the bias. -/
def slab (cur : Vec F S1x256x512 .bf16) (prev : FVec F S16x512 .bf16) (E : Vec F S768x256 .bf16) (T : Vec F S48x16 .bf16)
    (w : Vec F S4x512 .f32) (b : Vec F S1x512 .f32) : FVec F S1x256x512 .bf16 :=
  k0_pay77 (k0_pay76 prev (k0_pay73 cur) (k0_pay74 cur E) (k0_pay75 T) (constant S48x512 .f32 0x00000000#32) w b)

/-- The rows before a slab that lies inside the block. -/
def inner (p : Vec F S1x16x512 .bf16) : FVec F S16x512 .bf16 := k0_pay72 p

/-- The rows before the block's first slab: zero at the start of the sequence. -/
def outer (i : grid0.Coords) (p : Vec F S1x16x512 .bf16) : FVec F S16x512 .bf16 :=
  k0_pay11 (Scalar.cmpi .sgt (BitVec.ofNat 32 (i 1).val) 0#32) p

/-- The block's sixteen stores, each the slab function of its rows. -/
theorem out_eq (i : grid0.Coords) (x0 : Vec F S1x1024x2048 .bf16) (x1 : Vec F S1x16x2048 .bf16) (x2 : Vec F S4x2048 .f32)
    (x3 : Vec F S1x2048 .f32) (x4 : Vec F S768x256 .bf16) (x5 : Vec F S48x16 .bf16) :
    out0_6 i x0 x1 x2 x3 x4 x5 = View.canon [
      ⟨r0_40, slab (View.ld x0 r0_40) (inner (View.ld x0 r0_41)) (View.ld x4 r0_2) (View.ld x5 r0_3) (View.ld x2 r0_16) (View.ld x3 r0_17)⟩,
      ⟨r0_38, slab (View.ld x0 r0_38) (inner (View.ld x0 r0_39)) (View.ld x4 r0_2) (View.ld x5 r0_3) (View.ld x2 r0_12) (View.ld x3 r0_13)⟩,
      ⟨r0_36, slab (View.ld x0 r0_36) (inner (View.ld x0 r0_37)) (View.ld x4 r0_2) (View.ld x5 r0_3) (View.ld x2 r0_8) (View.ld x3 r0_9)⟩,
      ⟨r0_34, slab (View.ld x0 r0_34) (inner (View.ld x0 r0_35)) (View.ld x4 r0_2) (View.ld x5 r0_3) (View.ld x2 r0_4) (View.ld x3 r0_5)⟩,
      ⟨r0_32, slab (View.ld x0 r0_32) (inner (View.ld x0 r0_33)) (View.ld x4 r0_2) (View.ld x5 r0_3) (View.ld x2 r0_16) (View.ld x3 r0_17)⟩,
      ⟨r0_30, slab (View.ld x0 r0_30) (inner (View.ld x0 r0_31)) (View.ld x4 r0_2) (View.ld x5 r0_3) (View.ld x2 r0_12) (View.ld x3 r0_13)⟩,
      ⟨r0_28, slab (View.ld x0 r0_28) (inner (View.ld x0 r0_29)) (View.ld x4 r0_2) (View.ld x5 r0_3) (View.ld x2 r0_8) (View.ld x3 r0_9)⟩,
      ⟨r0_26, slab (View.ld x0 r0_26) (inner (View.ld x0 r0_27)) (View.ld x4 r0_2) (View.ld x5 r0_3) (View.ld x2 r0_4) (View.ld x3 r0_5)⟩,
      ⟨r0_24, slab (View.ld x0 r0_24) (inner (View.ld x0 r0_25)) (View.ld x4 r0_2) (View.ld x5 r0_3) (View.ld x2 r0_16) (View.ld x3 r0_17)⟩,
      ⟨r0_22, slab (View.ld x0 r0_22) (inner (View.ld x0 r0_23)) (View.ld x4 r0_2) (View.ld x5 r0_3) (View.ld x2 r0_12) (View.ld x3 r0_13)⟩,
      ⟨r0_20, slab (View.ld x0 r0_20) (inner (View.ld x0 r0_21)) (View.ld x4 r0_2) (View.ld x5 r0_3) (View.ld x2 r0_8) (View.ld x3 r0_9)⟩,
      ⟨r0_18, slab (View.ld x0 r0_18) (inner (View.ld x0 r0_19)) (View.ld x4 r0_2) (View.ld x5 r0_3) (View.ld x2 r0_4) (View.ld x3 r0_5)⟩,
      ⟨r0_14, slab (View.ld x0 r0_14) (outer i (View.ld x1 r0_15)) (View.ld x4 r0_2) (View.ld x5 r0_3) (View.ld x2 r0_16) (View.ld x3 r0_17)⟩,
      ⟨r0_10, slab (View.ld x0 r0_10) (outer i (View.ld x1 r0_11)) (View.ld x4 r0_2) (View.ld x5 r0_3) (View.ld x2 r0_12) (View.ld x3 r0_13)⟩,
      ⟨r0_6, slab (View.ld x0 r0_6) (outer i (View.ld x1 r0_7)) (View.ld x4 r0_2) (View.ld x5 r0_3) (View.ld x2 r0_8) (View.ld x3 r0_9)⟩,
      ⟨r0_0, slab (View.ld x0 r0_0) (outer i (View.ld x1 r0_1)) (View.ld x4 r0_2) (View.ld x5 r0_3) (View.ld x2 r0_4) (View.ld x3 r0_5)⟩] := rfl

end Cert.ConvIdeal.Slab

namespace Cert.ConvIdeal.Slab

open Cert.ConvIdeal Cert.ConvIdeal.Gen Idealize.ShloMosaic

/-- The half of a slab's pre-activation: the bias and the taps inside the slab, and those from the rows before it. -/
def half (cur : Vec Ideal S1x256x512 .bf16) (prev : FVec Ideal S16x512 .bf16) (E : Vec Ideal S768x256 .bf16)
    (T : Vec Ideal S48x16 .bf16) (w : Vec Ideal S4x512 .f32) (b : Vec Ideal S1x512 .f32) (r : Fin 256) (j : Fin 512) : EReal :=
  let c : EReal := Ideal.ofBits FTy.f32 1056964608#32
  c * b (ix2 0 j) + c * w (ix2 3 j) * cur (ix3 0 r j)
    + c * w (ix2 0 j) * ∑ x : Fin 256, E (ix2 ⟨r, by omega⟩ x) * cur (ix3 0 x j)
    + c * w (ix2 1 j) * ∑ x : Fin 256, E (ix2 ⟨256 + r, by omega⟩ x) * cur (ix3 0 x j)
    + c * w (ix2 2 j) * ∑ x : Fin 256, E (ix2 ⟨512 + r, by omega⟩ x) * cur (ix3 0 x j)
    + if h : r.val < 16 then
        c * w (ix2 0 j) * ∑ x : Fin 16, T (ix2 ⟨r, by omega⟩ x) * prev (ix2 x j)
        + c * w (ix2 1 j) * ∑ x : Fin 16, T (ix2 ⟨16 + r, by omega⟩ x) * prev (ix2 x j)
        + c * w (ix2 2 j) * ∑ x : Fin 16, T (ix2 ⟨32 + r, by omega⟩ x) * prev (ix2 x j)
      else 0

/-- A slab's entry: the half `h` of the pre-activation, as `h * tanh h + h`. -/
theorem slab_apply (cur : Vec Ideal S1x256x512 .bf16) (prev : FVec Ideal S16x512 .bf16) (E : Vec Ideal S768x256 .bf16)
    (T : Vec Ideal S48x16 .bf16) (w : Vec Ideal S4x512 .f32) (b : Vec Ideal S1x512 .f32) (r : Fin 256) (j : Fin 512) :
    slab cur prev E T w b (ix3 (0 : Fin 1) r j)
      = half cur prev E T w b r j * Ideal.tanh (half cur prev E T w b r j) + half cur prev E T w b r j := by
  unfold slab
  unfold_payloads
  pointwise
  unfold half
  by_cases hr : r.val < 16
  · simp only [hr, dite_true]
  · have e : 16 + (r.val - 16) = r.val := by omega
    simp only [hr, dite_false, e, add_zero]

/-- A sum against a row with a single one picks an entry, or nothing. -/
theorem pick {n : ℕ} (e c : Fin n → EReal) (v : ℕ → ℝ) (a q : ℕ) (he : ∀ x, e x = if x.val + a = q then 1 else 0)
    (hc : ∀ x, c x = ((v x.val : ℝ) : EReal)) :
    ∑ x, e x * c x = ((if a ≤ q ∧ q - a < n then v (q - a) else 0 : ℝ) : EReal) := by
  split_ifs with h
  · rw [Finset.sum_eq_single ⟨q - a, h.2⟩]
    · rw [he, if_pos (by simp only; omega), one_mul, hc]
    · intro x _ hx
      rw [he, if_neg, zero_mul]
      intro hq; exact hx (Fin.ext (by simp only; omega))
    · intro hx; exact absurd (Finset.mem_univ _) hx
  · rw [EReal.coe_zero]
    refine Finset.sum_eq_zero fun x _ => ?_
    rw [he, if_neg, zero_mul]
    have := x.isLt
    omega

theorem ofBits_half : Ideal.ofBits FTy.f32 1056964608#32 = ((1 / 2 : ℝ) : EReal) := by
  simp [Ideal.ofBits, Ideal.ieee, -EReal.coe_mul]; norm_num

/-- `h tanh h + h` is `silu (2 h)`. -/
theorem silu_real (h : ℝ) : h * Real.tanh h + h = 2 * h * (1 + Real.exp (-(2 * h)))⁻¹ := by
  have e2 : Real.exp (-(2 * h)) = Real.exp (-h) * Real.exp (-h) := by rw [← Real.exp_add]; congr 1; ring
  have e1 : Real.exp h * Real.exp (-h) = 1 := by rw [← Real.exp_add]; simp
  have p := Real.exp_pos h
  have q := Real.exp_pos (-h)
  rw [Real.tanh_eq_sinh_div_cosh, Real.sinh_eq, Real.cosh_eq, e2]
  have e3 : (1 + Real.exp (-h) * Real.exp (-h))⁻¹ = Real.exp h / (Real.exp h + Real.exp (-h)) := by
    rw [inv_eq_one_div, div_eq_div_iff (by positivity) (by positivity)]
    linear_combination (-Real.exp (-h)) * e1
  rw [e3]
  field_simp
  ring

/-- The convolution's pre-activation at a row, from the rows `u` (the sixteen before the slab first). -/
def preact (u : ℕ → ℝ) (W : Fin 4 → ℝ) (B : ℝ) (r : ℕ) : ℝ :=
  W 0 * u (13 + r) + W 1 * u (14 + r) + W 2 * u (15 + r) + W 3 * u (16 + r) + B

theorem half_real (cur : Vec Ideal S1x256x512 .bf16) (prev : FVec Ideal S16x512 .bf16) (E : Vec Ideal S768x256 .bf16)
    (T : Vec Ideal S48x16 .bf16) (w : Vec Ideal S4x512 .f32) (b : Vec Ideal S1x512 .f32) (r : Fin 256) (j : Fin 512)
    (u : ℕ → ℝ) (W : Fin 4 → ℝ) (B : ℝ)
    (hcur : ∀ x : Fin 256, cur (ix3 0 x j) = ((u (16 + x.val) : ℝ) : EReal))
    (hprev : ∀ x : Fin 16, prev (ix2 x j) = ((u x.val : ℝ) : EReal))
    (hE : ∀ (y : Fin 768) (x : Fin 256), E (ix2 y x) = if x.val + (3 - y.val / 256) = y.val % 256 then 1 else 0)
    (hT : ∀ (y : Fin 48) (x : Fin 16), T (ix2 y x) = if x.val + (3 - y.val / 16) = 16 + y.val % 16 then 1 else 0)
    (hw : ∀ k : Fin 4, w (ix2 k j) = ((W k : ℝ) : EReal)) (hb : b (ix2 0 j) = ((B : ℝ) : EReal)) :
    half cur prev E T w b r j = ((1 / 2 * preact u W B r : ℝ) : EReal) := by
  have hr := r.isLt
  unfold half
  simp only [hw, hb, hcur r, ofBits_half]
  rw [pick _ _ (fun x => u (16 + x)) 3 r (fun x => by rw [hE]; congr 1; simp only [eq_iff_iff]; omega) hcur,
    pick _ _ (fun x => u (16 + x)) 2 r (fun x => by rw [hE]; congr 1; simp only [eq_iff_iff]; omega) hcur,
    pick _ _ (fun x => u (16 + x)) 1 r (fun x => by rw [hE]; congr 1; simp only [eq_iff_iff]; omega) hcur]
  by_cases h : r.val < 16
  · rw [dif_pos h,
      pick _ _ u 3 (16 + r) (fun x => by rw [hT]; congr 1; simp only [eq_iff_iff]; omega) hprev,
      pick _ _ u 2 (16 + r) (fun x => by rw [hT]; congr 1; simp only [eq_iff_iff]; omega) hprev,
      pick _ _ u 1 (16 + r) (fun x => by rw [hT]; congr 1; simp only [eq_iff_iff]; omega) hprev]
    simp only [← EReal.coe_mul, ← EReal.coe_add]
    congr 1
    unfold preact
    rcases (by omega : r.val = 0 ∨ r.val = 1 ∨ r.val = 2 ∨ 3 ≤ r.val) with e | e | e | e
    · simp [e]; ring
    · simp [e]; ring
    · simp [e]; ring
    · rw [if_pos (by omega), if_pos (by omega), if_pos (by omega), if_neg (by omega), if_neg (by omega), if_neg (by omega),
        show 16 + (r.val - 3) = 13 + r.val by omega, show 16 + (r.val - 2) = 14 + r.val by omega,
        show 16 + (r.val - 1) = 15 + r.val by omega]
      ring
  · rw [dif_neg h, add_zero, if_pos (by omega), if_pos (by omega), if_pos (by omega),
      show 16 + (r.val - 3) = 13 + r.val by omega, show 16 + (r.val - 2) = 14 + r.val by omega,
      show 16 + (r.val - 1) = 15 + r.val by omega]
    simp only [← EReal.coe_mul, ← EReal.coe_add]
    congr 1
    unfold preact
    ring

/-- A slab's entry over real numbers: silu of the convolution's pre-activation. -/
theorem slab_real (cur : Vec Ideal S1x256x512 .bf16) (prev : FVec Ideal S16x512 .bf16) (E : Vec Ideal S768x256 .bf16)
    (T : Vec Ideal S48x16 .bf16) (w : Vec Ideal S4x512 .f32) (b : Vec Ideal S1x512 .f32) (r : Fin 256) (j : Fin 512)
    (u : ℕ → ℝ) (W : Fin 4 → ℝ) (B : ℝ)
    (hcur : ∀ x : Fin 256, cur (ix3 0 x j) = ((u (16 + x.val) : ℝ) : EReal))
    (hprev : ∀ x : Fin 16, prev (ix2 x j) = ((u x.val : ℝ) : EReal))
    (hE : ∀ (y : Fin 768) (x : Fin 256), E (ix2 y x) = if x.val + (3 - y.val / 256) = y.val % 256 then 1 else 0)
    (hT : ∀ (y : Fin 48) (x : Fin 16), T (ix2 y x) = if x.val + (3 - y.val / 16) = 16 + y.val % 16 then 1 else 0)
    (hw : ∀ k : Fin 4, w (ix2 k j) = ((W k : ℝ) : EReal)) (hb : b (ix2 0 j) = ((B : ℝ) : EReal)) :
    slab cur prev E T w b (ix3 (0 : Fin 1) r j) = ((preact u W B r : ℝ) : EReal) * Ideal.logistic ((preact u W B r : ℝ) : EReal) := by
  rw [slab_apply, half_real cur prev E T w b r j u W B hcur hprev hE hT hw hb, Ideal.tanh_coe, Ideal.logistic_coe]
  simp only [← EReal.coe_mul, ← EReal.coe_add]
  rw [silu_real, show 2 * (1 / 2 * preact u W B r) = preact u W B r by ring]

end Cert.ConvIdeal.Slab

end
-- ==== Proof.Conv.Block.lean ====
/-
  A BLOCK OF THE CONVOLUTION: its sixteen slabs together are silu of the convolution of the block's rows.
-/
module

public import proofs.«01_k».proof.Proof.Conv.Slab
public import Idealize.ShloMosaic.Lib.Pipeline.ValueKit.Tiles

@[expose] public section

set_option maxRecDepth 16384

noncomputable section

namespace Cert.ConvIdeal.Slab

open Cert.ConvIdeal Cert.ConvIdeal.Gen Idealize.ShloMosaic

/-- silu of a real number. -/
def silu (z : ℝ) : EReal := (z : EReal) * Ideal.logistic (z : EReal)

theorem inner_apply (p : Vec Ideal S1x16x512 .bf16) (z : S16x512.Idx) : inner p z = p (ix3 (0 : Fin 1) (z 0 : Fin 16) (z 1 : Fin 512)) := by
  obtain ⟨a, b, rfl⟩ : ∃ (a : Fin 16) (b : Fin 512), z = ix2 a b := ⟨z 0, z 1, eq_ix2 z⟩
  unfold inner
  unfold_payloads
  pointwise

theorem outer_apply (i : grid0.Coords) (p : Vec Ideal S1x16x512 .bf16) (z : S16x512.Idx) :
    outer i p z = if 0 < (i 1).val then p (ix3 (0 : Fin 1) (z 0 : Fin 16) (z 1 : Fin 512)) else 0 := by
  obtain ⟨a, b, rfl⟩ : ∃ (a : Fin 16) (b : Fin 512), z = ix2 a b := ⟨z 0, z 1, eq_ix2 z⟩
  unfold outer
  unfold_payloads
  pointwise
  have hi : (i 1).val < 2 := (i 1).isLt
  rcases (by omega : (i 1).val = 0 ∨ (i 1).val = 1) with e | e <;> rw [e] <;> rfl

/-- One slab, placed in its block. -/
theorem piece (cur : Vec Ideal S1x256x512 .bf16) (prev : FVec Ideal S16x512 .bf16) (E : Vec Ideal S768x256 .bf16)
    (T : Vec Ideal S48x16 .bf16) (w : Vec Ideal S4x512 .f32) (b : Vec Ideal S1x512 .f32)
    (U W : ℕ → ℕ → ℝ) (B : ℕ → ℝ) (R C : ℕ)
    (hE : ∀ (y : Fin 768) (x : Fin 256), E (ix2 y x) = if x.val + (3 - y.val / 256) = y.val % 256 then 1 else 0)
    (hT : ∀ (y : Fin 48) (x : Fin 16), T (ix2 y x) = if x.val + (3 - y.val / 16) = 16 + y.val % 16 then 1 else 0)
    (hcur : ∀ z : S1x256x512.Idx, cur z = ((U (C + (z 2).val) (16 + (R + (z 1).val)) : ℝ) : EReal))
    (hprev : ∀ z : S16x512.Idx, prev z = ((U (C + (z 1).val) (R + (z 0).val) : ℝ) : EReal))
    (hw : ∀ z : S4x512.Idx, w z = ((W (C + (z 1).val) (z 0).val : ℝ) : EReal))
    (hb : ∀ z : S1x512.Idx, b z = ((B (C + (z 1).val) : ℝ) : EReal))
    (y : S1x1024x2048.Idx) (x : S1x256x512.Idx) (e1 : (y 1).val = R + (x 1).val) (e2 : (y 2).val = C + (x 2).val) :
    slab cur prev E T w b x
      = silu (preact (U (y 2).val) (fun k => W (y 2).val k.val) (B (y 2).val) (y 1).val) := by
  obtain ⟨a, r, j, rfl⟩ : ∃ (a : Fin 1) (r : Fin 256) (j : Fin 512), x = ix3 a r j := ⟨x 0, x 1, x 2, eq_ix3 x⟩
  obtain rfl : a = 0 := Subsingleton.elim _ _
  have e1' : (y 1).val = R + r.val := e1
  have e2' : (y 2).val = C + j.val := e2
  rw [slab_real cur prev E T w b r j (fun q => U (C + j.val) (R + q)) (fun k => W (C + j.val) k.val) (B (C + j.val))
    (fun x => (hcur _).trans (by congr 2; show 16 + (R + x.val) = R + (16 + x.val); omega)) (fun x => hprev _) hE hT (fun k => hw _) (hb _)]
  rw [e1', e2']
  unfold silu preact
  dsimp only
  rw [show R + (13 + r.val) = 13 + (R + r.val) by omega, show R + (14 + r.val) = 14 + (R + r.val) by omega,
    show R + (15 + r.val) = 15 + (R + r.val) by omega, show R + (16 + r.val) = 16 + (R + r.val) by omega]

/-- The rows before the block's first slab. -/
theorem head (i : grid0.Coords) (x1 : Vec Ideal S1x16x2048 .bf16) (p : Vec Ideal S1x16x512 .bf16) (U : ℕ → ℕ → ℝ) (C : ℕ)
    (hp : ∀ z : S1x16x512.Idx, ∃ y : S1x16x2048.Idx, p z = x1 y ∧ (y 1).val = (z 1).val ∧ (y 2).val = C + (z 2).val)
    (g1 : 0 < (i 1).val → ∀ y : S1x16x2048.Idx, x1 y = ((U (y 2).val (y 1).val : ℝ) : EReal))
    (gz : (i 1).val = 0 → ∀ l r, r < 16 → U l r = 0) (z : S16x512.Idx) :
    outer i p z = ((U (C + (z 1).val) (0 + (z 0).val) : ℝ) : EReal) := by
  have hz : (z 0).val < 16 := (z 0).isLt
  rw [outer_apply]
  split_ifs with h
  · obtain ⟨y, e, h1, h2⟩ := hp (ix3 (0 : Fin 1) (z 0 : Fin 16) (z 1 : Fin 512))
    rw [e, g1 h, h1, h2]
    show ((U (C + (z 1).val) (z 0).val : ℝ) : EReal) = _
    rw [Nat.zero_add]
  · rw [gz (by omega) _ _ (by omega)]; rfl

/-- The block's value, from the real rows its windows hold. -/
theorem block_value (i : grid0.Coords) (x0 : Vec Ideal S1x1024x2048 .bf16) (x1 : Vec Ideal S1x16x2048 .bf16) (x2 : Vec Ideal S4x2048 .f32)
    (x3 : Vec Ideal S1x2048 .f32) (x4 : Vec Ideal S768x256 .bf16) (x5 : Vec Ideal S48x16 .bf16)
    (U W : ℕ → ℕ → ℝ) (B : ℕ → ℝ)
    (g0 : ∀ y : S1x1024x2048.Idx, x0 y = ((U (y 2).val (16 + (y 1).val) : ℝ) : EReal))
    (g1 : 0 < (i 1).val → ∀ y : S1x16x2048.Idx, x1 y = ((U (y 2).val (y 1).val : ℝ) : EReal))
    (gz : (i 1).val = 0 → ∀ l r, r < 16 → U l r = 0)
    (g2 : ∀ y : S4x2048.Idx, x2 y = ((W (y 1).val (y 0).val : ℝ) : EReal))
    (g3 : ∀ y : S1x2048.Idx, x3 y = ((B (y 1).val : ℝ) : EReal))
    (g4 : ∀ (y : Fin 768) (x : Fin 256), x4 (ix2 y x) = if x.val + (3 - y.val / 256) = y.val % 256 then 1 else 0)
    (g5 : ∀ (y : Fin 48) (x : Fin 16), x5 (ix2 y x) = if x.val + (3 - y.val / 16) = 16 + y.val % 16 then 1 else 0)
    (y : S1x1024x2048.Idx) :
    out0_6 i x0 x1 x2 x3 x4 x5 y = silu (preact (U (y 2).val) (fun k => W (y 2).val k.val) (B (y 2).val) (y 1).val) := by
  have zo : (![0, 0] : Fin 2 → Nat) = fun _ => 0 := funext fun a => by fin_cases a <;> rfl
  have hE : ∀ (y : Fin 768) (x : Fin 256), View.ld x4 r0_2 (ix2 y x) = if x.val + (3 - y.val / 256) = y.val % 256 then (1 : EReal) else 0 := by
    rw [View.ld_unit_zero zo]; exact g4
  have hT : ∀ (y : Fin 48) (x : Fin 16), View.ld x5 r0_3 (ix2 y x) = if x.val + (3 - y.val / 16) = 16 + y.val % 16 then (1 : EReal) else 0 := by
    rw [View.ld_unit_zero zo]; exact g5
  have load (r : Rect S1x16x2048) (z : r.shape.Idx) : View.ld x1 r z = x1 (r.idx z) := rfl
  rw [out_eq]
  canon_tiles x h
  · refine piece _ _ _ _ _ _ U W B 768 1536 hE hT ?_ ?_ ?_ ?_ y x (by omega) (by omega)
    · intro z; rw [View.ld_apply, g0]; simp only [Rect.idx_unit_val]; congr 2 <;> simp <;> omega
    · intro z; rw [inner_apply, View.ld_apply, g0]; simp only [Rect.idx_unit_val]; congr 2 <;> simp <;> omega
    · intro z; rw [View.ld_apply, g2]; simp only [Rect.idx_unit_val]; congr 2 <;> simp
    · intro z; rw [View.ld_apply, g3]; simp only [Rect.idx_unit_val]; congr 2 <;> simp
  · refine piece _ _ _ _ _ _ U W B 768 1024 hE hT ?_ ?_ ?_ ?_ y x (by omega) (by omega)
    · intro z; rw [View.ld_apply, g0]; simp only [Rect.idx_unit_val]; congr 2 <;> simp <;> omega
    · intro z; rw [inner_apply, View.ld_apply, g0]; simp only [Rect.idx_unit_val]; congr 2 <;> simp <;> omega
    · intro z; rw [View.ld_apply, g2]; simp only [Rect.idx_unit_val]; congr 2 <;> simp
    · intro z; rw [View.ld_apply, g3]; simp only [Rect.idx_unit_val]; congr 2 <;> simp
  · refine piece _ _ _ _ _ _ U W B 768 512 hE hT ?_ ?_ ?_ ?_ y x (by omega) (by omega)
    · intro z; rw [View.ld_apply, g0]; simp only [Rect.idx_unit_val]; congr 2 <;> simp <;> omega
    · intro z; rw [inner_apply, View.ld_apply, g0]; simp only [Rect.idx_unit_val]; congr 2 <;> simp <;> omega
    · intro z; rw [View.ld_apply, g2]; simp only [Rect.idx_unit_val]; congr 2 <;> simp
    · intro z; rw [View.ld_apply, g3]; simp only [Rect.idx_unit_val]; congr 2 <;> simp
  · refine piece _ _ _ _ _ _ U W B 768 0 hE hT ?_ ?_ ?_ ?_ y x (by omega) (by omega)
    · intro z; rw [View.ld_apply, g0]; simp only [Rect.idx_unit_val]; congr 2 <;> simp <;> omega
    · intro z; rw [inner_apply, View.ld_apply, g0]; simp only [Rect.idx_unit_val]; congr 2 <;> simp <;> omega
    · intro z; rw [View.ld_apply, g2]; simp only [Rect.idx_unit_val]; congr 2 <;> simp
    · intro z; rw [View.ld_apply, g3]; simp only [Rect.idx_unit_val]; congr 2 <;> simp
  · refine piece _ _ _ _ _ _ U W B 512 1536 hE hT ?_ ?_ ?_ ?_ y x (by omega) (by omega)
    · intro z; rw [View.ld_apply, g0]; simp only [Rect.idx_unit_val]; congr 2 <;> simp <;> omega
    · intro z; rw [inner_apply, View.ld_apply, g0]; simp only [Rect.idx_unit_val]; congr 2 <;> simp <;> omega
    · intro z; rw [View.ld_apply, g2]; simp only [Rect.idx_unit_val]; congr 2 <;> simp
    · intro z; rw [View.ld_apply, g3]; simp only [Rect.idx_unit_val]; congr 2 <;> simp
  · refine piece _ _ _ _ _ _ U W B 512 1024 hE hT ?_ ?_ ?_ ?_ y x (by omega) (by omega)
    · intro z; rw [View.ld_apply, g0]; simp only [Rect.idx_unit_val]; congr 2 <;> simp <;> omega
    · intro z; rw [inner_apply, View.ld_apply, g0]; simp only [Rect.idx_unit_val]; congr 2 <;> simp <;> omega
    · intro z; rw [View.ld_apply, g2]; simp only [Rect.idx_unit_val]; congr 2 <;> simp
    · intro z; rw [View.ld_apply, g3]; simp only [Rect.idx_unit_val]; congr 2 <;> simp
  · refine piece _ _ _ _ _ _ U W B 512 512 hE hT ?_ ?_ ?_ ?_ y x (by omega) (by omega)
    · intro z; rw [View.ld_apply, g0]; simp only [Rect.idx_unit_val]; congr 2 <;> simp <;> omega
    · intro z; rw [inner_apply, View.ld_apply, g0]; simp only [Rect.idx_unit_val]; congr 2 <;> simp <;> omega
    · intro z; rw [View.ld_apply, g2]; simp only [Rect.idx_unit_val]; congr 2 <;> simp
    · intro z; rw [View.ld_apply, g3]; simp only [Rect.idx_unit_val]; congr 2 <;> simp
  · refine piece _ _ _ _ _ _ U W B 512 0 hE hT ?_ ?_ ?_ ?_ y x (by omega) (by omega)
    · intro z; rw [View.ld_apply, g0]; simp only [Rect.idx_unit_val]; congr 2 <;> simp <;> omega
    · intro z; rw [inner_apply, View.ld_apply, g0]; simp only [Rect.idx_unit_val]; congr 2 <;> simp <;> omega
    · intro z; rw [View.ld_apply, g2]; simp only [Rect.idx_unit_val]; congr 2 <;> simp
    · intro z; rw [View.ld_apply, g3]; simp only [Rect.idx_unit_val]; congr 2 <;> simp
  · refine piece _ _ _ _ _ _ U W B 256 1536 hE hT ?_ ?_ ?_ ?_ y x (by omega) (by omega)
    · intro z; rw [View.ld_apply, g0]; simp only [Rect.idx_unit_val]; congr 2 <;> simp <;> omega
    · intro z; rw [inner_apply, View.ld_apply, g0]; simp only [Rect.idx_unit_val]; congr 2 <;> simp <;> omega
    · intro z; rw [View.ld_apply, g2]; simp only [Rect.idx_unit_val]; congr 2 <;> simp
    · intro z; rw [View.ld_apply, g3]; simp only [Rect.idx_unit_val]; congr 2 <;> simp
  · refine piece _ _ _ _ _ _ U W B 256 1024 hE hT ?_ ?_ ?_ ?_ y x (by omega) (by omega)
    · intro z; rw [View.ld_apply, g0]; simp only [Rect.idx_unit_val]; congr 2 <;> simp <;> omega
    · intro z; rw [inner_apply, View.ld_apply, g0]; simp only [Rect.idx_unit_val]; congr 2 <;> simp <;> omega
    · intro z; rw [View.ld_apply, g2]; simp only [Rect.idx_unit_val]; congr 2 <;> simp
    · intro z; rw [View.ld_apply, g3]; simp only [Rect.idx_unit_val]; congr 2 <;> simp
  · refine piece _ _ _ _ _ _ U W B 256 512 hE hT ?_ ?_ ?_ ?_ y x (by omega) (by omega)
    · intro z; rw [View.ld_apply, g0]; simp only [Rect.idx_unit_val]; congr 2 <;> simp <;> omega
    · intro z; rw [inner_apply, View.ld_apply, g0]; simp only [Rect.idx_unit_val]; congr 2 <;> simp <;> omega
    · intro z; rw [View.ld_apply, g2]; simp only [Rect.idx_unit_val]; congr 2 <;> simp
    · intro z; rw [View.ld_apply, g3]; simp only [Rect.idx_unit_val]; congr 2 <;> simp
  · refine piece _ _ _ _ _ _ U W B 256 0 hE hT ?_ ?_ ?_ ?_ y x (by omega) (by omega)
    · intro z; rw [View.ld_apply, g0]; simp only [Rect.idx_unit_val]; congr 2 <;> simp <;> omega
    · intro z; rw [inner_apply, View.ld_apply, g0]; simp only [Rect.idx_unit_val]; congr 2 <;> simp <;> omega
    · intro z; rw [View.ld_apply, g2]; simp only [Rect.idx_unit_val]; congr 2 <;> simp
    · intro z; rw [View.ld_apply, g3]; simp only [Rect.idx_unit_val]; congr 2 <;> simp
  · refine piece _ _ _ _ _ _ U W B 0 1536 hE hT ?_ ?_ ?_ ?_ y x (by omega) (by omega)
    · intro z; rw [View.ld_apply, g0]; simp only [Rect.idx_unit_val]; congr 2 <;> simp <;> omega
    · exact head i x1 _ U _ (fun z => ⟨_, rfl, by simp [Rect.idx_unit_val], by simp [Rect.idx_unit_val]⟩) g1 gz
    · intro z; rw [View.ld_apply, g2]; simp only [Rect.idx_unit_val]; congr 2 <;> simp
    · intro z; rw [View.ld_apply, g3]; simp only [Rect.idx_unit_val]; congr 2 <;> simp
  · refine piece _ _ _ _ _ _ U W B 0 1024 hE hT ?_ ?_ ?_ ?_ y x (by omega) (by omega)
    · intro z; rw [View.ld_apply, g0]; simp only [Rect.idx_unit_val]; congr 2 <;> simp <;> omega
    · exact head i x1 _ U _ (fun z => ⟨_, rfl, by simp [Rect.idx_unit_val], by simp [Rect.idx_unit_val]⟩) g1 gz
    · intro z; rw [View.ld_apply, g2]; simp only [Rect.idx_unit_val]; congr 2 <;> simp
    · intro z; rw [View.ld_apply, g3]; simp only [Rect.idx_unit_val]; congr 2 <;> simp
  · refine piece _ _ _ _ _ _ U W B 0 512 hE hT ?_ ?_ ?_ ?_ y x (by omega) (by omega)
    · intro z; rw [View.ld_apply, g0]; simp only [Rect.idx_unit_val]; congr 2 <;> simp <;> omega
    · exact head i x1 _ U _ (fun z => ⟨_, rfl, by simp [Rect.idx_unit_val], by simp [Rect.idx_unit_val]⟩) g1 gz
    · intro z; rw [View.ld_apply, g2]; simp only [Rect.idx_unit_val]; congr 2 <;> simp
    · intro z; rw [View.ld_apply, g3]; simp only [Rect.idx_unit_val]; congr 2 <;> simp
  · refine piece _ _ _ _ _ _ U W B 0 0 hE hT ?_ ?_ ?_ ?_ y x (by omega) (by omega)
    · intro z; rw [View.ld_apply, g0]; simp only [Rect.idx_unit_val]; congr 2 <;> simp <;> omega
    · exact head i x1 _ U _ (fun z => ⟨_, rfl, by simp [Rect.idx_unit_val], by simp [Rect.idx_unit_val]⟩) g1 gz
    · intro z; rw [View.ld_apply, g2]; simp only [Rect.idx_unit_val]; congr 2 <;> simp
    · intro z; rw [View.ld_apply, g3]; simp only [Rect.idx_unit_val]; congr 2 <;> simp

end Cert.ConvIdeal.Slab

end
-- ==== Proof.Conv.Value.lean ====
/-
  WHAT THE CONVOLUTION LEAVES: silu of the causal depthwise convolution, over arguments that are real numbers.
-/
module

public import proofs.«01_k».proof.Proof.Conv.Host
public import proofs.«01_k».proof.Proof.Conv.Block
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen Cert.ConvIdeal.Slab

theorem blocks_at : ∀ t : Fin cfg0.N,
    (win0_0.index t (0 : Fin 3) = t.val / 6 ∧ win0_0.index t (1 : Fin 3) = t.val / 3 % 2 ∧ win0_0.index t (2 : Fin 3) = 2 + t.val % 3)
    ∧ (win0_1.index t (0 : Fin 3) = t.val / 6 ∧ win0_1.index t (1 : Fin 3) = t.val / 3 % 2 * 64 - 1 ∧ win0_1.index t (2 : Fin 3) = 2 + t.val % 3)
    ∧ (win0_2.index t (0 : Fin 2) = 0 ∧ win0_2.index t (1 : Fin 2) = t.val % 3)
    ∧ (win0_3.index t (0 : Fin 2) = 0 ∧ win0_3.index t (1 : Fin 2) = t.val % 3)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val / 6 ∧ win0_6.index t (1 : Fin 3) = t.val / 3 % 2 ∧ win0_6.index t (2 : Fin 3) = t.val % 3)
    ∧ (grid0.coords t 1).val = t.val / 3 % 2 :=
  (by decide +kernel : ∀ t : Fin grid0.N, _)

theorem points (t : Fin cfg0.N) : t.val < 24 := lt_of_lt_of_eq t.isLt N_0

section
variable {F : FTy → Type} [FloatOps F]
variable (m : (ℓ : Loc nD τ sig) → Buf (Elt F) ℓ)

theorem taps_arr (c : Dev nD) : V m c main_v0
    = shapeCast S4x6144 (m ((c : Thread nD τ).loc main_arg1)) shapeCasts_S1x4x6144_S4x6144 := by
  dsimp only [V, hostOps0]; after_results; rfl

theorem bias_arr (c : Dev nD) : V m c main_v2
    = shapeCast S1x6144 (shapeCast S6144 (m ((c : Thread nD τ).loc main_arg2)) shapeCasts_S1x6144_S6144) shapeCasts_S6144_S1x6144 := by
  dsimp only [V, hostOps0]; after_results; rfl

theorem taps_apply (w : Vec F S1x4x6144 .f32) (k : Fin 4) (l : Fin 6144) :
    shapeCast S4x6144 w shapeCasts_S1x4x6144_S4x6144 (ix2 k l) = w (ix3 (0 : Fin 1) k l) := by
  pointwise

theorem bias_apply (b : Vec F S1x6144 .f32) (l : Fin 6144) :
    shapeCast S1x6144 (shapeCast S6144 b shapeCasts_S1x6144_S6144) shapeCasts_S6144_S1x6144 (ix2 (0 : Fin 1) l) = b (ix2 (0 : Fin 1) l) := by
  pointwise

theorem rows_block (c : Dev nD) (t : Fin cfg0.N) (y : S1x1024x2048.Idx) :
    (iblk m c 0 t : Vec F S1x1024x2048 .bf16) y
      = m ((c : Thread nD τ).loc main_arg0)
          (ix3 (⟨t.val / 6, by have := points t; omega⟩ : Fin 4)
            (⟨t.val / 3 % 2 * 1024 + (y 1).val, by have h : (y 1).val < 1024 := (y 1).isLt; omega⟩ : Fin 2048)
            (⟨4096 + t.val % 3 * 2048 + (y 2).val, by have h : (y 2).val < 2048 := (y 2).isLt; omega⟩ : Fin 20480) : S4x2048x20480.Idx) := by
  obtain ⟨⟨e0, e1, e2⟩, -⟩ := blocks_at t
  have h0 : (y 0).val < 1 := (y 0).isLt
  unfold iblk
  rw [View.read_apply]
  show V m c main_arg0 _ = _
  rw [V_main_arg0]
  congr 1
  funext a
  apply Fin.ext
  match a with
  | ⟨0, _⟩ => show win0_0.index t 0 * 1 + 1 * (y 0).val = t.val / 6; rw [e0]; omega
  | ⟨1, _⟩ => show win0_0.index t 1 * 1024 + 1 * (y 1).val = t.val / 3 % 2 * 1024 + (y 1).val; rw [e1]; omega
  | ⟨2, _⟩ => show win0_0.index t 2 * 2048 + 1 * (y 2).val = 4096 + t.val % 3 * 2048 + (y 2).val; rw [e2]; omega

theorem tail_block (c : Dev nD) (t : Fin cfg0.N) (ht : t.val / 3 % 2 = 1) (y : S1x16x2048.Idx) :
    (iblk m c 1 t : Vec F S1x16x2048 .bf16) y
      = m ((c : Thread nD τ).loc main_arg0)
          (ix3 (⟨t.val / 6, by have := points t; omega⟩ : Fin 4)
            (⟨1008 + (y 1).val, by have h : (y 1).val < 16 := (y 1).isLt; omega⟩ : Fin 2048)
            (⟨4096 + t.val % 3 * 2048 + (y 2).val, by have h : (y 2).val < 2048 := (y 2).isLt; omega⟩ : Fin 20480) : S4x2048x20480.Idx) := by
  obtain ⟨-, ⟨e0, e1, e2⟩, -⟩ := blocks_at t
  have h0 : (y 0).val < 1 := (y 0).isLt
  unfold iblk
  rw [View.read_apply]
  show V m c main_arg0 _ = _
  rw [V_main_arg0]
  congr 1
  funext a
  apply Fin.ext
  match a with
  | ⟨0, _⟩ => show win0_1.index t 0 * 1 + 1 * (y 0).val = t.val / 6; rw [e0]; omega
  | ⟨1, _⟩ => show win0_1.index t 1 * 16 + 1 * (y 1).val = 1008 + (y 1).val; rw [e1]; omega
  | ⟨2, _⟩ => show win0_1.index t 2 * 2048 + 1 * (y 2).val = 4096 + t.val % 3 * 2048 + (y 2).val; rw [e2]; omega

theorem taps_block (c : Dev nD) (t : Fin cfg0.N) (k : Fin 4) (l : Fin 2048) :
    (iblk m c 2 t : Vec F S4x2048 .f32) (ix2 k l)
      = m ((c : Thread nD τ).loc main_arg1)
          (ix3 (0 : Fin 1) k (⟨t.val % 3 * 2048 + l.val, by omega⟩ : Fin 6144) : S1x4x6144.Idx) := by
  obtain ⟨-, -, ⟨e0, e1⟩, -⟩ := blocks_at t
  unfold iblk
  rw [View.read_apply]
  show V m c main_v0 _ = _
  rw [taps_arr]
  have he : (((cfg0.win 2).blk t).view.emb (ix2 k l) : S4x6144.Idx) = ix2 k (⟨t.val % 3 * 2048 + l.val, by omega⟩ : Fin 6144) := by
    funext a
    apply Fin.ext
    match a with
    | ⟨0, _⟩ => show win0_2.index t 0 * 4 + 1 * k.val = k.val; rw [e0]; omega
    | ⟨1, _⟩ => show win0_2.index t 1 * 2048 + 1 * l.val = t.val % 3 * 2048 + l.val; rw [e1]; omega
  exact (congrArg _ he).trans (taps_apply _ _ _)

theorem bias_block (c : Dev nD) (t : Fin cfg0.N) (l : Fin 2048) :
    (iblk m c 3 t : Vec F S1x2048 .f32) (ix2 (0 : Fin 1) l)
      = m ((c : Thread nD τ).loc main_arg2)
          (ix2 (0 : Fin 1) (⟨t.val % 3 * 2048 + l.val, by omega⟩ : Fin 6144) : S1x6144.Idx) := by
  obtain ⟨-, -, -, ⟨e0, e1⟩, -⟩ := blocks_at t
  unfold iblk
  rw [View.read_apply]
  show V m c main_v2 _ = _
  rw [bias_arr]
  have he : (((cfg0.win 3).blk t).view.emb (ix2 (0 : Fin 1) l) : S1x6144.Idx) = ix2 (0 : Fin 1) (⟨t.val % 3 * 2048 + l.val, by omega⟩ : Fin 6144) := by
    funext a
    apply Fin.ext
    match a with
    | ⟨0, _⟩ => show win0_3.index t 0 * 1 + 1 * 0 = 0; rw [e0]
    | ⟨1, _⟩ => show win0_3.index t 1 * 2048 + 1 * l.val = t.val % 3 * 2048 + l.val; rw [e1]; omega
  exact (congrArg _ he).trans (bias_apply _ _)

theorem shifts_block (c : Dev nD) (t : Fin cfg0.N) : (iblk m c 4 t : Vec F S768x256 .bf16) = shifts := by
  obtain ⟨-, -, -, -, ⟨e0, e1⟩, -⟩ := blocks_at t
  funext y
  unfold iblk
  rw [View.read_apply]
  show V m c main_v21 _ = _
  rw [shifts_arr]
  congr 1
  funext a
  apply Fin.ext
  match a with
  | ⟨0, _⟩ => show win0_4.index t 0 * 768 + 1 * (y 0).val = (y 0).val; rw [e0]; omega
  | ⟨1, _⟩ => show win0_4.index t 1 * 256 + 1 * (y 1).val = (y 1).val; rw [e1]; omega

theorem tailShifts_block (c : Dev nD) (t : Fin cfg0.N) : (iblk m c 5 t : Vec F S48x16 .bf16) = tailShifts := by
  obtain ⟨-, -, -, -, -, ⟨e0, e1⟩, -⟩ := blocks_at t
  funext y
  unfold iblk
  rw [View.read_apply]
  show V m c main_v40 _ = _
  rw [tailShifts_arr]
  congr 1
  funext a
  apply Fin.ext
  match a with
  | ⟨0, _⟩ => show win0_5.index t 0 * 48 + 1 * (y 0).val = (y 0).val; rw [e0]; omega
  | ⟨1, _⟩ => show win0_5.index t 1 * 16 + 1 * (y 1).val = (y 1).val; rw [e1]; omega

end

/-- A channel's rows as real numbers, sixteen rows of zeros in front. -/
def rowAt (p : FVec Ideal S4x2048x20480 .bf16) (b : Fin 4) (ch q : ℕ) : ℝ :=
  if h : 16 ≤ q ∧ q - 16 < 2048 ∧ 4096 + ch < 20480 then (p (ix3 b ⟨q - 16, h.2.1⟩ ⟨4096 + ch, h.2.2⟩)).toReal else 0

/-- The taps and the bias as real numbers. -/
def tapAt (w : FVec Ideal S1x4x6144 .f32) (ch k : ℕ) : ℝ :=
  if h : k < 4 ∧ ch < 6144 then (w (ix3 (0 : Fin 1) ⟨k, h.1⟩ ⟨ch, h.2⟩)).toReal else 0

def biasAt (b : FVec Ideal S1x6144 .f32) (ch : ℕ) : ℝ :=
  if h : ch < 6144 then (b (ix2 (0 : Fin 1) ⟨ch, h⟩)).toReal else 0

/-- The convolution's result. -/
def convAt (p : FVec Ideal S4x2048x20480 .bf16) (w : FVec Ideal S1x4x6144 .f32) (b : FVec Ideal S1x6144 .f32) : FVec Ideal S4x2048x6144 .bf16 :=
  fun i => silu (preact (rowAt p (i 0) (i 2).val) (fun k => tapAt w (i 2).val k.val) (biasAt b (i 2).val) (i 1).val)

variable (m : (ℓ : Loc nD τ sig) → Buf (Elt Ideal) ℓ) (ρ : Dev nD → PrngReg)

/-- The arguments on a device are real numbers. -/
def RealArgs (c : Dev nD) : Prop :=
    (∀ i, (m ((c : Thread nD τ).loc main_arg0) : Vec Ideal S4x2048x20480 .bf16) i = ((((m ((c : Thread nD τ).loc main_arg0) : Vec Ideal S4x2048x20480 .bf16) i).toReal : ℝ) : EReal))
    ∧ (∀ i, (m ((c : Thread nD τ).loc main_arg1) : Vec Ideal S1x4x6144 .f32) i = ((((m ((c : Thread nD τ).loc main_arg1) : Vec Ideal S1x4x6144 .f32) i).toReal : ℝ) : EReal))
    ∧ (∀ i, (m ((c : Thread nD τ).loc main_arg2) : Vec Ideal S1x6144 .f32) i = ((((m ((c : Thread nD τ).loc main_arg2) : Vec Ideal S1x6144 .f32) i).toReal : ℝ) : EReal))

theorem flushed_eq (c : Dev nD) (hr : RealArgs m c) (t : Fin cfg0.N) :
    (dats m 0 c).flushed 6 t = ((cfg0.win 6).blk t).view.read (Elt Ideal)
      (convAt (m ((c : Thread nD τ).loc main_arg0)) (m ((c : Thread nD τ).loc main_arg1)) (m ((c : Thread nD τ).loc main_arg2))
        : Buf (Elt Ideal) ((c : Thread nD τ).loc main_v41)) := by
  rw [flushed6]
  obtain ⟨-, -, -, -, -, -, ⟨e0, e1, e2⟩, ei⟩ := blocks_at t
  obtain ⟨r0, r1, r2⟩ := hr
  have ht := points t
  funext y
  rw [View.read_apply]
  have hy0 : (y 0).val < 1 := (y 0).isLt
  have hy1 : (y 1).val < 1024 := (y 1).isLt
  have hy2 : (y 2).val < 2048 := (y 2).isLt
  have he : (((cfg0.win 6).blk t).view.emb y : S4x2048x6144.Idx)
      = ix3 (⟨t.val / 6, by omega⟩ : Fin 4) (⟨t.val / 3 % 2 * 1024 + (y 1).val, by omega⟩ : Fin 2048) (⟨t.val % 3 * 2048 + (y 2).val, by omega⟩ : Fin 6144) := by
    funext a
    apply Fin.ext
    match a with
    | ⟨0, _⟩ => show win0_6.index t 0 * 1 + 1 * (y 0).val = t.val / 6; rw [e0]; omega
    | ⟨1, _⟩ => show win0_6.index t 1 * 1024 + 1 * (y 1).val = t.val / 3 % 2 * 1024 + (y 1).val; rw [e1]; omega
    | ⟨2, _⟩ => show win0_6.index t 2 * 2048 + 1 * (y 2).val = t.val % 3 * 2048 + (y 2).val; rw [e2]; omega
  show out0_6 (grid0.coords t) (iblk m c 0 t) (iblk m c 1 t) (iblk m c 2 t) (iblk m c 3 t) (iblk m c 4 t) (iblk m c 5 t) y = convAt _ _ _ _
  rw [he]
  refine (block_value _ _ _ _ _ _ _
    (fun l q => rowAt (m ((c : Thread nD τ).loc main_arg0)) ⟨t.val / 6, by omega⟩ (t.val % 3 * 2048 + l) (t.val / 3 % 2 * 1024 + q))
    (fun l k => tapAt (m ((c : Thread nD τ).loc main_arg1)) (t.val % 3 * 2048 + l) k)
    (fun l => biasAt (m ((c : Thread nD τ).loc main_arg2)) (t.val % 3 * 2048 + l)) ?_ ?_ ?_ ?_ ?_ ?_ ?_ y).trans ?_
  · intro z
    have hz1 : (z 1).val < 1024 := (z 1).isLt
    have hz2 : (z 2).val < 2048 := (z 2).isLt
    rw [rows_block, r0]
    unfold rowAt
    rw [dif_pos (by omega)]
    congr 4 <;> apply Fin.ext <;> dsimp only <;> omega
  · intro hp z
    have hz1 : (z 1).val < 16 := (z 1).isLt
    have hz2 : (z 2).val < 2048 := (z 2).isLt
    rw [tail_block m c t (by omega), r0]
    unfold rowAt
    rw [dif_pos (by omega)]
    congr 4 <;> apply Fin.ext <;> dsimp only <;> omega
  · intro hz l r hl
    unfold rowAt
    rw [dif_neg (by omega)]
  · intro z
    obtain ⟨k, l, rfl⟩ : ∃ (k : Fin 4) (l : Fin 2048), z = ix2 k l := ⟨z 0, z 1, eq_ix2 z⟩
    rw [taps_block, r1]
    unfold tapAt
    have hk : k.val < 4 := k.isLt
    have hl : l.val < 2048 := l.isLt
    rw [dif_pos ⟨hk, show t.val % 3 * 2048 + l.val < 6144 by omega⟩]
    rfl
  · intro z
    obtain ⟨k, l, rfl⟩ : ∃ (k : Fin 1) (l : Fin 2048), z = ix2 k l := ⟨z 0, z 1, eq_ix2 z⟩
    obtain rfl : k = 0 := Subsingleton.elim _ _
    rw [bias_block, r2]
    unfold biasAt
    have hl : l.val < 2048 := l.isLt
    rw [dif_pos (by show t.val % 3 * 2048 + l.val < 6144; omega)]
    rfl
  · rw [shifts_block]; exact shifts_entry
  · rw [tailShifts_block]; exact tailShifts_entry
  · unfold convAt preact
    dsimp only
    congr 1
    show _ = tapAt _ (t.val % 3 * 2048 + (y 2).val) _ * rowAt _ _ (t.val % 3 * 2048 + (y 2).val) (13 + (t.val / 3 % 2 * 1024 + (y 1).val))
      + tapAt _ (t.val % 3 * 2048 + (y 2).val) _ * rowAt _ _ (t.val % 3 * 2048 + (y 2).val) (14 + (t.val / 3 % 2 * 1024 + (y 1).val))
      + tapAt _ (t.val % 3 * 2048 + (y 2).val) _ * rowAt _ _ (t.val % 3 * 2048 + (y 2).val) (15 + (t.val / 3 % 2 * 1024 + (y 1).val))
      + tapAt _ (t.val % 3 * 2048 + (y 2).val) _ * rowAt _ _ (t.val % 3 * 2048 + (y 2).val) (16 + (t.val / 3 % 2 * 1024 + (y 1).val))
      + biasAt _ (t.val % 3 * 2048 + (y 2).val)
    rw [Nat.add_left_comm 13, Nat.add_left_comm 14, Nat.add_left_comm 15, Nat.add_left_comm 16]
    rfl

theorem final (c : Dev nD) (hr : RealArgs m c) : (dats m 0 c).arrAt 6 cfg0.N
    = (convAt (m ((c : Thread nD τ).loc main_arg0)) (m ((c : Thread nD τ).loc main_arg1)) (m ((c : Thread nD τ).loc main_arg2))
        : Buf (Elt Ideal) ((c : Thread nD τ).loc main_v41)) :=
  (dats m 0 c).arrAt_eq_of_cover 6 _ (fun t _ => flushed_eq m c hr t) (fun i => by
    have h0 : (i 0).val < 4 := (i 0).isLt
    have h1 : (i 1).val < 2048 := (i 1).isLt
    have h2 : (i 2).val < 6144 := (i 2).isLt
    have hN : cfg0.N = 24 := N_0
    let t : Fin cfg0.N := ⟨(i 0).val * 6 + (i 1).val / 1024 * 3 + (i 2).val / 2048, by omega⟩
    have tv : t.val = (i 0).val * 6 + (i 1).val / 1024 * 3 + (i 2).val / 2048 := rfl
    obtain ⟨-, -, -, -, -, -, ⟨e0, e1, e2⟩, -⟩ := blocks_at t
    refine ⟨t, flush0_6 t, ?_⟩
    show i ∈ ((View.whole main_v41).slice (win0_6.rect t)).set
    rw [View.set_slice_whole, Rect.mem_set_unit]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 1024 ≤ (i 1).val ∧ (i 1).val < win0_6.index t (1 : Fin 3) * 1024 + 1024; omega
    | ⟨2, _⟩ => show win0_6.index t (2 : Fin 3) * 2048 ≤ (i 2).val ∧ (i 2).val < win0_6.index t (2 : Fin 3) * 2048 + 2048; omega)

end Cert.ConvIdeal.Value

end
-- ==== Proof.Conv.Claim.lean ====
/-
  THE CONVOLUTION'S CLAIM: its plain reference, entry by entry, and that the two leave the same result over arguments that
  are real numbers.
-/
module

public import proofs.«01_k».proof.Proof.Conv.Value
public import proofs.«01_k».proof.Proof.Gen.ConvRefIdeal.Run
public import Idealize.ShloMosaic.Lib.IdealHost

@[expose] public section

set_option maxRecDepth 16384

noncomputable section

open Idealize.ShloMosaic Idealize.ShloMosaic.TcCoe Idealize.SL.Sem

namespace Cert.ConvRefIdeal.Value

open Cert.ConvRefIdeal Cert.ConvRefIdeal.Gen

variable (m : (ℓ : Loc nD τ sig) → Buf (Elt Ideal) ℓ)

/-- The rows with three rows of zeros in front. -/
def padded (p : FVec Ideal S4x2048x20480 .bf16) : FVec Ideal S4x2051x6144 .f32 :=
  pad S4x2051x6144 ![0, 3, 0] ![0, 0, 0] ![0, 0, 0] (extf .f32 (extractStridedSlice S4x2048x6144 ![0, 0, 4096] p slices_S4x2048x20480_S4x2048x6144_0_0_4096) bitsLt_bf16_f32) (sitofp .f32 (constantI S_ 32 0#32)) pads_S4x2048x6144_S4x2051x6144_000_300_000 h_S_

theorem padded_apply (p : FVec Ideal S4x2048x20480 .bf16) (z : Fin 4) (y : Fin 2051) (x : Fin 6144) :
    padded p (ix3 z y x) = (if h : 3 ≤ y.val ∧ y.val - 3 < 2048 then p (ix3 z ⟨y.val - 3, h.2⟩ ⟨4096 + x.val, by omega⟩) else 0 : EReal) := by
  unfold padded
  pointwise
  have e : (FloatOps.sitofp (F := Ideal) FTy.f32 0#32 : EReal) = 0 := by simp [FloatOps.sitofp]
  rw [e]

/-- The reference's pre-activation. -/
def pre (p : FVec Ideal S4x2051x6144 .f32) (w : FVec Ideal S1x4x6144 .f32) (b : FVec Ideal S1x6144 .f32) : FVec Ideal S4x2048x6144 .f32 :=
  addf (addf (addf (addf (addf (broadcastInDim S4x2048x6144 ![] bcast_S_S4x2048x6144 (constant S_ .f32 0x00000000#32)) (mulf (extractStridedSlice S4x2048x6144 ![0, 0, 0] p slices_S4x2051x6144_S4x2048x6144_0_0_0) (broadcastInDim S4x2048x6144 ![0, 1, 2] bcast_S1x1x6144_S4x2048x6144_0_1_2 (broadcastInDim S1x1x6144 ![2] bcast_S6144_S1x1x6144_2 (shapeCast _ (extractStridedSlice S1x6144 ![0, 0] (shapeCast _ w shapeCasts_S1x4x6144_S4x6144) slices_S4x6144_S1x6144_0_0) shapeCasts_S1x6144_S6144))))) (mulf (extractStridedSlice S4x2048x6144 ![0, 1, 0] p slices_S4x2051x6144_S4x2048x6144_0_1_0) (broadcastInDim S4x2048x6144 ![0, 1, 2] bcast_S1x1x6144_S4x2048x6144_0_1_2 (broadcastInDim S1x1x6144 ![2] bcast_S6144_S1x1x6144_2 (shapeCast _ (extractStridedSlice S1x6144 ![1, 0] (shapeCast _ w shapeCasts_S1x4x6144_S4x6144) slices_S4x6144_S1x6144_1_0) shapeCasts_S1x6144_S6144))))) (mulf (extractStridedSlice S4x2048x6144 ![0, 2, 0] p slices_S4x2051x6144_S4x2048x6144_0_2_0) (broadcastInDim S4x2048x6144 ![0, 1, 2] bcast_S1x1x6144_S4x2048x6144_0_1_2 (broadcastInDim S1x1x6144 ![2] bcast_S6144_S1x1x6144_2 (shapeCast _ (extractStridedSlice S1x6144 ![2, 0] (shapeCast _ w shapeCasts_S1x4x6144_S4x6144) slices_S4x6144_S1x6144_2_0) shapeCasts_S1x6144_S6144))))) (mulf (extractStridedSlice S4x2048x6144 ![0, 3, 0] p slices_S4x2051x6144_S4x2048x6144_0_3_0) (broadcastInDim S4x2048x6144 ![0, 1, 2] bcast_S1x1x6144_S4x2048x6144_0_1_2 (broadcastInDim S1x1x6144 ![2] bcast_S6144_S1x1x6144_2 (shapeCast _ (extractStridedSlice S1x6144 ![3, 0] (shapeCast _ w shapeCasts_S1x4x6144_S4x6144) slices_S4x6144_S1x6144_3_0) shapeCasts_S1x6144_S6144))))) (broadcastInDim S4x2048x6144 ![0, 1, 2] bcast_S1x1x6144_S4x2048x6144_0_1_2 (broadcastInDim S1x1x6144 ![2] bcast_S6144_S1x1x6144_2 (shapeCast _ b shapeCasts_S1x6144_S6144)))

theorem pre_apply (p : FVec Ideal S4x2051x6144 .f32) (w : FVec Ideal S1x4x6144 .f32) (b : FVec Ideal S1x6144 .f32)
    (z : Fin 4) (y : Fin 2048) (x : Fin 6144) :
    pre p w b (ix3 z y x) = (p (ix3 z ⟨y.val, by omega⟩ x) * w (ix3 (0 : Fin 1) 0 x) + p (ix3 z ⟨1 + y.val, by omega⟩ x) * w (ix3 (0 : Fin 1) 1 x)
      + p (ix3 z ⟨2 + y.val, by omega⟩ x) * w (ix3 (0 : Fin 1) 2 x) + p (ix3 z ⟨3 + y.val, by omega⟩ x) * w (ix3 (0 : Fin 1) 3 x)
      + b (ix2 (0 : Fin 1) x) : EReal) := by
  unfold pre
  pointwise

/-- silu, entry by entry. -/
def act (u : FVec Ideal S4x2048x6144 .f32) : FVec Ideal S4x2048x6144 .bf16 :=
  truncf .bf16 (mulf u (Host.divf (broadcastInDim S4x2048x6144 ![] bcast_S_S4x2048x6144 (constant S_ .f32 0x3F800000#32)) (addf (broadcastInDim S4x2048x6144 ![] bcast_S_S4x2048x6144 (constant S_ .f32 0x3F800000#32)) (Host.exp (Host.negf u))))) bitsLt_bf16_f32

theorem act_apply (u : FVec Ideal S4x2048x6144 .f32) (i : S4x2048x6144.Idx) : act u i = (u i * Ideal.logistic (u i) : EReal) := by
  unfold act
  pointwise
  rfl

theorem res_eq (c : Dev nD) : res_main_v38 m c = act (pre (padded (m ((c.tc : Thread nD τ).loc main_arg0))) (m ((c.tc : Thread nD τ).loc main_arg1)) (m ((c.tc : Thread nD τ).loc main_arg2))) := rfl

open Cert.ConvIdeal.Value (rowAt tapAt biasAt convAt)

/-- A padded row is the kernel's row, thirteen rows of zeros further in front. -/
theorem padded_real (p : FVec Ideal S4x2048x20480 .bf16) (hp : ∀ i, p i = (((p i).toReal : ℝ) : EReal)) (z : Fin 4) (y : ℕ) (hy : y < 2051) (x : Fin 6144) :
    padded p (ix3 z ⟨y, hy⟩ x) = ((rowAt p z x.val (13 + y) : ℝ) : EReal) := by
  rw [padded_apply]
  have hx := x.isLt
  unfold rowAt
  by_cases h : 3 ≤ y ∧ y - 3 < 2048
  · rw [dif_pos h, dif_pos (by omega), hp]
    congr 4; apply Fin.ext; dsimp only; omega
  · rw [dif_neg h, dif_neg (by omega)]; rfl

/-- The reference's term is the kernel's function. -/
theorem ref_eq (p : FVec Ideal S4x2048x20480 .bf16) (w : FVec Ideal S1x4x6144 .f32) (b : FVec Ideal S1x6144 .f32)
    (hp : ∀ i, p i = (((p i).toReal : ℝ) : EReal)) (hw : ∀ i, w i = (((w i).toReal : ℝ) : EReal)) (hb : ∀ i, b i = (((b i).toReal : ℝ) : EReal)) :
    act (pre (padded p) w b) = convAt p w b := by
  funext i
  obtain ⟨z, y, x, rfl⟩ : ∃ (z : Fin 4) (y : Fin 2048) (x : Fin 6144), i = ix3 z y x := ⟨i 0, i 1, i 2, eq_ix3 i⟩
  have ht (k : Fin 4) : w (ix3 (0 : Fin 1) k x) = ((tapAt w x.val k.val : ℝ) : EReal) := by
    rw [hw]; unfold tapAt; rw [dif_pos ⟨k.isLt, x.isLt⟩]
  have hB : b (ix2 (0 : Fin 1) x) = ((biasAt b x.val : ℝ) : EReal) := by
    rw [hb]; unfold biasAt; rw [dif_pos x.isLt]
  have e : pre (padded p) w b (ix3 z y x)
      = ((Cert.ConvIdeal.Slab.preact (rowAt p z x.val) (fun k => tapAt w x.val k.val) (biasAt b x.val) y.val : ℝ) : EReal) := by
    rw [pre_apply, padded_real p hp, padded_real p hp, padded_real p hp, padded_real p hp, ht, ht, ht, ht, hB]
    simp only [← EReal.coe_mul, ← EReal.coe_add]
    unfold Cert.ConvIdeal.Slab.preact
    rw [← Nat.add_assoc 13 1, ← Nat.add_assoc 13 2, ← Nat.add_assoc 13 3]
    congr 1
    dsimp only
    ring
  rw [act_apply, e]
  rfl

end Cert.ConvRefIdeal.Value

namespace Cert.Proof

/-- The call and its reference leave the same result. -/
theorem conv_claim : Cert.algebraic_ConvIdeal_ConvRefIdeal_pre_finite_conv (hConvIdeal := Cert.ConvIdeal.Gen.facts)
    (hConvRefIdeal := Cert.ConvRefIdeal.Gen.facts) (hPre_finite_conv := Cert.Pre_finite_conv.Gen.facts) := by
  intro m g m' g' hp hm
  have hr (c) : Cert.ConvIdeal.Value.RealArgs m c := Cert.ConvIdeal.Value.finite_args m hp c
  refine ⟨fun c => _, (θ_run _ _ _).mono (fun r h c => ⟨(h c).1.trans (Cert.ConvIdeal.Value.final m c (hr c)), (h c).2⟩)
    (Cert.ConvIdeal.Value.run_blocks m g), ?_⟩
  refine (θ_run _ _ _).mono (fun r h c => ⟨(h c).1.trans ?_, (h c).2⟩) (Cert.ConvRefIdeal.Value.run m' g')
  obtain ⟨e0, e1, e2⟩ := hm c
  rw [Cert.ConvRefIdeal.Value.res_eq, e0, e1, e2]
  exact Cert.ConvRefIdeal.Value.ref_eq _ _ _ (hr c).1 (hr c).2.1 (hr c).2.2

end Cert.Proof

end
-- ==== Proof.Attn.Host.lean ====
/-
  ATTENTION'S HOST VALUES: the tables of cosines and sines, the weight rows the region reads, and what the precondition says
  of the arguments.
-/
module

public import proofs.«01_k».proof.Proof.Gen.AttnIdeal.Value
public import proofs.«01_k».proof.Proof.Gen.Pre_finite_attn
public import proofs.«01_k».proof.Proof.Conv.Host
public import proofs.«01_k».proof.Defs
public import Idealize.ShloMosaic.Lib.Pointwise
public import Idealize.ShloMosaic.Lib.ReduceAll
public import Idealize.ShloMosaic.Lib.IdealHost

@[expose] public section

set_option maxRecDepth 16384

noncomputable section

namespace Cert.AttnIdeal.Value

open Cert.AttnIdeal Cert.AttnIdeal.Gen Idealize.ShloMosaic Idealize.ShloMosaic.TcCoe

section
variable {F : FTy → Type} [FloatOps F] [Named F]
variable (m : (ℓ : Loc nD τ sig) → Buf (Elt F) ℓ)

/-- A row's angles. -/
def angles : FVec F S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table of a row's two halves, repeated for the two halves of the lanes. -/
def table (a b : FVec F S2048x32 .f32) : FVec F S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1) shapeCasts_S2048x64_S1x2048x1x64))
    shapeCasts_S1x2048x2x64_S2048x128

/-- Equal halves make equal tables. -/
theorem table_congr {a a' b b' : FVec F S2048x32 .f32} (ha : a = a') (hb : b = b') : table a b = table a' b' := by
  subst ha hb; rfl

/-- A weight row, once for each half of the lanes. -/
def twice (w : FVec F S1x64 .f32) : FVec F S1x128 .f32 :=
  shapeCast S1x128 (shapeCast S128 (broadcastInDim S2x64 ![0, 1] bcast_S1x64_S2x64_0_1
    (shapeCast S1x64 (shapeCast S64 w shapeCasts_S1x64_S64) shapeCasts_S64_S1x64)) shapeCasts_S2x64_S128) shapeCasts_S128_S1x128

theorem cos_arr (c : Dev nD) : V m c main_v18 = (table (Host.cos angles) (Host.cos angles) : FVec F S2048x128 .f32) := by
  dsimp only [V, hostOps0]; after_results
  refine table_congr ?_ ?_
  all_goals rfl

theorem sin_arr (c : Dev nD) : V m c main_v23 = (table (Host.negf (Host.sin angles)) (Host.sin angles) : FVec F S2048x128 .f32) := by
  dsimp only [V, hostOps0]; after_results
  refine table_congr ?_ ?_
  all_goals rfl

theorem qw_arr (c : Dev nD) : V m c main_v28 = twice (m ((c : Thread nD τ).loc main_arg1)) := by
  dsimp only [V, hostOps0]; after_results; rfl

theorem kw_arr (c : Dev nD) : V m c main_v33 = twice (m ((c : Thread nD τ).loc main_arg2)) := by
  dsimp only [V, hostOps0]; after_results; rfl

theorem l3_arr (c : Dev nD) : V m c main_v35 = shapeCast S1x64 (shapeCast S64 (m ((c : Thread nD τ).loc main_arg3)) shapeCasts_S1x64_S64) shapeCasts_S64_S1x64 := by
  dsimp only [V, hostOps0]; after_results; rfl

theorem l4_arr (c : Dev nD) : V m c main_v37 = shapeCast S1x64 (shapeCast S64 (m ((c : Thread nD τ).loc main_arg4)) shapeCasts_S1x64_S64) shapeCasts_S64_S1x64 := by
  dsimp only [V, hostOps0]; after_results; rfl

theorem l5_arr (c : Dev nD) : V m c main_v39 = shapeCast S1x64 (shapeCast S64 (m ((c : Thread nD τ).loc main_arg5)) shapeCasts_S1x64_S64) shapeCasts_S64_S1x64 := by
  dsimp only [V, hostOps0]; after_results; rfl

theorem l6_arr (c : Dev nD) : V m c main_v41 = shapeCast S1x64 (shapeCast S64 (m ((c : Thread nD τ).loc main_arg6)) shapeCasts_S1x64_S64) shapeCasts_S64_S1x64 := by
  dsimp only [V, hostOps0]; after_results; rfl

theorem ow_arr (c : Dev nD) : V m c main_v43 = shapeCast S1x128 (shapeCast S128 (m ((c : Thread nD τ).loc main_arg7)) shapeCasts_S1x128_S128) shapeCasts_S128_S1x128 := by
  dsimp only [V, hostOps0]; after_results; rfl

theorem row64_apply (w : FVec F S1x64 .f32) (l : Fin 64) :
    shapeCast S1x64 (shapeCast S64 w shapeCasts_S1x64_S64) shapeCasts_S64_S1x64 (ix2 (0 : Fin 1) l) = w (ix2 (0 : Fin 1) l) := by
  pointwise

theorem row128_apply (w : FVec F S1x128 .f32) (l : Fin 128) :
    shapeCast S1x128 (shapeCast S128 w shapeCasts_S1x128_S128) shapeCasts_S128_S1x128 (ix2 (0 : Fin 1) l) = w (ix2 (0 : Fin 1) l) := by
  pointwise

theorem twice_apply (w : FVec F S1x64 .f32) (l : Fin 128) :
    twice w (ix2 (0 : Fin 1) l) = w (ix2 (0 : Fin 1) ⟨l.val % 64, Nat.mod_lt _ (by norm_num)⟩) := by
  unfold twice
  pointwise

end

/-- An angle. -/
def angR (y x : ℕ) : ℝ := ((BitVec.ofNat 32 y).toInt : ℝ) * Real.rpow 10000 (-((BitVec.ofNat 32 x).toInt : ℝ) * (1 / 32))

/-- An angle as the programs write it. -/
def angE (y x : ℕ) : EReal :=
  FloatOps.sitofp (F := Ideal) FTy.f32 (BitVec.ofNat 32 y) * Ideal.pow (Ideal.ofBits FTy.f32 1176256512#32)
    (Ideal.div (-FloatOps.sitofp (F := Ideal) FTy.f32 (BitVec.ofNat 32 x)) (Ideal.ofBits FTy.f32 1107296256#32))

theorem angE_real (y x : ℕ) : angE y x = ((angR y x : ℝ) : EReal) := by
  have h1 : (Ideal.ofBits FTy.f32 1176256512#32 : EReal) = ((10000 : ℝ) : EReal) := by
    simp [Ideal.ofBits, Ideal.ieee, -EReal.coe_mul]; norm_num
  have h2 : (Ideal.ofBits FTy.f32 1107296256#32 : EReal) = ((32 : ℝ) : EReal) := by
    simp [Ideal.ofBits, Ideal.ieee, -EReal.coe_mul]; norm_num
  have h3 (z : BitVec 32) : FloatOps.sitofp (F := Ideal) FTy.f32 z = (((z.toInt : ℝ) : ℝ) : EReal) := rfl
  unfold angE angR
  rw [h1, h2, h3, h3, Ideal.div_coe (by norm_num), ← EReal.coe_neg, ← EReal.coe_mul, Ideal.pow_coe_coe, ← EReal.coe_mul]

/-- The two tables. -/
def cosR (y l : ℕ) : ℝ := Real.cos (angR y (l % 32))
def sinR (y l : ℕ) : ℝ := if l % 64 < 32 then -Real.sin (angR y (l % 32)) else Real.sin (angR y (l % 32))

theorem angles_apply (y : Fin 2048) (x : Fin 32) : (angles : FVec Ideal S2048x32 .f32) (ix2 y x) = angE y.val x.val := by
  unfold angles angE
  pointwise

theorem table_apply (a b : FVec Ideal S2048x32 .f32) (y : Fin 2048) (x : Fin 128) : table a b (ix2 y x)
    = if x.val % 64 < 32 then a (ix2 y ⟨x.val % 32, Nat.mod_lt _ (by norm_num)⟩) else b (ix2 y ⟨x.val % 32, Nat.mod_lt _ (by norm_num)⟩) := by
  unfold table
  pointwise
  by_cases h : x.val % 64 < 32
  · rw [dif_pos h, if_pos h]
    congr 2; apply Fin.ext; dsimp only; omega
  · rw [dif_neg h, if_neg h]
    congr 2; apply Fin.ext; dsimp only; omega

theorem cos_table (y : Fin 2048) (x : Fin 128) : (table (Host.cos (angles (F := Ideal))) (Host.cos (angles (F := Ideal))) : FVec Ideal S2048x128 .f32) (ix2 y x) = ((cosR y.val x.val : ℝ) : EReal) := by
  rw [table_apply, ite_self]
  show Ideal.cos ((angles : FVec Ideal S2048x32 .f32) _) = _
  rw [angles_apply, angE_real, Ideal.cos_coe]
  rfl

theorem sin_table (y : Fin 2048) (x : Fin 128) : (table (Host.negf (Host.sin (angles (F := Ideal)))) (Host.sin (angles (F := Ideal))) : FVec Ideal S2048x128 .f32) (ix2 y x) = ((sinR y.val x.val : ℝ) : EReal) := by
  rw [table_apply]
  show (if x.val % 64 < 32 then -Ideal.sin ((angles : FVec Ideal S2048x32 .f32) _) else Ideal.sin ((angles : FVec Ideal S2048x32 .f32) _)) = _
  rw [angles_apply, angE_real, Ideal.sin_coe, ← EReal.coe_neg]
  unfold sinR
  split_ifs <;> rfl

attribute [local instance] Cert.Pre_finite_attn.Gen.facts

/-- Every entry is a real number. -/
def Reals {s : Shape} {φ : FTy} (x : FVec Ideal s φ) : Prop := ∀ i, x i = (((x i).toReal : ℝ) : EReal)

/-- Every entry of the queries, the keys and the values is a real number. -/
def RealCols (p : FVec Ideal S4x2048x20480 .bf16) : Prop :=
  ∀ (b : Fin 4) (r : Fin 2048) (c : Fin 20480), 10240 ≤ c.val → c.val < 16384 → p (ix3 b r c) = (((p (ix3 b r c)).toReal : ℝ) : EReal)

/-- The columns from 10240 on. -/
theorem cols_apply (p : FVec Ideal S4x2048x20480 .bf16) (b : Fin 4) (r : Fin 2048) (c : Fin 6144) :
    extractStridedSlice Pre_finite_attn.S4x2048x6144 ![0, 0, 10240] p Pre_finite_attn.Facts.slices_S4x2048x20480_S4x2048x6144_0_0_10240 (ix3 b r c)
      = p (ix3 b r ⟨10240 + c.val, by omega⟩) := by
  pointwise

variable (m : (ℓ : Loc nD τ sig) → Buf (Elt Ideal) ℓ)

/-- The arguments on a device are real numbers. -/
structure RealArgs (c : Dev nD) : Prop where
  a0 : RealCols (m ((c : Thread nD τ).loc main_arg0))
  a1 : Reals (s := S1x64) (φ := .f32) (m ((c : Thread nD τ).loc main_arg1))
  a2 : Reals (s := S1x64) (φ := .f32) (m ((c : Thread nD τ).loc main_arg2))
  a3 : Reals (s := S1x64) (φ := .f32) (m ((c : Thread nD τ).loc main_arg3))
  a4 : Reals (s := S1x64) (φ := .f32) (m ((c : Thread nD τ).loc main_arg4))
  a5 : Reals (s := S1x64) (φ := .f32) (m ((c : Thread nD τ).loc main_arg5))
  a6 : Reals (s := S1x64) (φ := .f32) (m ((c : Thread nD τ).loc main_arg6))

theorem finite_args (h : Pre_AttnIdeal_finite_attn m) (c : Dev nD) : RealArgs m c := by
  have := congrFun (h c) ix0
  simp only [Pre_finite_attn.fn, Pre_finite_attn.fn_part1, Pre_finite_attn.fn_part2] at this
  have e : ∀ (a b : IVec Pre_finite_attn.S_ 1) i, andi a b i = IntOp.andi (a i) (b i) := fun _ _ _ => rfl
  rw [e, IntOp.andi_eq_one, e, IntOp.andi_eq_one, e, IntOp.andi_eq_one, e, IntOp.andi_eq_one, e, IntOp.andi_eq_one, e, IntOp.andi_eq_one] at this
  obtain ⟨⟨⟨⟨⟨⟨h0, h1⟩, h2⟩, h3⟩, h4⟩, h5⟩, h6⟩ := this
  refine ⟨fun b r d hd hd' => ?_, fun i => Cert.ConvIdeal.Value.real_of_lt _ (Host.reduce_andi_all _ _ _ _ _ h1 i),
    fun i => Cert.ConvIdeal.Value.real_of_lt _ (Host.reduce_andi_all _ _ _ _ _ h2 i), fun i => Cert.ConvIdeal.Value.real_of_lt _ (Host.reduce_andi_all _ _ _ _ _ h3 i),
    fun i => Cert.ConvIdeal.Value.real_of_lt _ (Host.reduce_andi_all _ _ _ _ _ h4 i), fun i => Cert.ConvIdeal.Value.real_of_lt _ (Host.reduce_andi_all _ _ _ _ _ h5 i),
    fun i => Cert.ConvIdeal.Value.real_of_lt _ (Host.reduce_andi_all _ _ _ _ _ h6 i)⟩
  have q := Cert.ConvIdeal.Value.real_of_lt _ (Host.reduce_andi_all _ _ _ _ _ h0 (ix3 b r (⟨d.val - 10240, by omega⟩ : Fin 6144)))
  have k := cols_apply (m ((c : Thread nD τ).loc main_arg0)) b r ⟨d.val - 10240, by omega⟩
  rw [show (⟨10240 + (d.val - 10240), by omega⟩ : Fin 20480) = d from Fin.ext (by dsimp only; omega)] at k
  rw [← k]
  exact q

end Cert.AttnIdeal.Value

end
-- ==== Proof.Attn.Tile.lean ====
/-
  THE TILES OF THE ATTENTION. For a block of 512 queries the body keeps, per head, the scores of the block against itself in
  two halves, the running maxima and sums in 128 lanes, and the weighted values. Each of these is written here as a function
  of the block's rotated queries and keys and of the values; the earlier key blocks come as a list.
-/
module

public import proofs.«01_k».proof.Proof.Gen.AttnIdeal.Value
public import Idealize.ShloMosaic.Lib.Pointwise

@[expose] public section

set_option maxRecDepth 16384

noncomputable section

namespace Cert.AttnIdeal.Tile

open Cert.AttnIdeal Cert.AttnIdeal.Gen Idealize.ShloMosaic

variable {F : FTy → Type} [FloatOps F]

/-- A box of a stored box, `d` away from its corner. -/
def sub {n : ℕ} {α : Type} (d : Fin n → ℕ) {size size' : Fin n → ℕ} (w : ((a : Fin n) → Fin (size a)) → α)
    (h : ∀ a, d a + size' a ≤ size a) : ((a : Fin n) → Fin (size' a)) → α :=
  fun j => w fun a => ⟨d a + (j a).val, lt_of_lt_of_le (Nat.add_lt_add_left (j a).isLt _) (h a)⟩

/-- Rows 0 to 255 and rows 256 to 511 put together. -/
def join (x y : FVec F S1x256x128 .f32) : FVec F S1x512x128 .f32 := fun j =>
  if h : (j 1).val < 256 then x (ix3 (0 : Fin 1) (⟨(j 1).val, h⟩ : Fin 256) (j 2 : Fin 128))
  else y (ix3 (0 : Fin 1) (⟨(j 1).val - 256, by have : (j 1).val < 512 := (j 1).isLt; omega⟩ : Fin 256) (j 2 : Fin 128))

/-- The scores of the upper 256 rows, masked. -/
def top (q k : FVec F S512x128 .bf16) : FVec F S256x256 .f32 :=
  select (cmpi .sge (iota .tc S256x256 32 [0] iota_S256x256_d0_w32) (iota .tc S256x256 32 [1] iota_S256x256_d1_w32))
    (matmul dot_S256x128_S256x128_S256x256_1_1_0_0_n_n none (extractStridedSlice S256x128 ![0, 0] q slices_S512x128_o0_0_S256x128)
      (extractStridedSlice S256x128 ![0, 0] k slices_S512x128_o0_0_S256x128) (constant S256x256 .f32 0x00000000#32))
    (broadcast S256x256 (FloatOps.ofBits (F := F) .f32 0xFF800000#32))

/-- The scores of the lower 256 rows, masked. -/
def bot (q k : FVec F S512x128 .bf16) : FVec F S256x512 .f32 :=
  select (cmpi .sge (addi (iota .tc S256x512 32 [0] iota_S256x512_d0_w32) (broadcast S256x512 256#32)) (iota .tc S256x512 32 [1] iota_S256x512_d1_w32))
    (matmul dot_S256x128_S512x128_S256x512_1_1_0_0_n_n none (extractStridedSlice S256x128 ![256, 0] q slices_S512x128_o256_0_S256x128)
      k (constant S256x512 .f32 0x00000000#32))
    (broadcast S256x512 (FloatOps.ofBits (F := F) .f32 0xFF800000#32))

/-- The scores against an earlier block of keys. -/
def off (q k : FVec F S512x128 .bf16) : FVec F S512x512 .f32 :=
  matmul dot_S512x128_S512x128_S512x512_1_1_0_0_n_n none q k (constant S512x512 .f32 0x00000000#32)

/-- The lanes of 256 columns folded by `f`, and so on for 512. -/
def fold2 (f : FVec F S256x128 .f32 → FVec F S256x128 .f32 → FVec F S256x128 .f32) (x : FVec F S256x256 .f32) : FVec F S256x128 .f32 :=
  f (extractStridedSlice S256x128 ![0, 0] x slices_S256x256_o0_0_S256x128) (extractStridedSlice S256x128 ![0, 128] x slices_S256x256_o0_128_S256x128)

@[inherit_doc fold2]
def fold4 (f : FVec F S256x128 .f32 → FVec F S256x128 .f32 → FVec F S256x128 .f32) (x : FVec F S256x512 .f32) : FVec F S256x128 .f32 :=
  f (f (f (extractStridedSlice S256x128 ![0, 0] x slices_S256x512_o0_0_S256x128) (extractStridedSlice S256x128 ![0, 128] x slices_S256x512_o0_128_S256x128))
    (extractStridedSlice S256x128 ![0, 256] x slices_S256x512_o0_256_S256x128)) (extractStridedSlice S256x128 ![0, 384] x slices_S256x512_o0_384_S256x128)

@[inherit_doc fold2]
def fold512 (f : FVec F S512x128 .f32 → FVec F S512x128 .f32 → FVec F S512x128 .f32) (x : FVec F S512x512 .f32) : FVec F S512x128 .f32 :=
  f (f (f (extractStridedSlice S512x128 ![0, 0] x slices_S512x512_o0_0_S512x128) (extractStridedSlice S512x128 ![0, 128] x slices_S512x512_o0_128_S512x128))
    (extractStridedSlice S512x128 ![0, 256] x slices_S512x512_o0_256_S512x128)) (extractStridedSlice S512x128 ![0, 384] x slices_S512x512_o0_384_S512x128)

/-- The maxima of the block's own scores, by lanes. -/
def max0 (q k : FVec F S512x128 .bf16) : FVec F S1x512x128 .f32 :=
  join (shapeCast S1x256x128 (fold2 maximumf (top q k)) shapeCasts_S256x128_S1x256x128)
    (shapeCast S1x256x128 (fold4 maximumf (bot q k)) shapeCasts_S256x128_S1x256x128)

/-- The maxima after one more block of keys. -/
def maxStep (q : FVec F S512x128 .bf16) (st : FVec F S1x512x128 .f32) (k : FVec F S512x128 .bf16) : FVec F S1x512x128 .f32 :=
  shapeCast S1x512x128 (maximumf (shapeCast S512x128 st shapeCasts_S1x512x128_S512x128) (fold512 maximumf (off q k))) shapeCasts_S512x128_S1x512x128

/-- Each row's maximum, in every lane. -/
def rowMax (st : FVec F S1x512x128 .f32) : FVec F S1x512x128 .f32 :=
  shapeCast S1x512x128 (broadcastTo S512x128 (shapeCast S512x1 (shapeCast S512x1
    (multiReduction .maximumf [1] S512 (shapeCast S512x128 st shapeCasts_S1x512x128_S512x128) 0xFF800000#32 reduces_S512x128_S512 (.inl rfl) rfl)
    shapeCasts_S512_S512x1) shapeCasts_S512x1_S512x1) broadcasts_S512x1_S512x128) shapeCasts_S512x128_S1x512x128

/-- Two, and four, arrays of 128 columns side by side. -/
def cat2 (a b : FVec F S256x128 .f32) : FVec F S256x256 .f32 :=
  concatenate S256x256 1 [⟨S256x128, a⟩, ⟨S256x128, b⟩] concatenates_S256x128_S256x128_S256x256_d1

@[inherit_doc cat2]
def cat4 (a b c d : FVec F S256x128 .f32) : FVec F S256x512 .f32 :=
  concatenate S256x512 1 [⟨S256x128, a⟩, ⟨S256x128, b⟩, ⟨S256x128, c⟩, ⟨S256x128, d⟩] concatenates_S256x128_S256x128_S256x128_S256x128_S256x512_d1

@[inherit_doc cat2]
def cat512 (a b c d : FVec F S512x128 .f32) : FVec F S512x512 .f32 :=
  concatenate S512x512 1 [⟨S512x128, a⟩, ⟨S512x128, b⟩, ⟨S512x128, c⟩, ⟨S512x128, d⟩] concatenates_S512x128_S512x128_S512x128_S512x128_S512x512_d1

theorem cat2_eq (a b : FVec F S256x128 .f32) (h) : concatenate S256x256 1 [⟨S256x128, a⟩, ⟨S256x128, b⟩] h = cat2 a b := rfl
theorem cat4_eq (a b c d : FVec F S256x128 .f32) (h) :
    concatenate S256x512 1 [⟨S256x128, a⟩, ⟨S256x128, b⟩, ⟨S256x128, c⟩, ⟨S256x128, d⟩] h = cat4 a b c d := rfl
theorem cat512_eq (a b c d : FVec F S512x128 .f32) (h) :
    concatenate S512x512 1 [⟨S512x128, a⟩, ⟨S512x128, b⟩, ⟨S512x128, c⟩, ⟨S512x128, d⟩] h = cat512 a b c d := rfl

/-- 128 columns of the upper half's weights. -/
def topW (s : FVec F S1x256x128 .f32) (m : FVec F S1x512x128 .f32) : FVec F S256x128 .f32 :=
  exp2 (subf (shapeCast S256x128 s shapeCasts_S1x256x128_S256x128)
    (extractStridedSlice S256x128 ![0, 0] (shapeCast S512x128 m shapeCasts_S1x512x128_S512x128) slices_S512x128_o0_0_S256x128))

/-- 128 columns of the lower half's weights. -/
def botW (s : FVec F S1x256x128 .f32) (m : FVec F S1x512x128 .f32) : FVec F S256x128 .f32 :=
  exp2 (subf (shapeCast S256x128 s shapeCasts_S1x256x128_S256x128)
    (extractStridedSlice S256x128 ![256, 0] (shapeCast S512x128 m shapeCasts_S1x512x128_S512x128) slices_S512x128_o256_0_S256x128))

/-- The upper half's weights. -/
def topP (q k : FVec F S512x128 .bf16) (m : FVec F S1x512x128 .f32) : FVec F S256x256 .f32 :=
  let s : FVec F S1x256x256 .f32 := shapeCast S1x256x256 (top q k) shapeCasts_S256x256_S1x256x256
  cat2 (topW (sub ![0, 0, 0] s (by decide)) m) (topW (sub ![0, 0, 128] s (by decide)) m)

/-- The lower half's weights. -/
def botP (q k : FVec F S512x128 .bf16) (m : FVec F S1x512x128 .f32) : FVec F S256x512 .f32 :=
  let s : FVec F S1x256x512 .f32 := shapeCast S1x256x512 (bot q k) shapeCasts_S256x512_S1x256x512
  cat4 (botW (sub ![0, 0, 0] s (by decide)) m) (botW (sub ![0, 0, 128] s (by decide)) m)
    (botW (sub ![0, 0, 256] s (by decide)) m) (botW (sub ![0, 0, 384] s (by decide)) m)

/-- The weights against an earlier block of keys. -/
def offP (q k : FVec F S512x128 .bf16) (m : FVec F S1x512x128 .f32) : FVec F S512x512 .f32 :=
  let s : FVec F S512x512 .f32 := shapeCast S512x512 (shapeCast S1x1x512x512 (off q k) shapeCasts_S512x512_S1x1x512x512) shapeCasts_S1x1x512x512_S512x512
  let m' : FVec F S512x128 .f32 := shapeCast S512x128 m shapeCasts_S1x512x128_S512x128
  cat512 (exp2 (subf (extractStridedSlice S512x128 ![0, 0] s slices_S512x512_o0_0_S512x128) m'))
    (exp2 (subf (extractStridedSlice S512x128 ![0, 128] s slices_S512x512_o0_128_S512x128) m'))
    (exp2 (subf (extractStridedSlice S512x128 ![0, 256] s slices_S512x512_o0_256_S512x128) m'))
    (exp2 (subf (extractStridedSlice S512x128 ![0, 384] s slices_S512x512_o0_384_S512x128) m'))

/-- The sums of the block's own weights, by lanes. -/
def sum0 (q k : FVec F S512x128 .bf16) (m : FVec F S1x512x128 .f32) : FVec F S1x512x128 .f32 :=
  join (shapeCast S1x256x128 (fold2 addf (topP q k m)) shapeCasts_S256x128_S1x256x128)
    (shapeCast S1x256x128 (fold4 addf (botP q k m)) shapeCasts_S256x128_S1x256x128)

/-- The sums after one more block of keys. -/
def sumStep (q : FVec F S512x128 .bf16) (m : FVec F S1x512x128 .f32) (st : FVec F S1x512x128 .f32) (k : FVec F S512x128 .bf16) : FVec F S1x512x128 .f32 :=
  shapeCast S1x512x128 (addf (shapeCast S512x128 st shapeCasts_S1x512x128_S512x128) (fold512 addf (offP q k m))) shapeCasts_S512x128_S1x512x128

/-- The block's own weighted values. -/
def acc0 (q k v : FVec F S512x128 .bf16) (m : FVec F S1x512x128 .f32) : FVec F S1x512x128 .f32 :=
  join (shapeCast S1x256x128 (matmul dot_S256x256_S256x128_S256x128_1_0_0_1_n_n none (truncf .bf16 (topP q k m) bitsLt_bf16_f32)
      (extractStridedSlice S256x128 ![0, 0] v slices_S512x128_o0_0_S256x128) (constant S256x128 .f32 0x00000000#32)) shapeCasts_S256x128_S1x256x128)
    (shapeCast S1x256x128 (matmul dot_S256x512_S512x128_S256x128_1_0_0_1_n_n none (truncf .bf16 (botP q k m) bitsLt_bf16_f32)
      v (constant S256x128 .f32 0x00000000#32)) shapeCasts_S256x128_S1x256x128)

/-- The weighted values after one more block of keys. -/
def accStep (q : FVec F S512x128 .bf16) (m : FVec F S1x512x128 .f32) (a : FVec F S1x512x128 .f32) (k v : FVec F S512x128 .bf16) : FVec F S1x512x128 .f32 :=
  shapeCast S1x512x128 (addf (shapeCast S512x128 a shapeCasts_S1x512x128_S512x128)
    (matmul dot_S512x512_S512x128_S512x128_1_0_0_1_n_n none (truncf .bf16 (offP q k m) bitsLt_bf16_f32) v (constant S512x128 .f32 0x00000000#32)))
    shapeCasts_S512x128_S1x512x128

/-- The row maxima of one head over a list of earlier blocks. -/
def mx (q k : FVec F S512x128 .bf16) (L : List (FVec F S512x128 .bf16 × FVec F S512x128 .bf16)) : FVec F S1x512x128 .f32 :=
  rowMax (L.foldl (fun st p => maxStep q st p.1) (max0 q k))

/-- One head's result before the division by the sums, and the sums. -/
def num (q k v : FVec F S512x128 .bf16) (L : List (FVec F S512x128 .bf16 × FVec F S512x128 .bf16)) : FVec F S1x512x128 .f32 :=
  L.foldl (fun a p => accStep q (mx q k L) a p.1 p.2) (acc0 q k v (mx q k L))

@[inherit_doc num]
def den (q k : FVec F S512x128 .bf16) (L : List (FVec F S512x128 .bf16 × FVec F S512x128 .bf16)) : FVec F S1x512x128 .f32 :=
  L.foldl (fun st p => sumStep q (mx q k L) st p.1) (sum0 q k (mx q k L))

/-- One head's weighted mean. -/
def mean (a st : FVec F S1x512x128 .f32) : FVec F S512x128 .f32 :=
  divf (shapeCast S512x128 a shapeCasts_S1x512x128_S512x128) (broadcastTo S512x128 (shapeCast S512x1
    (multiReduction .add [1] S512 (shapeCast S512x128 st shapeCasts_S1x512x128_S512x128) 0x00000000#32 reduces_S512x128_S512 (.inl rfl) rfl)
    shapeCasts_S512_S512x1) broadcasts_S512x1_S512x128)

/-- The difference of the two heads. -/
def diff (x y : FVec F S512x128 .f32) (lam : FVec F S1x1 .f32) : FVec F S512x128 .f32 :=
  subf x (mulf (broadcastTo S512x128 lam broadcasts_S1x1_S512x128) y)

/-- The norm of a head's result. -/
def normed (o : FVec F S512x128 .f32) (w : FVec F S1x128 .f32) : FVec F S512x128 .bf16 :=
  truncf .bf16 (mulf (mulf (mulf o (broadcastTo S512x128 (rsqrt (addf (divf (shapeCast S512x1
      (multiReduction .add [1] S512 (mulf o o) 0x00000000#32 reduces_S512x128_S512 (.inl rfl) rfl) shapeCasts_S512_S512x1)
      (broadcast S512x1 (FloatOps.ofBits (F := F) .f32 1124073472#32))) (broadcast S512x1 (FloatOps.ofBits (F := F) .f32 925353388#32))))
      broadcasts_S512x1_S512x128)) (broadcastTo S512x128 w broadcasts_S1x128_S512x128))
    (broadcast S512x128 (FloatOps.ofBits (F := F) .f32 1061997773#32))) bitsLt_bf16_f32

/-- What the body stores for a block of queries. -/
def block (q0 q1 : FVec F S1x512x128 .bf16) (k v : FVec F S512x128 .bf16) (L : List (FVec F S512x128 .bf16 × FVec F S512x128 .bf16))
    (lam : FVec F S1x1 .f32) (w : FVec F S1x128 .f32) : FVec F S1x512x128 .bf16 :=
  let q0 : FVec F S512x128 .bf16 := shapeCast S512x128 q0 shapeCasts_S1x512x128_S512x128
  let q1 : FVec F S512x128 .bf16 := shapeCast S512x128 q1 shapeCasts_S1x512x128_S512x128
  shapeCast S1x512x128 (normed (diff (mean (num q0 k v L) (den q0 k L)) (mean (num q1 k v L) (den q1 k L)) lam) w) shapeCasts_S512x128_S1x512x128

end Cert.AttnIdeal.Tile
-- ==== Proof.Attn.Run.lean ====
/-
  THE STORES OF THE ATTENTION'S BODY. The body keeps everything between its steps in scratch. Here each load of scratch is
  resolved to the store that it reads, so that each of the four stores of the result is `block` of its rotated queries and keys.
-/
module

public import proofs.«01_k».proof.Proof.Attn.Tile

@[expose] public section

set_option maxRecDepth 16384

noncomputable section

namespace Cert.AttnIdeal.Tile

open Cert.AttnIdeal Cert.AttnIdeal.Gen Cert.AttnIdeal.Gen.kernelRun0_A Cert.AttnIdeal.Gen.kernelRun0_A.sl Idealize.ShloMosaic

section Loads

variable {sig : RefSig} {κ : Kind} {sp : Space} {s : Shape} {e : EltTy} {Val : EltTy → Type} [∀ e, Nonempty (Val e)]

/-- A load passes over a store whose box is apart from it. -/
theorem readCov_skip' (v : View sig κ sp s e) {o z o' z' : Fin s.rank → ℕ} (inb : ∀ a, o a + z a ≤ s.size a)
    (inb' : ∀ a, o' a + z' a ≤ s.size a) (w : (Rect.unit o z inb).shape.Idx → Val e) (L : List (View.Piece Val s e))
    (h : ∃ a, o a + z a ≤ o' a ∨ o' a + z' a ≤ o a) :
    v.readCov ((⟨Rect.unit o z inb, w⟩ : View.Piece Val s e) :: L) (Rect.unit o' z' inb').toLoadRect
      = v.readCov L (Rect.unit o' z' inb').toLoadRect := by
  obtain ⟨a, h⟩ := h
  rw [View.readCov_eq_canon', View.readCov_eq_canon']
  funext j
  refine View.canon_cons_of_not_mem _ _ fun hm => ?_
  have hm := (Rect.mem_set_unit (inb := inb)).mp hm a
  have e : ((Rect.unit o' z' inb').toLoadRect.idx j a).val = o' a + 1 * (j a).val := rfl
  have hj : (j a).val < z' a := (j a).isLt
  omega

/-- A load inside the newest store's box, `d` away from its corner. -/
theorem readCov_box (v : View sig κ sp s e) (d : Fin s.rank → ℕ) {o z o' z' : Fin s.rank → ℕ} (inb : ∀ a, o a + z a ≤ s.size a)
    (inb' : ∀ a, o' a + z' a ≤ s.size a) (w : (Rect.unit o z inb).shape.Idx → Val e) (L : List (View.Piece Val s e))
    (h : ∀ a, o' a = o a + d a) (h' : ∀ a, d a + z' a ≤ z a) :
    v.readCov ((⟨Rect.unit o z inb, w⟩ : View.Piece Val s e) :: L) (Rect.unit o' z' inb').toLoadRect = sub (size := z) (size' := z') d w h' := by
  rw [View.readCov_eq_canon']
  funext j
  have e : (Rect.unit o' z' inb').toLoadRect.idx j = (Rect.unit o z inb).emb
      (fun a => ⟨d a + (j a).val, lt_of_lt_of_le (Nat.add_lt_add_left (j a).isLt _) (h' a)⟩) := by
    funext a
    refine Fin.ext ?_
    show o' a + 1 * (j a).val = o a + 1 * (d a + (j a).val)
    rw [h a]; ring
  rw [e]
  exact View.canon_cons_emb _ w L _

end Loads

section Loads3

variable {sig : RefSig} {κ : Kind} {sp : Space} {Val : EltTy → Type} [∀ e, Nonempty (Val e)] {e : EltTy}

/-- `readCov_box` at the corner, and 128, 256, 384 columns away from it. -/
theorem readCov_box_0 (v : View sig κ sp S2x512x512 e) {o z o' z' : Fin 3 → ℕ} (inb : ∀ a, o a + z a ≤ S2x512x512.size a)
    (inb' : ∀ a, o' a + z' a ≤ S2x512x512.size a) (w : (Rect.unit (s := S2x512x512) o z inb).shape.Idx → Val e) (L : List (View.Piece Val S2x512x512 e))
    (h : ∀ a, o' a = o a + (![0, 0, 0] : Fin 3 → ℕ) a) (h' : ∀ a, (![0, 0, 0] : Fin 3 → ℕ) a + z' a ≤ z a) :
    v.readCov ((⟨Rect.unit (s := S2x512x512) o z inb, w⟩ : View.Piece Val S2x512x512 e) :: L) (Rect.unit (s := S2x512x512) o' z' inb').toLoadRect = sub (size := z) (size' := z') ![0, 0, 0] w h' :=
  readCov_box v ![0, 0, 0] inb inb' w L h h'

@[inherit_doc readCov_box_0]
theorem readCov_box_128 (v : View sig κ sp S2x512x512 e) {o z o' z' : Fin 3 → ℕ} (inb : ∀ a, o a + z a ≤ S2x512x512.size a)
    (inb' : ∀ a, o' a + z' a ≤ S2x512x512.size a) (w : (Rect.unit (s := S2x512x512) o z inb).shape.Idx → Val e) (L : List (View.Piece Val S2x512x512 e))
    (h : ∀ a, o' a = o a + (![0, 0, 128] : Fin 3 → ℕ) a) (h' : ∀ a, (![0, 0, 128] : Fin 3 → ℕ) a + z' a ≤ z a) :
    v.readCov ((⟨Rect.unit (s := S2x512x512) o z inb, w⟩ : View.Piece Val S2x512x512 e) :: L) (Rect.unit (s := S2x512x512) o' z' inb').toLoadRect = sub (size := z) (size' := z') ![0, 0, 128] w h' :=
  readCov_box v ![0, 0, 128] inb inb' w L h h'

@[inherit_doc readCov_box_0]
theorem readCov_box_256 (v : View sig κ sp S2x512x512 e) {o z o' z' : Fin 3 → ℕ} (inb : ∀ a, o a + z a ≤ S2x512x512.size a)
    (inb' : ∀ a, o' a + z' a ≤ S2x512x512.size a) (w : (Rect.unit (s := S2x512x512) o z inb).shape.Idx → Val e) (L : List (View.Piece Val S2x512x512 e))
    (h : ∀ a, o' a = o a + (![0, 0, 256] : Fin 3 → ℕ) a) (h' : ∀ a, (![0, 0, 256] : Fin 3 → ℕ) a + z' a ≤ z a) :
    v.readCov ((⟨Rect.unit (s := S2x512x512) o z inb, w⟩ : View.Piece Val S2x512x512 e) :: L) (Rect.unit (s := S2x512x512) o' z' inb').toLoadRect = sub (size := z) (size' := z') ![0, 0, 256] w h' :=
  readCov_box v ![0, 0, 256] inb inb' w L h h'

@[inherit_doc readCov_box_0]
theorem readCov_box_384 (v : View sig κ sp S2x512x512 e) {o z o' z' : Fin 3 → ℕ} (inb : ∀ a, o a + z a ≤ S2x512x512.size a)
    (inb' : ∀ a, o' a + z' a ≤ S2x512x512.size a) (w : (Rect.unit (s := S2x512x512) o z inb).shape.Idx → Val e) (L : List (View.Piece Val S2x512x512 e))
    (h : ∀ a, o' a = o a + (![0, 0, 384] : Fin 3 → ℕ) a) (h' : ∀ a, (![0, 0, 384] : Fin 3 → ℕ) a + z' a ≤ z a) :
    v.readCov ((⟨Rect.unit (s := S2x512x512) o z inb, w⟩ : View.Piece Val S2x512x512 e) :: L) (Rect.unit (s := S2x512x512) o' z' inb').toLoadRect = sub (size := z) (size' := z') ![0, 0, 384] w h' :=
  readCov_box v ![0, 0, 384] inb inb' w L h h'

end Loads3

section Join

variable {F : FTy → Type} [FloatOps F] {sig : RefSig} {κ : Kind} {sp : Space}

/-- A load of 512 rows whose halves were stored one after the other. -/
theorem readCov_join {n : ℕ} (v : View sig κ sp ⟨3, ![n, 512, 128]⟩ .f32) (h : ℕ)
    (i1 : ∀ a, (![h, 256, 0] : Fin 3 → ℕ) a + S1x256x128.size a ≤ (![n, 512, 128] : Fin 3 → ℕ) a)
    (i0 : ∀ a, (![h, 0, 0] : Fin 3 → ℕ) a + S1x256x128.size a ≤ (![n, 512, 128] : Fin 3 → ℕ) a)
    (i : ∀ a, (![h, 0, 0] : Fin 3 → ℕ) a + S1x512x128.size a ≤ (![n, 512, 128] : Fin 3 → ℕ) a)
    (y x : FVec F S1x256x128 .f32) (L : List (View.Piece (Elt F) ⟨3, ![n, 512, 128]⟩ .f32)) :
    v.readCov ((⟨Rect.unit (s := ⟨3, ![n, 512, 128]⟩) ![h, 256, 0] S1x256x128.size i1, y⟩ : View.Piece (Elt F) ⟨3, ![n, 512, 128]⟩ .f32) ::
      (⟨Rect.unit (s := ⟨3, ![n, 512, 128]⟩) ![h, 0, 0] S1x256x128.size i0, x⟩ : View.Piece (Elt F) ⟨3, ![n, 512, 128]⟩ .f32) :: L)
        (Rect.unit (s := ⟨3, ![n, 512, 128]⟩) ![h, 0, 0] S1x512x128.size i).toLoadRect = join x y := by
  rw [View.readCov_eq_canon']
  funext j
  have h0 : (j 0).val < 1 := (j 0).isLt
  have h1 : (j 1).val < 512 := (j 1).isLt
  have h2 : (j 2).val < 128 := (j 2).isLt
  unfold join
  by_cases hj : (j 1).val < 256
  · rw [dif_pos hj, View.canon_cons_of_not_mem]
    · have e : (Rect.unit (s := ⟨3, ![n, 512, 128]⟩) ![h, 0, 0] S1x512x128.size i).toLoadRect.idx j
          = (Rect.unit (s := ⟨3, ![n, 512, 128]⟩) ![h, 0, 0] S1x256x128.size i0).emb (ix3 (0 : Fin 1) (⟨(j 1).val, hj⟩ : Fin 256) (j 2 : Fin 128)) := by
        funext a
        refine Fin.ext ?_
        fin_cases a
        · show h + 1 * (j 0).val = h + 1 * 0
          omega
        · rfl
        · rfl
      rw [e]
      exact View.canon_cons_emb (Val := Elt F) (e := .f32) (Rect.unit (s := ⟨3, ![n, 512, 128]⟩) ![h, 0, 0] S1x256x128.size i0) x L _
    · intro hm
      have := ((Rect.mem_set_unit (s := ⟨3, ![n, 512, 128]⟩) (inb := i1)).mp hm 1).1
      have e : ((Rect.unit (s := ⟨3, ![n, 512, 128]⟩) ![h, 0, 0] S1x512x128.size i).toLoadRect.idx j 1).val = 0 + 1 * (j 1).val := rfl
      have e2 : (![h, 256, 0] : Fin 3 → ℕ) 1 = 256 := rfl
      omega
  · rw [dif_neg hj]
    have e : (Rect.unit (s := ⟨3, ![n, 512, 128]⟩) ![h, 0, 0] S1x512x128.size i).toLoadRect.idx j
        = (Rect.unit (s := ⟨3, ![n, 512, 128]⟩) ![h, 256, 0] S1x256x128.size i1).emb
          (ix3 (0 : Fin 1) (⟨(j 1).val - 256, by omega⟩ : Fin 256) (j 2 : Fin 128)) := by
      funext a
      refine Fin.ext ?_
      fin_cases a
      · show h + 1 * (j 0).val = h + 1 * 0
        omega
      · show 0 + 1 * (j 1).val = 256 + 1 * ((j 1).val - 256)
        omega
      · rfl
    rw [e]
    exact View.canon_cons_emb (Val := Elt F) (e := .f32) (Rect.unit (s := ⟨3, ![n, 512, 128]⟩) ![h, 256, 0] S1x256x128.size i1) y _ _

/-- `readCov_join` for the scratch of the maxima and sums, and for that of the weighted values. -/
theorem readCov_join4 (v : View sig κ sp S4x512x128 .f32) (h : ℕ)
    (i1 : ∀ a, (![h, 256, 0] : Fin 3 → ℕ) a + S1x256x128.size a ≤ S4x512x128.size a)
    (i0 : ∀ a, (![h, 0, 0] : Fin 3 → ℕ) a + S1x256x128.size a ≤ S4x512x128.size a)
    (i : ∀ a, (![h, 0, 0] : Fin 3 → ℕ) a + S1x512x128.size a ≤ S4x512x128.size a)
    (y x : FVec F S1x256x128 .f32) (L : List (View.Piece (Elt F) S4x512x128 .f32)) :
    v.readCov ((⟨Rect.unit (s := S4x512x128) ![h, 256, 0] S1x256x128.size i1, y⟩ : View.Piece (Elt F) S4x512x128 .f32) ::
      (⟨Rect.unit (s := S4x512x128) ![h, 0, 0] S1x256x128.size i0, x⟩ : View.Piece (Elt F) S4x512x128 .f32) :: L)
        (Rect.unit (s := S4x512x128) ![h, 0, 0] S1x512x128.size i).toLoadRect = join x y :=
  readCov_join v h i1 i0 i y x L

@[inherit_doc readCov_join4]
theorem readCov_join2 (v : View sig κ sp S2x512x128 .f32) (h : ℕ)
    (i1 : ∀ a, (![h, 256, 0] : Fin 3 → ℕ) a + S1x256x128.size a ≤ S2x512x128.size a)
    (i0 : ∀ a, (![h, 0, 0] : Fin 3 → ℕ) a + S1x256x128.size a ≤ S2x512x128.size a)
    (i : ∀ a, (![h, 0, 0] : Fin 3 → ℕ) a + S1x512x128.size a ≤ S2x512x128.size a)
    (y x : FVec F S1x256x128 .f32) (L : List (View.Piece (Elt F) S2x512x128 .f32)) :
    v.readCov ((⟨Rect.unit (s := S2x512x128) ![h, 256, 0] S1x256x128.size i1, y⟩ : View.Piece (Elt F) S2x512x128 .f32) ::
      (⟨Rect.unit (s := S2x512x128) ![h, 0, 0] S1x256x128.size i0, x⟩ : View.Piece (Elt F) S2x512x128 .f32) :: L)
        (Rect.unit (s := S2x512x128) ![h, 0, 0] S1x512x128.size i).toLoadRect = join x y :=
  readCov_join v h i1 i0 i y x L

end Join

variable {F : FTy → Type} [FloatOps F] [Named F]
variable (c : Dev nD) (a2 : Memref sig .tc .vmem S1x2048x128 .bf16) (g2 : a2.IsWhole) (a3 : Memref sig .tc .vmem S1x2048x128 .bf16) (g3 : a3.IsWhole) (a4 : Memref sig .tc .vmem S1x2048x128 .bf16) (g4 : a4.IsWhole) (a5 : Memref sig .tc .vmem S2048x128 .f32) (g5 : a5.IsWhole) (a6 : Memref sig .tc .vmem S2048x128 .f32) (g6 : a6.IsWhole) (a7 : Memref sig .tc .vmem S1x128 .f32) (g7 : a7.IsWhole) (a8 : Memref sig .tc .vmem S1x128 .f32) (g8 : a8.IsWhole) (a9 : Memref sig .tc .vmem S1x64 .f32) (g9 : a9.IsWhole) (a10 : Memref sig .tc .vmem S1x64 .f32) (g10 : a10.IsWhole) (a11 : Memref sig .tc .vmem S1x64 .f32) (g11 : a11.IsWhole) (a12 : Memref sig .tc .vmem S1x64 .f32) (g12 : a12.IsWhole) (a13 : Memref sig .tc .vmem S1x128 .f32) (g13 : a13.IsWhole) (a14 : Memref sig .tc .vmem S1x2048x128 .bf16) (a15 : Memref sig .tc .vmem S2048x128 .bf16) (a16 : Memref sig .tc .vmem S2x2048x128 .bf16) (a17 : Memref sig .tc .vmem S2x3x512x512 .f32) (a18 : Memref sig .tc .vmem S2x512x512 .f32) (a19 : Memref sig .tc .vmem S4x512x128 .f32) (a20 : Memref sig .tc .vmem S2x512x128 .f32)
    (x0 : Vec F S1x2048x128 .bf16) (x1 : Vec F S1x2048x128 .bf16) (x2 : Vec F S1x2048x128 .bf16) (x3 : Vec F S2048x128 .f32) (x4 : Vec F S2048x128 .f32) (x5 : Vec F S1x128 .f32) (x6 : Vec F S1x128 .f32) (x7 : Vec F S1x64 .f32) (x8 : Vec F S1x64 .f32) (x9 : Vec F S1x64 .f32) (x10 : Vec F S1x64 .f32) (x11 : Vec F S1x128 .f32)

/-- The store of query block 0. -/
theorem store0 :
    v579 c a2 g2 a3 g3 a4 g4 a5 g5 a6 g6 a7 g7 a8 g8 a9 g9 a10 g10 a11 g11 a12 g12 a13 g13 a15 a16 a18 a19 a20 x0 x1 x2 x3 x4 x5 x6 x7 x8 x9 x10 x11
      = block (v333 c a2 g2 a5 g5 a6 g6 a7 g7 a16 x0 x3 x4 x5) (v366 c a2 g2 a5 g5 a6 g6 a7 g7 a16 x0 x3 x4 x5)
          (v332 c a3 g3 a5 g5 a6 g6 a8 g8 a15 x1 x3 x4 x6) (v418 c a4 g4 x2) []
          (v323 c a9 g9 a10 g10 a11 g11 a12 g12 x7 x8 x9 x10) (v571 c a13 g13 x11) := by
  simp -proj (disch := decide) only [HS3_4, HS4_4, HS4_5, HS4_6, HS4_7, HS4_8, HS4_9, HS4_10, HS5_4, cst_113, cst_114, cst_115, cst_187, cst_245,
    cst_246, cst_249, v324, v325, v327, v328, v330, v331, v334, v335, v336, v337, v338, v339, v340, v341,
    v342, v343, v346, v349, v350, v351, v352, v355, v356, v357, v358, v359, v360, v361, v362, v365,
    v367, v368, v370, v372, v373, v374, v376, v379, v382, v383, v384, v385, v388, v389, v390, v391,
    v392, v393, v394, v395, v398, v399, v400, v401, v402, v403, v404, v407, v408, v409, v410, v411,
    v412, v413, v416, v419, v420, v421, v422, v423, v424, v425, v426, v427, v429, v430, v431, v432,
    v433, v434, v435, v436, v437, v438, v440, v441, v442, v443, v445, v446, v447, v448, v450, v451,
    v452, v453, v454, v455, v458, v459, v460, v461, v462, v463, v464, v465, v468, v469, v470, v471,
    v474, v475, v476, v479, v480, v481, v482, v483, v484, v485, v486, v487, v488, v490, v491, v492,
    v493, v494, v495, v496, v497, v498, v499, v501, v502, v503, v504, v506, v507, v508, v509, v511,
    v512, v513, v514, v515, v516, v519, v520, v521, v522, v523, v524, v525, v526, v529, v530, v532,
    v535, v536, v537, v540, v541, v542, v543, v544, v545, v546, v547, v548, v549, v550, v551, v552,
    v553, v554, v555, v556, v557, v558, v559, v560, v561, v562, v563, v564, v565, v566, v567, v568,
    v569, v572, v573, v574, v575, v576, v579,
    readCov_skip', View.readCov_cons_toLoadRect, readCov_box_0, readCov_box_128, readCov_box_256, readCov_box_384, readCov_join4, readCov_join2, cat2_eq, cat4_eq, cat512_eq,
    block, normed, diff, mean, den, num, mx, accStep, acc0, sumStep, sum0, offP, botP, topP, botW, topW, rowMax, maxStep, max0, fold2, fold4, fold512, off, bot, top,
    List.foldl_cons, List.foldl_nil]

/-- The store of query block 1. -/
theorem store1 :
    v954 c a2 g2 a3 g3 a4 g4 a5 g5 a6 g6 a7 g7 a8 g8 a9 g9 a10 g10 a11 g11 a12 g12 a13 g13 a15 a16 a17 a18 a19 a20 x0 x1 x2 x3 x4 x5 x6 x7 x8 x9 x10 x11
      = block (v581 c a2 g2 a5 g5 a6 g6 a7 g7 a16 x0 x3 x4 x5) (v614 c a2 g2 a5 g5 a6 g6 a7 g7 a16 x0 x3 x4 x5)
          (v580 c a3 g3 a5 g5 a6 g6 a8 g8 a15 x1 x3 x4 x6) (v710 c a4 g4 x2) [((v650 c a3 g3 a5 g5 a6 g6 a8 g8 a15 x1 x3 x4 x6), (v837 c a4 g4 x2))]
          (v323 c a9 g9 a10 g10 a11 g11 a12 g12 x7 x8 x9 x10) (v571 c a13 g13 x11) := by
  simp -proj (disch := decide) only [HS2_2, HS3_4, HS3_5, HS3_6, HS3_7, HS3_8, HS4_4, HS4_5, HS4_6, HS4_7, HS4_8, HS4_9, HS4_10, HS4_11,
    HS4_12, HS4_13, HS4_14, HS4_15, HS4_16, HS4_17, HS4_18, HS4_19, HS4_20, HS4_21, HS4_22, HS4_23, HS4_24,
    HS5_4, HS5_5, HS5_6, HS5_7, HS5_8, HS5_9, HS5_10, cst_113, cst_114, cst_115, cst_187, cst_245, cst_246,
    cst_249, cst_297, cst_427, v324, v325, v327, v328, v330, v331, v334, v335, v336, v337, v338, v339,
    v340, v341, v342, v343, v346, v349, v350, v351, v352, v355, v356, v357, v358, v359, v360, v361,
    v362, v365, v367, v368, v370, v372, v373, v374, v376, v379, v382, v383, v384, v385, v388, v389,
    v390, v391, v392, v393, v394, v395, v398, v399, v400, v401, v402, v403, v404, v407, v408, v409,
    v410, v411, v412, v413, v416, v419, v420, v421, v422, v423, v424, v425, v426, v427, v429, v430,
    v431, v432, v433, v434, v435, v436, v437, v438, v440, v441, v442, v443, v445, v446, v447, v448,
    v450, v451, v452, v453, v454, v455, v458, v459, v460, v461, v462, v463, v464, v465, v468, v469,
    v470, v471, v474, v475, v476, v479, v480, v481, v482, v483, v484, v485, v486, v487, v488, v490,
    v491, v492, v493, v494, v495, v496, v497, v498, v499, v501, v502, v503, v504, v506, v507, v508,
    v509, v511, v512, v513, v514, v515, v516, v519, v520, v521, v522, v523, v524, v525, v526, v529,
    v530, v532, v535, v536, v537, v540, v557, v563, v565, v572, v574, v582, v583, v584, v585, v587,
    v588, v589, v591, v594, v597, v598, v599, v600, v603, v604, v605, v606, v607, v608, v609, v610,
    v613, v615, v616, v618, v620, v621, v622, v624, v627, v630, v631, v632, v633, v636, v637, v638,
    v639, v640, v641, v642, v643, v646, v653, v657, v658, v659, v660, v661, v662, v663, v664, v665,
    v666, v667, v670, v673, v677, v678, v679, v680, v681, v682, v683, v684, v685, v686, v687, v690,
    v691, v692, v693, v694, v695, v696, v699, v700, v701, v702, v703, v704, v705, v708, v711, v712,
    v713, v714, v715, v716, v717, v718, v719, v721, v722, v723, v724, v725, v726, v727, v728, v729,
    v730, v732, v733, v734, v735, v737, v738, v739, v740, v742, v743, v744, v745, v746, v747, v750,
    v751, v752, v753, v754, v755, v756, v757, v760, v761, v762, v763, v766, v767, v768, v771, v772,
    v773, v774, v775, v776, v777, v778, v779, v780, v782, v783, v784, v785, v786, v787, v788, v789,
    v790, v791, v793, v794, v795, v796, v798, v799, v800, v801, v803, v804, v805, v806, v807, v808,
    v811, v812, v813, v814, v815, v816, v817, v818, v821, v822, v824, v827, v828, v829, v832, v838,
    v839, v841, v842, v843, v844, v845, v846, v847, v848, v849, v850, v851, v852, v853, v854, v855,
    v856, v857, v858, v859, v860, v861, v862, v863, v864, v865, v868, v869, v870, v871, v872, v873,
    v876, v877, v878, v880, v881, v882, v883, v884, v885, v886, v887, v888, v889, v890, v891, v892,
    v893, v894, v895, v896, v897, v898, v899, v900, v901, v902, v903, v904, v907, v908, v909, v910,
    v911, v912, v915, v916, v917, v918, v919, v920, v921, v922, v923, v924, v925, v926, v927, v928,
    v929, v930, v931, v933, v934, v935, v936, v937, v939, v941, v942, v943, v944, v948, v950, v951,
    v954,
    readCov_skip', View.readCov_cons_toLoadRect, readCov_box_0, readCov_box_128, readCov_box_256, readCov_box_384, readCov_join4, readCov_join2, cat2_eq, cat4_eq, cat512_eq,
    block, normed, diff, mean, den, num, mx, accStep, acc0, sumStep, sum0, offP, botP, topP, botW, topW, rowMax, maxStep, max0, fold2, fold4, fold512, off, bot, top,
    List.foldl_cons, List.foldl_nil]

/-- The store of query block 2. -/
theorem store2 :
    v1456 c a2 g2 a3 g3 a4 g4 a5 g5 a6 g6 a7 g7 a8 g8 a9 g9 a10 g10 a11 g11 a12 g12 a13 g13 a15 a16 a17 a18 a19 a20 x0 x1 x2 x3 x4 x5 x6 x7 x8 x9 x10 x11
      = block (v956 c a2 g2 a5 g5 a6 g6 a7 g7 a16 x0 x3 x4 x5) (v989 c a2 g2 a5 g5 a6 g6 a7 g7 a16 x0 x3 x4 x5)
          (v955 c a3 g3 a5 g5 a6 g6 a8 g8 a15 x1 x3 x4 x6) (v1129 c a4 g4 x2) [((v650 c a3 g3 a5 g5 a6 g6 a8 g8 a15 x1 x3 x4 x6), (v837 c a4 g4 x2)), ((v1069 c a3 g3 a5 g5 a6 g6 a8 g8 a15 x1 x3 x4 x6), (v1339 c a4 g4 x2))]
          (v323 c a9 g9 a10 g10 a11 g11 a12 g12 x7 x8 x9 x10) (v571 c a13 g13 x11) := by
  simp -proj (disch := decide) only [HS2_2, HS2_3, HS2_6, HS3_4, HS3_5, HS3_6, HS3_7, HS3_8, HS3_9, HS3_10, HS3_11, HS3_12, HS4_4, HS4_5,
    HS4_6, HS4_7, HS4_8, HS4_9, HS4_10, HS4_11, HS4_12, HS4_13, HS4_14, HS4_15, HS4_16, HS4_17, HS4_18, HS4_19,
    HS4_20, HS4_21, HS4_22, HS4_23, HS4_24, HS4_25, HS4_26, HS4_27, HS4_28, HS4_29, HS4_30, HS4_31, HS4_32,
    HS4_33, HS4_34, HS4_35, HS4_36, HS4_37, HS4_38, HS4_39, HS4_40, HS4_41, HS4_42, HS5_4, HS5_5, HS5_6, HS5_7,
    HS5_8, HS5_9, HS5_10, HS5_11, HS5_12, HS5_13, HS5_14, HS5_15, HS5_16, HS5_17, HS5_18, cst_113, cst_114,
    cst_115, cst_187, cst_245, cst_246, cst_249, cst_297, cst_427, v324, v325, v327, v328, v330, v331, v334,
    v335, v336, v337, v338, v339, v340, v341, v342, v343, v346, v349, v350, v351, v352, v355, v356,
    v357, v358, v359, v360, v361, v362, v365, v367, v368, v370, v372, v373, v374, v376, v379, v382,
    v383, v384, v385, v388, v389, v390, v391, v392, v393, v394, v395, v398, v399, v400, v401, v402,
    v403, v404, v407, v408, v409, v410, v411, v412, v413, v416, v419, v420, v421, v422, v423, v424,
    v425, v426, v427, v429, v430, v431, v432, v433, v434, v435, v436, v437, v438, v440, v441, v442,
    v443, v445, v446, v447, v448, v450, v451, v452, v453, v454, v455, v458, v459, v460, v461, v462,
    v463, v464, v465, v468, v469, v470, v471, v474, v475, v476, v479, v480, v481, v482, v483, v484,
    v485, v486, v487, v488, v490, v491, v492, v493, v494, v495, v496, v497, v498, v499, v501, v502,
    v503, v504, v506, v507, v508, v509, v511, v512, v513, v514, v515, v516, v519, v520, v521, v522,
    v523, v524, v525, v526, v529, v530, v532, v535, v536, v537, v540, v557, v563, v565, v572, v574,
    v582, v583, v584, v585, v587, v588, v589, v591, v594, v597, v598, v599, v600, v603, v604, v605,
    v606, v607, v608, v609, v610, v613, v615, v616, v618, v620, v621, v622, v624, v627, v630, v631,
    v632, v633, v636, v637, v638, v639, v640, v641, v642, v643, v646, v653, v657, v658, v659, v660,
    v661, v662, v663, v664, v665, v666, v667, v670, v673, v677, v678, v679, v680, v681, v682, v683,
    v684, v685, v686, v687, v690, v691, v692, v693, v694, v695, v696, v699, v700, v701, v702, v703,
    v704, v705, v708, v711, v712, v713, v714, v715, v716, v717, v718, v719, v721, v722, v723, v724,
    v725, v726, v727, v728, v729, v730, v732, v733, v734, v735, v737, v738, v739, v740, v742, v743,
    v744, v745, v746, v747, v750, v751, v752, v753, v754, v755, v756, v757, v760, v761, v762, v763,
    v766, v767, v768, v771, v772, v773, v774, v775, v776, v777, v778, v779, v780, v782, v783, v784,
    v785, v786, v787, v788, v789, v790, v791, v793, v794, v795, v796, v798, v799, v800, v801, v803,
    v804, v805, v806, v807, v808, v811, v812, v813, v814, v815, v816, v817, v818, v821, v822, v824,
    v827, v828, v829, v832, v838, v839, v841, v842, v843, v844, v845, v846, v847, v848, v849, v850,
    v851, v852, v853, v854, v855, v856, v857, v858, v859, v860, v861, v862, v863, v864, v865, v868,
    v869, v870, v871, v872, v873, v876, v877, v878, v880, v881, v882, v883, v884, v885, v886, v887,
    v888, v889, v890, v891, v892, v893, v894, v895, v896, v897, v898, v899, v900, v901, v902, v903,
    v904, v907, v908, v909, v910, v911, v912, v915, v957, v958, v959, v960, v962, v963, v964, v966,
    v969, v972, v973, v974, v975, v978, v979, v980, v981, v982, v983, v984, v985, v988, v990, v991,
    v993, v995, v996, v997, v999, v1002, v1005, v1006, v1007, v1008, v1011, v1012, v1013, v1014, v1015,
    v1016, v1017, v1018, v1021, v1028, v1032, v1033, v1034, v1035, v1036, v1037, v1038, v1039, v1040, v1041,
    v1042, v1045, v1048, v1052, v1053, v1054, v1055, v1056, v1057, v1058, v1059, v1060, v1061, v1062, v1065,
    v1072, v1076, v1077, v1078, v1079, v1080, v1081, v1082, v1083, v1084, v1085, v1086, v1089, v1092, v1096,
    v1097, v1098, v1099, v1100, v1101, v1102, v1103, v1104, v1105, v1106, v1109, v1110, v1111, v1112, v1113,
    v1114, v1115, v1118, v1119, v1120, v1121, v1122, v1123, v1124, v1127, v1130, v1131, v1132, v1133, v1134,
    v1135, v1136, v1137, v1138, v1140, v1141, v1142, v1143, v1144, v1145, v1146, v1147, v1148, v1149, v1151,
    v1152, v1153, v1154, v1156, v1157, v1158, v1159, v1161, v1162, v1163, v1164, v1165, v1166, v1169, v1170,
    v1171, v1172, v1173, v1174, v1175, v1176, v1179, v1180, v1181, v1182, v1185, v1186, v1187, v1190, v1191,
    v1192, v1193, v1194, v1195, v1196, v1197, v1198, v1199, v1201, v1202, v1203, v1204, v1205, v1206, v1207,
    v1208, v1209, v1210, v1212, v1213, v1214, v1215, v1217, v1218, v1219, v1220, v1222, v1223, v1224, v1225,
    v1226, v1227, v1230, v1231, v1232, v1233, v1234, v1235, v1236, v1237, v1240, v1241, v1243, v1246, v1247,
    v1248, v1251, v1257, v1258, v1260, v1261, v1262, v1263, v1264, v1265, v1266, v1267, v1268, v1269, v1270,
    v1271, v1272, v1273, v1274, v1275, v1276, v1277, v1278, v1279, v1280, v1281, v1282, v1283, v1284, v1287,
    v1288, v1289, v1290, v1291, v1292, v1295, v1296, v1297, v1299, v1300, v1301, v1302, v1303, v1304, v1305,
    v1306, v1307, v1308, v1309, v1310, v1311, v1312, v1313, v1314, v1315, v1316, v1317, v1318, v1319, v1320,
    v1321, v1322, v1323, v1326, v1327, v1328, v1329, v1330, v1331, v1334, v1340, v1341, v1343, v1344, v1345,
    v1346, v1347, v1348, v1349, v1350, v1351, v1352, v1353, v1354, v1355, v1356, v1357, v1358, v1359, v1360,
    v1361, v1362, v1363, v1364, v1365, v1366, v1367, v1370, v1371, v1372, v1373, v1374, v1375, v1378, v1379,
    v1380, v1382, v1383, v1384, v1385, v1386, v1387, v1388, v1389, v1390, v1391, v1392, v1393, v1394, v1395,
    v1396, v1397, v1398, v1399, v1400, v1401, v1402, v1403, v1404, v1405, v1406, v1409, v1410, v1411, v1412,
    v1413, v1414, v1417, v1418, v1419, v1420, v1421, v1422, v1423, v1424, v1425, v1426, v1427, v1428, v1429,
    v1430, v1431, v1432, v1433, v1435, v1436, v1437, v1438, v1439, v1441, v1443, v1444, v1445, v1446, v1450,
    v1452, v1453, v1456,
    readCov_skip', View.readCov_cons_toLoadRect, readCov_box_0, readCov_box_128, readCov_box_256, readCov_box_384, readCov_join4, readCov_join2, cat2_eq, cat4_eq, cat512_eq,
    block, normed, diff, mean, den, num, mx, accStep, acc0, sumStep, sum0, offP, botP, topP, botW, topW, rowMax, maxStep, max0, fold2, fold4, fold512, off, bot, top,
    List.foldl_cons, List.foldl_nil]

/-- The store of query block 3. -/
theorem store3 :
    k0_pay1 (sl.r_1 c a2 g2 a3 g3 a4 g4 a5 g5 a6 g6 a7 g7 a8 g8 a9 g9 a10 g10 a11 g11 a12 g12 a13 g13 a15 a16 a17 a18 a19 a20 x0 x1 x2 x3 x4 x5 x6 x7 x8 x9 x10 x11)
      = block (v1458 c a2 g2 a5 g5 a6 g6 a7 g7 a16 x0 x3 x4 x5) (v1491 c a2 g2 a5 g5 a6 g6 a7 g7 a16 x0 x3 x4 x5)
          (v1457 c a3 g3 a5 g5 a6 g6 a8 g8 a15 x1 x3 x4 x6) (v1675 c a4 g4 x2) [((v650 c a3 g3 a5 g5 a6 g6 a8 g8 a15 x1 x3 x4 x6), (v837 c a4 g4 x2)), ((v1069 c a3 g3 a5 g5 a6 g6 a8 g8 a15 x1 x3 x4 x6), (v1339 c a4 g4 x2)), ((v1615 c a3 g3 a5 g5 a6 g6 a8 g8 a15 x1 x3 x4 x6), (v1968 c a4 g4 x2))]
          (v323 c a9 g9 a10 g10 a11 g11 a12 g12 x7 x8 x9 x10) (v571 c a13 g13 x11) := by
  simp -proj (disch := decide) only [HS2_2, HS2_3, HS2_6, HS2_7, HS2_8, HS2_9, HS2_12, HS3_4, HS3_5, HS3_6, HS3_7, HS3_8, HS3_9, HS3_10,
    HS3_11, HS3_12, HS3_13, HS3_14, HS3_15, HS3_16, HS4_4, HS4_5, HS4_6, HS4_7, HS4_8, HS4_9, HS4_10, HS4_11,
    HS4_12, HS4_13, HS4_14, HS4_15, HS4_16, HS4_17, HS4_18, HS4_19, HS4_20, HS4_21, HS4_22, HS4_23, HS4_24,
    HS4_25, HS4_26, HS4_27, HS4_28, HS4_29, HS4_30, HS4_31, HS4_32, HS4_33, HS4_34, HS4_35, HS4_36, HS4_37,
    HS4_38, HS4_39, HS4_40, HS4_41, HS4_42, HS4_43, HS4_44, HS4_45, HS4_46, HS4_47, HS4_48, HS4_49, HS4_50,
    HS4_51, HS4_52, HS4_53, HS4_54, HS4_55, HS4_56, HS4_57, HS4_58, HS4_59, HS4_60, HS4_61, HS4_62, HS4_63,
    HS4_64, HS5_4, HS5_5, HS5_6, HS5_7, HS5_8, HS5_9, HS5_10, HS5_11, HS5_12, HS5_13, HS5_14, HS5_15, HS5_16,
    HS5_17, HS5_18, HS5_19, HS5_20, HS5_21, HS5_22, HS5_23, HS5_24, HS5_25, HS5_26, HS5_27, HS5_28, cst_113,
    cst_114, cst_115, cst_187, cst_245, cst_246, cst_249, cst_297, cst_427, sl.r_1, v, v_1, v324, v325, v327,
    v328, v330, v331, v334, v335, v336, v337, v338, v339, v340, v341, v342, v343, v346, v349, v350,
    v351, v352, v355, v356, v357, v358, v359, v360, v361, v362, v365, v367, v368, v370, v372, v373,
    v374, v376, v379, v382, v383, v384, v385, v388, v389, v390, v391, v392, v393, v394, v395, v398,
    v399, v400, v401, v402, v403, v404, v407, v408, v409, v410, v411, v412, v413, v416, v419, v420,
    v421, v422, v423, v424, v425, v426, v427, v429, v430, v431, v432, v433, v434, v435, v436, v437,
    v438, v440, v441, v442, v443, v445, v446, v447, v448, v450, v451, v452, v453, v454, v455, v458,
    v459, v460, v461, v462, v463, v464, v465, v468, v469, v470, v471, v474, v475, v476, v479, v480,
    v481, v482, v483, v484, v485, v486, v487, v488, v490, v491, v492, v493, v494, v495, v496, v497,
    v498, v499, v501, v502, v503, v504, v506, v507, v508, v509, v511, v512, v513, v514, v515, v516,
    v519, v520, v521, v522, v523, v524, v525, v526, v529, v530, v532, v535, v536, v537, v540, v557,
    v563, v565, v572, v574, v582, v583, v584, v585, v587, v588, v589, v591, v594, v597, v598, v599,
    v600, v603, v604, v605, v606, v607, v608, v609, v610, v613, v615, v616, v618, v620, v621, v622,
    v624, v627, v630, v631, v632, v633, v636, v637, v638, v639, v640, v641, v642, v643, v646, v653,
    v657, v658, v659, v660, v661, v662, v663, v664, v665, v666, v667, v670, v673, v677, v678, v679,
    v680, v681, v682, v683, v684, v685, v686, v687, v690, v691, v692, v693, v694, v695, v696, v699,
    v700, v701, v702, v703, v704, v705, v708, v711, v712, v713, v714, v715, v716, v717, v718, v719,
    v721, v722, v723, v724, v725, v726, v727, v728, v729, v730, v732, v733, v734, v735, v737, v738,
    v739, v740, v742, v743, v744, v745, v746, v747, v750, v751, v752, v753, v754, v755, v756, v757,
    v760, v761, v762, v763, v766, v767, v768, v771, v772, v773, v774, v775, v776, v777, v778, v779,
    v780, v782, v783, v784, v785, v786, v787, v788, v789, v790, v791, v793, v794, v795, v796, v798,
    v799, v800, v801, v803, v804, v805, v806, v807, v808, v811, v812, v813, v814, v815, v816, v817,
    v818, v821, v822, v824, v827, v828, v829, v832, v838, v839, v841, v842, v843, v844, v845, v846,
    v847, v848, v849, v850, v851, v852, v853, v854, v855, v856, v857, v858, v859, v860, v861, v862,
    v863, v864, v865, v868, v869, v870, v871, v872, v873, v876, v877, v878, v880, v881, v882, v883,
    v884, v885, v886, v887, v888, v889, v890, v891, v892, v893, v894, v895, v896, v897, v898, v899,
    v900, v901, v902, v903, v904, v907, v908, v909, v910, v911, v912, v915, v957, v958, v959, v960,
    v962, v963, v964, v966, v969, v972, v973, v974, v975, v978, v979, v980, v981, v982, v983, v984,
    v985, v988, v990, v991, v993, v995, v996, v997, v999, v1002, v1005, v1006, v1007, v1008, v1011, v1012,
    v1013, v1014, v1015, v1016, v1017, v1018, v1021, v1028, v1032, v1033, v1034, v1035, v1036, v1037, v1038,
    v1039, v1040, v1041, v1042, v1045, v1048, v1052, v1053, v1054, v1055, v1056, v1057, v1058, v1059, v1060,
    v1061, v1062, v1065, v1072, v1076, v1077, v1078, v1079, v1080, v1081, v1082, v1083, v1084, v1085, v1086,
    v1089, v1092, v1096, v1097, v1098, v1099, v1100, v1101, v1102, v1103, v1104, v1105, v1106, v1109, v1110,
    v1111, v1112, v1113, v1114, v1115, v1118, v1119, v1120, v1121, v1122, v1123, v1124, v1127, v1130, v1131,
    v1132, v1133, v1134, v1135, v1136, v1137, v1138, v1140, v1141, v1142, v1143, v1144, v1145, v1146, v1147,
    v1148, v1149, v1151, v1152, v1153, v1154, v1156, v1157, v1158, v1159, v1161, v1162, v1163, v1164, v1165,
    v1166, v1169, v1170, v1171, v1172, v1173, v1174, v1175, v1176, v1179, v1180, v1181, v1182, v1185, v1186,
    v1187, v1190, v1191, v1192, v1193, v1194, v1195, v1196, v1197, v1198, v1199, v1201, v1202, v1203, v1204,
    v1205, v1206, v1207, v1208, v1209, v1210, v1212, v1213, v1214, v1215, v1217, v1218, v1219, v1220, v1222,
    v1223, v1224, v1225, v1226, v1227, v1230, v1231, v1232, v1233, v1234, v1235, v1236, v1237, v1240, v1241,
    v1243, v1246, v1247, v1248, v1251, v1257, v1258, v1260, v1261, v1262, v1263, v1264, v1265, v1266, v1267,
    v1268, v1269, v1270, v1271, v1272, v1273, v1274, v1275, v1276, v1277, v1278, v1279, v1280, v1281, v1282,
    v1283, v1284, v1287, v1288, v1289, v1290, v1291, v1292, v1295, v1296, v1297, v1299, v1300, v1301, v1302,
    v1303, v1304, v1305, v1306, v1307, v1308, v1309, v1310, v1311, v1312, v1313, v1314, v1315, v1316, v1317,
    v1318, v1319, v1320, v1321, v1322, v1323, v1326, v1327, v1328, v1329, v1330, v1331, v1334, v1340, v1341,
    v1343, v1344, v1345, v1346, v1347, v1348, v1349, v1350, v1351, v1352, v1353, v1354, v1355, v1356, v1357,
    v1358, v1359, v1360, v1361, v1362, v1363, v1364, v1365, v1366, v1367, v1370, v1371, v1372, v1373, v1374,
    v1375, v1378, v1379, v1380, v1382, v1383, v1384, v1385, v1386, v1387, v1388, v1389, v1390, v1391, v1392,
    v1393, v1394, v1395, v1396, v1397, v1398, v1399, v1400, v1401, v1402, v1403, v1404, v1405, v1406, v1409,
    v1410, v1411, v1412, v1413, v1414, v1417, v1459, v1460, v1461, v1462, v1464, v1465, v1466, v1468, v1471,
    v1474, v1475, v1476, v1477, v1480, v1481, v1482, v1483, v1484, v1485, v1486, v1487, v1490, v1492, v1493,
    v1495, v1497, v1498, v1499, v1501, v1504, v1507, v1508, v1509, v1510, v1513, v1514, v1515, v1516, v1517,
    v1518, v1519, v1520, v1523, v1530, v1534, v1535, v1536, v1537, v1538, v1539, v1540, v1541, v1542, v1543,
    v1544, v1547, v1550, v1554, v1555, v1556, v1557, v1558, v1559, v1560, v1561, v1562, v1563, v1564, v1567,
    v1574, v1578, v1579, v1580, v1581, v1582, v1583, v1584, v1585, v1586, v1587, v1588, v1591, v1594, v1598,
    v1599, v1600, v1601, v1602, v1603, v1604, v1605, v1606, v1607, v1608, v1611, v1618, v1622, v1623, v1624,
    v1625, v1626, v1627, v1628, v1629, v1630, v1631, v1632, v1635, v1638, v1642, v1643, v1644, v1645, v1646,
    v1647, v1648, v1649, v1650, v1651, v1652, v1655, v1656, v1657, v1658, v1659, v1660, v1661, v1664, v1666,
    v1667, v1668, v1669, v1670, v1673, v1676, v1677, v1678, v1679, v1680, v1681, v1682, v1683, v1684, v1686,
    v1687, v1688, v1689, v1690, v1691, v1692, v1693, v1694, v1695, v1697, v1698, v1699, v1700, v1702, v1703,
    v1704, v1705, v1707, v1708, v1709, v1710, v1711, v1712, v1715, v1716, v1717, v1718, v1719, v1720, v1721,
    v1722, v1725, v1726, v1727, v1728, v1731, v1732, v1733, v1736, v1737, v1738, v1739, v1740, v1741, v1742,
    v1743, v1744, v1745, v1747, v1748, v1749, v1750, v1751, v1752, v1753, v1754, v1755, v1756, v1758, v1759,
    v1760, v1761, v1763, v1764, v1765, v1766, v1768, v1769, v1770, v1771, v1772, v1773, v1776, v1777, v1778,
    v1779, v1780, v1781, v1782, v1783, v1786, v1787, v1789, v1792, v1793, v1794, v1797, v1803, v1804, v1806,
    v1807, v1808, v1809, v1810, v1811, v1812, v1813, v1814, v1815, v1816, v1817, v1818, v1819, v1820, v1821,
    v1822, v1823, v1824, v1825, v1826, v1827, v1828, v1829, v1830, v1833, v1834, v1835, v1836, v1837, v1838,
    v1841, v1842, v1843, v1845, v1846, v1847, v1848, v1849, v1850, v1851, v1852, v1853, v1854, v1855, v1856,
    v1857, v1858, v1859, v1860, v1861, v1862, v1863, v1864, v1865, v1866, v1867, v1868, v1869, v1872, v1873,
    v1874, v1875, v1876, v1877, v1880, v1886, v1887, v1889, v1890, v1891, v1892, v1893, v1894, v1895, v1896,
    v1897, v1898, v1899, v1900, v1901, v1902, v1903, v1904, v1905, v1906, v1907, v1908, v1909, v1910, v1911,
    v1912, v1913, v1916, v1917, v1918, v1919, v1920, v1921, v1924, v1926, v1928, v1929, v1930, v1931, v1932,
    v1933, v1934, v1935, v1936, v1937, v1938, v1939, v1940, v1941, v1942, v1943, v1944, v1945, v1946, v1947,
    v1948, v1949, v1950, v1951, v1952, v1955, v1956, v1957, v1958, v1959, v1960, v1963, v1969, v1970, v1972,
    v1973, v1974, v1975, v1976, v1977, v1978, v1979, v1980, v1981, v1982, v1983, v1984, v1985, v1986, v1987,
    v1988, v1989, v1990, v1991, v1992, v1993, v1994, v1995, v1996, v1999, v2000, v2001, v2002, v2003, v2004,
    v2007, v2008, v2009, v2011, v2012, v2013, v2014, v2015, v2016, v2017, v2018, v2019, v2020, v2021, v2022,
    v2023, v2024, v2025, v2026, v2027, v2028, v2029, v2030, v2031, v2032, v2033, v2034, v2035, v2038, v2039,
    v2040, v2041, v2042, v2043, v2046, v2047, v2048, v2049, v2050, v2051, v2052, v2053, v2054, v2055, v2056,
    v2057, v2058, v2059, v2060, v2061, v2062, v2064, v2065, v2066, v2067, v2068, v2070, v2072, v2073, v2074,
    v2075, v2079, k0_pay1, k0_pay306,
    readCov_skip', View.readCov_cons_toLoadRect, readCov_box_0, readCov_box_128, readCov_box_256, readCov_box_384, readCov_join4, readCov_join2, cat2_eq, cat4_eq, cat512_eq,
    block, normed, diff, mean, den, num, mx, accStep, acc0, sumStep, sum0, offP, botP, topP, botW, topW, rowMax, maxStep, max0, fold2, fold4, fold512, off, bot, top,
    List.foldl_cons, List.foldl_nil]

end Cert.AttnIdeal.Tile
-- ==== Proof.Attn.Sem.lean ====
/-
  THE TILES OVER REAL NUMBERS. Each tile function, entry by entry, when the queries, keys and values are real: the weights are
  powers of two of the scores less a row's shift, and the shift leaves the quotient of the two sums.
-/
module

public import proofs.«01_k».proof.Proof.Attn.Tile
public import Idealize.ShloMosaic.Lib.IdealHost

@[expose] public section

set_option maxRecDepth 16384

noncomputable section

namespace Cert.AttnIdeal.Tile

open Cert.AttnIdeal Cert.AttnIdeal.Gen Idealize.ShloMosaic
open Finset (range)

/-- A sum of real numbers, taken among the extended reals. -/
theorem csum (n : ℕ) (f : ℕ → ℝ) : ∑ x : Fin n, ((f x.val : ℝ) : EReal) = ((∑ x ∈ range n, f x : ℝ) : EReal) := by
  rw [Fin.sum_univ_eq_sum_range (fun x => ((f x : ℝ) : EReal)) n]
  induction n with
  | zero => simp
  | succ n ih => rw [Finset.sum_range_succ, Finset.sum_range_succ, ih, EReal.coe_add]

/-- The array's entries are these real numbers. -/
def Rel (a : FVec Ideal S512x128 .bf16) (A : ℕ → ℕ → ℝ) : Prop :=
  ∀ (r : Fin 512) (d : Fin 128), a (ix2 r d) = ((A r.val d.val : ℝ) : EReal)

/-- A query's score against a key. -/
def score (Q K : ℕ → ℕ → ℝ) (r c : ℕ) : ℝ := ∑ d ∈ range 128, Q r d * K c d

theorem ofBits_bot : (Ideal.ofBits FTy.f32 4286578688#32 : EReal) = ⊥ := by simp [Ideal.ofBits, Ideal.ieee]

theorem sge_iff (a b : ℕ) (ha : a < 1024) (hb : b < 1024) :
    IntOp.cmpi CmpIPredicate.sge (BitVec.ofNat 32 a) (BitVec.ofNat 32 b) = if b ≤ a then 1#1 else 0#1 := by
  have e : ((BitVec.ofNat 32 b).sle (BitVec.ofNat 32 a)) = decide (b ≤ a) := by
    rw [BitVec.sle_eq_decide, BitVec.toInt_eq_toNat_of_lt (by simp; omega), BitVec.toInt_eq_toNat_of_lt (by simp; omega)]
    simp; omega
  by_cases h : b ≤ a <;> simp [IntOp.cmpi, e, h]

section
variable {q k v : FVec Ideal S512x128 .bf16} {Q K V : ℕ → ℕ → ℝ}

theorem top_real (hq : Rel q Q) (hk : Rel k K) (y x : Fin 256) :
    top q k (ix2 y x) = if x.val ≤ y.val then ((score Q K y.val x.val : ℝ) : EReal) else ⊥ := by
  unfold top
  pointwise
  rw [sge_iff _ _ (by omega) (by omega), ofBits_bot]
  have e : ∑ d : Fin 128, q (ix2 (⟨y.val, by omega⟩ : Fin 512) d) * k (ix2 (⟨x.val, by omega⟩ : Fin 512) d) = ((score Q K y.val x.val : ℝ) : EReal) := by
    unfold score; rw [← csum]
    refine Finset.sum_congr rfl fun d _ => ?_
    rw [hq, hk, ← EReal.coe_mul]
  rw [e]
  by_cases h : x.val ≤ y.val <;> simp [h, Scalar.select]

theorem bot_real (hq : Rel q Q) (hk : Rel k K) (y : Fin 256) (x : Fin 512) :
    bot q k (ix2 y x) = if x.val ≤ 256 + y.val then ((score Q K (256 + y.val) x.val : ℝ) : EReal) else ⊥ := by
  unfold bot
  pointwise
  have ha : IntOp.addi (BitVec.ofNat 32 y.val) 256#32 = BitVec.ofNat 32 (256 + y.val) := by
    apply BitVec.eq_of_toNat_eq; simp [IntOp.addi]; omega
  rw [ha, sge_iff _ _ (by omega) (by omega), ofBits_bot]
  have e : ∑ d : Fin 128, q (ix2 (⟨256 + y.val, by omega⟩ : Fin 512) d) * k (ix2 x d) = ((score Q K (256 + y.val) x.val : ℝ) : EReal) := by
    unfold score; rw [← csum]
    refine Finset.sum_congr rfl fun d _ => ?_
    rw [hq, hk, ← EReal.coe_mul]
  rw [e]
  by_cases h : x.val ≤ 256 + y.val <;> simp [h, Scalar.select]

theorem off_real (hq : Rel q Q) (hk : Rel k K) (y x : Fin 512) :
    off q k (ix2 y x) = ((score Q K y.val x.val : ℝ) : EReal) := by
  unfold off
  pointwise
  unfold score; rw [← csum]
  refine Finset.sum_congr rfl fun d _ => ?_
  rw [hq, hk, ← EReal.coe_mul]

/-- Running maxima: none is infinite, and the first lane's is a real number. -/
def Maxima (st : FVec Ideal S1x512x128 .f32) : Prop :=
  (∀ (r : Fin 512) (l : Fin 128), st (ix3 (0 : Fin 1) r l) < (⊤ : EReal)) ∧ ∀ r : Fin 512, (⊥ : EReal) < st (ix3 (0 : Fin 1) r (0 : Fin 128))

theorem max0_maxima (hq : Rel q Q) (hk : Rel k K) : Maxima (max0 q k) := by
  constructor
  · intro r l
    unfold max0 join fold2 fold4
    pointwise
    have b (h : Prop) [Decidable h] (a : ℝ) : (if h then (a : EReal) else ⊥) < ⊤ := by
      split_ifs
      · exact EReal.coe_lt_top _
      · exact bot_lt_top
    split_ifs with h
    · rw [top_real hq hk, top_real hq hk]
      exact max_lt (b _ _) (b _ _)
    · rw [bot_real hq hk, bot_real hq hk, bot_real hq hk, bot_real hq hk]
      exact max_lt (max_lt (max_lt (b _ _) (b _ _)) (b _ _)) (b _ _)
  · intro r
    unfold max0 join fold2 fold4
    pointwise
    split_ifs with h
    · refine lt_max_of_lt_left ?_
      rw [top_real hq hk]
      exact lt_of_lt_of_eq (EReal.bot_lt_coe _) (if_pos (Nat.zero_le _)).symm
    · refine lt_max_of_lt_left (lt_max_of_lt_left (lt_max_of_lt_left ?_))
      rw [bot_real hq hk]
      exact lt_of_lt_of_eq (EReal.bot_lt_coe _) (if_pos (Nat.zero_le _)).symm

theorem maxStep_maxima (hq : Rel q Q) (hk : Rel k K) {st : FVec Ideal S1x512x128 .f32} (h : Maxima st) : Maxima (maxStep q st k) := by
  constructor
  · intro r l
    unfold maxStep fold512
    pointwise
    simp only [off_real hq hk]
    exact max_lt (h.1 _ _) (max_lt (max_lt (max_lt (EReal.coe_lt_top _) (EReal.coe_lt_top _)) (EReal.coe_lt_top _)) (EReal.coe_lt_top _))
  · intro r
    unfold maxStep fold512
    pointwise
    exact lt_max_of_lt_left (h.2 _)

theorem rowMax_real {st : FVec Ideal S1x512x128 .f32} (h : Maxima st) :
    ∃ M : ℕ → ℝ, ∀ (r : Fin 512) (l : Fin 128), rowMax st (ix3 (0 : Fin 1) r l) = ((M r.val : ℝ) : EReal) := by
  have e (r : Fin 512) (l : Fin 128) : rowMax st (ix3 (0 : Fin 1) r l) = Finset.fold max (⊥ : EReal) (fun x : Fin 128 => st (ix3 (0 : Fin 1) r x)) Finset.univ := by
    unfold rowMax
    pointwise
    rw [ofBits_bot]
  refine ⟨fun r => if hr : r < 512 then (Finset.fold max (⊥ : EReal) (fun x : Fin 128 => st (ix3 (0 : Fin 1) (⟨r, hr⟩ : Fin 512) x)) Finset.univ).toReal else 0, fun r l => ?_⟩
  dsimp only
  rw [e, dif_pos r.isLt, EReal.coe_toReal]
  · exact ne_of_lt ((Finset.fold_max_lt _).2 ⟨bot_lt_top, fun x _ => h.1 r x⟩)
  · exact ne_of_gt ((Finset.lt_fold_max _).2 (Or.inr ⟨0, Finset.mem_univ _, h.2 r⟩))

/-- The weight of a key of the query's own block. -/
def own (Q K : ℕ → ℕ → ℝ) (M : ℕ → ℝ) (r c : ℕ) : ℝ := if c ≤ r then Real.rpow 2 (score Q K r c - M r) else 0

/-- The weight of a key of an earlier block. -/
def past (Q K : ℕ → ℕ → ℝ) (M : ℕ → ℝ) (r c : ℕ) : ℝ := Real.rpow 2 (score Q K r c - M r)

variable {m : FVec Ideal S1x512x128 .f32} {M : ℕ → ℝ}

theorem exp2_own (h : Prop) [Decidable h] (a b : ℝ) :
    Ideal.exp2 ((if h then (a : EReal) else ⊥) - (b : EReal)) = ((if h then Real.rpow 2 (a - b) else 0 : ℝ) : EReal) := by
  split_ifs
  · rw [← EReal.coe_sub, Ideal.exp2_coe]
  · rw [EReal.bot_sub, Ideal.exp2_bot]; rfl

theorem topP_real (hq : Rel q Q) (hk : Rel k K) (hm : ∀ (r : Fin 512) (l : Fin 128), m (ix3 (0 : Fin 1) r l) = ((M r.val : ℝ) : EReal)) (y x : Fin 256) :
    topP q k m (ix2 y x) = ((own Q K M y.val x.val : ℝ) : EReal) := by
  unfold topP cat2 topW sub
  pointwise
  simp only [hm, top_real hq hk]
  have e (a : EReal) : FloatOps.exp2 (F := Ideal) (φ := .f32) a = Ideal.exp2 a := rfl
  simp only [e, exp2_own]
  by_cases h : x.val < 128
  · rw [dif_pos h]; rfl
  · rw [dif_neg h, show 128 + (x.val - 128) = x.val by omega]; rfl

theorem botP_real (hq : Rel q Q) (hk : Rel k K) (hm : ∀ (r : Fin 512) (l : Fin 128), m (ix3 (0 : Fin 1) r l) = ((M r.val : ℝ) : EReal)) (y : Fin 256) (x : Fin 512) :
    botP q k m (ix2 y x) = ((own Q K M (256 + y.val) x.val : ℝ) : EReal) := by
  unfold botP cat4 botW sub
  pointwise
  simp only [hm, bot_real hq hk]
  have e (a : EReal) : FloatOps.exp2 (F := Ideal) (φ := .f32) a = Ideal.exp2 a := rfl
  simp only [e, exp2_own]
  by_cases h1 : x.val < 128
  · rw [dif_pos h1]; rfl
  rw [dif_neg h1]
  by_cases h2 : x.val - 128 < 128
  · rw [dif_pos h2, show 128 + (x.val - 128) = x.val by omega]; rfl
  rw [dif_neg h2]
  by_cases h3 : x.val - 128 - 128 < 128
  · rw [dif_pos h3, show 256 + (x.val - 128 - 128) = x.val by omega]; rfl
  · rw [dif_neg h3, show 384 + (x.val - 128 - 128 - 128) = x.val by omega]; rfl

theorem offP_real (hq : Rel q Q) (hk : Rel k K) (hm : ∀ (r : Fin 512) (l : Fin 128), m (ix3 (0 : Fin 1) r l) = ((M r.val : ℝ) : EReal)) (y x : Fin 512) :
    offP q k m (ix2 y x) = ((past Q K M y.val x.val : ℝ) : EReal) := by
  unfold offP cat512
  pointwise
  simp only [hm, off_real hq hk, ← EReal.coe_sub]
  have e (a : ℝ) : FloatOps.exp2 (F := Ideal) (φ := .f32) (a : EReal) = ((Real.rpow 2 a : ℝ) : EReal) := rfl
  simp only [e]
  unfold past
  split_ifs with h1 h2 h3
  · rfl
  · rw [show 128 + (x.val - 128) = x.val by omega]
  · rw [show 256 + (x.val - 128 - 128) = x.val by omega]
  · rw [show 384 + (x.val - 128 - 128 - 128) = x.val by omega]

/-- The lanes are real numbers, and a row's lanes add up to `D`. -/
def Lanes (st : FVec Ideal S1x512x128 .f32) (D : ℕ → ℝ) : Prop :=
  ∃ f : ℕ → ℕ → ℝ, (∀ (r : Fin 512) (l : Fin 128), st (ix3 (0 : Fin 1) r l) = ((f r.val l.val : ℝ) : EReal)) ∧ ∀ r < 512, ∑ l ∈ range 128, f r l = D r

theorem split4 (g : ℕ → ℝ) : ∑ c ∈ range 512, g c = ∑ l ∈ range 128, (g l + g (128 + l) + g (256 + l) + g (384 + l)) := by
  rw [show 512 = 128 + 128 + 128 + 128 from rfl, Finset.sum_range_add, Finset.sum_range_add, Finset.sum_range_add]
  simp only [Finset.sum_add_distrib]

theorem own_zero {r c : ℕ} (h : r < c) : own Q K M r c = 0 := if_neg (by omega)

theorem sum0_lanes (hq : Rel q Q) (hk : Rel k K) (hm : ∀ (r : Fin 512) (l : Fin 128), m (ix3 (0 : Fin 1) r l) = ((M r.val : ℝ) : EReal)) :
    Lanes (sum0 q k m) fun r => ∑ c ∈ range 512, own Q K M r c := by
  refine ⟨fun r l => own Q K M r l + own Q K M r (128 + l) + own Q K M r (256 + l) + own Q K M r (384 + l), fun r l => ?_, fun r _ => (split4 _).symm⟩
  unfold sum0 join fold2 fold4
  pointwise
  split_ifs with h
  · rw [topP_real hq hk hm, topP_real hq hk hm]
    dsimp only
    rw [own_zero (c := 256 + l.val) (by omega), own_zero (c := 384 + l.val) (by omega), add_zero, add_zero, ← EReal.coe_add]
  · simp only [botP_real hq hk hm, ← EReal.coe_add]
    rw [show 256 + (r.val - 256) = r.val by omega]

theorem sumStep_lanes (hq : Rel q Q) (hk : Rel k K) (hm : ∀ (r : Fin 512) (l : Fin 128), m (ix3 (0 : Fin 1) r l) = ((M r.val : ℝ) : EReal))
    {st : FVec Ideal S1x512x128 .f32} {D : ℕ → ℝ} (h : Lanes st D) :
    Lanes (sumStep q m st k) fun r => D r + ∑ c ∈ range 512, past Q K M r c := by
  obtain ⟨f, hf, hD⟩ := h
  refine ⟨fun r l => f r l + (past Q K M r l + past Q K M r (128 + l) + past Q K M r (256 + l) + past Q K M r (384 + l)), fun r l => ?_, fun r hr => ?_⟩
  · unfold sumStep fold512
    pointwise
    simp only [offP_real hq hk hm, hf, ← EReal.coe_add]
  · dsimp only
    rw [Finset.sum_add_distrib, hD r hr, split4]

/-- The entries are these real numbers. -/
def Sums (a : FVec Ideal S1x512x128 .f32) (N : ℕ → ℕ → ℝ) : Prop :=
  ∀ (r : Fin 512) (e : Fin 128), a (ix3 (0 : Fin 1) r e) = ((N r.val e.val : ℝ) : EReal)

theorem acc0_sums (hq : Rel q Q) (hk : Rel k K) (hv : Rel v V) (hm : ∀ (r : Fin 512) (l : Fin 128), m (ix3 (0 : Fin 1) r l) = ((M r.val : ℝ) : EReal)) :
    Sums (acc0 q k v m) fun r e => ∑ c ∈ range 512, own Q K M r c * V c e := by
  intro r e
  unfold acc0 join
  pointwise
  split_ifs with h
  · simp only [topP_real hq hk hm]
    have s := Finset.sum_range_add (fun c => own Q K M r.val c * V c e.val) 256 256
    rw [show 256 + 256 = 512 from rfl, Finset.sum_eq_zero (s := range 256) (f := fun x => own Q K M r.val (256 + x) * V (256 + x) e.val), add_zero] at s
    rw [s, ← csum]
    · refine Finset.sum_congr rfl fun d _ => ?_
      rw [hv, ← EReal.coe_mul]
    · intro x _
      rw [own_zero (by omega), zero_mul]
  · simp only [botP_real hq hk hm]
    rw [← csum]
    refine Finset.sum_congr rfl fun d _ => ?_
    rw [hv, ← EReal.coe_mul, show 256 + (r.val - 256) = r.val by omega]

theorem accStep_sums (hq : Rel q Q) (hk : Rel k K) (hv : Rel v V) (hm : ∀ (r : Fin 512) (l : Fin 128), m (ix3 (0 : Fin 1) r l) = ((M r.val : ℝ) : EReal))
    {a : FVec Ideal S1x512x128 .f32} {N : ℕ → ℕ → ℝ} (h : Sums a N) :
    Sums (accStep q m a k v) fun r e => N r e + ∑ c ∈ range 512, past Q K M r c * V c e := by
  intro r e
  unfold accStep
  pointwise
  rw [h, EReal.coe_add, ← csum]
  congr 1
  refine Finset.sum_congr rfl fun d _ => ?_
  rw [offP_real hq hk hm, hv, ← EReal.coe_mul]

end

/-- Two lists of key and value blocks, the second in real numbers. -/
def Rels (L : List (FVec Ideal S512x128 .bf16 × FVec Ideal S512x128 .bf16)) (R : List ((ℕ → ℕ → ℝ) × (ℕ → ℕ → ℝ))) : Prop :=
  List.Forall₂ (fun p P => Rel p.1 P.1 ∧ Rel p.2 P.2) L R

section
variable {q k v : FVec Ideal S512x128 .bf16} {Q K V : ℕ → ℕ → ℝ} {m : FVec Ideal S1x512x128 .f32} {M : ℕ → ℝ}

theorem maxima_fold (hq : Rel q Q) {L : List (FVec Ideal S512x128 .bf16 × FVec Ideal S512x128 .bf16)} {R : List ((ℕ → ℕ → ℝ) × (ℕ → ℕ → ℝ))}
    (h : Rels L R) : ∀ st : FVec Ideal S1x512x128 .f32, Maxima st → Maxima (L.foldl (fun st p => maxStep q st p.1) st) := by
  induction h with
  | nil => exact fun st h => h
  | cons h _ ih => exact fun st hst => ih _ (maxStep_maxima hq h.1 hst)

theorem lanes_fold (hq : Rel q Q) (hm : ∀ (r : Fin 512) (l : Fin 128), m (ix3 (0 : Fin 1) r l) = ((M r.val : ℝ) : EReal))
    {L : List (FVec Ideal S512x128 .bf16 × FVec Ideal S512x128 .bf16)} {R : List ((ℕ → ℕ → ℝ) × (ℕ → ℕ → ℝ))}
    (h : Rels L R) : ∀ (st : FVec Ideal S1x512x128 .f32) (D : ℕ → ℝ), Lanes st D →
      Lanes (L.foldl (fun st p => sumStep q m st p.1) st) fun r => D r + (R.map fun P => ∑ c ∈ range 512, past Q P.1 M r c).sum := by
  induction h with
  | nil => intro st D h; simpa using h
  | cons h _ ih =>
    intro st D hst
    have := ih _ _ (sumStep_lanes hq h.1 hm hst)
    simpa only [List.map_cons, List.sum_cons, add_assoc, List.foldl_cons] using this

theorem sums_fold (hq : Rel q Q) (hm : ∀ (r : Fin 512) (l : Fin 128), m (ix3 (0 : Fin 1) r l) = ((M r.val : ℝ) : EReal))
    {L : List (FVec Ideal S512x128 .bf16 × FVec Ideal S512x128 .bf16)} {R : List ((ℕ → ℕ → ℝ) × (ℕ → ℕ → ℝ))}
    (h : Rels L R) : ∀ (a : FVec Ideal S1x512x128 .f32) (N : ℕ → ℕ → ℝ), Sums a N →
      Sums (L.foldl (fun a p => accStep q m a p.1 p.2) a) fun r e => N r e + (R.map fun P => ∑ c ∈ range 512, past Q P.1 M r c * P.2 c e).sum := by
  induction h with
  | nil => intro st D h; simpa using h
  | cons h _ ih =>
    intro st D hst
    have := ih _ _ (accStep_sums hq h.1 h.2 hm hst)
    simpa only [List.map_cons, List.sum_cons, add_assoc, List.foldl_cons] using this

/-- The sum over a query's keys of a function of the own block's score and of one of each earlier block's. -/
def keys (Q K : ℕ → ℕ → ℝ) (R : List ((ℕ → ℕ → ℝ) × (ℕ → ℕ → ℝ))) (r : ℕ) (f : ℕ → ℝ) (g : (ℕ → ℕ → ℝ) × (ℕ → ℕ → ℝ) → ℕ → ℝ) : ℝ :=
  ∑ c ∈ range 512, (if c ≤ r then Real.rpow 2 (score Q K r c) * f c else 0) + (R.map fun P => ∑ c ∈ range 512, Real.rpow 2 (score Q P.1 r c) * g P c).sum

theorem rpow_sub' (a b : ℝ) : Real.rpow 2 (a - b) = Real.rpow 2 (-b) * Real.rpow 2 a := by
  have := Real.rpow_add (show (0 : ℝ) < 2 by norm_num) (-b) a
  rw [show -b + a = a - b by ring] at this
  exact this

theorem map_mul_sum {α : Type} (l : List α) (a : ℝ) (f : α → ℝ) : (l.map fun x => a * f x).sum = a * (l.map f).sum := by
  induction l with
  | nil => simp
  | cons x l ih => simp only [List.map_cons, List.sum_cons, ih, mul_add]

theorem shift (Q K : ℕ → ℕ → ℝ) (M : ℕ → ℝ) (R : List ((ℕ → ℕ → ℝ) × (ℕ → ℕ → ℝ))) (r : ℕ) (f : ℕ → ℝ) (g : (ℕ → ℕ → ℝ) × (ℕ → ℕ → ℝ) → ℕ → ℝ) :
    ∑ c ∈ range 512, own Q K M r c * f c + (R.map fun P => ∑ c ∈ range 512, past Q P.1 M r c * g P c).sum
      = Real.rpow 2 (-M r) * keys Q K R r f g := by
  have e : (R.map fun P => ∑ c ∈ range 512, past Q P.1 M r c * g P c)
      = R.map fun P => Real.rpow 2 (-M r) * ∑ c ∈ range 512, Real.rpow 2 (score Q P.1 r c) * g P c := by
    refine List.map_congr_left fun P _ => ?_
    rw [Finset.mul_sum]
    refine Finset.sum_congr rfl fun c _ => ?_
    unfold past; rw [rpow_sub', mul_assoc]
  rw [e, map_mul_sum, keys, mul_add, Finset.mul_sum]
  congr 1
  refine Finset.sum_congr rfl fun c _ => ?_
  unfold own
  split_ifs
  · rw [rpow_sub', mul_assoc]
  · simp

theorem keys_pos (Q K : ℕ → ℕ → ℝ) (R : List ((ℕ → ℕ → ℝ) × (ℕ → ℕ → ℝ))) (r : ℕ) : 0 < keys Q K R r (fun _ => 1) fun _ _ => 1 := by
  have p (x : ℝ) : 0 < Real.rpow 2 x := Real.rpow_pos_of_pos (by norm_num) x
  unfold keys
  refine add_pos_of_pos_of_nonneg (Finset.sum_pos' (fun c _ => ?_) ⟨0, by simp, ?_⟩) (List.sum_nonneg fun x hx => ?_)
  · split_ifs
    · rw [mul_one]; exact (p _).le
    · exact le_refl _
  · rw [if_pos (Nat.zero_le _), mul_one]; exact p _
  · obtain ⟨P, _, rfl⟩ := List.mem_map.1 hx
    exact Finset.sum_nonneg fun c _ => by rw [mul_one]; exact (p _).le

/-- One head's weighted mean over real numbers. -/
theorem mean_real (hq : Rel q Q) (hk : Rel k K) (hv : Rel v V)
    {L : List (FVec Ideal S512x128 .bf16 × FVec Ideal S512x128 .bf16)} {R : List ((ℕ → ℕ → ℝ) × (ℕ → ℕ → ℝ))} (h : Rels L R) (r : Fin 512) (e : Fin 128) :
    mean (num q k v L) (den q k L) (ix2 r e)
      = ((keys Q K R r.val (fun c => V c e.val) (fun P c => P.2 c e.val) / keys Q K R r.val (fun _ => 1) (fun _ _ => 1) : ℝ) : EReal) := by
  obtain ⟨M, hM⟩ := rowMax_real (maxima_fold hq h _ (max0_maxima hq hk))
  have hM : ∀ (r : Fin 512) (l : Fin 128), mx q k L (ix3 (0 : Fin 1) r l) = ((M r.val : ℝ) : EReal) := hM
  obtain ⟨f, hf, hD⟩ : Lanes (den q k L) _ := lanes_fold hq hM h _ _ (sum0_lanes hq hk hM)
  have hN : Sums (num q k v L) _ := sums_fold hq hM h _ _ (acc0_sums hq hk hv hM)
  unfold mean
  pointwise
  rw [hN, Finset.sum_congr rfl fun (x : Fin 128) _ => hf r x, csum, hD r.val r.isLt]
  have s := shift Q K M R r.val (fun _ => 1) (fun _ _ => 1)
  simp only [mul_one] at s
  dsimp only
  rw [s, shift Q K M R r.val (fun c => V c e.val) (fun P c => P.2 c e.val)]
  have p : (0 : ℝ) < Real.rpow 2 (-M r.val) := Real.rpow_pos_of_pos (by norm_num) _
  rw [Ideal.div_coe (mul_pos p (keys_pos Q K R r.val)).ne', ← EReal.coe_mul, mul_one_div, mul_div_mul_left _ _ p.ne']

/-- The norm of a head's row, its weights and the factor that follows. -/
def nrm (o : Fin 128 → EReal) (w : Fin 128 → EReal) (e : Fin 128) : EReal :=
  o e * Ideal.rsqrt (Ideal.div (∑ x, o x * o x) (Ideal.ofBits FTy.f32 1124073472#32) + Ideal.ofBits FTy.f32 925353388#32) * w e
    * Ideal.ofBits FTy.f32 1061997773#32

/-- A stored block over real numbers. -/
theorem block_real {q0 q1 : FVec Ideal S1x512x128 .bf16} {Q0 Q1 : ℕ → ℕ → ℝ}
    (h0 : ∀ (r : Fin 512) (d : Fin 128), q0 (ix3 (0 : Fin 1) r d) = ((Q0 r.val d.val : ℝ) : EReal))
    (h1 : ∀ (r : Fin 512) (d : Fin 128), q1 (ix3 (0 : Fin 1) r d) = ((Q1 r.val d.val : ℝ) : EReal)) (hk : Rel k K) (hv : Rel v V)
    {L : List (FVec Ideal S512x128 .bf16 × FVec Ideal S512x128 .bf16)} {R : List ((ℕ → ℕ → ℝ) × (ℕ → ℕ → ℝ))} (h : Rels L R)
    {lam : FVec Ideal S1x1 .f32} {l : ℝ} (hl : lam (ix2 (0 : Fin 1) (0 : Fin 1)) = ((l : ℝ) : EReal)) (w : FVec Ideal S1x128 .f32) (r : Fin 512) (e : Fin 128) :
    block q0 q1 k v L lam w (ix3 (0 : Fin 1) r e) = nrm (fun x : Fin 128 =>
      ((keys Q0 K R r.val (fun c => V c x.val) (fun P c => P.2 c x.val) / keys Q0 K R r.val (fun _ => 1) (fun _ _ => 1)
        - l * (keys Q1 K R r.val (fun c => V c x.val) (fun P c => P.2 c x.val) / keys Q1 K R r.val (fun _ => 1) (fun _ _ => 1)) : ℝ) : EReal))
      (fun x => w (ix2 (0 : Fin 1) x)) e := by
  have r0 : Rel (shapeCast S512x128 q0 shapeCasts_S1x512x128_S512x128) Q0 := by
    intro r d; pointwise; exact h0 r d
  have r1 : Rel (shapeCast S512x128 q1 shapeCasts_S1x512x128_S512x128) Q1 := by
    intro r d; pointwise; exact h1 r d
  have o (x : Fin 128) : diff (mean (num (shapeCast S512x128 q0 shapeCasts_S1x512x128_S512x128) k v L) (den (shapeCast S512x128 q0 shapeCasts_S1x512x128_S512x128) k L))
        (mean (num (shapeCast S512x128 q1 shapeCasts_S1x512x128_S512x128) k v L) (den (shapeCast S512x128 q1 shapeCasts_S1x512x128_S512x128) k L)) lam (ix2 r x)
      = ((keys Q0 K R r.val (fun c => V c x.val) (fun P c => P.2 c x.val) / keys Q0 K R r.val (fun _ => 1) (fun _ _ => 1)
        - l * (keys Q1 K R r.val (fun c => V c x.val) (fun P c => P.2 c x.val) / keys Q1 K R r.val (fun _ => 1) (fun _ _ => 1)) : ℝ) : EReal) := by
    unfold diff
    pointwise
    rw [mean_real r0 hk hv h, mean_real r1 hk hv h, hl, EReal.coe_sub, EReal.coe_mul]
  unfold block normed nrm
  pointwise
  simp only [o]

end

end Cert.AttnIdeal.Tile

end
-- ==== Proof.Attn.Prep.lean ====
/-
  THE ROTATED QUERIES AND KEYS. The body norms each 64-lane group of its rows, turns it by the angle of the row, and keeps
  the result in scratch, the queries once for each group with the other group's lanes zero.
-/
module

public import proofs.«01_k».proof.Proof.Attn.Sem
public import Idealize.ShloMosaic.Lib.Pointwise
public import Idealize.ShloMosaic.Lib.IdealHost

@[expose] public section

set_option maxRecDepth 16384

namespace Cert.AttnIdeal.Tile

open Cert.AttnIdeal Cert.AttnIdeal.Gen Cert.AttnIdeal.Gen.kernelRun0_A Cert.AttnIdeal.Gen.kernelRun0_A.sl Idealize.ShloMosaic
open Finset (range)

section
variable {F : FTy → Type} [FloatOps F]

/-- The rows' groups, normed. -/
noncomputable def xnorm (x : FVec F S1024x128 .bf16) (w : FVec F S1x128 .f32) : FVec F S1024x128 .f32 :=
  let y : FVec F S1024x128 .f32 := extf .f32 x bitsLt_bf16_f32
  mulf (mulf y (rsqrt (addf (mulf (matmul dot_S1024x128_S128x128_S1024x128_1_0_0_1_n_n none (truncf .bf16 (mulf y y) bitsLt_bf16_f32) v53
      (constant S1024x128 .f32 0#32)) (broadcast S1024x128 (FloatOps.ofBits (F := F) .f32 1015021568#32)))
    (broadcast S1024x128 (FloatOps.ofBits (F := F) .f32 897988541#32))))) (broadcastTo S1024x128 w broadcasts_S1x128_S1024x128)

/-- The rows turned by their angles. -/
noncomputable def rope (y cos sin : FVec F S1024x128 .f32) : FVec F S1024x128 .f32 :=
  addf (mulf y cos) (mulf (select (broadcastTo S1024x128 v101 broadcasts_S1x128_S1024x128) (dynamicRotate 1 96#32 none y rotates_S1024x128_d1)
    (dynamicRotate 1 32#32 none y rotates_S1024x128_d1)) sin)

/-- 1024 rows of rotated keys. -/
noncomputable def kRows (x : Vec F S1x1024x128 .bf16) (w : Vec F S1x128 .f32) (cos sin : Vec F S1024x128 .f32) : FVec F S1024x128 .bf16 :=
  shapeCast S1024x128 (truncf .bf16 (rope (xnorm (shapeCast S1024x128 x shapeCasts_S1x1024x128_S1024x128) (shapeCast S1x128 w shapeCasts_S1x128_S1x128))
    (shapeCast S1024x128 cos shapeCasts_S1024x128_S1024x128) (shapeCast S1024x128 sin shapeCasts_S1024x128_S1024x128)) bitsLt_bf16_f32) shapeCasts_S1024x128_S1024x128

/-- 1024 rows of rotated, scaled queries, the lanes outside a group zero. -/
noncomputable def qRows [Named F] (p : CmpIPredicate) (x : Vec F S1x1024x128 .bf16) (w : Vec F S1x128 .f32) (cos sin : Vec F S1024x128 .f32) : FVec F S1x1024x128 .bf16 :=
  shapeCast S1x1024x128 (truncf .bf16 (select (broadcastTo S1024x128 (shapeCast S1x128 (cmpi p (iota .tc S1x128 32 [1] iota_S1x128_d1_w32) (broadcast S1x128 64#32)) shapeCasts_S1x128_S1x128) broadcasts_S1x128_S1024x128)
    (mulf (rope (xnorm (shapeCast S1024x128 x shapeCasts_S1x1024x128_S1024x128) (shapeCast S1x128 w shapeCasts_S1x128_S1x128))
      (shapeCast S1024x128 cos shapeCasts_S1024x128_S1024x128) (shapeCast S1024x128 sin shapeCasts_S1024x128_S1024x128))
      (broadcast S1024x128 (Named.named κ "score_scale" 0x3E38AA3B#32)))
    (broadcast S1024x128 (FloatOps.ofBits (F := F) .f32 0#32))) bitsLt_bf16_f32) shapeCasts_S1024x128_S1x1024x128

end

theorem group_word (y : Fin 128) :
    Scalar.select
            (IntOp.andi
              (IntOp.cmpi CmpIPredicate.ne
                (IntOp.subi (BitVec.setWidth 32 (IntOp.cmpi CmpIPredicate.sgt (BitVec.ofNat 32 ↑y) 0#32))
                  (BitVec.setWidth 32 (IntOp.cmpi CmpIPredicate.slt (BitVec.ofNat 32 ↑y) 0#32)))
                1#32)
              (IntOp.cmpi CmpIPredicate.ne (IntOp.remsi ArithUnit.vector (BitVec.ofNat 32 ↑y) 64#32) 0#32))
            (IntOp.subi (IntOp.divsi ArithUnit.vector (BitVec.ofNat 32 ↑y) 64#32) 1#32)
            (IntOp.divsi ArithUnit.vector (BitVec.ofNat 32 ↑y) 64#32) = BitVec.ofNat 32 (y.val / 64) := by
  revert y
  decide

theorem group_eq (y x : Fin 128) :
    BitVec.setWidth 32 (IntOp.cmpi CmpIPredicate.eq (BitVec.ofNat 32 (y.val / 64)) (BitVec.ofNat 32 (x.val / 64))) = if y.val / 64 = x.val / 64 then 1#32 else 0#32 := by
  have h : (BitVec.ofNat 32 (y.val / 64) = BitVec.ofNat 32 (x.val / 64)) ↔ y.val / 64 = x.val / 64 := by
    rw [← BitVec.toNat_inj]; simp; omega
  by_cases e : y.val / 64 = x.val / 64
  · simp [IntOp.cmpi, e]
  · have e' : (BitVec.ofNat 32 (y.val / 64) == BitVec.ofNat 32 (x.val / 64)) = false := beq_eq_false_iff_ne.2 fun q => e (h.1 q)
    simp [IntOp.cmpi, e, e']

theorem ones_entry (y x : Fin 128) : (v53 : FVec Ideal S128x128 .bf16) (ix2 y x) = if y.val / 64 = x.val / 64 then (1 : EReal) else 0 := by
  simp only [v0, v1, v3, v5, v8, v15, v16, v20, v23, v24, v25, v30, v33, v41, v45, v48, v49, v51, v52, v53]
  pointwise
  rw [group_word, group_word, group_eq]
  split_ifs <;> simp [FloatOps.sitofp]

theorem low_entry (x : Fin 128) : v101 (ix2 (0 : Fin 1) x) = if x.val % 64 < 32 then 1#1 else 0#1 := by
  simp only [v54, v83, v85, v86, v88, v90, v92, v95, v96, v97, v101]
  pointwise
  revert x
  decide

/-- The rows' groups, normed, over real numbers. -/
noncomputable def nR (X W : ℕ → ℝ) (E : ℝ) (l : ℕ) : ℝ := X l * (Real.sqrt ((∑ d ∈ range 64, X (64 * (l / 64) + d) * X (64 * (l / 64) + d)) * (1 / 64) + E))⁻¹ * W l

/-- The normed groups turned by their angles. -/
noncomputable def ropeR (Y C S : ℕ → ℝ) (l : ℕ) : ℝ := Y l * C l + Y (if l % 64 < 32 then l + 32 else l - 32) * S l

/-- The norms' small constant. -/
noncomputable def epsR : ℝ := 8796093 * 2 ^ (-43 : ℤ)

theorem ofBits_eps : (Ideal.ofBits FTy.f32 897988541#32 : EReal) = (epsR : EReal) := by
  unfold epsR
  simp [Ideal.ofBits, Ideal.ieee, -EReal.coe_mul]

theorem epsR_pos : 0 < epsR := by unfold epsR; positivity

theorem ofBits_64th : (Ideal.ofBits FTy.f32 1015021568#32 : EReal) = ((1 / 64 : ℝ) : EReal) := by
  simp [Ideal.ofBits, Ideal.ieee, -EReal.coe_mul]; norm_num

/-- The scale of the scores, for powers of two. -/
noncomputable def scaleR : ℝ := (Real.log 2)⁻¹ * (1 / 8)

theorem named_scale : Named.named (F := Ideal) κ "score_scale" (φ := .f32) 1043900987#32 = ((scaleR : ℝ) : EReal) :=
  rfl

/-- The sum over the lanes of a lane's group. -/
theorem group_sum (f : ℕ → ℝ) (l : ℕ) (hl : l < 128) :
    ∑ x ∈ range 128, (if x / 64 = l / 64 then f x else 0) = ∑ d ∈ range 64, f (64 * (l / 64) + d) := by
  have e := Finset.sum_range_add (fun x => if x / 64 = l / 64 then f x else 0) 64 64
  rw [show 64 + 64 = 128 from rfl] at e
  rw [e]
  rcases (by omega : l / 64 = 0 ∨ l / 64 = 1) with h | h
  · rw [h, Finset.sum_eq_zero (s := range 64) (f := fun x => if (64 + x) / 64 = 0 then f (64 + x) else 0), add_zero]
    · refine Finset.sum_congr rfl fun d hd => ?_
      have := Finset.mem_range.1 hd
      rw [if_pos (by omega), Nat.mul_zero, Nat.zero_add]
    · intro d _; rw [if_neg (by omega)]
  · rw [h, Finset.sum_eq_zero (s := range 64) (f := fun x => if x / 64 = 1 then f x else 0), zero_add]
    · refine Finset.sum_congr rfl fun d hd => ?_
      have := Finset.mem_range.1 hd
      rw [if_pos (by omega), Nat.mul_one]
    · intro d hd
      have := Finset.mem_range.1 hd
      rw [if_neg (by omega)]

section
variable {x : FVec Ideal S1024x128 .bf16} {w : FVec Ideal S1x128 .f32} {X : ℕ → ℕ → ℝ} {W : ℕ → ℝ} {C S : ℕ → ℕ → ℝ} {cos sin : FVec Ideal S1024x128 .f32}

theorem xnorm_real (hx : ∀ (r : Fin 1024) (l : Fin 128), x (ix2 r l) = ((X r.val l.val : ℝ) : EReal)) (hw : ∀ l : Fin 128, w (ix2 (0 : Fin 1) l) = ((W l.val : ℝ) : EReal))
    (r : Fin 1024) (l : Fin 128) : xnorm x w (ix2 r l) = ((nR (X r.val) W epsR l.val : ℝ) : EReal) := by
  unfold xnorm
  pointwise
  have e : ∑ d : Fin 128, x (ix2 r d) * x (ix2 r d) * (v53 : FVec Ideal S128x128 .bf16) (ix2 d l)
      = ((∑ d ∈ range 64, X r.val (64 * (l.val / 64) + d) * X r.val (64 * (l.val / 64) + d) : ℝ) : EReal) := by
    rw [← group_sum (fun d => X r.val d * X r.val d) l.val l.isLt, ← csum]
    refine Finset.sum_congr rfl fun d _ => ?_
    rw [hx, ones_entry, ← EReal.coe_mul]
    split_ifs
    · rw [mul_one]
    · rw [mul_zero]; rfl
  rw [e, hx, hw, ofBits_64th, ofBits_eps, ← EReal.coe_mul, ← EReal.coe_add, Ideal.rsqrt_coe]
  have p : 0 < (∑ d ∈ range 64, X r.val (64 * (l.val / 64) + d) * X r.val (64 * (l.val / 64) + d)) * (1 / 64) + epsR :=
    add_pos_of_nonneg_of_pos (mul_nonneg (Finset.sum_nonneg fun d _ => mul_self_nonneg _) (by norm_num)) epsR_pos
  rw [if_neg (not_lt.2 p.le), if_neg p.ne', ← EReal.coe_mul, ← EReal.coe_mul]
  rfl

theorem rope_real {y : FVec Ideal S1024x128 .f32} {Y : ℕ → ℕ → ℝ} (hy : ∀ (r : Fin 1024) (l : Fin 128), y (ix2 r l) = ((Y r.val l.val : ℝ) : EReal))
    (hc : ∀ (r : Fin 1024) (l : Fin 128), cos (ix2 r l) = ((C r.val l.val : ℝ) : EReal)) (hs : ∀ (r : Fin 1024) (l : Fin 128), sin (ix2 r l) = ((S r.val l.val : ℝ) : EReal))
    (r : Fin 1024) (l : Fin 128) : rope y cos sin (ix2 r l) = ((ropeR (Y r.val) (C r.val) (S r.val) l.val : ℝ) : EReal) := by
  unfold rope
  pointwise
  rw [low_entry, hy, hy, hy, hc, hs]
  unfold ropeR
  have hl := l.isLt
  dsimp only
  by_cases h : l.val % 64 < 32
  · rw [if_pos h, if_pos h, show (l.val + 128 - 96) % 128 = l.val + 32 by omega, EReal.coe_add, EReal.coe_mul, EReal.coe_mul]
    rfl
  · rw [if_neg h, if_neg h, show (l.val + 128 - 32) % 128 = l.val - 32 by omega, EReal.coe_add, EReal.coe_mul, EReal.coe_mul]
    rfl

/-- A row of a rotated array. -/
noncomputable def rowR (X W C S : ℕ → ℝ) (l : ℕ) : ℝ := ropeR (nR X W epsR) C S l

theorem kRows_real {x : Vec Ideal S1x1024x128 .bf16} (hx : ∀ (r : Fin 1024) (l : Fin 128), x (ix3 (0 : Fin 1) r l) = ((X r.val l.val : ℝ) : EReal))
    (hw : ∀ l : Fin 128, w (ix2 (0 : Fin 1) l) = ((W l.val : ℝ) : EReal))
    (hc : ∀ (r : Fin 1024) (l : Fin 128), cos (ix2 r l) = ((C r.val l.val : ℝ) : EReal)) (hs : ∀ (r : Fin 1024) (l : Fin 128), sin (ix2 r l) = ((S r.val l.val : ℝ) : EReal))
    (r : Fin 1024) (l : Fin 128) : kRows x w cos sin (ix2 r l) = ((rowR (X r.val) W (C r.val) (S r.val) l.val : ℝ) : EReal) := by
  unfold kRows
  pointwise
  exact rope_real (Y := fun r => nR (X r) W epsR) (xnorm_real (fun r l => by pointwise; exact hx r l) hw) hc hs r l

theorem qRows_real (p : CmpIPredicate) {x : Vec Ideal S1x1024x128 .bf16} (hx : ∀ (r : Fin 1024) (l : Fin 128), x (ix3 (0 : Fin 1) r l) = ((X r.val l.val : ℝ) : EReal))
    (hw : ∀ l : Fin 128, w (ix2 (0 : Fin 1) l) = ((W l.val : ℝ) : EReal))
    (hc : ∀ (r : Fin 1024) (l : Fin 128), cos (ix2 r l) = ((C r.val l.val : ℝ) : EReal)) (hs : ∀ (r : Fin 1024) (l : Fin 128), sin (ix2 r l) = ((S r.val l.val : ℝ) : EReal))
    (r : Fin 1024) (l : Fin 128) : qRows p x w cos sin (ix3 (0 : Fin 1) r l)
      = ((if IntOp.cmpi p (BitVec.ofNat 32 l.val) 64#32 = 1#1 then rowR (X r.val) W (C r.val) (S r.val) l.val * scaleR else 0 : ℝ) : EReal) := by
  unfold qRows
  pointwise
  have e : rope (xnorm (shapeCast S1024x128 x shapeCasts_S1x1024x128_S1024x128) w) cos sin (ix2 r l) = ((rowR (X r.val) W (C r.val) (S r.val) l.val : ℝ) : EReal) :=
    rope_real (Y := fun r => nR (X r) W epsR) (xnorm_real (fun r l => by pointwise; exact hx r l) hw) hc hs r l
  rw [e, named_scale, ← EReal.coe_mul]
  by_cases h : IntOp.cmpi p (BitVec.ofNat 32 l.val) 64#32 = 1#1
  · rw [if_pos h, h]; rfl
  · rw [if_neg h]; exact (if_neg h).trans (by simp)

theorem slt_lane (l : Fin 128) : (IntOp.cmpi CmpIPredicate.slt (BitVec.ofNat 32 l.val) 64#32 = 1#1) = (l.val < 64) := by
  revert l; decide

theorem sge_lane (l : Fin 128) : (IntOp.cmpi CmpIPredicate.sge (BitVec.ofNat 32 l.val) 64#32 = 1#1) = (64 ≤ l.val) := by
  revert l; decide

end

end Cert.AttnIdeal.Tile
-- ==== Proof.Attn.Leaves.lean ====
/-
  THE LOADS OF THE ATTENTION'S BODY. The rotated keys and queries in scratch are the rows of the blocks, normed and turned; a
  load of 512 of them reads those rows.
-/
module

public import proofs.«01_k».proof.Proof.Attn.Run
public import proofs.«01_k».proof.Proof.Attn.Prep

@[expose] public section

set_option maxRecDepth 16384

namespace Cert.AttnIdeal.Tile

open Cert.AttnIdeal Cert.AttnIdeal.Gen Cert.AttnIdeal.Gen.kernelRun0_A Cert.AttnIdeal.Gen.kernelRun0_A.sl Idealize.ShloMosaic

section
variable {F : FTy → Type} [FloatOps F] [Named F]
variable (c : Dev nD) (a2 : Memref sig .tc .vmem S1x2048x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S2048x128 .f32) (h5 : a5.IsWhole) (a6 : Memref sig .tc .vmem S2048x128 .f32) (h6 : a6.IsWhole) (a7 : Memref sig .tc .vmem S1x128 .f32) (h7 : a7.IsWhole) (a8 : Memref sig .tc .vmem S1x128 .f32) (h8 : a8.IsWhole) (a9 : Memref sig .tc .vmem S1x64 .f32) (h9 : a9.IsWhole) (a10 : Memref sig .tc .vmem S1x64 .f32) (h10 : a10.IsWhole) (a11 : Memref sig .tc .vmem S1x64 .f32) (h11 : a11.IsWhole) (a12 : Memref sig .tc .vmem S1x64 .f32) (h12 : a12.IsWhole) (a13 : Memref sig .tc .vmem S1x128 .f32) (h13 : a13.IsWhole) (a14 : Memref sig .tc .vmem S1x2048x128 .bf16) (a15 : Memref sig .tc .vmem S2048x128 .bf16) (a16 : Memref sig .tc .vmem S2x2048x128 .bf16) (a17 : Memref sig .tc .vmem S2x3x512x512 .f32) (a18 : Memref sig .tc .vmem S2x512x512 .f32) (a19 : Memref sig .tc .vmem S4x512x128 .f32) (a20 : Memref sig .tc .vmem S2x512x128 .f32)
    (x0 : Vec F S1x2048x128 .bf16) (x1 : Vec F S1x2048x128 .bf16) (x2 : Vec F S1x2048x128 .bf16) (x3 : Vec F S2048x128 .f32) (x4 : Vec F S2048x128 .f32) (x5 : Vec F S1x128 .f32) (x6 : Vec F S1x128 .f32) (x7 : Vec F S1x64 .f32) (x8 : Vec F S1x64 .f32) (x9 : Vec F S1x64 .f32) (x10 : Vec F S1x64 .f32) (x11 : Vec F S1x128 .f32)

/-- A half of the rows of a block. -/
abbrev half3 (x : Vec F S1x2048x128 .bf16) (o : ℕ) (h : ∀ a, (![0, o, 0] : Fin 3 → ℕ) a + S1x1024x128.size a ≤ S1x2048x128.size a) : Vec F S1x1024x128 .bf16 :=
  View.ld x (Rect.unit (s := S1x2048x128) ![0, o, 0] S1x1024x128.size h)

/-- A half of the rows of a table. -/
abbrev half2 (x : Vec F S2048x128 .f32) (o : ℕ) (h : ∀ a, (![o, 0] : Fin 2 → ℕ) a + S1024x128.size a ≤ S2048x128.size a) : Vec F S1024x128 .f32 :=
  View.ld x (Rect.unit (s := S2048x128) ![o, 0] S1024x128.size h)

/-- A whole row. -/
abbrev whole2 (x : Vec F S1x128 .f32) : Vec F S1x128 .f32 :=
  View.ld x (Rect.unit (s := S1x128) ![0, 0] S1x128.size inb_S1x128_S1x128_0_0)

theorem k_lo : v111 c a3 h3 a5 h5 a6 h6 a8 h8 x1 x3 x4 x6
    = kRows (half3 x1 0 (by decide)) (whole2 x6) (half2 x3 0 (by decide)) (half2 x4 0 (by decide)) :=
  (show _ = kRows (View.readAt (Elt F) a3.view (Rect.unit (s := S1x2048x128) ![0, 0, 0] S1x1024x128.size (by decide)).toLoadRect (h3.unread x1))
        (View.readAt (Elt F) a8.view (Rect.unit (s := S1x128) ![0, 0] S1x128.size inb_S1x128_S1x128_0_0).toLoadRect (h8.unread x6))
        (View.readAt (Elt F) a5.view (Rect.unit (s := S2048x128) ![0, 0] S1024x128.size (by decide)).toLoadRect (h5.unread x3))
        (View.readAt (Elt F) a6.view (Rect.unit (s := S2048x128) ![0, 0] S1024x128.size (by decide)).toLoadRect (h6.unread x4)) from rfl).trans (by simp only [View.readAt_eq_ld, Memref.IsWhole.read_unread])

theorem k_hi : v236 c a3 h3 a5 h5 a6 h6 a8 h8 x1 x3 x4 x6
    = kRows (half3 x1 1024 (by decide)) (whole2 x6) (half2 x3 1024 (by decide)) (half2 x4 1024 (by decide)) :=
  (show _ = kRows (View.readAt (Elt F) a3.view (Rect.unit (s := S1x2048x128) ![0, 1024, 0] S1x1024x128.size (by decide)).toLoadRect (h3.unread x1))
        (View.readAt (Elt F) a8.view (Rect.unit (s := S1x128) ![0, 0] S1x128.size inb_S1x128_S1x128_0_0).toLoadRect (h8.unread x6))
        (View.readAt (Elt F) a5.view (Rect.unit (s := S2048x128) ![1024, 0] S1024x128.size (by decide)).toLoadRect (h5.unread x3))
        (View.readAt (Elt F) a6.view (Rect.unit (s := S2048x128) ![1024, 0] S1024x128.size (by decide)).toLoadRect (h6.unread x4)) from rfl).trans (by simp only [View.readAt_eq_ld, Memref.IsWhole.read_unread])

theorem q0_lo : k0_pay17 v54 (v59 c a5 h5 x3) (v62 c a6 h6 x4) (v128 c a2 h2 a7 h7 x0 x5) v54 64#32
    = qRows .slt (half3 x0 0 (by decide)) (whole2 x5) (half2 x3 0 (by decide)) (half2 x4 0 (by decide)) :=
  (show _ = qRows .slt (View.readAt (Elt F) a2.view (Rect.unit (s := S1x2048x128) ![0, 0, 0] S1x1024x128.size (by decide)).toLoadRect (h2.unread x0))
        (View.readAt (Elt F) a7.view (Rect.unit (s := S1x128) ![0, 0] S1x128.size inb_S1x128_S1x128_0_0).toLoadRect (h7.unread x5))
        (View.readAt (Elt F) a5.view (Rect.unit (s := S2048x128) ![0, 0] S1024x128.size (by decide)).toLoadRect (h5.unread x3))
        (View.readAt (Elt F) a6.view (Rect.unit (s := S2048x128) ![0, 0] S1024x128.size (by decide)).toLoadRect (h6.unread x4)) from rfl).trans (by simp only [View.readAt_eq_ld, Memref.IsWhole.read_unread])

theorem q1_lo : v179 c a2 h2 a5 h5 a6 h6 a7 h7 x0 x3 x4 x5
    = qRows .sge (half3 x0 0 (by decide)) (whole2 x5) (half2 x3 0 (by decide)) (half2 x4 0 (by decide)) :=
  (show _ = qRows .sge (View.readAt (Elt F) a2.view (Rect.unit (s := S1x2048x128) ![0, 0, 0] S1x1024x128.size (by decide)).toLoadRect (h2.unread x0))
        (View.readAt (Elt F) a7.view (Rect.unit (s := S1x128) ![0, 0] S1x128.size inb_S1x128_S1x128_0_0).toLoadRect (h7.unread x5))
        (View.readAt (Elt F) a5.view (Rect.unit (s := S2048x128) ![0, 0] S1024x128.size (by decide)).toLoadRect (h5.unread x3))
        (View.readAt (Elt F) a6.view (Rect.unit (s := S2048x128) ![0, 0] S1024x128.size (by decide)).toLoadRect (h6.unread x4)) from rfl).trans (by simp only [View.readAt_eq_ld, Memref.IsWhole.read_unread])

theorem q0_hi : k0_pay31 v54 (v184 c a5 h5 x3) (v187 c a6 h6 x4) (v253 c a2 h2 a7 h7 x0 x5) (64#32) (remsi v54 v83) v86 0#32
    = qRows .slt (half3 x0 1024 (by decide)) (whole2 x5) (half2 x3 1024 (by decide)) (half2 x4 1024 (by decide)) :=
  (show _ = qRows .slt (View.readAt (Elt F) a2.view (Rect.unit (s := S1x2048x128) ![0, 1024, 0] S1x1024x128.size (by decide)).toLoadRect (h2.unread x0))
        (View.readAt (Elt F) a7.view (Rect.unit (s := S1x128) ![0, 0] S1x128.size inb_S1x128_S1x128_0_0).toLoadRect (h7.unread x5))
        (View.readAt (Elt F) a5.view (Rect.unit (s := S2048x128) ![1024, 0] S1024x128.size (by decide)).toLoadRect (h5.unread x3))
        (View.readAt (Elt F) a6.view (Rect.unit (s := S2048x128) ![1024, 0] S1024x128.size (by decide)).toLoadRect (h6.unread x4)) from rfl).trans (by simp only [View.readAt_eq_ld, Memref.IsWhole.read_unread])

theorem q1_hi : k0_pay32 v54 (v184 c a5 h5 x3) (v187 c a6 h6 x4) (v253 c a2 h2 a7 h7 x0 x5) (64#32) (remsi v54 v83) v86 0#32
    = qRows .sge (half3 x0 1024 (by decide)) (whole2 x5) (half2 x3 1024 (by decide)) (half2 x4 1024 (by decide)) :=
  (show _ = qRows .sge (View.readAt (Elt F) a2.view (Rect.unit (s := S1x2048x128) ![0, 1024, 0] S1x1024x128.size (by decide)).toLoadRect (h2.unread x0))
        (View.readAt (Elt F) a7.view (Rect.unit (s := S1x128) ![0, 0] S1x128.size inb_S1x128_S1x128_0_0).toLoadRect (h7.unread x5))
        (View.readAt (Elt F) a5.view (Rect.unit (s := S2048x128) ![1024, 0] S1024x128.size (by decide)).toLoadRect (h5.unread x3))
        (View.readAt (Elt F) a6.view (Rect.unit (s := S2048x128) ![1024, 0] S1024x128.size (by decide)).toLoadRect (h6.unread x4)) from rfl).trans (by simp only [View.readAt_eq_ld, Memref.IsWhole.read_unread])

theorem load_v332 : v332 c a3 h3 a5 h5 a6 h6 a8 h8 a15 x1 x3 x4 x6 = sub (size := S1024x128.size) (size' := S512x128.size) ![0, 0] (v111 c a3 h3 a5 h5 a6 h6 a8 h8 x1 x3 x4 x6) (by decide) := by
  unfold v332 HS0_2
  exact (readCov_skip' a15.view _ _ _ _ ⟨0, by decide⟩).trans (readCov_box a15.view ![0, 0] _ _ _ _ (by decide) (by decide))

theorem load_v580 : v580 c a3 h3 a5 h5 a6 h6 a8 h8 a15 x1 x3 x4 x6 = sub (size := S1024x128.size) (size' := S512x128.size) ![512, 0] (v111 c a3 h3 a5 h5 a6 h6 a8 h8 x1 x3 x4 x6) (by decide) := by
  unfold v580 HS0_2
  exact (readCov_skip' a15.view _ _ _ _ ⟨0, by decide⟩).trans (readCov_box a15.view ![512, 0] _ _ _ _ (by decide) (by decide))

theorem load_v955 : v955 c a3 h3 a5 h5 a6 h6 a8 h8 a15 x1 x3 x4 x6 = sub (size := S1024x128.size) (size' := S512x128.size) ![0, 0] (v236 c a3 h3 a5 h5 a6 h6 a8 h8 x1 x3 x4 x6) (by decide) := by
  unfold v955 HS0_2
  exact readCov_box a15.view ![0, 0] _ _ _ _ (by decide) (by decide)

theorem load_v1457 : v1457 c a3 h3 a5 h5 a6 h6 a8 h8 a15 x1 x3 x4 x6 = sub (size := S1024x128.size) (size' := S512x128.size) ![512, 0] (v236 c a3 h3 a5 h5 a6 h6 a8 h8 x1 x3 x4 x6) (by decide) := by
  unfold v1457 HS0_2
  exact readCov_box a15.view ![512, 0] _ _ _ _ (by decide) (by decide)

theorem load_v650 : v650 c a3 h3 a5 h5 a6 h6 a8 h8 a15 x1 x3 x4 x6 = sub (size := S1024x128.size) (size' := S512x128.size) ![0, 0] (v111 c a3 h3 a5 h5 a6 h6 a8 h8 x1 x3 x4 x6) (by decide) := by
  unfold v650 HS0_2
  exact (readCov_skip' a15.view _ _ _ _ ⟨0, by decide⟩).trans (readCov_box a15.view ![0, 0] _ _ _ _ (by decide) (by decide))

theorem load_v1069 : v1069 c a3 h3 a5 h5 a6 h6 a8 h8 a15 x1 x3 x4 x6 = sub (size := S1024x128.size) (size' := S512x128.size) ![512, 0] (v111 c a3 h3 a5 h5 a6 h6 a8 h8 x1 x3 x4 x6) (by decide) := by
  unfold v1069 HS0_2
  exact (readCov_skip' a15.view _ _ _ _ ⟨0, by decide⟩).trans (readCov_box a15.view ![512, 0] _ _ _ _ (by decide) (by decide))

theorem load_v1615 : v1615 c a3 h3 a5 h5 a6 h6 a8 h8 a15 x1 x3 x4 x6 = sub (size := S1024x128.size) (size' := S512x128.size) ![0, 0] (v236 c a3 h3 a5 h5 a6 h6 a8 h8 x1 x3 x4 x6) (by decide) := by
  unfold v1615 HS0_2
  exact readCov_box a15.view ![0, 0] _ _ _ _ (by decide) (by decide)

theorem load_v333 : v333 c a2 h2 a5 h5 a6 h6 a7 h7 a16 x0 x3 x4 x5 = sub (size := S1x1024x128.size) (size' := S1x512x128.size) ![0, 0, 0] (k0_pay17 v54 (v59 c a5 h5 x3) (v62 c a6 h6 x4) (v128 c a2 h2 a7 h7 x0 x5) v54 64#32) (by decide) := by
  unfold v333 HS1_4
  exact (readCov_skip' a16.view _ _ _ _ ⟨0, by decide⟩).trans <| (readCov_skip' a16.view _ _ _ _ ⟨1, by decide⟩).trans <| (readCov_skip' a16.view _ _ _ _ ⟨0, by decide⟩).trans <| readCov_box a16.view ![0, 0, 0] _ _ _ _ (by decide) (by decide)

theorem load_v366 : v366 c a2 h2 a5 h5 a6 h6 a7 h7 a16 x0 x3 x4 x5 = sub (size := S1x1024x128.size) (size' := S1x512x128.size) ![0, 0, 0] (v179 c a2 h2 a5 h5 a6 h6 a7 h7 x0 x3 x4 x5) (by decide) := by
  unfold v366 HS1_4
  exact (readCov_skip' a16.view _ _ _ _ ⟨1, by decide⟩).trans <| (readCov_skip' a16.view _ _ _ _ ⟨0, by decide⟩).trans <| readCov_box a16.view ![0, 0, 0] _ _ _ _ (by decide) (by decide)

theorem load_v581 : v581 c a2 h2 a5 h5 a6 h6 a7 h7 a16 x0 x3 x4 x5 = sub (size := S1x1024x128.size) (size' := S1x512x128.size) ![0, 512, 0] (k0_pay17 v54 (v59 c a5 h5 x3) (v62 c a6 h6 x4) (v128 c a2 h2 a7 h7 x0 x5) v54 64#32) (by decide) := by
  unfold v581 HS1_4
  exact (readCov_skip' a16.view _ _ _ _ ⟨0, by decide⟩).trans <| (readCov_skip' a16.view _ _ _ _ ⟨1, by decide⟩).trans <| (readCov_skip' a16.view _ _ _ _ ⟨0, by decide⟩).trans <| readCov_box a16.view ![0, 512, 0] _ _ _ _ (by decide) (by decide)

theorem load_v614 : v614 c a2 h2 a5 h5 a6 h6 a7 h7 a16 x0 x3 x4 x5 = sub (size := S1x1024x128.size) (size' := S1x512x128.size) ![0, 512, 0] (v179 c a2 h2 a5 h5 a6 h6 a7 h7 x0 x3 x4 x5) (by decide) := by
  unfold v614 HS1_4
  exact (readCov_skip' a16.view _ _ _ _ ⟨1, by decide⟩).trans <| (readCov_skip' a16.view _ _ _ _ ⟨0, by decide⟩).trans <| readCov_box a16.view ![0, 512, 0] _ _ _ _ (by decide) (by decide)

theorem load_v956 : v956 c a2 h2 a5 h5 a6 h6 a7 h7 a16 x0 x3 x4 x5 = sub (size := S1x1024x128.size) (size' := S1x512x128.size) ![0, 0, 0] (k0_pay31 v54 (v184 c a5 h5 x3) (v187 c a6 h6 x4) (v253 c a2 h2 a7 h7 x0 x5) (64#32) (remsi v54 v83) v86 0#32) (by decide) := by
  unfold v956 HS1_4
  exact (readCov_skip' a16.view _ _ _ _ ⟨0, by decide⟩).trans <| readCov_box a16.view ![0, 0, 0] _ _ _ _ (by decide) (by decide)

theorem load_v989 : v989 c a2 h2 a5 h5 a6 h6 a7 h7 a16 x0 x3 x4 x5 = sub (size := S1x1024x128.size) (size' := S1x512x128.size) ![0, 0, 0] (k0_pay32 v54 (v184 c a5 h5 x3) (v187 c a6 h6 x4) (v253 c a2 h2 a7 h7 x0 x5) (64#32) (remsi v54 v83) v86 0#32) (by decide) := by
  unfold v989 HS1_4
  exact readCov_box a16.view ![0, 0, 0] _ _ _ _ (by decide) (by decide)

theorem load_v1458 : v1458 c a2 h2 a5 h5 a6 h6 a7 h7 a16 x0 x3 x4 x5 = sub (size := S1x1024x128.size) (size' := S1x512x128.size) ![0, 512, 0] (k0_pay31 v54 (v184 c a5 h5 x3) (v187 c a6 h6 x4) (v253 c a2 h2 a7 h7 x0 x5) (64#32) (remsi v54 v83) v86 0#32) (by decide) := by
  unfold v1458 HS1_4
  exact (readCov_skip' a16.view _ _ _ _ ⟨0, by decide⟩).trans <| readCov_box a16.view ![0, 512, 0] _ _ _ _ (by decide) (by decide)

theorem load_v1491 : v1491 c a2 h2 a5 h5 a6 h6 a7 h7 a16 x0 x3 x4 x5 = sub (size := S1x1024x128.size) (size' := S1x512x128.size) ![0, 512, 0] (k0_pay32 v54 (v184 c a5 h5 x3) (v187 c a6 h6 x4) (v253 c a2 h2 a7 h7 x0 x5) (64#32) (remsi v54 v83) v86 0#32) (by decide) := by
  unfold v1491 HS1_4
  exact readCov_box a16.view ![0, 512, 0] _ _ _ _ (by decide) (by decide)

end
end Cert.AttnIdeal.Tile
-- ==== Proof.Attn.Head.lean ====
/-
  A HEAD'S ROWS. Each of the four stores of the result holds, for its 512 rows, the difference of two means of the values over
  the keys up to the row, normed over the head.
-/
module

public import proofs.«01_k».proof.Proof.Attn.Leaves
public import Idealize.ShloMosaic.Lib.Pipeline.ValueKit

@[expose] public section

set_option maxRecDepth 16384

namespace Cert.AttnIdeal.Tile

open Cert.AttnIdeal Cert.AttnIdeal.Gen Cert.AttnIdeal.Gen.kernelRun0_A Cert.AttnIdeal.Gen.kernelRun0_A.sl Idealize.ShloMosaic
open Finset (range)

/-- The rows from `o` on. -/
def T (A : ℕ → ℕ → ℝ) (o : ℕ) : ℕ → ℕ → ℝ := fun r d => A (o + r) d

theorem T_row (A : ℕ → ℕ → ℝ) (o r : ℕ) : T A o r = A (o + r) := rfl

/-- A weighted sum over the keys up to the row. -/
noncomputable def upTo (Q K : ℕ → ℕ → ℝ) (i : ℕ) (f : ℕ → ℝ) : ℝ :=
  ∑ j ∈ range 2048, if j ≤ i then Real.rpow 2 (score Q K i j) * f j else 0

theorem upTo_blocks (Q K : ℕ → ℕ → ℝ) (i : ℕ) (f : ℕ → ℝ) : upTo Q K i f
    = (∑ c ∈ range 512, if c ≤ i then Real.rpow 2 (score Q K i c) * f c else 0)
      + (∑ c ∈ range 512, if 512 + c ≤ i then Real.rpow 2 (score Q K i (512 + c)) * f (512 + c) else 0)
      + (∑ c ∈ range 512, if 1024 + c ≤ i then Real.rpow 2 (score Q K i (1024 + c)) * f (1024 + c) else 0)
      + (∑ c ∈ range 512, if 1536 + c ≤ i then Real.rpow 2 (score Q K i (1536 + c)) * f (1536 + c) else 0) := by
  unfold upTo
  rw [show 2048 = 512 + 512 + 512 + 512 from rfl, Finset.sum_range_add, Finset.sum_range_add, Finset.sum_range_add]

theorem sum_full {o i : ℕ} (h : o + 512 ≤ i + 1) (g : ℕ → ℝ) : (∑ c ∈ range 512, if o + c ≤ i then g c else 0) = ∑ c ∈ range 512, g c :=
  Finset.sum_congr rfl fun c hc => if_pos (by have := Finset.mem_range.1 hc; omega)

theorem sum_none {o i : ℕ} (h : i < o) (g : ℕ → ℝ) : (∑ c ∈ range 512, if o + c ≤ i then g c else 0) = 0 :=
  Finset.sum_eq_zero fun c _ => if_neg (by omega)

theorem sum_own (o r : ℕ) (g : ℕ → ℝ) : (∑ c ∈ range 512, if o + c ≤ o + r then g c else 0) = ∑ c ∈ range 512, if c ≤ r then g c else 0 :=
  Finset.sum_congr rfl fun c _ => by simp only [Nat.add_le_add_iff_left]

section
variable (Q K V : ℕ → ℕ → ℝ) (f : ℕ → ℝ) (g : ((ℕ → ℕ → ℝ) × (ℕ → ℕ → ℝ)) → ℕ → ℝ)

theorem keys_0  (r : ℕ) (hr : r < 512) :
    keys (T Q 0) (T K 0) [] r (fun c => f (0 + c)) g = upTo Q K (0 + r) f := by
  rw [upTo_blocks]
  have z : (∑ c ∈ range 512, if c ≤ 0 + r then Real.rpow 2 (score Q K (0 + r) c) * f c else 0)
      = ∑ c ∈ range 512, if 0 + c ≤ 0 + r then Real.rpow 2 (score Q K (0 + r) (0 + c)) * f (0 + c) else 0 := by simp only [Nat.zero_add]
  rw [z]
  rw [sum_own 0 r (fun c => Real.rpow 2 (score Q K (0 + r) (0 + c)) * f (0 + c))]
  rw [sum_none (o := 512) (by omega) (fun c => Real.rpow 2 (score Q K (0 + r) (512 + c)) * f (512 + c))]
  rw [sum_none (o := 1024) (by omega) (fun c => Real.rpow 2 (score Q K (0 + r) (1024 + c)) * f (1024 + c))]
  rw [sum_none (o := 1536) (by omega) (fun c => Real.rpow 2 (score Q K (0 + r) (1536 + c)) * f (1536 + c))]
  unfold keys
  simp only [List.map_cons, List.map_nil, List.sum_cons, List.sum_nil]
  simp only [score, T]
  ring

theorem keys_1 (g0 : ∀ c, g (T K 0, T V 0) c = f (0 + c)) (r : ℕ) (hr : r < 512) :
    keys (T Q 512) (T K 512) [(T K 0, T V 0)] r (fun c => f (512 + c)) g = upTo Q K (512 + r) f := by
  rw [upTo_blocks]
  have z : (∑ c ∈ range 512, if c ≤ 512 + r then Real.rpow 2 (score Q K (512 + r) c) * f c else 0)
      = ∑ c ∈ range 512, if 0 + c ≤ 512 + r then Real.rpow 2 (score Q K (512 + r) (0 + c)) * f (0 + c) else 0 := by simp only [Nat.zero_add]
  rw [z]
  rw [sum_full (o := 0) (by omega) (fun c => Real.rpow 2 (score Q K (512 + r) (0 + c)) * f (0 + c))]
  rw [sum_own 512 r (fun c => Real.rpow 2 (score Q K (512 + r) (512 + c)) * f (512 + c))]
  rw [sum_none (o := 1024) (by omega) (fun c => Real.rpow 2 (score Q K (512 + r) (1024 + c)) * f (1024 + c))]
  rw [sum_none (o := 1536) (by omega) (fun c => Real.rpow 2 (score Q K (512 + r) (1536 + c)) * f (1536 + c))]
  unfold keys
  simp only [List.map_cons, List.map_nil, List.sum_cons, List.sum_nil, g0]
  simp only [score, T]
  ring

theorem keys_2 (g0 : ∀ c, g (T K 0, T V 0) c = f (0 + c)) (g1 : ∀ c, g (T K 512, T V 512) c = f (512 + c)) (r : ℕ) (hr : r < 512) :
    keys (T Q 1024) (T K 1024) [(T K 0, T V 0), (T K 512, T V 512)] r (fun c => f (1024 + c)) g = upTo Q K (1024 + r) f := by
  rw [upTo_blocks]
  have z : (∑ c ∈ range 512, if c ≤ 1024 + r then Real.rpow 2 (score Q K (1024 + r) c) * f c else 0)
      = ∑ c ∈ range 512, if 0 + c ≤ 1024 + r then Real.rpow 2 (score Q K (1024 + r) (0 + c)) * f (0 + c) else 0 := by simp only [Nat.zero_add]
  rw [z]
  rw [sum_full (o := 0) (by omega) (fun c => Real.rpow 2 (score Q K (1024 + r) (0 + c)) * f (0 + c))]
  rw [sum_full (o := 512) (by omega) (fun c => Real.rpow 2 (score Q K (1024 + r) (512 + c)) * f (512 + c))]
  rw [sum_own 1024 r (fun c => Real.rpow 2 (score Q K (1024 + r) (1024 + c)) * f (1024 + c))]
  rw [sum_none (o := 1536) (by omega) (fun c => Real.rpow 2 (score Q K (1024 + r) (1536 + c)) * f (1536 + c))]
  unfold keys
  simp only [List.map_cons, List.map_nil, List.sum_cons, List.sum_nil, g0, g1]
  simp only [score, T]
  ring

theorem keys_3 (g0 : ∀ c, g (T K 0, T V 0) c = f (0 + c)) (g1 : ∀ c, g (T K 512, T V 512) c = f (512 + c)) (g2 : ∀ c, g (T K 1024, T V 1024) c = f (1024 + c)) (r : ℕ) (hr : r < 512) :
    keys (T Q 1536) (T K 1536) [(T K 0, T V 0), (T K 512, T V 512), (T K 1024, T V 1024)] r (fun c => f (1536 + c)) g = upTo Q K (1536 + r) f := by
  rw [upTo_blocks]
  have z : (∑ c ∈ range 512, if c ≤ 1536 + r then Real.rpow 2 (score Q K (1536 + r) c) * f c else 0)
      = ∑ c ∈ range 512, if 0 + c ≤ 1536 + r then Real.rpow 2 (score Q K (1536 + r) (0 + c)) * f (0 + c) else 0 := by simp only [Nat.zero_add]
  rw [z]
  rw [sum_full (o := 0) (by omega) (fun c => Real.rpow 2 (score Q K (1536 + r) (0 + c)) * f (0 + c))]
  rw [sum_full (o := 512) (by omega) (fun c => Real.rpow 2 (score Q K (1536 + r) (512 + c)) * f (512 + c))]
  rw [sum_full (o := 1024) (by omega) (fun c => Real.rpow 2 (score Q K (1536 + r) (1024 + c)) * f (1024 + c))]
  rw [sum_own 1536 r (fun c => Real.rpow 2 (score Q K (1536 + r) (1536 + c)) * f (1536 + c))]
  unfold keys
  simp only [List.map_cons, List.map_nil, List.sum_cons, List.sum_nil, g0, g1, g2]
  simp only [score, T]
  ring

/-- A mean of the values over the keys up to the row. -/
noncomputable def meanR (Q K V : ℕ → ℕ → ℝ) (i x : ℕ) : ℝ := upTo Q K i (fun j => V j x) / upTo Q K i fun _ => 1

end

section
variable {F : FTy → Type} [FloatOps F]

theorem sub2 {α : Type} (d : ℕ) (w : S1024x128.Idx → α) (h : ∀ a, (![d, 0] : Fin 2 → ℕ) a + S512x128.size a ≤ S1024x128.size a) (hd : d ≤ 512) (r : Fin 512) (l : Fin 128) :
    sub (size := S1024x128.size) (size' := S512x128.size) ![d, 0] w h (ix2 r l) = w (ix2 (⟨d + r.val, by omega⟩ : Fin 1024) l) := by
  unfold sub
  congr 1
  funext a
  fin_cases a
  · rfl
  · exact Fin.ext (Nat.zero_add _)

theorem sub3 {α : Type} (d : ℕ) (w : S1x1024x128.Idx → α) (h : ∀ a, (![0, d, 0] : Fin 3 → ℕ) a + S1x512x128.size a ≤ S1x1024x128.size a) (hd : d ≤ 512) (r : Fin 512) (l : Fin 128) :
    sub (size := S1x1024x128.size) (size' := S1x512x128.size) ![0, d, 0] w h (ix3 (0 : Fin 1) r l) = w (ix3 (0 : Fin 1) (⟨d + r.val, by omega⟩ : Fin 1024) l) := by
  unfold sub
  congr 1
  funext a
  fin_cases a
  · rfl
  · rfl
  · exact Fin.ext (Nat.zero_add _)

end

section
variable (c : Dev nD) (a2 : Memref sig .tc .vmem S1x2048x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S2048x128 .f32) (h5 : a5.IsWhole) (a6 : Memref sig .tc .vmem S2048x128 .f32) (h6 : a6.IsWhole) (a7 : Memref sig .tc .vmem S1x128 .f32) (h7 : a7.IsWhole) (a8 : Memref sig .tc .vmem S1x128 .f32) (h8 : a8.IsWhole) (a9 : Memref sig .tc .vmem S1x64 .f32) (h9 : a9.IsWhole) (a10 : Memref sig .tc .vmem S1x64 .f32) (h10 : a10.IsWhole) (a11 : Memref sig .tc .vmem S1x64 .f32) (h11 : a11.IsWhole) (a12 : Memref sig .tc .vmem S1x64 .f32) (h12 : a12.IsWhole) (a13 : Memref sig .tc .vmem S1x128 .f32) (h13 : a13.IsWhole) (a14 : Memref sig .tc .vmem S1x2048x128 .bf16) (a15 : Memref sig .tc .vmem S2048x128 .bf16) (a16 : Memref sig .tc .vmem S2x2048x128 .bf16) (a17 : Memref sig .tc .vmem S2x3x512x512 .f32) (a18 : Memref sig .tc .vmem S2x512x512 .f32) (a19 : Memref sig .tc .vmem S4x512x128 .f32) (a20 : Memref sig .tc .vmem S2x512x128 .f32)
    (x0 : Vec Ideal S1x2048x128 .bf16) (x1 : Vec Ideal S1x2048x128 .bf16) (x2 : Vec Ideal S1x2048x128 .bf16) (x3 : Vec Ideal S2048x128 .f32) (x4 : Vec Ideal S2048x128 .f32) (x5 : Vec Ideal S1x128 .f32) (x6 : Vec Ideal S1x128 .f32) (x7 : Vec Ideal S1x64 .f32) (x8 : Vec Ideal S1x64 .f32) (x9 : Vec Ideal S1x64 .f32) (x10 : Vec Ideal S1x64 .f32) (x11 : Vec Ideal S1x128 .f32)
variable {X0 X1 X2 C S : ℕ → ℕ → ℝ} {W5 W6 : ℕ → ℝ}

theorem half3_real {x : Vec Ideal S1x2048x128 .bf16} {X : ℕ → ℕ → ℝ} (hx : ∀ (r : Fin 2048) (l : Fin 128), x (ix3 (0 : Fin 1) r l) = ((X r.val l.val : ℝ) : EReal))
    (o : ℕ) (h) (r : Fin 1024) (l : Fin 128) : half3 x o h (ix3 (0 : Fin 1) r l) = ((T X o r.val l.val : ℝ) : EReal) := by
  have e : o + r.val < 2048 := by have := h 1; have := r.isLt; simp [S1x1024x128, S1x2048x128] at *; omega
  refine Eq.trans ?_ (hx ⟨o + r.val, e⟩ l)
  rw [half3, View.ld_apply]
  congr 1
  funext a
  refine Fin.ext ?_
  rw [Rect.idx_unit_val]
  fin_cases a <;> simp

theorem half2_real {x : Vec Ideal S2048x128 .f32} {X : ℕ → ℕ → ℝ} (hx : ∀ (r : Fin 2048) (l : Fin 128), x (ix2 r l) = ((X r.val l.val : ℝ) : EReal))
    (o : ℕ) (h) (r : Fin 1024) (l : Fin 128) : half2 x o h (ix2 r l) = ((T X o r.val l.val : ℝ) : EReal) := by
  have e : o + r.val < 2048 := by have := h 0; have := r.isLt; simp [S1024x128, S2048x128] at *; omega
  refine Eq.trans ?_ (hx ⟨o + r.val, e⟩ l)
  rw [half2, View.ld_apply]
  congr 1
  funext a
  refine Fin.ext ?_
  rw [Rect.idx_unit_val]
  fin_cases a <;> simp

theorem whole2_eq (x : Vec Ideal S1x128 .f32) : whole2 x = x := View.ld_unit_zero (by funext a; fin_cases a <;> rfl) _ x

/-- The rows of rotated keys. -/
noncomputable def kR (X1 : ℕ → ℕ → ℝ) (W6 : ℕ → ℝ) (C S : ℕ → ℕ → ℝ) (i l : ℕ) : ℝ := rowR (X1 i) W6 (C i) (S i) l

/-- The rows of rotated, scaled queries, the lanes outside the group zero. -/
noncomputable def qR (p : CmpIPredicate) (X0 : ℕ → ℕ → ℝ) (W5 : ℕ → ℝ) (C S : ℕ → ℕ → ℝ) (i l : ℕ) : ℝ :=
  if IntOp.cmpi p (BitVec.ofNat 32 l) 64#32 = 1#1 then rowR (X0 i) W5 (C i) (S i) l * scaleR else 0

variable (g0 : ∀ (r : Fin 2048) (l : Fin 128), x0 (ix3 (0 : Fin 1) r l) = ((X0 r.val l.val : ℝ) : EReal))
  (g1 : ∀ (r : Fin 2048) (l : Fin 128), x1 (ix3 (0 : Fin 1) r l) = ((X1 r.val l.val : ℝ) : EReal))
  (g2 : ∀ (r : Fin 2048) (l : Fin 128), x2 (ix3 (0 : Fin 1) r l) = ((X2 r.val l.val : ℝ) : EReal))
  (g3 : ∀ (r : Fin 2048) (l : Fin 128), x3 (ix2 r l) = ((C r.val l.val : ℝ) : EReal))
  (g4 : ∀ (r : Fin 2048) (l : Fin 128), x4 (ix2 r l) = ((S r.val l.val : ℝ) : EReal))
  (g5 : ∀ l : Fin 128, x5 (ix2 (0 : Fin 1) l) = ((W5 l.val : ℝ) : EReal))
  (g6 : ∀ l : Fin 128, x6 (ix2 (0 : Fin 1) l) = ((W6 l.val : ℝ) : EReal))
include g3 g4

include g1 g6 in
theorem rel_v332 : Rel (v332 c a3 h3 a5 h5 a6 h6 a8 h8 a15 x1 x3 x4 x6) (T (kR X1 W6 C S) 0) := by
  intro r l
  rw [load_v332, sub2 0 _ _ (by decide), k_lo, kRows_real (half3_real g1 0 (by decide)) (by rw [whole2_eq]; exact g6) (half2_real g3 0 (by decide)) (half2_real g4 0 (by decide))]
  simp only [T_row, kR, ← Nat.add_assoc, Nat.zero_add, Nat.reduceAdd]

include g1 g6 in
theorem rel_v580 : Rel (v580 c a3 h3 a5 h5 a6 h6 a8 h8 a15 x1 x3 x4 x6) (T (kR X1 W6 C S) 512) := by
  intro r l
  rw [load_v580, sub2 512 _ _ (by decide), k_lo, kRows_real (half3_real g1 0 (by decide)) (by rw [whole2_eq]; exact g6) (half2_real g3 0 (by decide)) (half2_real g4 0 (by decide))]
  simp only [T_row, kR, ← Nat.add_assoc, Nat.zero_add, Nat.reduceAdd]

include g1 g6 in
theorem rel_v955 : Rel (v955 c a3 h3 a5 h5 a6 h6 a8 h8 a15 x1 x3 x4 x6) (T (kR X1 W6 C S) 1024) := by
  intro r l
  rw [load_v955, sub2 0 _ _ (by decide), k_hi, kRows_real (half3_real g1 1024 (by decide)) (by rw [whole2_eq]; exact g6) (half2_real g3 1024 (by decide)) (half2_real g4 1024 (by decide))]
  simp only [T_row, kR, ← Nat.add_assoc, Nat.zero_add, Nat.reduceAdd]

include g1 g6 in
theorem rel_v1457 : Rel (v1457 c a3 h3 a5 h5 a6 h6 a8 h8 a15 x1 x3 x4 x6) (T (kR X1 W6 C S) 1536) := by
  intro r l
  rw [load_v1457, sub2 512 _ _ (by decide), k_hi, kRows_real (half3_real g1 1024 (by decide)) (by rw [whole2_eq]; exact g6) (half2_real g3 1024 (by decide)) (half2_real g4 1024 (by decide))]
  simp only [T_row, kR, ← Nat.add_assoc, Nat.zero_add, Nat.reduceAdd]

include g1 g6 in
theorem rel_v650 : Rel (v650 c a3 h3 a5 h5 a6 h6 a8 h8 a15 x1 x3 x4 x6) (T (kR X1 W6 C S) 0) := by
  intro r l
  rw [load_v650, sub2 0 _ _ (by decide), k_lo, kRows_real (half3_real g1 0 (by decide)) (by rw [whole2_eq]; exact g6) (half2_real g3 0 (by decide)) (half2_real g4 0 (by decide))]
  simp only [T_row, kR, ← Nat.add_assoc, Nat.zero_add, Nat.reduceAdd]

include g1 g6 in
theorem rel_v1069 : Rel (v1069 c a3 h3 a5 h5 a6 h6 a8 h8 a15 x1 x3 x4 x6) (T (kR X1 W6 C S) 512) := by
  intro r l
  rw [load_v1069, sub2 512 _ _ (by decide), k_lo, kRows_real (half3_real g1 0 (by decide)) (by rw [whole2_eq]; exact g6) (half2_real g3 0 (by decide)) (half2_real g4 0 (by decide))]
  simp only [T_row, kR, ← Nat.add_assoc, Nat.zero_add, Nat.reduceAdd]

include g1 g6 in
theorem rel_v1615 : Rel (v1615 c a3 h3 a5 h5 a6 h6 a8 h8 a15 x1 x3 x4 x6) (T (kR X1 W6 C S) 1024) := by
  intro r l
  rw [load_v1615, sub2 0 _ _ (by decide), k_hi, kRows_real (half3_real g1 1024 (by decide)) (by rw [whole2_eq]; exact g6) (half2_real g3 1024 (by decide)) (half2_real g4 1024 (by decide))]
  simp only [T_row, kR, ← Nat.add_assoc, Nat.zero_add, Nat.reduceAdd]

include g0 g5 in
theorem rel_v333 (r : Fin 512) (l : Fin 128) : (v333 c a2 h2 a5 h5 a6 h6 a7 h7 a16 x0 x3 x4 x5) (ix3 (0 : Fin 1) r l) = ((T (qR .slt X0 W5 C S) 0 r.val l.val : ℝ) : EReal) := by
  rw [load_v333, sub3 0 _ _ (by decide), q0_lo, qRows_real .slt (half3_real g0 0 (by decide)) (by rw [whole2_eq]; exact g5) (half2_real g3 0 (by decide)) (half2_real g4 0 (by decide))]
  simp only [T_row, qR, ← Nat.add_assoc, Nat.zero_add, Nat.reduceAdd]

include g0 g5 in
theorem rel_v366 (r : Fin 512) (l : Fin 128) : (v366 c a2 h2 a5 h5 a6 h6 a7 h7 a16 x0 x3 x4 x5) (ix3 (0 : Fin 1) r l) = ((T (qR .sge X0 W5 C S) 0 r.val l.val : ℝ) : EReal) := by
  rw [load_v366, sub3 0 _ _ (by decide), q1_lo, qRows_real .sge (half3_real g0 0 (by decide)) (by rw [whole2_eq]; exact g5) (half2_real g3 0 (by decide)) (half2_real g4 0 (by decide))]
  simp only [T_row, qR, ← Nat.add_assoc, Nat.zero_add, Nat.reduceAdd]

include g0 g5 in
theorem rel_v581 (r : Fin 512) (l : Fin 128) : (v581 c a2 h2 a5 h5 a6 h6 a7 h7 a16 x0 x3 x4 x5) (ix3 (0 : Fin 1) r l) = ((T (qR .slt X0 W5 C S) 512 r.val l.val : ℝ) : EReal) := by
  rw [load_v581, sub3 512 _ _ (by decide), q0_lo, qRows_real .slt (half3_real g0 0 (by decide)) (by rw [whole2_eq]; exact g5) (half2_real g3 0 (by decide)) (half2_real g4 0 (by decide))]
  simp only [T_row, qR, ← Nat.add_assoc, Nat.zero_add, Nat.reduceAdd]

include g0 g5 in
theorem rel_v614 (r : Fin 512) (l : Fin 128) : (v614 c a2 h2 a5 h5 a6 h6 a7 h7 a16 x0 x3 x4 x5) (ix3 (0 : Fin 1) r l) = ((T (qR .sge X0 W5 C S) 512 r.val l.val : ℝ) : EReal) := by
  rw [load_v614, sub3 512 _ _ (by decide), q1_lo, qRows_real .sge (half3_real g0 0 (by decide)) (by rw [whole2_eq]; exact g5) (half2_real g3 0 (by decide)) (half2_real g4 0 (by decide))]
  simp only [T_row, qR, ← Nat.add_assoc, Nat.zero_add, Nat.reduceAdd]

include g0 g5 in
theorem rel_v956 (r : Fin 512) (l : Fin 128) : (v956 c a2 h2 a5 h5 a6 h6 a7 h7 a16 x0 x3 x4 x5) (ix3 (0 : Fin 1) r l) = ((T (qR .slt X0 W5 C S) 1024 r.val l.val : ℝ) : EReal) := by
  rw [load_v956, sub3 0 _ _ (by decide), q0_hi, qRows_real .slt (half3_real g0 1024 (by decide)) (by rw [whole2_eq]; exact g5) (half2_real g3 1024 (by decide)) (half2_real g4 1024 (by decide))]
  simp only [T_row, qR, ← Nat.add_assoc, Nat.zero_add, Nat.reduceAdd]

include g0 g5 in
theorem rel_v989 (r : Fin 512) (l : Fin 128) : (v989 c a2 h2 a5 h5 a6 h6 a7 h7 a16 x0 x3 x4 x5) (ix3 (0 : Fin 1) r l) = ((T (qR .sge X0 W5 C S) 1024 r.val l.val : ℝ) : EReal) := by
  rw [load_v989, sub3 0 _ _ (by decide), q1_hi, qRows_real .sge (half3_real g0 1024 (by decide)) (by rw [whole2_eq]; exact g5) (half2_real g3 1024 (by decide)) (half2_real g4 1024 (by decide))]
  simp only [T_row, qR, ← Nat.add_assoc, Nat.zero_add, Nat.reduceAdd]

include g0 g5 in
theorem rel_v1458 (r : Fin 512) (l : Fin 128) : (v1458 c a2 h2 a5 h5 a6 h6 a7 h7 a16 x0 x3 x4 x5) (ix3 (0 : Fin 1) r l) = ((T (qR .slt X0 W5 C S) 1536 r.val l.val : ℝ) : EReal) := by
  rw [load_v1458, sub3 512 _ _ (by decide), q0_hi, qRows_real .slt (half3_real g0 1024 (by decide)) (by rw [whole2_eq]; exact g5) (half2_real g3 1024 (by decide)) (half2_real g4 1024 (by decide))]
  simp only [T_row, qR, ← Nat.add_assoc, Nat.zero_add, Nat.reduceAdd]

include g0 g5 in
theorem rel_v1491 (r : Fin 512) (l : Fin 128) : (v1491 c a2 h2 a5 h5 a6 h6 a7 h7 a16 x0 x3 x4 x5) (ix3 (0 : Fin 1) r l) = ((T (qR .sge X0 W5 C S) 1536 r.val l.val : ℝ) : EReal) := by
  rw [load_v1491, sub3 512 _ _ (by decide), q1_hi, qRows_real .sge (half3_real g0 1024 (by decide)) (by rw [whole2_eq]; exact g5) (half2_real g3 1024 (by decide)) (half2_real g4 1024 (by decide))]
  simp only [T_row, qR, ← Nat.add_assoc, Nat.zero_add, Nat.reduceAdd]

omit g3 g4

include g2 in
theorem rel_v418 : Rel (v418 c a4 h4 x2) (T X2 0) := by
  intro r l
  have e : v418 c a4 h4 x2 = shapeCast S512x128 (View.readAt (Elt Ideal) a4.view (Rect.unit (s := S1x2048x128) ![0, 0, 0] S1x512x128.size (by decide)).toLoadRect (h4.unread x2)) shapeCasts_S1x512x128_S512x128 := rfl
  rw [e, View.readAt_eq_ld, Memref.IsWhole.read_unread]
  pointwise
  rw [g2]
  simp only [T_row, Nat.zero_add]

include g2 in
theorem rel_v710 : Rel (v710 c a4 h4 x2) (T X2 512) := by
  intro r l
  have e : v710 c a4 h4 x2 = shapeCast S512x128 (View.readAt (Elt Ideal) a4.view (Rect.unit (s := S1x2048x128) ![0, 512, 0] S1x512x128.size (by decide)).toLoadRect (h4.unread x2)) shapeCasts_S1x512x128_S512x128 := rfl
  rw [e, View.readAt_eq_ld, Memref.IsWhole.read_unread]
  pointwise
  rw [g2]
  simp only [T_row, Nat.zero_add]

include g2 in
theorem rel_v1129 : Rel (v1129 c a4 h4 x2) (T X2 1024) := by
  intro r l
  have e : v1129 c a4 h4 x2 = shapeCast S512x128 (View.readAt (Elt Ideal) a4.view (Rect.unit (s := S1x2048x128) ![0, 1024, 0] S1x512x128.size (by decide)).toLoadRect (h4.unread x2)) shapeCasts_S1x512x128_S512x128 := rfl
  rw [e, View.readAt_eq_ld, Memref.IsWhole.read_unread]
  pointwise
  rw [g2]
  simp only [T_row, Nat.zero_add]

include g2 in
theorem rel_v1675 : Rel (v1675 c a4 h4 x2) (T X2 1536) := by
  intro r l
  have e : v1675 c a4 h4 x2 = shapeCast S512x128 (View.readAt (Elt Ideal) a4.view (Rect.unit (s := S1x2048x128) ![0, 1536, 0] S1x512x128.size (by decide)).toLoadRect (h4.unread x2)) shapeCasts_S1x512x128_S512x128 := rfl
  rw [e, View.readAt_eq_ld, Memref.IsWhole.read_unread]
  pointwise
  rw [g2]
  simp only [T_row, Nat.zero_add]

include g2 in
theorem rel_v837 : Rel (v837 c a4 h4 x2) (T X2 0) := by
  intro r l
  have e : v837 c a4 h4 x2 = shapeCast S512x128 (View.readAt (Elt Ideal) a4.view (Rect.unit (s := S1x2048x128) ![0, 0, 0] S1x512x128.size (by decide)).toLoadRect (h4.unread x2)) shapeCasts_S1x512x128_S512x128 := rfl
  rw [e, View.readAt_eq_ld, Memref.IsWhole.read_unread]
  pointwise
  rw [g2]
  simp only [T_row, Nat.zero_add]

include g2 in
theorem rel_v1339 : Rel (v1339 c a4 h4 x2) (T X2 512) := by
  intro r l
  have e : v1339 c a4 h4 x2 = shapeCast S512x128 (View.readAt (Elt Ideal) a4.view (Rect.unit (s := S1x2048x128) ![0, 512, 0] S1x512x128.size (by decide)).toLoadRect (h4.unread x2)) shapeCasts_S1x512x128_S512x128 := rfl
  rw [e, View.readAt_eq_ld, Memref.IsWhole.read_unread]
  pointwise
  rw [g2]
  simp only [T_row, Nat.zero_add]

include g2 in
theorem rel_v1968 : Rel (v1968 c a4 h4 x2) (T X2 1024) := by
  intro r l
  have e : v1968 c a4 h4 x2 = shapeCast S512x128 (View.readAt (Elt Ideal) a4.view (Rect.unit (s := S1x2048x128) ![0, 1024, 0] S1x512x128.size (by decide)).toLoadRect (h4.unread x2)) shapeCasts_S1x512x128_S512x128 := rfl
  rw [e, View.readAt_eq_ld, Memref.IsWhole.read_unread]
  pointwise
  rw [g2]
  simp only [T_row, Nat.zero_add]

end

end Cert.AttnIdeal.Tile
-- ==== Proof.Attn.Stores.lean ====
/-
  THE STORES OVER REAL NUMBERS.
-/
module

public import proofs.«01_k».proof.Proof.Attn.Head

@[expose] public section

set_option maxRecDepth 16384

namespace Cert.AttnIdeal.Tile

open Cert.AttnIdeal Cert.AttnIdeal.Gen Cert.AttnIdeal.Gen.kernelRun0_A Cert.AttnIdeal.Gen.kernelRun0_A.sl Idealize.ShloMosaic
open Finset (range)

/-- The factor's starting value. -/
noncomputable def lam0 : ℝ := 13421773 * 2 ^ (-26 : ℤ)

theorem ofBits_lam0 : (Ideal.ofBits FTy.f32 0x3E4CCCCD#32 : EReal) = (lam0 : EReal) := by
  unfold lam0
  simp [Ideal.ofBits, Ideal.ieee, -EReal.coe_mul]

/-- The factor of the second mean. -/
noncomputable def lamR (A B D E : ℕ → ℝ) : ℝ := Real.exp (∑ d ∈ range 64, A d * B d) - Real.exp (∑ d ∈ range 64, D d * E d) + lam0

/-- A row of a head. -/
noncomputable def headR (X0 X1 X2 : ℕ → ℕ → ℝ) (W5 W6 : ℕ → ℝ) (C S : ℕ → ℕ → ℝ) (l : ℝ) (i x : ℕ) : ℝ :=
  meanR (qR .slt X0 W5 C S) (kR X1 W6 C S) X2 i x - l * meanR (qR .sge X0 W5 C S) (kR X1 W6 C S) X2 i x

theorem rels_nil : Rels [] [] := List.Forall₂.nil

theorem rels_cons {k v : FVec Ideal S512x128 .bf16} {K V : ℕ → ℕ → ℝ} {L : List (FVec Ideal S512x128 .bf16 × FVec Ideal S512x128 .bf16)}
    {R : List ((ℕ → ℕ → ℝ) × (ℕ → ℕ → ℝ))} (hk : Rel k K) (hv : Rel v V) (h : Rels L R) : Rels ((k, v) :: L) ((K, V) :: R) :=
  List.Forall₂.cons ⟨hk, hv⟩ h

section
variable (c : Dev nD) (a2 : Memref sig .tc .vmem S1x2048x128 .bf16) (h2 : a2.IsWhole) (a3 : Memref sig .tc .vmem S1x2048x128 .bf16) (h3 : a3.IsWhole) (a4 : Memref sig .tc .vmem S1x2048x128 .bf16) (h4 : a4.IsWhole) (a5 : Memref sig .tc .vmem S2048x128 .f32) (h5 : a5.IsWhole) (a6 : Memref sig .tc .vmem S2048x128 .f32) (h6 : a6.IsWhole) (a7 : Memref sig .tc .vmem S1x128 .f32) (h7 : a7.IsWhole) (a8 : Memref sig .tc .vmem S1x128 .f32) (h8 : a8.IsWhole) (a9 : Memref sig .tc .vmem S1x64 .f32) (h9 : a9.IsWhole) (a10 : Memref sig .tc .vmem S1x64 .f32) (h10 : a10.IsWhole) (a11 : Memref sig .tc .vmem S1x64 .f32) (h11 : a11.IsWhole) (a12 : Memref sig .tc .vmem S1x64 .f32) (h12 : a12.IsWhole) (a13 : Memref sig .tc .vmem S1x128 .f32) (h13 : a13.IsWhole) (a14 : Memref sig .tc .vmem S1x2048x128 .bf16) (a15 : Memref sig .tc .vmem S2048x128 .bf16) (a16 : Memref sig .tc .vmem S2x2048x128 .bf16) (a17 : Memref sig .tc .vmem S2x3x512x512 .f32) (a18 : Memref sig .tc .vmem S2x512x512 .f32) (a19 : Memref sig .tc .vmem S4x512x128 .f32) (a20 : Memref sig .tc .vmem S2x512x128 .f32)
    (x0 : Vec Ideal S1x2048x128 .bf16) (x1 : Vec Ideal S1x2048x128 .bf16) (x2 : Vec Ideal S1x2048x128 .bf16) (x3 : Vec Ideal S2048x128 .f32) (x4 : Vec Ideal S2048x128 .f32) (x5 : Vec Ideal S1x128 .f32) (x6 : Vec Ideal S1x128 .f32) (x7 : Vec Ideal S1x64 .f32) (x8 : Vec Ideal S1x64 .f32) (x9 : Vec Ideal S1x64 .f32) (x10 : Vec Ideal S1x64 .f32) (x11 : Vec Ideal S1x128 .f32)
variable {X0 X1 X2 C S : ℕ → ℕ → ℝ} {W5 W6 A7 A8 A9 A10 : ℕ → ℝ}

theorem lam_real (g7 : ∀ l : Fin 64, x7 (ix2 (0 : Fin 1) l) = ((A7 l.val : ℝ) : EReal)) (g8 : ∀ l : Fin 64, x8 (ix2 (0 : Fin 1) l) = ((A8 l.val : ℝ) : EReal))
    (g9 : ∀ l : Fin 64, x9 (ix2 (0 : Fin 1) l) = ((A9 l.val : ℝ) : EReal)) (g10 : ∀ l : Fin 64, x10 (ix2 (0 : Fin 1) l) = ((A10 l.val : ℝ) : EReal)) :
    (v323 c a9 h9 a10 h10 a11 h11 a12 h12 x7 x8 x9 x10) (ix2 (0 : Fin 1) (0 : Fin 1)) = ((lamR A7 A8 A9 A10 : ℝ) : EReal) := by
  have e : v323 c a9 h9 a10 h10 a11 h11 a12 h12 x7 x8 x9 x10
      = k0_pay33 (View.readAt (Elt Ideal) a9.view (Rect.unit (s := S1x64) ![0, 0] S1x64.size inb_S1x64_S1x64_0_0).toLoadRect (h9.unread x7))
        (View.readAt (Elt Ideal) a10.view (Rect.unit (s := S1x64) ![0, 0] S1x64.size inb_S1x64_S1x64_0_0).toLoadRect (h10.unread x8))
        (View.readAt (Elt Ideal) a11.view (Rect.unit (s := S1x64) ![0, 0] S1x64.size inb_S1x64_S1x64_0_0).toLoadRect (h11.unread x9))
        (View.readAt (Elt Ideal) a12.view (Rect.unit (s := S1x64) ![0, 0] S1x64.size inb_S1x64_S1x64_0_0).toLoadRect (h12.unread x10)) := rfl
  have z : (![0, 0] : Fin 2 → ℕ) = fun _ => 0 := by funext a; fin_cases a <;> rfl
  rw [e]
  simp only [View.readAt_eq_ld, Memref.IsWhole.read_unread, View.ld_unit_zero (S := S1x64) z]
  unfold k0_pay33
  pointwise
  simp only [g7, g8, g9, g10, ← EReal.coe_mul, csum 64 (fun d => A7 d * A8 d), csum 64 (fun d => A9 d * A10 d)]
  rw [ofBits_lam0]
  unfold lamR
  rw [EReal.coe_add, EReal.coe_sub]
  rfl

theorem wrow_eq : v571 c a13 h13 x11 = x11 := by
  have e : v571 c a13 h13 x11 = shapeCast S1x128 (View.readAt (Elt Ideal) a13.view (Rect.unit (s := S1x128) ![0, 0] S1x128.size inb_S1x128_S1x128_0_0).toLoadRect (h13.unread x11)) shapeCasts_S1x128_S1x128 := rfl
  have z : (![0, 0] : Fin 2 → ℕ) = fun _ => 0 := by funext a; fin_cases a <;> rfl
  rw [e, View.readAt_eq_ld, Memref.IsWhole.read_unread, View.ld_unit_zero (S := S1x128) z]
  exact shapeCast_self (s := S1x128) x11 _

variable (g0 : ∀ (r : Fin 2048) (l : Fin 128), x0 (ix3 (0 : Fin 1) r l) = ((X0 r.val l.val : ℝ) : EReal))
  (g1 : ∀ (r : Fin 2048) (l : Fin 128), x1 (ix3 (0 : Fin 1) r l) = ((X1 r.val l.val : ℝ) : EReal))
  (g2 : ∀ (r : Fin 2048) (l : Fin 128), x2 (ix3 (0 : Fin 1) r l) = ((X2 r.val l.val : ℝ) : EReal))
  (g3 : ∀ (r : Fin 2048) (l : Fin 128), x3 (ix2 r l) = ((C r.val l.val : ℝ) : EReal))
  (g4 : ∀ (r : Fin 2048) (l : Fin 128), x4 (ix2 r l) = ((S r.val l.val : ℝ) : EReal))
  (g5 : ∀ l : Fin 128, x5 (ix2 (0 : Fin 1) l) = ((W5 l.val : ℝ) : EReal))
  (g6 : ∀ l : Fin 128, x6 (ix2 (0 : Fin 1) l) = ((W6 l.val : ℝ) : EReal))
  (g7 : ∀ l : Fin 64, x7 (ix2 (0 : Fin 1) l) = ((A7 l.val : ℝ) : EReal)) (g8 : ∀ l : Fin 64, x8 (ix2 (0 : Fin 1) l) = ((A8 l.val : ℝ) : EReal))
  (g9 : ∀ l : Fin 64, x9 (ix2 (0 : Fin 1) l) = ((A9 l.val : ℝ) : EReal)) (g10 : ∀ l : Fin 64, x10 (ix2 (0 : Fin 1) l) = ((A10 l.val : ℝ) : EReal))
include g0 g1 g2 g3 g4 g5 g6 g7 g8 g9 g10

theorem store0_real (r : Fin 512) (e : Fin 128) : (v579 c a2 h2 a3 h3 a4 h4 a5 h5 a6 h6 a7 h7 a8 h8 a9 h9 a10 h10 a11 h11 a12 h12 a13 h13 a15 a16 a18 a19 a20 x0 x1 x2 x3 x4 x5 x6 x7 x8 x9 x10 x11) (ix3 (0 : Fin 1) r e)
    = nrm (fun x : Fin 128 => ((headR X0 X1 X2 W5 W6 C S (lamR A7 A8 A9 A10) (0 + r.val) x.val : ℝ) : EReal)) (fun x => x11 (ix2 (0 : Fin 1) x)) e := by
  rw [store0]
  rw [block_real (rel_v333 _ _ _ _ _ _ _ _ _ _ _ _ _ _ g0 g3 g4 g5) (rel_v366 _ _ _ _ _ _ _ _ _ _ _ _ _ _ g0 g3 g4 g5) (rel_v332 _ _ _ _ _ _ _ _ _ _ _ _ _ _ g1 g3 g4 g6)
    (rel_v418 _ _ _ _ g2) rels_nil (lam_real (g7 := g7) (g8 := g8) (g9 := g9) (g10 := g10) ..), wrow_eq]
  congr 1
  funext x
  congr 1
  unfold headR meanR
  rw [← keys_0 (qR .slt X0 W5 C S) (kR X1 W6 C S) (fun j => X2 j x.val) (fun P c => P.2 c x.val)  r.val r.isLt, ← keys_0 (qR .slt X0 W5 C S) (kR X1 W6 C S) (fun _ => 1) (fun _ _ => 1)  r.val r.isLt,
    ← keys_0 (qR .sge X0 W5 C S) (kR X1 W6 C S) (fun j => X2 j x.val) (fun P c => P.2 c x.val)  r.val r.isLt, ← keys_0 (qR .sge X0 W5 C S) (kR X1 W6 C S) (fun _ => 1) (fun _ _ => 1)  r.val r.isLt]
  rfl

theorem store1_real (r : Fin 512) (e : Fin 128) : (v954 c a2 h2 a3 h3 a4 h4 a5 h5 a6 h6 a7 h7 a8 h8 a9 h9 a10 h10 a11 h11 a12 h12 a13 h13 a15 a16 a17 a18 a19 a20 x0 x1 x2 x3 x4 x5 x6 x7 x8 x9 x10 x11) (ix3 (0 : Fin 1) r e)
    = nrm (fun x : Fin 128 => ((headR X0 X1 X2 W5 W6 C S (lamR A7 A8 A9 A10) (512 + r.val) x.val : ℝ) : EReal)) (fun x => x11 (ix2 (0 : Fin 1) x)) e := by
  rw [store1]
  rw [block_real (rel_v581 _ _ _ _ _ _ _ _ _ _ _ _ _ _ g0 g3 g4 g5) (rel_v614 _ _ _ _ _ _ _ _ _ _ _ _ _ _ g0 g3 g4 g5) (rel_v580 _ _ _ _ _ _ _ _ _ _ _ _ _ _ g1 g3 g4 g6)
    (rel_v710 _ _ _ _ g2) (rels_cons (rel_v650 _ _ _ _ _ _ _ _ _ _ _ _ _ _ g1 g3 g4 g6) (rel_v837 _ _ _ _ g2) rels_nil) (lam_real (g7 := g7) (g8 := g8) (g9 := g9) (g10 := g10) ..), wrow_eq]
  congr 1
  funext x
  congr 1
  unfold headR meanR
  rw [← keys_1 (qR .slt X0 W5 C S) (kR X1 W6 C S) X2 (fun j => X2 j x.val) (fun P c => P.2 c x.val) (fun _ => rfl) r.val r.isLt, ← keys_1 (qR .slt X0 W5 C S) (kR X1 W6 C S) X2 (fun _ => 1) (fun _ _ => 1) (fun _ => rfl) r.val r.isLt,
    ← keys_1 (qR .sge X0 W5 C S) (kR X1 W6 C S) X2 (fun j => X2 j x.val) (fun P c => P.2 c x.val) (fun _ => rfl) r.val r.isLt, ← keys_1 (qR .sge X0 W5 C S) (kR X1 W6 C S) X2 (fun _ => 1) (fun _ _ => 1) (fun _ => rfl) r.val r.isLt]
  rfl

theorem store2_real (r : Fin 512) (e : Fin 128) : (v1456 c a2 h2 a3 h3 a4 h4 a5 h5 a6 h6 a7 h7 a8 h8 a9 h9 a10 h10 a11 h11 a12 h12 a13 h13 a15 a16 a17 a18 a19 a20 x0 x1 x2 x3 x4 x5 x6 x7 x8 x9 x10 x11) (ix3 (0 : Fin 1) r e)
    = nrm (fun x : Fin 128 => ((headR X0 X1 X2 W5 W6 C S (lamR A7 A8 A9 A10) (1024 + r.val) x.val : ℝ) : EReal)) (fun x => x11 (ix2 (0 : Fin 1) x)) e := by
  rw [store2]
  rw [block_real (rel_v956 _ _ _ _ _ _ _ _ _ _ _ _ _ _ g0 g3 g4 g5) (rel_v989 _ _ _ _ _ _ _ _ _ _ _ _ _ _ g0 g3 g4 g5) (rel_v955 _ _ _ _ _ _ _ _ _ _ _ _ _ _ g1 g3 g4 g6)
    (rel_v1129 _ _ _ _ g2) (rels_cons (rel_v650 _ _ _ _ _ _ _ _ _ _ _ _ _ _ g1 g3 g4 g6) (rel_v837 _ _ _ _ g2) (rels_cons (rel_v1069 _ _ _ _ _ _ _ _ _ _ _ _ _ _ g1 g3 g4 g6) (rel_v1339 _ _ _ _ g2) rels_nil)) (lam_real (g7 := g7) (g8 := g8) (g9 := g9) (g10 := g10) ..), wrow_eq]
  congr 1
  funext x
  congr 1
  unfold headR meanR
  rw [← keys_2 (qR .slt X0 W5 C S) (kR X1 W6 C S) X2 (fun j => X2 j x.val) (fun P c => P.2 c x.val) (fun _ => rfl) (fun _ => rfl) r.val r.isLt, ← keys_2 (qR .slt X0 W5 C S) (kR X1 W6 C S) X2 (fun _ => 1) (fun _ _ => 1) (fun _ => rfl) (fun _ => rfl) r.val r.isLt,
    ← keys_2 (qR .sge X0 W5 C S) (kR X1 W6 C S) X2 (fun j => X2 j x.val) (fun P c => P.2 c x.val) (fun _ => rfl) (fun _ => rfl) r.val r.isLt, ← keys_2 (qR .sge X0 W5 C S) (kR X1 W6 C S) X2 (fun _ => 1) (fun _ _ => 1) (fun _ => rfl) (fun _ => rfl) r.val r.isLt]
  rfl

theorem store3_real (r : Fin 512) (e : Fin 128) : (k0_pay1 (sl.r_1 c a2 h2 a3 h3 a4 h4 a5 h5 a6 h6 a7 h7 a8 h8 a9 h9 a10 h10 a11 h11 a12 h12 a13 h13 a15 a16 a17 a18 a19 a20 x0 x1 x2 x3 x4 x5 x6 x7 x8 x9 x10 x11)) (ix3 (0 : Fin 1) r e)
    = nrm (fun x : Fin 128 => ((headR X0 X1 X2 W5 W6 C S (lamR A7 A8 A9 A10) (1536 + r.val) x.val : ℝ) : EReal)) (fun x => x11 (ix2 (0 : Fin 1) x)) e := by
  rw [store3]
  rw [block_real (rel_v1458 _ _ _ _ _ _ _ _ _ _ _ _ _ _ g0 g3 g4 g5) (rel_v1491 _ _ _ _ _ _ _ _ _ _ _ _ _ _ g0 g3 g4 g5) (rel_v1457 _ _ _ _ _ _ _ _ _ _ _ _ _ _ g1 g3 g4 g6)
    (rel_v1675 _ _ _ _ g2) (rels_cons (rel_v650 _ _ _ _ _ _ _ _ _ _ _ _ _ _ g1 g3 g4 g6) (rel_v837 _ _ _ _ g2) (rels_cons (rel_v1069 _ _ _ _ _ _ _ _ _ _ _ _ _ _ g1 g3 g4 g6) (rel_v1339 _ _ _ _ g2) (rels_cons (rel_v1615 _ _ _ _ _ _ _ _ _ _ _ _ _ _ g1 g3 g4 g6) (rel_v1968 _ _ _ _ g2) rels_nil))) (lam_real (g7 := g7) (g8 := g8) (g9 := g9) (g10 := g10) ..), wrow_eq]
  congr 1
  funext x
  congr 1
  unfold headR meanR
  rw [← keys_3 (qR .slt X0 W5 C S) (kR X1 W6 C S) X2 (fun j => X2 j x.val) (fun P c => P.2 c x.val) (fun _ => rfl) (fun _ => rfl) (fun _ => rfl) r.val r.isLt, ← keys_3 (qR .slt X0 W5 C S) (kR X1 W6 C S) X2 (fun _ => 1) (fun _ _ => 1) (fun _ => rfl) (fun _ => rfl) (fun _ => rfl) r.val r.isLt,
    ← keys_3 (qR .sge X0 W5 C S) (kR X1 W6 C S) X2 (fun j => X2 j x.val) (fun P c => P.2 c x.val) (fun _ => rfl) (fun _ => rfl) (fun _ => rfl) r.val r.isLt, ← keys_3 (qR .sge X0 W5 C S) (kR X1 W6 C S) X2 (fun _ => 1) (fun _ _ => 1) (fun _ => rfl) (fun _ => rfl) (fun _ => rfl) r.val r.isLt]
  rfl

end

end Cert.AttnIdeal.Tile
-- ==== Proof.Attn.Block.lean ====
/-
  THE OUTPUT BLOCK: the four stores read back, one row of a head at a time.
-/
module

public import proofs.«01_k».proof.Proof.Attn.Stores
public import Idealize.ShloMosaic.Lib.Pipeline.ValueKit

@[expose] public section

set_option maxRecDepth 16384

namespace Cert.AttnIdeal.Tile

open Cert.AttnIdeal Cert.AttnIdeal.Gen Cert.AttnIdeal.Gen.kernelRun0_A Idealize.ShloMosaic

section
variable (c : Dev nD) (i : grid0.Coords) (a2 : Memref sig .tc .vmem S1x2048x128 .bf16) (w2 : a2.IsWhole) (a3 : Memref sig .tc .vmem S1x2048x128 .bf16) (w3 : a3.IsWhole) (a4 : Memref sig .tc .vmem S1x2048x128 .bf16) (w4 : a4.IsWhole) (a5 : Memref sig .tc .vmem S2048x128 .f32) (w5 : a5.IsWhole) (a6 : Memref sig .tc .vmem S2048x128 .f32) (w6 : a6.IsWhole) (a7 : Memref sig .tc .vmem S1x128 .f32) (w7 : a7.IsWhole) (a8 : Memref sig .tc .vmem S1x128 .f32) (w8 : a8.IsWhole) (a9 : Memref sig .tc .vmem S1x64 .f32) (w9 : a9.IsWhole) (a10 : Memref sig .tc .vmem S1x64 .f32) (w10 : a10.IsWhole) (a11 : Memref sig .tc .vmem S1x64 .f32) (w11 : a11.IsWhole) (a12 : Memref sig .tc .vmem S1x64 .f32) (w12 : a12.IsWhole) (a13 : Memref sig .tc .vmem S1x128 .f32) (w13 : a13.IsWhole) (a14 : Memref sig .tc .vmem S1x2048x128 .bf16) (w14 : a14.IsWhole) (a15 : Memref sig .tc .vmem S2048x128 .bf16) (w15 : a15.IsWhole) (a16 : Memref sig .tc .vmem S2x2048x128 .bf16) (w16 : a16.IsWhole) (a17 : Memref sig .tc .vmem S2x3x512x512 .f32) (w17 : a17.IsWhole) (a18 : Memref sig .tc .vmem S2x512x512 .f32) (w18 : a18.IsWhole) (a19 : Memref sig .tc .vmem S4x512x128 .f32) (w19 : a19.IsWhole) (a20 : Memref sig .tc .vmem S2x512x128 .f32) (w20 : a20.IsWhole)
    (x0 : Vec Ideal S1x2048x128 .bf16) (x1 : Vec Ideal S1x2048x128 .bf16) (x2 : Vec Ideal S1x2048x128 .bf16) (x3 : Vec Ideal S2048x128 .f32) (x4 : Vec Ideal S2048x128 .f32) (x5 : Vec Ideal S1x128 .f32) (x6 : Vec Ideal S1x128 .f32) (x7 : Vec Ideal S1x64 .f32) (x8 : Vec Ideal S1x64 .f32) (x9 : Vec Ideal S1x64 .f32) (x10 : Vec Ideal S1x64 .f32) (x11 : Vec Ideal S1x128 .f32)
variable {X0 X1 X2 C S : ℕ → ℕ → ℝ} {W5 W6 A7 A8 A9 A10 : ℕ → ℝ}

variable (g0 : ∀ (r : Fin 2048) (l : Fin 128), x0 (ix3 (0 : Fin 1) r l) = ((X0 r.val l.val : ℝ) : EReal))
  (g1 : ∀ (r : Fin 2048) (l : Fin 128), x1 (ix3 (0 : Fin 1) r l) = ((X1 r.val l.val : ℝ) : EReal))
  (g2 : ∀ (r : Fin 2048) (l : Fin 128), x2 (ix3 (0 : Fin 1) r l) = ((X2 r.val l.val : ℝ) : EReal))
  (g3 : ∀ (r : Fin 2048) (l : Fin 128), x3 (ix2 r l) = ((C r.val l.val : ℝ) : EReal))
  (g4 : ∀ (r : Fin 2048) (l : Fin 128), x4 (ix2 r l) = ((S r.val l.val : ℝ) : EReal))
  (g5 : ∀ l : Fin 128, x5 (ix2 (0 : Fin 1) l) = ((W5 l.val : ℝ) : EReal))
  (g6 : ∀ l : Fin 128, x6 (ix2 (0 : Fin 1) l) = ((W6 l.val : ℝ) : EReal))
  (g7 : ∀ l : Fin 64, x7 (ix2 (0 : Fin 1) l) = ((A7 l.val : ℝ) : EReal)) (g8 : ∀ l : Fin 64, x8 (ix2 (0 : Fin 1) l) = ((A8 l.val : ℝ) : EReal))
  (g9 : ∀ l : Fin 64, x9 (ix2 (0 : Fin 1) l) = ((A9 l.val : ℝ) : EReal)) (g10 : ∀ l : Fin 64, x10 (ix2 (0 : Fin 1) l) = ((A10 l.val : ℝ) : EReal))
include g0 g1 g2 g3 g4 g5 g6 g7 g8 g9 g10

/-- A row of the block is the head's row, normalized. -/
theorem out_real (r : Fin 2048) (e : Fin 128) : (out0_A_12 c i a2 w2 a3 w3 a4 w4 a5 w5 a6 w6 a7 w7 a8 w8 a9 w9 a10 w10 a11 w11 a12 w12 a13 w13 a14 w14 a15 w15 a16 w16 a17 w17 a18 w18 a19 w19 a20 w20 x0 x1 x2 x3 x4 x5 x6 x7 x8 x9 x10 x11) (ix3 (0 : Fin 1) r e)
    = nrm (fun x : Fin 128 => ((headR X0 X1 X2 W5 W6 C S (lamR A7 A8 A9 A10) r.val x.val : ℝ) : EReal)) (fun x => x11 (ix2 (0 : Fin 1) x)) e := by
  unfold out0_A_12
  rw [View.read_writes_junk_eq_canon]
  unfold kernelRun0_A
  dsimp only
  canon_tiles x h
  · obtain ⟨z, q, f, rfl⟩ : ∃ (z : Fin 1) (q : Fin 512) (f : Fin 128), x = ix3 z q f := ⟨x 0, x 1, x 2, eq_ix3 x⟩
    obtain rfl : z = 0 := Subsingleton.elim _ _
    have k1 : r.val = 1536 + q.val := h1
    have k2 : e.val = f.val := h2
    obtain rfl : f = e := Fin.ext k2.symm
    rw [k1]
    exact store3_real (g0 := g0) (g1 := g1) (g2 := g2) (g3 := g3) (g4 := g4) (g5 := g5) (g6 := g6) (g7 := g7) (g8 := g8) (g9 := g9) (g10 := g10) ..
  · obtain ⟨z, q, f, rfl⟩ : ∃ (z : Fin 1) (q : Fin 512) (f : Fin 128), x = ix3 z q f := ⟨x 0, x 1, x 2, eq_ix3 x⟩
    obtain rfl : z = 0 := Subsingleton.elim _ _
    have k1 : r.val = 1024 + q.val := h1
    have k2 : e.val = f.val := h2
    obtain rfl : f = e := Fin.ext k2.symm
    rw [k1]
    exact store2_real (g0 := g0) (g1 := g1) (g2 := g2) (g3 := g3) (g4 := g4) (g5 := g5) (g6 := g6) (g7 := g7) (g8 := g8) (g9 := g9) (g10 := g10) ..
  · obtain ⟨z, q, f, rfl⟩ : ∃ (z : Fin 1) (q : Fin 512) (f : Fin 128), x = ix3 z q f := ⟨x 0, x 1, x 2, eq_ix3 x⟩
    obtain rfl : z = 0 := Subsingleton.elim _ _
    have k1 : r.val = 512 + q.val := h1
    have k2 : e.val = f.val := h2
    obtain rfl : f = e := Fin.ext k2.symm
    rw [k1]
    exact store1_real (g0 := g0) (g1 := g1) (g2 := g2) (g3 := g3) (g4 := g4) (g5 := g5) (g6 := g6) (g7 := g7) (g8 := g8) (g9 := g9) (g10 := g10) ..
  · obtain ⟨z, q, f, rfl⟩ : ∃ (z : Fin 1) (q : Fin 512) (f : Fin 128), x = ix3 z q f := ⟨x 0, x 1, x 2, eq_ix3 x⟩
    obtain rfl : z = 0 := Subsingleton.elim _ _
    have k1 : r.val = 0 + q.val := h1.trans (Nat.zero_add _).symm
    have k2 : e.val = f.val := h2
    obtain rfl : f = e := Fin.ext k2.symm
    rw [k1]
    exact store0_real (g0 := g0) (g1 := g1) (g2 := g2) (g3 := g3) (g4 := g4) (g5 := g5) (g6 := g6) (g7 := g7) (g8 := g8) (g9 := g9) (g10 := g10) ..

end

end Cert.AttnIdeal.Tile
-- ==== Proof.Attn.Value.lean ====
/-
  WHAT ATTENTION LEAVES: the heads of differential attention, normalized, over arguments that are real numbers.
-/
module

public import proofs.«01_k».proof.Proof.Attn.Host
public import proofs.«01_k».proof.Proof.Attn.Block
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.AttnIdeal.Tile

theorem points (t : Fin cfg0.N) : t.val < 64 := lt_of_lt_of_eq t.isLt N_0

theorem at0 : ∀ t : Fin cfg0.N, win0_0.index t (0 : Fin 3) = t.val / 16 ∧ win0_0.index t (1 : Fin 3) = 0 ∧ win0_0.index t (2 : Fin 3) = 80 + t.val % 16 :=
  (by decide +kernel : ∀ t : Fin grid0.N, _)

theorem at1 : ∀ t : Fin cfg0.N, win0_1.index t (0 : Fin 3) = t.val / 16 ∧ win0_1.index t (1 : Fin 3) = 0 ∧ win0_1.index t (2 : Fin 3) = 96 + t.val % 16 :=
  (by decide +kernel : ∀ t : Fin grid0.N, _)

theorem at2 : ∀ t : Fin cfg0.N, win0_2.index t (0 : Fin 3) = t.val / 16 ∧ win0_2.index t (1 : Fin 3) = 0 ∧ win0_2.index t (2 : Fin 3) = 112 + t.val % 16 :=
  (by decide +kernel : ∀ t : Fin grid0.N, _)

theorem at3 : ∀ t : Fin cfg0.N, win0_3.index t (0 : Fin 2) = 0 ∧ win0_3.index t (1 : Fin 2) = 0 :=
  (by decide +kernel : ∀ t : Fin grid0.N, _)

theorem at4 : ∀ t : Fin cfg0.N, win0_4.index t (0 : Fin 2) = 0 ∧ win0_4.index t (1 : Fin 2) = 0 :=
  (by decide +kernel : ∀ t : Fin grid0.N, _)

theorem at5 : ∀ t : Fin cfg0.N, win0_5.index t (0 : Fin 2) = 0 ∧ win0_5.index t (1 : Fin 2) = 0 :=
  (by decide +kernel : ∀ t : Fin grid0.N, _)

theorem at6 : ∀ t : Fin cfg0.N, win0_6.index t (0 : Fin 2) = 0 ∧ win0_6.index t (1 : Fin 2) = 0 :=
  (by decide +kernel : ∀ t : Fin grid0.N, _)

theorem at7 : ∀ t : Fin cfg0.N, win0_7.index t (0 : Fin 2) = 0 ∧ win0_7.index t (1 : Fin 2) = 0 :=
  (by decide +kernel : ∀ t : Fin grid0.N, _)

theorem at8 : ∀ t : Fin cfg0.N, win0_8.index t (0 : Fin 2) = 0 ∧ win0_8.index t (1 : Fin 2) = 0 :=
  (by decide +kernel : ∀ t : Fin grid0.N, _)

theorem at9 : ∀ t : Fin cfg0.N, win0_9.index t (0 : Fin 2) = 0 ∧ win0_9.index t (1 : Fin 2) = 0 :=
  (by decide +kernel : ∀ t : Fin grid0.N, _)

theorem at10 : ∀ t : Fin cfg0.N, win0_10.index t (0 : Fin 2) = 0 ∧ win0_10.index t (1 : Fin 2) = 0 :=
  (by decide +kernel : ∀ t : Fin grid0.N, _)

theorem at11 : ∀ t : Fin cfg0.N, win0_11.index t (0 : Fin 2) = 0 ∧ win0_11.index t (1 : Fin 2) = 0 :=
  (by decide +kernel : ∀ t : Fin grid0.N, _)

theorem at12 : ∀ t : Fin cfg0.N, win0_12.index t (0 : Fin 3) = t.val / 16 ∧ win0_12.index t (1 : Fin 3) = 0 ∧ win0_12.index t (2 : Fin 3) = t.val % 16 :=
  (by decide +kernel : ∀ t : Fin grid0.N, _)

section
variable {F : FTy → Type} [FloatOps F] [Named F]
variable (m : (ℓ : Loc nD τ sig) → Buf (Elt F) ℓ)

theorem q_block (c : Dev nD) (t : Fin cfg0.N) (r : Fin 2048) (l : Fin 128) :
    (iblk m c 0 t : Vec F S1x2048x128 .bf16) (ix3 (0 : Fin 1) r l)
      = m ((c : Thread nD τ).loc main_arg0)
          (ix3 (⟨t.val / 16, by have := points t; omega⟩ : Fin 4) r (⟨10240 + 128 * (t.val % 16) + l.val, by omega⟩ : Fin 20480) : S4x2048x20480.Idx) := by
  have e := at0 t
  unfold iblk
  rw [View.read_apply]
  show V m c main_arg0 _ = _
  rw [V_main_arg0]
  congr 1
  funext a
  apply Fin.ext
  match a with
  | ⟨0, _⟩ => show win0_0.index t 0 * 1 + 1 * 0 = t.val / 16; rw [e.1]; omega
  | ⟨1, _⟩ => show win0_0.index t 1 * 2048 + 1 * r.val = r.val; rw [e.2.1]; omega
  | ⟨2, _⟩ => show win0_0.index t 2 * 128 + 1 * l.val = 10240 + 128 * (t.val % 16) + l.val; rw [e.2.2]; omega

theorem k_block (c : Dev nD) (t : Fin cfg0.N) (r : Fin 2048) (l : Fin 128) :
    (iblk m c 1 t : Vec F S1x2048x128 .bf16) (ix3 (0 : Fin 1) r l)
      = m ((c : Thread nD τ).loc main_arg0)
          (ix3 (⟨t.val / 16, by have := points t; omega⟩ : Fin 4) r (⟨12288 + 128 * (t.val % 16) + l.val, by omega⟩ : Fin 20480) : S4x2048x20480.Idx) := by
  have e := at1 t
  unfold iblk
  rw [View.read_apply]
  show V m c main_arg0 _ = _
  rw [V_main_arg0]
  congr 1
  funext a
  apply Fin.ext
  match a with
  | ⟨0, _⟩ => show win0_1.index t 0 * 1 + 1 * 0 = t.val / 16; rw [e.1]; omega
  | ⟨1, _⟩ => show win0_1.index t 1 * 2048 + 1 * r.val = r.val; rw [e.2.1]; omega
  | ⟨2, _⟩ => show win0_1.index t 2 * 128 + 1 * l.val = 12288 + 128 * (t.val % 16) + l.val; rw [e.2.2]; omega

theorem v_block (c : Dev nD) (t : Fin cfg0.N) (r : Fin 2048) (l : Fin 128) :
    (iblk m c 2 t : Vec F S1x2048x128 .bf16) (ix3 (0 : Fin 1) r l)
      = m ((c : Thread nD τ).loc main_arg0)
          (ix3 (⟨t.val / 16, by have := points t; omega⟩ : Fin 4) r (⟨14336 + 128 * (t.val % 16) + l.val, by omega⟩ : Fin 20480) : S4x2048x20480.Idx) := by
  have e := at2 t
  unfold iblk
  rw [View.read_apply]
  show V m c main_arg0 _ = _
  rw [V_main_arg0]
  congr 1
  funext a
  apply Fin.ext
  match a with
  | ⟨0, _⟩ => show win0_2.index t 0 * 1 + 1 * 0 = t.val / 16; rw [e.1]; omega
  | ⟨1, _⟩ => show win0_2.index t 1 * 2048 + 1 * r.val = r.val; rw [e.2.1]; omega
  | ⟨2, _⟩ => show win0_2.index t 2 * 128 + 1 * l.val = 14336 + 128 * (t.val % 16) + l.val; rw [e.2.2]; omega

theorem cos_block (c : Dev nD) (t : Fin cfg0.N) : (iblk m c 3 t : FVec F S2048x128 .f32) = table (Host.cos angles) (Host.cos angles) := by
  have e := at3 t
  funext y
  unfold iblk
  rw [View.read_apply]
  show V m c main_v18 _ = _
  rw [cos_arr]
  congr 1
  funext a
  apply Fin.ext
  match a with
  | ⟨0, _⟩ => show win0_3.index t 0 * 2048 + 1 * (y 0).val = (y 0).val; rw [e.1]; omega
  | ⟨1, _⟩ => show win0_3.index t 1 * 128 + 1 * (y 1).val = (y 1).val; rw [e.2]; omega

theorem sin_block (c : Dev nD) (t : Fin cfg0.N) : (iblk m c 4 t : FVec F S2048x128 .f32) = table (Host.negf (Host.sin angles)) (Host.sin angles) := by
  have e := at4 t
  funext y
  unfold iblk
  rw [View.read_apply]
  show V m c main_v23 _ = _
  rw [sin_arr]
  congr 1
  funext a
  apply Fin.ext
  match a with
  | ⟨0, _⟩ => show win0_4.index t 0 * 2048 + 1 * (y 0).val = (y 0).val; rw [e.1]; omega
  | ⟨1, _⟩ => show win0_4.index t 1 * 128 + 1 * (y 1).val = (y 1).val; rw [e.2]; omega

theorem qw_block (c : Dev nD) (t : Fin cfg0.N) : (iblk m c 5 t : FVec F S1x128 .f32) = twice (m ((c : Thread nD τ).loc main_arg1)) := by
  have e := at5 t
  funext y
  unfold iblk
  rw [View.read_apply]
  show V m c main_v28 _ = _
  rw [qw_arr]
  congr 1
  funext a
  apply Fin.ext
  match a with
  | ⟨0, _⟩ => show win0_5.index t 0 * 1 + 1 * (y 0).val = (y 0).val; rw [e.1]; omega
  | ⟨1, _⟩ => show win0_5.index t 1 * 128 + 1 * (y 1).val = (y 1).val; rw [e.2]; omega

theorem kw_block (c : Dev nD) (t : Fin cfg0.N) : (iblk m c 6 t : FVec F S1x128 .f32) = twice (m ((c : Thread nD τ).loc main_arg2)) := by
  have e := at6 t
  funext y
  unfold iblk
  rw [View.read_apply]
  show V m c main_v33 _ = _
  rw [kw_arr]
  congr 1
  funext a
  apply Fin.ext
  match a with
  | ⟨0, _⟩ => show win0_6.index t 0 * 1 + 1 * (y 0).val = (y 0).val; rw [e.1]; omega
  | ⟨1, _⟩ => show win0_6.index t 1 * 128 + 1 * (y 1).val = (y 1).val; rw [e.2]; omega

theorem l3_block (c : Dev nD) (t : Fin cfg0.N) : (iblk m c 7 t : FVec F S1x64 .f32) = shapeCast S1x64 (shapeCast S64 (m ((c : Thread nD τ).loc main_arg3)) shapeCasts_S1x64_S64) shapeCasts_S64_S1x64 := by
  have e := at7 t
  funext y
  unfold iblk
  rw [View.read_apply]
  show V m c main_v35 _ = _
  rw [l3_arr]
  congr 1
  funext a
  apply Fin.ext
  match a with
  | ⟨0, _⟩ => show win0_7.index t 0 * 1 + 1 * (y 0).val = (y 0).val; rw [e.1]; omega
  | ⟨1, _⟩ => show win0_7.index t 1 * 64 + 1 * (y 1).val = (y 1).val; rw [e.2]; omega

theorem l4_block (c : Dev nD) (t : Fin cfg0.N) : (iblk m c 8 t : FVec F S1x64 .f32) = shapeCast S1x64 (shapeCast S64 (m ((c : Thread nD τ).loc main_arg4)) shapeCasts_S1x64_S64) shapeCasts_S64_S1x64 := by
  have e := at8 t
  funext y
  unfold iblk
  rw [View.read_apply]
  show V m c main_v37 _ = _
  rw [l4_arr]
  congr 1
  funext a
  apply Fin.ext
  match a with
  | ⟨0, _⟩ => show win0_8.index t 0 * 1 + 1 * (y 0).val = (y 0).val; rw [e.1]; omega
  | ⟨1, _⟩ => show win0_8.index t 1 * 64 + 1 * (y 1).val = (y 1).val; rw [e.2]; omega

theorem l5_block (c : Dev nD) (t : Fin cfg0.N) : (iblk m c 9 t : FVec F S1x64 .f32) = shapeCast S1x64 (shapeCast S64 (m ((c : Thread nD τ).loc main_arg5)) shapeCasts_S1x64_S64) shapeCasts_S64_S1x64 := by
  have e := at9 t
  funext y
  unfold iblk
  rw [View.read_apply]
  show V m c main_v39 _ = _
  rw [l5_arr]
  congr 1
  funext a
  apply Fin.ext
  match a with
  | ⟨0, _⟩ => show win0_9.index t 0 * 1 + 1 * (y 0).val = (y 0).val; rw [e.1]; omega
  | ⟨1, _⟩ => show win0_9.index t 1 * 64 + 1 * (y 1).val = (y 1).val; rw [e.2]; omega

theorem l6_block (c : Dev nD) (t : Fin cfg0.N) : (iblk m c 10 t : FVec F S1x64 .f32) = shapeCast S1x64 (shapeCast S64 (m ((c : Thread nD τ).loc main_arg6)) shapeCasts_S1x64_S64) shapeCasts_S64_S1x64 := by
  have e := at10 t
  funext y
  unfold iblk
  rw [View.read_apply]
  show V m c main_v41 _ = _
  rw [l6_arr]
  congr 1
  funext a
  apply Fin.ext
  match a with
  | ⟨0, _⟩ => show win0_10.index t 0 * 1 + 1 * (y 0).val = (y 0).val; rw [e.1]; omega
  | ⟨1, _⟩ => show win0_10.index t 1 * 64 + 1 * (y 1).val = (y 1).val; rw [e.2]; omega

theorem ow_block (c : Dev nD) (t : Fin cfg0.N) : (iblk m c 11 t : FVec F S1x128 .f32) = shapeCast S1x128 (shapeCast S128 (m ((c : Thread nD τ).loc main_arg7)) shapeCasts_S1x128_S128) shapeCasts_S128_S1x128 := by
  have e := at11 t
  funext y
  unfold iblk
  rw [View.read_apply]
  show V m c main_v43 _ = _
  rw [ow_arr]
  congr 1
  funext a
  apply Fin.ext
  match a with
  | ⟨0, _⟩ => show win0_11.index t 0 * 1 + 1 * (y 0).val = (y 0).val; rw [e.1]; omega
  | ⟨1, _⟩ => show win0_11.index t 1 * 128 + 1 * (y 1).val = (y 1).val; rw [e.2]; omega

end

/-- A head's columns of the projection as real numbers, from column `o`. -/
def colAt (p : FVec Ideal S4x2048x20480 .bf16) (b : Fin 4) (o r l : ℕ) : ℝ :=
  if h : r < 2048 ∧ o + l < 20480 then (p (ix3 b ⟨r, h.1⟩ ⟨o + l, h.2⟩)).toReal else 0

/-- A weight row as real numbers, the same for the two halves of the lanes. -/
def rowAt (w : FVec Ideal S1x64 .f32) (l : ℕ) : ℝ := (w (ix2 (0 : Fin 1) ⟨l % 64, Nat.mod_lt _ (by norm_num)⟩)).toReal

/-- A head's row. -/
def headAt (p : FVec Ideal S4x2048x20480 .bf16) (w1 w2 a3 a4 a5 a6 : FVec Ideal S1x64 .f32) (b : Fin 4) (h i x : ℕ) : ℝ :=
  headR (colAt p b (10240 + 128 * h)) (colAt p b (12288 + 128 * h)) (colAt p b (14336 + 128 * h)) (rowAt w1) (rowAt w2) cosR sinR
    (lamR (rowAt a3) (rowAt a4) (rowAt a5) (rowAt a6)) i x

/-- Attention's result. -/
def attnAt (p : FVec Ideal S4x2048x20480 .bf16) (w1 w2 a3 a4 a5 a6 : FVec Ideal S1x64 .f32) (w7 : FVec Ideal S1x128 .f32) : FVec Ideal S4x2048x2048 .bf16 :=
  fun i => nrm (fun x : Fin 128 => ((headAt p w1 w2 a3 a4 a5 a6 (i 0) ((i 2).val / 128) (i 1).val x.val : ℝ) : EReal)) (fun x => w7 (ix2 (0 : Fin 1) x))
    ⟨(i 2).val % 128, Nat.mod_lt _ (by norm_num)⟩

theorem attnAt_head (p : FVec Ideal S4x2048x20480 .bf16) (w1 w2 a3 a4 a5 a6 : FVec Ideal S1x64 .f32) (w7 : FVec Ideal S1x128 .f32) (b : Fin 4) (r : Fin 2048)
    (h : ℕ) (l : Fin 128) (hl : 128 * h + l.val < 2048) : attnAt p w1 w2 a3 a4 a5 a6 w7 (ix3 b r ⟨128 * h + l.val, hl⟩)
      = nrm (fun x : Fin 128 => ((headAt p w1 w2 a3 a4 a5 a6 b h r.val x.val : ℝ) : EReal)) (fun x => w7 (ix2 (0 : Fin 1) x)) l := by
  have h1 : (128 * h + l.val) / 128 = h := by omega
  have h2 : (⟨(128 * h + l.val) % 128, Nat.mod_lt _ (by norm_num)⟩ : Fin 128) = l := Fin.ext (by dsimp only; omega)
  show nrm (fun x : Fin 128 => ((headAt p w1 w2 a3 a4 a5 a6 b ((128 * h + l.val) / 128) r.val x.val : ℝ) : EReal)) (fun x => w7 (ix2 (0 : Fin 1) x))
    (⟨(128 * h + l.val) % 128, Nat.mod_lt _ (by norm_num)⟩ : Fin 128) = _
  rw [h1, h2]

variable (m : (ℓ : Loc nD τ sig) → Buf (Elt Ideal) ℓ) (ρ : Dev nD → PrngReg)

/-- What the call leaves on a device. -/
def left (c : Dev nD) : FVec Ideal S4x2048x2048 .bf16 :=
  attnAt (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem rowAt_twice (w : FVec Ideal S1x64 .f32) (h : Reals w) (l : Fin 128) : twice w (ix2 (0 : Fin 1) l) = ((rowAt w l.val : ℝ) : EReal) := by
  rw [twice_apply, h]; rfl

theorem rowAt_row (w : FVec Ideal S1x64 .f32) (h : Reals w) (l : Fin 64) :
    shapeCast S1x64 (shapeCast S64 w shapeCasts_S1x64_S64) shapeCasts_S64_S1x64 (ix2 (0 : Fin 1) l) = ((rowAt w l.val : ℝ) : EReal) := by
  rw [row64_apply, h]
  unfold rowAt
  congr 4; apply Fin.ext; exact (Nat.mod_eq_of_lt l.isLt).symm

theorem colAt_col (p : FVec Ideal S4x2048x20480 .bf16) (hp : RealCols p) (b : Fin 4) (o : ℕ) (r : Fin 2048) (l : Fin 128) (h : o + l.val < 20480)
    (h1 : 10240 ≤ o) (h2 : o + 128 ≤ 16384) : p (ix3 b r ⟨o + l.val, h⟩) = ((colAt p b o r.val l.val : ℝ) : EReal) := by
  rw [hp b r _ (by dsimp only; omega) (by dsimp only; omega)]; unfold colAt; rw [dif_pos ⟨r.isLt, h⟩]

theorem flushed_eq (c : Dev nD) (hr : RealArgs m c) (t : Fin cfg0.N) :
    (dats m 0 c).flushed 12 t = ((cfg0.win 12).blk t).view.read (Elt Ideal) (left m c : Buf (Elt Ideal) ((c : Thread nD τ).loc main_v44)) := by
  rw [flushed12_A]
  have e := at12 t
  have ht := points t
  funext y
  rw [View.read_apply]
  obtain ⟨z, r, l, rfl⟩ : ∃ (z : Fin 1) (r : Fin 2048) (l : Fin 128), y = ix3 z r l := ⟨y 0, y 1, y 2, eq_ix3 y⟩
  obtain rfl : z = 0 := Subsingleton.elim _ _
  have he : (((cfg0.win 12).blk t).view.emb (ix3 (0 : Fin 1) r l) : S4x2048x2048.Idx)
      = ix3 (⟨t.val / 16, by omega⟩ : Fin 4) r (⟨128 * (t.val % 16) + l.val, by omega⟩ : Fin 2048) := by
    funext a
    apply Fin.ext
    match a with
    | ⟨0, _⟩ => show win0_12.index t 0 * 1 + 1 * 0 = t.val / 16; rw [e.1]; omega
    | ⟨1, _⟩ => show win0_12.index t 1 * 2048 + 1 * r.val = r.val; rw [e.2.1]; omega
    | ⟨2, _⟩ => show win0_12.index t 2 * 128 + 1 * l.val = 128 * (t.val % 16) + l.val; rw [e.2.2]; omega
  show out0_A_12 (F := Ideal) _ _ _ _ _ _ _ _ _ _ _ _ _ _ _ _ _ _ _ _ _ _ _ _ _ _ _ _ _ _ _ _ _ _ _ _ _ _ _ _ _ _ _ _ _ _ _ _ _ _ _ _ (ix3 (0 : Fin 1) r l) = left m c _
  rw [he]
  refine (out_real (X0 := colAt (m ((c : Thread nD τ).loc main_arg0)) ⟨t.val / 16, by omega⟩ (10240 + 128 * (t.val % 16)))
    (X1 := colAt (m ((c : Thread nD τ).loc main_arg0)) ⟨t.val / 16, by omega⟩ (12288 + 128 * (t.val % 16)))
    (X2 := colAt (m ((c : Thread nD τ).loc main_arg0)) ⟨t.val / 16, by omega⟩ (14336 + 128 * (t.val % 16)))
    (C := cosR) (S := sinR) (W5 := rowAt (m ((c : Thread nD τ).loc main_arg1))) (W6 := rowAt (m ((c : Thread nD τ).loc main_arg2)))
    (A7 := rowAt (m ((c : Thread nD τ).loc main_arg3))) (A8 := rowAt (m ((c : Thread nD τ).loc main_arg4)))
    (A9 := rowAt (m ((c : Thread nD τ).loc main_arg5))) (A10 := rowAt (m ((c : Thread nD τ).loc main_arg6)))
    (g0 := ?_) (g1 := ?_) (g2 := ?_) (g3 := ?_) (g4 := ?_) (g5 := ?_) (g6 := ?_) (g7 := ?_) (g8 := ?_) (g9 := ?_) (g10 := ?_) ..).trans ?_
  · intro r l; exact (q_block m c t r l).trans (colAt_col _ hr.a0 _ _ _ _ _ (by omega) (by omega))
  · intro r l; exact (k_block m c t r l).trans (colAt_col _ hr.a0 _ _ _ _ _ (by omega) (by omega))
  · intro r l; exact (v_block m c t r l).trans (colAt_col _ hr.a0 _ _ _ _ _ (by omega) (by omega))
  · intro r l; rw [cos_block]; exact cos_table r l
  · intro r l; rw [sin_block]; exact sin_table r l
  · intro l; rw [qw_block]; exact rowAt_twice _ hr.a1 l
  · intro l; rw [kw_block]; exact rowAt_twice _ hr.a2 l
  · intro l; rw [l3_block]; exact rowAt_row _ hr.a3 l
  · intro l; rw [l4_block]; exact rowAt_row _ hr.a4 l
  · intro l; rw [l5_block]; exact rowAt_row _ hr.a5 l
  · intro l; rw [l6_block]; exact rowAt_row _ hr.a6 l
  · rw [ow_block]
    unfold left
    rw [attnAt_head]
    exact congrArg (fun w => nrm _ w l) (funext fun x => row128_apply (F := Ideal) _ x)

theorem final (c : Dev nD) (hr : RealArgs m c) : (dats m 0 c).arrAt 12 cfg0.N = (left m c : Buf (Elt Ideal) ((c : Thread nD τ).loc main_v44)) :=
  (dats m 0 c).arrAt_eq_of_cover 12 _ (fun t _ => flushed_eq m c hr t) (fun i => by
    have h0 : (i 0).val < 4 := (i 0).isLt
    have h1 : (i 1).val < 2048 := (i 1).isLt
    have h2 : (i 2).val < 2048 := (i 2).isLt
    have hN : cfg0.N = 64 := N_0
    let t : Fin cfg0.N := ⟨(i 0).val * 16 + (i 2).val / 128, by omega⟩
    have tv : t.val = (i 0).val * 16 + (i 2).val / 128 := rfl
    obtain ⟨e0, e1, e2⟩ := at12 t
    refine ⟨t, flush0_12 t, ?_⟩
    show i ∈ ((View.whole main_v44).slice (win0_12.rect t)).set
    rw [View.set_slice_whole, Rect.mem_set_unit]
    intro a
    match a with
    | ⟨0, _⟩ => show win0_12.index t (0 : Fin 3) * 1 ≤ (i 0).val ∧ (i 0).val < win0_12.index t (0 : Fin 3) * 1 + 1; omega
    | ⟨1, _⟩ => show win0_12.index t (1 : Fin 3) * 2048 ≤ (i 1).val ∧ (i 1).val < win0_12.index t (1 : Fin 3) * 2048 + 2048; omega
    | ⟨2, _⟩ => show win0_12.index t (2 : Fin 3) * 128 ≤ (i 2).val ∧ (i 2).val < win0_12.index t (2 : Fin 3) * 128 + 128; omega)

end Cert.AttnIdeal.Value

end
-- ==== Proof.Attn.Ref.lean ====
/-
  ATTENTION'S PLAIN REFERENCE, step by step: each step's entries as functions of the entries of the step before.
-/
module

public import proofs.«01_k».proof.Proof.Attn.Value
public import proofs.«01_k».proof.Proof.Gen.AttnRefIdeal.Run
public import Idealize.ShloMosaic.Lib.IdealHost

@[expose] public section

set_option maxRecDepth 16384

noncomputable section

open Idealize.ShloMosaic Idealize.ShloMosaic.TcCoe Idealize.SL.Sem Idealize.ShloMosaic.StableHlo

namespace Cert.AttnRefIdeal.Value

open Cert.AttnRefIdeal Cert.AttnRefIdeal.Gen

/-- The query rows, one group of columns after another. -/
def qRows (p : FVec Ideal S4x2048x20480 .bf16) : FVec Ideal S4x2048x32x64 .f32 :=
  shapeCast _ (extf .f32 (extractStridedSlice S4x2048x2048 ![0, 0, 10240] p slices_S4x2048x20480_S4x2048x2048_0_0_10240) bitsLt_bf16_f32) shapeCasts_S4x2048x2048_S4x2048x32x64

/-- The key rows. -/
def kRows (p : FVec Ideal S4x2048x20480 .bf16) : FVec Ideal S4x2048x32x64 .f32 :=
  shapeCast _ (extf .f32 (extractStridedSlice S4x2048x2048 ![0, 0, 12288] p slices_S4x2048x20480_S4x2048x2048_0_0_12288) bitsLt_bf16_f32) shapeCasts_S4x2048x2048_S4x2048x32x64

/-- A row over its root mean square, times the weights. -/
def normed (q : FVec Ideal S4x2048x32x64 .f32) (w : FVec Ideal S1x64 .f32) : FVec Ideal S4x2048x32x64 .f32 :=
  mulf (mulf q (broadcastInDim S4x2048x32x64 ![0, 1, 2, 3] bcast_S4x2048x32x1_S4x2048x32x64_0_1_2_3 (Host.rsqrt (addf (Host.divf (broadcastInDim S4x2048x32x1 ![0, 1, 2] bcast_S4x2048x32_S4x2048x32x1_0_1_2 (Host.reduceAdd (mulf q q) (constant S_ .f32 0x00000000#32) reducesTo_S4x2048x32x64_S4x2048x32_d3 h_S_)) (broadcastInDim S4x2048x32x1 ![] bcast_S_S4x2048x32x1 (constant S_ .f32 0x42800000#32))) (broadcastInDim S4x2048x32x1 ![] bcast_S_S4x2048x32x1 (constant S_ .f32 0x358637BD#32)))))) (broadcastInDim S4x2048x32x64 ![0, 1, 2, 3] bcast_S1x1x1x64_S4x2048x32x64_0_1_2_3 (broadcastInDim S1x1x1x64 ![3] bcast_S64_S1x1x1x64_3 (shapeCast _ w shapeCasts_S1x64_S64)))

/-- The angles. -/
def angles : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A row turned by the angles. -/
def turned (n : FVec Ideal S4x2048x32x64 .f32) (ang : FVec Ideal S2048x32 .f32) : FVec Ideal S4x2048x32x64 .f32 :=
  concatenate S4x2048x32x64 3 [⟨S4x2048x32x32, (subf (mulf (extractStridedSlice S4x2048x32x32 ![0, 0, 0, 0] n slices_S4x2048x32x64_S4x2048x32x32_0_0_0_0) (broadcastInDim S4x2048x32x32 ![0, 1, 2, 3] bcast_S1x2048x1x32_S4x2048x32x32_0_1_2_3 (broadcastInDim S1x2048x1x32 ![1, 3] bcast_S2048x32_S1x2048x1x32_1_3 (Host.cos ang)))) (mulf (extractStridedSlice S4x2048x32x32 ![0, 0, 0, 32] n slices_S4x2048x32x64_S4x2048x32x32_0_0_0_32) (broadcastInDim S4x2048x32x32 ![0, 1, 2, 3] bcast_S1x2048x1x32_S4x2048x32x32_0_1_2_3 (broadcastInDim S1x2048x1x32 ![1, 3] bcast_S2048x32_S1x2048x1x32_1_3 (Host.sin ang)))))⟩, ⟨S4x2048x32x32, (addf (mulf (extractStridedSlice S4x2048x32x32 ![0, 0, 0, 32] n slices_S4x2048x32x64_S4x2048x32x32_0_0_0_32) (broadcastInDim S4x2048x32x32 ![0, 1, 2, 3] bcast_S1x2048x1x32_S4x2048x32x32_0_1_2_3 (broadcastInDim S1x2048x1x32 ![1, 3] bcast_S2048x32_S1x2048x1x32_1_3 (Host.cos ang)))) (mulf (extractStridedSlice S4x2048x32x32 ![0, 0, 0, 0] n slices_S4x2048x32x64_S4x2048x32x32_0_0_0_0) (broadcastInDim S4x2048x32x32 ![0, 1, 2, 3] bcast_S1x2048x1x32_S4x2048x32x32_0_1_2_3 (broadcastInDim S1x2048x1x32 ![1, 3] bcast_S2048x32_S1x2048x1x32_1_3 (Host.sin ang)))))⟩] concatenates_S4x2048x32x32_S4x2048x32x32_S4x2048x32x64_d3

/-- The scores, those of later positions masked. -/
def scores (q k : FVec Ideal S4x2048x32x64 .f32) : FVec Ideal S4x32x2048x2048 .f32 :=
  select (broadcastInDim S4x32x2048x2048 ![2, 3] bcast_S2048x2048_S4x32x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S4x2048x32x64_S4x2048x32x64_S4x32x2048x2048_3_3_1_1_02_02 none q k) (broadcastInDim S4x32x2048x2048 ![] bcast_S_S4x32x2048x2048 (constant S_ .f32 0x3E000000#32))) (broadcastInDim S4x32x2048x2048 ![] bcast_S_S4x32x2048x2048 (id (constant S_ .f32 0xFF800000#32)))

/-- The row's greatest score. -/
def rowMax (s : FVec Ideal S4x32x2048x2048 .f32) : FVec Ideal S4x32x2048 .f32 :=
  Host.reduce FloatOps.maximumf s (constant S_ .f32 0xFF800000#32) reducesTo_S4x32x2048x2048_S4x32x2048_d3 h_S_

/-- The exponentials of the scores less a number of their row. -/
def exps (s : FVec Ideal S4x32x2048x2048 .f32) (r : FVec Ideal S4x32x2048 .f32) : FVec Ideal S4x32x2048x2048 .f32 :=
  Host.exp (subf s (broadcastInDim S4x32x2048x2048 ![0, 1, 2, 3] bcast_S4x32x2048x1_S4x32x2048x2048_0_1_2_3 (broadcastInDim S4x32x2048x1 ![0, 1, 2] bcast_S4x32x2048_S4x32x2048x1_0_1_2 (maximumf (broadcastInDim S4x32x2048 ![] bcast_S_S4x32x2048 (constant S_ .f32 0xFF800000#32)) r))))

/-- The exponentials of the scores less their row's greatest. -/
def expsOf (s : FVec Ideal S4x32x2048x2048 .f32) : FVec Ideal S4x32x2048x2048 .f32 := exps s (rowMax s)

/-- The weights, pairs of groups together. -/
def weights (e : FVec Ideal S4x32x2048x2048 .f32) : FVec Ideal S4x16x2x2048x2048 .f32 :=
  shapeCast _ (Host.divf e (broadcastInDim S4x32x2048x2048 ![0, 1, 2, 3] bcast_S4x32x2048x1_S4x32x2048x2048_0_1_2_3 (broadcastInDim S4x32x2048x1 ![0, 1, 2] bcast_S4x32x2048_S4x32x2048x1_0_1_2 (Host.reduceAdd e (constant S_ .f32 0x00000000#32) reducesTo_S4x32x2048x2048_S4x32x2048_d3 h_S_)))) shapeCasts_S4x32x2048x2048_S4x16x2x2048x2048

/-- The factor of the second weights. -/
def factor (a3 a4 a5 a6 : FVec Ideal S1x64 .f32) : FVec Ideal S_ .f32 :=
  addf (subf (Host.exp (Host.reduceAdd (mulf (shapeCast _ a3 shapeCasts_S1x64_S64) (shapeCast _ a4 shapeCasts_S1x64_S64)) (constant S_ .f32 0x00000000#32) reducesTo_S64_S_d0 h_S_)) (Host.exp (Host.reduceAdd (mulf (shapeCast _ a5 shapeCasts_S1x64_S64) (shapeCast _ a6 shapeCasts_S1x64_S64)) (constant S_ .f32 0x00000000#32) reducesTo_S64_S_d0 h_S_))) (constant S_ .f32 0x3E4CCCCD#32)

/-- The value rows. -/
def vRows (p : FVec Ideal S4x2048x20480 .bf16) : FVec Ideal S4x2048x16x128 .f32 :=
  shapeCast _ (extf .f32 (extractStridedSlice S4x2048x2048 ![0, 0, 14336] p slices_S4x2048x20480_S4x2048x2048_0_0_14336) bitsLt_bf16_f32) shapeCasts_S4x2048x2048_S4x2048x16x128

/-- The heads. -/
def heads (v : FVec Ideal S4x2048x16x128 .f32) (w : FVec Ideal S4x16x2x2048x2048 .f32) (l : FVec Ideal S_ .f32) : FVec Ideal S4x2048x16x128 .f32 :=
  transpose S4x2048x16x128 [0, 3, 1, 2] (Host.dotGeneral dot_S4x2048x16x128_S4x16x2048x2048_S4x16x128x2048_1_3_3_2_02_01 none v (subf (shapeCast _ (extractStridedSlice S4x16x1x2048x2048 ![0, 0, 0, 0, 0] w slices_S4x16x2x2048x2048_S4x16x1x2048x2048_0_0_0_0_0) shapeCasts_S4x16x1x2048x2048_S4x16x2048x2048) (mulf (broadcastInDim S4x16x2048x2048 ![] bcast_S_S4x16x2048x2048 l) (shapeCast _ (extractStridedSlice S4x16x1x2048x2048 ![0, 0, 1, 0, 0] w slices_S4x16x2x2048x2048_S4x16x1x2048x2048_0_0_1_0_0) shapeCasts_S4x16x1x2048x2048_S4x16x2048x2048)))) transposes_S4x16x128x2048_S4x2048x16x128_0_3_1_2

/-- The heads, normalized. -/
def result (o : FVec Ideal S4x2048x16x128 .f32) (w : FVec Ideal S1x128 .f32) : FVec Ideal S4x2048x2048 .bf16 :=
  truncf .bf16 (shapeCast _ (mulf (mulf (mulf o (broadcastInDim S4x2048x16x128 ![0, 1, 2, 3] bcast_S4x2048x16x1_S4x2048x16x128_0_1_2_3 (Host.rsqrt (addf (Host.divf (broadcastInDim S4x2048x16x1 ![0, 1, 2] bcast_S4x2048x16_S4x2048x16x1_0_1_2 (Host.reduceAdd (mulf o o) (constant S_ .f32 0x00000000#32) reducesTo_S4x2048x16x128_S4x2048x16_d3 h_S_)) (broadcastInDim S4x2048x16x1 ![] bcast_S_S4x2048x16x1 (constant S_ .f32 0x43000000#32))) (broadcastInDim S4x2048x16x1 ![] bcast_S_S4x2048x16x1 (constant S_ .f32 0x3727C5AC#32)))))) (broadcastInDim S4x2048x16x128 ![0, 1, 2, 3] bcast_S1x1x1x128_S4x2048x16x128_0_1_2_3 (broadcastInDim S1x1x1x128 ![3] bcast_S128_S1x1x1x128_3 (shapeCast _ w shapeCasts_S1x128_S128)))) (broadcastInDim S4x2048x16x128 ![] bcast_S_S4x2048x16x128 (constant S_ .f32 0x3F4CCCCD#32))) shapeCasts_S4x2048x16x128_S4x2048x2048) bitsLt_bf16_f32

theorem qRows_apply (p : FVec Ideal S4x2048x20480 .bf16) (b : Fin 4) (i : Fin 2048) (g : Fin 32) (d : Fin 64) :
    qRows p (ix4 b i g d) = p (ix3 b i ⟨10240 + (g.val * 64 + d.val), by omega⟩) := by
  unfold qRows
  pointwise

theorem kRows_apply (p : FVec Ideal S4x2048x20480 .bf16) (b : Fin 4) (i : Fin 2048) (g : Fin 32) (d : Fin 64) :
    kRows p (ix4 b i g d) = p (ix3 b i ⟨12288 + (g.val * 64 + d.val), by omega⟩) := by
  unfold kRows
  pointwise

theorem normed_apply (q : FVec Ideal S4x2048x32x64 .f32) (w : FVec Ideal S1x64 .f32) (b : Fin 4) (i : Fin 2048) (g : Fin 32) (d : Fin 64) :
    normed q w (ix4 b i g d) = q (ix4 b i g d)
      * Ideal.rsqrt (Ideal.div (∑ x, q (ix4 b i g x) * q (ix4 b i g x)) (Ideal.ofBits FTy.f32 1115684864#32) + Ideal.ofBits FTy.f32 897988541#32)
      * w (ix2 (0 : Fin 1) d) := by
  unfold normed
  pointwise

theorem angles_apply (y : Fin 2048) (x : Fin 32) : angles (ix2 y x) = Cert.AttnIdeal.Value.angE y.val x.val := by
  unfold angles Cert.AttnIdeal.Value.angE
  pointwise

theorem turned_apply (n : FVec Ideal S4x2048x32x64 .f32) (ang : FVec Ideal S2048x32 .f32) (b : Fin 4) (i : Fin 2048) (g : Fin 32) (d : Fin 64) :
    turned n ang (ix4 b i g d) = if h : d.val < 32 then
      n (ix4 b i g d) * Ideal.cos (ang (ix2 i ⟨d.val, h⟩)) - n (ix4 b i g ⟨32 + d.val, by omega⟩) * Ideal.sin (ang (ix2 i ⟨d.val, h⟩))
    else
      n (ix4 b i g ⟨32 + (d.val - 32), by omega⟩) * Ideal.cos (ang (ix2 i ⟨d.val - 32, by omega⟩))
        + n (ix4 b i g ⟨d.val - 32, by omega⟩) * Ideal.sin (ang (ix2 i ⟨d.val - 32, by omega⟩)) := by
  unfold turned
  pointwise

theorem scores_apply (q k : FVec Ideal S4x2048x32x64 .f32) (b : Fin 4) (g : Fin 32) (i j : Fin 2048) :
    scores q k (ix4 b g i j) = Scalar.select (IntOp.cmpi CmpIPredicate.sle (BitVec.ofNat 32 j.val) (BitVec.ofNat 32 i.val))
      ((∑ x, q (ix4 b i g x) * k (ix4 b j g x)) * Ideal.ofBits FTy.f32 1040187392#32) (Ideal.ofBits FTy.f32 4286578688#32) := by
  unfold scores
  pointwise
  rfl

theorem exps_apply (s : FVec Ideal S4x32x2048x2048 .f32) (r : FVec Ideal S4x32x2048 .f32) (b : Fin 4) (g : Fin 32) (i j : Fin 2048) :
    exps s r (ix4 b g i j) = Ideal.exp (s (ix4 b g i j) - max (Ideal.ofBits FTy.f32 4286578688#32) (r (ix3 b g i))) := by
  unfold exps
  pointwise

theorem weights_apply (s : FVec Ideal S4x32x2048x2048 .f32) (b : Fin 4) (h : Fin 16) (z : Fin 2) (i j : Fin 2048) :
    weights s (ix5 b h z i j) = Ideal.div (s (ix4 b ⟨h.val * 2 + z.val, by omega⟩ i j)) (∑ x, s (ix4 b ⟨h.val * 2 + z.val, by omega⟩ i x)) := by
  unfold weights
  pointwise

theorem factor_apply (a3 a4 a5 a6 : FVec Ideal S1x64 .f32) : factor a3 a4 a5 a6 ix0
    = Ideal.exp (∑ x, a3 (ix2 (0 : Fin 1) x) * a4 (ix2 (0 : Fin 1) x)) - Ideal.exp (∑ x, a5 (ix2 (0 : Fin 1) x) * a6 (ix2 (0 : Fin 1) x))
      + Ideal.ofBits FTy.f32 1045220557#32 := by
  unfold factor
  pointwise

theorem vRows_apply (p : FVec Ideal S4x2048x20480 .bf16) (b : Fin 4) (i : Fin 2048) (g : Fin 16) (d : Fin 128) :
    vRows p (ix4 b i g d) = p (ix3 b i ⟨14336 + (g.val * 128 + d.val), by omega⟩) := by
  unfold vRows
  pointwise

theorem heads_apply (v : FVec Ideal S4x2048x16x128 .f32) (w : FVec Ideal S4x16x2x2048x2048 .f32) (l : FVec Ideal S_ .f32) (b : Fin 4) (i : Fin 2048) (g : Fin 16) (d : Fin 128) :
    heads v w l (ix4 b i g d) = ∑ x, v (ix4 b x g d) * (w (ix5 b g 0 i x) - l ix0 * w (ix5 b g 1 i x)) := by
  unfold heads
  pointwise

theorem result_apply (o : FVec Ideal S4x2048x16x128 .f32) (w : FVec Ideal S1x128 .f32) (b : Fin 4) (i : Fin 2048) (x : Fin 2048) :
    result o w (ix3 b i x) = Cert.AttnIdeal.Tile.nrm (fun y => o (ix4 b i ⟨x.val / 128, by omega⟩ y)) (fun y => w (ix2 (0 : Fin 1) y)) ⟨x.val % 128, Nat.mod_lt _ (by norm_num)⟩ := by
  unfold result Cert.AttnIdeal.Tile.nrm
  pointwise

theorem res123 (V0 : Valuation τ sig (Elt Ideal)) : res_main_v123 V0 = exps (res_main_v116 V0) (rowMax (res_main_v116 V0)) := rfl

theorem res23 (V0 : Valuation τ sig (Elt Ideal)) : res_main_v23 V0 = normed (qRows (V0 (Proc.devRef .tc main_arg0))) (V0 (Proc.devRef .tc main_arg1)) := rfl
theorem res66 (V0 : Valuation τ sig (Elt Ideal)) : res_main_v66 V0 = normed (kRows (V0 (Proc.devRef .tc main_arg0))) (V0 (Proc.devRef .tc main_arg2)) := rfl
theorem res35 (V0 : Valuation τ sig (Elt Ideal)) : res_main_v35 V0 = angles := rfl
theorem res78 (V0 : Valuation τ sig (Elt Ideal)) : res_main_v78 V0 = angles := rfl
theorem res116 (V0 : Valuation τ sig (Elt Ideal)) : res_main_v116 V0 = scores (turned (res_main_v23 V0) (res_main_v35 V0)) (turned (res_main_v66 V0) (res_main_v78 V0)) := rfl
theorem res128 (V0 : Valuation τ sig (Elt Ideal)) : res_main_v128 V0 = weights (res_main_v123 V0) := rfl
theorem res137 (V0 : Valuation τ sig (Elt Ideal)) : res_main_v137 V0 = heads (vRows (V0 (Proc.devRef .tc main_arg0))) (res_main_v128 V0)
  (factor (V0 (Proc.devRef .tc main_arg3)) (V0 (Proc.devRef .tc main_arg4)) (V0 (Proc.devRef .tc main_arg5)) (V0 (Proc.devRef .tc main_arg6))) := rfl

theorem res_eq (m : (ℓ : Loc nD τ sig) → Buf (Elt Ideal) ℓ) (c : Dev nD) :
    truncf .bf16 (shapeCast _ (mulf (mulf (mulf (res_main_v137 (launchContents m c)) (broadcastInDim S4x2048x16x128 ![0, 1, 2, 3] bcast_S4x2048x16x1_S4x2048x16x128_0_1_2_3 (Host.rsqrt (addf (Host.divf (broadcastInDim S4x2048x16x1 ![0, 1, 2] bcast_S4x2048x16_S4x2048x16x1_0_1_2 (Host.reduceAdd (mulf (res_main_v137 (launchContents m c)) (res_main_v137 (launchContents m c))) (constant S_ .f32 0x00000000#32) reducesTo_S4x2048x16x128_S4x2048x16_d3 h_S_)) (broadcastInDim S4x2048x16x1 ![] bcast_S_S4x2048x16x1 (constant S_ .f32 0x43000000#32))) (broadcastInDim S4x2048x16x1 ![] bcast_S_S4x2048x16x1 (constant S_ .f32 0x3727C5AC#32)))))) (broadcastInDim S4x2048x16x128 ![0, 1, 2, 3] bcast_S1x1x1x128_S4x2048x16x128_0_1_2_3 (broadcastInDim S1x1x1x128 ![3] bcast_S128_S1x1x1x128_3 (shapeCast _ ((launchContents m c) (Proc.devRef .tc main_arg7)) shapeCasts_S1x128_S128)))) (broadcastInDim S4x2048x16x128 ![] bcast_S_S4x2048x16x128 (constant S_ .f32 0x3F4CCCCD#32))) shapeCasts_S4x2048x16x128_S4x2048x2048) bitsLt_bf16_f32
    = result (heads (vRows (m ((c.tc : Thread nD τ).loc main_arg0)))
        (weights (expsOf (scores (turned (normed (qRows (m ((c.tc : Thread nD τ).loc main_arg0))) (m ((c.tc : Thread nD τ).loc main_arg1))) angles)
          (turned (normed (kRows (m ((c.tc : Thread nD τ).loc main_arg0))) (m ((c.tc : Thread nD τ).loc main_arg2))) angles))))
        (factor (m ((c.tc : Thread nD τ).loc main_arg3)) (m ((c.tc : Thread nD τ).loc main_arg4)) (m ((c.tc : Thread nD τ).loc main_arg5)) (m ((c.tc : Thread nD τ).loc main_arg6))))
      (m ((c.tc : Thread nD τ).loc main_arg7)) := by
  rw [res137, res128, res123, res116, res23, res66, res35, res78]
  rfl

end Cert.AttnRefIdeal.Value

end
-- ==== Proof.Attn.Claim.lean ====
/-
  ATTENTION'S VALUE. Over arguments that are real numbers the reference's weights are the exponentials of the scores over their
  sum; the kernel's are powers of two of the scores scaled by the inverse of the logarithm of two. The two are the same weights.
-/
module

public import proofs.«01_k».proof.Proof.Attn.Ref

@[expose] public section

set_option maxRecDepth 16384

noncomputable section

open Idealize.ShloMosaic Idealize.ShloMosaic.TcCoe Idealize.SL.Sem Idealize.ShloMosaic.StableHlo
open Finset (range)

namespace Cert.AttnRefIdeal.Value

open Cert.AttnRefIdeal Cert.AttnRefIdeal.Gen
open Cert.AttnIdeal.Tile (csum nR ropeR rowR qR kR epsR epsR_pos ofBits_eps scaleR score upTo meanR headR lamR nrm ofBits_bot ofBits_lam0 group_sum slt_lane sge_lane)
open Cert.AttnIdeal.Value (Reals RealCols colAt rowAt cosR sinR angR angE_real headAt attnAt attnAt_head)

theorem ofBits_64 : (Ideal.ofBits FTy.f32 1115684864#32 : EReal) = ((64 : ℝ) : EReal) := by
  simp [Ideal.ofBits, Ideal.ieee, -EReal.coe_mul]; norm_num

theorem ofBits_8th : (Ideal.ofBits FTy.f32 1040187392#32 : EReal) = ((1 / 8 : ℝ) : EReal) := by
  simp [Ideal.ofBits, Ideal.ieee, -EReal.coe_mul]; norm_num

theorem normed_real {q : FVec Ideal S4x2048x32x64 .f32} {w : FVec Ideal S1x64 .f32} {X W : ℕ → ℝ} (b : Fin 4) (i : Fin 2048) (g : Fin 32) (z : ℕ)
    (hq : ∀ d : Fin 64, q (ix4 b i g d) = ((X (64 * z + d.val) : ℝ) : EReal)) (hw : ∀ d : Fin 64, w (ix2 (0 : Fin 1) d) = ((W (64 * z + d.val) : ℝ) : EReal)) (d : Fin 64) :
    normed q w (ix4 b i g d) = ((nR X W epsR (64 * z + d.val) : ℝ) : EReal) := by
  rw [normed_apply]
  have e : ∑ x, q (ix4 b i g x) * q (ix4 b i g x) = ((∑ x ∈ range 64, X (64 * z + x) * X (64 * z + x) : ℝ) : EReal) := by
    rw [← csum]
    exact Finset.sum_congr rfl fun x _ => by rw [hq, ← EReal.coe_mul]
  have p : 0 < (∑ x ∈ range 64, X (64 * z + x) * X (64 * z + x)) * (1 / 64) + epsR :=
    add_pos_of_nonneg_of_pos (mul_nonneg (Finset.sum_nonneg fun d _ => mul_self_nonneg _) (by norm_num)) epsR_pos
  rw [e, hq, hw, ofBits_64, ofBits_eps, Ideal.div_coe (by norm_num), ← EReal.coe_mul, ← EReal.coe_add, Ideal.rsqrt_coe, if_neg (not_lt.2 p.le), if_neg p.ne',
    ← EReal.coe_mul, ← EReal.coe_mul]
  have hd := d.isLt
  unfold nR
  rw [show (64 * z + d.val) / 64 = z by omega]

theorem turned_real {n : FVec Ideal S4x2048x32x64 .f32} {N : ℕ → ℝ} (b : Fin 4) (i : Fin 2048) (g : Fin 32) (z : ℕ)
    (hn : ∀ d : Fin 64, n (ix4 b i g d) = ((N (64 * z + d.val) : ℝ) : EReal)) (d : Fin 64) :
    turned n angles (ix4 b i g d) = ((ropeR N (cosR i.val) (sinR i.val) (64 * z + d.val) : ℝ) : EReal) := by
  rw [turned_apply]
  have hd := d.isLt
  unfold ropeR cosR sinR
  by_cases h : d.val < 32
  · rw [dif_pos h, hn, hn, angles_apply, angE_real, Ideal.cos_coe, Ideal.sin_coe, ← EReal.coe_mul, ← EReal.coe_mul, ← EReal.coe_sub]
    rw [if_pos (by omega), if_pos (by omega), show (64 * z + d.val) % 32 = d.val by omega]
    dsimp only
    rw [show 64 * z + (32 + d.val) = 64 * z + d.val + 32 by omega]
    congr 1
    ring
  · rw [dif_neg h, hn, hn, angles_apply, angE_real, Ideal.cos_coe, Ideal.sin_coe, ← EReal.coe_mul, ← EReal.coe_mul, ← EReal.coe_add]
    rw [if_neg (by omega), if_neg (by omega), show (64 * z + d.val) % 32 = d.val - 32 by omega]
    dsimp only
    rw [show 64 * z + (32 + (d.val - 32)) = 64 * z + d.val by omega, show 64 * z + (d.val - 32) = 64 * z + d.val - 32 by omega]

theorem sle_iff (a b : ℕ) (ha : a < 2048) (hb : b < 2048) :
    IntOp.cmpi CmpIPredicate.sle (BitVec.ofNat 32 a) (BitVec.ofNat 32 b) = if a ≤ b then 1#1 else 0#1 := by
  have e : ((BitVec.ofNat 32 a).sle (BitVec.ofNat 32 b)) = decide (a ≤ b) := by
    rw [BitVec.sle_eq_decide, BitVec.toInt_eq_toNat_of_lt (by simp; omega), BitVec.toInt_eq_toNat_of_lt (by simp; omega)]
    simp; omega
  by_cases h : a ≤ b <;> simp [IntOp.cmpi, e, h]

theorem scores_real {q k : FVec Ideal S4x2048x32x64 .f32} {Q K : ℕ → ℕ → ℝ} (b : Fin 4) (g : Fin 32) (z : ℕ)
    (hq : ∀ (i : Fin 2048) (d : Fin 64), q (ix4 b i g d) = ((Q i.val (64 * z + d.val) : ℝ) : EReal))
    (hk : ∀ (i : Fin 2048) (d : Fin 64), k (ix4 b i g d) = ((K i.val (64 * z + d.val) : ℝ) : EReal)) (i j : Fin 2048) :
    scores q k (ix4 b g i j) = if j.val ≤ i.val then (((∑ d ∈ range 64, Q i.val (64 * z + d) * K j.val (64 * z + d)) * (1 / 8) : ℝ) : EReal) else ⊥ := by
  rw [scores_apply]
  have e : ∑ x, q (ix4 b i g x) * k (ix4 b j g x) = ((∑ x ∈ range 64, Q i.val (64 * z + x) * K j.val (64 * z + x) : ℝ) : EReal) := by
    rw [← csum]
    exact Finset.sum_congr rfl fun x _ => by rw [hq, hk, ← EReal.coe_mul]
  rw [e, ofBits_8th, ofBits_bot, sle_iff _ _ j.isLt i.isLt, ← EReal.coe_mul]
  by_cases h : j.val ≤ i.val <;> simp [h, Scalar.select]

theorem rowMax_fold (s : FVec Ideal S4x32x2048x2048 .f32) (b : Fin 4) (g : Fin 32) (i : Fin 2048) :
    rowMax s (ix3 b g i) = (Finset.univ : Finset (Fin 2048)).fold (fun x y : EReal => max x y) ⊥ (fun k => s (ix4 b g i k)) := by
  unfold rowMax
  rw [Host.reduce_eq_fold, Shape.ReducesTo.fold_fiber_r4_a3, ← ofBits_bot]
  rfl

/-- A row's greatest score is a real number. -/
theorem rowMax_real {s : FVec Ideal S4x32x2048x2048 .f32} {f : ℕ → ℝ} (b : Fin 4) (g : Fin 32) (i : Fin 2048)
    (hs : ∀ j : Fin 2048, s (ix4 b g i j) = if j.val ≤ i.val then ((f j.val : ℝ) : EReal) else ⊥) :
    ∃ M : ℝ, rowMax s (ix3 b g i) = ((M : ℝ) : EReal) := by
  refine ⟨(rowMax s (ix3 b g i)).toReal, (EReal.coe_toReal ?_ ?_).symm⟩
  · rw [rowMax_fold]
    refine ne_of_lt ((Finset.fold_max_lt (c := ⊤)).2 ⟨bot_lt_top, fun j _ => ?_⟩)
    rw [hs]
    split_ifs
    · exact EReal.coe_lt_top _
    · exact bot_lt_top
  · rw [rowMax_fold]
    refine ne_of_gt ((Finset.lt_fold_max (c := ⊥)).2 (Or.inr ⟨i, Finset.mem_univ i, ?_⟩))
    rw [hs, if_pos le_rfl]
    exact EReal.bot_lt_coe _

/-- The weights of a row. -/
theorem weights_real {s : FVec Ideal S4x32x2048x2048 .f32} {f : ℕ → ℝ} (b : Fin 4) (h : Fin 16) (z : Fin 2) (i : Fin 2048)
    (hs : ∀ j : Fin 2048, s (ix4 b (⟨h.val * 2 + z.val, by omega⟩ : Fin 32) i j) = if j.val ≤ i.val then ((f j.val : ℝ) : EReal) else ⊥) (j : Fin 2048) :
    weights (expsOf s) (ix5 b h z i j)
      = (((if j.val ≤ i.val then Real.exp (f j.val) else 0) / (∑ x ∈ range 2048, if x ≤ i.val then Real.exp (f x) else 0) : ℝ) : EReal) := by
  obtain ⟨M, hM⟩ := rowMax_real b _ i hs
  have he (j : Fin 2048) : expsOf s (ix4 b (⟨h.val * 2 + z.val, by omega⟩ : Fin 32) i j)
      = (((if j.val ≤ i.val then Real.exp (f j.val) else 0) * Real.exp (-M) : ℝ) : EReal) := by
    unfold expsOf
    rw [exps_apply, hM, ofBits_bot, max_eq_right bot_le, hs]
    split_ifs
    · rw [← EReal.coe_sub, Ideal.exp_coe, sub_eq_add_neg, Real.exp_add]
    · rw [EReal.bot_sub, zero_mul]; rfl
  have p : 0 < ∑ x ∈ range 2048, if x ≤ i.val then Real.exp (f x) else 0 := by
    refine Finset.sum_pos' (fun x _ => ?_) ⟨i.val, Finset.mem_range.2 i.isLt, ?_⟩
    · split_ifs
      · exact (Real.exp_pos _).le
      · exact le_rfl
    · rw [if_pos le_rfl]; exact Real.exp_pos _
  have e : ∑ x, expsOf s (ix4 b (⟨h.val * 2 + z.val, by omega⟩ : Fin 32) i x)
      = (((∑ x ∈ range 2048, if x ≤ i.val then Real.exp (f x) else 0) * Real.exp (-M) : ℝ) : EReal) := by
    rw [Finset.sum_mul, ← csum]
    exact Finset.sum_congr rfl fun x _ => he x
  rw [weights_apply, e, he, Ideal.div_coe (mul_pos p (Real.exp_pos _)).ne', ← EReal.coe_mul, mul_one_div, mul_div_mul_right _ _ (Real.exp_pos _).ne']

/-- The kernel's scores are a group's scores, scaled for powers of two. -/
theorem score_group (p : CmpIPredicate) (z : ℕ) (hz : z < 2) (hp : ∀ l : Fin 128, (IntOp.cmpi p (BitVec.ofNat 32 l.val) 64#32 = 1#1) = (l.val / 64 = z))
    (X0 X1 : ℕ → ℕ → ℝ) (W5 W6 : ℕ → ℝ) (C S : ℕ → ℕ → ℝ) (i j : ℕ) :
    Real.rpow 2 (score (qR p X0 W5 C S) (kR X1 W6 C S) i j)
      = Real.exp ((∑ d ∈ range 64, rowR (X0 i) W5 (C i) (S i) (64 * z + d) * rowR (X1 j) W6 (C j) (S j) (64 * z + d)) * (1 / 8)) := by
  have e : score (qR p X0 W5 C S) (kR X1 W6 C S) i j
      = (∑ d ∈ range 64, rowR (X0 i) W5 (C i) (S i) (64 * z + d) * rowR (X1 j) W6 (C j) (S j) (64 * z + d)) * scaleR := by
    have g := group_sum (fun l => rowR (X0 i) W5 (C i) (S i) l * rowR (X1 j) W6 (C j) (S j) l) (64 * z) (by omega)
    rw [show 64 * z / 64 = z by omega] at g
    rw [← g, Finset.sum_mul]
    unfold score qR kR
    refine Finset.sum_congr rfl fun d hd => ?_
    have q := hp ⟨d, Finset.mem_range.1 hd⟩
    dsimp only at q
    by_cases h : d / 64 = z
    · rw [if_pos (q ▸ h), if_pos h]; ring
    · rw [if_neg (q ▸ h), if_neg h]; ring
  have l2 : Real.log 2 ≠ 0 := (Real.log_pos (by norm_num)).ne'
  rw [e]
  refine (Real.rpow_def_of_pos (by norm_num) _).trans ?_
  congr 1
  unfold scaleR
  field_simp

/-- A mean is the sum of the values, each times its weight. -/
theorem mean_weights (Q K V : ℕ → ℕ → ℝ) (f : ℕ → ℝ) (i x : ℕ) (hf : ∀ j, Real.rpow 2 (score Q K i j) = Real.exp (f j)) :
    meanR Q K V i x = ∑ j ∈ range 2048, V j x * ((if j ≤ i then Real.exp (f j) else 0) / ∑ y ∈ range 2048, if y ≤ i then Real.exp (f y) else 0) := by
  unfold meanR upTo
  simp only [hf, mul_one]
  rw [Finset.sum_div]
  refine Finset.sum_congr rfl fun j _ => ?_
  split_ifs
  · ring
  · ring

section
variable (p : FVec Ideal S4x2048x20480 .bf16) (hp : RealCols p)

theorem row_real (w : FVec Ideal S1x64 .f32) (hw : Reals w) (z : ℕ) (d : Fin 64) : w (ix2 (0 : Fin 1) d) = ((rowAt w (64 * z + d.val) : ℝ) : EReal) := by
  rw [hw]
  unfold rowAt
  congr 4
  have := d.isLt
  exact Fin.ext (by dsimp only; omega)

include hp in
theorem q_real (w : FVec Ideal S1x64 .f32) (hw : Reals w) (b : Fin 4) (h : Fin 16) (z : Fin 2) (i : Fin 2048) (d : Fin 64) :
    turned (normed (qRows p) w) angles (ix4 b i (⟨h.val * 2 + z.val, by omega⟩ : Fin 32) d)
      = ((rowR (colAt p b (10240 + 128 * h.val) i.val) (rowAt w) (cosR i.val) (sinR i.val) (64 * z.val + d.val) : ℝ) : EReal) := by
  refine turned_real (N := nR (colAt p b (10240 + 128 * h.val) i.val) (rowAt w) epsR) b i _ z.val (normed_real b i _ z.val (fun d => ?_) (row_real w hw z.val)) d
  rw [qRows_apply, hp _ _ _ (by dsimp only; omega) (by dsimp only; omega)]
  unfold colAt
  rw [dif_pos ⟨i.isLt, by omega⟩]
  congr 4
  exact Fin.ext (by dsimp only; omega)

include hp in
theorem k_real (w : FVec Ideal S1x64 .f32) (hw : Reals w) (b : Fin 4) (h : Fin 16) (z : Fin 2) (i : Fin 2048) (d : Fin 64) :
    turned (normed (kRows p) w) angles (ix4 b i (⟨h.val * 2 + z.val, by omega⟩ : Fin 32) d)
      = ((rowR (colAt p b (12288 + 128 * h.val) i.val) (rowAt w) (cosR i.val) (sinR i.val) (64 * z.val + d.val) : ℝ) : EReal) := by
  refine turned_real (N := nR (colAt p b (12288 + 128 * h.val) i.val) (rowAt w) epsR) b i _ z.val (normed_real b i _ z.val (fun d => ?_) (row_real w hw z.val)) d
  rw [kRows_apply, hp _ _ _ (by dsimp only; omega) (by dsimp only; omega)]
  unfold colAt
  rw [dif_pos ⟨i.isLt, by omega⟩]
  congr 4
  exact Fin.ext (by dsimp only; omega)

include hp in
theorem v_real (b : Fin 4) (h : Fin 16) (i : Fin 2048) (d : Fin 128) : vRows p (ix4 b i h d) = ((colAt p b (14336 + 128 * h.val) i.val d.val : ℝ) : EReal) := by
  rw [vRows_apply, hp _ _ _ (by dsimp only; omega) (by dsimp only; omega)]
  unfold colAt
  rw [dif_pos ⟨i.isLt, by omega⟩]
  congr 4
  exact Fin.ext (by dsimp only; omega)

theorem factor_real (a3 a4 a5 a6 : FVec Ideal S1x64 .f32) (h3 : Reals a3) (h4 : Reals a4) (h5 : Reals a5) (h6 : Reals a6) :
    factor a3 a4 a5 a6 ix0 = ((lamR (rowAt a3) (rowAt a4) (rowAt a5) (rowAt a6) : ℝ) : EReal) := by
  have e (a b : FVec Ideal S1x64 .f32) (ha : Reals a) (hb : Reals b) : ∑ x, a (ix2 (0 : Fin 1) x) * b (ix2 (0 : Fin 1) x)
      = ((∑ d ∈ range 64, rowAt a d * rowAt b d : ℝ) : EReal) := by
    rw [← csum]
    refine Finset.sum_congr rfl fun x _ => ?_
    have q := row_real a ha 0 x
    have r := row_real b hb 0 x
    rw [Nat.mul_zero, Nat.zero_add] at q r
    rw [q, r, ← EReal.coe_mul]
  rw [factor_apply, e a3 a4 h3 h4, e a5 a6 h5 h6, Ideal.exp_coe, Ideal.exp_coe, ofBits_lam0, ← EReal.coe_sub, ← EReal.coe_add]
  rfl

/-- The scores of the two groups of a head. -/
def scoreAt (w1 w2 : FVec Ideal S1x64 .f32) (b : Fin 4) (h i z j : ℕ) : ℝ :=
  (∑ d ∈ range 64, rowR (colAt p b (10240 + 128 * h) i) (rowAt w1) (cosR i) (sinR i) (64 * z + d)
    * rowR (colAt p b (12288 + 128 * h) j) (rowAt w2) (cosR j) (sinR j) (64 * z + d)) * (1 / 8)

include hp in
/-- The reference's heads are the kernel's. -/
theorem heads_real (w1 w2 a3 a4 a5 a6 : FVec Ideal S1x64 .f32) (h1 : Reals w1) (h2 : Reals w2) (h3 : Reals a3) (h4 : Reals a4) (h5 : Reals a5) (h6 : Reals a6)
    (b : Fin 4) (i : Fin 2048) (h : Fin 16) (x : Fin 128) :
    heads (vRows p) (weights (expsOf (scores (turned (normed (qRows p) w1) angles) (turned (normed (kRows p) w2) angles)))) (factor a3 a4 a5 a6) (ix4 b i h x)
      = ((headAt p w1 w2 a3 a4 a5 a6 b h.val i.val x.val : ℝ) : EReal) := by
  have hw (z : Fin 2) := weights_real b h z i (f := scoreAt p w1 w2 b h.val i.val z.val)
    (scores_real (Q := fun i => rowR (colAt p b (10240 + 128 * h.val) i) (rowAt w1) (cosR i) (sinR i))
      (K := fun i => rowR (colAt p b (12288 + 128 * h.val) i) (rowAt w2) (cosR i) (sinR i)) b _ z.val (q_real p hp w1 h1 b h z) (k_real p hp w2 h2 b h z) i)
  rw [heads_apply, factor_real _ _ _ _ h3 h4 h5 h6]
  unfold headAt headR
  rw [mean_weights _ _ _ (scoreAt p w1 w2 b h.val i.val 0) _ _
      (score_group .slt 0 (by norm_num) (fun l => by rw [slt_lane]; exact propext (by omega)) _ _ _ _ _ _ _),
    mean_weights _ _ _ (scoreAt p w1 w2 b h.val i.val 1) _ _
      (score_group .sge 1 (by norm_num) (fun l => by have := l.isLt; rw [sge_lane]; exact propext (by omega)) _ _ _ _ _ _ _),
    Finset.mul_sum, ← Finset.sum_sub_distrib, ← csum]
  refine Finset.sum_congr rfl fun j _ => ?_
  rw [v_real p hp, hw 0, hw 1, ← EReal.coe_mul, ← EReal.coe_sub, ← EReal.coe_mul]
  congr 1
  show _ * (_ - _ * _) = _ * _ - _ * (_ * _)
  rw [show ((0 : Fin 2).val) = 0 from rfl, show ((1 : Fin 2).val) = 1 from rfl]
  ring

include hp in
/-- The reference's term is the kernel's function. -/
theorem ref_eq (w1 w2 a3 a4 a5 a6 : FVec Ideal S1x64 .f32) (w7 : FVec Ideal S1x128 .f32) (h1 : Reals w1) (h2 : Reals w2) (h3 : Reals a3) (h4 : Reals a4)
    (h5 : Reals a5) (h6 : Reals a6) :
    result (heads (vRows p) (weights (expsOf (scores (turned (normed (qRows p) w1) angles) (turned (normed (kRows p) w2) angles)))) (factor a3 a4 a5 a6)) w7
      = attnAt p w1 w2 a3 a4 a5 a6 w7 := by
  funext y
  obtain ⟨b, i, x, rfl⟩ : ∃ (b : Fin 4) (i : Fin 2048) (x : Fin 2048), y = ix3 b i x := ⟨y 0, y 1, y 2, eq_ix3 y⟩
  rw [result_apply]
  refine Eq.trans ?_ (Eq.trans (attnAt_head p w1 w2 a3 a4 a5 a6 w7 b i (x.val / 128) ⟨x.val % 128, Nat.mod_lt _ (by norm_num)⟩ (by dsimp only; omega)).symm ?_)
  · congr 1
    funext z
    exact heads_real p hp w1 w2 a3 a4 a5 a6 h1 h2 h3 h4 h5 h6 b i _ z
  · congr 2
    exact Fin.ext (Nat.div_add_mod x.val 128)

end

end Cert.AttnRefIdeal.Value

namespace Cert.Proof

/-- The call and its reference leave the same result. -/
theorem attn_claim : Cert.algebraic_AttnIdeal_AttnRefIdeal_pre_finite_attn (hAttnIdeal := Cert.AttnIdeal.Gen.facts)
    (hAttnRefIdeal := Cert.AttnRefIdeal.Gen.facts) (hPre_finite_attn := Cert.Pre_finite_attn.Gen.facts) := by
  intro m g m' g' hp hm
  have hr (c) : Cert.AttnIdeal.Value.RealArgs m c := Cert.AttnIdeal.Value.finite_args m hp c
  refine ⟨fun c => _, (θ_run _ _ _).mono (fun r h c => ⟨(h c).1.trans (Cert.AttnIdeal.Value.final m c (hr c)), (h c).2⟩)
    (Cert.AttnIdeal.Value.run_blocks m g), ?_⟩
  refine (θ_run _ _ _).mono (fun r h c => ⟨(h c).1.trans ?_, (h c).2⟩) (Cert.AttnRefIdeal.Value.run m' g')
  obtain ⟨e0, e1, e2, e3, e4, e5, e6, e7⟩ := hm c
  rw [Cert.AttnRefIdeal.Value.res_eq, e0, e1, e2, e3, e4, e5, e6, e7]
  exact Cert.AttnRefIdeal.Value.ref_eq _ (hr c).a0 _ _ _ _ _ _ _ (hr c).a1 (hr c).a2 (hr c).a3 (hr c).a4 (hr c).a5 (hr c).a6

end Cert.Proof

end
-- ==== Proof.Ssd.Tile.lean ====
/-
  THE CHUNKS OF THE RECURRENCE'S BODY. A program takes two chunks of 256 rows. Here the body's operations on one chunk are written
  once, as functions of what the body loads.
-/
module

public import proofs.«01_k».proof.Proof.Gen.SsdIdeal.Skeleton

@[expose] public section

set_option maxRecDepth 16384

noncomputable section

namespace Cert.SsdIdeal.Tile

open Cert.SsdIdeal Cert.SsdIdeal.Gen Idealize.ShloMosaic

variable {F : FTy → Type} [FloatOps F] [Named F]

/-- Where a row may see a column. -/
def cmask : IVec S128x128 1 := cmpi .sge (iota .tc S128x128 32 [0] iota_S128x128_d0_w32) (iota .tc S128x128 32 [1] iota_S128x128_d1_w32)

/-- The lanes of the first of two heads. -/
def lmask : IVec S1x128 1 := cmpi .slt (iota .tc S1x128 32 [1] iota_S1x128_d1_w32) (broadcast S1x128 64#32)

/-- The positive step of a number. -/
def sp {s : Shape} (v : FVec F s .f32) : FVec F s .f32 :=
  select (cmpf .one (subf v (broadcast s (Scalar.ofBits .f32 0x00000000#32))) (subf v (broadcast s (Scalar.ofBits .f32 0x00000000#32))))
    (addf v (broadcast s (Scalar.ofBits .f32 0x00000000#32)))
    (addf (maximumf v (broadcast s (Scalar.ofBits .f32 0x00000000#32)))
      (log1p (exp (subf (broadcast s (Scalar.ofBits .f32 0x00000000#32)) (absf (subf v (broadcast s (Scalar.ofBits .f32 0x00000000#32))))))))

/-- The steps, rows down. -/
def dtC (d : Vec F S1x1x256x8 .f32) (b : Vec F S1x1x8 .f32) : FVec F S256x8 .f32 :=
  sp (addf (shapeCast S256x8 d shapeCasts_S1x1x256x8_S256x8) (broadcastTo S256x8 (shapeCast S1x8 b shapeCasts_S1x1x8_S1x8) broadcasts_S1x8_S256x8))

/-- The steps, rows across. -/
def dtR (d : Vec F S1x1x8x256 .f32) (b : Vec F S1x8x1 .f32) : FVec F S8x256 .f32 :=
  sp (addf (shapeCast S8x256 d shapeCasts_S1x1x8x256_S8x256) (broadcastTo S8x256 (shapeCast S8x1 b shapeCasts_S1x8x1_S8x1) broadcasts_S8x1_S8x256))

/-- The logarithms of the decays, rows down. -/
def daC (t : FVec F S256x8 .f32) (a : Vec F S1x1x8 .f32) : FVec F S256x8 .f32 :=
  mulf t (broadcastTo S256x8 (mulf (broadcast S1x8 (Named.named κ "minus_log2e" 0xBFB8AA3B#32)) (exp (shapeCast S1x8 a shapeCasts_S1x1x8_S1x8))) broadcasts_S1x8_S256x8)

/-- The logarithms of the decays, rows across. -/
def daR (t : FVec F S8x256 .f32) (a : Vec F S1x8x1 .f32) : FVec F S8x256 .f32 :=
  mulf t (broadcastTo S8x256 (mulf (broadcast S8x1 (Named.named κ "minus_log2e" 0xBFB8AA3B#32)) (exp (shapeCast S8x1 a shapeCasts_S1x8x1_S8x1))) broadcasts_S8x1_S8x256)

/-- The leading part of a number, and what is left of it. -/
def hi {s : Shape} (v : FVec F s .f32) : FVec F s .bf16 := truncf .bf16 v bitsLt_bf16_f32

@[inherit_doc hi]
def lo {s : Shape} (v : FVec F s .f32) : FVec F s .f32 := subf v (extf .f32 (hi v) bitsLt_bf16_f32)

/-- The running sums, rows down. -/
def acsC (v : FVec F S256x8 .f32) (t : Vec F S256x256 .bf16) : FVec F S256x8 .f32 :=
  addf (addf (addf (broadcast S256x8 (Scalar.ofBits .f32 0x00000000#32))
    (matmul dot_S256x256_S256x8_S256x8_1_0_0_1_n_n none (shapeCast S256x256 t shapeCasts_S256x256_S256x256 : FVec F S256x256 .bf16) (hi v) (constant S256x8 .f32 0x00000000#32)))
    (matmul dot_S256x256_S256x8_S256x8_1_0_0_1_n_n none (shapeCast S256x256 t shapeCasts_S256x256_S256x256 : FVec F S256x256 .bf16) (hi (lo v)) (constant S256x8 .f32 0x00000000#32)))
    (matmul dot_S256x256_S256x8_S256x8_1_0_0_1_n_n none (shapeCast S256x256 t shapeCasts_S256x256_S256x256 : FVec F S256x256 .bf16) (hi (lo (lo v))) (constant S256x8 .f32 0x00000000#32))

/-- The running sums, rows across. -/
def acsR (v : FVec F S8x256 .f32) (t : Vec F S256x256 .bf16) : FVec F S8x256 .f32 :=
  addf (addf (addf (broadcast S8x256 (Scalar.ofBits .f32 0x00000000#32))
    (matmul dot_S8x256_S256x256_S8x256_1_0_0_1_n_n none (hi v) (shapeCast S256x256 t shapeCasts_S256x256_S256x256 : FVec F S256x256 .bf16) (constant S8x256 .f32 0x00000000#32)))
    (matmul dot_S8x256_S256x256_S8x256_1_0_0_1_n_n none (hi (lo v)) (shapeCast S256x256 t shapeCasts_S256x256_S256x256 : FVec F S256x256 .bf16) (constant S8x256 .f32 0x00000000#32)))
    (matmul dot_S8x256_S256x256_S8x256_1_0_0_1_n_n none (hi (lo (lo v))) (shapeCast S256x256 t shapeCasts_S256x256_S256x256 : FVec F S256x256 .bf16) (constant S8x256 .f32 0x00000000#32))

/-- The running sums less the logarithms of the steps, rows across. -/
def arow (t a : FVec F S8x256 .f32) : FVec F S8x256 .f32 := subf a (mulf (log t) (broadcast S8x256 (Named.named κ "log2e" 0x3FB8AA3B#32)))

/-- The running sums' last row. -/
def last (a : FVec F S256x8 .f32) : FVec F S1x8 .f32 := extractStridedSlice S1x8 ![255, 0] a slices_S256x8_o255_0_S1x8

/-- The logarithms of what is left of a row at the chunk's end. -/
def gend (t a : FVec F S256x8 .f32) : FVec F S256x8 .f32 :=
  addf (subf (mulf (log t) (broadcast S256x8 (Named.named κ "log2e" 0x3FB8AA3B#32))) a) (broadcastTo S256x8 (last a) broadcasts_S1x8_S256x8)

/-- The products of the rows of the two projections. -/
def cb (b c : Vec F S1x256x128 .bf16) : FVec F S256x256 .f32 :=
  matmul dot_S256x128_S256x128_S256x256_1_1_0_0_n_n none (shapeCast S256x128 c shapeCasts_S1x256x128_S256x128 : FVec F S256x128 .bf16) (shapeCast S256x128 b shapeCasts_S1x256x128_S256x128 : FVec F S256x128 .bf16) (constant S256x256 .f32 0x00000000#32)

/-- What the rows read off the state. -/
def cs (c : Vec F S1x256x128 .bf16) (s : Vec F S128x512 .f32) : FVec F S256x512 .f32 :=
  matmul dot_S256x128_S128x512_S256x512_1_0_0_1_n_n none (shapeCast S256x128 c shapeCasts_S1x256x128_S256x128 : FVec F S256x128 .bf16) (truncf .bf16 s bitsLt_bf16_f32) (constant S256x512 .f32 0x00000000#32)

/-- A column spread over 128 lanes. -/
def wide (a : FVec F S256x1 .f32) : FVec F S256x128 .f32 := broadcastTo S256x128 (shapeCast S256x1 a shapeCasts_S256x1_S256x1) broadcasts_S256x1_S256x128

/-- Two columns side by side, each over the lanes of its head. -/
def pair (a0 a1 : FVec F S256x128 .f32) : FVec F S256x128 .f32 :=
  select (broadcastTo S256x128 (shapeCast S1x128 lmask shapeCasts_S1x128_S1x128) broadcasts_S1x128_S256x128) a0 a1

/-- The inputs times what is left of them at the chunk's end. -/
def xde (x : Vec F S1x256x128 .bf16) (g0 g1 : FVec F S256x1 .f32) : FVec F S1x256x128 .bf16 :=
  shapeCast S1x256x128 (shapeCast S256x128 (truncf .bf16 (mulf (extf .f32 (shapeCast S256x128 x shapeCasts_S1x256x128_S256x128 : FVec F S256x128 .bf16) bitsLt_bf16_f32) (exp2 (pair (wide g0) (wide g1)))) bitsLt_bf16_f32) shapeCasts_S256x128_S256x128) shapeCasts_S256x128_S1x256x128

/-- The weights of a head, the quarter of rows at `o` against the columns at `o'`, before they are masked. -/
def diff (u : FVec F S128x128 .f32) (r : FVec F S1x128 .f32) : FVec F S128x128 .f32 := subf u (broadcastTo S128x128 r broadcasts_S1x128_S128x128)

/-- The weights, masked. -/
def masked (d : FVec F S128x128 .f32) : FVec F S128x128 .f32 := exp2 (select cmask d (broadcast S128x128 (Scalar.ofBits .f32 0xFF800000#32)))

/-- The rows of a head that stem from the chunk itself. -/
def head (m : FVec F S256x256 .f32) (x : Vec F S1x256x128 .bf16) (a : FVec F S256x128 .f32) (r : FVec F S1x256 .f32) : FVec F S256x128 .f32 :=
  concatenate S256x128 0 [
    ⟨S128x128, matmul dot_S128x128_S128x128_S128x128_1_0_0_1_n_n none
      (truncf .bf16 (mulf (extractStridedSlice S128x128 ![0, 0] m slices_S256x256_o0_0_S128x128)
        (masked (diff (extractStridedSlice S128x128 ![0, 0] a slices_S256x128_o0_0_S128x128) (extractStridedSlice S1x128 ![0, 0] r slices_S1x256_o0_0_S1x128)))) bitsLt_bf16_f32)
      (extractStridedSlice S128x128 ![0, 0] (shapeCast S256x128 x shapeCasts_S1x256x128_S256x128 : FVec F S256x128 .bf16) slices_S256x128_o0_0_S128x128)
      (constant S128x128 .f32 0x00000000#32)⟩,
    ⟨S128x128, matmul dot_S128x256_S256x128_S128x128_1_0_0_1_n_n none
      (truncf .bf16 (concatenate S128x256 1 [
        ⟨S128x128, mulf (extractStridedSlice S128x128 ![128, 0] m slices_S256x256_o128_0_S128x128)
          (exp2 (diff (extractStridedSlice S128x128 ![128, 0] a slices_S256x128_o128_0_S128x128) (extractStridedSlice S1x128 ![0, 0] r slices_S1x256_o0_0_S1x128)))⟩,
        ⟨S128x128, mulf (extractStridedSlice S128x128 ![128, 128] m slices_S256x256_o128_128_S128x128)
          (masked (diff (extractStridedSlice S128x128 ![128, 0] a slices_S256x128_o128_0_S128x128) (extractStridedSlice S1x128 ![0, 128] r slices_S1x256_o0_128_S1x128)))⟩]
        concatenates_S128x128_S128x128_S128x256_d1) bitsLt_bf16_f32)
      (shapeCast S256x128 x shapeCasts_S1x256x128_S256x128 : FVec F S256x128 .bf16)
      (constant S128x128 .f32 0x00000000#32)⟩] concatenates_S128x128_S128x128_S256x128_d0

/-- The rows of two heads. -/
def yPair (m : FVec F S256x256 .f32) (x : Vec F S1x256x128 .bf16) (a0 a1 : FVec F S256x1 .f32) (r0 r1 : FVec F S1x256 .f32)
    (o : FVec F S256x128 .f32) (d : Vec F S1x128 .f32) : FVec F S256x128 .f32 :=
  addf (addf (pair (head m x (wide a0) r0) (head m x (wide a1) r1)) (mulf o (exp2 (pair (wide a0) (wide a1)))))
    (mulf (broadcastTo S256x128 (shapeCast S1x128 d shapeCasts_S1x128_S1x128 : FVec F S1x128 .f32) broadcasts_S1x128_S256x128) (extf .f32 (shapeCast S256x128 x shapeCasts_S1x256x128_S256x128 : FVec F S256x128 .bf16) bitsLt_bf16_f32))

/-- What the chunk adds to the state. -/
def bx (b : Vec F S1x256x128 .bf16) (x : Vec F S1x256x512 .bf16) : FVec F S128x512 .f32 :=
  matmul dot_S128x256_S256x512_S128x512_1_0_0_1_n_n none
    (truncf .bf16 (transpose S128x256 [1, 0] (extf .f32 (shapeCast S256x128 b shapeCasts_S1x256x128_S256x128 : FVec F S256x128 .bf16) bitsLt_bf16_f32) transposes_S256x128_p1_0_S128x256) bitsLt_bf16_f32)
    (shapeCast S256x512 x shapeCasts_S1x256x512_S256x512 : FVec F S256x512 .bf16) (constant S128x512 .f32 0x00000000#32)

/-- The state of two heads after the chunk. -/
def stP (s : Vec F S128x128 .f32) (d0 d1 : FVec F S1x1 .f32) (u : FVec F S128x128 .f32) : FVec F S128x128 .f32 :=
  shapeCast S128x128 (addf (mulf s (broadcastTo S128x128 (select lmask (broadcastTo S1x128 (shapeCast S1x1 d0 shapeCasts_S1x1_S1x1) broadcasts_S1x1_S1x128)
    (broadcastTo S1x128 (shapeCast S1x1 d1 shapeCasts_S1x1_S1x1) broadcasts_S1x1_S1x128)) broadcasts_S1x128_S128x128)) u) shapeCasts_S128x128_S128x128

/-- The gated rows. -/
def gated (y : Vec F S1x256x512 .f32) (z : Vec F S1x256x512 .bf16) : FVec F S256x512 .f32 :=
  mulf (shapeCast S256x512 y shapeCasts_S1x256x512_S256x512 : FVec F S256x512 .f32)
    (addf (mulf (mulf (broadcast S256x512 (Scalar.ofBits .f32 0x3F000000#32)) (extf .f32 (shapeCast S256x512 z shapeCasts_S1x256x512_S256x512 : FVec F S256x512 .bf16) bitsLt_bf16_f32))
      (tanh (mulf (broadcast S256x512 (Scalar.ofBits .f32 0x3F000000#32)) (extf .f32 (shapeCast S256x512 z shapeCasts_S1x256x512_S256x512 : FVec F S256x512 .bf16) bitsLt_bf16_f32))))
      (mulf (broadcast S256x512 (Scalar.ofBits .f32 0x3F000000#32)) (extf .f32 (shapeCast S256x512 z shapeCasts_S1x256x512_S256x512 : FVec F S256x512 .bf16) bitsLt_bf16_f32)))

/-- The gated rows over their root mean square, times the weights. -/
def normed (g : FVec F S256x512 .f32) (w : Vec F S1x512 .f32) : FVec F S1x256x512 .bf16 :=
  shapeCast S1x256x512 (truncf .bf16 (mulf (mulf g (broadcastTo S256x512 (rsqrt (addf (divf (shapeCast S256x1 (multiReduction .add [1] S256 (mulf g g) 0x00000000#32 reduces_S256x512_S256 (.inl rfl) rfl) shapeCasts_S256_S256x1)
    (broadcast S256x1 (Scalar.ofBits .f32 0x44000000#32))) (broadcast S256x1 (Scalar.ofBits .f32 0x3727C5AC#32)))) broadcasts_S256x1_S256x512))
    (broadcastTo S256x512 (shapeCast S1x512 w shapeCasts_S1x512_S1x512 : FVec F S1x512 .f32) broadcasts_S1x512_S256x512)) bitsLt_bf16_f32) shapeCasts_S256x512_S1x256x512

/-! ## A chunk -/

section
variable (dc : Vec F S1x1x256x8 .f32) (bc ac : Vec F S1x1x8 .f32) (dr : Vec F S1x1x8x256 .f32) (br ar : Vec F S1x8x1 .f32) (t u : Vec F S256x256 .bf16)

/-- The chunk's running sums, rows down. -/
def chA : FVec F S256x8 .f32 := acsC (daC (dtC dc bc) ac) t

/-- The chunk's rows to weigh against. -/
def chR : FVec F S8x256 .f32 := arow (dtR dr br) (acsR (daR (dtR dr br) ar) u)

/-- What is left at the chunk's end. -/
def chG : FVec F S256x8 .f32 := gend (dtC dc bc) (chA dc bc ac t)

/-- The state's decay over the chunk. -/
def chD : FVec F S1x8 .f32 := exp2 (last (chA dc bc ac t))

end

end Cert.SsdIdeal.Tile

end
-- ==== Proof.Ssd.Load.lean ====
/-
  LOADS OF SEVERAL STORES. Four stores side by side, loaded together, and single boxes among them.
-/
module

public import proofs.«01_k».proof.Proof.Ssd.Tile
public import proofs.«01_k».proof.Proof.Gen.SsdIdeal.Value
public import Idealize.ShloMosaic.Lib.Pointwise

@[expose] public section

set_option maxRecDepth 16384

noncomputable section

namespace Cert.SsdIdeal.Tile

open Cert.SsdIdeal Cert.SsdIdeal.Gen Idealize.ShloMosaic

/-- Four boxes of 128 columns side by side. -/
def cols4 {α : Type} {n : ℕ} (w0 w1 w2 w3 : Fin n → Fin 128 → α) (r : Fin n) (l : Fin 512) : α :=
  if h0 : l.val < 128 then w0 r ⟨l.val, h0⟩
  else if h1 : l.val < 256 then w1 r ⟨l.val - 128, by omega⟩
  else if h2 : l.val < 384 then w2 r ⟨l.val - 256, by omega⟩
  else w3 r ⟨l.val - 384, by omega⟩

section
variable {s : Shape} {e : EltTy} {Val : EltTy → Type} [∀ e, Nonempty (Val e)]

/-- The newest store is passed over at an index outside its box, by one coordinate. -/
theorem canon_pass (r : Rect s) (w : r.shape.Idx → Val e) (L : List (View.Piece Val s e)) (x : s.Idx) (a : Fin s.rank)
    (hs : r.stride a = 1) (h : (x a).val < r.off a ∨ r.off a + r.size a ≤ (x a).val) :
    View.canon ((⟨r, w⟩ : View.Piece Val s e) :: L) x = View.canon L x := by
  refine View.canon_cons_of_not_mem _ _ fun hm => ?_
  obtain ⟨j, hj', e'⟩ := (LoadRect.mem_set (r := r.toLoadRect) (i := x)).mp hm a
  change j < r.size a at hj'
  change (x a).val = r.off a + r.stride a * j at e'
  rw [hs] at e'
  omega

/-- The newest store is read at an index of its box. -/
theorem canon_hit (r : Rect s) (w : r.shape.Idx → Val e) (L : List (View.Piece Val s e)) (x : s.Idx) (j : r.shape.Idx)
    (h : ∀ a, (x a).val = r.off a + r.stride a * (j a).val) :
    View.canon ((⟨r, w⟩ : View.Piece Val s e) :: L) x = w j := by
  have e : x = r.emb j := funext fun a => Fin.ext (h a)
  rw [e]
  exact View.canon_cons_emb _ w L _

end

section
variable {F : FTy → Type} [FloatOps F] {sig : RefSig} {κ : Kind} {sp : Space}

/-- Four boxes of a chunk's rows, loaded together. -/
def joinX (w0 w1 w2 w3 : FVec F S1x256x128 .bf16) : FVec F S1x256x512 .bf16 :=
  fun j => cols4 (fun r l => w0 (ix3 (0 : Fin 1) r l)) (fun r l => w1 (ix3 (0 : Fin 1) r l)) (fun r l => w2 (ix3 (0 : Fin 1) r l)) (fun r l => w3 (ix3 (0 : Fin 1) r l)) (j 1) (j 2)

@[inherit_doc joinX]
def joinY (w0 w1 w2 w3 : FVec F S256x128 .f32) : FVec F S1x256x512 .f32 :=
  fun j => cols4 (fun r l => w0 (ix2 r l)) (fun r l => w1 (ix2 r l)) (fun r l => w2 (ix2 r l)) (fun r l => w3 (ix2 r l)) (j 1) (j 2)

/-- Four boxes of the state, loaded together. -/
def joinS (w0 w1 w2 w3 : FVec F S128x128 .f32) : FVec F S128x512 .f32 :=
  fun j => cols4 (fun r l => w0 (ix2 r l)) (fun r l => w1 (ix2 r l)) (fun r l => w2 (ix2 r l)) (fun r l => w3 (ix2 r l)) (j 0) (j 1)

theorem load_X (v : View sig κ sp S2x256x512 .bf16) (k : ℕ)
    (i3 : ∀ a, (![k, 0, 384] : Fin 3 → ℕ) a + S1x256x128.size a ≤ S2x256x512.size a)
    (i2 : ∀ a, (![k, 0, 256] : Fin 3 → ℕ) a + S1x256x128.size a ≤ S2x256x512.size a)
    (i1 : ∀ a, (![k, 0, 128] : Fin 3 → ℕ) a + S1x256x128.size a ≤ S2x256x512.size a)
    (i0 : ∀ a, (![k, 0, 0] : Fin 3 → ℕ) a + S1x256x128.size a ≤ S2x256x512.size a)
    (i : ∀ a, (![k, 0, 0] : Fin 3 → ℕ) a + S1x256x512.size a ≤ S2x256x512.size a)
    (w0 w1 w2 w3 : FVec F S1x256x128 .bf16) (L : List (View.Piece (Elt F) S2x256x512 .bf16)) :
    v.readCov ((⟨Rect.unit (s := S2x256x512) ![k, 0, 384] S1x256x128.size i3, w3⟩ : View.Piece (Elt F) S2x256x512 .bf16) ::
      (⟨Rect.unit (s := S2x256x512) ![k, 0, 256] S1x256x128.size i2, w2⟩ : View.Piece (Elt F) S2x256x512 .bf16) ::
      (⟨Rect.unit (s := S2x256x512) ![k, 0, 128] S1x256x128.size i1, w1⟩ : View.Piece (Elt F) S2x256x512 .bf16) ::
      (⟨Rect.unit (s := S2x256x512) ![k, 0, 0] S1x256x128.size i0, w0⟩ : View.Piece (Elt F) S2x256x512 .bf16) :: L)
        (Rect.unit (s := S2x256x512) ![k, 0, 0] S1x256x512.size i).toLoadRect = joinX w0 w1 w2 w3 := by
  rw [View.readCov_eq_canon']
  funext j
  have h0 : (j 0).val < 1 := (j 0).isLt
  have h1 : (j 1).val < 256 := (j 1).isLt
  have h2 : (j 2).val < 512 := (j 2).isLt
  set x := (Rect.unit (s := S2x256x512) ![k, 0, 0] S1x256x512.size i).toLoadRect.idx j with hx
  have e0 : (x 0).val = k + 1 * (j 0).val := rfl
  have e1 : (x 1).val = 0 + 1 * (j 1).val := rfl
  have e2 : (x 2).val = 0 + 1 * (j 2).val := rfl
  unfold joinX cols4
  have hit (o : ℕ) (io : ∀ a, (![k, 0, o] : Fin 3 → ℕ) a + S1x256x128.size a ≤ S2x256x512.size a) (w : FVec F S1x256x128 .bf16)
      (L : List (View.Piece (Elt F) S2x256x512 .bf16)) (l : Fin 128) (hl : (j 2).val = o + l.val) :
      View.canon ((⟨Rect.unit (s := S2x256x512) ![k, 0, o] S1x256x128.size io, w⟩ : View.Piece (Elt F) S2x256x512 .bf16) :: L) x
        = w (ix3 (0 : Fin 1) (j 1 : Fin 256) l) := by
    refine canon_hit (Val := Elt F) (e := .bf16) (Rect.unit (s := S2x256x512) ![k, 0, o] S1x256x128.size io) w L x (ix3 (0 : Fin 1) (j 1 : Fin 256) l) fun a => ?_
    fin_cases a
    · show (x 0).val = k + 1 * 0
      omega
    · show (x 1).val = 0 + 1 * (j 1).val
      omega
    · show (x 2).val = o + 1 * l.val
      omega
  have pass (o : ℕ) (io : ∀ a, (![k, 0, o] : Fin 3 → ℕ) a + S1x256x128.size a ≤ S2x256x512.size a) (w : FVec F S1x256x128 .bf16)
      (L : List (View.Piece (Elt F) S2x256x512 .bf16)) (hl : (j 2).val < o) :
      View.canon ((⟨Rect.unit (s := S2x256x512) ![k, 0, o] S1x256x128.size io, w⟩ : View.Piece (Elt F) S2x256x512 .bf16) :: L) x = View.canon L x := by
    refine canon_pass (Val := Elt F) (e := .bf16) (Rect.unit (s := S2x256x512) ![k, 0, o] S1x256x128.size io) w L x 2 rfl (.inl ?_)
    show (x 2).val < o
    omega
  split_ifs with c0 c1 c2
  · rw [pass _ _ _ _ (by omega), pass _ _ _ _ (by omega), pass _ _ _ _ (by omega), hit _ _ _ _ ⟨(j 2).val, c0⟩ (by simp)]
  · rw [pass _ _ _ _ (by omega), pass _ _ _ _ (by omega), hit _ _ _ _ ⟨(j 2).val - 128, by omega⟩ (by simp; omega)]
  · rw [pass _ _ _ _ (by omega), hit _ _ _ _ ⟨(j 2).val - 256, by omega⟩ (by simp; omega)]
  · rw [hit _ _ _ _ ⟨(j 2).val - 384, by omega⟩ (by simp; omega)]

/-- A box of a squeezed slice, as the body stores it. -/
abbrev sq (k o : ℕ) (ik : ∀ a, (![k, 0, 0] : Fin 3 → ℕ) a + S1x256x512.size a ≤ S2x256x512.size a)
    (io : ∀ a, (![0, o] : Fin 2 → ℕ) a + S256x128.size a ≤ S256x512.size a) (h0 : (![1, 256, 512] : Fin 3 → ℕ) 0 = 1) (hs : ∀ i : Fin 2, (![1, 256, 512] : Fin 3 → ℕ) i.succ = (![256, 512] : Fin 2 → ℕ) i)
    (h1 : ∀ a, (Rect.unit (s := S2x256x512) ![k, 0, 0] S1x256x512.size ik).stride a = 1) : Rect S2x256x512 :=
  (Rect.unit (s := S2x256x512) ![k, 0, 0] S1x256x512.size ik).within ((Rect.unit (s := S256x512) ![0, o] S256x128.size io).consLift ![1, 256, 512] h0 hs) h1

theorem load_Y (v : View sig κ sp S2x256x512 .f32) (k : ℕ)
    (ik : ∀ a, (![k, 0, 0] : Fin 3 → ℕ) a + S1x256x512.size a ≤ S2x256x512.size a)
    (i3 : ∀ a, (![0, 384] : Fin 2 → ℕ) a + S256x128.size a ≤ S256x512.size a)
    (i2 : ∀ a, (![0, 256] : Fin 2 → ℕ) a + S256x128.size a ≤ S256x512.size a)
    (i1 : ∀ a, (![0, 128] : Fin 2 → ℕ) a + S256x128.size a ≤ S256x512.size a)
    (i0 : ∀ a, (![0, 0] : Fin 2 → ℕ) a + S256x128.size a ≤ S256x512.size a) (h0 : (![1, 256, 512] : Fin 3 → ℕ) 0 = 1) (hs : ∀ i : Fin 2, (![1, 256, 512] : Fin 3 → ℕ) i.succ = (![256, 512] : Fin 2 → ℕ) i)
    (h1 : ∀ a, (Rect.unit (s := S2x256x512) ![k, 0, 0] S1x256x512.size ik).stride a = 1) (n3) (n2) (n1) (n0)
    (i : ∀ a, (![k, 0, 0] : Fin 3 → ℕ) a + S1x256x512.size a ≤ S2x256x512.size a)
    (w0 w1 w2 w3 : FVec F S256x128 .f32) (L : List (View.Piece (Elt F) S2x256x512 .f32)) :
    v.readCov ((⟨sq k 384 ik i3 h0 hs h1, Rect.payAlong (r := Rect.unit (s := S256x512) ![0, 384] S256x128.size i3) (R := sq k 384 ik i3 h0 hs h1) (V := Elt F .f32) n3 w3⟩ : View.Piece (Elt F) S2x256x512 .f32) ::
      (⟨sq k 256 ik i2 h0 hs h1, Rect.payAlong (r := Rect.unit (s := S256x512) ![0, 256] S256x128.size i2) (R := sq k 256 ik i2 h0 hs h1) (V := Elt F .f32) n2 w2⟩ : View.Piece (Elt F) S2x256x512 .f32) ::
      (⟨sq k 128 ik i1 h0 hs h1, Rect.payAlong (r := Rect.unit (s := S256x512) ![0, 128] S256x128.size i1) (R := sq k 128 ik i1 h0 hs h1) (V := Elt F .f32) n1 w1⟩ : View.Piece (Elt F) S2x256x512 .f32) ::
      (⟨sq k 0 ik i0 h0 hs h1, Rect.payAlong (r := Rect.unit (s := S256x512) ![0, 0] S256x128.size i0) (R := sq k 0 ik i0 h0 hs h1) (V := Elt F .f32) n0 w0⟩ : View.Piece (Elt F) S2x256x512 .f32) :: L)
        (Rect.unit (s := S2x256x512) ![k, 0, 0] S1x256x512.size i).toLoadRect = joinY w0 w1 w2 w3 := by
  rw [View.readCov_eq_canon']
  funext j
  have h0' : (j 0).val < 1 := (j 0).isLt
  have h1' : (j 1).val < 256 := (j 1).isLt
  have h2 : (j 2).val < 512 := (j 2).isLt
  set x := (Rect.unit (s := S2x256x512) ![k, 0, 0] S1x256x512.size i).toLoadRect.idx j with hx
  have e0 : (x 0).val = k + 1 * (j 0).val := rfl
  have e1 : (x 1).val = 0 + 1 * (j 1).val := rfl
  have e2 : (x 2).val = 0 + 1 * (j 2).val := rfl
  unfold joinY cols4
  have hit (o : ℕ) (io : ∀ a, (![0, o] : Fin 2 → ℕ) a + S256x128.size a ≤ S256x512.size a) (n) (w : FVec F S256x128 .f32)
      (L : List (View.Piece (Elt F) S2x256x512 .f32)) (l : Fin 128) (hl : (j 2).val = o + l.val) :
      View.canon ((⟨sq k o ik io h0 hs h1, Rect.payAlong (r := Rect.unit (s := S256x512) ![0, o] S256x128.size io) (R := sq k o ik io h0 hs h1) (V := Elt F .f32) n w⟩ : View.Piece (Elt F) S2x256x512 .f32) :: L) x
        = w (ix2 (j 1 : Fin 256) l) := by
    rw [canon_hit (Val := Elt F) (e := .f32) (sq k o ik io h0 hs h1) (Rect.payAlong (r := Rect.unit (s := S256x512) ![0, o] S256x128.size io) (R := sq k o ik io h0 hs h1) (V := Elt F .f32) n w) L x (ix3 (0 : Fin 1) (j 1 : Fin 256) l) fun a => ?_]
    · refine Rect.payAlong_consLift (Rect.unit (s := S256x512) ![0, o] S256x128.size io) ![1, 256, 512] h0 hs w n _ (ix2 (j 1 : Fin 256) l) fun a => ?_
      fin_cases a <;> rfl
    · fin_cases a
      · show (x 0).val = (k + 0) + 1 * 0
        omega
      · show (x 1).val = (0 + 0) + 1 * (j 1).val
        omega
      · show (x 2).val = (0 + o) + 1 * l.val
        omega
  have pass (o : ℕ) (io : ∀ a, (![0, o] : Fin 2 → ℕ) a + S256x128.size a ≤ S256x512.size a) (n) (w : FVec F S256x128 .f32)
      (L : List (View.Piece (Elt F) S2x256x512 .f32)) (hl : (j 2).val < o) :
      View.canon ((⟨sq k o ik io h0 hs h1, Rect.payAlong (r := Rect.unit (s := S256x512) ![0, o] S256x128.size io) (R := sq k o ik io h0 hs h1) (V := Elt F .f32) n w⟩ : View.Piece (Elt F) S2x256x512 .f32) :: L) x = View.canon L x := by
    refine canon_pass (Val := Elt F) (e := .f32) (sq k o ik io h0 hs h1) (Rect.payAlong (r := Rect.unit (s := S256x512) ![0, o] S256x128.size io) (R := sq k o ik io h0 hs h1) (V := Elt F .f32) n w) L x 2 rfl (.inl ?_)
    show (x 2).val < 0 + o
    omega
  split_ifs with c0 c1 c2
  · rw [pass _ _ _ _ _ (by omega), pass _ _ _ _ _ (by omega), pass _ _ _ _ _ (by omega), hit _ _ _ _ _ ⟨(j 2).val, c0⟩ (by simp)]
  · rw [pass _ _ _ _ _ (by omega), pass _ _ _ _ _ (by omega), hit _ _ _ _ _ ⟨(j 2).val - 128, by omega⟩ (by simp; omega)]
  · rw [pass _ _ _ _ _ (by omega), hit _ _ _ _ _ ⟨(j 2).val - 256, by omega⟩ (by simp; omega)]
  · rw [hit _ _ _ _ _ ⟨(j 2).val - 384, by omega⟩ (by simp; omega)]

/-- The state's four boxes. -/
abbrev four (i3 : ∀ a, (![0, 384] : Fin 2 → ℕ) a + S128x128.size a ≤ S128x512.size a)
    (i2 : ∀ a, (![0, 256] : Fin 2 → ℕ) a + S128x128.size a ≤ S128x512.size a)
    (i1 : ∀ a, (![0, 128] : Fin 2 → ℕ) a + S128x128.size a ≤ S128x512.size a)
    (i0 : ∀ a, (![0, 0] : Fin 2 → ℕ) a + S128x128.size a ≤ S128x512.size a)
    (w0 w1 w2 w3 : FVec F S128x128 .f32) (L : List (View.Piece (Elt F) S128x512 .f32)) : List (View.Piece (Elt F) S128x512 .f32) :=
  (⟨Rect.unit (s := S128x512) ![0, 384] S128x128.size i3, w3⟩ : View.Piece (Elt F) S128x512 .f32) ::
      (⟨Rect.unit (s := S128x512) ![0, 256] S128x128.size i2, w2⟩ : View.Piece (Elt F) S128x512 .f32) ::
      (⟨Rect.unit (s := S128x512) ![0, 128] S128x128.size i1, w1⟩ : View.Piece (Elt F) S128x512 .f32) ::
      (⟨Rect.unit (s := S128x512) ![0, 0] S128x128.size i0, w0⟩ : View.Piece (Elt F) S128x512 .f32) :: L

theorem canon_S (i3) (i2) (i1) (i0) (w0 w1 w2 w3 : FVec F S128x128 .f32) (L : List (View.Piece (Elt F) S128x512 .f32)) :
    View.canon (four i3 i2 i1 i0 w0 w1 w2 w3 L) = joinS w0 w1 w2 w3 := by
  funext x
  have h2 : (x 1).val < 512 := (x 1).isLt
  unfold joinS cols4
  have hit (o : ℕ) (io : ∀ a, (![0, o] : Fin 2 → ℕ) a + S128x128.size a ≤ S128x512.size a) (w : FVec F S128x128 .f32)
      (L : List (View.Piece (Elt F) S128x512 .f32)) (l : Fin 128) (hl : (x 1).val = o + l.val) :
      View.canon ((⟨Rect.unit (s := S128x512) ![0, o] S128x128.size io, w⟩ : View.Piece (Elt F) S128x512 .f32) :: L) x
        = w (ix2 (x 0 : Fin 128) l) := by
    refine canon_hit (Val := Elt F) (e := .f32) (Rect.unit (s := S128x512) ![0, o] S128x128.size io) w L x (ix2 (x 0 : Fin 128) l) fun a => ?_
    fin_cases a
    · show (x 0).val = 0 + 1 * (x 0).val
      omega
    · show (x 1).val = o + 1 * l.val
      omega
  have pass (o : ℕ) (io : ∀ a, (![0, o] : Fin 2 → ℕ) a + S128x128.size a ≤ S128x512.size a) (w : FVec F S128x128 .f32)
      (L : List (View.Piece (Elt F) S128x512 .f32)) (hl : (x 1).val < o) :
      View.canon ((⟨Rect.unit (s := S128x512) ![0, o] S128x128.size io, w⟩ : View.Piece (Elt F) S128x512 .f32) :: L) x = View.canon L x := by
    refine canon_pass (Val := Elt F) (e := .f32) (Rect.unit (s := S128x512) ![0, o] S128x128.size io) w L x 1 rfl (.inl ?_)
    show (x 1).val < o
    omega
  unfold four
  split_ifs with c0 c1 c2
  · rw [pass _ _ _ _ (by omega), pass _ _ _ _ (by omega), pass _ _ _ _ (by omega), hit _ _ _ _ ⟨(x 1).val, c0⟩ (by simp)]
  · rw [pass _ _ _ _ (by omega), pass _ _ _ _ (by omega), hit _ _ _ _ ⟨(x 1).val - 128, by omega⟩ (by simp; omega)]
  · rw [pass _ _ _ _ (by omega), hit _ _ _ _ ⟨(x 1).val - 256, by omega⟩ (by simp; omega)]
  · rw [hit _ _ _ _ ⟨(x 1).val - 384, by omega⟩ (by simp; omega)]

/-- A box of 128 columns of the state. -/
def boxS (o : ℕ) (h : o + 128 ≤ 512) (w : FVec F S128x512 .f32) : FVec F S128x128 .f32 := fun j => w (ix2 (j 0 : Fin 128) (⟨o + (j 1).val, by have : (j 1).val < 128 := (j 1).isLt; omega⟩ : Fin 512))

/-- A load of a box is that box of what the stores left. -/
theorem load_box (v : View sig κ sp S128x512 .f32) (o : ℕ) (h : o + 128 ≤ 512) (io : ∀ a, (![0, o] : Fin 2 → ℕ) a + S128x128.size a ≤ S128x512.size a)
    (L : List (View.Piece (Elt F) S128x512 .f32)) :
    v.readCov L (Rect.unit (s := S128x512) ![0, o] S128x128.size io).toLoadRect = boxS o h (View.canon L) := by
  rw [View.readCov_eq_canon']
  funext j
  unfold boxS
  congr 1
  funext a
  refine Fin.ext ?_
  fin_cases a
  · show 0 + 1 * (j 0).val = (j 0).val
    omega
  · show o + 1 * (j 1).val = o + (j 1).val
    omega

/-- A load of a box passes over a store of other columns. -/
theorem boxS_pass (o o' : ℕ) (h : o + 128 ≤ 512) (io : ∀ a, (![0, o'] : Fin 2 → ℕ) a + S128x128.size a ≤ S128x512.size a) (w : FVec F S128x128 .f32)
    (L : List (View.Piece (Elt F) S128x512 .f32)) (ho : o + 128 ≤ o' ∨ o' + 128 ≤ o) :
    boxS o h (View.canon ((⟨Rect.unit (s := S128x512) ![0, o'] S128x128.size io, w⟩ : View.Piece (Elt F) S128x512 .f32) :: L)) = boxS o h (View.canon L) := by
  funext j
  have hj : (j 1).val < 128 := (j 1).isLt
  unfold boxS
  refine canon_pass (Val := Elt F) (e := .f32) (Rect.unit (s := S128x512) ![0, o'] S128x128.size io) w L _ 1 rfl ?_
  show o + (j 1).val < o' ∨ o' + 128 ≤ o + (j 1).val
  omega

end

end Cert.SsdIdeal.Tile

end
-- ==== Proof.Ssd.Chunk.lean ====
/-
  A CHUNK IN FULL. The four pairs of heads of a chunk together: what goes to the scratch, the rows, and the state after it.
-/
module

public import proofs.«01_k».proof.Proof.Ssd.Load

@[expose] public section

set_option maxRecDepth 16384

noncomputable section

namespace Cert.SsdIdeal.Tile

open Cert.SsdIdeal Cert.SsdIdeal.Gen Idealize.ShloMosaic

variable {F : FTy → Type} [FloatOps F] [Named F]

/-- The inputs of the four pairs of heads, weighed for the chunk's end. -/
def xdeAll (x0 x1 x2 x3 : Vec F S1x256x128 .bf16) (g : FVec F S256x8 .f32) : FVec F S1x256x512 .bf16 :=
  joinX
    (xde x0 (extractStridedSlice S256x1 ![0, 0] g slices_S256x8_o0_0_S256x1) (extractStridedSlice S256x1 ![0, 1] g slices_S256x8_o0_1_S256x1))
    (xde x1 (extractStridedSlice S256x1 ![0, 2] g slices_S256x8_o0_2_S256x1) (extractStridedSlice S256x1 ![0, 3] g slices_S256x8_o0_3_S256x1))
    (xde x2 (extractStridedSlice S256x1 ![0, 4] g slices_S256x8_o0_4_S256x1) (extractStridedSlice S256x1 ![0, 5] g slices_S256x8_o0_5_S256x1))
    (xde x3 (extractStridedSlice S256x1 ![0, 6] g slices_S256x8_o0_6_S256x1) (extractStridedSlice S256x1 ![0, 7] g slices_S256x8_o0_7_S256x1))

/-- The rows of the four pairs of heads. -/
def yAll (m : FVec F S256x256 .f32) (x0 x1 x2 x3 : Vec F S1x256x128 .bf16) (a : FVec F S256x8 .f32) (r : FVec F S8x256 .f32) (o : FVec F S256x512 .f32)
    (d0 d1 d2 d3 : Vec F S1x128 .f32) : FVec F S1x256x512 .f32 :=
  joinY
    (shapeCast S256x128 (yPair m x0 (extractStridedSlice S256x1 ![0, 0] a slices_S256x8_o0_0_S256x1) (extractStridedSlice S256x1 ![0, 1] a slices_S256x8_o0_1_S256x1)
      (extractStridedSlice S1x256 ![0, 0] r slices_S8x256_o0_0_S1x256) (extractStridedSlice S1x256 ![1, 0] r slices_S8x256_o1_0_S1x256)
      (extractStridedSlice S256x128 ![0, 0] o slices_S256x512_o0_0_S256x128) d0) shapeCasts_S256x128_S256x128)
    (shapeCast S256x128 (yPair m x1 (extractStridedSlice S256x1 ![0, 2] a slices_S256x8_o0_2_S256x1) (extractStridedSlice S256x1 ![0, 3] a slices_S256x8_o0_3_S256x1)
      (extractStridedSlice S1x256 ![2, 0] r slices_S8x256_o2_0_S1x256) (extractStridedSlice S1x256 ![3, 0] r slices_S8x256_o3_0_S1x256)
      (extractStridedSlice S256x128 ![0, 128] o slices_S256x512_o0_128_S256x128) d1) shapeCasts_S256x128_S256x128)
    (shapeCast S256x128 (yPair m x2 (extractStridedSlice S256x1 ![0, 4] a slices_S256x8_o0_4_S256x1) (extractStridedSlice S256x1 ![0, 5] a slices_S256x8_o0_5_S256x1)
      (extractStridedSlice S1x256 ![4, 0] r slices_S8x256_o4_0_S1x256) (extractStridedSlice S1x256 ![5, 0] r slices_S8x256_o5_0_S1x256)
      (extractStridedSlice S256x128 ![0, 256] o slices_S256x512_o0_256_S256x128) d2) shapeCasts_S256x128_S256x128)
    (shapeCast S256x128 (yPair m x3 (extractStridedSlice S256x1 ![0, 6] a slices_S256x8_o0_6_S256x1) (extractStridedSlice S256x1 ![0, 7] a slices_S256x8_o0_7_S256x1)
      (extractStridedSlice S1x256 ![6, 0] r slices_S8x256_o6_0_S1x256) (extractStridedSlice S1x256 ![7, 0] r slices_S8x256_o7_0_S1x256)
      (extractStridedSlice S256x128 ![0, 384] o slices_S256x512_o0_384_S256x128) d3) shapeCasts_S256x128_S256x128)

/-- The state of the four pairs of heads after the chunk. -/
def stAll (s0 s1 s2 s3 : Vec F S128x128 .f32) (u : FVec F S128x512 .f32) (d : FVec F S1x8 .f32) : FVec F S128x512 .f32 :=
  joinS
    (stP s0 (extractStridedSlice S1x1 ![0, 0] d slices_S1x8_o0_0_S1x1) (extractStridedSlice S1x1 ![0, 1] d slices_S1x8_o0_1_S1x1) (extractStridedSlice S128x128 ![0, 0] u slices_S128x512_o0_0_S128x128))
    (stP s1 (extractStridedSlice S1x1 ![0, 2] d slices_S1x8_o0_2_S1x1) (extractStridedSlice S1x1 ![0, 3] d slices_S1x8_o0_3_S1x1) (extractStridedSlice S128x128 ![0, 128] u slices_S128x512_o0_128_S128x128))
    (stP s2 (extractStridedSlice S1x1 ![0, 4] d slices_S1x8_o0_4_S1x1) (extractStridedSlice S1x1 ![0, 5] d slices_S1x8_o0_5_S1x1) (extractStridedSlice S128x128 ![0, 256] u slices_S128x512_o0_256_S128x128))
    (stP s3 (extractStridedSlice S1x1 ![0, 6] d slices_S1x8_o0_6_S1x1) (extractStridedSlice S1x1 ![0, 7] d slices_S1x8_o0_7_S1x1) (extractStridedSlice S128x128 ![0, 384] u slices_S128x512_o0_384_S128x128))

/-- The state after a chunk. -/
def stC (x0 x1 x2 x3 b : Vec F S1x256x128 .bf16) (dc : Vec F S1x1x256x8 .f32) (bc ac : Vec F S1x1x8 .f32) (t : Vec F S256x256 .bf16) (s : FVec F S128x512 .f32) :
    FVec F S128x512 .f32 :=
  stAll (boxS 0 (by decide) s) (boxS 128 (by decide) s) (boxS 256 (by decide) s) (boxS 384 (by decide) s) (bx b (xdeAll x0 x1 x2 x3 (chG dc bc ac t))) (chD dc bc ac t)

/-- The rows of a chunk. -/
def outC (x0 x1 x2 x3 b c : Vec F S1x256x128 .bf16) (dc : Vec F S1x1x256x8 .f32) (bc ac : Vec F S1x1x8 .f32) (dr : Vec F S1x1x8x256 .f32) (br ar : Vec F S1x8x1 .f32)
    (t u : Vec F S256x256 .bf16) (d0 d1 d2 d3 : Vec F S1x128 .f32) (z : Vec F S1x256x512 .bf16) (w : Vec F S1x512 .f32) (s : FVec F S128x512 .f32) : FVec F S1x256x512 .bf16 :=
  normed (gated (yAll (cb b c) x0 x1 x2 x3 (chA dc bc ac t) (chR dr br ar u) (cs c s) d0 d1 d2 d3) z) w

/-- One store of everything is what is read. -/
theorem canon_all (i : ∀ a, (![0, 0] : Fin 2 → ℕ) a + S128x512.size a ≤ S128x512.size a) (w : FVec F S128x512 .f32) (L : List (View.Piece (Elt F) S128x512 .f32)) :
    View.canon ((⟨Rect.unit (s := S128x512) ![0, 0] S128x512.size i, w⟩ : View.Piece (Elt F) S128x512 .f32) :: L) = w := by
  funext x
  refine canon_hit (Val := Elt F) (e := .f32) (Rect.unit (s := S128x512) ![0, 0] S128x512.size i) w L x x fun a => ?_
  fin_cases a
  · show (x 0).val = 0 + 1 * (x 0).val
    omega
  · show (x 1).val = 0 + 1 * (x 1).val
    omega

/-- A load of everything is what the stores left. -/
theorem load_all {sig : RefSig} {κ : Kind} {sp : Space} (v : View sig κ sp S128x512 .f32) (i : ∀ a, (![0, 0] : Fin 2 → ℕ) a + S128x512.size a ≤ S128x512.size a) (L : List (View.Piece (Elt F) S128x512 .f32)) :
    v.readCov L (Rect.unit (s := S128x512) ![0, 0] S128x512.size i).toLoadRect = View.canon L := by
  rw [View.readCov_eq_canon']
  funext x
  congr 1
  funext a
  refine Fin.ext ?_
  fin_cases a
  · show 0 + 1 * (x 0).val = (x 0).val
    omega
  · show 0 + 1 * (x 1).val = (x 1).val
    omega

/-- A box of an array. -/
def pick {s : Shape} {e : EltTy} (x : Vec F s e) (off sz : Fin s.rank → ℕ) (i : ∀ a, off a + sz a ≤ s.size a) : Vec F ⟨s.rank, sz⟩ e :=
  fun j => x ((Rect.unit off sz i).toLoadRect.idx j)

/-- A load of a box of an array is that box. -/
theorem read_pick {sig : RefSig} {κ : Kind} {sp : Space} {s : Shape} {e : EltTy} (m : Memref sig κ sp s e) (h : m.IsWhole) (x : Vec F s e) (off sz : Fin s.rank → ℕ) (i : ∀ a, off a + sz a ≤ s.size a) :
    View.readAt (Elt F) m.view (Rect.unit off sz i).toLoadRect (h.unread x) = pick x off sz i := by
  rw [View.readAt_eq_ld, Memref.IsWhole.read_unread]
  rfl

/-- A box of the state, read off the array. -/
theorem pick_box (o : ℕ) (h : o + 128 ≤ 512) (x : Vec F S128x512 .f32) (i : ∀ a, (![0, o] : Fin 2 → ℕ) a + S128x128.size a ≤ S128x512.size a) :
    pick x ![0, o] S128x128.size i = boxS o h x := by
  funext j
  unfold pick boxS
  congr 1
  funext a
  refine Fin.ext ?_
  fin_cases a
  · show 0 + 1 * (j 0).val = (j 0).val
    omega
  · show o + 1 * (j 1).val = o + (j 1).val
    omega

/-- The whole state, read off the array. -/
theorem pick_all (x : Vec F S128x512 .f32) (i : ∀ a, (![0, 0] : Fin 2 → ℕ) a + S128x512.size a ≤ S128x512.size a) : pick x ![0, 0] S128x512.size i = x := by
  funext j
  unfold pick
  congr 1
  funext a
  refine Fin.ext ?_
  fin_cases a
  · show 0 + 1 * (j 0).val = (j 0).val
    omega
  · show 0 + 1 * (j 1).val = (j 1).val
    omega

section
variable {κ : Kind} {sp : Space}

/-- The inputs of a pair of heads, as a chunk loads them. -/
abbrev ldX {m : Memref sig κ sp S1x512x512 .bf16} (h : m.IsWhole) (x : Vec F S1x512x512 .bf16) (o : ℕ) (l : ℕ) (i : ∀ a, (![0, o, l] : Fin 3 → ℕ) a + S1x256x128.size a ≤ S1x512x512.size a := by decide) : Vec F S1x256x128 .bf16 :=
  View.readAt (Elt F) m.view (Rect.unit (s := S1x512x512) ![0, o, l] S1x256x128.size i).toLoadRect (h.unread x)

/-- The gates of a chunk. -/
abbrev ldZ {m : Memref sig κ sp S1x512x512 .bf16} (h : m.IsWhole) (x : Vec F S1x512x512 .bf16) (o : ℕ) (i : ∀ a, (![0, o, 0] : Fin 3 → ℕ) a + S1x256x512.size a ≤ S1x512x512.size a := by decide) : Vec F S1x256x512 .bf16 :=
  View.readAt (Elt F) m.view (Rect.unit (s := S1x512x512) ![0, o, 0] S1x256x512.size i).toLoadRect (h.unread x)

/-- The rows of B or C of a chunk. -/
abbrev ldB {m : Memref sig κ sp S1x512x128 .bf16} (h : m.IsWhole) (x : Vec F S1x512x128 .bf16) (o : ℕ) (i : ∀ a, (![0, o, 0] : Fin 3 → ℕ) a + S1x256x128.size a ≤ S1x512x128.size a := by decide) : Vec F S1x256x128 .bf16 :=
  View.readAt (Elt F) m.view (Rect.unit (s := S1x512x128) ![0, o, 0] S1x256x128.size i).toLoadRect (h.unread x)

/-- The time steps of a chunk, in columns. -/
abbrev ldT {m : Memref sig κ sp S1x1x512x8 .f32} (h : m.IsWhole) (x : Vec F S1x1x512x8 .f32) (o : ℕ) (i : ∀ a, (![0, 0, o, 0] : Fin 4 → ℕ) a + S1x1x256x8.size a ≤ S1x1x512x8.size a := by decide) : Vec F S1x1x256x8 .f32 :=
  View.readAt (Elt F) m.view (Rect.unit (s := S1x1x512x8) ![0, 0, o, 0] S1x1x256x8.size i).toLoadRect (h.unread x)

/-- The time steps of a chunk, in rows. -/
abbrev ldR {m : Memref sig κ sp S1x1x8x512 .f32} (h : m.IsWhole) (x : Vec F S1x1x8x512 .f32) (o : ℕ) (i : ∀ a, (![0, 0, 0, o] : Fin 4 → ℕ) a + S1x1x8x256.size a ≤ S1x1x8x512.size a := by decide) : Vec F S1x1x8x256 .f32 :=
  View.readAt (Elt F) m.view (Rect.unit (s := S1x1x8x512) ![0, 0, 0, o] S1x1x8x256.size i).toLoadRect (h.unread x)

/-- A row of eight heads. -/
abbrev ldC {m : Memref sig κ sp S1x1x8 .f32} (h : m.IsWhole) (x : Vec F S1x1x8 .f32) (i : ∀ a, (![0, 0, 0] : Fin 3 → ℕ) a + S1x1x8.size a ≤ S1x1x8.size a := by decide) : Vec F S1x1x8 .f32 :=
  View.readAt (Elt F) m.view (Rect.unit (s := S1x1x8) ![0, 0, 0] S1x1x8.size i).toLoadRect (h.unread x)

/-- A column of eight heads. -/
abbrev ldC1 {m : Memref sig κ sp S1x8x1 .f32} (h : m.IsWhole) (x : Vec F S1x8x1 .f32) (i : ∀ a, (![0, 0, 0] : Fin 3 → ℕ) a + S1x8x1.size a ≤ S1x8x1.size a := by decide) : Vec F S1x8x1 .f32 :=
  View.readAt (Elt F) m.view (Rect.unit (s := S1x8x1) ![0, 0, 0] S1x8x1.size i).toLoadRect (h.unread x)

/-- The norm's weights. -/
abbrev ldW {m : Memref sig κ sp S1x512 .f32} (h : m.IsWhole) (x : Vec F S1x512 .f32) (i : ∀ a, (![0, 0] : Fin 2 → ℕ) a + S1x512.size a ≤ S1x512.size a := by decide) : Vec F S1x512 .f32 :=
  View.readAt (Elt F) m.view (Rect.unit (s := S1x512) ![0, 0] S1x512.size i).toLoadRect (h.unread x)

/-- The skip weights of a pair of heads. -/
abbrev ldD {m : Memref sig κ sp S1x512 .f32} (h : m.IsWhole) (x : Vec F S1x512 .f32) (l : ℕ) (i : ∀ a, (![0, l] : Fin 2 → ℕ) a + S1x128.size a ≤ S1x512.size a := by decide) : Vec F S1x128 .f32 :=
  View.readAt (Elt F) m.view (Rect.unit (s := S1x512) ![0, l] S1x128.size i).toLoadRect (h.unread x)

/-- The triangle of ones. -/
abbrev ldO {m : Memref sig κ sp S256x256 .bf16} (h : m.IsWhole) (x : Vec F S256x256 .bf16) (i : ∀ a, (![0, 0] : Fin 2 → ℕ) a + S256x256.size a ≤ S256x256.size a := by decide) : Vec F S256x256 .bf16 :=
  View.readAt (Elt F) m.view (Rect.unit (s := S256x256) ![0, 0] S256x256.size i).toLoadRect (h.unread x)

/-- The whole state. -/
abbrev ldS {m : Memref sig κ sp S128x512 .f32} (h : m.IsWhole) (x : Vec F S128x512 .f32) (i : ∀ a, (![0, 0] : Fin 2 → ℕ) a + S128x512.size a ≤ S128x512.size a := by decide) : Vec F S128x512 .f32 :=
  View.readAt (Elt F) m.view (Rect.unit (s := S128x512) ![0, 0] S128x512.size i).toLoadRect (h.unread x)

/-- The state's first box. -/
abbrev ldS1 {m : Memref sig κ sp S128x512 .f32} (h : m.IsWhole) (x : Vec F S128x512 .f32) (i : ∀ a, (![0, 0] : Fin 2 → ℕ) a + S128x128.size a ≤ S128x512.size a := by decide) : Vec F S128x128 .f32 :=
  View.readAt (Elt F) m.view (Rect.unit (s := S128x512) ![0, 0] S128x128.size i).toLoadRect (h.unread x)

end

end Cert.SsdIdeal.Tile

end
-- ==== Proof.Ssd.Sem.lean ====
/-
  A CHUNK OVER REAL NUMBERS. Each function of a chunk, entry by entry, when what it loads is real: powers of two of logarithms to
  base two are exponentials, and the weight of a row is the exponential of the difference of two running sums times the row's step.
-/
module

public import proofs.«01_k».proof.Proof.Ssd.Chunk
public import proofs.«01_k».proof.Proof.Attn.Sem
public import proofs.«01_k».proof.Proof.Conv.Slab

@[expose] public section

set_option maxRecDepth 16384

noncomputable section

namespace Cert.SsdIdeal.Tile

open Cert.SsdIdeal Cert.SsdIdeal.Gen Idealize.ShloMosaic
open Cert.AttnIdeal.Tile (csum ofBits_bot sge_iff)
open Finset (range)

/-- The positive step of a real number. -/
def soft (r : ℝ) : ℝ := max r 0 + Real.log (1 + Real.exp (-|r|))

theorem soft_pos (r : ℝ) : 0 < soft r := by
  unfold soft
  have h : 0 < Real.log (1 + Real.exp (-|r|)) := Real.log_pos (by have := Real.exp_pos (-|r|); linarith)
  have := le_max_right r 0
  linarith

theorem coe_max (a b : ℝ) : max (a : EReal) (b : EReal) = ((max a b : ℝ) : EReal) := (EReal.coe_strictMono.monotone.map_max).symm

theorem soft_coe (r : ℝ) : max (r : EReal) 0 + Ideal.log1p (Ideal.exp (-(max (r : EReal) (-(r : EReal))))) = ((soft r : ℝ) : EReal) := by
  unfold soft Ideal.log1p
  rw [← EReal.coe_neg, coe_max, ← EReal.coe_neg, Ideal.exp_coe, ← EReal.coe_one, ← EReal.coe_add, Ideal.log_coe,
    if_neg (not_le.2 (by positivity)), ← EReal.coe_zero, coe_max, ← EReal.coe_add]
  rfl

/-- The inverse of the logarithm of two. -/
def il : ℝ := (Real.log 2)⁻¹

theorem two_pow (x : ℝ) : Ideal.exp2 ((x * il : ℝ) : EReal) = ((Real.exp x : ℝ) : EReal) := by
  rw [Ideal.exp2_coe]
  congr 1
  show (2 : ℝ) ^ (x * il) = _
  rw [Real.rpow_def_of_pos (by norm_num)]
  congr 1
  unfold il
  have : Real.log 2 ≠ 0 := (Real.log_pos (by norm_num)).ne'
  field_simp

theorem named_il : Named.named (F := Ideal) κ "log2e" (φ := .f32) 1069066811#32 = ((il : ℝ) : EReal) := rfl

theorem named_mil : Named.named (F := Ideal) κ "minus_log2e" (φ := .f32) 3216550459#32 = ((il * (-1) : ℝ) : EReal) := rfl

theorem exp2_eq (a : EReal) : FloatOps.exp2 (F := Ideal) (φ := .f32) a = Ideal.exp2 a := rfl

theorem slt_64 (l : ℕ) (h : l < 128) : IntOp.cmpi CmpIPredicate.slt (BitVec.ofNat 32 l) 64#32 = if l < 64 then 1#1 else 0#1 := by
  have e : ((BitVec.ofNat 32 l).slt 64#32) = decide (l < 64) := by
    rw [BitVec.slt_eq_decide, BitVec.toInt_eq_toNat_of_lt (by simp; omega)]
    simp; omega
  by_cases h : l < 64 <;> simp [IntOp.cmpi, e, h]

/-- The running sums of the decays' logarithms. -/
def aR (T : ℕ → ℕ → ℝ) (L : ℕ → ℝ) (i h : ℕ) : ℝ := ∑ j ∈ range (i + 1), T j h * (-L h)

/-- A running sum as a sum of all with zeros. -/
theorem upto (f : ℕ → ℝ) (i n : ℕ) (h : i < n) : ∑ j ∈ range n, (if j ≤ i then f j else 0) = ∑ j ∈ range (i + 1), f j := by
  rw [← Finset.sum_filter]
  congr 1
  ext j
  simp
  omega

section
variable {d : Vec Ideal S1x1x256x8 .f32} {b al : Vec Ideal S1x1x8 .f32} {T : ℕ → ℕ → ℝ} {L : ℕ → ℝ}

theorem dtC_real {R : ℕ → ℕ → ℝ} {β : ℕ → ℝ} (hd : ∀ (i : Fin 256) (h : Fin 8), d (ix4 (0 : Fin 1) (0 : Fin 1) i h) = ((R i.val h.val : ℝ) : EReal))
    (hb : ∀ h : Fin 8, b (ix3 (0 : Fin 1) (0 : Fin 1) h) = ((β h.val : ℝ) : EReal)) (i : Fin 256) (h : Fin 8) :
    dtC d b (ix2 i h) = ((soft (R i.val h.val + β h.val) : ℝ) : EReal) := by
  unfold dtC sp
  pointwise
  rw [hd, hb, ← EReal.coe_add, if_neg (by simp), ← soft_coe, zero_sub]
  rfl

theorem dtR_real {d : Vec Ideal S1x1x8x256 .f32} {b : Vec Ideal S1x8x1 .f32} {R : ℕ → ℕ → ℝ} {β : ℕ → ℝ} (hd : ∀ (i : Fin 256) (h : Fin 8), d (ix4 (0 : Fin 1) (0 : Fin 1) h i) = ((R i.val h.val : ℝ) : EReal))
    (hb : ∀ h : Fin 8, b (ix3 (0 : Fin 1) h (0 : Fin 1)) = ((β h.val : ℝ) : EReal)) (i : Fin 256) (h : Fin 8) :
    dtR d b (ix2 h i) = ((soft (R i.val h.val + β h.val) : ℝ) : EReal) := by
  unfold dtR sp
  pointwise
  rw [hd, hb, ← EReal.coe_add, if_neg (by simp), ← soft_coe, zero_sub]
  rfl

theorem acsC_real {v : FVec Ideal S256x8 .f32} {t : Vec Ideal S256x256 .bf16} {V : ℕ → ℕ → ℝ} (hv : ∀ (i : Fin 256) (h : Fin 8), v (ix2 i h) = ((V i.val h.val : ℝ) : EReal))
    (ht : ∀ i j : Fin 256, t (ix2 i j) = (((if j.val ≤ i.val then 1 else 0 : ℝ)) : EReal)) (i : Fin 256) (h : Fin 8) :
    acsC v t (ix2 i h) = ((∑ j ∈ range (i.val + 1), V j h.val : ℝ) : EReal) := by
  unfold acsC lo hi
  pointwise
  simp only [hv, ht, ← EReal.coe_sub, ← EReal.coe_mul, sub_self, mul_zero, EReal.coe_zero, sub_zero, Finset.sum_const_zero, add_zero]
  rw [csum 256 (fun x => (if x ≤ i.val then 1 else 0) * V x h.val), ← upto (fun j => V j h.val) i.val 256 i.isLt]
  simp only [ite_mul, one_mul, zero_mul]

theorem acsR_real {v : FVec Ideal S8x256 .f32} {t : Vec Ideal S256x256 .bf16} {V : ℕ → ℕ → ℝ} (hv : ∀ (i : Fin 256) (h : Fin 8), v (ix2 h i) = ((V i.val h.val : ℝ) : EReal))
    (ht : ∀ i j : Fin 256, t (ix2 i j) = (((if i.val ≤ j.val then 1 else 0 : ℝ)) : EReal)) (i : Fin 256) (h : Fin 8) :
    acsR v t (ix2 h i) = ((∑ j ∈ range (i.val + 1), V j h.val : ℝ) : EReal) := by
  unfold acsR lo hi
  pointwise
  simp only [hv, ht, ← EReal.coe_sub, ← EReal.coe_mul, sub_self, zero_mul, EReal.coe_zero, sub_zero, Finset.sum_const_zero, add_zero]
  rw [csum 256 (fun x => V x h.val * (if x ≤ i.val then 1 else 0)), ← upto (fun j => V j h.val) i.val 256 i.isLt]
  simp only [mul_ite, mul_one, mul_zero]

theorem aR_il (T : ℕ → ℕ → ℝ) (L : ℕ → ℝ) (i h : ℕ) : ∑ j ∈ range (i + 1), T j h * (il * (-1) * L h) = aR T L i h * il := by
  unfold aR
  rw [Finset.sum_mul]
  exact Finset.sum_congr rfl fun j _ => by ring

variable {dr : Vec Ideal S1x1x8x256 .f32} {br ar : Vec Ideal S1x8x1 .f32} {t u : Vec Ideal S256x256 .bf16} {R : ℕ → ℕ → ℝ} {β γ : ℕ → ℝ}

/-- The steps and the decays' rates, from the raw steps, the biases and the rates' logarithms. -/
def stepR (R : ℕ → ℕ → ℝ) (β : ℕ → ℝ) (i h : ℕ) : ℝ := soft (R i h + β h)

@[inherit_doc stepR]
def rateR (γ : ℕ → ℝ) (h : ℕ) : ℝ := Real.exp (γ h)

theorem chA_real (hd : ∀ (i : Fin 256) (h : Fin 8), d (ix4 (0 : Fin 1) (0 : Fin 1) i h) = ((R i.val h.val : ℝ) : EReal))
    (hb : ∀ h : Fin 8, b (ix3 (0 : Fin 1) (0 : Fin 1) h) = ((β h.val : ℝ) : EReal))
    (ha : ∀ h : Fin 8, al (ix3 (0 : Fin 1) (0 : Fin 1) h) = ((γ h.val : ℝ) : EReal))
    (ht : ∀ i j : Fin 256, t (ix2 i j) = (((if j.val ≤ i.val then 1 else 0 : ℝ)) : EReal)) (i : Fin 256) (h : Fin 8) :
    chA d b al t (ix2 i h) = ((aR (stepR R β) (rateR γ) i.val h.val * il : ℝ) : EReal) := by
  unfold chA
  rw [acsC_real (V := fun i h => stepR R β i h * (il * (-1) * rateR γ h)) _ ht, aR_il]
  intro i h
  unfold daC
  pointwise
  rw [dtC_real hd hb, ha, named_mil, Ideal.exp_coe, ← EReal.coe_mul, ← EReal.coe_mul]
  rfl

theorem chR_real (hd : ∀ (i : Fin 256) (h : Fin 8), dr (ix4 (0 : Fin 1) (0 : Fin 1) h i) = ((R i.val h.val : ℝ) : EReal))
    (hb : ∀ h : Fin 8, br (ix3 (0 : Fin 1) h (0 : Fin 1)) = ((β h.val : ℝ) : EReal))
    (ha : ∀ h : Fin 8, ar (ix3 (0 : Fin 1) h (0 : Fin 1)) = ((γ h.val : ℝ) : EReal))
    (hu : ∀ i j : Fin 256, u (ix2 i j) = (((if i.val ≤ j.val then 1 else 0 : ℝ)) : EReal)) (i : Fin 256) (h : Fin 8) :
    chR dr br ar u (ix2 h i) = (((aR (stepR R β) (rateR γ) i.val h.val - Real.log (stepR R β i.val h.val)) * il : ℝ) : EReal) := by
  have e : acsR (daR (dtR dr br) ar) u (ix2 h i) = ((aR (stepR R β) (rateR γ) i.val h.val * il : ℝ) : EReal) := by
    rw [acsR_real (V := fun i h => stepR R β i h * (il * (-1) * rateR γ h)) _ hu, aR_il]
    intro i h
    unfold daR
    pointwise
    rw [dtR_real hd hb, ha, named_mil, Ideal.exp_coe, ← EReal.coe_mul, ← EReal.coe_mul]
    rfl
  unfold chR arow
  pointwise
  rw [e, dtR_real hd hb, named_il, Ideal.log_coe, if_neg (not_le.2 (soft_pos _)), ← EReal.coe_mul, ← EReal.coe_sub, sub_mul]
  rfl

theorem chG_real (hd : ∀ (i : Fin 256) (h : Fin 8), d (ix4 (0 : Fin 1) (0 : Fin 1) i h) = ((R i.val h.val : ℝ) : EReal))
    (hb : ∀ h : Fin 8, b (ix3 (0 : Fin 1) (0 : Fin 1) h) = ((β h.val : ℝ) : EReal))
    (ha : ∀ h : Fin 8, al (ix3 (0 : Fin 1) (0 : Fin 1) h) = ((γ h.val : ℝ) : EReal))
    (ht : ∀ i j : Fin 256, t (ix2 i j) = (((if j.val ≤ i.val then 1 else 0 : ℝ)) : EReal)) (i : Fin 256) (h : Fin 8) :
    chG d b al t (ix2 i h) = (((Real.log (stepR R β i.val h.val) + (aR (stepR R β) (rateR γ) 255 h.val - aR (stepR R β) (rateR γ) i.val h.val)) * il : ℝ) : EReal) := by
  unfold chG gend last
  pointwise
  rw [chA_real hd hb ha ht, chA_real hd hb ha ht, dtC_real hd hb, named_il, Ideal.log_coe, if_neg (not_le.2 (soft_pos _)), ← EReal.coe_mul, ← EReal.coe_sub, ← EReal.coe_add]
  congr 1
  show Real.log (stepR R β i.val h.val) * il - _ + aR (stepR R β) (rateR γ) 255 h.val * il = _
  ring

theorem chD_real (hd : ∀ (i : Fin 256) (h : Fin 8), d (ix4 (0 : Fin 1) (0 : Fin 1) i h) = ((R i.val h.val : ℝ) : EReal))
    (hb : ∀ h : Fin 8, b (ix3 (0 : Fin 1) (0 : Fin 1) h) = ((β h.val : ℝ) : EReal))
    (ha : ∀ h : Fin 8, al (ix3 (0 : Fin 1) (0 : Fin 1) h) = ((γ h.val : ℝ) : EReal))
    (ht : ∀ i j : Fin 256, t (ix2 i j) = (((if j.val ≤ i.val then 1 else 0 : ℝ)) : EReal)) (h : Fin 8) :
    chD d b al t (ix2 (0 : Fin 1) h) = ((Real.exp (aR (stepR R β) (rateR γ) 255 h.val) : ℝ) : EReal) := by
  unfold chD last
  pointwise
  rw [chA_real hd hb ha ht, exp2_eq, two_pow]
  rfl

end

section
variable {x : Vec Ideal S1x256x128 .bf16} {X : ℕ → ℕ → ℝ}

theorem pair_apply (a0 a1 : FVec Ideal S256x128 .f32) (i : Fin 256) (l : Fin 128) :
    pair a0 a1 (ix2 i l) = if l.val < 64 then a0 (ix2 i l) else a1 (ix2 i l) := by
  unfold pair lmask
  pointwise
  rw [slt_64 _ l.isLt]
  by_cases h : l.val < 64 <;> simp [h, Scalar.select]

theorem wide_apply (a : FVec Ideal S256x1 .f32) (i : Fin 256) (l : Fin 128) : wide a (ix2 i l) = a (ix2 i (0 : Fin 1)) := by
  unfold wide
  pointwise

theorem xde_real (hx : ∀ (i : Fin 256) (l : Fin 128), x (ix3 (0 : Fin 1) i l) = ((X i.val l.val : ℝ) : EReal)) {g0 g1 : FVec Ideal S256x1 .f32} {G0 G1 : ℕ → ℝ}
    (h0 : ∀ i : Fin 256, g0 (ix2 i (0 : Fin 1)) = ((G0 i.val * il : ℝ) : EReal)) (h1 : ∀ i : Fin 256, g1 (ix2 i (0 : Fin 1)) = ((G1 i.val * il : ℝ) : EReal))
    (i : Fin 256) (l : Fin 128) :
    xde x g0 g1 (ix3 (0 : Fin 1) i l) = ((X i.val l.val * Real.exp (if l.val < 64 then G0 i.val else G1 i.val) : ℝ) : EReal) := by
  unfold xde
  pointwise
  rw [hx, pair_apply, wide_apply, wide_apply, h0, h1, exp2_eq]
  split_ifs <;> rw [two_pow, ← EReal.coe_mul]

theorem head_apply (m : FVec Ideal S256x256 .f32) (x : Vec Ideal S1x256x128 .bf16) (a : FVec Ideal S256x128 .f32) (r : FVec Ideal S1x256 .f32) (i : Fin 256) (l : Fin 128) :
    head m x a r (ix2 i l) = if h : i.val < 128 then
      ∑ j : Fin 128, m (ix2 i ⟨j.val, by omega⟩) * Ideal.exp2 (Scalar.select (IntOp.cmpi .sge (BitVec.ofNat 32 i.val) (BitVec.ofNat 32 j.val))
        (a (ix2 i j) - r (ix2 (0 : Fin 1) ⟨j.val, by omega⟩)) (Ideal.ofBits FTy.f32 4286578688#32)) * x (ix3 (0 : Fin 1) ⟨j.val, by omega⟩ l)
    else
      ∑ j : Fin 128, m (ix2 ⟨128 + (i.val - 128), by omega⟩ ⟨j.val, by omega⟩) * Ideal.exp2
        (a (ix2 ⟨128 + (i.val - 128), by omega⟩ j) - r (ix2 (0 : Fin 1) ⟨j.val, by omega⟩)) * x (ix3 (0 : Fin 1) ⟨j.val, by omega⟩ l)
      + ∑ j : Fin 128, m (ix2 ⟨128 + (i.val - 128), by omega⟩ ⟨128 + j.val, by omega⟩) * Ideal.exp2 (Scalar.select (IntOp.cmpi .sge (BitVec.ofNat 32 (i.val - 128)) (BitVec.ofNat 32 j.val))
        (a (ix2 ⟨128 + (i.val - 128), by omega⟩ j) - r (ix2 (0 : Fin 1) ⟨128 + j.val, by omega⟩)) (Ideal.ofBits FTy.f32 4286578688#32)) * x (ix3 (0 : Fin 1) ⟨128 + j.val, by omega⟩ l) := by
  unfold head masked diff cmask
  pointwise
  rfl

theorem head_real {m : FVec Ideal S256x256 .f32} {a : FVec Ideal S256x128 .f32} {r : FVec Ideal S1x256 .f32} {M : ℕ → ℕ → ℝ} {A R : ℕ → ℝ}
    (hx : ∀ (i : Fin 256) (l : Fin 128), x (ix3 (0 : Fin 1) i l) = ((X i.val l.val : ℝ) : EReal))
    (hm : ∀ i j : Fin 256, m (ix2 i j) = ((M i.val j.val : ℝ) : EReal)) (ha : ∀ (i : Fin 256) (l : Fin 128), a (ix2 i l) = ((A i.val * il : ℝ) : EReal))
    (hr : ∀ j : Fin 256, r (ix2 (0 : Fin 1) j) = ((R j.val * il : ℝ) : EReal)) (i : Fin 256) (l : Fin 128) :
    head m x a r (ix2 i l) = ((∑ j ∈ range 256, (if j ≤ i.val then M i.val j * Real.exp (A i.val - R j) else 0) * X j l.val : ℝ) : EReal) := by
  have w (h : Prop) [Decidable h] (a b : ℝ) :
      Ideal.exp2 (Scalar.select (if h then 1#1 else 0#1) (((a * il : ℝ) : EReal) - ((b * il : ℝ) : EReal)) ⊥) = ((if h then Real.exp (a - b) else 0 : ℝ) : EReal) := by
    by_cases h' : h
    · rw [if_pos h', if_pos h']
      show Ideal.exp2 (((a * il : ℝ) : EReal) - ((b * il : ℝ) : EReal)) = _
      rw [← EReal.coe_sub, ← sub_mul, two_pow]
    · rw [if_neg h', if_neg h']
      show Ideal.exp2 ⊥ = _
      rw [Ideal.exp2_bot]; rfl
  rw [head_apply]
  have s := Finset.sum_range_add (fun j => (if j ≤ i.val then M i.val j * Real.exp (A i.val - R j) else 0) * X j l.val) 128 128
  rw [show 128 + 128 = 256 from rfl] at s
  rw [s]
  split_ifs with hi
  · rw [Finset.sum_eq_zero (s := range 128) (f := fun j => (if 128 + j ≤ i.val then M i.val (128 + j) * Real.exp (A i.val - R (128 + j)) else 0) * X (128 + j) l.val)
      (fun j _ => by rw [if_neg (by omega), zero_mul]), add_zero, ← csum]
    refine Finset.sum_congr rfl fun j _ => ?_
    rw [hm, ha, hr, hx, sge_iff _ _ (by omega) (by omega), ofBits_bot, w, ← EReal.coe_mul, ← EReal.coe_mul]
    dsimp only
    rw [mul_ite, mul_zero]
  · rw [EReal.coe_add, ← csum, ← csum]
    congr 1
    · refine Finset.sum_congr rfl fun j _ => ?_
      rw [hm, ha, hr, hx, ← EReal.coe_sub, ← sub_mul, two_pow, ← EReal.coe_mul, ← EReal.coe_mul, if_pos (by omega)]
      dsimp only
      rw [show 128 + (i.val - 128) = i.val by omega]
    · refine Finset.sum_congr rfl fun j _ => ?_
      rw [hm, ha, hr, hx, sge_iff _ _ (by omega) (by omega), ofBits_bot, w, ← EReal.coe_mul, ← EReal.coe_mul]
      dsimp only
      rw [show 128 + (i.val - 128) = i.val by omega, mul_ite, mul_zero]
      have e : (j.val ≤ i.val - 128) = (128 + j.val ≤ i.val) := propext (by omega)
      simp only [e]

theorem yPair_apply (m x a0 a1 r0 r1 o) (d : Vec Ideal S1x128 .f32) (i : Fin 256) (l : Fin 128) : yPair m x a0 a1 r0 r1 o d (ix2 i l)
    = (if l.val < 64 then head m x (wide a0) r0 (ix2 i l) else head m x (wide a1) r1 (ix2 i l))
      + o (ix2 i l) * Ideal.exp2 (if l.val < 64 then a0 (ix2 i (0 : Fin 1)) else a1 (ix2 i (0 : Fin 1))) + d (ix2 (0 : Fin 1) l) * x (ix3 (0 : Fin 1) i l) := by
  unfold yPair
  pointwise
  rw [pair_apply, pair_apply, wide_apply, wide_apply, exp2_eq]

theorem stP_apply (s : Vec Ideal S128x128 .f32) (d0 d1 u) (n l : Fin 128) : stP s d0 d1 u (ix2 n l)
    = s (ix2 n l) * (if l.val < 64 then d0 (ix2 (0 : Fin 1) (0 : Fin 1)) else d1 (ix2 (0 : Fin 1) (0 : Fin 1))) + u (ix2 n l) := by
  unfold stP lmask
  pointwise
  rw [slt_64 _ l.isLt]
  by_cases h : l.val < 64 <;> simp [h, Scalar.select]

theorem half_mul (z : ℝ) : Ideal.ofBits FTy.f32 1056964608#32 * (z : EReal) = ((z / 2 : ℝ) : EReal) := by
  have : (Ideal.ofBits FTy.f32 1056964608#32 : EReal) = ((1 / 2 : ℝ) : EReal) := by
    simp [Ideal.ofBits, Ideal.ieee, -EReal.coe_mul]; norm_num
  rw [this, ← EReal.coe_mul]
  congr 1
  ring

theorem gated_real {y : Vec Ideal S1x256x512 .f32} {z : Vec Ideal S1x256x512 .bf16} {Z : ℝ} (i : Fin 256) (e : Fin 512) (hz : z (ix3 (0 : Fin 1) i e) = ((Z : ℝ) : EReal)) :
    gated y z (ix2 i e) = y (ix3 (0 : Fin 1) i e) * ((Z * (1 + Real.exp (-Z))⁻¹ : ℝ) : EReal) := by
  unfold gated
  pointwise
  rw [hz, half_mul, Ideal.tanh_coe, ← EReal.coe_mul, ← EReal.coe_add, Cert.ConvIdeal.Slab.silu_real, show 2 * (Z / 2) = Z by ring]

theorem normed_apply (g : FVec Ideal S256x512 .f32) (w : Vec Ideal S1x512 .f32) (i : Fin 256) (e : Fin 512) : normed g w (ix3 (0 : Fin 1) i e)
    = g (ix2 i e) * Ideal.rsqrt (Ideal.div (∑ x, g (ix2 i x) * g (ix2 i x)) (Ideal.ofBits FTy.f32 1140850688#32) + Ideal.ofBits FTy.f32 925353388#32) * w (ix2 (0 : Fin 1) e) := by
  unfold normed
  pointwise

end

end Cert.SsdIdeal.Tile

end
-- ==== Proof.Ssd.Real.lean ====
/-
  A CHUNK'S ROWS AND STATE AS REAL NUMBERS. The four pairs of heads together: entry `e` belongs to head `e / 64`.
-/
module

public import proofs.«01_k».proof.Proof.Ssd.Sem

@[expose] public section

set_option maxRecDepth 16384

noncomputable section

namespace Cert.SsdIdeal.Tile

open Cert.SsdIdeal Cert.SsdIdeal.Gen Idealize.ShloMosaic
open Cert.AttnIdeal.Tile (csum)
open Finset (range)

/-- What a chunk adds to the state. -/
def addR (X B T : ℕ → ℕ → ℝ) (L : ℕ → ℝ) (n e : ℕ) : ℝ :=
  ∑ j ∈ range 256, B j n * (X j e * (T j (e / 64) * Real.exp (aR T L 255 (e / 64) - aR T L j (e / 64))))

/-- The state after a chunk. -/
def nextR (X B T : ℕ → ℕ → ℝ) (L : ℕ → ℝ) (S : ℕ → ℕ → ℝ) (n e : ℕ) : ℝ := S n e * Real.exp (aR T L 255 (e / 64)) + addR X B T L n e

/-- The rows of a chunk, but for the direct term. -/
def rowR (X B C T : ℕ → ℕ → ℝ) (L : ℕ → ℝ) (S : ℕ → ℕ → ℝ) (i e : ℕ) : ℝ :=
  ∑ j ∈ range 256, (if j ≤ i then (∑ n ∈ range 128, C i n * B j n) * (T j (e / 64) * Real.exp (aR T L i (e / 64) - aR T L j (e / 64))) else 0) * X j e
  + (∑ n ∈ range 128, C i n * S n e) * Real.exp (aR T L i (e / 64))

/-- Gated numbers over their root mean square, times weights. -/
def finE (y : ℕ → EReal) (Z : ℕ → ℝ) (w : EReal) (e : ℕ) : EReal :=
  y e * ((Z e * (1 + Real.exp (-Z e))⁻¹ : ℝ) : EReal) * Ideal.rsqrt (Ideal.div (∑ l : Fin 512, (y l.val * ((Z l.val * (1 + Real.exp (-Z l.val))⁻¹ : ℝ) : EReal))
    * (y l.val * ((Z l.val * (1 + Real.exp (-Z l.val))⁻¹ : ℝ) : EReal))) (Ideal.ofBits FTy.f32 1140850688#32) + Ideal.ofBits FTy.f32 925353388#32) * w

theorem exp_log_step (R : ℕ → ℕ → ℝ) (β : ℕ → ℝ) (i h : ℕ) : Real.exp (Real.log (stepR R β i h)) = stepR R β i h := Real.exp_log (soft_pos _)

theorem cols4_eq {α : Type} {n : ℕ} {w0 w1 w2 w3 : Fin n → Fin 128 → α} {P : Fin n → ℕ → α} (h0 : ∀ r l, w0 r l = P r (128 * 0 + l.val)) (h1 : ∀ r l, w1 r l = P r (128 * 1 + l.val))
    (h2 : ∀ r l, w2 r l = P r (128 * 2 + l.val)) (h3 : ∀ r l, w3 r l = P r (128 * 3 + l.val)) (r : Fin n) (l : Fin 512) : cols4 w0 w1 w2 w3 r l = P r l.val := by
  unfold cols4
  split_ifs
  · rw [h0]; congr 1; dsimp only; omega
  · rw [h1]; congr 1; dsimp only; omega
  · rw [h2]; congr 1; dsimp only; omega
  · rw [h3]; congr 1; dsimp only; omega

section
variable {X : ℕ → ℕ → ℝ}

theorem pairX_real (q : ℕ) {x : Vec Ideal S1x256x128 .bf16} (hx : ∀ (i : Fin 256) (l : Fin 128), x (ix3 (0 : Fin 1) i l) = ((X i.val (128 * q + l.val) : ℝ) : EReal))
    {g0 g1 : FVec Ideal S256x1 .f32} {G : ℕ → ℕ → ℝ} (h0 : ∀ i : Fin 256, g0 (ix2 i (0 : Fin 1)) = ((G i.val (2 * q) * il : ℝ) : EReal))
    (h1 : ∀ i : Fin 256, g1 (ix2 i (0 : Fin 1)) = ((G i.val (2 * q + 1) * il : ℝ) : EReal)) (i : Fin 256) (l : Fin 128) :
    xde x g0 g1 (ix3 (0 : Fin 1) i l) = ((X i.val (128 * q + l.val) * Real.exp (G i.val ((128 * q + l.val) / 64)) : ℝ) : EReal) := by
  rw [xde_real (X := fun i l => X i (128 * q + l)) (G0 := fun i => G i (2 * q)) (G1 := fun i => G i (2 * q + 1)) hx h0 h1]
  have := l.isLt
  by_cases h : l.val < 64
  · rw [if_pos h, show (128 * q + l.val) / 64 = 2 * q by omega]
  · rw [if_neg h, show (128 * q + l.val) / 64 = 2 * q + 1 by omega]

theorem pairY_real (q : ℕ) {x : Vec Ideal S1x256x128 .bf16} (hx : ∀ (i : Fin 256) (l : Fin 128), x (ix3 (0 : Fin 1) i l) = ((X i.val (128 * q + l.val) : ℝ) : EReal))
    {m : FVec Ideal S256x256 .f32} {M : ℕ → ℕ → ℝ} (hm : ∀ i j : Fin 256, m (ix2 i j) = ((M i.val j.val : ℝ) : EReal))
    {a0 a1 : FVec Ideal S256x1 .f32} {A : ℕ → ℕ → ℝ} (h0 : ∀ i : Fin 256, a0 (ix2 i (0 : Fin 1)) = ((A i.val (2 * q) * il : ℝ) : EReal))
    (h1 : ∀ i : Fin 256, a1 (ix2 i (0 : Fin 1)) = ((A i.val (2 * q + 1) * il : ℝ) : EReal))
    {r0 r1 : FVec Ideal S1x256 .f32} {R : ℕ → ℕ → ℝ} (k0 : ∀ j : Fin 256, r0 (ix2 (0 : Fin 1) j) = ((R j.val (2 * q) * il : ℝ) : EReal))
    (k1 : ∀ j : Fin 256, r1 (ix2 (0 : Fin 1) j) = ((R j.val (2 * q + 1) * il : ℝ) : EReal))
    {o : FVec Ideal S256x128 .f32} {O : ℕ → ℕ → ℝ} (ho : ∀ (i : Fin 256) (l : Fin 128), o (ix2 i l) = ((O i.val (128 * q + l.val) : ℝ) : EReal))
    {d : Vec Ideal S1x128 .f32} {D : ℕ → EReal} (hd : ∀ l : Fin 128, d (ix2 (0 : Fin 1) l) = D (128 * q + l.val)) (i : Fin 256) (l : Fin 128) :
    shapeCast S256x128 (yPair m x a0 a1 r0 r1 o d) shapeCasts_S256x128_S256x128 (ix2 i l)
      = ((∑ j ∈ range 256, (if j ≤ i.val then M i.val j * Real.exp (A i.val ((128 * q + l.val) / 64) - R j ((128 * q + l.val) / 64)) else 0) * X j (128 * q + l.val)
        + O i.val (128 * q + l.val) * Real.exp (A i.val ((128 * q + l.val) / 64)) : ℝ) : EReal) + D (128 * q + l.val) * ((X i.val (128 * q + l.val) : ℝ) : EReal) := by
  have e : shapeCast S256x128 (yPair m x a0 a1 r0 r1 o d) shapeCasts_S256x128_S256x128 (ix2 i l) = yPair m x a0 a1 r0 r1 o d (ix2 i l) := by pointwise
  rw [e, yPair_apply, ho, hd, hx, h0, h1]
  have := l.isLt
  by_cases h : l.val < 64
  · rw [if_pos h, if_pos h, show (128 * q + l.val) / 64 = 2 * q by omega, two_pow, EReal.coe_add, EReal.coe_mul (O _ _)]
    rw [head_real (X := fun i l => X i (128 * q + l)) (A := fun i => A i (2 * q)) (R := fun j => R j (2 * q)) hx hm (fun i l => by rw [wide_apply, h0]) k0]
  · rw [if_neg h, if_neg h, show (128 * q + l.val) / 64 = 2 * q + 1 by omega, two_pow, EReal.coe_add, EReal.coe_mul (O _ _)]
    rw [head_real (X := fun i l => X i (128 * q + l)) (A := fun i => A i (2 * q + 1)) (R := fun j => R j (2 * q + 1)) hx hm (fun i l => by rw [wide_apply, h1]) k1]

theorem pairS_real (q : ℕ) {s : FVec Ideal S128x128 .f32} {S : ℕ → ℕ → ℝ} (hs : ∀ n l : Fin 128, s (ix2 n l) = ((S n.val (128 * q + l.val) : ℝ) : EReal))
    {d0 d1 : FVec Ideal S1x1 .f32} {D : ℕ → ℝ} (h0 : d0 (ix2 (0 : Fin 1) (0 : Fin 1)) = ((D (2 * q) : ℝ) : EReal)) (h1 : d1 (ix2 (0 : Fin 1) (0 : Fin 1)) = ((D (2 * q + 1) : ℝ) : EReal))
    {u : FVec Ideal S128x128 .f32} {U : ℕ → ℕ → ℝ} (hu : ∀ n l : Fin 128, u (ix2 n l) = ((U n.val (128 * q + l.val) : ℝ) : EReal)) (n l : Fin 128) :
    stP s d0 d1 u (ix2 n l) = ((S n.val (128 * q + l.val) * D ((128 * q + l.val) / 64) + U n.val (128 * q + l.val) : ℝ) : EReal) := by
  rw [stP_apply, hs, hu, h0, h1]
  have := l.isLt
  by_cases h : l.val < 64
  · rw [if_pos h, show (128 * q + l.val) / 64 = 2 * q by omega, EReal.coe_add, EReal.coe_mul]
  · rw [if_neg h, show (128 * q + l.val) / 64 = 2 * q + 1 by omega, EReal.coe_add, EReal.coe_mul]

variable {x0 x1 x2 x3 : Vec Ideal S1x256x128 .bf16}
  (hx0 : ∀ (i : Fin 256) (l : Fin 128), x0 (ix3 (0 : Fin 1) i l) = ((X i.val (128 * 0 + l.val) : ℝ) : EReal))
  (hx1 : ∀ (i : Fin 256) (l : Fin 128), x1 (ix3 (0 : Fin 1) i l) = ((X i.val (128 * 1 + l.val) : ℝ) : EReal))
  (hx2 : ∀ (i : Fin 256) (l : Fin 128), x2 (ix3 (0 : Fin 1) i l) = ((X i.val (128 * 2 + l.val) : ℝ) : EReal))
  (hx3 : ∀ (i : Fin 256) (l : Fin 128), x3 (ix3 (0 : Fin 1) i l) = ((X i.val (128 * 3 + l.val) : ℝ) : EReal))
include hx0 hx1 hx2 hx3

theorem xdeAll_real {g : FVec Ideal S256x8 .f32} {G : ℕ → ℕ → ℝ} (hg : ∀ (i : Fin 256) (h : Fin 8), g (ix2 i h) = ((G i.val h.val * il : ℝ) : EReal)) (i : Fin 256) (e : Fin 512) :
    xdeAll x0 x1 x2 x3 g (ix3 (0 : Fin 1) i e) = ((X i.val e.val * Real.exp (G i.val (e.val / 64)) : ℝ) : EReal) := by
  have p (k : ℕ) (hk : k < 8) (h) (i : Fin 256) : extractStridedSlice S256x1 ![0, k] g h (ix2 i (0 : Fin 1)) = ((G i.val k * il : ℝ) : EReal) := by
    have e : extractStridedSlice S256x1 ![0, k] g h (ix2 i (0 : Fin 1)) = g (ix2 i ⟨k, hk⟩) := by
      unfold extractStridedSlice
      congr 1
      funext a
      refine Fin.ext ?_
      fin_cases a
      · show 0 + i.val = i.val
        omega
      · rfl
    rw [e, hg]
  unfold xdeAll joinX
  exact cols4_eq (P := fun (i : Fin 256) e => ((X i.val e * Real.exp (G i.val (e / 64)) : ℝ) : EReal))
    (fun r l => pairX_real 0 hx0 (p 0 (by omega) _) (p 1 (by omega) _) r l) (fun r l => pairX_real 1 hx1 (p 2 (by omega) _) (p 3 (by omega) _) r l)
    (fun r l => pairX_real 2 hx2 (p 4 (by omega) _) (p 5 (by omega) _) r l) (fun r l => pairX_real 3 hx3 (p 6 (by omega) _) (p 7 (by omega) _) r l) i e

theorem yAll_real {m : FVec Ideal S256x256 .f32} {M : ℕ → ℕ → ℝ} (hm : ∀ i j : Fin 256, m (ix2 i j) = ((M i.val j.val : ℝ) : EReal))
    {a : FVec Ideal S256x8 .f32} {A : ℕ → ℕ → ℝ} (ha : ∀ (i : Fin 256) (h : Fin 8), a (ix2 i h) = ((A i.val h.val * il : ℝ) : EReal))
    {r : FVec Ideal S8x256 .f32} {R : ℕ → ℕ → ℝ} (hr : ∀ (i : Fin 256) (h : Fin 8), r (ix2 h i) = ((R i.val h.val * il : ℝ) : EReal))
    {o : FVec Ideal S256x512 .f32} {O : ℕ → ℕ → ℝ} (ho : ∀ (i : Fin 256) (e : Fin 512), o (ix2 i e) = ((O i.val e.val : ℝ) : EReal))
    {d0 d1 d2 d3 : Vec Ideal S1x128 .f32} {D : ℕ → EReal} (hd0 : ∀ l : Fin 128, d0 (ix2 (0 : Fin 1) l) = D (128 * 0 + l.val)) (hd1 : ∀ l : Fin 128, d1 (ix2 (0 : Fin 1) l) = D (128 * 1 + l.val))
    (hd2 : ∀ l : Fin 128, d2 (ix2 (0 : Fin 1) l) = D (128 * 2 + l.val)) (hd3 : ∀ l : Fin 128, d3 (ix2 (0 : Fin 1) l) = D (128 * 3 + l.val)) (i : Fin 256) (e : Fin 512) :
    yAll m x0 x1 x2 x3 a r o d0 d1 d2 d3 (ix3 (0 : Fin 1) i e)
      = ((∑ j ∈ range 256, (if j ≤ i.val then M i.val j * Real.exp (A i.val (e.val / 64) - R j (e.val / 64)) else 0) * X j e.val
        + O i.val e.val * Real.exp (A i.val (e.val / 64)) : ℝ) : EReal) + D e.val * ((X i.val e.val : ℝ) : EReal) := by
  have p (k : ℕ) (hk : k < 8) (h) (i : Fin 256) : extractStridedSlice S256x1 ![0, k] a h (ix2 i (0 : Fin 1)) = ((A i.val k * il : ℝ) : EReal) := by
    have e : extractStridedSlice S256x1 ![0, k] a h (ix2 i (0 : Fin 1)) = a (ix2 i ⟨k, hk⟩) := by
      unfold extractStridedSlice
      congr 1
      funext a
      refine Fin.ext ?_
      fin_cases a
      · show 0 + i.val = i.val
        omega
      · rfl
    rw [e, ha]
  have q (k : ℕ) (hk : k < 8) (h) (i : Fin 256) : extractStridedSlice S1x256 ![k, 0] r h (ix2 (0 : Fin 1) i) = ((R i.val k * il : ℝ) : EReal) := by
    have e : extractStridedSlice S1x256 ![k, 0] r h (ix2 (0 : Fin 1) i) = r (ix2 ⟨k, hk⟩ i) := by
      unfold extractStridedSlice
      congr 1
      funext a
      refine Fin.ext ?_
      fin_cases a
      · rfl
      · show 0 + i.val = i.val
        omega
    rw [e, hr]
  have s (k : ℕ) (hk : k < 4) (f : ℕ) (hf : f = 128 * k) (h) (i : Fin 256) (l : Fin 128) : extractStridedSlice S256x128 ![0, f] o h (ix2 i l) = ((O i.val (128 * k + l.val) : ℝ) : EReal) := by
    subst hf
    have e : extractStridedSlice S256x128 ![0, 128 * k] o h (ix2 i l) = o (ix2 i ⟨128 * k + l.val, by omega⟩) := by
      unfold extractStridedSlice
      congr 1
      funext a
      refine Fin.ext ?_
      fin_cases a
      · show 0 + i.val = i.val
        omega
      · rfl
    rw [e, ho]
  unfold yAll joinY
  exact cols4_eq (P := fun (i : Fin 256) e => ((∑ j ∈ range 256, (if j ≤ i.val then M i.val j * Real.exp (A i.val (e / 64) - R j (e / 64)) else 0) * X j e
        + O i.val e * Real.exp (A i.val (e / 64)) : ℝ) : EReal) + D e * ((X i.val e : ℝ) : EReal))
    (fun u l => pairY_real 0 hx0 hm (p 0 (by omega) _) (p 1 (by omega) _) (q 0 (by omega) _) (q 1 (by omega) _) (s 0 (by omega) _ rfl _) hd0 u l)
    (fun u l => pairY_real 1 hx1 hm (p 2 (by omega) _) (p 3 (by omega) _) (q 2 (by omega) _) (q 3 (by omega) _) (s 1 (by omega) _ rfl _) hd1 u l)
    (fun u l => pairY_real 2 hx2 hm (p 4 (by omega) _) (p 5 (by omega) _) (q 4 (by omega) _) (q 5 (by omega) _) (s 2 (by omega) _ rfl _) hd2 u l)
    (fun u l => pairY_real 3 hx3 hm (p 6 (by omega) _) (p 7 (by omega) _) (q 6 (by omega) _) (q 7 (by omega) _) (s 3 (by omega) _ rfl _) hd3 u l) i e

variable {b c : Vec Ideal S1x256x128 .bf16} {B C : ℕ → ℕ → ℝ} (hb : ∀ (j : Fin 256) (n : Fin 128), b (ix3 (0 : Fin 1) j n) = ((B j.val n.val : ℝ) : EReal))
  {dc : Vec Ideal S1x1x256x8 .f32} {bc ac : Vec Ideal S1x1x8 .f32} {t : Vec Ideal S256x256 .bf16} {R : ℕ → ℕ → ℝ} {β γ : ℕ → ℝ}
  (hdc : ∀ (i : Fin 256) (h : Fin 8), dc (ix4 (0 : Fin 1) (0 : Fin 1) i h) = ((R i.val h.val : ℝ) : EReal))
  (hbc : ∀ h : Fin 8, bc (ix3 (0 : Fin 1) (0 : Fin 1) h) = ((β h.val : ℝ) : EReal))
  (hac : ∀ h : Fin 8, ac (ix3 (0 : Fin 1) (0 : Fin 1) h) = ((γ h.val : ℝ) : EReal))
  (ht : ∀ i j : Fin 256, t (ix2 i j) = (((if j.val ≤ i.val then 1 else 0 : ℝ)) : EReal))
  {s : FVec Ideal S128x512 .f32} {S : ℕ → ℕ → ℝ} (hs : ∀ (n : Fin 128) (e : Fin 512), s (ix2 n e) = ((S n.val e.val : ℝ) : EReal))
include hb hdc hbc hac ht hs

/-- The state after a chunk. -/
theorem stC_real (n : Fin 128) (e : Fin 512) : stC x0 x1 x2 x3 b dc bc ac t s (ix2 n e) = ((nextR X B (stepR R β) (rateR γ) S n.val e.val : ℝ) : EReal) := by
  have hu (n : Fin 128) (e : Fin 512) : bx b (xdeAll x0 x1 x2 x3 (chG dc bc ac t)) (ix2 n e) = ((addR X B (stepR R β) (rateR γ) n.val e.val : ℝ) : EReal) := by
    unfold bx
    pointwise
    unfold addR
    rw [← csum 256 (fun j => B j n.val * (X j e.val * (stepR R β j (e.val / 64) * Real.exp (aR (stepR R β) (rateR γ) 255 (e.val / 64) - aR (stepR R β) (rateR γ) j (e.val / 64)))))]
    refine Finset.sum_congr rfl fun j _ => ?_
    rw [hb, xdeAll_real hx0 hx1 hx2 hx3 (G := fun i h => Real.log (stepR R β i h) + (aR (stepR R β) (rateR γ) 255 h - aR (stepR R β) (rateR γ) i h)) (chG_real hdc hbc hac ht), ← EReal.coe_mul,
      Real.exp_add, exp_log_step]
  have p (k : ℕ) (hk : k < 8) (h) : extractStridedSlice S1x1 ![0, k] (chD dc bc ac t) h (ix2 (0 : Fin 1) (0 : Fin 1)) = ((Real.exp (aR (stepR R β) (rateR γ) 255 k) : ℝ) : EReal) := by
    have e : extractStridedSlice S1x1 ![0, k] (chD dc bc ac t) h (ix2 (0 : Fin 1) (0 : Fin 1)) = chD dc bc ac t (ix2 (0 : Fin 1) ⟨k, hk⟩) := by
      unfold extractStridedSlice
      congr 1
      funext a
      refine Fin.ext ?_
      fin_cases a
      · rfl
      · rfl
    rw [e, chD_real hdc hbc hac ht]
  have v (k : ℕ) (hk : k < 4) (f : ℕ) (hf : f = 128 * k) (h) (i : Fin 128) (l : Fin 128) :
      extractStridedSlice S128x128 ![0, f] (bx b (xdeAll x0 x1 x2 x3 (chG dc bc ac t))) h (ix2 i l) = ((addR X B (stepR R β) (rateR γ) i.val (128 * k + l.val) : ℝ) : EReal) := by
    subst hf
    have e : extractStridedSlice S128x128 ![0, 128 * k] (bx b (xdeAll x0 x1 x2 x3 (chG dc bc ac t))) h (ix2 i l)
        = bx b (xdeAll x0 x1 x2 x3 (chG dc bc ac t)) (ix2 i ⟨128 * k + l.val, by omega⟩) := by
      unfold extractStridedSlice
      congr 1
      funext a
      refine Fin.ext ?_
      fin_cases a
      · show 0 + i.val = i.val
        omega
      · rfl
    rw [e, hu]
  have w (k : ℕ) (hk : k < 4) (f : ℕ) (hf : f = 128 * k) (h) (i l : Fin 128) : boxS f h s (ix2 i l) = ((S i.val (128 * k + l.val) : ℝ) : EReal) := by
    subst hf
    exact hs i ⟨128 * k + l.val, by omega⟩
  unfold stC stAll joinS nextR
  exact cols4_eq (P := fun (n : Fin 128) e => ((S n.val e * Real.exp (aR (stepR R β) (rateR γ) 255 (e / 64)) + addR X B (stepR R β) (rateR γ) n.val e : ℝ) : EReal))
    (fun r l => pairS_real 0 (D := fun h => Real.exp (aR (stepR R β) (rateR γ) 255 h)) (w 0 (by omega) _ rfl _) (p 0 (by omega) _) (p 1 (by omega) _) (v 0 (by omega) _ rfl _) r l)
    (fun r l => pairS_real 1 (D := fun h => Real.exp (aR (stepR R β) (rateR γ) 255 h)) (w 1 (by omega) _ rfl _) (p 2 (by omega) _) (p 3 (by omega) _) (v 1 (by omega) _ rfl _) r l)
    (fun r l => pairS_real 2 (D := fun h => Real.exp (aR (stepR R β) (rateR γ) 255 h)) (w 2 (by omega) _ rfl _) (p 4 (by omega) _) (p 5 (by omega) _) (v 2 (by omega) _ rfl _) r l)
    (fun r l => pairS_real 3 (D := fun h => Real.exp (aR (stepR R β) (rateR γ) 255 h)) (w 3 (by omega) _ rfl _) (p 6 (by omega) _) (p 7 (by omega) _) (v 3 (by omega) _ rfl _) r l) n e

/-- The rows of a chunk. -/
theorem outC_real (hc : ∀ (j : Fin 256) (n : Fin 128), c (ix3 (0 : Fin 1) j n) = ((C j.val n.val : ℝ) : EReal))
    {dr : Vec Ideal S1x1x8x256 .f32} {br ar : Vec Ideal S1x8x1 .f32} {u : Vec Ideal S256x256 .bf16}
    (hdr : ∀ (i : Fin 256) (h : Fin 8), dr (ix4 (0 : Fin 1) (0 : Fin 1) h i) = ((R i.val h.val : ℝ) : EReal))
    (hbr : ∀ h : Fin 8, br (ix3 (0 : Fin 1) h (0 : Fin 1)) = ((β h.val : ℝ) : EReal))
    (har : ∀ h : Fin 8, ar (ix3 (0 : Fin 1) h (0 : Fin 1)) = ((γ h.val : ℝ) : EReal))
    (hu : ∀ i j : Fin 256, u (ix2 i j) = (((if i.val ≤ j.val then 1 else 0 : ℝ)) : EReal))
    {d0 d1 d2 d3 : Vec Ideal S1x128 .f32} {D : ℕ → EReal} (hd0 : ∀ l : Fin 128, d0 (ix2 (0 : Fin 1) l) = D (128 * 0 + l.val)) (hd1 : ∀ l : Fin 128, d1 (ix2 (0 : Fin 1) l) = D (128 * 1 + l.val))
    (hd2 : ∀ l : Fin 128, d2 (ix2 (0 : Fin 1) l) = D (128 * 2 + l.val)) (hd3 : ∀ l : Fin 128, d3 (ix2 (0 : Fin 1) l) = D (128 * 3 + l.val))
    {z : Vec Ideal S1x256x512 .bf16} {Z : ℕ → ℕ → ℝ} (hz : ∀ (i : Fin 256) (e : Fin 512), z (ix3 (0 : Fin 1) i e) = ((Z i.val e.val : ℝ) : EReal)) (w : Vec Ideal S1x512 .f32) (i : Fin 256) (e : Fin 512) :
    outC x0 x1 x2 x3 b c dc bc ac dr br ar t u d0 d1 d2 d3 z w s (ix3 (0 : Fin 1) i e)
      = finE (fun e => ((rowR X B C (stepR R β) (rateR γ) S i.val e : ℝ) : EReal) + D e * ((X i.val e : ℝ) : EReal)) (Z i.val) (w (ix2 (0 : Fin 1) e)) e.val := by
  have hm (i j : Fin 256) : cb b c (ix2 i j) = ((∑ n ∈ range 128, C i.val n * B j.val n : ℝ) : EReal) := by
    unfold cb
    pointwise
    rw [← csum 128 (fun n => C i.val n * B j.val n)]
    exact Finset.sum_congr rfl fun n _ => by rw [hb, hc, ← EReal.coe_mul]
  have ho (i : Fin 256) (e : Fin 512) : cs c s (ix2 i e) = ((∑ n ∈ range 128, C i.val n * S n e.val : ℝ) : EReal) := by
    unfold cs
    pointwise
    rw [← csum 128 (fun n => C i.val n * S n e.val)]
    exact Finset.sum_congr rfl fun n _ => by rw [hs, hc, ← EReal.coe_mul]
  have hy (e : Fin 512) : gated (yAll (cb b c) x0 x1 x2 x3 (chA dc bc ac t) (chR dr br ar u) (cs c s) d0 d1 d2 d3) z (ix2 i e)
      = (((rowR X B C (stepR R β) (rateR γ) S i.val e.val : ℝ) : EReal) + D e.val * ((X i.val e.val : ℝ) : EReal)) * ((Z i.val e.val * (1 + Real.exp (-Z i.val e.val))⁻¹ : ℝ) : EReal) := by
    rw [gated_real (Z := Z i.val e.val) i e (hz i e), yAll_real hx0 hx1 hx2 hx3 (M := fun i j => ∑ n ∈ range 128, C i n * B j n) hm (chA_real hdc hbc hac ht)
      (R := fun j h => aR (stepR R β) (rateR γ) j h - Real.log (stepR R β j h)) (chR_real hdr hbr har hu) (O := fun i e => ∑ n ∈ range 128, C i n * S n e) ho hd0 hd1 hd2 hd3]
    congr 3
    unfold rowR
    congr 1
    refine Finset.sum_congr rfl fun j _ => ?_
    congr 1
    split_ifs
    · rw [show aR (stepR R β) (rateR γ) i.val (e.val / 64) - (aR (stepR R β) (rateR γ) j (e.val / 64) - Real.log (stepR R β j (e.val / 64)))
        = Real.log (stepR R β j (e.val / 64)) + (aR (stepR R β) (rateR γ) i.val (e.val / 64) - aR (stepR R β) (rateR γ) j (e.val / 64)) by ring, Real.exp_add, exp_log_step]
    · rfl
  unfold outC
  rw [normed_apply, hy]
  unfold finE
  congr 5
  exact Finset.sum_congr rfl fun l _ => by rw [hy]

end

end Cert.SsdIdeal.Tile

end
-- ==== Proof.Ssd.Host.lean ====
/-
  THE SCAN'S OPERANDS AND ITS STATES. The host's arrays entry by entry, the numbers the arguments hold where they are real, and
  the states that the chunks hand on.
-/
module

public import proofs.«01_k».proof.Proof.Ssd.Real
public import proofs.«01_k».proof.Proof.Conv.Value
public import Idealize.ShloMosaic.Lib.Pipeline.Value
public import proofs.«01_k».proof.Proof.Gen.Pre_finite_ssd
public import proofs.«01_k».proof.Defs
public import Idealize.ShloMosaic.Lib.ReduceAll

@[expose] public section

set_option maxRecDepth 16384

noncomputable section

open Idealize.ShloMosaic Idealize.ShloMosaic.TcCoe Idealize.SL.Sem

namespace Cert.SsdIdeal.Value

open Cert.SsdIdeal Cert.SsdIdeal.Gen Cert.SsdIdeal.Tile

section
variable {F : FTy → Type} [FloatOps F] [Named F]

def colsT (v : FVec F S4x2048x64 .f32) : FVec F S8x4x2048x8 .f32 := transpose S8x4x2048x8 [2, 0, 1, 3] (shapeCast S4x2048x8x8 v shapeCasts_S4x2048x64_S4x2048x8x8) transposes_S4x2048x8x8_S8x4x2048x8_2_0_1_3

theorem colsT_apply (v : FVec F S4x2048x64 .f32) (g : Fin 8) (b : Fin 4) (t : Fin 2048) (h : Fin 8) : colsT v (ix4 g b t h) = v (ix3 b t (⟨g.val * 8 + h.val, by omega⟩ : Fin 64)) := by
  unfold colsT
  pointwise

def rowsT (v : FVec F S4x2048x64 .f32) : FVec F S4x8x8x2048 .f32 := transpose S4x8x8x2048 [0, 2, 3, 1] (shapeCast S4x2048x8x8 v shapeCasts_S4x2048x64_S4x2048x8x8) transposes_S4x2048x8x8_S4x8x8x2048_0_2_3_1

theorem rowsT_apply (v : FVec F S4x2048x64 .f32) (b : Fin 4) (g : Fin 8) (h : Fin 8) (t : Fin 2048) : rowsT v (ix4 b g h t) = v (ix3 b t (⟨g.val * 8 + h.val, by omega⟩ : Fin 64)) := by
  unfold rowsT
  pointwise

def perC (v : FVec F S1x64 .f32) : FVec F S8x1x8 .f32 := shapeCast S8x1x8 (shapeCast S64 v shapeCasts_S1x64_S64) shapeCasts_S64_S8x1x8

theorem perC_apply (v : FVec F S1x64 .f32) (g : Fin 8) (h : Fin 8) : perC v (ix3 g (0 : Fin 1) h) = v (ix2 (0 : Fin 1) (⟨g.val * 8 + h.val, by omega⟩ : Fin 64)) := by
  unfold perC
  pointwise

def perR (v : FVec F S1x64 .f32) : FVec F S8x8x1 .f32 := shapeCast S8x8x1 (shapeCast S64 v shapeCasts_S1x64_S64) shapeCasts_S64_S8x8x1

theorem perR_apply (v : FVec F S1x64 .f32) (g : Fin 8) (h : Fin 8) : perR v (ix3 g h (0 : Fin 1)) = v (ix2 (0 : Fin 1) (⟨g.val * 8 + h.val, by omega⟩ : Fin 64)) := by
  unfold perR
  pointwise

def spread (v : FVec F S1x64 .f32) : FVec F S1x4096 .f32 := shapeCast S1x4096 (shapeCast S4096 (broadcastInDim S64x64 ![0] bcast_S64_S64x64_0 (shapeCast S64 v shapeCasts_S1x64_S64)) shapeCasts_S64x64_S4096) shapeCasts_S4096_S1x4096

theorem spread_apply (v : FVec F S1x64 .f32) (e : Fin 4096) : spread v (ix2 (0 : Fin 1) e) = v (ix2 (0 : Fin 1) (⟨e.val / 64, by omega⟩ : Fin 64)) := by
  unfold spread
  pointwise

def again (v : FVec F S1x4096 .f32) : FVec F S1x4096 .f32 := shapeCast S1x4096 (shapeCast S4096 v shapeCasts_S1x4096_S4096) shapeCasts_S4096_S1x4096

theorem again_apply (v : FVec F S1x4096 .f32) (e : Fin 4096) : again v (ix2 (0 : Fin 1) e) = v (ix2 (0 : Fin 1) e) := by
  unfold again
  pointwise

def tri : FVec F S256x256 .bf16 :=
  select (cmpi .sge (addi (iotaInDim S256x256 32 0) (broadcastInDim S256x256 ![] bcast_S_S256x256 (constantI S_ 32 0#32))) (iotaInDim S256x256 32 1))
    (broadcastInDim S256x256 ![] bcast_S_S256x256 (constant S_ .bf16 0x3F80#16)) (broadcastInDim S256x256 ![] bcast_S_S256x256 (constant S_ .bf16 0x0000#16))

def trit : FVec F S256x256 .bf16 := transpose S256x256 [1, 0] tri transposes_S256x256_S256x256_1_0

theorem tri_apply (i j : Fin 256) : (tri : FVec F S256x256 .bf16) (ix2 i j)
    = Scalar.select (IntOp.cmpi .sge (IntOp.addi (BitVec.ofNat 32 i.val) 0#32) (BitVec.ofNat 32 j.val)) (FloatOps.ofBits .bf16 0x3F80#16) (FloatOps.ofBits .bf16 0x0000#16) := by
  unfold tri
  pointwise

theorem trit_apply (i j : Fin 256) : (trit : FVec F S256x256 .bf16) (ix2 i j) = (tri : FVec F S256x256 .bf16) (ix2 j i) := by
  unfold trit
  pointwise

end

theorem tri_real (i j : Fin 256) : (tri : FVec Ideal S256x256 .bf16) (ix2 i j) = ((if j.val ≤ i.val then 1 else 0 : ℝ) : EReal) := by
  have a : IntOp.addi (BitVec.ofNat 32 i.val) 0#32 = BitVec.ofNat 32 i.val := by unfold IntOp.addi; exact BitVec.add_zero _
  have u : (FloatOps.ofBits FTy.bf16 0x3F80#16 : Ideal .bf16) = ((1 : ℝ) : EReal) := by
    show Ideal.ofBits _ _ = _
    simp [Ideal.ofBits, Ideal.ieee, -EReal.coe_mul]; norm_num
  have z : (FloatOps.ofBits FTy.bf16 0x0000#16 : Ideal .bf16) = ((0 : ℝ) : EReal) := by
    show Ideal.ofBits _ _ = _
    simp [Ideal.ofBits, Ideal.ieee, -EReal.coe_mul]
  rw [tri_apply, a, Cert.AttnIdeal.Tile.sge_iff _ _ (by omega) (by omega), u, z]
  by_cases h : j.val ≤ i.val <;> simp [h, Scalar.select]

theorem trit_real (i j : Fin 256) : (trit : FVec Ideal S256x256 .bf16) (ix2 i j) = ((if i.val ≤ j.val then 1 else 0 : ℝ) : EReal) := by
  rw [trit_apply, tri_real]

attribute [local instance] Cert.Pre_finite_ssd.Gen.facts

/-- Every entry is a real number. -/
def Reals {s : Shape} {φ : FTy} (x : FVec Ideal s φ) : Prop := ∀ i, x i = (((x i).toReal : ℝ) : EReal)

/-- Every entry of the gate is a real number. -/
def RealGate (p : FVec Ideal S4x2048x20480 .bf16) : Prop :=
  ∀ (b : Fin 4) (r : Fin 2048) (c : Fin 20480), c.val < 4096 → p (ix3 b r c) = (((p (ix3 b r c)).toReal : ℝ) : EReal)

theorem gate_apply (p : FVec Ideal S4x2048x20480 .bf16) (b : Fin 4) (r : Fin 2048) (c : Fin 4096) :
    extractStridedSlice Pre_finite_ssd.S4x2048x4096 ![0, 0, 0] p Pre_finite_ssd.Facts.slices_S4x2048x20480_S4x2048x4096_0_0_0 (ix3 b r c) = p (ix3 b r ⟨c.val, by omega⟩) := by
  pointwise

/-- The numbers of a token's channels. -/
def xR (x : FVec Ideal S4x2048x6144 .bf16) (b : Fin 4) (t k : ℕ) : ℝ := if h : t < 2048 ∧ k < 6144 then (x (ix3 b ⟨t, h.1⟩ ⟨k, h.2⟩)).toReal else 0

/-- The numbers of a token's raw steps. -/
def dR (r : FVec Ideal S4x2048x64 .f32) (b : Fin 4) (t k : ℕ) : ℝ := if h : t < 2048 ∧ k < 64 then (r (ix3 b ⟨t, h.1⟩ ⟨k, h.2⟩)).toReal else 0

/-- The numbers of a token's gate. -/
def zR (p : FVec Ideal S4x2048x20480 .bf16) (b : Fin 4) (t k : ℕ) : ℝ := if h : t < 2048 ∧ k < 20480 then (p (ix3 b ⟨t, h.1⟩ ⟨k, h.2⟩)).toReal else 0

/-- The numbers of the heads' weights. -/
def hR (v : FVec Ideal S1x64 .f32) (k : ℕ) : ℝ := if h : k < 64 then (v (ix2 (0 : Fin 1) ⟨k, h⟩)).toReal else 0

/-- The weights that scale the channels, a head's over all of its channels. -/
def skipE (v : FVec Ideal S1x64 .f32) (k : ℕ) : EReal := v (ix2 (0 : Fin 1) ⟨k % 64, Nat.mod_lt _ (by norm_num)⟩)

theorem xR_eq {x : FVec Ideal S4x2048x6144 .bf16} (hx : Reals x) (b : Fin 4) (t : Fin 2048) (k : Fin 6144) : x (ix3 b t k) = ((xR x b t.val k.val : ℝ) : EReal) := by
  rw [hx]; unfold xR; rw [dif_pos ⟨t.isLt, k.isLt⟩]

theorem dR_eq {x : FVec Ideal S4x2048x64 .f32} (hx : Reals x) (b : Fin 4) (t : Fin 2048) (k : Fin 64) : x (ix3 b t k) = ((dR x b t.val k.val : ℝ) : EReal) := by
  rw [hx]; unfold dR; rw [dif_pos ⟨t.isLt, k.isLt⟩]

theorem zR_eq {x : FVec Ideal S4x2048x20480 .bf16} (hx : RealGate x) (b : Fin 4) (t : Fin 2048) (k : Fin 20480) (h : k.val < 4096) : x (ix3 b t k) = ((zR x b t.val k.val : ℝ) : EReal) := by
  rw [hx b t k h]; unfold zR; rw [dif_pos ⟨t.isLt, k.isLt⟩]

theorem hR_eq {x : FVec Ideal S1x64 .f32} (hx : Reals x) (k : Fin 64) : x (ix2 (0 : Fin 1) k) = ((hR x k.val : ℝ) : EReal) := by
  rw [hx]; unfold hR; rw [dif_pos k.isLt]

section
variable (x : FVec Ideal S4x2048x6144 .bf16) (r : FVec Ideal S4x2048x64 .f32) (bw aw : FVec Ideal S1x64 .f32) (b : Fin 4) (g : ℕ)

/-- A group's channels, the rows and columns of its state's updates and readings, its steps, from row `o` on. -/
def Xc (o i e : ℕ) : ℝ := xR x b (o + i) (g * 512 + e)
def Bc (o i n : ℕ) : ℝ := xR x b (o + i) (4096 + (g * 128 + n))
def Cc (o i n : ℕ) : ℝ := xR x b (o + i) (5120 + (g * 128 + n))
def Tc (o : ℕ) : ℕ → ℕ → ℝ := stepR (fun i h => dR r b (o + i) (g * 8 + h)) (fun h => hR bw (g * 8 + h))
def Lc : ℕ → ℝ := rateR (fun h => hR aw (g * 8 + h))

/-- The state before chunk `c`. -/
def St : ℕ → ℕ → ℕ → ℝ
  | 0 => fun _ _ => 0
  | c + 1 => nextR (Xc x b g (256 * c)) (Bc x b g (256 * c)) (Tc r bw b g (256 * c)) (Lc aw g) (St c)

/-- A chunk's rows. -/
def Yc (c i e : ℕ) : ℝ :=
  rowR (Xc x b g (256 * c)) (Bc x b g (256 * c)) (Cc x b g (256 * c)) (Tc r bw b g (256 * c)) (Lc aw g) (St x r bw aw b g c) i e

end

/-- The mixer's result for row `i` of chunk `c`, group `g`, entry `e`. -/
def ssdRow (p : FVec Ideal S4x2048x20480 .bf16) (x : FVec Ideal S4x2048x6144 .bf16) (r : FVec Ideal S4x2048x64 .f32) (bw aw d : FVec Ideal S1x64 .f32) (w : EReal)
    (b : Fin 4) (g c i e : ℕ) : EReal :=
  finE (fun e => ((Yc x r bw aw b g c i e : ℝ) : EReal) + skipE d (g * 8 + e / 64) * ((Xc x b g (256 * c) i e : ℝ) : EReal))
    (fun e => zR p b (256 * c + i) (g * 512 + e)) w e

/-- The mixer's result. -/
def ssdAt (p : FVec Ideal S4x2048x20480 .bf16) (x : FVec Ideal S4x2048x6144 .bf16) (r : FVec Ideal S4x2048x64 .f32) (bw aw d : FVec Ideal S1x64 .f32) (w : FVec Ideal S1x4096 .f32) :
    FVec Ideal S4x2048x4096 .bf16 :=
  fun y => ssdRow p x r bw aw d (w (ix2 (0 : Fin 1) (y 2))) (y 0) ((y 2).val / 512) ((y 1).val / 256) ((y 1).val % 256) ((y 2).val % 512)

variable (m : (ℓ : Loc nD τ sig) → Buf (Elt Ideal) ℓ)

/-- The arguments on a device are real numbers. -/
structure RealArgs (c : Dev nD) : Prop where
  a0 : RealGate (m ((c : Thread nD τ).loc main_arg0))
  a1 : Reals (s := S4x2048x6144) (φ := .bf16) (m ((c : Thread nD τ).loc main_arg1))
  a2 : Reals (s := S4x2048x64) (φ := .f32) (m ((c : Thread nD τ).loc main_arg2))
  a3 : Reals (s := S1x64) (φ := .f32) (m ((c : Thread nD τ).loc main_arg3))
  a4 : Reals (s := S1x64) (φ := .f32) (m ((c : Thread nD τ).loc main_arg4))

theorem finite_args (h : Pre_SsdIdeal_finite_ssd m) (c : Dev nD) : RealArgs m c := by
  have := congrFun (h c) ix0
  simp only [Pre_finite_ssd.fn, Pre_finite_ssd.fn_part1] at this
  have e : ∀ (a b : IVec Pre_finite_ssd.S_ 1) i, andi a b i = IntOp.andi (a i) (b i) := fun _ _ _ => rfl
  rw [e, IntOp.andi_eq_one, e, IntOp.andi_eq_one, e, IntOp.andi_eq_one, e, IntOp.andi_eq_one] at this
  obtain ⟨⟨⟨⟨h0, h1⟩, h2⟩, h3⟩, h4⟩ := this
  refine ⟨fun b r d hd => ?_, fun i => Cert.ConvIdeal.Value.real_of_lt _ (Host.reduce_andi_all _ _ _ _ _ h1 i),
    fun i => Cert.ConvIdeal.Value.real_of_lt _ (Host.reduce_andi_all _ _ _ _ _ h2 i), fun i => Cert.ConvIdeal.Value.real_of_lt _ (Host.reduce_andi_all _ _ _ _ _ h3 i),
    fun i => Cert.ConvIdeal.Value.real_of_lt _ (Host.reduce_andi_all _ _ _ _ _ h4 i)⟩
  have q := Cert.ConvIdeal.Value.real_of_lt _ (Host.reduce_andi_all _ _ _ _ _ h0 (ix3 b r (⟨d.val, hd⟩ : Fin 4096)))
  have k := gate_apply (m ((c : Thread nD τ).loc main_arg0)) b r ⟨d.val, hd⟩
  rw [show (⟨d.val, by omega⟩ : Fin 20480) = d from rfl] at k
  rw [← k]
  exact q

end Cert.SsdIdeal.Value

end
-- ==== Proof.Ssd.Block.lean ====
/-
  WHAT THE MIXER'S POINTS READ: each window's block as the real numbers the arguments hold.
-/
module

public import proofs.«01_k».proof.Proof.Ssd.Host

@[expose] public section

set_option maxRecDepth 16384

noncomputable section

open Idealize.ShloMosaic Idealize.ShloMosaic.TcCoe Idealize.SL.Sem
open Idealize.ShloMosaic.Pipeline (Dat)

namespace Cert.SsdIdeal.Value

open Cert.SsdIdeal Cert.SsdIdeal.Gen Cert.SsdIdeal.Tile

theorem points (t : Fin cfg0.N) : t.val < 128 := lt_of_lt_of_eq t.isLt N_0

/-- A point's batch. -/
def bt (t : Fin cfg0.N) : Fin 4 := ⟨t.val / 32, by have := points t; omega⟩
/-- A point's group. -/
def gp (t : Fin cfg0.N) : Fin 8 := ⟨t.val / 4 % 8, Nat.mod_lt _ (by norm_num)⟩

theorem at0 : ∀ t : Fin cfg0.N, win0_0.index t (0 : Fin 3) = t.val / 32 ∧ win0_0.index t (1 : Fin 3) = t.val % 4 ∧ win0_0.index t (2 : Fin 3) = t.val / 4 % 8 :=
  (by decide +kernel : ∀ t : Fin grid0.N, _)

theorem at1 : ∀ t : Fin cfg0.N, win0_1.index t (0 : Fin 3) = t.val / 32 ∧ win0_1.index t (1 : Fin 3) = t.val % 4 ∧ win0_1.index t (2 : Fin 3) = 32 + t.val / 4 % 8 :=
  (by decide +kernel : ∀ t : Fin grid0.N, _)

theorem at2 : ∀ t : Fin cfg0.N, win0_2.index t (0 : Fin 3) = t.val / 32 ∧ win0_2.index t (1 : Fin 3) = t.val % 4 ∧ win0_2.index t (2 : Fin 3) = 40 + t.val / 4 % 8 :=
  (by decide +kernel : ∀ t : Fin grid0.N, _)

theorem at3 : ∀ t : Fin cfg0.N, win0_3.index t (0 : Fin 3) = t.val / 32 ∧ win0_3.index t (1 : Fin 3) = t.val % 4 ∧ win0_3.index t (2 : Fin 3) = t.val / 4 % 8 :=
  (by decide +kernel : ∀ t : Fin grid0.N, _)

theorem at4 : ∀ t : Fin cfg0.N, win0_4.index t (0 : Fin 4) = t.val / 4 % 8 ∧ win0_4.index t (1 : Fin 4) = t.val / 32 ∧ win0_4.index t (2 : Fin 4) = t.val % 4 ∧ win0_4.index t (3 : Fin 4) = 0 :=
  (by decide +kernel : ∀ t : Fin grid0.N, _)

theorem at5 : ∀ t : Fin cfg0.N, win0_5.index t (0 : Fin 4) = t.val / 32 ∧ win0_5.index t (1 : Fin 4) = t.val / 4 % 8 ∧ win0_5.index t (2 : Fin 4) = 0 ∧ win0_5.index t (3 : Fin 4) = t.val % 4 :=
  (by decide +kernel : ∀ t : Fin grid0.N, _)

theorem at6 : ∀ t : Fin cfg0.N, win0_6.index t (0 : Fin 3) = t.val / 4 % 8 ∧ win0_6.index t (1 : Fin 3) = 0 ∧ win0_6.index t (2 : Fin 3) = 0 :=
  (by decide +kernel : ∀ t : Fin grid0.N, _)

theorem at7 : ∀ t : Fin cfg0.N, win0_7.index t (0 : Fin 3) = t.val / 4 % 8 ∧ win0_7.index t (1 : Fin 3) = 0 ∧ win0_7.index t (2 : Fin 3) = 0 :=
  (by decide +kernel : ∀ t : Fin grid0.N, _)

theorem at8 : ∀ t : Fin cfg0.N, win0_8.index t (0 : Fin 3) = t.val / 4 % 8 ∧ win0_8.index t (1 : Fin 3) = 0 ∧ win0_8.index t (2 : Fin 3) = 0 :=
  (by decide +kernel : ∀ t : Fin grid0.N, _)

theorem at9 : ∀ t : Fin cfg0.N, win0_9.index t (0 : Fin 3) = t.val / 4 % 8 ∧ win0_9.index t (1 : Fin 3) = 0 ∧ win0_9.index t (2 : Fin 3) = 0 :=
  (by decide +kernel : ∀ t : Fin grid0.N, _)

theorem at10 : ∀ t : Fin cfg0.N, win0_10.index t (0 : Fin 2) = 0 ∧ win0_10.index t (1 : Fin 2) = t.val / 4 % 8 :=
  (by decide +kernel : ∀ t : Fin grid0.N, _)

theorem at11 : ∀ t : Fin cfg0.N, win0_11.index t (0 : Fin 2) = 0 ∧ win0_11.index t (1 : Fin 2) = t.val / 4 % 8 :=
  (by decide +kernel : ∀ t : Fin grid0.N, _)

theorem at12 : ∀ t : Fin cfg0.N, win0_12.index t (0 : Fin 2) = 0 ∧ win0_12.index t (1 : Fin 2) = 0 :=
  (by decide +kernel : ∀ t : Fin grid0.N, _)

theorem at13 : ∀ t : Fin cfg0.N, win0_13.index t (0 : Fin 2) = 0 ∧ win0_13.index t (1 : Fin 2) = 0 :=
  (by decide +kernel : ∀ t : Fin grid0.N, _)

theorem at14 : ∀ t : Fin cfg0.N, win0_14.index t (0 : Fin 3) = t.val / 32 ∧ win0_14.index t (1 : Fin 3) = t.val % 4 ∧ win0_14.index t (2 : Fin 3) = t.val / 4 % 8 :=
  (by decide +kernel : ∀ t : Fin grid0.N, _)

variable (m : (ℓ : Loc nD τ sig) → Buf (Elt Ideal) ℓ)

theorem arr4 (c : Dev nD) : V m c main_v1 = (colsT (m ((c : Thread nD τ).loc main_arg2)) : FVec Ideal S8x4x2048x8 .f32) := by
  dsimp only [V, List.flatten, hostOps0, hostOps0_1, hostOps0_2, List.append, List.cons_append, List.nil_append]
  after_results
  rfl

theorem arr5 (c : Dev nD) : V m c main_v2 = (rowsT (m ((c : Thread nD τ).loc main_arg2)) : FVec Ideal S4x8x8x2048 .f32) := by
  dsimp only [V, List.flatten, hostOps0, hostOps0_1, hostOps0_2, List.append, List.cons_append, List.nil_append]
  after_results
  rfl

theorem arr6 (c : Dev nD) : V m c main_v8 = (perC (m ((c : Thread nD τ).loc main_arg3)) : FVec Ideal S8x1x8 .f32) := by
  dsimp only [V, List.flatten, hostOps0, hostOps0_1, hostOps0_2, List.append, List.cons_append, List.nil_append]
  after_results
  rfl

theorem arr7 (c : Dev nD) : V m c main_v10 = (perC (m ((c : Thread nD τ).loc main_arg4)) : FVec Ideal S8x1x8 .f32) := by
  dsimp only [V, List.flatten, hostOps0, hostOps0_1, hostOps0_2, List.append, List.cons_append, List.nil_append]
  after_results
  rfl

theorem arr8 (c : Dev nD) : V m c main_v12 = (perR (m ((c : Thread nD τ).loc main_arg3)) : FVec Ideal S8x8x1 .f32) := by
  dsimp only [V, List.flatten, hostOps0, hostOps0_1, hostOps0_2, List.append, List.cons_append, List.nil_append]
  after_results
  rfl

theorem arr9 (c : Dev nD) : V m c main_v14 = (perR (m ((c : Thread nD τ).loc main_arg4)) : FVec Ideal S8x8x1 .f32) := by
  dsimp only [V, List.flatten, hostOps0, hostOps0_1, hostOps0_2, List.append, List.cons_append, List.nil_append]
  after_results
  rfl

theorem arr10 (c : Dev nD) : V m c main_v6 = (spread (m ((c : Thread nD τ).loc main_arg5)) : FVec Ideal S1x4096 .f32) := by
  dsimp only [V, List.flatten, hostOps0, hostOps0_1, hostOps0_2, List.append, List.cons_append, List.nil_append]
  after_results
  rfl

theorem arr11 (c : Dev nD) : V m c main_v16 = (again (m ((c : Thread nD τ).loc main_arg6)) : FVec Ideal S1x4096 .f32) := by
  dsimp only [V, List.flatten, hostOps0, hostOps0_1, hostOps0_2, List.append, List.cons_append, List.nil_append]
  after_results
  rfl

theorem arr12 (c : Dev nD) : V m c main_v18 = (tri : FVec Ideal S256x256 .bf16) := by
  dsimp only [V, List.flatten, hostOps0, hostOps0_1, hostOps0_2, List.append, List.cons_append, List.nil_append]
  after_results
  rfl

theorem arr13 (c : Dev nD) : V m c main_v19 = (trit : FVec Ideal S256x256 .bf16) := by
  dsimp only [V, List.flatten, hostOps0, hostOps0_1, hostOps0_2, List.append, List.cons_append, List.nil_append]
  after_results
  rfl

theorem skip_entry (v : FVec Ideal S1x64 .f32) (k : Fin 64) (j : ℕ) (h : k.val = j) : v (ix2 (0 : Fin 1) k) = skipE v j := by
  subst h; unfold skipE
  congr 2; apply Fin.ext; exact (Nat.mod_eq_of_lt k.isLt).symm

variable {m} {c : Dev nD} (hr : RealArgs m c) (t : Fin cfg0.N)
include hr

theorem blk0 (r l : Fin 512) : (iblk m c 0 t : FVec Ideal S1x512x512 .bf16) (ix3 (0 : Fin 1) r l) = ((Xc (m ((c : Thread nD τ).loc main_arg1)) (bt t) (gp t).val (512 * (t.val % 4)) r.val l.val : ℝ) : EReal) := by
  have e := at0 t
  have ht := points t
  unfold iblk
  rw [View.read_apply]
  show V m c main_arg1 _ = _
  rw [V_main_arg1]
  refine Eq.trans (congrArg _ (?_ : _ = ix3 (bt t) (⟨512 * (t.val % 4) + r.val, by omega⟩ : Fin 2048) (⟨(gp t).val * 512 + l.val, by have := (gp t).isLt; omega⟩ : Fin 6144))) (xR_eq hr.a1 _ _ _)
  funext a
  apply Fin.ext
  match a with
  | ⟨0, _⟩ => show win0_0.index t 0 * 1 + 1 * 0 = t.val / 32; rw [e.1] <;> omega
  | ⟨1, _⟩ => show win0_0.index t 1 * 512 + 1 * r.val = 512 * (t.val % 4) + r.val; rw [e.2.1] <;> omega
  | ⟨2, _⟩ => show win0_0.index t 2 * 512 + 1 * l.val = t.val / 4 % 8 * 512 + l.val; rw [e.2.2] <;> omega

theorem blk1 (r : Fin 512) (l : Fin 128) : (iblk m c 1 t : FVec Ideal S1x512x128 .bf16) (ix3 (0 : Fin 1) r l) = ((Bc (m ((c : Thread nD τ).loc main_arg1)) (bt t) (gp t).val (512 * (t.val % 4)) r.val l.val : ℝ) : EReal) := by
  have e := at1 t
  have ht := points t
  unfold iblk
  rw [View.read_apply]
  show V m c main_arg1 _ = _
  rw [V_main_arg1]
  refine Eq.trans (congrArg _ (?_ : _ = ix3 (bt t) (⟨512 * (t.val % 4) + r.val, by omega⟩ : Fin 2048) (⟨4096 + ((gp t).val * 128 + l.val), by have := (gp t).isLt; omega⟩ : Fin 6144))) (xR_eq hr.a1 _ _ _)
  funext a
  apply Fin.ext
  match a with
  | ⟨0, _⟩ => show win0_1.index t 0 * 1 + 1 * 0 = t.val / 32; rw [e.1] <;> omega
  | ⟨1, _⟩ => show win0_1.index t 1 * 512 + 1 * r.val = 512 * (t.val % 4) + r.val; rw [e.2.1] <;> omega
  | ⟨2, _⟩ => show win0_1.index t 2 * 128 + 1 * l.val = 4096 + (t.val / 4 % 8 * 128 + l.val); rw [e.2.2] <;> omega

theorem blk2 (r : Fin 512) (l : Fin 128) : (iblk m c 2 t : FVec Ideal S1x512x128 .bf16) (ix3 (0 : Fin 1) r l) = ((Cc (m ((c : Thread nD τ).loc main_arg1)) (bt t) (gp t).val (512 * (t.val % 4)) r.val l.val : ℝ) : EReal) := by
  have e := at2 t
  have ht := points t
  unfold iblk
  rw [View.read_apply]
  show V m c main_arg1 _ = _
  rw [V_main_arg1]
  refine Eq.trans (congrArg _ (?_ : _ = ix3 (bt t) (⟨512 * (t.val % 4) + r.val, by omega⟩ : Fin 2048) (⟨5120 + ((gp t).val * 128 + l.val), by have := (gp t).isLt; omega⟩ : Fin 6144))) (xR_eq hr.a1 _ _ _)
  funext a
  apply Fin.ext
  match a with
  | ⟨0, _⟩ => show win0_2.index t 0 * 1 + 1 * 0 = t.val / 32; rw [e.1] <;> omega
  | ⟨1, _⟩ => show win0_2.index t 1 * 512 + 1 * r.val = 512 * (t.val % 4) + r.val; rw [e.2.1] <;> omega
  | ⟨2, _⟩ => show win0_2.index t 2 * 128 + 1 * l.val = 5120 + (t.val / 4 % 8 * 128 + l.val); rw [e.2.2] <;> omega

theorem blk3 (r l : Fin 512) : (iblk m c 3 t : FVec Ideal S1x512x512 .bf16) (ix3 (0 : Fin 1) r l) = ((zR (m ((c : Thread nD τ).loc main_arg0)) (bt t) (512 * (t.val % 4) + r.val) ((gp t).val * 512 + l.val) : ℝ) : EReal) := by
  have e := at3 t
  have ht := points t
  unfold iblk
  rw [View.read_apply]
  show V m c main_arg0 _ = _
  rw [V_main_arg0]
  refine Eq.trans (congrArg _ (?_ : _ = ix3 (bt t) (⟨512 * (t.val % 4) + r.val, by omega⟩ : Fin 2048) (⟨(gp t).val * 512 + l.val, by have := (gp t).isLt; omega⟩ : Fin 20480))) (zR_eq hr.a0 _ _ _ (by have := (gp t).isLt; dsimp only; omega))
  funext a
  apply Fin.ext
  match a with
  | ⟨0, _⟩ => show win0_3.index t 0 * 1 + 1 * 0 = t.val / 32; rw [e.1] <;> omega
  | ⟨1, _⟩ => show win0_3.index t 1 * 512 + 1 * r.val = 512 * (t.val % 4) + r.val; rw [e.2.1] <;> omega
  | ⟨2, _⟩ => show win0_3.index t 2 * 512 + 1 * l.val = t.val / 4 % 8 * 512 + l.val; rw [e.2.2] <;> omega

theorem blk4 (r : Fin 512) (h : Fin 8) : (iblk m c 4 t : FVec Ideal S1x1x512x8 .f32) (ix4 (0 : Fin 1) (0 : Fin 1) r h) = ((dR (m ((c : Thread nD τ).loc main_arg2)) (bt t) (512 * (t.val % 4) + r.val) ((gp t).val * 8 + h.val) : ℝ) : EReal) := by
  have e := at4 t
  have ht := points t
  unfold iblk
  rw [View.read_apply]
  show V m c main_v1 _ = _
  rw [arr4]
  refine Eq.trans (congrArg _ (?_ : _ = ix4 (gp t) (bt t) (⟨512 * (t.val % 4) + r.val, by omega⟩ : Fin 2048) h)) ((colsT_apply _ _ _ _ _).trans (dR_eq hr.a2 _ _ _))
  funext a
  apply Fin.ext
  match a with
  | ⟨0, _⟩ => show win0_4.index t 0 * 1 + 1 * 0 = t.val / 4 % 8; rw [e.1] <;> omega
  | ⟨1, _⟩ => show win0_4.index t 1 * 1 + 1 * 0 = t.val / 32; rw [e.2.1] <;> omega
  | ⟨2, _⟩ => show win0_4.index t 2 * 512 + 1 * r.val = 512 * (t.val % 4) + r.val; rw [e.2.2.1] <;> omega
  | ⟨3, _⟩ => show win0_4.index t 3 * 8 + 1 * h.val = h.val; rw [e.2.2.2] <;> omega

theorem blk5 (r : Fin 512) (h : Fin 8) : (iblk m c 5 t : FVec Ideal S1x1x8x512 .f32) (ix4 (0 : Fin 1) (0 : Fin 1) h r) = ((dR (m ((c : Thread nD τ).loc main_arg2)) (bt t) (512 * (t.val % 4) + r.val) ((gp t).val * 8 + h.val) : ℝ) : EReal) := by
  have e := at5 t
  have ht := points t
  unfold iblk
  rw [View.read_apply]
  show V m c main_v2 _ = _
  rw [arr5]
  refine Eq.trans (congrArg _ (?_ : _ = ix4 (bt t) (gp t) h (⟨512 * (t.val % 4) + r.val, by omega⟩ : Fin 2048))) ((rowsT_apply _ _ _ _ _).trans (dR_eq hr.a2 _ _ _))
  funext a
  apply Fin.ext
  match a with
  | ⟨0, _⟩ => show win0_5.index t 0 * 1 + 1 * 0 = t.val / 32; rw [e.1] <;> omega
  | ⟨1, _⟩ => show win0_5.index t 1 * 1 + 1 * 0 = t.val / 4 % 8; rw [e.2.1] <;> omega
  | ⟨2, _⟩ => show win0_5.index t 2 * 8 + 1 * h.val = h.val; rw [e.2.2.1] <;> omega
  | ⟨3, _⟩ => show win0_5.index t 3 * 512 + 1 * r.val = 512 * (t.val % 4) + r.val; rw [e.2.2.2] <;> omega

theorem blk6 (h : Fin 8) : (iblk m c 6 t : FVec Ideal S1x1x8 .f32) (ix3 (0 : Fin 1) (0 : Fin 1) h) = ((hR (m ((c : Thread nD τ).loc main_arg3)) ((gp t).val * 8 + h.val) : ℝ) : EReal) := by
  have e := at6 t
  have ht := points t
  unfold iblk
  rw [View.read_apply]
  show V m c main_v8 _ = _
  rw [arr6]
  refine Eq.trans (congrArg _ (?_ : _ = ix3 (gp t) (0 : Fin 1) h)) ((perC_apply _ _ _).trans (hR_eq hr.a3 _))
  funext a
  apply Fin.ext
  match a with
  | ⟨0, _⟩ => show win0_6.index t 0 * 1 + 1 * 0 = t.val / 4 % 8; rw [e.1] <;> omega
  | ⟨1, _⟩ => show win0_6.index t 1 * 1 + 1 * 0 = 0; rw [e.2.1] <;> omega
  | ⟨2, _⟩ => show win0_6.index t 2 * 8 + 1 * h.val = h.val; rw [e.2.2] <;> omega

theorem blk7 (h : Fin 8) : (iblk m c 7 t : FVec Ideal S1x1x8 .f32) (ix3 (0 : Fin 1) (0 : Fin 1) h) = ((hR (m ((c : Thread nD τ).loc main_arg4)) ((gp t).val * 8 + h.val) : ℝ) : EReal) := by
  have e := at7 t
  have ht := points t
  unfold iblk
  rw [View.read_apply]
  show V m c main_v10 _ = _
  rw [arr7]
  refine Eq.trans (congrArg _ (?_ : _ = ix3 (gp t) (0 : Fin 1) h)) ((perC_apply _ _ _).trans (hR_eq hr.a4 _))
  funext a
  apply Fin.ext
  match a with
  | ⟨0, _⟩ => show win0_7.index t 0 * 1 + 1 * 0 = t.val / 4 % 8; rw [e.1] <;> omega
  | ⟨1, _⟩ => show win0_7.index t 1 * 1 + 1 * 0 = 0; rw [e.2.1] <;> omega
  | ⟨2, _⟩ => show win0_7.index t 2 * 8 + 1 * h.val = h.val; rw [e.2.2] <;> omega

theorem blk8 (h : Fin 8) : (iblk m c 8 t : FVec Ideal S1x8x1 .f32) (ix3 (0 : Fin 1) h (0 : Fin 1)) = ((hR (m ((c : Thread nD τ).loc main_arg3)) ((gp t).val * 8 + h.val) : ℝ) : EReal) := by
  have e := at8 t
  have ht := points t
  unfold iblk
  rw [View.read_apply]
  show V m c main_v12 _ = _
  rw [arr8]
  refine Eq.trans (congrArg _ (?_ : _ = ix3 (gp t) h (0 : Fin 1))) ((perR_apply _ _ _).trans (hR_eq hr.a3 _))
  funext a
  apply Fin.ext
  match a with
  | ⟨0, _⟩ => show win0_8.index t 0 * 1 + 1 * 0 = t.val / 4 % 8; rw [e.1] <;> omega
  | ⟨1, _⟩ => show win0_8.index t 1 * 8 + 1 * h.val = h.val; rw [e.2.1] <;> omega
  | ⟨2, _⟩ => show win0_8.index t 2 * 1 + 1 * 0 = 0; rw [e.2.2] <;> omega

theorem blk9 (h : Fin 8) : (iblk m c 9 t : FVec Ideal S1x8x1 .f32) (ix3 (0 : Fin 1) h (0 : Fin 1)) = ((hR (m ((c : Thread nD τ).loc main_arg4)) ((gp t).val * 8 + h.val) : ℝ) : EReal) := by
  have e := at9 t
  have ht := points t
  unfold iblk
  rw [View.read_apply]
  show V m c main_v14 _ = _
  rw [arr9]
  refine Eq.trans (congrArg _ (?_ : _ = ix3 (gp t) h (0 : Fin 1))) ((perR_apply _ _ _).trans (hR_eq hr.a4 _))
  funext a
  apply Fin.ext
  match a with
  | ⟨0, _⟩ => show win0_9.index t 0 * 1 + 1 * 0 = t.val / 4 % 8; rw [e.1] <;> omega
  | ⟨1, _⟩ => show win0_9.index t 1 * 8 + 1 * h.val = h.val; rw [e.2.1] <;> omega
  | ⟨2, _⟩ => show win0_9.index t 2 * 1 + 1 * 0 = 0; rw [e.2.2] <;> omega

theorem blk10 (l : Fin 512) : (iblk m c 10 t : FVec Ideal S1x512 .f32) (ix2 (0 : Fin 1) l) = skipE (m ((c : Thread nD τ).loc main_arg5)) ((gp t).val * 8 + l.val / 64) := by
  have e := at10 t
  have ht := points t
  unfold iblk
  rw [View.read_apply]
  show V m c main_v6 _ = _
  rw [arr10]
  refine Eq.trans (congrArg _ (?_ : _ = ix2 (0 : Fin 1) (⟨(gp t).val * 512 + l.val, by have := (gp t).isLt; omega⟩ : Fin 4096))) ((spread_apply _ _).trans (skip_entry _ _ _ (by have := (gp t).isLt; dsimp only; omega)))
  funext a
  apply Fin.ext
  match a with
  | ⟨0, _⟩ => show win0_10.index t 0 * 1 + 1 * 0 = 0; rw [e.1] <;> omega
  | ⟨1, _⟩ => show win0_10.index t 1 * 512 + 1 * l.val = t.val / 4 % 8 * 512 + l.val; rw [e.2] <;> omega

theorem blk11 (l : Fin 512) : (iblk m c 11 t : FVec Ideal S1x512 .f32) (ix2 (0 : Fin 1) l) = ((m ((c : Thread nD τ).loc main_arg6)) : FVec Ideal S1x4096 .f32) (ix2 (0 : Fin 1) (⟨(gp t).val * 512 + l.val, by have := (gp t).isLt; omega⟩ : Fin 4096)) := by
  have e := at11 t
  have ht := points t
  unfold iblk
  rw [View.read_apply]
  show V m c main_v16 _ = _
  rw [arr11]
  refine Eq.trans (congrArg _ (?_ : _ = ix2 (0 : Fin 1) (⟨(gp t).val * 512 + l.val, by have := (gp t).isLt; omega⟩ : Fin 4096))) (again_apply _ _)
  funext a
  apply Fin.ext
  match a with
  | ⟨0, _⟩ => show win0_11.index t 0 * 1 + 1 * 0 = 0; rw [e.1] <;> omega
  | ⟨1, _⟩ => show win0_11.index t 1 * 512 + 1 * l.val = t.val / 4 % 8 * 512 + l.val; rw [e.2] <;> omega

theorem blk12 (i j : Fin 256) : (iblk m c 12 t : FVec Ideal S256x256 .bf16) (ix2 i j) = ((if j.val ≤ i.val then 1 else 0 : ℝ) : EReal) := by
  have e := at12 t
  have ht := points t
  unfold iblk
  rw [View.read_apply]
  show V m c main_v18 _ = _
  rw [arr12]
  refine Eq.trans (congrArg _ (?_ : _ = ix2 i j)) (tri_real _ _)
  funext a
  apply Fin.ext
  match a with
  | ⟨0, _⟩ => show win0_12.index t 0 * 256 + 1 * i.val = i.val; rw [e.1] <;> omega
  | ⟨1, _⟩ => show win0_12.index t 1 * 256 + 1 * j.val = j.val; rw [e.2] <;> omega

theorem blk13 (i j : Fin 256) : (iblk m c 13 t : FVec Ideal S256x256 .bf16) (ix2 i j) = ((if i.val ≤ j.val then 1 else 0 : ℝ) : EReal) := by
  have e := at13 t
  have ht := points t
  unfold iblk
  rw [View.read_apply]
  show V m c main_v19 _ = _
  rw [arr13]
  refine Eq.trans (congrArg _ (?_ : _ = ix2 i j)) (trit_real _ _)
  funext a
  apply Fin.ext
  match a with
  | ⟨0, _⟩ => show win0_13.index t 0 * 256 + 1 * i.val = i.val; rw [e.1] <;> omega
  | ⟨1, _⟩ => show win0_13.index t 1 * 256 + 1 * j.val = j.val; rw [e.2] <;> omega

end Cert.SsdIdeal.Value

end
-- ==== Proof.Ssd.RunA.lean ====
/-
  WHAT THE BODY'S RUN STORES, in the case where the state starts: the chunks' functions of what is loaded.
-/
module

public import proofs.«01_k».proof.Proof.Ssd.Chunk

@[expose] public section

set_option maxRecDepth 16384

noncomputable section

namespace Cert.SsdIdeal.Tile.CaseA

open Cert.SsdIdeal Cert.SsdIdeal.Gen Cert.SsdIdeal.Gen.kernelRun0_A.sl Cert.SsdIdeal.Tile Idealize.ShloMosaic

variable {F : FTy → Type} [FloatOps F] [Named F]

section

variable (c : Dev nD) (i : grid0.Coords)
  (a3 : Memref sig .tc .vmem S1x512x512 .bf16) (h3 : a3.IsWhole)
  (a4 : Memref sig .tc .vmem S1x512x128 .bf16) (h4 : a4.IsWhole)
  (a5 : Memref sig .tc .vmem S1x512x128 .bf16) (h5 : a5.IsWhole)
  (a6 : Memref sig .tc .vmem S1x512x512 .bf16) (h6 : a6.IsWhole)
  (a7 : Memref sig .tc .vmem S1x1x512x8 .f32) (h7 : a7.IsWhole)
  (a8 : Memref sig .tc .vmem S1x1x8x512 .f32) (h8 : a8.IsWhole)
  (a9 : Memref sig .tc .vmem S1x1x8 .f32) (h9 : a9.IsWhole)
  (a10 : Memref sig .tc .vmem S1x1x8 .f32) (h10 : a10.IsWhole)
  (a11 : Memref sig .tc .vmem S1x8x1 .f32) (h11 : a11.IsWhole)
  (a12 : Memref sig .tc .vmem S1x8x1 .f32) (h12 : a12.IsWhole)
  (a13 : Memref sig .tc .vmem S1x512 .f32) (h13 : a13.IsWhole)
  (a14 : Memref sig .tc .vmem S1x512 .f32) (h14 : a14.IsWhole)
  (a15 : Memref sig .tc .vmem S256x256 .bf16) (h15 : a15.IsWhole)
  (a16 : Memref sig .tc .vmem S256x256 .bf16) (h16 : a16.IsWhole)
  (a17 : Memref sig .tc .vmem S1x512x512 .bf16) (h17 : a17.IsWhole)
  (a18 : Memref sig .tc .vmem S128x512 .f32) (h18 : a18.IsWhole)
  (a19 : Memref sig .tc .vmem S2x256x512 .bf16) (h19 : a19.IsWhole)
  (a20 : Memref sig .tc .vmem S2x256x512 .f32) (h20 : a20.IsWhole)
  (hc0 : cond0_0 i)
  (x0 : Vec F S1x512x512 .bf16) (x1 : Vec F S1x512x128 .bf16) (x2 : Vec F S1x512x128 .bf16) (x3 : Vec F S1x512x512 .bf16) (x4 : Vec F S1x1x512x8 .f32) (x5 : Vec F S1x1x8x512 .f32) (x6 : Vec F S1x1x8 .f32) (x7 : Vec F S1x1x8 .f32) (x8 : Vec F S1x8x1 .f32) (x9 : Vec F S1x8x1 .f32) (x10 : Vec F S1x512 .f32) (x11 : Vec F S1x512 .f32) (x12 : Vec F S256x256 .bf16) (x13 : Vec F S256x256 .bf16)

theorem v117_eq : (v117 c a18) = (k0_pay2 : FVec F S128x512 .f32) := by
  exact (load_all a18.view _ _).trans (canon_all _ _ _)

theorem v563_eq : (v563 c a18) = boxS 0 (by decide) (k0_pay2 : FVec F S128x512 .f32) := by
  exact (load_box a18.view 0 (by decide) _ _).trans (congrArg (boxS 0 _) (canon_all _ _ _))

theorem v578_eq : (v578 c a3 h3 a4 h4 a7 h7 a9 h9 a10 h10 a15 h15 a18 a19 x0 x1 x4 x6 x7 x12) = boxS 128 (by decide) (k0_pay2 : FVec F S128x512 .f32) := by
  exact (load_box a18.view 128 (by decide) _ _).trans ((boxS_pass 128 0 (by decide) _ _ _ (by decide)).trans (congrArg (boxS 128 _) (canon_all _ _ _)))

theorem v593_eq : (v593 c a3 h3 a4 h4 a7 h7 a9 h9 a10 h10 a15 h15 a18 a19 x0 x1 x4 x6 x7 x12) = boxS 256 (by decide) (k0_pay2 : FVec F S128x512 .f32) := by
  exact (load_box a18.view 256 (by decide) _ _).trans ((boxS_pass 256 128 (by decide) _ _ _ (by decide)).trans ((boxS_pass 256 0 (by decide) _ _ _ (by decide)).trans (congrArg (boxS 256 _) (canon_all _ _ _))))

theorem v608_eq : (v608 c a3 h3 a4 h4 a7 h7 a9 h9 a10 h10 a15 h15 a18 a19 x0 x1 x4 x6 x7 x12) = boxS 384 (by decide) (k0_pay2 : FVec F S128x512 .f32) := by
  exact (load_box a18.view 384 (by decide) _ _).trans ((boxS_pass 384 256 (by decide) _ _ _ (by decide)).trans ((boxS_pass 384 128 (by decide) _ _ _ (by decide)).trans ((boxS_pass 384 0 (by decide) _ _ _ (by decide)).trans (congrArg (boxS 384 _) (canon_all _ _ _)))))

theorem v553_eq : (v553 c a3 h3 a7 h7 a9 h9 a10 h10 a15 h15 a19 x0 x4 x6 x7 x12) = xdeAll (ldX h3 x0 0 0) (ldX h3 x0 0 128) (ldX h3 x0 0 256) (ldX h3 x0 0 384) (chG (ldT h7 x4 0) (ldC h9 x6) (ldC h10 x7) (ldO h15 x12)) := by
  exact load_X a19.view 0 _ _ _ _ _ _ _ _ _ _

theorem v1195_eq : (v1195 c a3 h3 a7 h7 a9 h9 a10 h10 a15 h15 a19 x0 x4 x6 x7 x12) = xdeAll (ldX h3 x0 256 0) (ldX h3 x0 256 128) (ldX h3 x0 256 256) (ldX h3 x0 256 384) (chG (ldT h7 x4 256) (ldC h9 x6) (ldC h10 x7) (ldO h15 x12)) := by
  exact load_X a19.view 1 _ _ _ _ _ _ _ _ _ _

theorem state1 : View.canon (HS0_5 c a3 h3 a4 h4 a7 h7 a9 h9 a10 h10 a15 h15 a18 a19 x0 x1 x4 x6 x7 x12) = (stC (ldX h3 x0 0 0) (ldX h3 x0 0 128) (ldX h3 x0 0 256) (ldX h3 x0 0 384) (ldB h4 x1 0) (ldT h7 x4 0) (ldC h9 x6) (ldC h10 x7) (ldO h15 x12) (k0_pay2 : FVec F S128x512 .f32)) := by
  have h : View.canon (HS0_5 c a3 h3 a4 h4 a7 h7 a9 h9 a10 h10 a15 h15 a18 a19 x0 x1 x4 x6 x7 x12) = stAll (v563 c a18) (v578 c a3 h3 a4 h4 a7 h7 a9 h9 a10 h10 a15 h15 a18 a19 x0 x1 x4 x6 x7 x12) (v593 c a3 h3 a4 h4 a7 h7 a9 h9 a10 h10 a15 h15 a18 a19 x0 x1 x4 x6 x7 x12) (v608 c a3 h3 a4 h4 a7 h7 a9 h9 a10 h10 a15 h15 a18 a19 x0 x1 x4 x6 x7 x12) (bx (ldB h4 x1 0) (v553 c a3 h3 a7 h7 a9 h9 a10 h10 a15 h15 a19 x0 x4 x6 x7 x12)) (chD (ldT h7 x4 0) (ldC h9 x6) (ldC h10 x7) (ldO h15 x12)) := canon_S _ _ _ _ _ _ _ _ _
  rw [h, v563_eq, v578_eq, v593_eq, v608_eq, v553_eq]
  rfl

theorem v759_eq : (v759 c a3 h3 a4 h4 a7 h7 a9 h9 a10 h10 a15 h15 a18 a19 x0 x1 x4 x6 x7 x12) = (stC (ldX h3 x0 0 0) (ldX h3 x0 0 128) (ldX h3 x0 0 256) (ldX h3 x0 0 384) (ldB h4 x1 0) (ldT h7 x4 0) (ldC h9 x6) (ldC h10 x7) (ldO h15 x12) (k0_pay2 : FVec F S128x512 .f32)) := by
  exact (load_all a18.view _ _).trans (state1 _ _ _ _ _ _ _ _ _ _ _ _ _ _ _ _ _ _ _ _ _)

theorem v1205_eq : (v1205 c a3 h3 a4 h4 a7 h7 a9 h9 a10 h10 a15 h15 a18 a19 x0 x1 x4 x6 x7 x12) = boxS 0 (by decide) (stC (ldX h3 x0 0 0) (ldX h3 x0 0 128) (ldX h3 x0 0 256) (ldX h3 x0 0 384) (ldB h4 x1 0) (ldT h7 x4 0) (ldC h9 x6) (ldC h10 x7) (ldO h15 x12) (k0_pay2 : FVec F S128x512 .f32)) := by
  exact (load_box a18.view 0 (by decide) _ _).trans (congrArg (boxS 0 _) (state1 _ _ _ _ _ _ _ _ _ _ _ _ _ _ _ _ _ _ _ _ _))

theorem v1220_eq : (v1220 c a3 h3 a4 h4 a7 h7 a9 h9 a10 h10 a15 h15 a18 a19 x0 x1 x4 x6 x7 x12) = boxS 128 (by decide) (stC (ldX h3 x0 0 0) (ldX h3 x0 0 128) (ldX h3 x0 0 256) (ldX h3 x0 0 384) (ldB h4 x1 0) (ldT h7 x4 0) (ldC h9 x6) (ldC h10 x7) (ldO h15 x12) (k0_pay2 : FVec F S128x512 .f32)) := by
  exact (load_box a18.view 128 (by decide) _ _).trans ((boxS_pass 128 0 (by decide) _ _ _ (by decide)).trans (congrArg (boxS 128 _) (state1 _ _ _ _ _ _ _ _ _ _ _ _ _ _ _ _ _ _ _ _ _)))

theorem v1235_eq : (v1235 c a3 h3 a4 h4 a7 h7 a9 h9 a10 h10 a15 h15 a18 a19 x0 x1 x4 x6 x7 x12) = boxS 256 (by decide) (stC (ldX h3 x0 0 0) (ldX h3 x0 0 128) (ldX h3 x0 0 256) (ldX h3 x0 0 384) (ldB h4 x1 0) (ldT h7 x4 0) (ldC h9 x6) (ldC h10 x7) (ldO h15 x12) (k0_pay2 : FVec F S128x512 .f32)) := by
  exact (load_box a18.view 256 (by decide) _ _).trans ((boxS_pass 256 128 (by decide) _ _ _ (by decide)).trans ((boxS_pass 256 0 (by decide) _ _ _ (by decide)).trans (congrArg (boxS 256 _) (state1 _ _ _ _ _ _ _ _ _ _ _ _ _ _ _ _ _ _ _ _ _))))

theorem v1250_eq : (v1250 c a3 h3 a4 h4 a7 h7 a9 h9 a10 h10 a15 h15 a18 a19 x0 x1 x4 x6 x7 x12) = boxS 384 (by decide) (stC (ldX h3 x0 0 0) (ldX h3 x0 0 128) (ldX h3 x0 0 256) (ldX h3 x0 0 384) (ldB h4 x1 0) (ldT h7 x4 0) (ldC h9 x6) (ldC h10 x7) (ldO h15 x12) (k0_pay2 : FVec F S128x512 .f32)) := by
  exact (load_box a18.view 384 (by decide) _ _).trans ((boxS_pass 384 256 (by decide) _ _ _ (by decide)).trans ((boxS_pass 384 128 (by decide) _ _ _ (by decide)).trans ((boxS_pass 384 0 (by decide) _ _ _ (by decide)).trans (congrArg (boxS 384 _) (state1 _ _ _ _ _ _ _ _ _ _ _ _ _ _ _ _ _ _ _ _ _)))))

theorem state2 : View.canon (kernelRun0_A c i a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.1 = (stC (ldX h3 x0 256 0) (ldX h3 x0 256 128) (ldX h3 x0 256 256) (ldX h3 x0 256 384) (ldB h4 x1 256) (ldT h7 x4 256) (ldC h9 x6) (ldC h10 x7) (ldO h15 x12) (stC (ldX h3 x0 0 0) (ldX h3 x0 0 128) (ldX h3 x0 0 256) (ldX h3 x0 0 384) (ldB h4 x1 0) (ldT h7 x4 0) (ldC h9 x6) (ldC h10 x7) (ldO h15 x12) (k0_pay2 : FVec F S128x512 .f32))) := by
  have h : View.canon (kernelRun0_A c i a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.1 = stAll (v1205 c a3 h3 a4 h4 a7 h7 a9 h9 a10 h10 a15 h15 a18 a19 x0 x1 x4 x6 x7 x12) (v1220 c a3 h3 a4 h4 a7 h7 a9 h9 a10 h10 a15 h15 a18 a19 x0 x1 x4 x6 x7 x12) (v1235 c a3 h3 a4 h4 a7 h7 a9 h9 a10 h10 a15 h15 a18 a19 x0 x1 x4 x6 x7 x12) (v1250 c a3 h3 a4 h4 a7 h7 a9 h9 a10 h10 a15 h15 a18 a19 x0 x1 x4 x6 x7 x12) (bx (ldB h4 x1 256) (v1195 c a3 h3 a7 h7 a9 h9 a10 h10 a15 h15 a19 x0 x4 x6 x7 x12)) (chD (ldT h7 x4 256) (ldC h9 x6) (ldC h10 x7) (ldO h15 x12)) := canon_S _ _ _ _ _ _ _ _ _
  rw [h, v1205_eq, v1220_eq, v1235_eq, v1250_eq, v1195_eq]
  rfl

theorem v616_eq : (v616 c a3 h3 a4 h4 a5 h5 a7 h7 a8 h8 a9 h9 a10 h10 a11 h11 a12 h12 a13 h13 a15 h15 a16 h16 a18 a20 x0 x1 x2 x4 x5 x6 x7 x8 x9 x10 x12 x13) = yAll (cb (ldB h4 x1 0) (ldB h5 x2 0)) (ldX h3 x0 0 0) (ldX h3 x0 0 128) (ldX h3 x0 0 256) (ldX h3 x0 0 384) (chA (ldT h7 x4 0) (ldC h9 x6) (ldC h10 x7) (ldO h15 x12)) (chR (ldR h8 x5 0) (ldC1 h11 x8) (ldC1 h12 x9) (ldO h16 x13)) (cs (ldB h5 x2 0) (k0_pay2 : FVec F S128x512 .f32)) (ldD h13 x10 0) (ldD h13 x10 128) (ldD h13 x10 256) (ldD h13 x10 384) := by
  have h : (v616 c a3 h3 a4 h4 a5 h5 a7 h7 a8 h8 a9 h9 a10 h10 a11 h11 a12 h12 a13 h13 a15 h15 a16 h16 a18 a20 x0 x1 x2 x4 x5 x6 x7 x8 x9 x10 x12 x13) = yAll (cb (ldB h4 x1 0) (ldB h5 x2 0)) (ldX h3 x0 0 0) (ldX h3 x0 0 128) (ldX h3 x0 0 256) (ldX h3 x0 0 384) (chA (ldT h7 x4 0) (ldC h9 x6) (ldC h10 x7) (ldO h15 x12)) (chR (ldR h8 x5 0) (ldC1 h11 x8) (ldC1 h12 x9) (ldO h16 x13)) (cs (ldB h5 x2 0) (v117 c a18)) (ldD h13 x10 0) (ldD h13 x10 128) (ldD h13 x10 256) (ldD h13 x10 384) := load_Y a20.view 0 _ _ _ _ _ _ _ _ _ _ _ _ _ _ _ _ _ _
  rw [h, v117_eq]

theorem v1258_eq : (v1258 c a3 h3 a4 h4 a5 h5 a7 h7 a8 h8 a9 h9 a10 h10 a11 h11 a12 h12 a13 h13 a15 h15 a16 h16 a18 a19 a20 x0 x1 x2 x4 x5 x6 x7 x8 x9 x10 x12 x13) = yAll (cb (ldB h4 x1 256) (ldB h5 x2 256)) (ldX h3 x0 256 0) (ldX h3 x0 256 128) (ldX h3 x0 256 256) (ldX h3 x0 256 384) (chA (ldT h7 x4 256) (ldC h9 x6) (ldC h10 x7) (ldO h15 x12)) (chR (ldR h8 x5 256) (ldC1 h11 x8) (ldC1 h12 x9) (ldO h16 x13)) (cs (ldB h5 x2 256) (stC (ldX h3 x0 0 0) (ldX h3 x0 0 128) (ldX h3 x0 0 256) (ldX h3 x0 0 384) (ldB h4 x1 0) (ldT h7 x4 0) (ldC h9 x6) (ldC h10 x7) (ldO h15 x12) (k0_pay2 : FVec F S128x512 .f32))) (ldD h13 x10 0) (ldD h13 x10 128) (ldD h13 x10 256) (ldD h13 x10 384) := by
  have h : (v1258 c a3 h3 a4 h4 a5 h5 a7 h7 a8 h8 a9 h9 a10 h10 a11 h11 a12 h12 a13 h13 a15 h15 a16 h16 a18 a19 a20 x0 x1 x2 x4 x5 x6 x7 x8 x9 x10 x12 x13) = yAll (cb (ldB h4 x1 256) (ldB h5 x2 256)) (ldX h3 x0 256 0) (ldX h3 x0 256 128) (ldX h3 x0 256 256) (ldX h3 x0 256 384) (chA (ldT h7 x4 256) (ldC h9 x6) (ldC h10 x7) (ldO h15 x12)) (chR (ldR h8 x5 256) (ldC1 h11 x8) (ldC1 h12 x9) (ldO h16 x13)) (cs (ldB h5 x2 256) (v759 c a3 h3 a4 h4 a7 h7 a9 h9 a10 h10 a15 h15 a18 a19 x0 x1 x4 x6 x7 x12)) (ldD h13 x10 0) (ldD h13 x10 128) (ldD h13 x10 256) (ldD h13 x10 384) := load_Y a20.view 1 _ _ _ _ _ _ _ _ _ _ _ _ _ _ _ _ _ _
  rw [h, v759_eq]

theorem stores : (kernelRun0_A c i a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).1 = [(⟨Rect.unit (s := S1x512x512) ![0, 256, 0] S1x256x512.size inb_S1x512x512_S1x256x512_0_256_0, (outC (ldX h3 x0 256 0) (ldX h3 x0 256 128) (ldX h3 x0 256 256) (ldX h3 x0 256 384) (ldB h4 x1 256) (ldB h5 x2 256) (ldT h7 x4 256) (ldC h9 x6) (ldC h10 x7) (ldR h8 x5 256) (ldC1 h11 x8) (ldC1 h12 x9) (ldO h15 x12) (ldO h16 x13) (ldD h13 x10 0) (ldD h13 x10 128) (ldD h13 x10 256) (ldD h13 x10 384) (ldZ h6 x3 256) (ldW h14 x11) (stC (ldX h3 x0 0 0) (ldX h3 x0 0 128) (ldX h3 x0 0 256) (ldX h3 x0 0 384) (ldB h4 x1 0) (ldT h7 x4 0) (ldC h9 x6) (ldC h10 x7) (ldO h15 x12) (k0_pay2 : FVec F S128x512 .f32)))⟩ : View.Piece (Elt F) S1x512x512 .bf16), (⟨Rect.unit (s := S1x512x512) ![0, 0, 0] S1x256x512.size inb_S1x512x512_S1x256x512_0_0_0, (outC (ldX h3 x0 0 0) (ldX h3 x0 0 128) (ldX h3 x0 0 256) (ldX h3 x0 0 384) (ldB h4 x1 0) (ldB h5 x2 0) (ldT h7 x4 0) (ldC h9 x6) (ldC h10 x7) (ldR h8 x5 0) (ldC1 h11 x8) (ldC1 h12 x9) (ldO h15 x12) (ldO h16 x13) (ldD h13 x10 0) (ldD h13 x10 128) (ldD h13 x10 256) (ldD h13 x10 384) (ldZ h6 x3 0) (ldW h14 x11) (k0_pay2 : FVec F S128x512 .f32))⟩ : View.Piece (Elt F) S1x512x512 .bf16)] := by
  have h : (kernelRun0_A c i a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).1 = [(⟨Rect.unit (s := S1x512x512) ![0, 256, 0] S1x256x512.size inb_S1x512x512_S1x256x512_0_256_0, (normed (gated (v1258 c a3 h3 a4 h4 a5 h5 a7 h7 a8 h8 a9 h9 a10 h10 a11 h11 a12 h12 a13 h13 a15 h15 a16 h16 a18 a19 a20 x0 x1 x2 x4 x5 x6 x7 x8 x9 x10 x12 x13) (ldZ h6 x3 256)) (ldW h14 x11))⟩ : View.Piece (Elt F) S1x512x512 .bf16), (⟨Rect.unit (s := S1x512x512) ![0, 0, 0] S1x256x512.size inb_S1x512x512_S1x256x512_0_0_0, (normed (gated (v616 c a3 h3 a4 h4 a5 h5 a7 h7 a8 h8 a9 h9 a10 h10 a11 h11 a12 h12 a13 h13 a15 h15 a16 h16 a18 a20 x0 x1 x2 x4 x5 x6 x7 x8 x9 x10 x12 x13) (ldZ h6 x3 0)) (ldW h14 x11))⟩ : View.Piece (Elt F) S1x512x512 .bf16)] := rfl
  rw [h, v616_eq, v1258_eq]
  rfl

end

end Cert.SsdIdeal.Tile.CaseA

end
-- ==== Proof.Ssd.RunB.lean ====
/-
  WHAT THE BODY'S RUN STORES, in the case where the state goes on: the chunks' functions of what is loaded.
-/
module

public import proofs.«01_k».proof.Proof.Ssd.Chunk

@[expose] public section

set_option maxRecDepth 16384

noncomputable section

namespace Cert.SsdIdeal.Tile.CaseB

open Cert.SsdIdeal Cert.SsdIdeal.Gen Cert.SsdIdeal.Gen.kernelRun0_B.sl Cert.SsdIdeal.Tile Idealize.ShloMosaic

variable {F : FTy → Type} [FloatOps F] [Named F]

section

variable (c : Dev nD) (i : grid0.Coords)
  (a3 : Memref sig .tc .vmem S1x512x512 .bf16) (h3 : a3.IsWhole)
  (a4 : Memref sig .tc .vmem S1x512x128 .bf16) (h4 : a4.IsWhole)
  (a5 : Memref sig .tc .vmem S1x512x128 .bf16) (h5 : a5.IsWhole)
  (a6 : Memref sig .tc .vmem S1x512x512 .bf16) (h6 : a6.IsWhole)
  (a7 : Memref sig .tc .vmem S1x1x512x8 .f32) (h7 : a7.IsWhole)
  (a8 : Memref sig .tc .vmem S1x1x8x512 .f32) (h8 : a8.IsWhole)
  (a9 : Memref sig .tc .vmem S1x1x8 .f32) (h9 : a9.IsWhole)
  (a10 : Memref sig .tc .vmem S1x1x8 .f32) (h10 : a10.IsWhole)
  (a11 : Memref sig .tc .vmem S1x8x1 .f32) (h11 : a11.IsWhole)
  (a12 : Memref sig .tc .vmem S1x8x1 .f32) (h12 : a12.IsWhole)
  (a13 : Memref sig .tc .vmem S1x512 .f32) (h13 : a13.IsWhole)
  (a14 : Memref sig .tc .vmem S1x512 .f32) (h14 : a14.IsWhole)
  (a15 : Memref sig .tc .vmem S256x256 .bf16) (h15 : a15.IsWhole)
  (a16 : Memref sig .tc .vmem S256x256 .bf16) (h16 : a16.IsWhole)
  (a17 : Memref sig .tc .vmem S1x512x512 .bf16) (h17 : a17.IsWhole)
  (a18 : Memref sig .tc .vmem S128x512 .f32) (h18 : a18.IsWhole)
  (a19 : Memref sig .tc .vmem S2x256x512 .bf16) (h19 : a19.IsWhole)
  (a20 : Memref sig .tc .vmem S2x256x512 .f32) (h20 : a20.IsWhole)
  (hc0 : ¬cond0_0 i)
  (x0 : Vec F S1x512x512 .bf16) (x1 : Vec F S1x512x128 .bf16) (x2 : Vec F S1x512x128 .bf16) (x3 : Vec F S1x512x512 .bf16) (x4 : Vec F S1x1x512x8 .f32) (x5 : Vec F S1x1x8x512 .f32) (x6 : Vec F S1x1x8 .f32) (x7 : Vec F S1x1x8 .f32) (x8 : Vec F S1x8x1 .f32) (x9 : Vec F S1x8x1 .f32) (x10 : Vec F S1x512 .f32) (x11 : Vec F S1x512 .f32) (x12 : Vec F S256x256 .bf16) (x13 : Vec F S256x256 .bf16) (xs0 : Vec F S128x512 .f32)

theorem v578_eq : (v578 c a18 h18 xs0) = boxS 128 (by decide) xs0 := by
  exact (read_pick a18 h18 xs0 _ _ _).trans (pick_box 128 _ xs0 _)

theorem v593_eq : (v593 c a18 h18 xs0) = boxS 256 (by decide) xs0 := by
  exact (read_pick a18 h18 xs0 _ _ _).trans (pick_box 256 _ xs0 _)

theorem v608_eq : (v608 c a18 h18 xs0) = boxS 384 (by decide) xs0 := by
  exact (read_pick a18 h18 xs0 _ _ _).trans (pick_box 384 _ xs0 _)

theorem v563_eq : (ldS1 h18 xs0) = boxS 0 (by decide) xs0 := by
  exact (read_pick a18 h18 xs0 _ _ _).trans (pick_box 0 _ xs0 _)

theorem v117_eq : (ldS h18 xs0) = xs0 := by
  exact (read_pick a18 h18 xs0 _ _ _).trans (pick_all xs0 _)

theorem v553_eq : (v553 c a3 h3 a7 h7 a9 h9 a10 h10 a15 h15 a19 x0 x4 x6 x7 x12) = xdeAll (ldX h3 x0 0 0) (ldX h3 x0 0 128) (ldX h3 x0 0 256) (ldX h3 x0 0 384) (chG (ldT h7 x4 0) (ldC h9 x6) (ldC h10 x7) (ldO h15 x12)) := by
  exact load_X a19.view 0 _ _ _ _ _ _ _ _ _ _

theorem v1195_eq : (v1195 c a3 h3 a7 h7 a9 h9 a10 h10 a15 h15 a19 x0 x4 x6 x7 x12) = xdeAll (ldX h3 x0 256 0) (ldX h3 x0 256 128) (ldX h3 x0 256 256) (ldX h3 x0 256 384) (chG (ldT h7 x4 256) (ldC h9 x6) (ldC h10 x7) (ldO h15 x12)) := by
  exact load_X a19.view 1 _ _ _ _ _ _ _ _ _ _

theorem state1 : View.canon (HS0_4 c a3 h3 a4 h4 a7 h7 a9 h9 a10 h10 a15 h15 a18 h18 a19 x0 x1 x4 x6 x7 x12 xs0) = (stC (ldX h3 x0 0 0) (ldX h3 x0 0 128) (ldX h3 x0 0 256) (ldX h3 x0 0 384) (ldB h4 x1 0) (ldT h7 x4 0) (ldC h9 x6) (ldC h10 x7) (ldO h15 x12) xs0) := by
  have h : View.canon (HS0_4 c a3 h3 a4 h4 a7 h7 a9 h9 a10 h10 a15 h15 a18 h18 a19 x0 x1 x4 x6 x7 x12 xs0) = stAll (ldS1 h18 xs0) (v578 c a18 h18 xs0) (v593 c a18 h18 xs0) (v608 c a18 h18 xs0) (bx (ldB h4 x1 0) (v553 c a3 h3 a7 h7 a9 h9 a10 h10 a15 h15 a19 x0 x4 x6 x7 x12)) (chD (ldT h7 x4 0) (ldC h9 x6) (ldC h10 x7) (ldO h15 x12)) := canon_S _ _ _ _ _ _ _ _ _
  rw [h, v563_eq, v578_eq, v593_eq, v608_eq, v553_eq]
  rfl

theorem v759_eq : (v759 c a3 h3 a4 h4 a7 h7 a9 h9 a10 h10 a15 h15 a18 h18 a19 x0 x1 x4 x6 x7 x12 xs0) = (stC (ldX h3 x0 0 0) (ldX h3 x0 0 128) (ldX h3 x0 0 256) (ldX h3 x0 0 384) (ldB h4 x1 0) (ldT h7 x4 0) (ldC h9 x6) (ldC h10 x7) (ldO h15 x12) xs0) := by
  exact (load_all a18.view _ _).trans (state1 _ _ _ _ _ _ _ _ _ _ _ _ _ _ _ _ _ _ _ _ _ _ _)

theorem v1205_eq : (v1205 c a3 h3 a4 h4 a7 h7 a9 h9 a10 h10 a15 h15 a18 h18 a19 x0 x1 x4 x6 x7 x12 xs0) = boxS 0 (by decide) (stC (ldX h3 x0 0 0) (ldX h3 x0 0 128) (ldX h3 x0 0 256) (ldX h3 x0 0 384) (ldB h4 x1 0) (ldT h7 x4 0) (ldC h9 x6) (ldC h10 x7) (ldO h15 x12) xs0) := by
  exact (load_box a18.view 0 (by decide) _ _).trans (congrArg (boxS 0 _) (state1 _ _ _ _ _ _ _ _ _ _ _ _ _ _ _ _ _ _ _ _ _ _ _))

theorem v1220_eq : (v1220 c a3 h3 a4 h4 a7 h7 a9 h9 a10 h10 a15 h15 a18 h18 a19 x0 x1 x4 x6 x7 x12 xs0) = boxS 128 (by decide) (stC (ldX h3 x0 0 0) (ldX h3 x0 0 128) (ldX h3 x0 0 256) (ldX h3 x0 0 384) (ldB h4 x1 0) (ldT h7 x4 0) (ldC h9 x6) (ldC h10 x7) (ldO h15 x12) xs0) := by
  exact (load_box a18.view 128 (by decide) _ _).trans ((boxS_pass 128 0 (by decide) _ _ _ (by decide)).trans (congrArg (boxS 128 _) (state1 _ _ _ _ _ _ _ _ _ _ _ _ _ _ _ _ _ _ _ _ _ _ _)))

theorem v1235_eq : (v1235 c a3 h3 a4 h4 a7 h7 a9 h9 a10 h10 a15 h15 a18 h18 a19 x0 x1 x4 x6 x7 x12 xs0) = boxS 256 (by decide) (stC (ldX h3 x0 0 0) (ldX h3 x0 0 128) (ldX h3 x0 0 256) (ldX h3 x0 0 384) (ldB h4 x1 0) (ldT h7 x4 0) (ldC h9 x6) (ldC h10 x7) (ldO h15 x12) xs0) := by
  exact (load_box a18.view 256 (by decide) _ _).trans ((boxS_pass 256 128 (by decide) _ _ _ (by decide)).trans ((boxS_pass 256 0 (by decide) _ _ _ (by decide)).trans (congrArg (boxS 256 _) (state1 _ _ _ _ _ _ _ _ _ _ _ _ _ _ _ _ _ _ _ _ _ _ _))))

theorem v1250_eq : (v1250 c a3 h3 a4 h4 a7 h7 a9 h9 a10 h10 a15 h15 a18 h18 a19 x0 x1 x4 x6 x7 x12 xs0) = boxS 384 (by decide) (stC (ldX h3 x0 0 0) (ldX h3 x0 0 128) (ldX h3 x0 0 256) (ldX h3 x0 0 384) (ldB h4 x1 0) (ldT h7 x4 0) (ldC h9 x6) (ldC h10 x7) (ldO h15 x12) xs0) := by
  exact (load_box a18.view 384 (by decide) _ _).trans ((boxS_pass 384 256 (by decide) _ _ _ (by decide)).trans ((boxS_pass 384 128 (by decide) _ _ _ (by decide)).trans ((boxS_pass 384 0 (by decide) _ _ _ (by decide)).trans (congrArg (boxS 384 _) (state1 _ _ _ _ _ _ _ _ _ _ _ _ _ _ _ _ _ _ _ _ _ _ _)))))

theorem state2 : View.canon (kernelRun0_B c i a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xs0).2.1 = (stC (ldX h3 x0 256 0) (ldX h3 x0 256 128) (ldX h3 x0 256 256) (ldX h3 x0 256 384) (ldB h4 x1 256) (ldT h7 x4 256) (ldC h9 x6) (ldC h10 x7) (ldO h15 x12) (stC (ldX h3 x0 0 0) (ldX h3 x0 0 128) (ldX h3 x0 0 256) (ldX h3 x0 0 384) (ldB h4 x1 0) (ldT h7 x4 0) (ldC h9 x6) (ldC h10 x7) (ldO h15 x12) xs0)) := by
  have h : View.canon (kernelRun0_B c i a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xs0).2.1 = stAll (v1205 c a3 h3 a4 h4 a7 h7 a9 h9 a10 h10 a15 h15 a18 h18 a19 x0 x1 x4 x6 x7 x12 xs0) (v1220 c a3 h3 a4 h4 a7 h7 a9 h9 a10 h10 a15 h15 a18 h18 a19 x0 x1 x4 x6 x7 x12 xs0) (v1235 c a3 h3 a4 h4 a7 h7 a9 h9 a10 h10 a15 h15 a18 h18 a19 x0 x1 x4 x6 x7 x12 xs0) (v1250 c a3 h3 a4 h4 a7 h7 a9 h9 a10 h10 a15 h15 a18 h18 a19 x0 x1 x4 x6 x7 x12 xs0) (bx (ldB h4 x1 256) (v1195 c a3 h3 a7 h7 a9 h9 a10 h10 a15 h15 a19 x0 x4 x6 x7 x12)) (chD (ldT h7 x4 256) (ldC h9 x6) (ldC h10 x7) (ldO h15 x12)) := canon_S _ _ _ _ _ _ _ _ _
  rw [h, v1205_eq, v1220_eq, v1235_eq, v1250_eq, v1195_eq]
  rfl

theorem v616_eq : (v616 c a3 h3 a4 h4 a5 h5 a7 h7 a8 h8 a9 h9 a10 h10 a11 h11 a12 h12 a13 h13 a15 h15 a16 h16 a18 h18 a20 x0 x1 x2 x4 x5 x6 x7 x8 x9 x10 x12 x13 xs0) = yAll (cb (ldB h4 x1 0) (ldB h5 x2 0)) (ldX h3 x0 0 0) (ldX h3 x0 0 128) (ldX h3 x0 0 256) (ldX h3 x0 0 384) (chA (ldT h7 x4 0) (ldC h9 x6) (ldC h10 x7) (ldO h15 x12)) (chR (ldR h8 x5 0) (ldC1 h11 x8) (ldC1 h12 x9) (ldO h16 x13)) (cs (ldB h5 x2 0) xs0) (ldD h13 x10 0) (ldD h13 x10 128) (ldD h13 x10 256) (ldD h13 x10 384) := by
  have h : (v616 c a3 h3 a4 h4 a5 h5 a7 h7 a8 h8 a9 h9 a10 h10 a11 h11 a12 h12 a13 h13 a15 h15 a16 h16 a18 h18 a20 x0 x1 x2 x4 x5 x6 x7 x8 x9 x10 x12 x13 xs0) = yAll (cb (ldB h4 x1 0) (ldB h5 x2 0)) (ldX h3 x0 0 0) (ldX h3 x0 0 128) (ldX h3 x0 0 256) (ldX h3 x0 0 384) (chA (ldT h7 x4 0) (ldC h9 x6) (ldC h10 x7) (ldO h15 x12)) (chR (ldR h8 x5 0) (ldC1 h11 x8) (ldC1 h12 x9) (ldO h16 x13)) (cs (ldB h5 x2 0) (ldS h18 xs0)) (ldD h13 x10 0) (ldD h13 x10 128) (ldD h13 x10 256) (ldD h13 x10 384) := load_Y a20.view 0 _ _ _ _ _ _ _ _ _ _ _ _ _ _ _ _ _ _
  rw [h, v117_eq]

theorem v1258_eq : (v1258 c a3 h3 a4 h4 a5 h5 a7 h7 a8 h8 a9 h9 a10 h10 a11 h11 a12 h12 a13 h13 a15 h15 a16 h16 a18 h18 a19 a20 x0 x1 x2 x4 x5 x6 x7 x8 x9 x10 x12 x13 xs0) = yAll (cb (ldB h4 x1 256) (ldB h5 x2 256)) (ldX h3 x0 256 0) (ldX h3 x0 256 128) (ldX h3 x0 256 256) (ldX h3 x0 256 384) (chA (ldT h7 x4 256) (ldC h9 x6) (ldC h10 x7) (ldO h15 x12)) (chR (ldR h8 x5 256) (ldC1 h11 x8) (ldC1 h12 x9) (ldO h16 x13)) (cs (ldB h5 x2 256) (stC (ldX h3 x0 0 0) (ldX h3 x0 0 128) (ldX h3 x0 0 256) (ldX h3 x0 0 384) (ldB h4 x1 0) (ldT h7 x4 0) (ldC h9 x6) (ldC h10 x7) (ldO h15 x12) xs0)) (ldD h13 x10 0) (ldD h13 x10 128) (ldD h13 x10 256) (ldD h13 x10 384) := by
  have h : (v1258 c a3 h3 a4 h4 a5 h5 a7 h7 a8 h8 a9 h9 a10 h10 a11 h11 a12 h12 a13 h13 a15 h15 a16 h16 a18 h18 a19 a20 x0 x1 x2 x4 x5 x6 x7 x8 x9 x10 x12 x13 xs0) = yAll (cb (ldB h4 x1 256) (ldB h5 x2 256)) (ldX h3 x0 256 0) (ldX h3 x0 256 128) (ldX h3 x0 256 256) (ldX h3 x0 256 384) (chA (ldT h7 x4 256) (ldC h9 x6) (ldC h10 x7) (ldO h15 x12)) (chR (ldR h8 x5 256) (ldC1 h11 x8) (ldC1 h12 x9) (ldO h16 x13)) (cs (ldB h5 x2 256) (v759 c a3 h3 a4 h4 a7 h7 a9 h9 a10 h10 a15 h15 a18 h18 a19 x0 x1 x4 x6 x7 x12 xs0)) (ldD h13 x10 0) (ldD h13 x10 128) (ldD h13 x10 256) (ldD h13 x10 384) := load_Y a20.view 1 _ _ _ _ _ _ _ _ _ _ _ _ _ _ _ _ _ _
  rw [h, v759_eq]

theorem stores : (kernelRun0_B c i a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xs0).1 = [(⟨Rect.unit (s := S1x512x512) ![0, 256, 0] S1x256x512.size inb_S1x512x512_S1x256x512_0_256_0, (outC (ldX h3 x0 256 0) (ldX h3 x0 256 128) (ldX h3 x0 256 256) (ldX h3 x0 256 384) (ldB h4 x1 256) (ldB h5 x2 256) (ldT h7 x4 256) (ldC h9 x6) (ldC h10 x7) (ldR h8 x5 256) (ldC1 h11 x8) (ldC1 h12 x9) (ldO h15 x12) (ldO h16 x13) (ldD h13 x10 0) (ldD h13 x10 128) (ldD h13 x10 256) (ldD h13 x10 384) (ldZ h6 x3 256) (ldW h14 x11) (stC (ldX h3 x0 0 0) (ldX h3 x0 0 128) (ldX h3 x0 0 256) (ldX h3 x0 0 384) (ldB h4 x1 0) (ldT h7 x4 0) (ldC h9 x6) (ldC h10 x7) (ldO h15 x12) xs0))⟩ : View.Piece (Elt F) S1x512x512 .bf16), (⟨Rect.unit (s := S1x512x512) ![0, 0, 0] S1x256x512.size inb_S1x512x512_S1x256x512_0_0_0, (outC (ldX h3 x0 0 0) (ldX h3 x0 0 128) (ldX h3 x0 0 256) (ldX h3 x0 0 384) (ldB h4 x1 0) (ldB h5 x2 0) (ldT h7 x4 0) (ldC h9 x6) (ldC h10 x7) (ldR h8 x5 0) (ldC1 h11 x8) (ldC1 h12 x9) (ldO h15 x12) (ldO h16 x13) (ldD h13 x10 0) (ldD h13 x10 128) (ldD h13 x10 256) (ldD h13 x10 384) (ldZ h6 x3 0) (ldW h14 x11) xs0)⟩ : View.Piece (Elt F) S1x512x512 .bf16)] := by
  have h : (kernelRun0_B c i a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xs0).1 = [(⟨Rect.unit (s := S1x512x512) ![0, 256, 0] S1x256x512.size inb_S1x512x512_S1x256x512_0_256_0, (normed (gated (v1258 c a3 h3 a4 h4 a5 h5 a7 h7 a8 h8 a9 h9 a10 h10 a11 h11 a12 h12 a13 h13 a15 h15 a16 h16 a18 h18 a19 a20 x0 x1 x2 x4 x5 x6 x7 x8 x9 x10 x12 x13 xs0) (ldZ h6 x3 256)) (ldW h14 x11))⟩ : View.Piece (Elt F) S1x512x512 .bf16), (⟨Rect.unit (s := S1x512x512) ![0, 0, 0] S1x256x512.size inb_S1x512x512_S1x256x512_0_0_0, (normed (gated (v616 c a3 h3 a4 h4 a5 h5 a7 h7 a8 h8 a9 h9 a10 h10 a11 h11 a12 h12 a13 h13 a15 h15 a16 h16 a18 h18 a20 x0 x1 x2 x4 x5 x6 x7 x8 x9 x10 x12 x13 xs0) (ldZ h6 x3 0)) (ldW h14 x11))⟩ : View.Piece (Elt F) S1x512x512 .bf16)] := rfl
  rw [h, v616_eq, v1258_eq]
  rfl

end

end Cert.SsdIdeal.Tile.CaseB

end
-- ==== Proof.Ssd.Value.lean ====
/-
  WHAT THE MIXER LEAVES: the states handed from chunk to chunk, the rows each chunk stores, and the array they make up.
-/
module

public import proofs.«01_k».proof.Proof.Ssd.Block
public import proofs.«01_k».proof.Proof.Ssd.RunA
public import proofs.«01_k».proof.Proof.Ssd.RunB

@[expose] public section

set_option maxRecDepth 16384

noncomputable section

open Idealize.ShloMosaic Idealize.ShloMosaic.TcCoe Idealize.SL.Sem
open Idealize.ShloMosaic.Pipeline (Dat)

namespace Cert.SsdIdeal.Value

open Cert.SsdIdeal Cert.SsdIdeal.Gen Cert.SsdIdeal.Tile

section
variable {F : FTy → Type} [FloatOps F] [Named F]
  (o : ℕ) (ho : o = 0 ∨ o = 256)
  (x0 : Vec F S1x512x512 .bf16) (x1 : Vec F S1x512x128 .bf16) (x2 : Vec F S1x512x128 .bf16) (x3 : Vec F S1x512x512 .bf16) (x4 : Vec F S1x1x512x8 .f32) (x5 : Vec F S1x1x8x512 .f32) (x6 : Vec F S1x1x8 .f32) (x7 : Vec F S1x1x8 .f32) (x8 : Vec F S1x8x1 .f32) (x9 : Vec F S1x8x1 .f32) (x10 : Vec F S1x512 .f32) (x11 : Vec F S1x512 .f32) (x12 : Vec F S256x256 .bf16) (x13 : Vec F S256x256 .bf16)
  (s : FVec F S128x512 .f32)

/-- The state after the chunk at row `o` of a block. -/
def stK : FVec F S128x512 .f32 :=
  stC (pick x0 ![0, o, 0] S1x256x128.size (by rcases ho with rfl | rfl <;> decide)) (pick x0 ![0, o, 128] S1x256x128.size (by rcases ho with rfl | rfl <;> decide)) (pick x0 ![0, o, 256] S1x256x128.size (by rcases ho with rfl | rfl <;> decide)) (pick x0 ![0, o, 384] S1x256x128.size (by rcases ho with rfl | rfl <;> decide))
    (pick x1 ![0, o, 0] S1x256x128.size (by rcases ho with rfl | rfl <;> decide)) (pick x4 ![0, 0, o, 0] S1x1x256x8.size (by rcases ho with rfl | rfl <;> decide)) (pick x6 ![0, 0, 0] S1x1x8.size (by decide))
    (pick x7 ![0, 0, 0] S1x1x8.size (by decide)) (pick x12 ![0, 0] S256x256.size (by decide)) s

/-- The rows of the chunk at row `o` of a block. -/
def outK : FVec F S1x256x512 .bf16 :=
  outC (pick x0 ![0, o, 0] S1x256x128.size (by rcases ho with rfl | rfl <;> decide)) (pick x0 ![0, o, 128] S1x256x128.size (by rcases ho with rfl | rfl <;> decide)) (pick x0 ![0, o, 256] S1x256x128.size (by rcases ho with rfl | rfl <;> decide)) (pick x0 ![0, o, 384] S1x256x128.size (by rcases ho with rfl | rfl <;> decide))
    (pick x1 ![0, o, 0] S1x256x128.size (by rcases ho with rfl | rfl <;> decide)) (pick x2 ![0, o, 0] S1x256x128.size (by rcases ho with rfl | rfl <;> decide)) (pick x4 ![0, 0, o, 0] S1x1x256x8.size (by rcases ho with rfl | rfl <;> decide))
    (pick x6 ![0, 0, 0] S1x1x8.size (by decide)) (pick x7 ![0, 0, 0] S1x1x8.size (by decide)) (pick x5 ![0, 0, 0, o] S1x1x8x256.size (by rcases ho with rfl | rfl <;> decide)) (pick x8 ![0, 0, 0] S1x8x1.size (by decide))
    (pick x9 ![0, 0, 0] S1x8x1.size (by decide)) (pick x12 ![0, 0] S256x256.size (by decide)) (pick x13 ![0, 0] S256x256.size (by decide)) (pick x10 ![0, 0] S1x128.size (by decide)) (pick x10 ![0, 128] S1x128.size (by decide)) (pick x10 ![0, 256] S1x128.size (by decide)) (pick x10 ![0, 384] S1x128.size (by decide))
    (pick x3 ![0, o, 0] S1x256x512.size (by rcases ho with rfl | rfl <;> decide)) (pick x11 ![0, 0] S1x512.size (by decide)) s

end

section
variable {F : FTy → Type} [FloatOps F] [Named F]

section
variable (c : Dev nD) (i : grid0.Coords)
  (a3 : Memref sig .tc .vmem S1x512x512 .bf16) (h3 : a3.IsWhole) (a4 : Memref sig .tc .vmem S1x512x128 .bf16) (h4 : a4.IsWhole)
  (a5 : Memref sig .tc .vmem S1x512x128 .bf16) (h5 : a5.IsWhole) (a6 : Memref sig .tc .vmem S1x512x512 .bf16) (h6 : a6.IsWhole)
  (a7 : Memref sig .tc .vmem S1x1x512x8 .f32) (h7 : a7.IsWhole) (a8 : Memref sig .tc .vmem S1x1x8x512 .f32) (h8 : a8.IsWhole)
  (a9 : Memref sig .tc .vmem S1x1x8 .f32) (h9 : a9.IsWhole) (a10 : Memref sig .tc .vmem S1x1x8 .f32) (h10 : a10.IsWhole)
  (a11 : Memref sig .tc .vmem S1x8x1 .f32) (h11 : a11.IsWhole) (a12 : Memref sig .tc .vmem S1x8x1 .f32) (h12 : a12.IsWhole)
  (a13 : Memref sig .tc .vmem S1x512 .f32) (h13 : a13.IsWhole) (a14 : Memref sig .tc .vmem S1x512 .f32) (h14 : a14.IsWhole)
  (a15 : Memref sig .tc .vmem S256x256 .bf16) (h15 : a15.IsWhole) (a16 : Memref sig .tc .vmem S256x256 .bf16) (h16 : a16.IsWhole)
  (a17 : Memref sig .tc .vmem S1x512x512 .bf16) (h17 : a17.IsWhole) (a18 : Memref sig .tc .vmem S128x512 .f32) (h18 : a18.IsWhole)
  (a19 : Memref sig .tc .vmem S2x256x512 .bf16) (h19 : a19.IsWhole) (a20 : Memref sig .tc .vmem S2x256x512 .f32) (h20 : a20.IsWhole)
  (x0 : Vec F S1x512x512 .bf16) (x1 : Vec F S1x512x128 .bf16) (x2 : Vec F S1x512x128 .bf16) (x3 : Vec F S1x512x512 .bf16) (x4 : Vec F S1x1x512x8 .f32)
  (x5 : Vec F S1x1x8x512 .f32) (x6 : Vec F S1x1x8 .f32) (x7 : Vec F S1x1x8 .f32) (x8 : Vec F S1x8x1 .f32) (x9 : Vec F S1x8x1 .f32)
  (x10 : Vec F S1x512 .f32) (x11 : Vec F S1x512 .f32) (x12 : Vec F S256x256 .bf16) (x13 : Vec F S256x256 .bf16)

theorem sout_A (hc0 : cond0_0 i) :
    sout0_A_0 c i a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 = stK 256 (.inr rfl) x0 x1 x4 x6 x7 x12 (stK 0 (.inl rfl) x0 x1 x4 x6 x7 x12 (k0_pay2 : FVec F S128x512 .f32)) := by
  unfold sout0_A_0
  rw [View.read_writes_junk_eq_canon, CaseA.state2]
  simp only [read_pick]
  rfl

theorem out_A (hc0 : cond0_0 i) :
    out0_A_14 c i a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 = View.canon [(⟨Rect.unit (s := S1x512x512) ![0, 256, 0] S1x256x512.size inb_S1x512x512_S1x256x512_0_256_0, outK 256 (.inr rfl) x0 x1 x2 x3 x4 x5 x6 x7 x8 x9 x10 x11 x12 x13 (stK 0 (.inl rfl) x0 x1 x4 x6 x7 x12 (k0_pay2 : FVec F S128x512 .f32))⟩ : View.Piece (Elt F) S1x512x512 .bf16),
      (⟨Rect.unit (s := S1x512x512) ![0, 0, 0] S1x256x512.size inb_S1x512x512_S1x256x512_0_0_0, outK 0 (.inl rfl) x0 x1 x2 x3 x4 x5 x6 x7 x8 x9 x10 x11 x12 x13 (k0_pay2 : FVec F S128x512 .f32)⟩ : View.Piece (Elt F) S1x512x512 .bf16)] := by
  unfold out0_A_14
  rw [View.read_writes_junk_eq_canon, CaseA.stores]
  simp only [read_pick]
  rfl

theorem sout_B (hc0 : ¬cond0_0 i) (xs0 : Vec F S128x512 .f32) :
    sout0_B_0 c i a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xs0 = stK 256 (.inr rfl) x0 x1 x4 x6 x7 x12 (stK 0 (.inl rfl) x0 x1 x4 x6 x7 x12 xs0) := by
  unfold sout0_B_0
  rw [View.read_writes_junk_eq_canon, CaseB.state2]
  simp only [read_pick]
  rfl

theorem out_B (hc0 : ¬cond0_0 i) (xs0 : Vec F S128x512 .f32) :
    out0_B_14 c i a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xs0 = View.canon [(⟨Rect.unit (s := S1x512x512) ![0, 256, 0] S1x256x512.size inb_S1x512x512_S1x256x512_0_256_0, outK 256 (.inr rfl) x0 x1 x2 x3 x4 x5 x6 x7 x8 x9 x10 x11 x12 x13 (stK 0 (.inl rfl) x0 x1 x4 x6 x7 x12 xs0)⟩ : View.Piece (Elt F) S1x512x512 .bf16),
      (⟨Rect.unit (s := S1x512x512) ![0, 0, 0] S1x256x512.size inb_S1x512x512_S1x256x512_0_0_0, outK 0 (.inl rfl) x0 x1 x2 x3 x4 x5 x6 x7 x8 x9 x10 x11 x12 x13 xs0⟩ : View.Piece (Elt F) S1x512x512 .bf16)] := by
  unfold out0_B_14
  rw [View.read_writes_junk_eq_canon, CaseB.stores]
  simp only [read_pick]
  rfl

end

theorem two_stores (i1 i0) (w1 w0 : FVec F S1x256x512 .bf16) (r e : Fin 512) :
    View.canon [(⟨Rect.unit (s := S1x512x512) ![0, 256, 0] S1x256x512.size i1, w1⟩ : View.Piece (Elt F) S1x512x512 .bf16), (⟨Rect.unit (s := S1x512x512) ![0, 0, 0] S1x256x512.size i0, w0⟩ : View.Piece (Elt F) S1x512x512 .bf16)]
      (ix3 (0 : Fin 1) r e) = if h : r.val < 256 then w0 (ix3 (0 : Fin 1) ⟨r.val, h⟩ e) else w1 (ix3 (0 : Fin 1) ⟨r.val - 256, by omega⟩ e) := by
  by_cases h : r.val < 256
  · rw [dif_pos h]
    refine (canon_pass (Val := Elt F) (e := .bf16) (Rect.unit (s := S1x512x512) ![0, 256, 0] S1x256x512.size i1) w1 _ (ix3 (0 : Fin 1) r e) 1 rfl (.inl h)).trans ?_
    refine canon_hit (Val := Elt F) (e := .bf16) (Rect.unit (s := S1x512x512) ![0, 0, 0] S1x256x512.size i0) w0 [] (ix3 (0 : Fin 1) r e) (ix3 (0 : Fin 1) (⟨r.val, h⟩ : Fin 256) e) fun a => ?_
    fin_cases a
    · rfl
    · show r.val = 0 + 1 * r.val
      omega
    · show e.val = 0 + 1 * e.val
      omega
  · rw [dif_neg h]
    refine canon_hit (Val := Elt F) (e := .bf16) (Rect.unit (s := S1x512x512) ![0, 256, 0] S1x256x512.size i1) w1 _ (ix3 (0 : Fin 1) r e) (ix3 (0 : Fin 1) (⟨r.val - 256, by omega⟩ : Fin 256) e) fun a => ?_
    fin_cases a
    · rfl
    · show r.val = 256 + 1 * (r.val - 256)
      omega
    · show e.val = 0 + 1 * e.val
      omega

theorem pick_xz (x : Vec F S1x512x512 .bf16) (o : ℕ) (ho : o + 256 ≤ 512) (i) (r : Fin 256) (e : Fin 512) :
    pick (s := S1x512x512) x ![0, o, 0] S1x256x512.size i (ix3 (0 : Fin 1) r e) = x (ix3 (0 : Fin 1) ⟨o + r.val, by omega⟩ e) := by
  unfold pick
  congr 1
  funext a
  apply Fin.ext
  fin_cases a
  · show 0 + 1 * 0 = 0
    omega
  · show o + 1 * r.val = o + r.val
    omega
  · show 0 + 1 * e.val = e.val
    omega

theorem pick_x (x : Vec F S1x512x512 .bf16) (o : ℕ) (ho : o + 256 ≤ 512) (f : ℕ) (hf : f + 128 ≤ 512) (i) (r : Fin 256) (l : Fin 128) :
    pick (s := S1x512x512) x ![0, o, f] S1x256x128.size i (ix3 (0 : Fin 1) r l) = x (ix3 (0 : Fin 1) ⟨o + r.val, by omega⟩ ⟨f + l.val, by omega⟩) := by
  unfold pick
  congr 1
  funext a
  apply Fin.ext
  fin_cases a
  · show 0 + 1 * 0 = 0
    omega
  · show o + 1 * r.val = o + r.val
    omega
  · show f + 1 * l.val = f + l.val
    omega

theorem pick_b (x : Vec F S1x512x128 .bf16) (o : ℕ) (ho : o + 256 ≤ 512) (i) (r : Fin 256) (l : Fin 128) :
    pick (s := S1x512x128) x ![0, o, 0] S1x256x128.size i (ix3 (0 : Fin 1) r l) = x (ix3 (0 : Fin 1) ⟨o + r.val, by omega⟩ l) := by
  unfold pick
  congr 1
  funext a
  apply Fin.ext
  fin_cases a
  · show 0 + 1 * 0 = 0
    omega
  · show o + 1 * r.val = o + r.val
    omega
  · show 0 + 1 * l.val = l.val
    omega

theorem pick_dc (x : Vec F S1x1x512x8 .f32) (o : ℕ) (ho : o + 256 ≤ 512) (i) (r : Fin 256) (h : Fin 8) :
    pick (s := S1x1x512x8) x ![0, 0, o, 0] S1x1x256x8.size i (ix4 (0 : Fin 1) (0 : Fin 1) r h) = x (ix4 (0 : Fin 1) (0 : Fin 1) ⟨o + r.val, by omega⟩ h) := by
  unfold pick
  congr 1
  funext a
  apply Fin.ext
  fin_cases a
  · show 0 + 1 * 0 = 0
    omega
  · show 0 + 1 * 0 = 0
    omega
  · show o + 1 * r.val = o + r.val
    omega
  · show 0 + 1 * h.val = h.val
    omega

theorem pick_dr (x : Vec F S1x1x8x512 .f32) (o : ℕ) (ho : o + 256 ≤ 512) (i) (r : Fin 256) (h : Fin 8) :
    pick (s := S1x1x8x512) x ![0, 0, 0, o] S1x1x8x256.size i (ix4 (0 : Fin 1) (0 : Fin 1) h r) = x (ix4 (0 : Fin 1) (0 : Fin 1) h ⟨o + r.val, by omega⟩) := by
  unfold pick
  congr 1
  funext a
  apply Fin.ext
  fin_cases a
  · show 0 + 1 * 0 = 0
    omega
  · show 0 + 1 * 0 = 0
    omega
  · show 0 + 1 * h.val = h.val
    omega
  · show o + 1 * r.val = o + r.val
    omega

theorem pick_hc (x : Vec F S1x1x8 .f32) (i) (h : Fin 8) :
    pick (s := S1x1x8) x ![0, 0, 0] S1x1x8.size i (ix3 (0 : Fin 1) (0 : Fin 1) h) = x (ix3 (0 : Fin 1) (0 : Fin 1) h) := by
  unfold pick
  congr 1
  funext a
  apply Fin.ext
  fin_cases a
  · show 0 + 1 * 0 = 0
    omega
  · show 0 + 1 * 0 = 0
    omega
  · show 0 + 1 * h.val = h.val
    omega

theorem pick_hr (x : Vec F S1x8x1 .f32) (i) (h : Fin 8) :
    pick (s := S1x8x1) x ![0, 0, 0] S1x8x1.size i (ix3 (0 : Fin 1) h (0 : Fin 1)) = x (ix3 (0 : Fin 1) h (0 : Fin 1)) := by
  unfold pick
  congr 1
  funext a
  apply Fin.ext
  fin_cases a
  · show 0 + 1 * 0 = 0
    omega
  · show 0 + 1 * h.val = h.val
    omega
  · show 0 + 1 * 0 = 0
    omega

theorem pick_d (x : Vec F S1x512 .f32) (f : ℕ) (hf : f + 128 ≤ 512) (i) (l : Fin 128) :
    pick (s := S1x512) x ![0, f] S1x128.size i (ix2 (0 : Fin 1) l) = x (ix2 (0 : Fin 1) ⟨f + l.val, by omega⟩) := by
  unfold pick
  congr 1
  funext a
  apply Fin.ext
  fin_cases a
  · show 0 + 1 * 0 = 0
    omega
  · show f + 1 * l.val = f + l.val
    omega

theorem pick_w (x : Vec F S1x512 .f32) (i) (l : Fin 512) :
    pick (s := S1x512) x ![0, 0] S1x512.size i (ix2 (0 : Fin 1) l) = x (ix2 (0 : Fin 1) l) := by
  unfold pick
  congr 1
  funext a
  apply Fin.ext
  fin_cases a
  · show 0 + 1 * 0 = 0
    omega
  · show 0 + 1 * l.val = l.val
    omega

theorem pick_t (x : Vec F S256x256 .bf16) (i) (j k : Fin 256) :
    pick (s := S256x256) x ![0, 0] S256x256.size i (ix2 j k) = x (ix2 j k) := by
  unfold pick
  congr 1
  funext a
  apply Fin.ext
  fin_cases a
  · show 0 + 1 * j.val = j.val
    omega
  · show 0 + 1 * k.val = k.val
    omega

end

section
variable {o : ℕ} (ho : o = 0 ∨ o = 256)
  {x0 : Vec Ideal S1x512x512 .bf16} {x1 : Vec Ideal S1x512x128 .bf16} {x2 : Vec Ideal S1x512x128 .bf16} {x3 : Vec Ideal S1x512x512 .bf16} {x4 : Vec Ideal S1x1x512x8 .f32} {x5 : Vec Ideal S1x1x8x512 .f32} {x6 : Vec Ideal S1x1x8 .f32} {x7 : Vec Ideal S1x1x8 .f32} {x8 : Vec Ideal S1x8x1 .f32} {x9 : Vec Ideal S1x8x1 .f32} {x10 : Vec Ideal S1x512 .f32} {x11 : Vec Ideal S1x512 .f32} {x12 : Vec Ideal S256x256 .bf16} {x13 : Vec Ideal S256x256 .bf16}
  {s : FVec Ideal S128x512 .f32} {X B C Z R S : ℕ → ℕ → ℝ} {β γ : ℕ → ℝ} {D : ℕ → EReal}
  (h0 : ∀ r l : Fin 512, x0 (ix3 (0 : Fin 1) r l) = ((X r.val l.val : ℝ) : EReal))
  (h1 : ∀ (r : Fin 512) (l : Fin 128), x1 (ix3 (0 : Fin 1) r l) = ((B r.val l.val : ℝ) : EReal))
  (h4 : ∀ (r : Fin 512) (h : Fin 8), x4 (ix4 (0 : Fin 1) (0 : Fin 1) r h) = ((R r.val h.val : ℝ) : EReal))
  (h6 : ∀ h : Fin 8, x6 (ix3 (0 : Fin 1) (0 : Fin 1) h) = ((β h.val : ℝ) : EReal))
  (h7 : ∀ h : Fin 8, x7 (ix3 (0 : Fin 1) (0 : Fin 1) h) = ((γ h.val : ℝ) : EReal))
  (h12 : ∀ i j : Fin 256, x12 (ix2 i j) = ((if j.val ≤ i.val then 1 else 0 : ℝ) : EReal))
  (hs : ∀ (n : Fin 128) (e : Fin 512), s (ix2 n e) = ((S n.val e.val : ℝ) : EReal))
include h0 h1 h4 h6 h7 h12 hs

theorem stK_real (n : Fin 128) (e : Fin 512) : stK o ho x0 x1 x4 x6 x7 x12 s (ix2 n e)
    = ((nextR (fun i e => X (o + i) e) (fun i n => B (o + i) n) (stepR (fun i h => R (o + i) h) β) (rateR γ) S n.val e.val : ℝ) : EReal) := by
  have hb : o + 256 ≤ 512 := by omega
  unfold stK
  exact stC_real (X := fun i e => X (o + i) e) (B := fun i n => B (o + i) n) (R := fun i h => R (o + i) h)
    (fun i l => (pick_x x0 o hb 0 (by omega) _ i l).trans (h0 _ _)) (fun i l => (pick_x x0 o hb 128 (by omega) _ i l).trans (h0 _ _))
    (fun i l => (pick_x x0 o hb 256 (by omega) _ i l).trans (h0 _ _)) (fun i l => (pick_x x0 o hb 384 (by omega) _ i l).trans (h0 _ _))
    (fun i l => (pick_b x1 o hb _ i l).trans (h1 _ _)) (fun i h => (pick_dc x4 o hb _ i h).trans (h4 _ _)) (fun h => (pick_hc x6 _ h).trans (h6 _))
    (fun h => (pick_hc x7 _ h).trans (h7 _)) (fun i j => (pick_t x12 _ i j).trans (h12 _ _)) hs n e

variable (h2 : ∀ (r : Fin 512) (l : Fin 128), x2 (ix3 (0 : Fin 1) r l) = ((C r.val l.val : ℝ) : EReal))
  (h3 : ∀ r l : Fin 512, x3 (ix3 (0 : Fin 1) r l) = ((Z r.val l.val : ℝ) : EReal))
  (h5 : ∀ (r : Fin 512) (h : Fin 8), x5 (ix4 (0 : Fin 1) (0 : Fin 1) h r) = ((R r.val h.val : ℝ) : EReal))
  (h8 : ∀ h : Fin 8, x8 (ix3 (0 : Fin 1) h (0 : Fin 1)) = ((β h.val : ℝ) : EReal))
  (h9 : ∀ h : Fin 8, x9 (ix3 (0 : Fin 1) h (0 : Fin 1)) = ((γ h.val : ℝ) : EReal))
  (h10 : ∀ l : Fin 512, x10 (ix2 (0 : Fin 1) l) = D l.val)
  (h13 : ∀ i j : Fin 256, x13 (ix2 i j) = ((if i.val ≤ j.val then 1 else 0 : ℝ) : EReal))
include h2 h3 h5 h8 h9 h10 h13

theorem outK_real (i : Fin 256) (e : Fin 512) : outK o ho x0 x1 x2 x3 x4 x5 x6 x7 x8 x9 x10 x11 x12 x13 s (ix3 (0 : Fin 1) i e)
    = finE (fun e => ((rowR (fun i e => X (o + i) e) (fun i n => B (o + i) n) (fun i n => C (o + i) n) (stepR (fun i h => R (o + i) h) β) (rateR γ) S i.val e : ℝ) : EReal)
        + D e * ((X (o + i.val) e : ℝ) : EReal)) (Z (o + i.val)) (x11 (ix2 (0 : Fin 1) e)) e.val := by
  have hb : o + 256 ≤ 512 := by omega
  unfold outK
  refine (outC_real (X := fun i e => X (o + i) e) (B := fun i n => B (o + i) n) (C := fun i n => C (o + i) n) (R := fun i h => R (o + i) h) (Z := fun i e => Z (o + i) e) (D := D)
    (fun i l => (pick_x x0 o hb 0 (by omega) _ i l).trans (h0 _ _)) (fun i l => (pick_x x0 o hb 128 (by omega) _ i l).trans (h0 _ _))
    (fun i l => (pick_x x0 o hb 256 (by omega) _ i l).trans (h0 _ _)) (fun i l => (pick_x x0 o hb 384 (by omega) _ i l).trans (h0 _ _))
    (fun i l => (pick_b x1 o hb _ i l).trans (h1 _ _)) (fun i h => (pick_dc x4 o hb _ i h).trans (h4 _ _)) (fun h => (pick_hc x6 _ h).trans (h6 _))
    (fun h => (pick_hc x7 _ h).trans (h7 _)) (fun i j => (pick_t x12 _ i j).trans (h12 _ _)) hs
    (fun i l => (pick_b x2 o hb _ i l).trans (h2 _ _)) (fun i h => (pick_dr x5 o hb _ i h).trans (h5 _ _)) (fun h => (pick_hr x8 _ h).trans (h8 _))
    (fun h => (pick_hr x9 _ h).trans (h9 _)) (fun i j => (pick_t x13 _ i j).trans (h13 _ _))
    (fun l => (pick_d x10 0 (by omega) _ l).trans (h10 _)) (fun l => (pick_d x10 128 (by omega) _ l).trans (h10 _))
    (fun l => (pick_d x10 256 (by omega) _ l).trans (h10 _)) (fun l => (pick_d x10 384 (by omega) _ l).trans (h10 _))
    (fun i e => (pick_xz x3 o hb _ i e).trans (h3 _ _)) _ i e).trans ?_
  rw [pick_w]

end

section
variable (x : FVec Ideal S4x2048x6144 .bf16) (r : FVec Ideal S4x2048x64 .f32) (bw : FVec Ideal S1x64 .f32) (b : Fin 4) (g : ℕ) {q o k : ℕ} (h : 512 * q + o = 256 * k)
include h

theorem shiftX : (fun i e => Xc x b g (512 * q) (o + i) e) = Xc x b g (256 * k) := by
  funext i e; unfold Xc; rw [← Nat.add_assoc, h]

theorem shiftB : (fun i e => Bc x b g (512 * q) (o + i) e) = Bc x b g (256 * k) := by
  funext i e; unfold Bc; rw [← Nat.add_assoc, h]

theorem shiftC : (fun i e => Cc x b g (512 * q) (o + i) e) = Cc x b g (256 * k) := by
  funext i e; unfold Cc; rw [← Nat.add_assoc, h]

theorem shiftT : stepR (fun i h => dR r b (512 * q + (o + i)) (g * 8 + h)) (fun h => hR bw (g * 8 + h)) = Tc r bw b g (256 * k) := by
  unfold Tc; congr 1; funext i e; rw [← Nat.add_assoc, h]

end

variable (m : (ℓ : Loc nD τ sig) → Buf (Elt Ideal) ℓ) (ρ : Dev nD → PrngReg)

/-- The states on a device. -/
def stAt (c : Dev nD) (b : Fin 4) (g k n e : ℕ) : ℝ :=
  St (m ((c : Thread nD τ).loc main_arg1)) (m ((c : Thread nD τ).loc main_arg2)) (m ((c : Thread nD τ).loc main_arg3)) (m ((c : Thread nD τ).loc main_arg4)) b g k n e

/-- A row on a device. -/
def rowAt (c : Dev nD) (w : EReal) (b : Fin 4) (g k i e : ℕ) : EReal :=
  ssdRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) w b g k i e

/-- What the call leaves on a device. -/
def left (c : Dev nD) : FVec Ideal S4x2048x4096 .bf16 :=
  ssdAt (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

section
variable {m} {c : Dev nD} (hr : RealArgs m c) (t : Fin cfg0.N) {o k : ℕ} (ho : o = 0 ∨ o = 256) (hk : 512 * (t.val % 4) + o = 256 * k)
  {s : FVec Ideal S128x512 .f32} (hs : ∀ (n : Fin 128) (e : Fin 512), s (ix2 n e) = ((stAt m c (bt t) (gp t).val k n.val e.val : ℝ) : EReal))
include hr hk hs

theorem state_next (n : Fin 128) (e : Fin 512) : stK o ho (iblk m c 0 t) (iblk m c 1 t) (iblk m c 4 t) (iblk m c 6 t) (iblk m c 7 t) (iblk m c 12 t) s (ix2 n e)
    = ((stAt m c (bt t) (gp t).val (k + 1) n.val e.val : ℝ) : EReal) := by
  refine (stK_real ho (X := Xc (m ((c : Thread nD τ).loc main_arg1)) (bt t) (gp t).val (512 * (t.val % 4))) (B := Bc (m ((c : Thread nD τ).loc main_arg1)) (bt t) (gp t).val (512 * (t.val % 4)))
    (R := fun r h => dR (m ((c : Thread nD τ).loc main_arg2)) (bt t) (512 * (t.val % 4) + r) ((gp t).val * 8 + h)) (β := fun h => hR (m ((c : Thread nD τ).loc main_arg3)) ((gp t).val * 8 + h))
    (γ := fun h => hR (m ((c : Thread nD τ).loc main_arg4)) ((gp t).val * 8 + h))
    (blk0 hr t) (blk1 hr t) (blk4 hr t) (blk6 hr t) (blk7 hr t) (blk12 hr t) hs n e).trans ?_
  rw [shiftX _ _ _ hk, shiftB _ _ _ hk, shiftT _ _ _ _ hk]
  rfl

theorem rows_next (i : Fin 256) (e : Fin 512) : outK o ho (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) s (ix3 (0 : Fin 1) i e)
    = rowAt m c ((m ((c : Thread nD τ).loc main_arg6) : FVec Ideal S1x4096 .f32) (ix2 (0 : Fin 1) (⟨(gp t).val * 512 + e.val, by have := (gp t).isLt; omega⟩ : Fin 4096))) (bt t) (gp t).val k i.val e.val := by
  refine (outK_real ho (X := Xc (m ((c : Thread nD τ).loc main_arg1)) (bt t) (gp t).val (512 * (t.val % 4))) (B := Bc (m ((c : Thread nD τ).loc main_arg1)) (bt t) (gp t).val (512 * (t.val % 4)))
    (C := Cc (m ((c : Thread nD τ).loc main_arg1)) (bt t) (gp t).val (512 * (t.val % 4)))
    (Z := fun r l => zR (m ((c : Thread nD τ).loc main_arg0)) (bt t) (512 * (t.val % 4) + r) ((gp t).val * 512 + l))
    (R := fun r h => dR (m ((c : Thread nD τ).loc main_arg2)) (bt t) (512 * (t.val % 4) + r) ((gp t).val * 8 + h)) (β := fun h => hR (m ((c : Thread nD τ).loc main_arg3)) ((gp t).val * 8 + h))
    (γ := fun h => hR (m ((c : Thread nD τ).loc main_arg4)) ((gp t).val * 8 + h)) (D := fun l => skipE (m ((c : Thread nD τ).loc main_arg5)) ((gp t).val * 8 + l / 64))
    (blk0 hr t) (blk1 hr t) (blk4 hr t) (blk6 hr t) (blk7 hr t) (blk12 hr t) hs (blk2 hr t) (blk3 hr t) (blk5 hr t) (blk8 hr t) (blk9 hr t) (blk10 hr t) (blk13 hr t) i e).trans ?_
  rw [blk11 hr t, shiftX _ _ _ hk, shiftB _ _ _ hk, shiftC _ _ _ hk, shiftT _ _ _ _ hk]
  have h1 (e : ℕ) : Xc (m ((c : Thread nD τ).loc main_arg1)) (bt t) (gp t).val (512 * (t.val % 4)) (o + i.val) e = Xc (m ((c : Thread nD τ).loc main_arg1)) (bt t) (gp t).val (256 * k) i.val e :=
    congrFun (congrFun (shiftX (m ((c : Thread nD τ).loc main_arg1)) (bt t) (gp t).val hk) i.val) e
  simp only [h1]
  rw [← Nat.add_assoc, hk]
  rfl

end

theorem zeros (n : Fin 128) (e : Fin 512) : (k0_pay2 : FVec Ideal S128x512 .f32) (ix2 n e) = ((0 : ℝ) : EReal) := by
  unfold k0_pay2
  pointwise
  exact EReal.coe_zero.symm

section
variable {m} {c : Dev nD} (hr : RealArgs m c)
include hr

theorem state_A (t : Fin cfg0.N) (h0 : t.val % 4 = 0) (n : Fin 128) (e : Fin 512) :
    (outsAt0 m c t.val t.isLt).2 (ix2 n e) = ((stAt m c (bt t) (gp t).val (2 * (t.val % 4) + 2) n.val e.val : ℝ) : EReal) := by
  rw [outsAt0_A m c t h0]
  dsimp only
  rw [sout_A]
  exact state_next hr t (k := 2 * (t.val % 4) + 1) (.inr rfl) (by omega) (fun n e => state_next hr t (k := 2 * (t.val % 4)) (.inl rfl) (by omega)
    (fun n e => by rw [h0]; exact zeros n e) n e) n e

theorem state_B (t : Fin cfg0.N) (h0 : ¬t.val % 4 = 0)
    (ih : ∀ (n : Fin 128) (e : Fin 512), (outsAt0 m c (t.val - 1) (Nat.lt_of_le_of_lt (Nat.sub_le _ _) t.isLt)).2 (ix2 n e) = ((stAt m c (bt t) (gp t).val (2 * (t.val % 4)) n.val e.val : ℝ) : EReal))
    (n : Fin 128) (e : Fin 512) : (outsAt0 m c t.val t.isLt).2 (ix2 n e) = ((stAt m c (bt t) (gp t).val (2 * (t.val % 4) + 2) n.val e.val : ℝ) : EReal) := by
  rw [outsAt0_B m c t h0]
  dsimp only
  rw [sout_B]
  exact state_next hr t (k := 2 * (t.val % 4) + 1) (.inr rfl) (by omega) (fun n e => state_next hr t (k := 2 * (t.val % 4)) (.inl rfl) (by omega) ih n e) n e

/-- Within a group's run the batch and the group stay. -/
theorem state_all : ∀ (j : ℕ) (hj : j < cfg0.N) (n : Fin 128) (e : Fin 512),
    (outsAt0 m c j hj).2 (ix2 n e) = ((stAt m c (bt ⟨j, hj⟩) (gp ⟨j, hj⟩).val (2 * (j % 4) + 2) n.val e.val : ℝ) : EReal)
  | 0, hj, n, e => state_A hr ⟨0, hj⟩ rfl n e
  | j + 1, hj, n, e => by
    by_cases h0 : (j + 1) % 4 = 0
    · exact state_A hr ⟨j + 1, hj⟩ h0 n e
    · refine state_B hr ⟨j + 1, hj⟩ h0 (fun n e => ?_) n e
      have hb : bt ⟨j + 1, hj⟩ = bt ⟨j, by omega⟩ := Fin.ext (show (j + 1) / 32 = j / 32 by omega)
      have hg : gp ⟨j + 1, hj⟩ = gp ⟨j, by omega⟩ := Fin.ext (show (j + 1) / 4 % 8 = j / 4 % 8 by omega)
      have hk : 2 * ((j + 1) % 4) = 2 * (j % 4) + 2 := by omega
      rw [hb, hg]
      show (outsAt0 m c j _).2 (ix2 n e) = ((stAt m c _ _ (2 * ((j + 1) % 4)) n.val e.val : ℝ) : EReal)
      rw [hk]
      exact state_all j (by omega) n e

theorem state_before (t : Fin cfg0.N) (h0 : ¬t.val % 4 = 0) (n : Fin 128) (e : Fin 512) :
    (outsAt0 m c (t.val - 1) (Nat.lt_of_le_of_lt (Nat.sub_le _ _) t.isLt)).2 (ix2 n e) = ((stAt m c (bt t) (gp t).val (2 * (t.val % 4)) n.val e.val : ℝ) : EReal) := by
  have hj : t.val - 1 < cfg0.N := Nat.lt_of_le_of_lt (Nat.sub_le _ _) t.isLt
  have hb : bt ⟨t.val - 1, hj⟩ = bt t := Fin.ext (show (t.val - 1) / 32 = t.val / 32 by omega)
  have hg : gp ⟨t.val - 1, hj⟩ = gp t := Fin.ext (show (t.val - 1) / 4 % 8 = t.val / 4 % 8 by omega)
  have hk : 2 * ((t.val - 1) % 4) + 2 = 2 * (t.val % 4) := by omega
  rw [state_all hr _ hj, hb, hg, hk]

/-- A point's block of the result, row by row. -/
theorem rows_at (t : Fin cfg0.N) (r e : Fin 512) : (outsAt0 m c t.val t.isLt).1 (ix3 (0 : Fin 1) r e)
    = rowAt m c ((m ((c : Thread nD τ).loc main_arg6) : FVec Ideal S1x4096 .f32) (ix2 (0 : Fin 1) (⟨(gp t).val * 512 + e.val, by have := (gp t).isLt; omega⟩ : Fin 4096))) (bt t) (gp t).val
        (2 * (t.val % 4) + r.val / 256) (r.val % 256) e.val := by
  have two (s : FVec Ideal S128x512 .f32) (hs : ∀ (n : Fin 128) (e : Fin 512), s (ix2 n e) = ((stAt m c (bt t) (gp t).val (2 * (t.val % 4)) n.val e.val : ℝ) : EReal)) (i1) (i0) :
      View.canon [(⟨Rect.unit (s := S1x512x512) ![0, 256, 0] S1x256x512.size i1, outK 256 (.inr rfl) (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t) (iblk m c 13 t) (stK 0 (.inl rfl) (iblk m c 0 t) (iblk m c 1 t) (iblk m c 4 t) (iblk m c 6 t) (iblk m c 7 t) (iblk m c 12 t) s)⟩
          : View.Piece (Elt Ideal) S1x512x512 .bf16),
        (⟨Rect.unit (s := S1x512x512) ![0, 0, 0] S1x256x512.size i0, outK 0 (.inl rfl) (iblk m c 0 t) (iblk m c 1 t) (iblk m c 2 t) (iblk m c 3 t) (iblk m c 4 t) (iblk m c 5 t) (iblk m c 6 t) (iblk m c 7 t)
          (iblk m c 8 t) (iblk m c 9 t) (iblk m c 10 t) (iblk m c 11 t) (iblk m c 12 t) (iblk m c 13 t) s⟩ : View.Piece (Elt Ideal) S1x512x512 .bf16)] (ix3 (0 : Fin 1) r e)
      = rowAt m c ((m ((c : Thread nD τ).loc main_arg6) : FVec Ideal S1x4096 .f32) (ix2 (0 : Fin 1) (⟨(gp t).val * 512 + e.val, by have := (gp t).isLt; omega⟩ : Fin 4096))) (bt t) (gp t).val
        (2 * (t.val % 4) + r.val / 256) (r.val % 256) e.val := by
    rw [two_stores]
    by_cases h : r.val < 256
    · rw [dif_pos h, show 2 * (t.val % 4) + r.val / 256 = 2 * (t.val % 4) by omega, show r.val % 256 = r.val by omega]
      exact rows_next hr t (k := 2 * (t.val % 4)) (.inl rfl) (by omega) hs _ e
    · rw [dif_neg h, show 2 * (t.val % 4) + r.val / 256 = 2 * (t.val % 4) + 1 by omega, show r.val % 256 = r.val - 256 by omega]
      exact rows_next hr t (k := 2 * (t.val % 4) + 1) (.inr rfl) (by omega) (fun n e => state_next hr t (k := 2 * (t.val % 4)) (.inl rfl) (by omega) hs n e) _ e
  by_cases h0 : t.val % 4 = 0
  · rw [outsAt0_A m c t h0]
    dsimp only
    rw [out_A]
    exact two _ (fun n e => by rw [h0]; exact zeros n e) _ _
  · rw [outsAt0_B m c t h0]
    dsimp only
    rw [out_B]
    exact two _ (state_before hr t h0) _ _

theorem flushed_eq (t : Fin cfg0.N) :
    (dats m 0 c).flushed 14 t = ((cfg0.win 14).blk t).view.read (Elt Ideal) (left m c : Buf (Elt Ideal) ((c : Thread nD τ).loc main_v20)) := by
  rw [flushed14]
  have e := at14 t
  have ht := points t
  funext y
  rw [View.read_apply]
  obtain ⟨z, r, l, rfl⟩ : ∃ (z : Fin 1) (r : Fin 512) (l : Fin 512), y = ix3 z r l := ⟨y 0, y 1, y 2, eq_ix3 y⟩
  obtain rfl : z = 0 := Subsingleton.elim _ _
  have he : (((cfg0.win 14).blk t).view.emb (ix3 (0 : Fin 1) r l) : S4x2048x4096.Idx)
      = ix3 (bt t) (⟨512 * (t.val % 4) + r.val, by omega⟩ : Fin 2048) (⟨(gp t).val * 512 + l.val, by have := (gp t).isLt; omega⟩ : Fin 4096) := by
    funext a
    apply Fin.ext
    match a with
    | ⟨0, _⟩ => show win0_14.index t 0 * 1 + 1 * 0 = t.val / 32; rw [e.1]; omega
    | ⟨1, _⟩ => show win0_14.index t 1 * 512 + 1 * r.val = 512 * (t.val % 4) + r.val; rw [e.2.1]; omega
    | ⟨2, _⟩ => show win0_14.index t 2 * 512 + 1 * l.val = t.val / 4 % 8 * 512 + l.val; rw [e.2.2]; omega
  show (outsAt0 m c t.val t.isLt).1 (ix3 (0 : Fin 1) r l) = left m c _
  rw [he, rows_at hr t]
  show _ = rowAt m c ((m ((c : Thread nD τ).loc main_arg6) : FVec Ideal S1x4096 .f32) (ix2 (0 : Fin 1) (⟨(gp t).val * 512 + l.val, _⟩ : Fin 4096))) (bt t) (((gp t).val * 512 + l.val) / 512)
    ((512 * (t.val % 4) + r.val) / 256) ((512 * (t.val % 4) + r.val) % 256) (((gp t).val * 512 + l.val) % 512)
  rw [show ((gp t).val * 512 + l.val) / 512 = (gp t).val by omega, show ((gp t).val * 512 + l.val) % 512 = l.val by omega,
    show (512 * (t.val % 4) + r.val) / 256 = 2 * (t.val % 4) + r.val / 256 by omega, show (512 * (t.val % 4) + r.val) % 256 = r.val % 256 by omega]

theorem final : (dats m 0 c).arrAt 14 cfg0.N = (left m c : Buf (Elt Ideal) ((c : Thread nD τ).loc main_v20)) :=
  (dats m 0 c).arrAt_eq_of_cover 14 _ (fun t _ => flushed_eq hr t) (fun i => by
    have h0 : (i 0).val < 4 := (i 0).isLt
    have h1 : (i 1).val < 2048 := (i 1).isLt
    have h2 : (i 2).val < 4096 := (i 2).isLt
    have hN : cfg0.N = 128 := N_0
    let t : Fin cfg0.N := ⟨(i 0).val * 32 + (i 2).val / 512 * 4 + (i 1).val / 512, by omega⟩
    have tv : t.val = (i 0).val * 32 + (i 2).val / 512 * 4 + (i 1).val / 512 := rfl
    obtain ⟨e0, e1, e2⟩ := at14 t
    refine ⟨t, flush0_14 t, ?_⟩
    show i ∈ ((View.whole main_v20).slice (win0_14.rect t)).set
    rw [View.set_slice_whole, Rect.mem_set_unit]
    intro a
    match a with
    | ⟨0, _⟩ => show win0_14.index t (0 : Fin 3) * 1 ≤ (i 0).val ∧ (i 0).val < win0_14.index t (0 : Fin 3) * 1 + 1; omega
    | ⟨1, _⟩ => show win0_14.index t (1 : Fin 3) * 512 ≤ (i 1).val ∧ (i 1).val < win0_14.index t (1 : Fin 3) * 512 + 512; omega
    | ⟨2, _⟩ => show win0_14.index t (2 : Fin 3) * 512 ≤ (i 2).val ∧ (i 2).val < win0_14.index t (2 : Fin 3) * 512 + 512; omega)

end

end Cert.SsdIdeal.Value

end
-- ==== Proof.Ssd.Ref.lean ====
/-
  THE STATE-SPACE MIXER'S PLAIN REFERENCE, step by step: each step's entries as functions of the entries of the step before.
-/
module

public import proofs.«01_k».proof.Proof.Ssd.Sem
public import proofs.«01_k».proof.Proof.Gen.SsdRefIdeal.Run
public import Idealize.ShloMosaic.Lib.IdealHost
public import Idealize.ShloMosaic.Lib.ValueIdxRank6

@[expose] public section

set_option maxRecDepth 16384

noncomputable section

open Idealize.ShloMosaic Idealize.ShloMosaic.TcCoe Idealize.SL.Sem Idealize.ShloMosaic.StableHlo

namespace Cert.SsdRefIdeal.Value

open Cert.SsdRefIdeal Cert.SsdRefIdeal.Gen

/-- The positive steps. -/
def steps (r : FVec Ideal S4x2048x64 .f32) (b : FVec Ideal S1x64 .f32) : FVec Ideal S4x2048x8x8 .f32 :=
  shapeCast _ (select (cmpf .une (subf (addf r (broadcastInDim S4x2048x64 ![0, 1, 2] bcast_S1x1x64_S4x2048x64_0_1_2 (broadcastInDim S1x1x64 ![2] bcast_S64_S1x1x64_2 (shapeCast _ b shapeCasts_S1x64_S64)))) (broadcastInDim S4x2048x64 ![] bcast_S_S4x2048x64 (constant S_ .f32 0x00000000#32))) (subf (addf r (broadcastInDim S4x2048x64 ![0, 1, 2] bcast_S1x1x64_S4x2048x64_0_1_2 (broadcastInDim S1x1x64 ![2] bcast_S64_S1x1x64_2 (shapeCast _ b shapeCasts_S1x64_S64)))) (broadcastInDim S4x2048x64 ![] bcast_S_S4x2048x64 (constant S_ .f32 0x00000000#32)))) (addf (addf r (broadcastInDim S4x2048x64 ![0, 1, 2] bcast_S1x1x64_S4x2048x64_0_1_2 (broadcastInDim S1x1x64 ![2] bcast_S64_S1x1x64_2 (shapeCast _ b shapeCasts_S1x64_S64)))) (broadcastInDim S4x2048x64 ![] bcast_S_S4x2048x64 (constant S_ .f32 0x00000000#32))) (addf (maximumf (addf r (broadcastInDim S4x2048x64 ![0, 1, 2] bcast_S1x1x64_S4x2048x64_0_1_2 (broadcastInDim S1x1x64 ![2] bcast_S64_S1x1x64_2 (shapeCast _ b shapeCasts_S1x64_S64)))) (broadcastInDim S4x2048x64 ![] bcast_S_S4x2048x64 (constant S_ .f32 0x00000000#32))) (Host.log1p (Host.exp (Host.negf (Host.absf (subf (addf r (broadcastInDim S4x2048x64 ![0, 1, 2] bcast_S1x1x64_S4x2048x64_0_1_2 (broadcastInDim S1x1x64 ![2] bcast_S64_S1x1x64_2 (shapeCast _ b shapeCasts_S1x64_S64)))) (broadcastInDim S4x2048x64 ![] bcast_S_S4x2048x64 (constant S_ .f32 0x00000000#32))))))))) shapeCasts_S4x2048x64_S4x2048x8x8

/-- The negated rates. -/
def rates (a : FVec Ideal S1x64 .f32) : FVec Ideal S8x8 .f32 :=
  Host.negf (shapeCast _ (Host.exp (shapeCast _ a shapeCasts_S1x64_S64)) shapeCasts_S64_S8x8)

/-- The channels. -/
def chans (x : FVec Ideal S4x2048x6144 .bf16) : FVec Ideal S4x2048x8x8x64 .f32 :=
  extf .f32 (shapeCast _ (extractStridedSlice S4x2048x4096 ![0, 0, 0] x slices_S4x2048x6144_S4x2048x4096_0_0_0) shapeCasts_S4x2048x4096_S4x2048x8x8x64) bitsLt_bf16_f32

/-- The input rows, chunk by chunk. -/
def bRows (x : FVec Ideal S4x2048x6144 .bf16) : FVec Ideal S4x8x256x8x128 .f32 :=
  shapeCast _ (extf .f32 (shapeCast _ (extractStridedSlice S4x2048x1024 ![0, 0, 4096] x slices_S4x2048x6144_S4x2048x1024_0_0_4096) shapeCasts_S4x2048x1024_S4x2048x8x128) bitsLt_bf16_f32) shapeCasts_S4x2048x8x128_S4x8x256x8x128

/-- The output rows, chunk by chunk. -/
def cRows (x : FVec Ideal S4x2048x6144 .bf16) : FVec Ideal S4x8x256x8x128 .f32 :=
  shapeCast _ (extf .f32 (shapeCast _ (extractStridedSlice S4x2048x1024 ![0, 0, 5120] x slices_S4x2048x6144_S4x2048x1024_0_0_5120) shapeCasts_S4x2048x1024_S4x2048x8x128) bitsLt_bf16_f32) shapeCasts_S4x2048x8x128_S4x8x256x8x128

/-- The channels times their steps, chunk by chunk. -/
def chanSteps (xs : FVec Ideal S4x2048x8x8x64 .f32) (dt : FVec Ideal S4x2048x8x8 .f32) : FVec Ideal S4x8x256x8x8x64 .f32 :=
  shapeCast _ (mulf xs (broadcastInDim S4x2048x8x8x64 ![0, 1, 2, 3, 4] bcast_S4x2048x8x8x1_S4x2048x8x8x64_0_1_2_3_4 (broadcastInDim S4x2048x8x8x1 ![0, 1, 2, 3] bcast_S4x2048x8x8_S4x2048x8x8x1_0_1_2_3 dt))) shapeCasts_S4x2048x8x8x64_S4x8x256x8x8x64

/-- The decays' logarithms. -/
def decs (dt : FVec Ideal S4x2048x8x8 .f32) (rt : FVec Ideal S8x8 .f32) : FVec Ideal S4x8x8x8x256 .f32 :=
  transpose S4x8x8x8x256 [0, 3, 4, 1, 2] (shapeCast _ (mulf dt (broadcastInDim S4x2048x8x8 ![0, 1, 2, 3] bcast_S1x1x8x8_S4x2048x8x8_0_1_2_3 (broadcastInDim S1x1x8x8 ![2, 3] bcast_S8x8_S1x1x8x8_2_3 rt))) shapeCasts_S4x2048x8x8_S4x8x256x8x8) transposes_S4x8x256x8x8_S4x8x8x8x256_0_3_4_1_2

/-- Their running sums within a chunk. -/
def sums (da : FVec Ideal S4x8x8x8x256 .f32) : FVec Ideal S4x8x8x8x256 .f32 :=
  Host.reduceWindowAdd ![1, 1, 1, 1, 256] ![1, 1, 1, 1, 1] ![0, 0, 0, 0, 255] ![0, 0, 0, 0, 0] da (broadcastInDim S_ ![] bcast_S_S_ (constant S_ .f32 0x00000000#32)) reduceWindows_S4x8x8x8x256_S4x8x8x8x256_w1s1p0_0_w1s1p0_0_w1s1p0_0_w1s1p0_0_w256s1p255_0 h_S_

/-- The weights within a chunk. -/
def wts (acs : FVec Ideal S4x8x8x8x256 .f32) : FVec Ideal S4x8x8x8x256x256 .f32 :=
  Host.exp (select (broadcastInDim S4x8x8x8x256x256 ![4, 5] bcast_S256x256_S4x8x8x8x256x256_4_5 (select (cmpi .sge (addi (iotaInDim S256x256 32 0) (broadcastInDim S256x256 ![] bcast_S_S256x256 (constantI S_ 32 0#32))) (iotaInDim S256x256 32 1)) (broadcastInDim S256x256 ![] bcast_S_S256x256 (constantI S_ 1 1#1)) (broadcastInDim S256x256 ![] bcast_S_S256x256 (constantI S_ 1 0#1)))) (subf (broadcastInDim S4x8x8x8x256x256 ![0, 1, 2, 3, 4, 5] bcast_S4x8x8x8x256x1_S4x8x8x8x256x256_0_1_2_3_4_5 (broadcastInDim S4x8x8x8x256x1 ![0, 1, 2, 3, 4] bcast_S4x8x8x8x256_S4x8x8x8x256x1_0_1_2_3_4 acs)) (broadcastInDim S4x8x8x8x256x256 ![0, 1, 2, 3, 4, 5] bcast_S4x8x8x8x1x256_S4x8x8x8x256x256_0_1_2_3_4_5 (broadcastInDim S4x8x8x8x1x256 ![0, 1, 2, 3, 5] bcast_S4x8x8x8x256_S4x8x8x8x1x256_0_1_2_3_5 acs))) (broadcastInDim S4x8x8x8x256x256 ![] bcast_S_S4x8x8x8x256x256 (id (constant S_ .f32 0xFF800000#32))))

/-- The products of the rows of a chunk. -/
def scores (cm : FVec Ideal S4x8x256x8x128 .f32) (bm : FVec Ideal S4x8x256x8x128 .f32) : FVec Ideal S4x8x8x256x256 .f32 :=
  Host.dotGeneral dot_S4x8x256x8x128_S4x8x256x8x128_S4x8x8x256x256_4_4_2_2_031_031 none cm bm

/-- What a chunk gives itself. -/
def within (xdt : FVec Ideal S4x8x256x8x8x64 .f32) (sc : FVec Ideal S4x8x8x256x256 .f32) (lw : FVec Ideal S4x8x8x8x256x256 .f32) : FVec Ideal S4x8x256x8x8x64 .f32 :=
  transpose S4x8x256x8x8x64 [0, 1, 5, 2, 3, 4] (Host.dotGeneral dot_S4x8x256x8x8x64_S4x8x8x8x256x256_S4x8x8x8x64x256_2_5_5_4_0134_0312 none xdt (mulf (broadcastInDim S4x8x8x8x256x256 ![0, 1, 2, 3, 4, 5] bcast_S4x8x1x8x256x256_S4x8x8x8x256x256_0_1_2_3_4_5 (broadcastInDim S4x8x1x8x256x256 ![0, 1, 3, 4, 5] bcast_S4x8x8x256x256_S4x8x1x8x256x256_0_1_3_4_5 sc)) lw)) transposes_S4x8x8x8x64x256_S4x8x256x8x8x64_0_1_5_2_3_4

/-- What each chunk adds to the state. -/
def ends (xdt : FVec Ideal S4x8x256x8x8x64 .f32) (acs : FVec Ideal S4x8x8x8x256 .f32) (bm : FVec Ideal S4x8x256x8x128 .f32) : FVec Ideal S4x8x8x8x64x128 .f32 :=
  Host.dotGeneral dot_S4x8x256x8x8x64_S4x8x256x8x128_S4x8x8x8x64x128_2_2_45_4_013_013 none (mulf xdt (broadcastInDim S4x8x256x8x8x64 ![0, 1, 2, 3, 4, 5] bcast_S4x8x256x8x8x1_S4x8x256x8x8x64_0_1_2_3_4_5 (broadcastInDim S4x8x256x8x8x1 ![0, 1, 2, 3, 4] bcast_S4x8x256x8x8_S4x8x256x8x8x1_0_1_2_3_4 (transpose S4x8x256x8x8 [0, 3, 4, 1, 2] (Host.exp (subf (broadcastInDim S4x8x8x8x256 ![0, 1, 2, 3, 4] bcast_S4x8x8x8x1_S4x8x8x8x256_0_1_2_3_4 (extractStridedSlice S4x8x8x8x1 ![0, 0, 0, 0, 255] acs slices_S4x8x8x8x256_S4x8x8x8x1_0_0_0_0_255)) acs)) transposes_S4x8x8x8x256_S4x8x256x8x8_0_3_4_1_2)))) bm

/-- The chunks' totals after a zero. -/
def lasts (acs : FVec Ideal S4x8x8x8x256 .f32) : FVec Ideal S4x8x8x9 .f32 :=
  pad S4x8x8x9 ![0, 0, 0, 1] ![0, 0, 0, 0] ![0, 0, 0, 0] (shapeCast _ (extractStridedSlice S4x8x8x8x1 ![0, 0, 0, 0, 255] acs slices_S4x8x8x8x256_S4x8x8x8x1_0_0_0_0_255) shapeCasts_S4x8x8x8x1_S4x8x8x8) (sitofp .f32 (constantI S_ 32 0#32)) pads_S4x8x8x8_S4x8x8x9_000_000_000_100 h_S_

/-- The running sums of the chunks' totals. -/
def totals (v : FVec Ideal S4x8x8x9 .f32) : FVec Ideal S4x8x8x9 .f32 :=
  Host.reduceWindowAdd ![1, 1, 1, 9] ![1, 1, 1, 1] ![0, 0, 0, 8] ![0, 0, 0, 0] v (broadcastInDim S_ ![] bcast_S_S_ (constant S_ .f32 0x00000000#32)) reduceWindows_S4x8x8x9_S4x8x8x9_w1s1p0_0_w1s1p0_0_w1s1p0_0_w9s1p8_0 h_S_

/-- The weights between chunks. -/
def spans (tcs : FVec Ideal S4x8x8x9 .f32) : FVec Ideal S4x8x8x9x9 .f32 :=
  Host.exp (select (broadcastInDim S4x8x8x9x9 ![3, 4] bcast_S9x9_S4x8x8x9x9_3_4 (select (cmpi .sge (addi (iotaInDim S9x9 32 0) (broadcastInDim S9x9 ![] bcast_S_S9x9 (constantI S_ 32 0#32))) (iotaInDim S9x9 32 1)) (broadcastInDim S9x9 ![] bcast_S_S9x9 (constantI S_ 1 1#1)) (broadcastInDim S9x9 ![] bcast_S_S9x9 (constantI S_ 1 0#1)))) (subf (broadcastInDim S4x8x8x9x9 ![0, 1, 2, 3, 4] bcast_S4x8x8x9x1_S4x8x8x9x9_0_1_2_3_4 (broadcastInDim S4x8x8x9x1 ![0, 1, 2, 3] bcast_S4x8x8x9_S4x8x8x9x1_0_1_2_3 tcs)) (broadcastInDim S4x8x8x9x9 ![0, 1, 2, 3, 4] bcast_S4x8x8x1x9_S4x8x8x9x9_0_1_2_3_4 (broadcastInDim S4x8x8x1x9 ![0, 1, 2, 4] bcast_S4x8x8x9_S4x8x8x1x9_0_1_2_4 tcs))) (broadcastInDim S4x8x8x9x9 ![] bcast_S_S4x8x8x9x9 (id (constant S_ .f32 0xFF800000#32))))

/-- The state at each chunk's start. -/
def starts (st : FVec Ideal S4x8x8x8x64x128 .f32) (dw : FVec Ideal S4x8x8x9x9 .f32) : FVec Ideal S4x8x8x8x64x128 .f32 :=
  extractStridedSlice S4x8x8x8x64x128 ![0, 0, 0, 0, 0, 0] (transpose S4x9x8x8x64x128 [0, 5, 1, 2, 3, 4] (Host.dotGeneral dot_S4x9x8x8x64x128_S4x8x8x9x9_S4x8x8x64x128x9_1_4_45_3_023_012 none (concatenate S4x9x8x8x64x128 1 [⟨S4x1x8x8x64x128, (broadcastInDim S4x1x8x8x64x128 ![] bcast_S_S4x1x8x8x64x128 (constant S_ .f32 0x00000000#32))⟩, ⟨S4x8x8x8x64x128, st⟩] concatenates_S4x1x8x8x64x128_S4x8x8x8x64x128_S4x9x8x8x64x128_d1) dw) transposes_S4x8x8x64x128x9_S4x9x8x8x64x128_0_5_1_2_3_4) slices_S4x9x8x8x64x128_S4x8x8x8x64x128_0_0_0_0_0_0

/-- What the state gives a chunk. -/
def across (si : FVec Ideal S4x8x8x8x64x128 .f32) (cm : FVec Ideal S4x8x256x8x128 .f32) (acs : FVec Ideal S4x8x8x8x256 .f32) : FVec Ideal S4x8x256x8x8x64 .f32 :=
  mulf (transpose S4x8x256x8x8x64 [0, 1, 5, 2, 3, 4] (Host.dotGeneral dot_S4x8x8x8x64x128_S4x8x256x8x128_S4x8x8x8x64x256_5_4_34_2_012_013 none si cm) transposes_S4x8x8x8x64x256_S4x8x256x8x8x64_0_1_5_2_3_4) (broadcastInDim S4x8x256x8x8x64 ![0, 1, 2, 3, 4, 5] bcast_S4x8x256x8x8x1_S4x8x256x8x8x64_0_1_2_3_4_5 (broadcastInDim S4x8x256x8x8x1 ![0, 1, 2, 3, 4] bcast_S4x8x256x8x8_S4x8x256x8x8x1_0_1_2_3_4 (transpose S4x8x256x8x8 [0, 3, 4, 1, 2] (Host.exp acs) transposes_S4x8x8x8x256_S4x8x256x8x8_0_3_4_1_2)))

/-- The mixed channels. -/
def mixed (yd : FVec Ideal S4x8x256x8x8x64 .f32) (yo : FVec Ideal S4x8x256x8x8x64 .f32) (d : FVec Ideal S1x64 .f32) (xs : FVec Ideal S4x2048x8x8x64 .f32) : FVec Ideal S4x2048x4096 .f32 :=
  shapeCast _ (addf (shapeCast _ (addf yd yo) shapeCasts_S4x8x256x8x8x64_S4x2048x8x8x64) (mulf (broadcastInDim S4x2048x8x8x64 ![0, 1, 2, 3, 4] bcast_S1x1x8x8x1_S4x2048x8x8x64_0_1_2_3_4 (broadcastInDim S1x1x8x8x1 ![2, 3, 4] bcast_S8x8x1_S1x1x8x8x1_2_3_4 (broadcastInDim S8x8x1 ![0, 1] bcast_S8x8_S8x8x1_0_1 (shapeCast _ (shapeCast _ d shapeCasts_S1x64_S64) shapeCasts_S64_S8x8)))) xs)) shapeCasts_S4x2048x8x8x64_S4x2048x4096

/-- The gated channels. -/
def gate (y : FVec Ideal S4x2048x4096 .f32) (p : FVec Ideal S4x2048x20480 .bf16) : FVec Ideal S4x2048x8x512 .f32 :=
  shapeCast _ (mulf y (mulf (extf .f32 (extractStridedSlice S4x2048x4096 ![0, 0, 0] p slices_S4x2048x20480_S4x2048x4096_0_0_0) bitsLt_bf16_f32) (Host.divf (broadcastInDim S4x2048x4096 ![] bcast_S_S4x2048x4096 (constant S_ .f32 0x3F800000#32)) (addf (broadcastInDim S4x2048x4096 ![] bcast_S_S4x2048x4096 (constant S_ .f32 0x3F800000#32)) (Host.exp (Host.negf (extf .f32 (extractStridedSlice S4x2048x4096 ![0, 0, 0] p slices_S4x2048x20480_S4x2048x4096_0_0_0) bitsLt_bf16_f32))))))) shapeCasts_S4x2048x4096_S4x2048x8x512

/-- The gated channels, normalized. -/
def result (g : FVec Ideal S4x2048x8x512 .f32) (w : FVec Ideal S1x4096 .f32) : FVec Ideal S4x2048x4096 .bf16 :=
  truncf .bf16 (mulf (shapeCast _ (mulf g (broadcastInDim S4x2048x8x512 ![0, 1, 2, 3] bcast_S4x2048x8x1_S4x2048x8x512_0_1_2_3 (Host.rsqrt (addf (Host.divf (broadcastInDim S4x2048x8x1 ![0, 1, 2] bcast_S4x2048x8_S4x2048x8x1_0_1_2 (Host.reduceAdd (mulf g g) (constant S_ .f32 0x00000000#32) reducesTo_S4x2048x8x512_S4x2048x8_d3 h_S_)) (broadcastInDim S4x2048x8x1 ![] bcast_S_S4x2048x8x1 (constant S_ .f32 0x44000000#32))) (broadcastInDim S4x2048x8x1 ![] bcast_S_S4x2048x8x1 (constant S_ .f32 0x3727C5AC#32)))))) shapeCasts_S4x2048x8x512_S4x2048x4096) (broadcastInDim S4x2048x4096 ![0, 1, 2] bcast_S1x1x4096_S4x2048x4096_0_1_2 (broadcastInDim S1x1x4096 ![2] bcast_S4096_S1x1x4096_2 (shapeCast _ w shapeCasts_S1x4096_S4096)))) bitsLt_bf16_f32

set_option maxHeartbeats 2000000 in
/-- The reference's result is its steps, one after another. -/
theorem res_eq (m : (ℓ : Loc nD τ sig) → Buf (Elt Ideal) ℓ) (c : Dev nD) (a0 : FVec Ideal S4x2048x20480 .bf16) (a1 : FVec Ideal S4x2048x6144 .bf16) (a2 : FVec Ideal S4x2048x64 .f32)
    (a3 a4 a5 : FVec Ideal S1x64 .f32) (a6 : FVec Ideal S1x4096 .f32) (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3) (h4 : m ((c.tc : Thread nD τ).loc main_arg4) = a4)
    (h5 : m ((c.tc : Thread nD τ).loc main_arg5) = a5) (h6 : m ((c.tc : Thread nD τ).loc main_arg6) = a6) :
    res_main_v112 (F := Ideal) m c = result (gate (mixed (within (chanSteps (chans a1) (steps a2 a3)) (scores (cRows a1) (bRows a1)) (wts (sums (decs (steps a2 a3) (rates a4))))) (across (starts (ends (chanSteps (chans a1) (steps a2 a3)) (sums (decs (steps a2 a3) (rates a4))) (bRows a1)) (spans (totals (lasts (sums (decs (steps a2 a3) (rates a4))))))) (cRows a1) (sums (decs (steps a2 a3) (rates a4)))) a5 (chans a1)) a0) a6 := by
  subst h0 h1 h2 h3 h4 h5 h6
  rfl

/-- A fold of additions of real numbers is their sum. -/
theorem foldl_add {ι : Type} (l : List ι) (g : ι → EReal) (f : ι → ℝ) (hg : ∀ a ∈ l, g a = (f a : EReal)) (z : ℝ) :
    l.foldl (fun r a => r + g a) (z : EReal) = ((z + (l.map f).sum : ℝ) : EReal) := by
  induction l generalizing z with
  | nil => simp
  | cons a l ih =>
    rw [List.foldl_cons, hg a (by simp), ← EReal.coe_add, ih (fun b hb => hg b (List.mem_cons_of_mem _ hb)), List.map_cons, List.sum_cons, add_assoc]

/-- A window that reaches back over everything sums what comes up to its entry. -/
theorem sum_win (D : ℕ → ℝ) (n i : ℕ) (h : i ≤ n) :
    ∑ w ∈ Finset.range (n + 1), (if n ≤ i + w then D (i + w - n) else 0) = ∑ j ∈ Finset.range (i + 1), D j := by
  obtain ⟨d, rfl⟩ := Nat.exists_eq_add_of_le h
  rw [show i + d + 1 = d + (i + 1) by omega, Finset.sum_range_add, Finset.sum_eq_zero (s := Finset.range d)
    (fun w hw => if_neg (by have := Finset.mem_range.1 hw; omega)), zero_add]
  refine Finset.sum_congr rfl fun j _ => ?_
  rw [if_pos (by omega)]
  congr 1
  omega

theorem list_sum (N M : ℕ) (hN : N = M) (f : ℕ → ℝ) : ((List.finRange N).map fun n => f n.val).sum = ∑ w ∈ Finset.range M, f w := by
  subst hN
  rw [← Fin.sum_univ_def, Fin.sum_univ_eq_sum_range]

theorem zero_first : (broadcastInDim S_ ![] bcast_S_S_ (constant S_ .f32 0x00000000#32) : FVec Ideal S_ .f32) (Shape.Idx.first h_S_) = ((0 : ℝ) : EReal) := by
  show Ideal.ofBits FTy.f32 0#32 = _
  simp [Ideal.ofBits, Ideal.ieee]

theorem sums_real (v : FVec Ideal S4x8x8x8x256 .f32) (D : ℕ → ℝ) (b : Fin 4) (g h c : Fin 8) (hv : ∀ i : Fin 256, v (ix5 b g h c i) = ((D i.val : ℝ) : EReal)) (i : Fin 256) :
    sums v (ix5 b g h c i) = ((∑ j ∈ Finset.range (i.val + 1), D j : ℝ) : EReal) := by
  unfold sums Host.reduceWindowAdd
  have hi := i.isLt
  have hw (n : Fin (⟨5, ![1, 1, 1, 1, 256]⟩ : Shape).numel) : (∀ a : Fin 5, a.val < 4 → ((⟨5, ![1, 1, 1, 1, 256]⟩ : Shape).rowMajor.symm n a).val = 0) ∧ ((⟨5, ![1, 1, 1, 1, 256]⟩ : Shape).rowMajor.symm n 4).val = n.val := by
    have q0 : ((⟨5, ![1, 1, 1, 1, 256]⟩ : Shape).rowMajor.symm n 0).val < 1 := ((⟨5, ![1, 1, 1, 1, 256]⟩ : Shape).rowMajor.symm n 0).isLt
    have q1 : ((⟨5, ![1, 1, 1, 1, 256]⟩ : Shape).rowMajor.symm n 1).val < 1 := ((⟨5, ![1, 1, 1, 1, 256]⟩ : Shape).rowMajor.symm n 1).isLt
    have q2 : ((⟨5, ![1, 1, 1, 1, 256]⟩ : Shape).rowMajor.symm n 2).val < 1 := ((⟨5, ![1, 1, 1, 1, 256]⟩ : Shape).rowMajor.symm n 2).isLt
    have q3 : ((⟨5, ![1, 1, 1, 1, 256]⟩ : Shape).rowMajor.symm n 3).val < 1 := ((⟨5, ![1, 1, 1, 1, 256]⟩ : Shape).rowMajor.symm n 3).isLt
    refine ⟨fun a ha => ?_, ?_⟩
    · match a with
      | ⟨0, _⟩ => exact Nat.lt_one_iff.1 q0
      | ⟨1, _⟩ => exact Nat.lt_one_iff.1 q1
      | ⟨2, _⟩ => exact Nat.lt_one_iff.1 q2
      | ⟨3, _⟩ => exact Nat.lt_one_iff.1 q3
      | ⟨4, _⟩ => exact (lt_irrefl _ ha).elim
    · have e := congrArg Fin.val ((⟨5, ![1, 1, 1, 1, 256]⟩ : Shape).rowMajor.apply_symm_apply n)
      rw [Shape.rowMajor_val_five, Nat.lt_one_iff.1 q0, Nat.lt_one_iff.1 q1, Nat.lt_one_iff.1 q2, Nat.lt_one_iff.1 q3] at e
      simpa using e
  rw [zero_first]
  change Ideal.hostReduceWindowAdd ![1, 1, 1, 1, 256] ![1, 1, 1, 1, 1] ![0, 0, 0, 0, 255] ![0, 0, 0, 0, 0] reduceWindows_S4x8x8x8x256_S4x8x8x8x256_w1s1p0_0_w1s1p0_0_w1s1p0_0_w1s1p0_0_w256s1p255_0 v ((0 : ℝ) : EReal) (ix5 b g h c i) = _
  unfold Ideal.hostReduceWindowAdd Host.reduceWindow
  refine (foldl_add _ _ (fun n => if 255 ≤ i.val + n.val then D (i.val + n.val - 255) else 0) (fun n _ => ?_) 0).trans ?_
  · have hn : n.val < 256 := n.isLt
    obtain ⟨h0, h1⟩ := hw n
    dsimp only
    split
    · next hin =>
      have h2 := (hin 4).1
      change 255 ≤ i.val * 1 + ((⟨5, ![1, 1, 1, 1, 256]⟩ : Shape).rowMajor.symm n 4).val at h2
      rw [h1] at h2
      rw [if_pos (by omega)]
      refine (congrArg v (funext fun a => Fin.ext ?_)).trans (hv ⟨i.val + n.val - 255, by omega⟩)
      match a with
      | ⟨0, _⟩ =>
        show b.val * 1 + ((⟨5, ![1, 1, 1, 1, 256]⟩ : Shape).rowMajor.symm n 0).val - 0 = b.val
        rw [h0 0 (by decide)]
        omega
      | ⟨1, _⟩ =>
        show g.val * 1 + ((⟨5, ![1, 1, 1, 1, 256]⟩ : Shape).rowMajor.symm n 1).val - 0 = g.val
        rw [h0 1 (by decide)]
        omega
      | ⟨2, _⟩ =>
        show h.val * 1 + ((⟨5, ![1, 1, 1, 1, 256]⟩ : Shape).rowMajor.symm n 2).val - 0 = h.val
        rw [h0 2 (by decide)]
        omega
      | ⟨3, _⟩ =>
        show c.val * 1 + ((⟨5, ![1, 1, 1, 1, 256]⟩ : Shape).rowMajor.symm n 3).val - 0 = c.val
        rw [h0 3 (by decide)]
        omega
      | ⟨4, _⟩ =>
        show i.val * 1 + ((⟨5, ![1, 1, 1, 1, 256]⟩ : Shape).rowMajor.symm n 4).val - 255 = i.val + n.val - 255
        rw [h1]
        omega
    · next hin =>
      rw [if_neg fun hle => hin fun a => by
        match a with
        | ⟨0, _⟩ =>
          have := b.isLt
          show 0 ≤ b.val * 1 + ((⟨5, ![1, 1, 1, 1, 256]⟩ : Shape).rowMajor.symm n 0).val ∧ b.val * 1 + ((⟨5, ![1, 1, 1, 1, 256]⟩ : Shape).rowMajor.symm n 0).val - 0 < _
          rw [h0 0 (by decide)]
          exact ⟨by omega, lt_of_eq_of_lt (by omega) b.isLt⟩
        | ⟨1, _⟩ =>
          have := g.isLt
          show 0 ≤ g.val * 1 + ((⟨5, ![1, 1, 1, 1, 256]⟩ : Shape).rowMajor.symm n 1).val ∧ g.val * 1 + ((⟨5, ![1, 1, 1, 1, 256]⟩ : Shape).rowMajor.symm n 1).val - 0 < _
          rw [h0 1 (by decide)]
          exact ⟨by omega, lt_of_eq_of_lt (by omega) g.isLt⟩
        | ⟨2, _⟩ =>
          have := h.isLt
          show 0 ≤ h.val * 1 + ((⟨5, ![1, 1, 1, 1, 256]⟩ : Shape).rowMajor.symm n 2).val ∧ h.val * 1 + ((⟨5, ![1, 1, 1, 1, 256]⟩ : Shape).rowMajor.symm n 2).val - 0 < _
          rw [h0 2 (by decide)]
          exact ⟨by omega, lt_of_eq_of_lt (by omega) h.isLt⟩
        | ⟨3, _⟩ =>
          have := c.isLt
          show 0 ≤ c.val * 1 + ((⟨5, ![1, 1, 1, 1, 256]⟩ : Shape).rowMajor.symm n 3).val ∧ c.val * 1 + ((⟨5, ![1, 1, 1, 1, 256]⟩ : Shape).rowMajor.symm n 3).val - 0 < _
          rw [h0 3 (by decide)]
          exact ⟨by omega, lt_of_eq_of_lt (by omega) c.isLt⟩
        | ⟨4, _⟩ =>
          show 255 ≤ i.val * 1 + ((⟨5, ![1, 1, 1, 1, 256]⟩ : Shape).rowMajor.symm n 4).val ∧ i.val * 1 + ((⟨5, ![1, 1, 1, 1, 256]⟩ : Shape).rowMajor.symm n 4).val - 255 < 256
          rw [h1]
          omega]
  · rw [zero_add]
    exact congrArg (fun z : ℝ => (z : EReal)) ((list_sum _ 256 rfl (fun w => if 255 ≤ i.val + w then D (i.val + w - 255) else 0)).trans (sum_win D 255 i.val (by omega)))

theorem totals_real (v : FVec Ideal S4x8x8x9 .f32) (D : ℕ → ℝ) (b : Fin 4) (g h : Fin 8) (hv : ∀ i : Fin 9, v (ix4 b g h i) = ((D i.val : ℝ) : EReal)) (i : Fin 9) :
    totals v (ix4 b g h i) = ((∑ j ∈ Finset.range (i.val + 1), D j : ℝ) : EReal) := by
  unfold totals Host.reduceWindowAdd
  have hi := i.isLt
  have hw (n : Fin (⟨4, ![1, 1, 1, 9]⟩ : Shape).numel) : (∀ a : Fin 4, a.val < 3 → ((⟨4, ![1, 1, 1, 9]⟩ : Shape).rowMajor.symm n a).val = 0) ∧ ((⟨4, ![1, 1, 1, 9]⟩ : Shape).rowMajor.symm n 3).val = n.val := by
    have q0 : ((⟨4, ![1, 1, 1, 9]⟩ : Shape).rowMajor.symm n 0).val < 1 := ((⟨4, ![1, 1, 1, 9]⟩ : Shape).rowMajor.symm n 0).isLt
    have q1 : ((⟨4, ![1, 1, 1, 9]⟩ : Shape).rowMajor.symm n 1).val < 1 := ((⟨4, ![1, 1, 1, 9]⟩ : Shape).rowMajor.symm n 1).isLt
    have q2 : ((⟨4, ![1, 1, 1, 9]⟩ : Shape).rowMajor.symm n 2).val < 1 := ((⟨4, ![1, 1, 1, 9]⟩ : Shape).rowMajor.symm n 2).isLt
    refine ⟨fun a ha => ?_, ?_⟩
    · match a with
      | ⟨0, _⟩ => exact Nat.lt_one_iff.1 q0
      | ⟨1, _⟩ => exact Nat.lt_one_iff.1 q1
      | ⟨2, _⟩ => exact Nat.lt_one_iff.1 q2
      | ⟨3, _⟩ => exact (lt_irrefl _ ha).elim
    · have e := congrArg Fin.val ((⟨4, ![1, 1, 1, 9]⟩ : Shape).rowMajor.apply_symm_apply n)
      rw [Shape.rowMajor_val_four, Nat.lt_one_iff.1 q0, Nat.lt_one_iff.1 q1, Nat.lt_one_iff.1 q2] at e
      simpa using e
  rw [zero_first]
  change Ideal.hostReduceWindowAdd ![1, 1, 1, 9] ![1, 1, 1, 1] ![0, 0, 0, 8] ![0, 0, 0, 0] reduceWindows_S4x8x8x9_S4x8x8x9_w1s1p0_0_w1s1p0_0_w1s1p0_0_w9s1p8_0 v ((0 : ℝ) : EReal) (ix4 b g h i) = _
  unfold Ideal.hostReduceWindowAdd Host.reduceWindow
  refine (foldl_add _ _ (fun n => if 8 ≤ i.val + n.val then D (i.val + n.val - 8) else 0) (fun n _ => ?_) 0).trans ?_
  · have hn : n.val < 9 := n.isLt
    obtain ⟨h0, h1⟩ := hw n
    dsimp only
    split
    · next hin =>
      have h2 := (hin 3).1
      change 8 ≤ i.val * 1 + ((⟨4, ![1, 1, 1, 9]⟩ : Shape).rowMajor.symm n 3).val at h2
      rw [h1] at h2
      rw [if_pos (by omega)]
      refine (congrArg v (funext fun a => Fin.ext ?_)).trans (hv ⟨i.val + n.val - 8, by omega⟩)
      match a with
      | ⟨0, _⟩ =>
        show b.val * 1 + ((⟨4, ![1, 1, 1, 9]⟩ : Shape).rowMajor.symm n 0).val - 0 = b.val
        rw [h0 0 (by decide)]
        omega
      | ⟨1, _⟩ =>
        show g.val * 1 + ((⟨4, ![1, 1, 1, 9]⟩ : Shape).rowMajor.symm n 1).val - 0 = g.val
        rw [h0 1 (by decide)]
        omega
      | ⟨2, _⟩ =>
        show h.val * 1 + ((⟨4, ![1, 1, 1, 9]⟩ : Shape).rowMajor.symm n 2).val - 0 = h.val
        rw [h0 2 (by decide)]
        omega
      | ⟨3, _⟩ =>
        show i.val * 1 + ((⟨4, ![1, 1, 1, 9]⟩ : Shape).rowMajor.symm n 3).val - 8 = i.val + n.val - 8
        rw [h1]
        omega
    · next hin =>
      rw [if_neg fun hle => hin fun a => by
        match a with
        | ⟨0, _⟩ =>
          have := b.isLt
          show 0 ≤ b.val * 1 + ((⟨4, ![1, 1, 1, 9]⟩ : Shape).rowMajor.symm n 0).val ∧ b.val * 1 + ((⟨4, ![1, 1, 1, 9]⟩ : Shape).rowMajor.symm n 0).val - 0 < _
          rw [h0 0 (by decide)]
          exact ⟨by omega, lt_of_eq_of_lt (by omega) b.isLt⟩
        | ⟨1, _⟩ =>
          have := g.isLt
          show 0 ≤ g.val * 1 + ((⟨4, ![1, 1, 1, 9]⟩ : Shape).rowMajor.symm n 1).val ∧ g.val * 1 + ((⟨4, ![1, 1, 1, 9]⟩ : Shape).rowMajor.symm n 1).val - 0 < _
          rw [h0 1 (by decide)]
          exact ⟨by omega, lt_of_eq_of_lt (by omega) g.isLt⟩
        | ⟨2, _⟩ =>
          have := h.isLt
          show 0 ≤ h.val * 1 + ((⟨4, ![1, 1, 1, 9]⟩ : Shape).rowMajor.symm n 2).val ∧ h.val * 1 + ((⟨4, ![1, 1, 1, 9]⟩ : Shape).rowMajor.symm n 2).val - 0 < _
          rw [h0 2 (by decide)]
          exact ⟨by omega, lt_of_eq_of_lt (by omega) h.isLt⟩
        | ⟨3, _⟩ =>
          show 8 ≤ i.val * 1 + ((⟨4, ![1, 1, 1, 9]⟩ : Shape).rowMajor.symm n 3).val ∧ i.val * 1 + ((⟨4, ![1, 1, 1, 9]⟩ : Shape).rowMajor.symm n 3).val - 8 < 9
          rw [h1]
          omega]
  · rw [zero_add]
    exact congrArg (fun z : ℝ => (z : EReal)) ((list_sum _ 9 rfl (fun w => if 8 ≤ i.val + w then D (i.val + w - 8) else 0)).trans (sum_win D 8 i.val (by omega)))

theorem sel_ge (a b n : ℕ) (ha : a < 1024) (hb : b < 1024) (x y : EReal) :
    Scalar.select (Scalar.select (IntOp.cmpi CmpIPredicate.sge (IntOp.addi (BitVec.ofNat 32 a) 0#32) (BitVec.ofNat 32 b)) 1#1 0#1) x y = if b ≤ a then x else y := by
  have e : IntOp.addi (BitVec.ofNat 32 a) 0#32 = BitVec.ofNat 32 a := by simp [IntOp.addi]
  rw [e, Cert.AttnIdeal.Tile.sge_iff a b ha hb]
  by_cases h : b ≤ a <;> simp [h, Scalar.select]

open Cert.SsdIdeal.Tile (soft soft_coe aR stepR rateR)
open Cert.AttnIdeal.Tile (csum ofBits_bot)
open Finset (range)

theorem exp_sel (h : Prop) [Decidable h] (a b : ℝ) : Ideal.exp (if h then (a : EReal) - (b : EReal) else ⊥) = ((if h then Real.exp (a - b) else 0 : ℝ) : EReal) := by
  by_cases h' : h
  · rw [if_pos h', if_pos h', ← EReal.coe_sub, Ideal.exp_coe]
  · rw [if_neg h', if_neg h', Ideal.exp_bot]; rfl

theorem steps_real {r : FVec Ideal S4x2048x64 .f32} {b : FVec Ideal S1x64 .f32} (i0 : Fin 4) (t : Fin 2048) (g h : Fin 8) {R β : ℝ}
    (hr : r (ix3 i0 t ⟨g.val * 8 + h.val, by omega⟩) = ((R : ℝ) : EReal)) (hb : b (ix2 (0 : Fin 1) ⟨g.val * 8 + h.val, by omega⟩) = ((β : ℝ) : EReal)) :
    steps r b (ix4 i0 t g h) = ((soft (R + β) : ℝ) : EReal) := by
  unfold steps
  pointwise
  rw [hr, hb, ← EReal.coe_add, if_neg (by simp), ← soft_coe]
  rfl

theorem rates_real {a : FVec Ideal S1x64 .f32} (g h : Fin 8) {γ : ℝ} (ha : a (ix2 (0 : Fin 1) ⟨g.val * 8 + h.val, by omega⟩) = ((γ : ℝ) : EReal)) :
    rates a (ix2 g h) = ((-Real.exp γ : ℝ) : EReal) := by
  unfold rates
  pointwise
  rw [ha, Ideal.exp_coe, EReal.coe_neg]

theorem chans_apply (x : FVec Ideal S4x2048x6144 .bf16) (b : Fin 4) (t : Fin 2048) (g h : Fin 8) (p : Fin 64) :
    chans x (ix5 b t g h p) = x (ix3 b t ⟨g.val * 512 + h.val * 64 + p.val, by omega⟩) := by
  unfold chans
  pointwise

theorem bRows_apply (x : FVec Ideal S4x2048x6144 .bf16) (b : Fin 4) (c : Fin 8) (i : Fin 256) (g : Fin 8) (n : Fin 128) :
    bRows x (ix5 b c i g n) = x (ix3 b ⟨c.val * 256 + i.val, by omega⟩ ⟨4096 + (g.val * 128 + n.val), by omega⟩) := by
  unfold bRows
  pointwise

theorem cRows_apply (x : FVec Ideal S4x2048x6144 .bf16) (b : Fin 4) (c : Fin 8) (i : Fin 256) (g : Fin 8) (n : Fin 128) :
    cRows x (ix5 b c i g n) = x (ix3 b ⟨c.val * 256 + i.val, by omega⟩ ⟨5120 + (g.val * 128 + n.val), by omega⟩) := by
  unfold cRows
  pointwise

theorem chanSteps_apply (xs dt) (b : Fin 4) (c : Fin 8) (i : Fin 256) (g h : Fin 8) (p : Fin 64) :
    chanSteps xs dt (ix6 b c i g h p) = xs (ix5 b ⟨c.val * 256 + i.val, by omega⟩ g h p) * dt (ix4 b ⟨c.val * 256 + i.val, by omega⟩ g h) := by
  unfold chanSteps
  pointwise

theorem decs_apply (dt rt) (b : Fin 4) (g h c : Fin 8) (i : Fin 256) :
    decs dt rt (ix5 b g h c i) = dt (ix4 b ⟨c.val * 256 + i.val, by omega⟩ g h) * rt (ix2 g h) := by
  unfold decs
  pointwise

theorem wts_real {acs} {A : ℕ → ℝ} (b : Fin 4) (g h c : Fin 8) (ha : ∀ i : Fin 256, acs (ix5 b g h c i) = ((A i.val : ℝ) : EReal)) (i j : Fin 256) :
    wts acs (ix6 b g h c i j) = ((if j.val ≤ i.val then Real.exp (A i.val - A j.val) else 0 : ℝ) : EReal) := by
  unfold wts
  pointwise
  rw [sel_ge _ _ 0 (by omega) (by omega), ha, ha]
  show Ideal.exp (if _ then _ else Ideal.ofBits FTy.f32 4286578688#32) = _
  rw [ofBits_bot, exp_sel]

theorem scores_apply (cm bm) (b : Fin 4) (g c : Fin 8) (i j : Fin 256) :
    scores cm bm (ix5 b g c i j) = ∑ x : Fin 128, cm (ix5 b c i g x) * bm (ix5 b c j g x) := by
  unfold scores
  pointwise

theorem within_apply (xdt sc lw) (b : Fin 4) (c : Fin 8) (i : Fin 256) (g h : Fin 8) (p : Fin 64) :
    within xdt sc lw (ix6 b c i g h p) = ∑ x : Fin 256, xdt (ix6 b c x g h p) * (sc (ix5 b g c i x) * lw (ix6 b g h c i x)) := by
  unfold within
  pointwise

theorem ends_apply (xdt acs bm) (b : Fin 4) (c g h : Fin 8) (p : Fin 64) (n : Fin 128) :
    ends xdt acs bm (ix6 b c g h p n) = ∑ x : Fin 256, xdt (ix6 b c x g h p) * Ideal.exp (acs (ix5 b g h c (255 : Fin 256)) - acs (ix5 b g h c x)) * bm (ix5 b c x g n) := by
  unfold ends
  pointwise

theorem lasts_real {acs} {A : ℕ → ℝ} (b : Fin 4) (g h : Fin 8) (ha : ∀ c : Fin 8, acs (ix5 b g h c (255 : Fin 256)) = ((A c.val : ℝ) : EReal)) (z : Fin 9) :
    lasts acs (ix4 b g h z) = ((if 1 ≤ z.val then A (z.val - 1) else 0 : ℝ) : EReal) := by
  unfold lasts
  pointwise
  by_cases h1 : 1 ≤ z.val
  · rw [dif_pos ⟨h1, by omega⟩, ha, if_pos h1]
  · rw [dif_neg (fun h => h1 h.1), if_neg h1]
    show (((0#32 : BitVec 32).toInt : ℝ) : EReal) = _
    simp

theorem spans_real {tcs} {A : ℕ → ℝ} (b : Fin 4) (g h : Fin 8) (ha : ∀ z : Fin 9, tcs (ix4 b g h z) = ((A z.val : ℝ) : EReal)) (i j : Fin 9) :
    spans tcs (ix5 b g h i j) = ((if j.val ≤ i.val then Real.exp (A i.val - A j.val) else 0 : ℝ) : EReal) := by
  unfold spans
  pointwise
  rw [sel_ge _ _ 0 (by omega) (by omega), ha, ha]
  show Ideal.exp (if _ then _ else Ideal.ofBits FTy.f32 4286578688#32) = _
  rw [ofBits_bot, exp_sel]

theorem starts_apply (st dw) (b : Fin 4) (c g h : Fin 8) (p : Fin 64) (n : Fin 128) :
    starts st dw (ix6 b c g h p n) = ∑ x : Fin 8, st (ix6 b x g h p n) * dw (ix5 b g h ⟨c.val, by omega⟩ ⟨1 + x.val, by omega⟩) := by
  unfold starts
  pointwise
  simp only [zero_mul, Finset.sum_const_zero, zero_add]

theorem across_apply (si cm acs) (b : Fin 4) (c : Fin 8) (i : Fin 256) (g h : Fin 8) (p : Fin 64) :
    across si cm acs (ix6 b c i g h p) = (∑ x : Fin 128, si (ix6 b c g h p x) * cm (ix5 b c i g x)) * Ideal.exp (acs (ix5 b g h c i)) := by
  unfold across
  pointwise

theorem mixed_apply (yd yo d xs) (b : Fin 4) (t : Fin 2048) (e : Fin 4096) :
    mixed yd yo d xs (ix3 b t e) = yd (ix6 b ⟨t.val / 256, by omega⟩ ⟨t.val % 256, by omega⟩ ⟨e.val / 512, by omega⟩ ⟨e.val / 64 % 8, by omega⟩ ⟨e.val % 64, by omega⟩)
      + yo (ix6 b ⟨t.val / 256, by omega⟩ ⟨t.val % 256, by omega⟩ ⟨e.val / 512, by omega⟩ ⟨e.val / 64 % 8, by omega⟩ ⟨e.val % 64, by omega⟩)
      + d (ix2 (0 : Fin 1) ⟨e.val / 512 * 8 + e.val / 64 % 8, by omega⟩) * xs (ix5 b t ⟨e.val / 512, by omega⟩ ⟨e.val / 64 % 8, by omega⟩ ⟨e.val % 64, by omega⟩) := by
  unfold mixed
  pointwise

theorem gate_real {y} {p : FVec Ideal S4x2048x20480 .bf16} {Z : ℝ} (b : Fin 4) (t : Fin 2048) (g : Fin 8) (l : Fin 512) (hp : p (ix3 b t ⟨g.val * 512 + l.val, by omega⟩) = ((Z : ℝ) : EReal)) :
    gate y p (ix4 b t g l) = y (ix3 b t ⟨g.val * 512 + l.val, by omega⟩) * ((Z * (1 + Real.exp (-Z))⁻¹ : ℝ) : EReal) := by
  unfold gate
  pointwise
  rw [hp, ← EReal.coe_neg, Ideal.exp_coe, ← EReal.coe_one, ← EReal.coe_add, Ideal.div_coe (by positivity), ← EReal.coe_mul, ← EReal.coe_mul, one_mul, one_div]

theorem result_apply (g) (w : FVec Ideal S1x4096 .f32) (b : Fin 4) (t : Fin 2048) (e : Fin 4096) :
    result g w (ix3 b t e) = g (ix4 b t ⟨e.val / 512, by omega⟩ ⟨e.val % 512, by omega⟩) * Ideal.rsqrt
      (Ideal.div (∑ x : Fin 512, g (ix4 b t ⟨e.val / 512, by omega⟩ x) * g (ix4 b t ⟨e.val / 512, by omega⟩ x)) (Ideal.ofBits FTy.f32 1140850688#32) + Ideal.ofBits FTy.f32 925353388#32)
      * w (ix2 (0 : Fin 1) e) := by
  unfold result
  pointwise

end Cert.SsdRefIdeal.Value

end
-- ==== Proof.Ssd.Claim.lean ====
/-
  THE MIXER'S REFERENCE IS WHAT THE CALL LEAVES: the reference's states at the chunks' ends, summed with their decays, are the
  states that the kernel hands on, and its rows within a chunk and across chunks are the kernel's.
-/
module

public import proofs.«01_k».proof.Proof.Ssd.Value
public import proofs.«01_k».proof.Proof.Ssd.Ref
public import proofs.«01_k».proof.Defs

@[expose] public section

set_option maxRecDepth 16384

noncomputable section

open Idealize.ShloMosaic Idealize.ShloMosaic.TcCoe Idealize.SL.Sem

namespace Cert.SsdRefIdeal.Value

open Cert.SsdRefIdeal Cert.SsdRefIdeal.Gen
open Cert.SsdIdeal.Tile (soft aR stepR rateR addR nextR rowR finE)
open Cert.SsdIdeal.Value (Reals RealGate xR dR zR hR skipE xR_eq dR_eq zR_eq hR_eq skip_entry Xc Bc Cc Tc Lc St Yc ssdRow ssdAt)
open Cert.AttnIdeal.Tile (csum)
open Finset (range)

/-- A recurrence that decays and adds, as one sum. -/
theorem rec_sum (s u a : ℕ → ℝ) (h0 : s 0 = 0) (hs : ∀ c, s (c + 1) = s c * Real.exp (a c) + u c) (c : ℕ) :
    s c = ∑ x ∈ range c, u x * Real.exp ((∑ k ∈ range c, a k) - ∑ k ∈ range (1 + x), a k) := by
  induction c with
  | zero => simpa using h0
  | succ c ih =>
    rw [hs, ih, Finset.sum_range_succ _ c, Nat.add_comm 1 c, sub_self, Real.exp_zero, mul_one, Finset.sum_mul]
    congr 1
    refine Finset.sum_congr rfl fun x _ => ?_
    rw [Finset.sum_range_succ a c, mul_assoc, ← Real.exp_add]
    congr 2
    ring

/-- … over more terms, the later ones nothing. -/
theorem rec_sum8 (s u a : ℕ → ℝ) (h0 : s 0 = 0) (hs : ∀ c, s (c + 1) = s c * Real.exp (a c) + u c) (c : ℕ) (hc : c ≤ 8) :
    ∑ x ∈ range 8, u x * (if 1 + x ≤ c then Real.exp ((∑ k ∈ range c, a k) - ∑ k ∈ range (1 + x), a k) else 0) = s c := by
  rw [rec_sum s u a h0 hs c]
  refine (Finset.sum_subset (Finset.range_subset_range.mpr hc) fun x _ hx => ?_).symm.trans (Finset.sum_congr rfl fun x hx => ?_)
  · rw [Finset.mem_range] at hx
    rw [if_neg (by omega), mul_zero]
  · rw [Finset.mem_range] at hx
    rw [if_pos (by omega)]

section
variable {x : FVec Ideal S4x2048x6144 .bf16} {r : FVec Ideal S4x2048x64 .f32} {bw aw : FVec Ideal S1x64 .f32}
  (hx : Reals x) (hr : Reals r) (hb : Reals bw) (ha : Reals aw) (b : Fin 4) (c g h : Fin 8)

include hx in
theorem xs_real (i : Fin 256) (p : Fin 64) :
    chans x (ix5 b (⟨c.val * 256 + i.val, by omega⟩ : Fin 2048) g h p) = ((Xc x b g.val (256 * c.val) i.val (h.val * 64 + p.val) : ℝ) : EReal) := by
  refine (chans_apply _ _ _ _ _ _).trans ((xR_eq hx _ _ _).trans ?_)
  show ((xR x b (c.val * 256 + i.val) (g.val * 512 + h.val * 64 + p.val) : ℝ) : EReal) = ((xR x b (256 * c.val + i.val) (g.val * 512 + (h.val * 64 + p.val)) : ℝ) : EReal)
  rw [Nat.mul_comm c.val, Nat.add_assoc (g.val * 512)]

include hx in
theorem b_real (i : Fin 256) (n : Fin 128) : bRows x (ix5 b c i g n) = ((Bc x b g.val (256 * c.val) i.val n.val : ℝ) : EReal) := by
  refine (bRows_apply _ _ _ _ _ _).trans ((xR_eq hx _ _ _).trans ?_)
  show ((xR x b (c.val * 256 + i.val) (4096 + (g.val * 128 + n.val)) : ℝ) : EReal) = ((xR x b (256 * c.val + i.val) (4096 + (g.val * 128 + n.val)) : ℝ) : EReal)
  rw [Nat.mul_comm c.val]

include hx in
theorem c_real (i : Fin 256) (n : Fin 128) : cRows x (ix5 b c i g n) = ((Cc x b g.val (256 * c.val) i.val n.val : ℝ) : EReal) := by
  refine (cRows_apply _ _ _ _ _ _).trans ((xR_eq hx _ _ _).trans ?_)
  show ((xR x b (c.val * 256 + i.val) (5120 + (g.val * 128 + n.val)) : ℝ) : EReal) = ((xR x b (256 * c.val + i.val) (5120 + (g.val * 128 + n.val)) : ℝ) : EReal)
  rw [Nat.mul_comm c.val]

include hr hb in
theorem t_real (i : Fin 256) : steps r bw (ix4 b (⟨c.val * 256 + i.val, by omega⟩ : Fin 2048) g h) = ((Tc r bw b g.val (256 * c.val) i.val h.val : ℝ) : EReal) := by
  refine (steps_real b _ g h (dR_eq hr _ _ _) (hR_eq hb _)).trans ?_
  show ((soft (dR r b (c.val * 256 + i.val) (g.val * 8 + h.val) + hR bw (g.val * 8 + h.val)) : ℝ) : EReal)
    = ((soft (dR r b (256 * c.val + i.val) (g.val * 8 + h.val) + hR bw (g.val * 8 + h.val)) : ℝ) : EReal)
  rw [Nat.mul_comm c.val]

/-- The decays' sums of a chunk. -/
def Ac (r : FVec Ideal S4x2048x64 .f32) (bw aw : FVec Ideal S1x64 .f32) (b : Fin 4) (g c i h : ℕ) : ℝ := aR (Tc r bw b g (256 * c)) (Lc aw g) i h

include hr hb ha in
theorem a_real (i : Fin 256) : sums (decs (steps r bw) (rates aw)) (ix5 b g h c i) = ((Ac r bw aw b g.val c.val i.val h.val : ℝ) : EReal) := by
  refine sums_real _ (fun j => Tc r bw b g.val (256 * c.val) j h.val * -Lc aw g.val h.val) b g h c (fun i => ?_) i
  rw [decs_apply, t_real hr hb, rates_real g h (hR_eq ha _), ← EReal.coe_mul]
  rfl

include hr hb ha in
theorem span_real (i j : Fin 9) : spans (totals (lasts (sums (decs (steps r bw) (rates aw))))) (ix5 b g h i j)
    = ((if j.val ≤ i.val then Real.exp ((∑ k ∈ range i.val, Ac r bw aw b g.val k 255 h.val) - ∑ k ∈ range j.val, Ac r bw aw b g.val k 255 h.val) else 0 : ℝ) : EReal) := by
  refine spans_real (A := fun z => ∑ k ∈ range z, Ac r bw aw b g.val k 255 h.val) b g h (fun z => ?_) i j
  rw [totals_real _ (fun z => if 1 ≤ z then Ac r bw aw b g.val (z - 1) 255 h.val else 0) b g h (lasts_real (A := fun k => Ac r bw aw b g.val k 255 h.val) b g h fun c => a_real hr hb ha b c g h 255) z, Finset.sum_range_succ']
  congr 1
  simp

include hx hr hb in
theorem xdt_real (i : Fin 256) (p : Fin 64) : chanSteps (chans x) (steps r bw) (ix6 b c i g h p)
    = ((Xc x b g.val (256 * c.val) i.val (h.val * 64 + p.val) * Tc r bw b g.val (256 * c.val) i.val h.val : ℝ) : EReal) := by
  rw [chanSteps_apply, xs_real hx, t_real hr hb, ← EReal.coe_mul]

theorem head_of (h : Fin 8) (p : Fin 64) : (h.val * 64 + p.val) / 64 = h.val := by omega

include hx hr hb ha in
theorem end_real (p : Fin 64) (n : Fin 128) : ends (chanSteps (chans x) (steps r bw)) (sums (decs (steps r bw) (rates aw))) (bRows x) (ix6 b c g h p n)
    = ((addR (Xc x b g.val (256 * c.val)) (Bc x b g.val (256 * c.val)) (Tc r bw b g.val (256 * c.val)) (Lc aw g.val) n.val (h.val * 64 + p.val) : ℝ) : EReal) := by
  rw [ends_apply]
  unfold addR
  rw [head_of, ← csum 256 (fun j => Bc x b g.val (256 * c.val) j n.val * (Xc x b g.val (256 * c.val) j (h.val * 64 + p.val) * (Tc r bw b g.val (256 * c.val) j h.val
    * Real.exp (aR (Tc r bw b g.val (256 * c.val)) (Lc aw g.val) 255 h.val - aR (Tc r bw b g.val (256 * c.val)) (Lc aw g.val) j h.val))))]
  refine Finset.sum_congr rfl fun j _ => ?_
  rw [xdt_real hx hr hb, a_real hr hb ha, a_real hr hb ha, b_real hx, ← EReal.coe_sub, Ideal.exp_coe, ← EReal.coe_mul, ← EReal.coe_mul]
  congr 1
  show _ * _ * Real.exp (aR _ _ 255 _ - aR _ _ _ _) * _ = _
  ring

include hx hr hb ha in
theorem start_real (p : Fin 64) (n : Fin 128) :
    starts (ends (chanSteps (chans x) (steps r bw)) (sums (decs (steps r bw) (rates aw))) (bRows x)) (spans (totals (lasts (sums (decs (steps r bw) (rates aw)))))) (ix6 b c g h p n)
      = ((St x r bw aw b g.val c.val n.val (h.val * 64 + p.val) : ℝ) : EReal) := by
  rw [starts_apply, ← rec_sum8 (fun c => St x r bw aw b g.val c n.val (h.val * 64 + p.val))
    (fun c => addR (Xc x b g.val (256 * c)) (Bc x b g.val (256 * c)) (Tc r bw b g.val (256 * c)) (Lc aw g.val) n.val (h.val * 64 + p.val))
    (fun c => Ac r bw aw b g.val c 255 h.val) rfl (fun c => by
      show nextR _ _ _ _ _ _ _ = _
      unfold nextR
      rw [head_of]
      rfl) c.val (by omega), ← csum]
  refine Finset.sum_congr rfl fun y _ => ?_
  rw [end_real hx hr hb ha, span_real hr hb ha, ← EReal.coe_mul]

include hx hr hb ha in
theorem row_real (i : Fin 256) (p : Fin 64) :
    within (chanSteps (chans x) (steps r bw)) (scores (cRows x) (bRows x)) (wts (sums (decs (steps r bw) (rates aw)))) (ix6 b c i g h p)
      + across (starts (ends (chanSteps (chans x) (steps r bw)) (sums (decs (steps r bw) (rates aw))) (bRows x)) (spans (totals (lasts (sums (decs (steps r bw) (rates aw)))))))
          (cRows x) (sums (decs (steps r bw) (rates aw))) (ix6 b c i g h p)
      = ((Yc x r bw aw b g.val c.val i.val (h.val * 64 + p.val) : ℝ) : EReal) := by
  have hm (i j : Fin 256) : scores (cRows x) (bRows x) (ix5 b g c i j) = ((∑ n ∈ range 128, Cc x b g.val (256 * c.val) i.val n * Bc x b g.val (256 * c.val) j.val n : ℝ) : EReal) := by
    rw [scores_apply, ← csum]
    exact Finset.sum_congr rfl fun n _ => by rw [c_real hx, b_real hx, ← EReal.coe_mul]
  have ho : ∑ n : Fin 128, starts (ends (chanSteps (chans x) (steps r bw)) (sums (decs (steps r bw) (rates aw))) (bRows x)) (spans (totals (lasts (sums (decs (steps r bw) (rates aw)))))) (ix6 b c g h p n)
      * cRows x (ix5 b c i g n) = ((∑ n ∈ range 128, Cc x b g.val (256 * c.val) i.val n * St x r bw aw b g.val c.val n (h.val * 64 + p.val) : ℝ) : EReal) := by
    rw [← csum]
    exact Finset.sum_congr rfl fun n _ => by rw [start_real hx hr hb ha, c_real hx, ← EReal.coe_mul, mul_comm]
  have hw : within (chanSteps (chans x) (steps r bw)) (scores (cRows x) (bRows x)) (wts (sums (decs (steps r bw) (rates aw)))) (ix6 b c i g h p)
      = ((∑ j ∈ range 256, (if j ≤ i.val then (∑ n ∈ range 128, Cc x b g.val (256 * c.val) i.val n * Bc x b g.val (256 * c.val) j n) * (Tc r bw b g.val (256 * c.val) j h.val
          * Real.exp (Ac r bw aw b g.val c.val i.val h.val - Ac r bw aw b g.val c.val j h.val)) else 0) * Xc x b g.val (256 * c.val) j (h.val * 64 + p.val) : ℝ) : EReal) := by
    rw [within_apply, ← csum]
    refine Finset.sum_congr rfl fun j _ => ?_
    rw [xdt_real hx hr hb, hm, wts_real (A := fun i => Ac r bw aw b g.val c.val i h.val) b g h c (a_real hr hb ha b c g h), ← EReal.coe_mul, ← EReal.coe_mul]
    congr 1
    by_cases hj : j.val ≤ i.val
    · rw [if_pos hj, if_pos hj]; ring
    · rw [if_neg hj, if_neg hj]; ring
  rw [hw, across_apply, ho, a_real hr hb ha, Ideal.exp_coe, ← EReal.coe_mul, ← EReal.coe_add]
  unfold Yc rowR
  rw [head_of]
  rfl

end

section
variable {p : FVec Ideal S4x2048x20480 .bf16} {x : FVec Ideal S4x2048x6144 .bf16} {r : FVec Ideal S4x2048x64 .f32} {bw aw : FVec Ideal S1x64 .f32}
  (hp : RealGate p) (hx : Reals x) (hr : Reals r) (hb : Reals bw) (ha : Reals aw) (d : FVec Ideal S1x64 .f32)

/-- The reference's rows. -/
def allRows (x : FVec Ideal S4x2048x6144 .bf16) (r : FVec Ideal S4x2048x64 .f32) (bw aw d : FVec Ideal S1x64 .f32) : FVec Ideal S4x2048x4096 .f32 :=
  mixed (within (chanSteps (chans x) (steps r bw)) (scores (cRows x) (bRows x)) (wts (sums (decs (steps r bw) (rates aw)))))
    (across (starts (ends (chanSteps (chans x) (steps r bw)) (sums (decs (steps r bw) (rates aw))) (bRows x)) (spans (totals (lasts (sums (decs (steps r bw) (rates aw)))))))
      (cRows x) (sums (decs (steps r bw) (rates aw)))) d (chans x)

include hx hr hb ha in
theorem mixed_real (b : Fin 4) (t : Fin 2048) (g : Fin 8) (l : Fin 512) :
    allRows x r bw aw d (ix3 b t (⟨g.val * 512 + l.val, by omega⟩ : Fin 4096))
      = ((Yc x r bw aw b g.val (t.val / 256) (t.val % 256) l.val : ℝ) : EReal) + skipE d (g.val * 8 + l.val / 64) * ((Xc x b g.val (256 * (t.val / 256)) (t.val % 256) l.val : ℝ) : EReal) := by
  have hl := l.isLt
  have ht := t.isLt
  have e1 : (⟨(g.val * 512 + l.val) / 512, by omega⟩ : Fin 8) = g := Fin.ext (by dsimp only; omega)
  have e2 : (⟨(g.val * 512 + l.val) / 64 % 8, by omega⟩ : Fin 8) = ⟨l.val / 64, by omega⟩ := Fin.ext (by dsimp only; omega)
  have e3 : (⟨(g.val * 512 + l.val) % 64, by omega⟩ : Fin 64) = ⟨l.val % 64, by omega⟩ := Fin.ext (by dsimp only; omega)
  have e4 : t = (⟨(⟨t.val / 256, by omega⟩ : Fin 8).val * 256 + (⟨t.val % 256, by omega⟩ : Fin 256).val, by dsimp only; omega⟩ : Fin 2048) := Fin.ext (by dsimp only; omega)
  have e5 : l.val / 64 * 64 + l.val % 64 = l.val := by omega
  have q := row_real hx hr hb ha b ⟨t.val / 256, by omega⟩ g ⟨l.val / 64, by omega⟩ ⟨t.val % 256, by omega⟩ ⟨l.val % 64, by omega⟩
  have k : chans x (ix5 b t g (⟨l.val / 64, by omega⟩ : Fin 8) (⟨l.val % 64, by omega⟩ : Fin 64)) = ((Xc x b g.val (256 * (t.val / 256)) (t.val % 256) l.val : ℝ) : EReal) := by
    have := xs_real hx b ⟨t.val / 256, by omega⟩ g ⟨l.val / 64, by omega⟩ ⟨t.val % 256, by omega⟩ ⟨l.val % 64, by omega⟩
    rw [← e4] at this
    rw [this]
    dsimp only
    rw [e5]
  unfold allRows
  rw [mixed_apply]
  dsimp only
  rw [e1, e2, e3, q, k]
  dsimp only
  rw [e5, skip_entry d _ (g.val * 8 + l.val / 64) (by dsimp only; omega)]

include hp hx hr hb ha in
/-- The reference's term is the kernel's function. -/
theorem ref_eq (w : FVec Ideal S1x4096 .f32) : result (gate (allRows x r bw aw d) p) w = ssdAt p x r bw aw d w := by
  funext y
  obtain ⟨b, t, e, rfl⟩ : ∃ (b : Fin 4) (t : Fin 2048) (e : Fin 4096), y = ix3 b t e := ⟨y 0, y 1, y 2, eq_ix3 y⟩
  have hz (l : Fin 512) : gate (allRows x r bw aw d) p (ix4 b t (⟨e.val / 512, by omega⟩ : Fin 8) l)
      = (((Yc x r bw aw b (e.val / 512) (t.val / 256) (t.val % 256) l.val : ℝ) : EReal) + skipE d (e.val / 512 * 8 + l.val / 64) * ((Xc x b (e.val / 512) (256 * (t.val / 256)) (t.val % 256) l.val : ℝ) : EReal))
        * ((zR p b (256 * (t.val / 256) + t.val % 256) (e.val / 512 * 512 + l.val) * (1 + Real.exp (-zR p b (256 * (t.val / 256) + t.val % 256) (e.val / 512 * 512 + l.val)))⁻¹ : ℝ) : EReal) := by
    have hl := l.isLt
    rw [gate_real b t _ l (zR_eq hp _ _ _ (by dsimp only; omega)), mixed_real hx hr hb ha d b t _ l, Nat.div_add_mod]
  rw [result_apply, hz]
  simp only [hz]
  rfl

end

end Cert.SsdRefIdeal.Value

namespace Cert.Proof

/-- The call and its reference leave the same result. -/
theorem ssd_claim : Cert.algebraic_SsdIdeal_SsdRefIdeal_pre_finite_ssd (hSsdIdeal := Cert.SsdIdeal.Gen.facts)
    (hSsdRefIdeal := Cert.SsdRefIdeal.Gen.facts) (hPre_finite_ssd := Cert.Pre_finite_ssd.Gen.facts) := by
  intro m g m' g' hp hm
  have hr (c) : Cert.SsdIdeal.Value.RealArgs m c := Cert.SsdIdeal.Value.finite_args m hp c
  refine ⟨fun c => _, (θ_run _ _ _).mono (fun r h c => ⟨(h c).1.trans (Cert.SsdIdeal.Value.final (hr c)), (h c).2⟩)
    (Cert.SsdIdeal.Value.run_blocks m g), ?_⟩
  refine (θ_run _ _ _).mono (fun r h c => ⟨(h c).1.trans ?_, (h c).2⟩) (Cert.SsdRefIdeal.Value.run m' g')
  obtain ⟨e0, e1, e2, e3, e4, e5, e6⟩ := hm c
  rw [Cert.SsdRefIdeal.Value.res_eq m' c _ _ _ _ _ _ _ e0 e1 e2 e3 e4 e5 e6]
  exact Cert.SsdRefIdeal.Value.ref_eq (hr c).a0 (hr c).a1 (hr c).a2 (hr c).a3 (hr c).a4 _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.DownIdeal.Value
public import proofs.«01_k».proof.Proof.Gen.UpIdeal.Value
public import proofs.«01_k».proof.Proof.Gen.MergeIdeal.Value
public import proofs.«01_k».proof.Proof.Gen.OutIdeal.Value
public import proofs.«01_k».proof.Proof.Gen.ReferenceIdeal.Run
public import proofs.«01_k».proof.Proof.Gen.DownRefIdeal.Run
public import proofs.«01_k».proof.Proof.Gen.UpRefIdeal.Run
public import proofs.«01_k».proof.Proof.Gen.MergeRefIdeal.Run
public import proofs.«01_k».proof.Proof.Gen.OutRefIdeal.Run
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.Ssd.Frame
public import proofs.«01_k».proof.Proof.Gen.SsdIdeal.Frame
public import proofs.«01_k».proof.Proof.Gen.SsdIdeal.Value
public import proofs.«01_k».proof.Proof.Gen.SsdRefIdeal.Run
public import proofs.«01_k».proof.Proof.Gen.Pre_finite_ssd
public import proofs.«01_k».proof.Proof.Gen.Pre_finite_attn
public import proofs.«01_k».proof.Proof.Inproj.KernelFrame
public import proofs.«01_k».proof.Proof.Inproj.Claim
public import proofs.«01_k».proof.Proof.DownValue
public import proofs.«01_k».proof.Proof.UpValue
public import proofs.«01_k».proof.Proof.MergeValue
public import proofs.«01_k».proof.Proof.OutValue
public import proofs.«01_k».proof.Proof.Conv.Claim
public import proofs.«01_k».proof.Proof.Attn.Claim
public import proofs.«01_k».proof.Proof.Ssd.Claim
public import proofs.«01_k».proof.Proof.Gen.Pre_finite_conv
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The frame of `ReferenceIdeal`: its run keeps the arguments, and its signature declares no semaphore. -/
theorem referenceIdeal_frame : Cert.quiescent_ReferenceIdeal (hReferenceIdeal := Cert.ReferenceIdeal.Gen.facts) :=
  fun m ρ _ => (θ_run _ _ _).mono
    (fun r h => ⟨fun c => (h c).2.2.2, sem_eq_zero_of_no_sems rfl r.2⟩)
    (Cert.ReferenceIdeal.Value.run (F := Ideal) m ρ)

/-- The frame of `DownRefIdeal`: its run keeps the arguments, and its signature declares no semaphore. -/
theorem downRefIdeal_frame : Cert.quiescent_DownRefIdeal (hDownRefIdeal := Cert.DownRefIdeal.Gen.facts) :=
  fun m ρ _ => (θ_run _ _ _).mono
    (fun r h => ⟨fun c => (h c).2, sem_eq_zero_of_no_sems rfl r.2⟩)
    (Cert.DownRefIdeal.Value.run (F := Ideal) m ρ)

/-- The frame of `UpRefIdeal`: its run keeps the arguments, and its signature declares no semaphore. -/
theorem upRefIdeal_frame : Cert.quiescent_UpRefIdeal (hUpRefIdeal := Cert.UpRefIdeal.Gen.facts) :=
  fun m ρ _ => (θ_run _ _ _).mono
    (fun r h => ⟨fun c => (h c).2, sem_eq_zero_of_no_sems rfl r.2⟩)
    (Cert.UpRefIdeal.Value.run (F := Ideal) m ρ)

/-- The frame of `MergeRefIdeal`: its run keeps the arguments, and its signature declares no semaphore. -/
theorem mergeRefIdeal_frame : Cert.quiescent_MergeRefIdeal (hMergeRefIdeal := Cert.MergeRefIdeal.Gen.facts) :=
  fun m ρ _ => (θ_run _ _ _).mono
    (fun r h => ⟨fun c => (h c).2, sem_eq_zero_of_no_sems rfl r.2⟩)
    (Cert.MergeRefIdeal.Value.run (F := Ideal) m ρ)

/-- The frame of `OutRefIdeal`: its run keeps the arguments, and its signature declares no semaphore. -/
theorem outRefIdeal_frame : Cert.quiescent_OutRefIdeal (hOutRefIdeal := Cert.OutRefIdeal.Gen.facts) :=
  fun m ρ _ => (θ_run _ _ _).mono
    (fun r h => ⟨fun c => (h c).2.2, sem_eq_zero_of_no_sems rfl r.2⟩)
    (Cert.OutRefIdeal.Value.run (F := Ideal) m ρ)

/-- The frame of `ConvRefIdeal`: its run keeps the arguments, and its signature declares no semaphore. -/
theorem convRefIdeal_frame : Cert.quiescent_ConvRefIdeal (hConvRefIdeal := Cert.ConvRefIdeal.Gen.facts) :=
  fun m ρ _ => (θ_run _ _ _).mono
    (fun r h => ⟨fun c => (h c).2, sem_eq_zero_of_no_sems rfl r.2⟩)
    (Cert.ConvRefIdeal.Value.run (F := Ideal) m ρ)

/-- The frame of `AttnRefIdeal`: its run keeps the arguments, and its signature declares no semaphore. -/
theorem attnRefIdeal_frame : Cert.quiescent_AttnRefIdeal (hAttnRefIdeal := Cert.AttnRefIdeal.Gen.facts) :=
  fun m ρ _ => (θ_run _ _ _).mono
    (fun r h => ⟨fun c => (h c).2, sem_eq_zero_of_no_sems rfl r.2⟩)
    (Cert.AttnRefIdeal.Value.run (F := Ideal) m ρ)

/-- The scale of the scores is the number it is named for. -/
theorem attn_scale : Cert.preserves_Attn_AttnIdeal :=
  IdealRules.named_const.statement Cert.AttnIdeal.κ "score_scale" .f32 0x3E38AA3B#32 (((Real.log 2)⁻¹ * (1 / 8) : ℝ) : EReal) rfl

/-- The frame of `SsdRefIdeal`: its run keeps the arguments, and its signature declares no semaphore. -/
theorem ssdRefIdeal_frame : Cert.quiescent_SsdRefIdeal (hSsdRefIdeal := Cert.SsdRefIdeal.Gen.facts) :=
  fun m ρ _ => (θ_run _ _ _).mono
    (fun r h => ⟨fun c => (h c).2, sem_eq_zero_of_no_sems rfl r.2⟩)
    (Cert.SsdRefIdeal.Value.run (F := Ideal) m ρ)

/-- The two changes of the exponentials' base are the numbers they are named for. -/
theorem ssd_bases : Cert.preserves_Ssd_SsdIdeal :=
  ⟨IdealRules.named_const.statement Cert.SsdIdeal.κ "minus_log2e" .f32 0xBFB8AA3B#32 (((Real.log 2)⁻¹ * (-1) : ℝ) : EReal) rfl,
    IdealRules.named_const.statement Cert.SsdIdeal.κ "log2e" .f32 0x3FB8AA3B#32 (((Real.log 2)⁻¹ : ℝ) : EReal) rfl⟩

theorem claim : Cert.Claim := ⟨Cert.Kernel.Gen.facts, Cert.KernelIdeal.Gen.facts, Cert.ReferenceIdeal.Gen.facts, Cert.Down.Gen.facts, Cert.DownIdeal.Gen.facts, Cert.DownRefIdeal.Gen.facts, Cert.Up.Gen.facts, Cert.UpIdeal.Gen.facts, Cert.UpRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Conv.Gen.facts, Cert.ConvIdeal.Gen.facts, Cert.ConvRefIdeal.Gen.facts, Cert.Attn.Gen.facts, Cert.AttnIdeal.Gen.facts, Cert.AttnRefIdeal.Gen.facts, Cert.Ssd.Gen.facts, Cert.SsdIdeal.Gen.facts, Cert.SsdRefIdeal.Gen.facts, Cert.Pre_finite_conv.Gen.facts, Cert.Pre_finite_attn.Gen.facts, Cert.Pre_finite_ssd.Gen.facts, by
  exact ⟨kernel_frame, fun m g _ => Cert.KernelIdeal.Inproj.frame_run m g, referenceIdeal_frame,
    fun m g _ => Cert.Down.Gen.frame m g, fun m g _ => Cert.DownIdeal.Gen.frame m g, downRefIdeal_frame,
    fun m g _ => Cert.Up.Gen.frame m g, fun m g _ => Cert.UpIdeal.Gen.frame m g, upRefIdeal_frame,
    fun m g _ => Cert.Merge.Gen.frame m g, fun m g _ => Cert.MergeIdeal.Gen.frame m g, mergeRefIdeal_frame,
    fun m g _ => Cert.Out.Gen.frame m g, fun m g _ => Cert.OutIdeal.Gen.frame m g, outRefIdeal_frame,
    fun m g _ => Cert.Conv.Gen.frame m g, fun m g _ => Cert.ConvIdeal.Gen.frame m g, fun m g _ => Cert.ConvIdeal.Gen.frame m g,
    convRefIdeal_frame, fun m g _ => convRefIdeal_frame m g trivial,
    fun m g _ => Cert.Attn.Gen.frame m g, fun m g _ => Cert.AttnIdeal.Gen.frame m g, fun m g _ => Cert.AttnIdeal.Gen.frame m g,
    attnRefIdeal_frame, fun m g _ => attnRefIdeal_frame m g trivial,
    fun m g _ => Cert.Ssd.Gen.frame m g, fun m g _ => Cert.SsdIdeal.Gen.frame m g, fun m g _ => Cert.SsdIdeal.Gen.frame m g,
    ssdRefIdeal_frame, fun m g _ => ssdRefIdeal_frame m g trivial,
    trivial, inproj_claim, trivial, down_claim, trivial, up_claim, trivial, merge_claim, trivial, out_claim, trivial, conv_claim, attn_scale, attn_claim, ssd_bases, ssd_claim⟩⟩

end Cert.Proof

end
